-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v75) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v213) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v12_0)) (v1 : (c : Dev Cert.Kernel3Ideal.nD) → Buf (Elt Ideal) ((c.tc : Thread Cert.Kernel3Ideal.nD Cert.Kernel3Ideal.τ).loc Cert.Kernel3Ideal.main_v12_1)) (v2 : (c : Dev Cert.Kernel3Ideal.nD) → Buf (Elt Ideal) ((c.tc : Thread Cert.Kernel3Ideal.nD Cert.Kernel3Ideal.τ).loc Cert.Kernel3Ideal.main_v12_2)) (v3 : (c : Dev Cert.Kernel3Ideal.nD) → Buf (Elt Ideal) ((c.tc : Thread Cert.Kernel3Ideal.nD Cert.Kernel3Ideal.τ).loc Cert.Kernel3Ideal.main_v12_3)) (v4 : (c : Dev Cert.Kernel3Ideal.nD) → Buf (Elt Ideal) ((c.tc : Thread Cert.Kernel3Ideal.nD Cert.Kernel3Ideal.τ).loc Cert.Kernel3Ideal.main_v12_4)) (v5 : (c : Dev Cert.Kernel3Ideal.nD) → Buf (Elt Ideal) ((c.tc : Thread Cert.Kernel3Ideal.nD Cert.Kernel3Ideal.τ).loc Cert.Kernel3Ideal.main_v12_5)) (v6 : (c : Dev Cert.Kernel3Ideal.nD) → Buf (Elt Ideal) ((c.tc : Thread Cert.Kernel3Ideal.nD Cert.Kernel3Ideal.τ).loc Cert.Kernel3Ideal.main_v12_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v12_0) = v0 c
          ∧ r.2.mem ((c.tc : Thread Cert.Kernel3Ideal.nD Cert.Kernel3Ideal.τ).loc Cert.Kernel3Ideal.main_v12_1) = v1 c
          ∧ r.2.mem ((c.tc : Thread Cert.Kernel3Ideal.nD Cert.Kernel3Ideal.τ).loc Cert.Kernel3Ideal.main_v12_2) = v2 c
          ∧ r.2.mem ((c.tc : Thread Cert.Kernel3Ideal.nD Cert.Kernel3Ideal.τ).loc Cert.Kernel3Ideal.main_v12_3) = v3 c
          ∧ r.2.mem ((c.tc : Thread Cert.Kernel3Ideal.nD Cert.Kernel3Ideal.τ).loc Cert.Kernel3Ideal.main_v12_4) = v4 c
          ∧ r.2.mem ((c.tc : Thread Cert.Kernel3Ideal.nD Cert.Kernel3Ideal.τ).loc Cert.Kernel3Ideal.main_v12_5) = v5 c
          ∧ r.2.mem ((c.tc : Thread Cert.Kernel3Ideal.nD Cert.Kernel3Ideal.τ).loc Cert.Kernel3Ideal.main_v12_6) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v192) = v0 c
          ∧ r.2.mem ((c.tc : Thread Cert.Reference3Ideal.nD Cert.Reference3Ideal.τ).loc Cert.Reference3Ideal.main_v195) = v1 c
          ∧ r.2.mem ((c.tc : Thread Cert.Reference3Ideal.nD Cert.Reference3Ideal.τ).loc Cert.Reference3Ideal.main_v199) = v2 c
          ∧ r.2.mem ((c.tc : Thread Cert.Reference3Ideal.nD Cert.Reference3Ideal.τ).loc Cert.Reference3Ideal.main_v200) = v3 c
          ∧ r.2.mem ((c.tc : Thread Cert.Reference3Ideal.nD Cert.Reference3Ideal.τ).loc Cert.Reference3Ideal.main_v208) = v4 c
          ∧ r.2.mem ((c.tc : Thread Cert.Reference3Ideal.nD Cert.Reference3Ideal.τ).loc Cert.Reference3Ideal.main_v212) = v5 c
          ∧ r.2.mem ((c.tc : Thread Cert.Reference3Ideal.nD Cert.Reference3Ideal.τ).loc Cert.Reference3Ideal.main_v216) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S16x2048x1024 : Shape := ⟨3, ![16, 2048, 1024]⟩
abbrev S16x256x1024 : Shape := ⟨3, ![16, 256, 1024]⟩
abbrev S24x1x9216 : Shape := ⟨3, ![24, 1, 9216]⟩
abbrev S1x3x1024 : Shape := ⟨3, ![1, 3, 1024]⟩
abbrev S1x2x1024x5632 : Shape := ⟨4, ![1, 2, 1024, 5632]⟩
abbrev S1x2x2816x1024 : Shape := ⟨4, ![1, 2, 2816, 1024]⟩
abbrev S3x1024 : Shape := ⟨2, ![3, 1024]⟩
abbrev S3x1x1024 : Shape := ⟨3, ![3, 1, 1024]⟩
abbrev S32768x1024 : Shape := ⟨2, ![32768, 1024]⟩
abbrev S4096x1024 : Shape := ⟨2, ![4096, 1024]⟩
abbrev S1024x1024 : Shape := ⟨2, ![1024, 1024]⟩
abbrev S128x1024 : Shape := ⟨2, ![128, 1024]⟩
abbrev S1x1x1024 : Shape := ⟨3, ![1, 1, 1024]⟩
abbrev S1024x5632 : Shape := ⟨2, ![1024, 5632]⟩
abbrev S2816x1024 : Shape := ⟨2, ![2816, 1024]⟩
abbrev S2x128x5632 : Shape := ⟨3, ![2, 128, 5632]⟩
abbrev S2 : Shape := ⟨1, ![2]⟩
abbrev S1 : Shape := ⟨1, ![1]⟩
abbrev S_ : Shape := ⟨0, ![]⟩
abbrev S1x128x5632 : Shape := ⟨3, ![1, 128, 5632]⟩
abbrev S128x5632 : Shape := ⟨2, ![128, 5632]⟩
abbrev S1x1x1024x5632 : Shape := ⟨4, ![1, 1, 1024, 5632]⟩
abbrev S2x256x1024 : Shape := ⟨3, ![2, 256, 1024]⟩
abbrev S1x256x1024 : Shape := ⟨3, ![1, 256, 1024]⟩
abbrev S256x1024 : Shape := ⟨2, ![256, 1024]⟩
abbrev S1x1x2816x1024 : Shape := ⟨4, ![1, 1, 2816, 1024]⟩
abbrev S512x1024 : Shape := ⟨2, ![512, 1024]⟩
abbrev S1x1024 : Shape := ⟨2, ![1, 1024]⟩
abbrev S512 : Shape := ⟨1, ![512]⟩
abbrev S512x1 : Shape := ⟨2, ![512, 1]⟩
abbrev S128 : Shape := ⟨1, ![128]⟩
abbrev S128x1 : Shape := ⟨2, ![128, 1]⟩
abbrev S640x1024 : Shape := ⟨2, ![640, 1024]⟩
abbrev S1024x256 : Shape := ⟨2, ![1024, 256]⟩
abbrev S512x256 : Shape := ⟨2, ![512, 256]⟩
abbrev S640x256 : Shape := ⟨2, ![640, 256]⟩

abbrev nBuf : Space → Nat
  | .hbm => 12
  | .vmem => 22
  | .smem => 0
  | _ => 0

abbrev bufTy : (tb : Table) → Fin (tcTables nBuf tb) → BufTy
  | .hbm, ⟨0, _⟩ => ⟨S16x2048x1024, .f32⟩
  | .hbm, ⟨1, _⟩ => ⟨S16x256x1024, .f32⟩
  | .hbm, ⟨2, _⟩ => ⟨S24x1x9216, .f32⟩
  | .hbm, ⟨3, _⟩ => ⟨S1x3x1024, .f32⟩
  | .hbm, ⟨4, _⟩ => ⟨S1x2x1024x5632, .f32⟩
  | .hbm, ⟨5, _⟩ => ⟨S1x2x2816x1024, .f32⟩
  | .hbm, ⟨6, _⟩ => ⟨S3x1024, .f32⟩
  | .hbm, ⟨7, _⟩ => ⟨S3x1x1024, .f32⟩
  | .hbm, ⟨8, _⟩ => ⟨S32768x1024, .f32⟩
  | .hbm, ⟨9, _⟩ => ⟨S4096x1024, .f32⟩
  | .hbm, ⟨10, _⟩ => ⟨S32768x1024, .f32⟩
  | .hbm, ⟨11, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S128x1024, .f32⟩
  | .local _ .vmem, ⟨3, _⟩ => ⟨S128x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1024x1024, .f32⟩
  | .local _ .vmem, ⟨15, _⟩ => ⟨S1024x1024, .f32⟩
  | .local _ .vmem, ⟨16, _⟩ => ⟨S128x1024, .f32⟩
  | .local _ .vmem, ⟨17, _⟩ => ⟨S128x1024, .f32⟩
  | .local _ .vmem, ⟨18, _⟩ => ⟨S1024x5632, .bf16⟩
  | .local _ .vmem, ⟨19, _⟩ => ⟨S2816x1024, .bf16⟩
  | .local _ .vmem, ⟨20, _⟩ => ⟨S2x128x5632, .f32⟩
  | .local _ .vmem, ⟨21, _⟩ => ⟨S2x256x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scoped0 : Ref sig .tc := ⟨.vmem, 20, rfl⟩
abbrev cc0_scoped2 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c1_i32_5 : BitVec 32 := 1#32
  let c0_i32_6 : BitVec 32 := 0#32
  ![v17.toNat, c0_i32_4.toNat, c1_i32_5.toNat]

def cc0_transform_4 (i : grid0.Coords) : Fin 3 → Nat :=
  let arg0 : BitVec 32 := BitVec.ofNat 32 (i 0).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c2_i32 : BitVec 32 := 2#32
  let c0_i32_5 : BitVec 32 := 0#32
  ![v17.toNat, c0_i32_4.toNat, c2_i32.toNat]

def cc0_transform_5 (i : grid0.Coords) : Fin 3 → Nat :=
  let arg0 : BitVec 32 := BitVec.ofNat 32 (i 0).val
  let c16_i32 : BitVec 32 := 16#32
  let c0_i32 : BitVec 32 := 0#32
  let c0_i32_0 : BitVec 32 := 0#32
  let c0_i32_1 : BitVec 32 := 0#32
  ![c16_i32.toNat, c0_i32.toNat, c0_i32_0.toNat]

def cc0_transform_6 (i : grid0.Coords) : Fin 3 → Nat :=
  let arg0 : BitVec 32 := BitVec.ofNat 32 (i 0).val
  let c16_i32 : BitVec 32 := 16#32
  let c0_i32 : BitVec 32 := 0#32
  let c1_i32 : BitVec 32 := 1#32
  let c0_i32_0 : BitVec 32 := 0#32
  ![c16_i32.toNat, c0_i32.toNat, c1_i32.toNat]

def cc0_transform_7 (i : grid0.Coords) : Fin 3 → Nat :=
  let arg0 : BitVec 32 := BitVec.ofNat 32 (i 0).val
  let c16_i32 : BitVec 32 := 16#32
  let c0_i32 : BitVec 32 := 0#32
  let c2_i32 : BitVec 32 := 2#32
  let c0_i32_0 : BitVec 32 := 0#32
  ![c16_i32.toNat, c0_i32.toNat, c2_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S16x2048x1024 : Shape := ⟨3, ![16, 2048, 1024]⟩
abbrev S16x256x1024 : Shape := ⟨3, ![16, 256, 1024]⟩
abbrev S24x1x9216 : Shape := ⟨3, ![24, 1, 9216]⟩
abbrev S1x3x1024 : Shape := ⟨3, ![1, 3, 1024]⟩
abbrev S1x2x1024x5632 : Shape := ⟨4, ![1, 2, 1024, 5632]⟩
abbrev S1x2x2816x1024 : Shape := ⟨4, ![1, 2, 2816, 1024]⟩
abbrev S1x1x1024 : Shape := ⟨3, ![1, 1, 1024]⟩
abbrev S1024 : Shape := ⟨1, ![1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S16x1x9216 : Shape := ⟨3, ![16, 1, 9216]⟩
abbrev S_ : Shape := ⟨0, ![]⟩
abbrev S16x2048 : Shape := ⟨2, ![16, 2048]⟩
abbrev S16x2048x1 : Shape := ⟨3, ![16, 2048, 1]⟩
abbrev S16x1x1024 : Shape := ⟨3, ![16, 1, 1024]⟩
abbrev S16x2048x5632 : Shape := ⟨3, ![16, 2048, 5632]⟩
abbrev S16x2048x2816 : Shape := ⟨3, ![16, 2048, 2816]⟩
abbrev S1x1x9216 : Shape := ⟨3, ![1, 1, 9216]⟩
abbrev S16x256 : Shape := ⟨2, ![16, 256]⟩
abbrev S16x256x1 : Shape := ⟨3, ![16, 256, 1]⟩
abbrev S16x256x5632 : Shape := ⟨3, ![16, 256, 5632]⟩
abbrev S16x256x2816 : Shape := ⟨3, ![16, 256, 2816]⟩
abbrev S32768x1024 : Shape := ⟨2, ![32768, 1024]⟩
abbrev S4096x1024 : Shape := ⟨2, ![4096, 1024]⟩

abbrev nBuf : Space → Nat
  | .hbm => 108
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x256x1024, .f32⟩
  | .hbm, ⟨2, _⟩ => ⟨S24x1x9216, .f32⟩
  | .hbm, ⟨3, _⟩ => ⟨S1x3x1024, .f32⟩
  | .hbm, ⟨4, _⟩ => ⟨S1x2x1024x5632, .f32⟩
  | .hbm, ⟨5, _⟩ => ⟨S1x2x2816x1024, .f32⟩
  | .hbm, ⟨6, _⟩ => ⟨S1x1x1024, .f32⟩
  | .hbm, ⟨7, _⟩ => ⟨S1024, .f32⟩
  | .hbm, ⟨8, _⟩ => ⟨S1x1x1024x5632, .f32⟩
  | .hbm, ⟨9, _⟩ => ⟨S1024x5632, .f32⟩
  | .hbm, ⟨10, _⟩ => ⟨S1x1x2816x1024, .f32⟩
  | .hbm, ⟨11, _⟩ => ⟨S2816x1024, .f32⟩
  | .hbm, ⟨12, _⟩ => ⟨S16x1x9216, .f32⟩
  | .hbm, ⟨13, _⟩ => ⟨S16x2048x1024, .f32⟩
  | .hbm, ⟨14, _⟩ => ⟨S_, .f32⟩
  | .hbm, ⟨15, _⟩ => ⟨S16x2048, .f32⟩
  | .hbm, ⟨16, _⟩ => ⟨S16x2048x1, .f32⟩
  | .hbm, ⟨17, _⟩ => ⟨S_, .f32⟩
  | .hbm, ⟨18, _⟩ => ⟨S16x2048x1, .f32⟩
  | .hbm, ⟨19, _⟩ => ⟨S16x2048x1, .f32⟩
  | .hbm, ⟨20, _⟩ => ⟨S_, .f32⟩
  | .hbm, ⟨21, _⟩ => ⟨S16x2048x1, .f32⟩
  | .hbm, ⟨22, _⟩ => ⟨S16x2048x1, .f32⟩
  | .hbm, ⟨23, _⟩ => ⟨S16x2048x1, .f32⟩
  | .hbm, ⟨24, _⟩ => ⟨S16x2048x1024, .f32⟩
  | .hbm, ⟨25, _⟩ => ⟨S16x2048x1024, .f32⟩
  | .hbm, ⟨26, _⟩ => ⟨S1x1x1024, .f32⟩
  | .hbm, ⟨27, _⟩ => ⟨S16x2048x1024, .f32⟩
  | .hbm, ⟨28, _⟩ => ⟨S16x2048x1024, .f32⟩
  | .hbm, ⟨29, _⟩ => ⟨S16x1x1024, .f32⟩
  | .hbm, ⟨30, _⟩ => ⟨S16x1x1024, .f32⟩
  | .hbm, ⟨31, _⟩ => ⟨S_, .f32⟩
  | .hbm, ⟨32, _⟩ => ⟨S16x1x1024, .f32⟩
  | .hbm, ⟨33, _⟩ => ⟨S16x1x1024, .f32⟩
  | .hbm, ⟨34, _⟩ => ⟨S16x2048x1024, .f32⟩
  | .hbm, ⟨35, _⟩ => ⟨S16x2048x1024, .f32⟩
  | .hbm, ⟨36, _⟩ => ⟨S16x2048x1024, .f32⟩
  | .hbm, ⟨37, _⟩ => ⟨S16x2048x1024, .f32⟩
  | .hbm, ⟨38, _⟩ => ⟨S16x1x1024, .f32⟩
  | .hbm, ⟨39, _⟩ => ⟨S_, .f32⟩
  | .hbm, ⟨40, _⟩ => ⟨S16x1x1024, .f32⟩
  | .hbm, ⟨41, _⟩ => ⟨S16x1x1024, .f32⟩
  | .hbm, ⟨42, _⟩ => ⟨S16x2048x5632, .f32⟩
  | .hbm, ⟨43, _⟩ => ⟨S16x2048x2816, .f32⟩
  | .hbm, ⟨44, _⟩ => ⟨S16x2048x2816, .f32⟩
  | .hbm, ⟨45, _⟩ => ⟨S16x2048x2816, .f32⟩
  | .hbm, ⟨46, _⟩ => ⟨S16x2048x2816, .f32⟩
  | .hbm, ⟨47, _⟩ => ⟨S_, .f32⟩
  | .hbm, ⟨48, _⟩ => ⟨S16x2048x2816, .f32⟩
  | .hbm, ⟨49, _⟩ => ⟨S16x2048x2816, .f32⟩
  | .hbm, ⟨50, _⟩ => ⟨S_, .f32⟩
  | .hbm, ⟨51, _⟩ => ⟨S16x2048x2816, .f32⟩
  | .hbm, ⟨52, _⟩ => ⟨S16x2048x2816, .f32⟩
  | .hbm, ⟨53, _⟩ => ⟨S16x2048x2816, .f32⟩
  | .hbm, ⟨54, _⟩ => ⟨S16x2048x2816, .f32⟩
  | .hbm, ⟨55, _⟩ => ⟨S16x2048x1024, .f32⟩
  | .hbm, ⟨56, _⟩ => ⟨S16x2048x1024, .f32⟩
  | .hbm, ⟨57, _⟩ => ⟨S16x2048x1024, .f32⟩
  | .hbm, ⟨58, _⟩ => ⟨S16x2048x1024, .f32⟩
  | .hbm, ⟨59, _⟩ => ⟨S1x1x9216, .f32⟩
  | .hbm, ⟨60, _⟩ => ⟨S16x256x1024, .f32⟩
  | .hbm, ⟨61, _⟩ => ⟨S_, .f32⟩
  | .hbm, ⟨62, _⟩ => ⟨S16x256, .f32⟩
  | .hbm, ⟨63, _⟩ => ⟨S16x256x1, .f32⟩
  | .hbm, ⟨64, _⟩ => ⟨S_, .f32⟩
  | .hbm, ⟨65, _⟩ => ⟨S16x256x1, .f32⟩
  | .hbm, ⟨66, _⟩ => ⟨S16x256x1, .f32⟩
  | .hbm, ⟨67, _⟩ => ⟨S_, .f32⟩
  | .hbm, ⟨68, _⟩ => ⟨S16x256x1, .f32⟩
  | .hbm, ⟨69, _⟩ => ⟨S16x256x1, .f32⟩
  | .hbm, ⟨70, _⟩ => ⟨S16x256x1, .f32⟩
  | .hbm, ⟨71, _⟩ => ⟨S16x256x1024, .f32⟩
  | .hbm, ⟨72, _⟩ => ⟨S16x256x1024, .f32⟩
  | .hbm, ⟨73, _⟩ => ⟨S1x1x1024, .f32⟩
  | .hbm, ⟨74, _⟩ => ⟨S16x256x1024, .f32⟩
  | .hbm, ⟨75, _⟩ => ⟨S16x256x1024, .f32⟩
  | .hbm, ⟨76, _⟩ => ⟨S1x1x1024, .f32⟩
  | .hbm, ⟨77, _⟩ => ⟨S1x1x1024, .f32⟩
  | .hbm, ⟨78, _⟩ => ⟨S_, .f32⟩
  | .hbm, ⟨79, _⟩ => ⟨S1x1x1024, .f32⟩
  | .hbm, ⟨80, _⟩ => ⟨S1x1x1024, .f32⟩
  | .hbm, ⟨81, _⟩ => ⟨S16x256x1024, .f32⟩
  | .hbm, ⟨82, _⟩ => ⟨S16x256x1024, .f32⟩
  | .hbm, ⟨83, _⟩ => ⟨S16x256x1024, .f32⟩
  | .hbm, ⟨84, _⟩ => ⟨S16x256x1024, .f32⟩
  | .hbm, ⟨85, _⟩ => ⟨S1x1x1024, .f32⟩
  | .hbm, ⟨86, _⟩ => ⟨S_, .f32⟩
  | .hbm, ⟨87, _⟩ => ⟨S1x1x1024, .f32⟩
  | .hbm, ⟨88, _⟩ => ⟨S1x1x1024, .f32⟩
  | .hbm, ⟨89, _⟩ => ⟨S16x256x5632, .f32⟩
  | .hbm, ⟨90, _⟩ => ⟨S16x256x2816, .f32⟩
  | .hbm, ⟨91, _⟩ => ⟨S16x256x2816, .f32⟩
  | .hbm, ⟨92, _⟩ => ⟨S16x256x2816, .f32⟩
  | .hbm, ⟨93, _⟩ => ⟨S16x256x2816, .f32⟩
  | .hbm, ⟨94, _⟩ => ⟨S_, .f32⟩
  | .hbm, ⟨95, _⟩ => ⟨S16x256x2816, .f32⟩
  | .hbm, ⟨96, _⟩ => ⟨S16x256x2816, .f32⟩
  | .hbm, ⟨97, _⟩ => ⟨S_, .f32⟩
  | .hbm, ⟨98, _⟩ => ⟨S16x256x2816, .f32⟩
  | .hbm, ⟨99, _⟩ => ⟨S16x256x2816, .f32⟩
  | .hbm, ⟨100, _⟩ => ⟨S16x256x2816, .f32⟩
  | .hbm, ⟨101, _⟩ => ⟨S16x256x2816, .f32⟩
  | .hbm, ⟨102, _⟩ => ⟨S16x256x1024, .f32⟩
  | .hbm, ⟨103, _⟩ => ⟨S16x256x1024, .f32⟩
  | .hbm, ⟨104, _⟩ => ⟨S16x256x1024, .f32⟩
  | .hbm, ⟨105, _⟩ => ⟨S16x256x1024, .f32⟩
  | .hbm, ⟨106, _⟩ => ⟨S32768x1024, .f32⟩
  | .hbm, ⟨107, _⟩ => ⟨S4096x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_4 : Ref sig .tc := ⟨.hbm, 61, rfl⟩
abbrev main_v42 : Ref sig .tc := ⟨.hbm, 62, rfl⟩
abbrev main_v43 : Ref sig .tc := ⟨.hbm, 63, rfl⟩
abbrev main_cst_5 : Ref sig .tc := ⟨.hbm, 64, rfl⟩
abbrev main_v44 : Ref sig .tc := ⟨.hbm, 65, rfl⟩
abbrev main_v45 : Ref sig .tc := ⟨.hbm, 66, rfl⟩
abbrev main_cst_6 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_7 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_8 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_call1_v0 : Ref sig .tc := ⟨.hbm, 92, rfl⟩
abbrev main_call1_v1 : Ref sig .tc := ⟨.hbm, 93, rfl⟩
abbrev main_call1_cst : Ref sig .tc := ⟨.hbm, 94, rfl⟩
abbrev main_call1_v2 : Ref sig .tc := ⟨.hbm, 95, rfl⟩
abbrev main_call1_v3 : Ref sig .tc := ⟨.hbm, 96, rfl⟩
abbrev main_call1_cst_0 : Ref sig .tc := ⟨.hbm, 97, rfl⟩
abbrev main_call1_v4 : Ref sig .tc := ⟨.hbm, 98, rfl⟩
abbrev main_call1_v5 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩

abbrev nD : Nat := 1
abbrev τ : Topo := Topo.v7x

variable {F : FTy → Type} [FloatOps F]
-- ==== Kernel2.lean ====
abbrev S32768x1024 : Shape := ⟨2, ![32768, 1024]⟩
abbrev S16x8x2048x128 : Shape := ⟨4, ![16, 8, 2048, 128]⟩
abbrev S32768x512 : Shape := ⟨2, ![32768, 512]⟩
abbrev S32768x2048 : Shape := ⟨2, ![32768, 2048]⟩
abbrev S24x1x9216 : Shape := ⟨3, ![24, 1, 9216]⟩
abbrev S1x3x1024 : Shape := ⟨3, ![1, 3, 1024]⟩
abbrev S1024 : Shape := ⟨1, ![1024]⟩
abbrev S1x512 : Shape := ⟨2, ![1, 512]⟩
abbrev S1x4x128x128 : Shape := ⟨4, ![1, 4, 128, 128]⟩
abbrev S1x1024x1024 : Shape := ⟨3, ![1, 1024, 1024]⟩
abbrev S1x512x1024 : Shape := ⟨3, ![1, 512, 1024]⟩
abbrev S1x2x1024x5632 : Shape := ⟨4, ![1, 2, 1024, 5632]⟩
abbrev S1x2x2816x1024 : Shape := ⟨4, ![1, 2, 2816, 1024]⟩
abbrev S3x1024 : Shape := ⟨2, ![3, 1024]⟩
abbrev S3x1x1024 : Shape := ⟨3, ![3, 1, 1024]⟩
abbrev S1x1024 : Shape := ⟨2, ![1, 1024]⟩
abbrev S1x512x128 : Shape := ⟨3, ![1, 512, 128]⟩
abbrev S512x1024 : Shape := ⟨2, ![512, 1024]⟩
abbrev S1x8x512x128 : Shape := ⟨4, ![1, 8, 512, 128]⟩
abbrev S512x512 : Shape := ⟨2, ![512, 512]⟩
abbrev S8x512 : Shape := ⟨2, ![8, 512]⟩
abbrev S512x2048 : Shape := ⟨2, ![512, 2048]⟩
abbrev S1x1x1024 : Shape := ⟨3, ![1, 1, 1024]⟩
abbrev S512x128 : Shape := ⟨2, ![512, 128]⟩
abbrev S1024x1024 : Shape := ⟨2, ![1024, 1024]⟩
abbrev S1024x5632 : Shape := ⟨2, ![1024, 5632]⟩
abbrev S2816x1024 : Shape := ⟨2, ![2816, 1024]⟩
abbrev S2x256x128 : Shape := ⟨3, ![2, 256, 128]⟩
abbrev S2 : Shape := ⟨1, ![2]⟩
abbrev S1 : Shape := ⟨1, ![1]⟩
abbrev S_ : Shape := ⟨0, ![]⟩
abbrev S1x256x128 : Shape := ⟨3, ![1, 256, 128]⟩
abbrev S256x128 : Shape := ⟨2, ![256, 128]⟩
abbrev S2x256x1024 : Shape := ⟨3, ![2, 256, 1024]⟩
abbrev S1x256x1024 : Shape := ⟨3, ![1, 256, 1024]⟩
abbrev S256x1024 : Shape := ⟨2, ![256, 1024]⟩
abbrev S2x128x5632 : Shape := ⟨3, ![2, 128, 5632]⟩
abbrev S1x128x5632 : Shape := ⟨3, ![1, 128, 5632]⟩
abbrev S128x5632 : Shape := ⟨2, ![128, 5632]⟩
abbrev S1x1x1024x5632 : Shape := ⟨4, ![1, 1, 1024, 5632]⟩
abbrev S1x1x2816x1024 : Shape := ⟨4, ![1, 1, 2816, 1024]⟩
abbrev S1x1x256x128 : Shape := ⟨4, ![1, 1, 256, 128]⟩
abbrev S528x512 : Shape := ⟨2, ![528, 512]⟩
abbrev S8x128 : Shape := ⟨2, ![8, 128]⟩
abbrev S528x128 : Shape := ⟨2, ![528, 128]⟩
abbrev S496x128 : Shape := ⟨2, ![496, 128]⟩
abbrev S128x128 : Shape := ⟨2, ![128, 128]⟩
abbrev S256x512 : Shape := ⟨2, ![256, 512]⟩
abbrev S256 : Shape := ⟨1, ![256]⟩
abbrev S256x1 : Shape := ⟨2, ![256, 1]⟩
abbrev S1024x256 : Shape := ⟨2, ![1024, 256]⟩
abbrev S512x256 : Shape := ⟨2, ![512, 256]⟩
abbrev S512 : Shape := ⟨1, ![512]⟩
abbrev S512x1 : Shape := ⟨2, ![512, 1]⟩
abbrev S16x2048x1024 : Shape := ⟨3, ![16, 2048, 1024]⟩

abbrev nBuf : Space → Nat
  | .hbm => 20
  | .vmem => 37
  | .smem => 0
  | _ => 0

abbrev bufTy : (tb : Table) → Fin (tcTables nBuf tb) → BufTy
  | .hbm, ⟨0, _⟩ => ⟨S32768x1024, .f32⟩
  | .hbm, ⟨1, _⟩ => ⟨S16x8x2048x128, .bf16⟩
  | .hbm, ⟨2, _⟩ => ⟨S32768x512, .f32⟩
  | .hbm, ⟨3, _⟩ => ⟨S32768x2048, .bf16⟩
  | .hbm, ⟨4, _⟩ => ⟨S24x1x9216, .f32⟩
  | .hbm, ⟨5, _⟩ => ⟨S1x3x1024, .f32⟩
  | .hbm, ⟨6, _⟩ => ⟨S1024, .f32⟩
  | .hbm, ⟨7, _⟩ => ⟨S1x512, .f32⟩
  | .hbm, ⟨8, _⟩ => ⟨S1x4x128x128, .f32⟩
  | .hbm, ⟨9, _⟩ => ⟨S1x1024x1024, .f32⟩
  | .hbm, ⟨10, _⟩ => ⟨S1x512x1024, .f32⟩
  | .hbm, ⟨11, _⟩ => ⟨S1x1024x1024, .f32⟩
  | .hbm, ⟨12, _⟩ => ⟨S1x2x1024x5632, .f32⟩
  | .hbm, ⟨13, _⟩ => ⟨S1x2x2816x1024, .f32⟩
  | .hbm, ⟨14, _⟩ => ⟨S3x1024, .f32⟩
  | .hbm, ⟨15, _⟩ => ⟨S3x1x1024, .f32⟩
  | .hbm, ⟨16, _⟩ => ⟨S1x1024, .f32⟩
  | .hbm, ⟨17, _⟩ => ⟨S1x512x128, .f32⟩
  | .hbm, ⟨18, _⟩ => ⟨S32768x1024, .f32⟩
  | .hbm, ⟨19, _⟩ => ⟨S16x2048x1024, .f32⟩
  | .local _ .vmem, ⟨0, _⟩ => ⟨S512x1024, .f32⟩
  | .local _ .vmem, ⟨1, _⟩ => ⟨S512x1024, .f32⟩
  | .local _ .vmem, ⟨2, _⟩ => ⟨S1x8x512x128, .bf16⟩
  | .local _ .vmem, ⟨3, _⟩ => ⟨S1x8x512x128, .bf16⟩
  | .local _ .vmem, ⟨4, _⟩ => ⟨S512x512, .f32⟩
  | .local _ .vmem, ⟨5, _⟩ => ⟨S512x512, .f32⟩
  | .local _ .vmem, ⟨6, _⟩ => ⟨S8x512, .f32⟩
  | .local _ .vmem, ⟨7, _⟩ => ⟨S8x512, .f32⟩
  | .local _ .vmem, ⟨8, _⟩ => ⟨S8x512, .f32⟩
  | .local _ .vmem, ⟨9, _⟩ => ⟨S8x512, .f32⟩
  | .local _ .vmem, ⟨10, _⟩ => ⟨S512x2048, .bf16⟩
  | .local _ .vmem, ⟨11, _⟩ => ⟨S512x2048, .bf16⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1x1024, .f32⟩
  | .local _ .vmem, ⟨19, _⟩ => ⟨S1x1x1024, .f32⟩
  | .local _ .vmem, ⟨20, _⟩ => ⟨S1x1x1024, .f32⟩
  | .local _ .vmem, ⟨21, _⟩ => ⟨S1x1024, .f32⟩
  | .local _ .vmem, ⟨22, _⟩ => ⟨S1x512, .f32⟩
  | .local _ .vmem, ⟨23, _⟩ => ⟨S512x1024, .f32⟩
  | .local _ .vmem, ⟨24, _⟩ => ⟨S512x1024, .f32⟩
  | .local _ .vmem, ⟨25, _⟩ => ⟨S512x128, .bf16⟩
  | .local _ .vmem, ⟨26, _⟩ => ⟨S1024x1024, .bf16⟩
  | .local _ .vmem, ⟨27, _⟩ => ⟨S512x1024, .bf16⟩
  | .local _ .vmem, ⟨28, _⟩ => ⟨S1024x1024, .bf16⟩
  | .local _ .vmem, ⟨29, _⟩ => ⟨S1024x5632, .bf16⟩
  | .local _ .vmem, ⟨30, _⟩ => ⟨S2816x1024, .bf16⟩
  | .local _ .vmem, ⟨31, _⟩ => ⟨S2x256x128, .f32⟩
  | .local _ .vmem, ⟨32, _⟩ => ⟨S2x256x1024, .f32⟩
  | .local _ .vmem, ⟨33, _⟩ => ⟨S2x256x1024, .f32⟩
  | .local _ .vmem, ⟨34, _⟩ => ⟨S2x256x1024, .f32⟩
  | .local _ .vmem, ⟨35, _⟩ => ⟨S2x128x5632, .f32⟩
  | .local _ .vmem, ⟨36, _⟩ => ⟨S2x256x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg13_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_scratch4 : Ref sig .tc := ⟨.vmem, 29, rfl⟩
abbrev cc0_scratch5 : Ref sig .tc := ⟨.vmem, 30, rfl⟩
abbrev cc0_scoped0 : Ref sig .tc := ⟨.vmem, 31, rfl⟩
abbrev cc0_scoped2 : Ref sig .tc := ⟨.vmem, 32, rfl⟩
abbrev cc0_scoped4 : Ref sig .tc := ⟨.vmem, 33, rfl⟩
abbrev cc0_scoped6 : Ref sig .tc := ⟨.vmem, 34, rfl⟩
abbrev cc0_scoped8 : Ref sig .tc := ⟨.vmem, 35, rfl⟩
abbrev cc0_scoped10 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c4095_i32 : BitVec 32 := 4095#32
  let v2 : BitVec 32 := Scalar.minsi v1 c4095_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c5_i32 : BitVec 32 := 5#32
  let c0_i32_5 : BitVec 32 := 0#32
  ![v17.toNat, c0_i32_4.toNat, c5_i32.toNat]

def cc0_transform_7 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c6_i32 : BitVec 32 := 6#32
  let c0_i32_5 : BitVec 32 := 0#32
  ![v17.toNat, c0_i32_4.toNat, c6_i32.toNat]

def cc0_transform_8 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c7_i32 : BitVec 32 := 7#32
  let c0_i32_5 : BitVec 32 := 0#32
  ![v17.toNat, c0_i32_4.toNat, c7_i32.toNat]

def cc0_transform_9 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c8_i32 : BitVec 32 := 8#32
  let c0_i32_5 : BitVec 32 := 0#32
  ![v17.toNat, c0_i32_4.toNat, c8_i32.toNat]

def cc0_transform_10 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference2Ideal.lean ====
abbrev S32768x1024 : Shape := ⟨2, ![32768, 1024]⟩
abbrev S16x8x2048x128 : Shape := ⟨4, ![16, 8, 2048, 128]⟩
abbrev S32768x512 : Shape := ⟨2, ![32768, 512]⟩
abbrev S32768x2048 : Shape := ⟨2, ![32768, 2048]⟩
abbrev S24x1x9216 : Shape := ⟨3, ![24, 1, 9216]⟩
abbrev S1x3x1024 : Shape := ⟨3, ![1, 3, 1024]⟩
abbrev S1024 : Shape := ⟨1, ![1024]⟩
abbrev S1x512 : Shape := ⟨2, ![1, 512]⟩
abbrev S1x4x128x128 : Shape := ⟨4, ![1, 4, 128, 128]⟩
abbrev S1x1024x1024 : Shape := ⟨3, ![1, 1024, 1024]⟩
abbrev S1x512x1024 : Shape := ⟨3, ![1, 512, 1024]⟩
abbrev S1x2x1024x5632 : Shape := ⟨4, ![1, 2, 1024, 5632]⟩
abbrev S1x2x2816x1024 : Shape := ⟨4, ![1, 2, 2816, 1024]⟩
abbrev S16x2048x1024 : Shape := ⟨3, ![16, 2048, 1024]⟩
abbrev S16x2048x512 : Shape := ⟨3, ![16, 2048, 512]⟩
abbrev S16x2048x2048 : Shape := ⟨3, ![16, 2048, 2048]⟩
abbrev S16x2048x8x128 : Shape := ⟨4, ![16, 2048, 8, 128]⟩
abbrev S16x1x9216 : Shape := ⟨3, ![16, 1, 9216]⟩
abbrev S4x128x128 : Shape := ⟨3, ![4, 128, 128]⟩
abbrev S512 : Shape := ⟨1, ![512]⟩
abbrev S2048 : Shape := ⟨1, ![2048]⟩
abbrev S16x2048x128 : Shape := ⟨3, ![16, 2048, 128]⟩
abbrev S_ : Shape := ⟨0, ![]⟩
abbrev S16x2050x128 : Shape := ⟨3, ![16, 2050, 128]⟩
abbrev S1x2048x1 : Shape := ⟨3, ![1, 2048, 1]⟩
abbrev S1x128x128 : Shape := ⟨3, ![1, 128, 128]⟩
abbrev S128x128 : Shape := ⟨2, ![128, 128]⟩
abbrev S16x2052x128 : Shape := ⟨3, ![16, 2052, 128]⟩
abbrev S16x2056x128 : Shape := ⟨3, ![16, 2056, 128]⟩
abbrev S16x2064x128 : Shape := ⟨3, ![16, 2064, 128]⟩
abbrev S1x1x512 : Shape := ⟨3, ![1, 1, 512]⟩
abbrev S16x1x1024 : Shape := ⟨3, ![16, 1, 1024]⟩
abbrev S1024x1024 : Shape := ⟨2, ![1024, 1024]⟩
abbrev S512x1024 : Shape := ⟨2, ![512, 1024]⟩
abbrev S1x1x1024 : Shape := ⟨3, ![1, 1, 1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S16x2048 : Shape := ⟨2, ![16, 2048]⟩
abbrev S16x2048x1 : Shape := ⟨3, ![16, 2048, 1]⟩
abbrev S16x2048x5632 : Shape := ⟨3, ![16, 2048, 5632]⟩
abbrev S16x2048x2816 : Shape := ⟨3, ![16, 2048, 2816]⟩

abbrev nBuf : Space → Nat
  | .hbm => 320
  | .vmem => 0
  | .smem => 0
  | _ => 0

abbrev hbmTy0_0 (i : Nat) : BufTy := match i % 128 with
  | 0 => ⟨S32768x1024, .f32⟩
  | 1 => ⟨S16x8x2048x128, .bf16⟩
  | 2 => ⟨S32768x512, .f32⟩
  | 3 => ⟨S32768x2048, .bf16⟩
  | 4 => ⟨S24x1x9216, .f32⟩
  | 5 => ⟨S1x3x1024, .f32⟩
  | 6 => ⟨S1024, .f32⟩
  | 7 => ⟨S1x512, .f32⟩
  | 8 => ⟨S1x4x128x128, .f32⟩
  | 9 => ⟨S1x1024x1024, .f32⟩
  | 10 => ⟨S1x512x1024, .f32⟩
  | 11 => ⟨S1x1024x1024, .f32⟩
  | 12 => ⟨S1x2x1024x5632, .f32⟩
  | 13 => ⟨S1x2x2816x1024, .f32⟩
  | 14 => ⟨S16x2048x1024, .f32⟩
  | 15 => ⟨S16x2048x512, .f32⟩
  | 16 => ⟨S32768x2048, .f32⟩
  | 17 => ⟨S16x2048x2048, .f32⟩
  | 18 => ⟨S16x8x2048x128, .f32⟩
  | 19 => ⟨S16x2048x8x128, .f32⟩
  | 20 => ⟨S16x2048x1024, .f32⟩
  | 21 => ⟨S16x1x9216, .f32⟩
  | 22 => ⟨S4x128x128, .f32⟩
  | 23 => ⟨S512, .f32⟩
  | 24 => ⟨S2048, .i32⟩
  | 25 => ⟨S16x2048x128, .f32⟩
  | 26 => ⟨S_, .i32⟩
  | 27 => ⟨S2048, .i32⟩
  | 28 => ⟨S2048, .i32⟩
  | 29 => ⟨S_, .i32⟩
  | 30 => ⟨S_, .i32⟩
  | 31 => ⟨S_, .i32⟩
  | 32 => ⟨S2048, .i32⟩
  | 33 => ⟨S2048, .i32⟩
  | 34 => ⟨S_, .i32⟩
  | 35 => ⟨S2048, .i32⟩
  | 36 => ⟨S2048, .i32⟩
  | 37 => ⟨S_, .i32⟩
  | 38 => ⟨S2048, .i32⟩
  | 39 => ⟨S2048, .i32⟩
  | 40 => ⟨S_, .i32⟩
  | 41 => ⟨S2048, .i32⟩
  | 42 => ⟨S2048, .i32⟩
  | 43 => ⟨S_, .i32⟩
  | 44 => ⟨S_, .i32⟩
  | 45 => ⟨S_, .i32⟩
  | 46 => ⟨S2048, .i32⟩
  | 47 => ⟨S2048, .i32⟩
  | 48 => ⟨S_, .i32⟩
  | 49 => ⟨S2048, .i32⟩
  | 50 => ⟨S2048, .i32⟩
  | 51 => ⟨S_, .i32⟩
  | 52 => ⟨S_, .f32⟩
  | 53 => ⟨S16x2050x128, .f32⟩
  | 54 => ⟨S16x2048x128, .f32⟩
  | 55 => ⟨S16x2048x128, .f32⟩
  | 56 => ⟨S16x2048x128, .f32⟩
  | 57 => ⟨S2048, .i32⟩
  | 58 => ⟨S2048, .f32⟩
  | 59 => ⟨S1x2048x1, .f32⟩
  | 60 => ⟨S16x2048x128, .f32⟩
  | 61 => ⟨S16x2048x128, .f32⟩
  | 62 => ⟨S16x2048x128, .f32⟩
  | 63 => ⟨S1x128x128, .f32⟩
  | 64 => ⟨S128x128, .f32⟩
  | 65 => ⟨S16x2048x128, .f32⟩
  | 66 => ⟨S16x2048x128, .f32⟩
  | 67 => ⟨S_, .i32⟩
  | 68 => ⟨S2048, .i32⟩
  | 69 => ⟨S2048, .i32⟩
  | 70 => ⟨S_, .i32⟩
  | 71 => ⟨S_, .i32⟩
  | 72 => ⟨S_, .i32⟩
  | 73 => ⟨S2048, .i32⟩
  | 74 => ⟨S2048, .i32⟩
  | 75 => ⟨S_, .i32⟩
  | 76 => ⟨S2048, .i32⟩
  | 77 => ⟨S2048, .i32⟩
  | 78 => ⟨S_, .i32⟩
  | 79 => ⟨S2048, .i32⟩
  | 80 => ⟨S2048, .i32⟩
  | 81 => ⟨S_, .i32⟩
  | 82 => ⟨S2048, .i32⟩
  | 83 => ⟨S2048, .i32⟩
  | 84 => ⟨S_, .i32⟩
  | 85 => ⟨S_, .i32⟩
  | 86 => ⟨S_, .i32⟩
  | 87 => ⟨S2048, .i32⟩
  | 88 => ⟨S2048, .i32⟩
  | 89 => ⟨S_, .i32⟩
  | 90 => ⟨S2048, .i32⟩
  | 91 => ⟨S2048, .i32⟩
  | 92 => ⟨S_, .i32⟩
  | 93 => ⟨S_, .f32⟩
  | 94 => ⟨S16x2052x128, .f32⟩
  | 95 => ⟨S16x2048x128, .f32⟩
  | 96 => ⟨S16x2048x128, .f32⟩
  | 97 => ⟨S16x2048x128, .f32⟩
  | 98 => ⟨S16x2048x128, .f32⟩
  | 99 => ⟨S16x2048x128, .f32⟩
  | 100 => ⟨S16x2048x128, .f32⟩
  | 101 => ⟨S16x2048x128, .f32⟩
  | 102 => ⟨S2048, .i32⟩
  | 103 => ⟨S2048, .f32⟩
  | 104 => ⟨S1x2048x1, .f32⟩
  | 105 => ⟨S16x2048x128, .f32⟩
  | 106 => ⟨S16x2048x128, .f32⟩
  | 107 => ⟨S16x2048x128, .f32⟩
  | 108 => ⟨S1x128x128, .f32⟩
  | 109 => ⟨S128x128, .f32⟩
  | 110 => ⟨S16x2048x128, .f32⟩
  | 111 => ⟨S16x2048x128, .f32⟩
  | 112 => ⟨S_, .i32⟩
  | 113 => ⟨S2048, .i32⟩
  | 114 => ⟨S2048, .i32⟩
  | 115 => ⟨S_, .i32⟩
  | 116 => ⟨S_, .i32⟩
  | 117 => ⟨S_, .i32⟩
  | 118 => ⟨S2048, .i32⟩
  | 119 => ⟨S2048, .i32⟩
  | 120 => ⟨S_, .i32⟩
  | 121 => ⟨S2048, .i32⟩
  | 122 => ⟨S2048, .i32⟩
  | 123 => ⟨S_, .i32⟩
  | 124 => ⟨S2048, .i32⟩
  | 125 => ⟨S2048, .i32⟩
  | 126 => ⟨S_, .i32⟩
  | 127 => ⟨S2048, .i32⟩
  | _ => ⟨S32768x1024, .f32⟩

abbrev hbmTy0_1 (i : Nat) : BufTy := match i % 128 with
  | 0 => ⟨S2048, .i32⟩
  | 1 => ⟨S_, .i32⟩
  | 2 => ⟨S_, .i32⟩
  | 3 => ⟨S_, .i32⟩
  | 4 => ⟨S2048, .i32⟩
  | 5 => ⟨S2048, .i32⟩
  | 6 => ⟨S_, .i32⟩
  | 7 => ⟨S2048, .i32⟩
  | 8 => ⟨S2048, .i32⟩
  | 9 => ⟨S_, .i32⟩
  | 10 => ⟨S_, .f32⟩
  | 11 => ⟨S16x2056x128, .f32⟩
  | 12 => ⟨S16x2048x128, .f32⟩
  | 13 => ⟨S16x2048x128, .f32⟩
  | 14 => ⟨S16x2048x128, .f32⟩
  | 15 => ⟨S16x2048x128, .f32⟩
  | 16 => ⟨S16x2048x128, .f32⟩
  | 17 => ⟨S16x2048x128, .f32⟩
  | 18 => ⟨S16x2048x128, .f32⟩
  | 19 => ⟨S16x2048x128, .f32⟩
  | 20 => ⟨S16x2048x128, .f32⟩
  | 21 => ⟨S16x2048x128, .f32⟩
  | 22 => ⟨S16x2048x128, .f32⟩
  | 23 => ⟨S16x2048x128, .f32⟩
  | 24 => ⟨S16x2048x128, .f32⟩
  | 25 => ⟨S16x2048x128, .f32⟩
  | 26 => ⟨S16x2048x128, .f32⟩
  | 27 => ⟨S2048, .i32⟩
  | 28 => ⟨S2048, .f32⟩
  | 29 => ⟨S1x2048x1, .f32⟩
  | 30 => ⟨S16x2048x128, .f32⟩
  | 31 => ⟨S16x2048x128, .f32⟩
  | 32 => ⟨S16x2048x128, .f32⟩
  | 33 => ⟨S1x128x128, .f32⟩
  | 34 => ⟨S128x128, .f32⟩
  | 35 => ⟨S16x2048x128, .f32⟩
  | 36 => ⟨S16x2048x128, .f32⟩
  | 37 => ⟨S_, .i32⟩
  | 38 => ⟨S2048, .i32⟩
  | 39 => ⟨S2048, .i32⟩
  | 40 => ⟨S_, .i32⟩
  | 41 => ⟨S_, .i32⟩
  | 42 => ⟨S_, .i32⟩
  | 43 => ⟨S2048, .i32⟩
  | 44 => ⟨S2048, .i32⟩
  | 45 => ⟨S_, .i32⟩
  | 46 => ⟨S2048, .i32⟩
  | 47 => ⟨S2048, .i32⟩
  | 48 => ⟨S_, .i32⟩
  | 49 => ⟨S2048, .i32⟩
  | 50 => ⟨S2048, .i32⟩
  | 51 => ⟨S_, .i32⟩
  | 52 => ⟨S2048, .i32⟩
  | 53 => ⟨S2048, .i32⟩
  | 54 => ⟨S_, .i32⟩
  | 55 => ⟨S_, .i32⟩
  | 56 => ⟨S_, .i32⟩
  | 57 => ⟨S2048, .i32⟩
  | 58 => ⟨S2048, .i32⟩
  | 59 => ⟨S_, .i32⟩
  | 60 => ⟨S2048, .i32⟩
  | 61 => ⟨S2048, .i32⟩
  | 62 => ⟨S_, .i32⟩
  | 63 => ⟨S_, .f32⟩
  | 64 => ⟨S16x2064x128, .f32⟩
  | 65 => ⟨S16x2048x128, .f32⟩
  | 66 => ⟨S16x2048x128, .f32⟩
  | 67 => ⟨S16x2048x128, .f32⟩
  | 68 => ⟨S16x2048x128, .f32⟩
  | 69 => ⟨S16x2048x128, .f32⟩
  | 70 => ⟨S16x2048x128, .f32⟩
  | 71 => ⟨S16x2048x128, .f32⟩
  | 72 => ⟨S16x2048x128, .f32⟩
  | 73 => ⟨S16x2048x128, .f32⟩
  | 74 => ⟨S16x2048x128, .f32⟩
  | 75 => ⟨S16x2048x128, .f32⟩
  | 76 => ⟨S16x2048x128, .f32⟩
  | 77 => ⟨S16x2048x128, .f32⟩
  | 78 => ⟨S16x2048x128, .f32⟩
  | 79 => ⟨S16x2048x128, .f32⟩
  | 80 => ⟨S16x2048x128, .f32⟩
  | 81 => ⟨S16x2048x128, .f32⟩
  | 82 => ⟨S16x2048x128, .f32⟩
  | 83 => ⟨S16x2048x128, .f32⟩
  | 84 => ⟨S16x2048x128, .f32⟩
  | 85 => ⟨S16x2048x128, .f32⟩
  | 86 => ⟨S16x2048x128, .f32⟩
  | 87 => ⟨S16x2048x128, .f32⟩
  | 88 => ⟨S16x2048x128, .f32⟩
  | 89 => ⟨S16x2048x128, .f32⟩
  | 90 => ⟨S16x2048x128, .f32⟩
  | 91 => ⟨S16x2048x128, .f32⟩
  | 92 => ⟨S16x2048x128, .f32⟩
  | 93 => ⟨S16x2048x128, .f32⟩
  | 94 => ⟨S16x2048x128, .f32⟩
  | 95 => ⟨S16x2048x128, .f32⟩
  | 96 => ⟨S2048, .i32⟩
  | 97 => ⟨S2048, .f32⟩
  | 98 => ⟨S1x2048x1, .f32⟩
  | 99 => ⟨S16x2048x128, .f32⟩
  | 100 => ⟨S16x2048x128, .f32⟩
  | 101 => ⟨S16x2048x128, .f32⟩
  | 102 => ⟨S1x128x128, .f32⟩
  | 103 => ⟨S128x128, .f32⟩
  | 104 => ⟨S16x2048x128, .f32⟩
  | 105 => ⟨S16x2048x512, .f32⟩
  | 106 => ⟨S1x1x512, .f32⟩
  | 107 => ⟨S16x2048x512, .f32⟩
  | 108 => ⟨S16x2048x512, .f32⟩
  | 109 => ⟨S16x1x1024, .f32⟩
  | 110 => ⟨S1024x1024, .f32⟩
  | 111 => ⟨S512x1024, .f32⟩
  | 112 => ⟨S1024x1024, .f32⟩
  | 113 => ⟨S16x2048x1024, .f32⟩
  | 114 => ⟨S16x2048x1024, .f32⟩
  | 115 => ⟨S16x2048x1024, .f32⟩
  | 116 => ⟨S16x2048x1024, .f32⟩
  | 117 => ⟨S16x2048x1024, .f32⟩
  | 118 => ⟨S16x2048x1024, .f32⟩
  | 119 => ⟨S16x2048x1024, .f32⟩
  | 120 => ⟨S16x2048x1024, .f32⟩
  | 121 => ⟨S16x2048x1024, .f32⟩
  | 122 => ⟨S16x2048x1024, .f32⟩
  | 123 => ⟨S16x2048x1024, .f32⟩
  | 124 => ⟨S1x1x1024, .f32⟩
  | 125 => ⟨S1024, .f32⟩
  | 126 => ⟨S1x1x1024x5632, .f32⟩
  | 127 => ⟨S1024x5632, .f32⟩
  | _ => ⟨S32768x1024, .f32⟩

abbrev hbmTy0_2 (i : Nat) : BufTy := match i % 128 with
  | 0 => ⟨S1x1x2816x1024, .f32⟩
  | 1 => ⟨S2816x1024, .f32⟩
  | 2 => ⟨S16x2048x1024, .f32⟩
  | 3 => ⟨S_, .f32⟩
  | 4 => ⟨S16x2048, .f32⟩
  | 5 => ⟨S16x2048x1, .f32⟩
  | 6 => ⟨S_, .f32⟩
  | 7 => ⟨S16x2048x1, .f32⟩
  | 8 => ⟨S16x2048x1, .f32⟩
  | 9 => ⟨S_, .f32⟩
  | 10 => ⟨S16x2048x1, .f32⟩
  | 11 => ⟨S16x2048x1, .f32⟩
  | 12 => ⟨S16x2048x1, .f32⟩
  | 13 => ⟨S16x2048x1024, .f32⟩
  | 14 => ⟨S16x2048x1024, .f32⟩
  | 15 => ⟨S1x1x1024, .f32⟩
  | 16 => ⟨S16x2048x1024, .f32⟩
  | 17 => ⟨S16x2048x1024, .f32⟩
  | 18 => ⟨S16x1x1024, .f32⟩
  | 19 => ⟨S16x1x1024, .f32⟩
  | 20 => ⟨S_, .f32⟩
  | 21 => ⟨S16x1x1024, .f32⟩
  | 22 => ⟨S16x1x1024, .f32⟩
  | 23 => ⟨S16x2048x1024, .f32⟩
  | 24 => ⟨S16x2048x1024, .f32⟩
  | 25 => ⟨S16x2048x1024, .f32⟩
  | 26 => ⟨S16x2048x1024, .f32⟩
  | 27 => ⟨S16x1x1024, .f32⟩
  | 28 => ⟨S_, .f32⟩
  | 29 => ⟨S16x1x1024, .f32⟩
  | 30 => ⟨S16x1x1024, .f32⟩
  | 31 => ⟨S16x2048x5632, .f32⟩
  | 32 => ⟨S16x2048x2816, .f32⟩
  | 33 => ⟨S16x2048x2816, .f32⟩
  | 34 => ⟨S16x2048x2816, .f32⟩
  | 35 => ⟨S16x2048x2816, .f32⟩
  | 36 => ⟨S_, .f32⟩
  | 37 => ⟨S16x2048x2816, .f32⟩
  | 38 => ⟨S16x2048x2816, .f32⟩
  | 39 => ⟨S_, .f32⟩
  | 40 => ⟨S16x2048x2816, .f32⟩
  | 41 => ⟨S16x2048x2816, .f32⟩
  | 42 => ⟨S16x2048x2816, .f32⟩
  | 43 => ⟨S16x2048x2816, .f32⟩
  | 44 => ⟨S16x2048x1024, .f32⟩
  | 45 => ⟨S16x2048x1024, .f32⟩
  | 46 => ⟨S16x2048x1024, .f32⟩
  | 47 => ⟨S16x2048x1024, .f32⟩
  | 48 => ⟨S16x2048x1024, .f32⟩
  | 49 => ⟨S_, .f32⟩
  | 50 => ⟨S16x2048, .f32⟩
  | 51 => ⟨S16x2048x1, .f32⟩
  | 52 => ⟨S_, .f32⟩
  | 53 => ⟨S16x2048x1, .f32⟩
  | 54 => ⟨S16x2048x1, .f32⟩
  | 55 => ⟨S_, .f32⟩
  | 56 => ⟨S16x2048x1, .f32⟩
  | 57 => ⟨S16x2048x1, .f32⟩
  | 58 => ⟨S16x2048x1, .f32⟩
  | 59 => ⟨S16x2048x1024, .f32⟩
  | 60 => ⟨S16x2048x1024, .f32⟩
  | 61 => ⟨S1x1x1024, .f32⟩
  | 62 => ⟨S16x2048x1024, .f32⟩
  | 63 => ⟨S16x2048x1024, .f32⟩
  | _ => ⟨S32768x1024, .f32⟩

abbrev hbmTy (i : Nat) : BufTy := match i / 128 with
  | 0 => hbmTy0_0 i
  | 1 => hbmTy0_1 i
  | 2 => hbmTy0_2 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_0 : Ref sig .tc := ⟨.hbm, 29, rfl⟩
abbrev main_c_1 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_v14 : Ref sig .tc := ⟨.hbm, 36, rfl⟩
abbrev main_c_2 : Ref sig .tc := ⟨.hbm, 37, rfl⟩
abbrev main_v15 : Ref sig .tc := ⟨.hbm, 38, rfl⟩
abbrev main_v16 : Ref sig .tc := ⟨.hbm, 39, rfl⟩
abbrev main_c_3 : Ref sig .tc := ⟨.hbm, 40, rfl⟩
abbrev main_v17 : Ref sig .tc := ⟨.hbm, 41, rfl⟩
abbrev main_v18 : Ref sig .tc := ⟨.hbm, 42, rfl⟩
abbrev main_c_4 : Ref sig .tc := ⟨.hbm, 43, rfl⟩
abbrev main_c_5 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_v19 : Ref sig .tc := ⟨.hbm, 50, rfl⟩
abbrev main_c_6 : Ref sig .tc := ⟨.hbm, 51, rfl⟩
abbrev main_call2_v0 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_c_7 : Ref sig .tc := ⟨.hbm, 67, rfl⟩
abbrev main_v34 : Ref sig .tc := ⟨.hbm, 68, rfl⟩
abbrev main_v35 : Ref sig .tc := ⟨.hbm, 69, rfl⟩
abbrev main_c_8 : Ref sig .tc := ⟨.hbm, 70, rfl⟩
abbrev main_c_9 : Ref sig .tc := ⟨.hbm, 71, rfl⟩
abbrev main_call3_v0 : Ref sig .tc := ⟨.hbm, 72, rfl⟩
abbrev main_call3_v1 : Ref sig .tc := ⟨.hbm, 73, rfl⟩
abbrev main_call3_v2 : Ref sig .tc := ⟨.hbm, 74, rfl⟩
abbrev main_call3_v3 : Ref sig .tc := ⟨.hbm, 75, rfl⟩
abbrev main_call3_v4 : Ref sig .tc := ⟨.hbm, 76, rfl⟩
abbrev main_v36 : Ref sig .tc := ⟨.hbm, 77, rfl⟩
abbrev main_c_10 : Ref sig .tc := ⟨.hbm, 78, rfl⟩
abbrev main_v37 : Ref sig .tc := ⟨.hbm, 79, rfl⟩
abbrev main_v38 : Ref sig .tc := ⟨.hbm, 80, rfl⟩
abbrev main_c_11 : Ref sig .tc := ⟨.hbm, 81, rfl⟩
abbrev main_v39 : Ref sig .tc := ⟨.hbm, 82, rfl⟩
abbrev main_v40 : Ref sig .tc := ⟨.hbm, 83, rfl⟩
abbrev main_c_12 : Ref sig .tc := ⟨.hbm, 84, rfl⟩
abbrev main_c_13 : Ref sig .tc := ⟨.hbm, 85, rfl⟩
abbrev main_call4_v0 : Ref sig .tc := ⟨.hbm, 86, rfl⟩
abbrev main_call4_v1 : Ref sig .tc := ⟨.hbm, 87, rfl⟩
abbrev main_call4_v2 : Ref sig .tc := ⟨.hbm, 88, rfl⟩
abbrev main_call4_v3 : Ref sig .tc := ⟨.hbm, 89, rfl⟩
abbrev main_call4_v4 : Ref sig .tc := ⟨.hbm, 90, rfl⟩
abbrev main_v41 : Ref sig .tc := ⟨.hbm, 91, rfl⟩
abbrev main_c_14 : Ref sig .tc := ⟨.hbm, 92, rfl⟩
abbrev main_call5_v0 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_c_15 : Ref sig .tc := ⟨.hbm, 112, rfl⟩
abbrev main_v60 : Ref sig .tc := ⟨.hbm, 113, rfl⟩
abbrev main_v61 : Ref sig .tc := ⟨.hbm, 114, rfl⟩
abbrev main_c_16 : Ref sig .tc := ⟨.hbm, 115, rfl⟩
abbrev main_c_17 : Ref sig .tc := ⟨.hbm, 116, rfl⟩
abbrev main_call6_v0 : Ref sig .tc := ⟨.hbm, 117, rfl⟩
abbrev main_call6_v1 : Ref sig .tc := ⟨.hbm, 118, rfl⟩
abbrev main_call6_v2 : Ref sig .tc := ⟨.hbm, 119, rfl⟩
abbrev main_call6_v3 : Ref sig .tc := ⟨.hbm, 120, rfl⟩
abbrev main_call6_v4 : Ref sig .tc := ⟨.hbm, 121, rfl⟩
abbrev main_v62 : Ref sig .tc := ⟨.hbm, 122, rfl⟩
abbrev main_c_18 : Ref sig .tc := ⟨.hbm, 123, rfl⟩
abbrev main_v63 : Ref sig .tc := ⟨.hbm, 124, rfl⟩
abbrev main_v64 : Ref sig .tc := ⟨.hbm, 125, rfl⟩
abbrev main_c_19 : Ref sig .tc := ⟨.hbm, 126, rfl⟩
abbrev main_v65 : Ref sig .tc := ⟨.hbm, 127, rfl⟩
abbrev main_v66 : Ref sig .tc := ⟨.hbm, 128, rfl⟩
abbrev main_c_20 : Ref sig .tc := ⟨.hbm, 129, rfl⟩
abbrev main_c_21 : Ref sig .tc := ⟨.hbm, 130, rfl⟩
abbrev main_call7_v0 : Ref sig .tc := ⟨.hbm, 131, rfl⟩
abbrev main_call7_v1 : Ref sig .tc := ⟨.hbm, 132, rfl⟩
abbrev main_call7_v2 : Ref sig .tc := ⟨.hbm, 133, rfl⟩
abbrev main_call7_v3 : Ref sig .tc := ⟨.hbm, 134, rfl⟩
abbrev main_call7_v4 : Ref sig .tc := ⟨.hbm, 135, rfl⟩
abbrev main_v67 : Ref sig .tc := ⟨.hbm, 136, rfl⟩
abbrev main_c_22 : Ref sig .tc := ⟨.hbm, 137, rfl⟩
abbrev main_call8_v0 : Ref sig .tc := ⟨.hbm, 138, rfl⟩
abbrev main_v68 : Ref sig .tc := ⟨.hbm, 139, rfl⟩
abbrev main_v69 : Ref sig .tc := ⟨.hbm, 140, rfl⟩
abbrev main_v70 : Ref sig .tc := ⟨.hbm, 141, rfl⟩
abbrev main_v71 : Ref sig .tc := ⟨.hbm, 142, rfl⟩
abbrev main_v72 : Ref sig .tc := ⟨.hbm, 143, rfl⟩
abbrev main_v73 : Ref sig .tc := ⟨.hbm, 144, rfl⟩
abbrev main_v74 : Ref sig .tc := ⟨.hbm, 145, rfl⟩
abbrev main_v75 : Ref sig .tc := ⟨.hbm, 146, rfl⟩
abbrev main_v76 : Ref sig .tc := ⟨.hbm, 147, rfl⟩
abbrev main_v77 : Ref sig .tc := ⟨.hbm, 148, rfl⟩
abbrev main_v78 : Ref sig .tc := ⟨.hbm, 149, rfl⟩
abbrev main_v79 : Ref sig .tc := ⟨.hbm, 150, rfl⟩
abbrev main_v80 : Ref sig .tc := ⟨.hbm, 151, rfl⟩
abbrev main_v81 : Ref sig .tc := ⟨.hbm, 152, rfl⟩
abbrev main_v82 : Ref sig .tc := ⟨.hbm, 153, rfl⟩
abbrev main_v83 : Ref sig .tc := ⟨.hbm, 154, rfl⟩
abbrev main_v84 : Ref sig .tc := ⟨.hbm, 155, rfl⟩
abbrev main_v85 : Ref sig .tc := ⟨.hbm, 156, rfl⟩
abbrev main_v86 : Ref sig .tc := ⟨.hbm, 157, rfl⟩
abbrev main_v87 : Ref sig .tc := ⟨.hbm, 158, rfl⟩
abbrev main_v88 : Ref sig .tc := ⟨.hbm, 159, rfl⟩
abbrev main_v89 : Ref sig .tc := ⟨.hbm, 160, rfl⟩
abbrev main_v90 : Ref sig .tc := ⟨.hbm, 161, rfl⟩
abbrev main_v91 : Ref sig .tc := ⟨.hbm, 162, rfl⟩
abbrev main_v92 : Ref sig .tc := ⟨.hbm, 163, rfl⟩
abbrev main_v93 : Ref sig .tc := ⟨.hbm, 164, rfl⟩
abbrev main_c_23 : Ref sig .tc := ⟨.hbm, 165, rfl⟩
abbrev main_v94 : Ref sig .tc := ⟨.hbm, 166, rfl⟩
abbrev main_v95 : Ref sig .tc := ⟨.hbm, 167, rfl⟩
abbrev main_c_24 : Ref sig .tc := ⟨.hbm, 168, rfl⟩
abbrev main_c_25 : Ref sig .tc := ⟨.hbm, 169, rfl⟩
abbrev main_call9_v0 : Ref sig .tc := ⟨.hbm, 170, rfl⟩
abbrev main_call9_v1 : Ref sig .tc := ⟨.hbm, 171, rfl⟩
abbrev main_call9_v2 : Ref sig .tc := ⟨.hbm, 172, rfl⟩
abbrev main_call9_v3 : Ref sig .tc := ⟨.hbm, 173, rfl⟩
abbrev main_call9_v4 : Ref sig .tc := ⟨.hbm, 174, rfl⟩
abbrev main_v96 : Ref sig .tc := ⟨.hbm, 175, rfl⟩
abbrev main_c_26 : Ref sig .tc := ⟨.hbm, 176, rfl⟩
abbrev main_v97 : Ref sig .tc := ⟨.hbm, 177, rfl⟩
abbrev main_v98 : Ref sig .tc := ⟨.hbm, 178, rfl⟩
abbrev main_c_27 : Ref sig .tc := ⟨.hbm, 179, rfl⟩
abbrev main_v99 : Ref sig .tc := ⟨.hbm, 180, rfl⟩
abbrev main_v100 : Ref sig .tc := ⟨.hbm, 181, rfl⟩
abbrev main_c_28 : Ref sig .tc := ⟨.hbm, 182, rfl⟩
abbrev main_c_29 : Ref sig .tc := ⟨.hbm, 183, rfl⟩
abbrev main_call10_v0 : Ref sig .tc := ⟨.hbm, 184, rfl⟩
abbrev main_call10_v1 : Ref sig .tc := ⟨.hbm, 185, rfl⟩
abbrev main_call10_v2 : Ref sig .tc := ⟨.hbm, 186, rfl⟩
abbrev main_call10_v3 : Ref sig .tc := ⟨.hbm, 187, rfl⟩
abbrev main_call10_v4 : Ref sig .tc := ⟨.hbm, 188, rfl⟩
abbrev main_v101 : Ref sig .tc := ⟨.hbm, 189, rfl⟩
abbrev main_c_30 : Ref sig .tc := ⟨.hbm, 190, rfl⟩
abbrev main_call11_v0 : Ref sig .tc := ⟨.hbm, 191, rfl⟩
abbrev main_v102 : Ref sig .tc := ⟨.hbm, 192, rfl⟩
abbrev main_v103 : Ref sig .tc := ⟨.hbm, 193, rfl⟩
abbrev main_v104 : Ref sig .tc := ⟨.hbm, 194, rfl⟩
abbrev main_v105 : Ref sig .tc := ⟨.hbm, 195, rfl⟩
abbrev main_v106 : Ref sig .tc := ⟨.hbm, 196, rfl⟩
abbrev main_v107 : Ref sig .tc := ⟨.hbm, 197, rfl⟩
abbrev main_v108 : Ref sig .tc := ⟨.hbm, 198, rfl⟩
abbrev main_v109 : Ref sig .tc := ⟨.hbm, 199, rfl⟩
abbrev main_v110 : Ref sig .tc := ⟨.hbm, 200, rfl⟩
abbrev main_v111 : Ref sig .tc := ⟨.hbm, 201, rfl⟩
abbrev main_v112 : Ref sig .tc := ⟨.hbm, 202, rfl⟩
abbrev main_v113 : Ref sig .tc := ⟨.hbm, 203, rfl⟩
abbrev main_v114 : Ref sig .tc := ⟨.hbm, 204, rfl⟩
abbrev main_v115 : Ref sig .tc := ⟨.hbm, 205, rfl⟩
abbrev main_v116 : Ref sig .tc := ⟨.hbm, 206, rfl⟩
abbrev main_v117 : Ref sig .tc := ⟨.hbm, 207, rfl⟩
abbrev main_v118 : Ref sig .tc := ⟨.hbm, 208, rfl⟩
abbrev main_v119 : Ref sig .tc := ⟨.hbm, 209, rfl⟩
abbrev main_v120 : Ref sig .tc := ⟨.hbm, 210, rfl⟩
abbrev main_v121 : Ref sig .tc := ⟨.hbm, 211, rfl⟩
abbrev main_v122 : Ref sig .tc := ⟨.hbm, 212, rfl⟩
abbrev main_v123 : Ref sig .tc := ⟨.hbm, 213, rfl⟩
abbrev main_v124 : Ref sig .tc := ⟨.hbm, 214, rfl⟩
abbrev main_v125 : Ref sig .tc := ⟨.hbm, 215, rfl⟩
abbrev main_v126 : Ref sig .tc := ⟨.hbm, 216, rfl⟩
abbrev main_v127 : Ref sig .tc := ⟨.hbm, 217, rfl⟩
abbrev main_v128 : Ref sig .tc := ⟨.hbm, 218, rfl⟩
abbrev main_v129 : Ref sig .tc := ⟨.hbm, 219, rfl⟩
abbrev main_v130 : Ref sig .tc := ⟨.hbm, 220, rfl⟩
abbrev main_v131 : Ref sig .tc := ⟨.hbm, 221, rfl⟩
abbrev main_v132 : Ref sig .tc := ⟨.hbm, 222, rfl⟩
abbrev main_v133 : Ref sig .tc := ⟨.hbm, 223, rfl⟩
abbrev main_v134 : Ref sig .tc := ⟨.hbm, 224, rfl⟩
abbrev main_v135 : Ref sig .tc := ⟨.hbm, 225, rfl⟩
abbrev main_v136 : Ref sig .tc := ⟨.hbm, 226, rfl⟩
abbrev main_v137 : Ref sig .tc := ⟨.hbm, 227, rfl⟩
abbrev main_v138 : Ref sig .tc := ⟨.hbm, 228, rfl⟩
abbrev main_v139 : Ref sig .tc := ⟨.hbm, 229, rfl⟩
abbrev main_v140 : Ref sig .tc := ⟨.hbm, 230, rfl⟩
abbrev main_v141 : Ref sig .tc := ⟨.hbm, 231, rfl⟩
abbrev main_v142 : Ref sig .tc := ⟨.hbm, 232, rfl⟩
abbrev main_v143 : Ref sig .tc := ⟨.hbm, 233, rfl⟩
abbrev main_v144 : Ref sig .tc := ⟨.hbm, 234, rfl⟩
abbrev main_v145 : Ref sig .tc := ⟨.hbm, 235, rfl⟩
abbrev main_v146 : Ref sig .tc := ⟨.hbm, 236, rfl⟩
abbrev main_v147 : Ref sig .tc := ⟨.hbm, 237, rfl⟩
abbrev main_v148 : Ref sig .tc := ⟨.hbm, 238, rfl⟩
abbrev main_v149 : Ref sig .tc := ⟨.hbm, 239, rfl⟩
abbrev main_v150 : Ref sig .tc := ⟨.hbm, 240, rfl⟩
abbrev main_v151 : Ref sig .tc := ⟨.hbm, 241, rfl⟩
abbrev main_v152 : Ref sig .tc := ⟨.hbm, 242, rfl⟩
abbrev main_v153 : Ref sig .tc := ⟨.hbm, 243, rfl⟩
abbrev main_v154 : Ref sig .tc := ⟨.hbm, 244, rfl⟩
abbrev main_v155 : Ref sig .tc := ⟨.hbm, 245, rfl⟩
abbrev main_v156 : Ref sig .tc := ⟨.hbm, 246, rfl⟩
abbrev main_v157 : Ref sig .tc := ⟨.hbm, 247, rfl⟩
abbrev main_v158 : Ref sig .tc := ⟨.hbm, 248, rfl⟩
abbrev main_v159 : Ref sig .tc := ⟨.hbm, 249, rfl⟩
abbrev main_v160 : Ref sig .tc := ⟨.hbm, 250, rfl⟩
abbrev main_v161 : Ref sig .tc := ⟨.hbm, 251, rfl⟩
abbrev main_v162 : Ref sig .tc := ⟨.hbm, 252, rfl⟩
abbrev main_v163 : Ref sig .tc := ⟨.hbm, 253, rfl⟩
abbrev main_v164 : Ref sig .tc := ⟨.hbm, 254, rfl⟩
abbrev main_v165 : Ref sig .tc := ⟨.hbm, 255, rfl⟩
abbrev main_v166 : Ref sig .tc := ⟨.hbm, 256, rfl⟩
abbrev main_v167 : Ref sig .tc := ⟨.hbm, 257, rfl⟩
abbrev main_v168 : Ref sig .tc := ⟨.hbm, 258, rfl⟩
abbrev main_cst : Ref sig .tc := ⟨.hbm, 259, rfl⟩
abbrev main_v169 : Ref sig .tc := ⟨.hbm, 260, rfl⟩
abbrev main_v170 : Ref sig .tc := ⟨.hbm, 261, rfl⟩
abbrev main_cst_31 : Ref sig .tc := ⟨.hbm, 262, rfl⟩
abbrev main_v171 : Ref sig .tc := ⟨.hbm, 263, rfl⟩
abbrev main_v172 : Ref sig .tc := ⟨.hbm, 264, rfl⟩
abbrev main_cst_32 : Ref sig .tc := ⟨.hbm, 265, rfl⟩
abbrev main_v173 : Ref sig .tc := ⟨.hbm, 266, rfl⟩
abbrev main_v174 : Ref sig .tc := ⟨.hbm, 267, rfl⟩
abbrev main_v175 : Ref sig .tc := ⟨.hbm, 268, rfl⟩
abbrev main_v176 : Ref sig .tc := ⟨.hbm, 269, rfl⟩
abbrev main_v177 : Ref sig .tc := ⟨.hbm, 270, rfl⟩
abbrev main_v178 : Ref sig .tc := ⟨.hbm, 271, rfl⟩
abbrev main_v179 : Ref sig .tc := ⟨.hbm, 272, rfl⟩
abbrev main_v180 : Ref sig .tc := ⟨.hbm, 273, rfl⟩
abbrev main_v181 : Ref sig .tc := ⟨.hbm, 274, rfl⟩
abbrev main_v182 : Ref sig .tc := ⟨.hbm, 275, rfl⟩
abbrev main_cst_33 : Ref sig .tc := ⟨.hbm, 276, rfl⟩
abbrev main_v183 : Ref sig .tc := ⟨.hbm, 277, rfl⟩
abbrev main_v184 : Ref sig .tc := ⟨.hbm, 278, rfl⟩
abbrev main_v185 : Ref sig .tc := ⟨.hbm, 279, rfl⟩
abbrev main_v186 : Ref sig .tc := ⟨.hbm, 280, rfl⟩
abbrev main_v187 : Ref sig .tc := ⟨.hbm, 281, rfl⟩
abbrev main_v188 : Ref sig .tc := ⟨.hbm, 282, rfl⟩
abbrev main_v189 : Ref sig .tc := ⟨.hbm, 283, rfl⟩
abbrev main_cst_34 : Ref sig .tc := ⟨.hbm, 284, rfl⟩
abbrev main_v190 : Ref sig .tc := ⟨.hbm, 285, rfl⟩
abbrev main_v191 : Ref sig .tc := ⟨.hbm, 286, rfl⟩
abbrev main_v192 : Ref sig .tc := ⟨.hbm, 287, rfl⟩
abbrev main_v193 : Ref sig .tc := ⟨.hbm, 288, rfl⟩
abbrev main_v194 : Ref sig .tc := ⟨.hbm, 289, rfl⟩
abbrev main_call12_v0 : Ref sig .tc := ⟨.hbm, 290, rfl⟩
abbrev main_call12_v1 : Ref sig .tc := ⟨.hbm, 291, rfl⟩
abbrev main_call12_cst : Ref sig .tc := ⟨.hbm, 292, rfl⟩
abbrev main_call12_v2 : Ref sig .tc := ⟨.hbm, 293, rfl⟩
abbrev main_call12_v3 : Ref sig .tc := ⟨.hbm, 294, rfl⟩
abbrev main_call12_cst_0 : Ref sig .tc := ⟨.hbm, 295, rfl⟩
abbrev main_call12_v4 : Ref sig .tc := ⟨.hbm, 296, rfl⟩
abbrev main_call12_v5 : Ref sig .tc := ⟨.hbm, 297, rfl⟩
abbrev main_v195 : Ref sig .tc := ⟨.hbm, 298, rfl⟩
abbrev main_v196 : Ref sig .tc := ⟨.hbm, 299, rfl⟩
abbrev main_v197 : Ref sig .tc := ⟨.hbm, 300, rfl⟩
abbrev main_v198 : Ref sig .tc := ⟨.hbm, 301, rfl⟩
abbrev main_v199 : Ref sig .tc := ⟨.hbm, 302, rfl⟩
abbrev main_v200 : Ref sig .tc := ⟨.hbm, 303, rfl⟩
abbrev main_v201 : Ref sig .tc := ⟨.hbm, 304, rfl⟩
abbrev main_cst_35 : Ref sig .tc := ⟨.hbm, 305, rfl⟩
abbrev main_v202 : Ref sig .tc := ⟨.hbm, 306, rfl⟩
abbrev main_v203 : Ref sig .tc := ⟨.hbm, 307, rfl⟩
abbrev main_cst_36 : Ref sig .tc := ⟨.hbm, 308, rfl⟩
abbrev main_v204 : Ref sig .tc := ⟨.hbm, 309, rfl⟩
abbrev main_v205 : Ref sig .tc := ⟨.hbm, 310, rfl⟩
abbrev main_cst_37 : Ref sig .tc := ⟨.hbm, 311, rfl⟩
abbrev main_v206 : Ref sig .tc := ⟨.hbm, 312, rfl⟩
abbrev main_v207 : Ref sig .tc := ⟨.hbm, 313, rfl⟩
abbrev main_v208 : Ref sig .tc := ⟨.hbm, 314, rfl⟩
abbrev main_v209 : Ref sig .tc := ⟨.hbm, 315, rfl⟩
abbrev main_v210 : Ref sig .tc := ⟨.hbm, 316, rfl⟩
abbrev main_v211 : Ref sig .tc := ⟨.hbm, 317, rfl⟩
abbrev main_v212 : Ref sig .tc := ⟨.hbm, 318, rfl⟩
abbrev main_v213 : Ref sig .tc := ⟨.hbm, 319, rfl⟩

abbrev nD : Nat := 1
abbrev τ : Topo := Topo.v7x

variable {F : FTy → Type} [FloatOps F]
-- ==== Kernel3.lean ====
abbrev S32768x1024 : Shape := ⟨2, ![32768, 1024]⟩
abbrev S4096x1024 : Shape := ⟨2, ![4096, 1024]⟩
abbrev S24x1x9216 : Shape := ⟨3, ![24, 1, 9216]⟩
abbrev S1x3x1024 : Shape := ⟨3, ![1, 3, 1024]⟩
abbrev S1x1024x5632 : Shape := ⟨3, ![1, 1024, 5632]⟩
abbrev S3x1024 : Shape := ⟨2, ![3, 1024]⟩
abbrev S3x1x1024 : Shape := ⟨3, ![3, 1, 1024]⟩
abbrev S16 : Shape := ⟨1, ![16]⟩
abbrev S_ : Shape := ⟨0, ![]⟩
abbrev S1x16 : Shape := ⟨2, ![1, 16]⟩
abbrev S8x16 : Shape := ⟨2, ![8, 16]⟩
abbrev S128 : Shape := ⟨1, ![128]⟩
abbrev S1x128 : Shape := ⟨2, ![1, 128]⟩
abbrev S16x8x2048x128 : Shape := ⟨4, ![16, 8, 2048, 128]⟩
abbrev S32768x512 : Shape := ⟨2, ![32768, 512]⟩
abbrev S32768x2048 : Shape := ⟨2, ![32768, 2048]⟩
abbrev S16x8x256x128 : Shape := ⟨4, ![16, 8, 256, 128]⟩
abbrev S1024x1024 : Shape := ⟨2, ![1024, 1024]⟩
abbrev S128x1024 : Shape := ⟨2, ![128, 1024]⟩
abbrev S1x1x1024 : Shape := ⟨3, ![1, 1, 1024]⟩
abbrev S1x8x1024x128 : Shape := ⟨4, ![1, 8, 1024, 128]⟩
abbrev S1024x512 : Shape := ⟨2, ![1024, 512]⟩
abbrev S1024x2048 : Shape := ⟨2, ![1024, 2048]⟩
abbrev S1x8x128x128 : Shape := ⟨4, ![1, 8, 128, 128]⟩
abbrev S1024x5632 : Shape := ⟨2, ![1024, 5632]⟩
abbrev S2048x128 : Shape := ⟨2, ![2048, 128]⟩
abbrev S2x128x5632 : Shape := ⟨3, ![2, 128, 5632]⟩
abbrev S2 : Shape := ⟨1, ![2]⟩
abbrev S1 : Shape := ⟨1, ![1]⟩
abbrev S1x128x5632 : Shape := ⟨3, ![1, 128, 5632]⟩
abbrev S128x5632 : Shape := ⟨2, ![128, 5632]⟩
abbrev S64x128 : Shape := ⟨2, ![64, 128]⟩
abbrev S32x128 : Shape := ⟨2, ![32, 128]⟩
abbrev S512x1024 : Shape := ⟨2, ![512, 1024]⟩
abbrev S1x1024 : Shape := ⟨2, ![1, 1024]⟩
abbrev S512 : Shape := ⟨1, ![512]⟩
abbrev S512x1 : Shape := ⟨2, ![512, 1]⟩
abbrev S128x1 : Shape := ⟨2, ![128, 1]⟩
abbrev S640x1024 : Shape := ⟨2, ![640, 1024]⟩
abbrev S512x128 : Shape := ⟨2, ![512, 128]⟩
abbrev S1x1x512x128 : Shape := ⟨4, ![1, 1, 512, 128]⟩
abbrev S128x128 : Shape := ⟨2, ![128, 128]⟩
abbrev S1x1x128x128 : Shape := ⟨4, ![1, 1, 128, 128]⟩
abbrev S512x512 : Shape := ⟨2, ![512, 512]⟩
abbrev S512x2048 : Shape := ⟨2, ![512, 2048]⟩

abbrev nBuf : Space → Nat
  | .hbm => 26
  | .vmem => 31
  | .smem => 0
  | _ => 0

abbrev bufTy : (tb : Table) → Fin (tcTables nBuf tb) → BufTy
  | .hbm, ⟨0, _⟩ => ⟨S32768x1024, .f32⟩
  | .hbm, ⟨1, _⟩ => ⟨S4096x1024, .f32⟩
  | .hbm, ⟨2, _⟩ => ⟨S24x1x9216, .f32⟩
  | .hbm, ⟨3, _⟩ => ⟨S1x3x1024, .f32⟩
  | .hbm, ⟨4, _⟩ => ⟨S1x1024x5632, .f32⟩
  | .hbm, ⟨5, _⟩ => ⟨S3x1024, .f32⟩
  | .hbm, ⟨6, _⟩ => ⟨S3x1x1024, .f32⟩
  | .hbm, ⟨7, _⟩ => ⟨S16, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S1x16, .f32⟩
  | .hbm, ⟨16, _⟩ => ⟨S8x16, .f32⟩
  | .hbm, ⟨17, _⟩ => ⟨S128, .f32⟩
  | .hbm, ⟨18, _⟩ => ⟨S1x128, .f32⟩
  | .hbm, ⟨19, _⟩ => ⟨S16x8x2048x128, .bf16⟩
  | .hbm, ⟨20, _⟩ => ⟨S16x8x2048x128, .bf16⟩
  | .hbm, ⟨21, _⟩ => ⟨S16x8x2048x128, .bf16⟩
  | .hbm, ⟨22, _⟩ => ⟨S32768x512, .f32⟩
  | .hbm, ⟨23, _⟩ => ⟨S32768x2048, .bf16⟩
  | .hbm, ⟨24, _⟩ => ⟨S16x8x256x128, .bf16⟩
  | .hbm, ⟨25, _⟩ => ⟨S16x8x256x128, .bf16⟩
  | .local _ .vmem, ⟨0, _⟩ => ⟨S1024x1024, .f32⟩
  | .local _ .vmem, ⟨1, _⟩ => ⟨S1024x1024, .f32⟩
  | .local _ .vmem, ⟨2, _⟩ => ⟨S128x1024, .f32⟩
  | .local _ .vmem, ⟨3, _⟩ => ⟨S128x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x128, .f32⟩
  | .local _ .vmem, ⟨12, _⟩ => ⟨S1x8x1024x128, .bf16⟩
  | .local _ .vmem, ⟨13, _⟩ => ⟨S1x8x1024x128, .bf16⟩
  | .local _ .vmem, ⟨14, _⟩ => ⟨S1x8x1024x128, .bf16⟩
  | .local _ .vmem, ⟨15, _⟩ => ⟨S1x8x1024x128, .bf16⟩
  | .local _ .vmem, ⟨16, _⟩ => ⟨S1x8x1024x128, .bf16⟩
  | .local _ .vmem, ⟨17, _⟩ => ⟨S1x8x1024x128, .bf16⟩
  | .local _ .vmem, ⟨18, _⟩ => ⟨S1024x512, .f32⟩
  | .local _ .vmem, ⟨19, _⟩ => ⟨S1024x512, .f32⟩
  | .local _ .vmem, ⟨20, _⟩ => ⟨S1024x2048, .bf16⟩
  | .local _ .vmem, ⟨21, _⟩ => ⟨S1024x2048, .bf16⟩
  | .local _ .vmem, ⟨22, _⟩ => ⟨S1x8x128x128, .bf16⟩
  | .local _ .vmem, ⟨23, _⟩ => ⟨S1x8x128x128, .bf16⟩
  | .local _ .vmem, ⟨24, _⟩ => ⟨S1x8x128x128, .bf16⟩
  | .local _ .vmem, ⟨25, _⟩ => ⟨S1x8x128x128, .bf16⟩
  | .local _ .vmem, ⟨26, _⟩ => ⟨S1024x5632, .bf16⟩
  | .local _ .vmem, ⟨27, _⟩ => ⟨S2048x128, .f32⟩
  | .local _ .vmem, ⟨28, _⟩ => ⟨S2048x128, .f32⟩
  | .local _ .vmem, ⟨29, _⟩ => ⟨S2048x128, .f32⟩
  | .local _ .vmem, ⟨30, _⟩ => ⟨S2x128x5632, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev main_v12_2 : Ref sig .tc := ⟨.hbm, 21, rfl⟩
abbrev main_v12_3 : Ref sig .tc := ⟨.hbm, 22, rfl⟩
abbrev main_v12_4 : Ref sig .tc := ⟨.hbm, 23, rfl⟩
abbrev main_v12_5 : Ref sig .tc := ⟨.hbm, 24, rfl⟩
abbrev main_v12_6 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_scoped0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨1, ![32], ![false]⟩

def k0_mult1 (i : grid0.Coords) : BitVec 32 :=
  let arg0 : BitVec 32 := BitVec.ofNat 32 (i 0).val
  let c2_i32 : BitVec 32 := 2#32
  let c0_i32_43 : BitVec 32 := 0#32
  let v79 : BitVec 1 := Scalar.cmpi .eq c2_i32 c0_i32_43
  let c1_i32 : BitVec 32 := 1#32
  let v80 : BitVec 32 := Scalar.select v79 c1_i32 c2_i32
  let v81 : BitVec 32 := Scalar.remsi arg0 v80
  let c0_i32_45 : BitVec 32 := 0#32
  let v83 : BitVec 1 := Scalar.cmpi .slt v81 c0_i32_45
  let c0_i32_46 : BitVec 32 := 0#32
  let v84 : BitVec 1 := Scalar.cmpi .slt v80 c0_i32_46
  let v85 : BitVec 1 := Scalar.xori v83 v84
  let c0_i32_44 : BitVec 32 := 0#32
  let v82 : BitVec 1 := Scalar.cmpi .ne v81 c0_i32_44
  let v86 : BitVec 1 := Scalar.andi v85 v82
  let v87 : BitVec 32 := Scalar.addi v81 v80
  let v88 : BitVec 32 := Scalar.select v86 v87 v81
  let c1024_i32 : BitVec 32 := 1024#32
  let v89 : BitVec 32 := Scalar.muli v88 c1024_i32
  let c0_i32_50 : BitVec 32 := 0#32
  let v92 : BitVec 32 := Scalar.addi v89 c0_i32_50
  v92
def k0_off1 (i : grid0.Coords) (c0_i32_50 : BitVec 32) : Fin 2 → Nat :=
  let arg0 : BitVec 32 := BitVec.ofNat 32 (i 0).val
  let c2_i32 : BitVec 32 := 2#32
  let c0_i32_43 : BitVec 32 := 0#32
  let v79 : BitVec 1 := Scalar.cmpi .eq c2_i32 c0_i32_43
  let c1_i32 : BitVec 32 := 1#32
  let v80 : BitVec 32 := Scalar.select v79 c1_i32 c2_i32
  let v81 : BitVec 32 := Scalar.remsi arg0 v80
  let c0_i32_45 : BitVec 32 := 0#32
  let v83 : BitVec 1 := Scalar.cmpi .slt v81 c0_i32_45
  let c0_i32_46 : BitVec 32 := 0#32
  let v84 : BitVec 1 := Scalar.cmpi .slt v80 c0_i32_46
  let v85 : BitVec 1 := Scalar.xori v83 v84
  let c0_i32_44 : BitVec 32 := 0#32
  let v82 : BitVec 1 := Scalar.cmpi .ne v81 c0_i32_44
  let v86 : BitVec 1 := Scalar.andi v85 v82
  let v87 : BitVec 32 := Scalar.addi v81 v80
  let v88 : BitVec 32 := Scalar.select v86 v87 v81
  let c1024_i32 : BitVec 32 := 1024#32
  let v89 : BitVec 32 := Scalar.muli v88 c1024_i32
  let v92 : BitVec 32 := Scalar.addi v89 c0_i32_50
  let v93 : BitVec 32 := v92
  let v94 : Index := Scalar.indexCast v93
  let c0_51 : Index := 0#32
  ![v94.toNat, 0]
def k0_mult2 (i : grid0.Coords) : BitVec 32 :=
  let arg0 : BitVec 32 := BitVec.ofNat 32 (i 0).val
  let c2_i32 : BitVec 32 := 2#32
  let c0_i32_43 : BitVec 32 := 0#32
  let v79 : BitVec 1 := Scalar.cmpi .eq c2_i32 c0_i32_43
  let c1_i32 : BitVec 32 := 1#32
  let v80 : BitVec 32 := Scalar.select v79 c1_i32 c2_i32
  let v81 : BitVec 32 := Scalar.remsi arg0 v80
  let c0_i32_45 : BitVec 32 := 0#32
  let v83 : BitVec 1 := Scalar.cmpi .slt v81 c0_i32_45
  let c0_i32_46 : BitVec 32 := 0#32
  let v84 : BitVec 1 := Scalar.cmpi .slt v80 c0_i32_46
  let v85 : BitVec 1 := Scalar.xori v83 v84
  let c0_i32_44 : BitVec 32 := 0#32
  let v82 : BitVec 1 := Scalar.cmpi .ne v81 c0_i32_44
  let v86 : BitVec 1 := Scalar.andi v85 v82
  let v87 : BitVec 32 := Scalar.addi v81 v80
  let v88 : BitVec 32 := Scalar.select v86 v87 v81
  let c1024_i32 : BitVec 32 := 1024#32
  let v89 : BitVec 32 := Scalar.muli v88 c1024_i32
  let c512_i32 : BitVec 32 := 512#32
  let v214 : BitVec 32 := Scalar.addi v89 c512_i32
  v214
def k0_mult3 (i : grid0.Coords) : BitVec 32 :=
  let arg0 : BitVec 32 := BitVec.ofNat 32 (i 0).val
  let c2_i32 : BitVec 32 := 2#32
  let c0_i32_43 : BitVec 32 := 0#32
  let v79 : BitVec 1 := Scalar.cmpi .eq c2_i32 c0_i32_43
  let c1_i32 : BitVec 32 := 1#32
  let v80 : BitVec 32 := Scalar.select v79 c1_i32 c2_i32
  let v81 : BitVec 32 := Scalar.remsi arg0 v80
  let c0_i32_45 : BitVec 32 := 0#32
  let v83 : BitVec 1 := Scalar.cmpi .slt v81 c0_i32_45
  let c0_i32_46 : BitVec 32 := 0#32
  let v84 : BitVec 1 := Scalar.cmpi .slt v80 c0_i32_46
  let v85 : BitVec 1 := Scalar.xori v83 v84
  let c0_i32_44 : BitVec 32 := 0#32
  let v82 : BitVec 1 := Scalar.cmpi .ne v81 c0_i32_44
  let v86 : BitVec 1 := Scalar.andi v85 v82
  let v87 : BitVec 32 := Scalar.addi v81 v80
  let v88 : BitVec 32 := Scalar.select v86 v87 v81
  let c1024_i32 : BitVec 32 := 1024#32
  let v89 : BitVec 32 := Scalar.muli v88 c1024_i32
  let c0_i32_165 : BitVec 32 := 0#32
  let v336 : BitVec 32 := Scalar.addi v89 c0_i32_165
  v336
def k0_mult4 (i : grid0.Coords) : BitVec 32 :=
  let arg0 : BitVec 32 := BitVec.ofNat 32 (i 0).val
  let c2_i32 : BitVec 32 := 2#32
  let c0_i32_43 : BitVec 32 := 0#32
  let v79 : BitVec 1 := Scalar.cmpi .eq c2_i32 c0_i32_43
  let c1_i32 : BitVec 32 := 1#32
  let v80 : BitVec 32 := Scalar.select v79 c1_i32 c2_i32
  let v81 : BitVec 32 := Scalar.remsi arg0 v80
  let c0_i32_45 : BitVec 32 := 0#32
  let v83 : BitVec 1 := Scalar.cmpi .slt v81 c0_i32_45
  let c0_i32_46 : BitVec 32 := 0#32
  let v84 : BitVec 1 := Scalar.cmpi .slt v80 c0_i32_46
  let v85 : BitVec 1 := Scalar.xori v83 v84
  let c0_i32_44 : BitVec 32 := 0#32
  let v82 : BitVec 1 := Scalar.cmpi .ne v81 c0_i32_44
  let v86 : BitVec 1 := Scalar.andi v85 v82
  let v87 : BitVec 32 := Scalar.addi v81 v80
  let v88 : BitVec 32 := Scalar.select v86 v87 v81
  let c1024_i32 : BitVec 32 := 1024#32
  let v89 : BitVec 32 := Scalar.muli v88 c1024_i32
  let c512_i32_220 : BitVec 32 := 512#32
  let v442 : BitVec 32 := Scalar.addi v89 c512_i32_220
  v442
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c3_i32 : BitVec 32 := 3#32
  let c0_i32_5 : BitVec 32 := 0#32
  ![v17.toNat, c0_i32_4.toNat, c3_i32.toNat]

def cc0_transform_3 (i : grid0.Coords) : Fin 3 → Nat :=
  let arg0 : BitVec 32 := BitVec.ofNat 32 (i 0).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c4_i32 : BitVec 32 := 4#32
  let c0_i32_5 : BitVec 32 := 0#32
  ![v17.toNat, c0_i32_4.toNat, c4_i32.toNat]

def cc0_transform_4 (i : grid0.Coords) : Fin 3 → Nat :=
  let arg0 : BitVec 32 := BitVec.ofNat 32 (i 0).val
  let c16_i32 : BitVec 32 := 16#32
  let c0_i32 : BitVec 32 := 0#32
  let c3_i32 : BitVec 32 := 3#32
  let c0_i32_0 : BitVec 32 := 0#32
  ![c16_i32.toNat, c0_i32.toNat, c3_i32.toNat]

def cc0_transform_5 (i : grid0.Coords) : Fin 3 → Nat :=
  let arg0 : BitVec 32 := BitVec.ofNat 32 (i 0).val
  let c16_i32 : BitVec 32 := 16#32
  let c0_i32 : BitVec 32 := 0#32
  let c4_i32 : BitVec 32 := 4#32
  let c0_i32_0 : BitVec 32 := 0#32
  ![c16_i32.toNat, c0_i32.toNat, c4_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_10 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_11 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_15 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x8x1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x8x1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x8x1024x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x8x128x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x8x128x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference3Ideal.lean ====
abbrev S32768x1024 : Shape := ⟨2, ![32768, 1024]⟩
abbrev S4096x1024 : Shape := ⟨2, ![4096, 1024]⟩
abbrev S24x1x9216 : Shape := ⟨3, ![24, 1, 9216]⟩
abbrev S1x3x1024 : Shape := ⟨3, ![1, 3, 1024]⟩
abbrev S1x1024x5632 : Shape := ⟨3, ![1, 1024, 5632]⟩
abbrev S16x2048x1024 : Shape := ⟨3, ![16, 2048, 1024]⟩
abbrev S16x256x1024 : Shape := ⟨3, ![16, 256, 1024]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S1x1x1024 : Shape := ⟨3, ![1, 1, 1024]⟩
abbrev S1024 : Shape := ⟨1, ![1024]⟩
abbrev S16x1x9216 : Shape := ⟨3, ![16, 1, 9216]⟩
abbrev S1x1x9216 : Shape := ⟨3, ![1, 1, 9216]⟩
abbrev S_ : Shape := ⟨0, ![]⟩
abbrev S16x2048 : Shape := ⟨2, ![16, 2048]⟩
abbrev S16x2048x1 : Shape := ⟨3, ![16, 2048, 1]⟩
abbrev S16x1x1024 : Shape := ⟨3, ![16, 1, 1024]⟩
abbrev S16x256 : Shape := ⟨2, ![16, 256]⟩
abbrev S16x256x1 : Shape := ⟨3, ![16, 256, 1]⟩
abbrev S1024x5632 : Shape := ⟨2, ![1024, 5632]⟩
abbrev S16x2048x5632 : Shape := ⟨3, ![16, 2048, 5632]⟩
abbrev S1024x2048 : Shape := ⟨2, ![1024, 2048]⟩
abbrev S16x256x2048 : Shape := ⟨3, ![16, 256, 2048]⟩
abbrev S16x2048x8x2x64 : Shape := ⟨5, ![16, 2048, 8, 2, 64]⟩
abbrev S16x2048x8x2x32 : Shape := ⟨5, ![16, 2048, 8, 2, 32]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S1x2048x1x1x16 : Shape := ⟨5, ![1, 2048, 1, 1, 16]⟩
abbrev S16x2048x8x2x16 : Shape := ⟨5, ![16, 2048, 8, 2, 16]⟩
abbrev S16x2048x512 : Shape := ⟨3, ![16, 2048, 512]⟩
abbrev S16x2048x2048 : Shape := ⟨3, ![16, 2048, 2048]⟩
abbrev S16x2048x8x128 : Shape := ⟨4, ![16, 2048, 8, 128]⟩
abbrev S16x8x2048x128 : Shape := ⟨4, ![16, 8, 2048, 128]⟩
abbrev S32768x512 : Shape := ⟨2, ![32768, 512]⟩
abbrev S32768x2048 : Shape := ⟨2, ![32768, 2048]⟩
abbrev S16x256x8x128 : Shape := ⟨4, ![16, 256, 8, 128]⟩
abbrev S16x8x256x128 : Shape := ⟨4, ![16, 8, 256, 128]⟩

abbrev nBuf : Space → Nat
  | .hbm => 241
  | .vmem => 0
  | .smem => 0
  | _ => 0

abbrev hbmTy0_0 (i : Nat) : BufTy := match i % 128 with
  | 0 => ⟨S32768x1024, .f32⟩
  | 1 => ⟨S4096x1024, .f32⟩
  | 2 => ⟨S24x1x9216, .f32⟩
  | 3 => ⟨S1x3x1024, .f32⟩
  | 4 => ⟨S1x1024x5632, .f32⟩
  | 5 => ⟨S16x2048x1024, .f32⟩
  | 6 => ⟨S16x256x1024, .f32⟩
  | 7 => ⟨S32, .i32⟩
  | 8 => ⟨S32x64, .i32⟩
  | 9 => ⟨S2048, .i32⟩
  | 10 => ⟨S64, .i32⟩
  | 11 => ⟨S1x64, .i32⟩
  | 12 => ⟨S32x64, .i32⟩
  | 13 => ⟨S2048, .i32⟩
  | 14 => ⟨S1x1x1024, .f32⟩
  | 15 => ⟨S1024, .f32⟩
  | 16 => ⟨S16x1x9216, .f32⟩
  | 17 => ⟨S1x1x9216, .f32⟩
  | 18 => ⟨S16x2048x1024, .f32⟩
  | 19 => ⟨S_, .f32⟩
  | 20 => ⟨S16x2048, .f32⟩
  | 21 => ⟨S16x2048x1, .f32⟩
  | 22 => ⟨S_, .f32⟩
  | 23 => ⟨S16x2048x1, .f32⟩
  | 24 => ⟨S16x2048x1, .f32⟩
  | 25 => ⟨S_, .f32⟩
  | 26 => ⟨S16x2048x1, .f32⟩
  | 27 => ⟨S16x2048x1, .f32⟩
  | 28 => ⟨S16x2048x1, .f32⟩
  | 29 => ⟨S16x2048x1024, .f32⟩
  | 30 => ⟨S16x2048x1024, .f32⟩
  | 31 => ⟨S1x1x1024, .f32⟩
  | 32 => ⟨S16x2048x1024, .f32⟩
  | 33 => ⟨S16x2048x1024, .f32⟩
  | 34 => ⟨S16x1x1024, .f32⟩
  | 35 => ⟨S16x1x1024, .f32⟩
  | 36 => ⟨S_, .f32⟩
  | 37 => ⟨S16x1x1024, .f32⟩
  | 38 => ⟨S16x1x1024, .f32⟩
  | 39 => ⟨S16x2048x1024, .f32⟩
  | 40 => ⟨S16x2048x1024, .f32⟩
  | 41 => ⟨S16x2048x1024, .f32⟩
  | 42 => ⟨S16x2048x1024, .f32⟩
  | 43 => ⟨S16x256x1024, .f32⟩
  | 44 => ⟨S_, .f32⟩
  | 45 => ⟨S16x256, .f32⟩
  | 46 => ⟨S16x256x1, .f32⟩
  | 47 => ⟨S_, .f32⟩
  | 48 => ⟨S16x256x1, .f32⟩
  | 49 => ⟨S16x256x1, .f32⟩
  | 50 => ⟨S_, .f32⟩
  | 51 => ⟨S16x256x1, .f32⟩
  | 52 => ⟨S16x256x1, .f32⟩
  | 53 => ⟨S16x256x1, .f32⟩
  | 54 => ⟨S16x256x1024, .f32⟩
  | 55 => ⟨S16x256x1024, .f32⟩
  | 56 => ⟨S1x1x1024, .f32⟩
  | 57 => ⟨S16x256x1024, .f32⟩
  | 58 => ⟨S16x256x1024, .f32⟩
  | 59 => ⟨S1x1x1024, .f32⟩
  | 60 => ⟨S1x1x1024, .f32⟩
  | 61 => ⟨S_, .f32⟩
  | 62 => ⟨S1x1x1024, .f32⟩
  | 63 => ⟨S1x1x1024, .f32⟩
  | 64 => ⟨S16x256x1024, .f32⟩
  | 65 => ⟨S16x256x1024, .f32⟩
  | 66 => ⟨S16x256x1024, .f32⟩
  | 67 => ⟨S16x256x1024, .f32⟩
  | 68 => ⟨S1024x5632, .f32⟩
  | 69 => ⟨S16x2048x5632, .f32⟩
  | 70 => ⟨S1024x5632, .f32⟩
  | 71 => ⟨S1024x2048, .f32⟩
  | 72 => ⟨S16x256x2048, .f32⟩
  | 73 => ⟨S16x2048x1024, .f32⟩
  | 74 => ⟨S16x2048x8x2x64, .f32⟩
  | 75 => ⟨S16x2048x8x2x32, .f32⟩
  | 76 => ⟨S16, .f32⟩
  | 77 => ⟨S16, .f32⟩
  | 78 => ⟨S_, .f32⟩
  | 79 => ⟨S16, .f32⟩
  | 80 => ⟨S16, .f32⟩
  | 81 => ⟨S_, .f32⟩
  | 82 => ⟨S16, .f32⟩
  | 83 => ⟨S16, .f32⟩
  | 84 => ⟨S2048, .f32⟩
  | 85 => ⟨S2048x1, .f32⟩
  | 86 => ⟨S1x16, .f32⟩
  | 87 => ⟨S2048x16, .f32⟩
  | 88 => ⟨S2048x16, .f32⟩
  | 89 => ⟨S2048x16, .f32⟩
  | 90 => ⟨S2048x16, .f32⟩
  | 91 => ⟨S1x2048x1x1x16, .f32⟩
  | 92 => ⟨S2048x16, .f32⟩
  | 93 => ⟨S1x2048x1x1x16, .f32⟩
  | 94 => ⟨S16x2048x8x2x16, .f32⟩
  | 95 => ⟨S16x2048x8x2x16, .f32⟩
  | 96 => ⟨S16x2048x8x2x16, .f32⟩
  | 97 => ⟨S16x2048x8x2x16, .f32⟩
  | 98 => ⟨S16x2048x8x2x16, .f32⟩
  | 99 => ⟨S16x2048x8x2x16, .f32⟩
  | 100 => ⟨S16x2048x8x2x16, .f32⟩
  | 101 => ⟨S16x2048x8x2x16, .f32⟩
  | 102 => ⟨S16x2048x8x2x16, .f32⟩
  | 103 => ⟨S16x2048x8x2x16, .f32⟩
  | 104 => ⟨S16x2048x8x2x16, .f32⟩
  | 105 => ⟨S16x2048x8x2x16, .f32⟩
  | 106 => ⟨S16x2048x8x2x32, .f32⟩
  | 107 => ⟨S16x2048x8x2x32, .f32⟩
  | 108 => ⟨S16, .f32⟩
  | 109 => ⟨S16, .f32⟩
  | 110 => ⟨S_, .f32⟩
  | 111 => ⟨S16, .f32⟩
  | 112 => ⟨S16, .f32⟩
  | 113 => ⟨S_, .f32⟩
  | 114 => ⟨S16, .f32⟩
  | 115 => ⟨S16, .f32⟩
  | 116 => ⟨S2048, .f32⟩
  | 117 => ⟨S2048x1, .f32⟩
  | 118 => ⟨S1x16, .f32⟩
  | 119 => ⟨S2048x16, .f32⟩
  | 120 => ⟨S2048x16, .f32⟩
  | 121 => ⟨S2048x16, .f32⟩
  | 122 => ⟨S2048x16, .f32⟩
  | 123 => ⟨S1x2048x1x1x16, .f32⟩
  | 124 => ⟨S2048x16, .f32⟩
  | 125 => ⟨S1x2048x1x1x16, .f32⟩
  | 126 => ⟨S16x2048x8x2x16, .f32⟩
  | 127 => ⟨S16x2048x8x2x16, .f32⟩
  | _ => ⟨S32768x1024, .f32⟩

abbrev hbmTy0_1 (i : Nat) : BufTy := match i % 128 with
  | 0 => ⟨S16x2048x8x2x16, .f32⟩
  | 1 => ⟨S16x2048x8x2x16, .f32⟩
  | 2 => ⟨S16x2048x8x2x16, .f32⟩
  | 3 => ⟨S16x2048x8x2x16, .f32⟩
  | 4 => ⟨S16x2048x8x2x16, .f32⟩
  | 5 => ⟨S16x2048x8x2x16, .f32⟩
  | 6 => ⟨S16x2048x8x2x16, .f32⟩
  | 7 => ⟨S16x2048x8x2x16, .f32⟩
  | 8 => ⟨S16x2048x8x2x16, .f32⟩
  | 9 => ⟨S16x2048x8x2x16, .f32⟩
  | 10 => ⟨S16x2048x8x2x32, .f32⟩
  | 11 => ⟨S16x2048x8x2x64, .f32⟩
  | 12 => ⟨S16x2048x1024, .f32⟩
  | 13 => ⟨S16x2048x8x2x64, .f32⟩
  | 14 => ⟨S16x2048x8x2x32, .f32⟩
  | 15 => ⟨S16, .f32⟩
  | 16 => ⟨S16, .f32⟩
  | 17 => ⟨S_, .f32⟩
  | 18 => ⟨S16, .f32⟩
  | 19 => ⟨S16, .f32⟩
  | 20 => ⟨S_, .f32⟩
  | 21 => ⟨S16, .f32⟩
  | 22 => ⟨S16, .f32⟩
  | 23 => ⟨S2048, .f32⟩
  | 24 => ⟨S2048x1, .f32⟩
  | 25 => ⟨S1x16, .f32⟩
  | 26 => ⟨S2048x16, .f32⟩
  | 27 => ⟨S2048x16, .f32⟩
  | 28 => ⟨S2048x16, .f32⟩
  | 29 => ⟨S2048x16, .f32⟩
  | 30 => ⟨S1x2048x1x1x16, .f32⟩
  | 31 => ⟨S2048x16, .f32⟩
  | 32 => ⟨S1x2048x1x1x16, .f32⟩
  | 33 => ⟨S16x2048x8x2x16, .f32⟩
  | 34 => ⟨S16x2048x8x2x16, .f32⟩
  | 35 => ⟨S16x2048x8x2x16, .f32⟩
  | 36 => ⟨S16x2048x8x2x16, .f32⟩
  | 37 => ⟨S16x2048x8x2x16, .f32⟩
  | 38 => ⟨S16x2048x8x2x16, .f32⟩
  | 39 => ⟨S16x2048x8x2x16, .f32⟩
  | 40 => ⟨S16x2048x8x2x16, .f32⟩
  | 41 => ⟨S16x2048x8x2x16, .f32⟩
  | 42 => ⟨S16x2048x8x2x16, .f32⟩
  | 43 => ⟨S16x2048x8x2x16, .f32⟩
  | 44 => ⟨S16x2048x8x2x16, .f32⟩
  | 45 => ⟨S16x2048x8x2x32, .f32⟩
  | 46 => ⟨S16x2048x8x2x32, .f32⟩
  | 47 => ⟨S16, .f32⟩
  | 48 => ⟨S16, .f32⟩
  | 49 => ⟨S_, .f32⟩
  | 50 => ⟨S16, .f32⟩
  | 51 => ⟨S16, .f32⟩
  | 52 => ⟨S_, .f32⟩
  | 53 => ⟨S16, .f32⟩
  | 54 => ⟨S16, .f32⟩
  | 55 => ⟨S2048, .f32⟩
  | 56 => ⟨S2048x1, .f32⟩
  | 57 => ⟨S1x16, .f32⟩
  | 58 => ⟨S2048x16, .f32⟩
  | 59 => ⟨S2048x16, .f32⟩
  | 60 => ⟨S2048x16, .f32⟩
  | 61 => ⟨S2048x16, .f32⟩
  | 62 => ⟨S1x2048x1x1x16, .f32⟩
  | 63 => ⟨S2048x16, .f32⟩
  | 64 => ⟨S1x2048x1x1x16, .f32⟩
  | 65 => ⟨S16x2048x8x2x16, .f32⟩
  | 66 => ⟨S16x2048x8x2x16, .f32⟩
  | 67 => ⟨S16x2048x8x2x16, .f32⟩
  | 68 => ⟨S16x2048x8x2x16, .f32⟩
  | 69 => ⟨S16x2048x8x2x16, .f32⟩
  | 70 => ⟨S16x2048x8x2x16, .f32⟩
  | 71 => ⟨S16x2048x8x2x16, .f32⟩
  | 72 => ⟨S16x2048x8x2x16, .f32⟩
  | 73 => ⟨S16x2048x8x2x16, .f32⟩
  | 74 => ⟨S16x2048x8x2x16, .f32⟩
  | 75 => ⟨S16x2048x8x2x16, .f32⟩
  | 76 => ⟨S16x2048x8x2x16, .f32⟩
  | 77 => ⟨S16x2048x8x2x32, .f32⟩
  | 78 => ⟨S16x2048x8x2x64, .f32⟩
  | 79 => ⟨S16x2048x512, .f32⟩
  | 80 => ⟨S16x2048x2048, .f32⟩
  | 81 => ⟨S_, .f32⟩
  | 82 => ⟨S16x2048x8x2x64, .f32⟩
  | 83 => ⟨S16x2048x8x2x64, .f32⟩
  | 84 => ⟨S16x2048x8x128, .f32⟩
  | 85 => ⟨S16x8x2048x128, .f32⟩
  | 86 => ⟨S16x8x2048x128, .bf16⟩
  | 87 => ⟨S16x2048x8x128, .f32⟩
  | 88 => ⟨S16x8x2048x128, .f32⟩
  | 89 => ⟨S16x8x2048x128, .bf16⟩
  | 90 => ⟨S16x2048x1024, .f32⟩
  | 91 => ⟨S16x2048x8x128, .f32⟩
  | 92 => ⟨S16x8x2048x128, .f32⟩
  | 93 => ⟨S16x8x2048x128, .bf16⟩
  | 94 => ⟨S32768x512, .f32⟩
  | 95 => ⟨S16x2048x2048, .f32⟩
  | 96 => ⟨S16x2048x2048, .f32⟩
  | 97 => ⟨S_, .f32⟩
  | 98 => ⟨S16x2048x2048, .f32⟩
  | 99 => ⟨S16x2048x2048, .f32⟩
  | 100 => ⟨S_, .f32⟩
  | 101 => ⟨S16x2048x2048, .f32⟩
  | 102 => ⟨S16x2048x2048, .f32⟩
  | 103 => ⟨S16x2048x2048, .bf16⟩
  | 104 => ⟨S32768x2048, .bf16⟩
  | 105 => ⟨S16x256x1024, .f32⟩
  | 106 => ⟨S16x256x8x128, .f32⟩
  | 107 => ⟨S16x8x256x128, .f32⟩
  | 108 => ⟨S16x8x256x128, .bf16⟩
  | 109 => ⟨S16x256x1024, .f32⟩
  | 110 => ⟨S16x256x8x128, .f32⟩
  | 111 => ⟨S16x8x256x128, .f32⟩
  | 112 => ⟨S16x8x256x128, .bf16⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_2 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_3 : Ref sig .tc := ⟨.hbm, 44, rfl⟩
abbrev main_v35 : Ref sig .tc := ⟨.hbm, 45, rfl⟩
abbrev main_v36 : Ref sig .tc := ⟨.hbm, 46, rfl⟩
abbrev main_cst_4 : Ref sig .tc := ⟨.hbm, 47, rfl⟩
abbrev main_v37 : Ref sig .tc := ⟨.hbm, 48, rfl⟩
abbrev main_v38 : Ref sig .tc := ⟨.hbm, 49, rfl⟩
abbrev main_cst_5 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_6 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_cst_7 : Ref sig .tc := ⟨.hbm, 78, rfl⟩
abbrev main_v65 : Ref sig .tc := ⟨.hbm, 79, rfl⟩
abbrev main_v66 : Ref sig .tc := ⟨.hbm, 80, rfl⟩
abbrev main_cst_8 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_cst_9 : Ref sig .tc := ⟨.hbm, 110, rfl⟩
abbrev main_v95 : Ref sig .tc := ⟨.hbm, 111, rfl⟩
abbrev main_v96 : Ref sig .tc := ⟨.hbm, 112, rfl⟩
abbrev main_cst_10 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_cst_11 : Ref sig .tc := ⟨.hbm, 145, rfl⟩
abbrev main_v128 : Ref sig .tc := ⟨.hbm, 146, rfl⟩
abbrev main_v129 : Ref sig .tc := ⟨.hbm, 147, rfl⟩
abbrev main_cst_12 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_v144 : Ref sig .tc := ⟨.hbm, 163, rfl⟩
abbrev main_v145 : Ref sig .tc := ⟨.hbm, 164, rfl⟩
abbrev main_v146 : Ref sig .tc := ⟨.hbm, 165, rfl⟩
abbrev main_v147 : Ref sig .tc := ⟨.hbm, 166, rfl⟩
abbrev main_v148 : Ref sig .tc := ⟨.hbm, 167, rfl⟩
abbrev main_v149 : Ref sig .tc := ⟨.hbm, 168, rfl⟩
abbrev main_v150 : Ref sig .tc := ⟨.hbm, 169, rfl⟩
abbrev main_v151 : Ref sig .tc := ⟨.hbm, 170, rfl⟩
abbrev main_v152 : Ref sig .tc := ⟨.hbm, 171, rfl⟩
abbrev main_v153 : Ref sig .tc := ⟨.hbm, 172, rfl⟩
abbrev main_v154 : Ref sig .tc := ⟨.hbm, 173, rfl⟩
abbrev main_v155 : Ref sig .tc := ⟨.hbm, 174, rfl⟩
abbrev main_v156 : Ref sig .tc := ⟨.hbm, 175, rfl⟩
abbrev main_v157 : Ref sig .tc := ⟨.hbm, 176, rfl⟩
abbrev main_cst_13 : Ref sig .tc := ⟨.hbm, 177, rfl⟩
abbrev main_v158 : Ref sig .tc := ⟨.hbm, 178, rfl⟩
abbrev main_v159 : Ref sig .tc := ⟨.hbm, 179, rfl⟩
abbrev main_cst_14 : Ref sig .tc := ⟨.hbm, 180, rfl⟩
abbrev main_v160 : Ref sig .tc := ⟨.hbm, 181, rfl⟩
abbrev main_v161 : Ref sig .tc := ⟨.hbm, 182, rfl⟩
abbrev main_v162 : Ref sig .tc := ⟨.hbm, 183, rfl⟩
abbrev main_v163 : Ref sig .tc := ⟨.hbm, 184, rfl⟩
abbrev main_v164 : Ref sig .tc := ⟨.hbm, 185, rfl⟩
abbrev main_v165 : Ref sig .tc := ⟨.hbm, 186, rfl⟩
abbrev main_v166 : Ref sig .tc := ⟨.hbm, 187, rfl⟩
abbrev main_v167 : Ref sig .tc := ⟨.hbm, 188, rfl⟩
abbrev main_v168 : Ref sig .tc := ⟨.hbm, 189, rfl⟩
abbrev main_v169 : Ref sig .tc := ⟨.hbm, 190, rfl⟩
abbrev main_v170 : Ref sig .tc := ⟨.hbm, 191, rfl⟩
abbrev main_v171 : Ref sig .tc := ⟨.hbm, 192, rfl⟩
abbrev main_v172 : Ref sig .tc := ⟨.hbm, 193, rfl⟩
abbrev main_v173 : Ref sig .tc := ⟨.hbm, 194, rfl⟩
abbrev main_v174 : Ref sig .tc := ⟨.hbm, 195, rfl⟩
abbrev main_v175 : Ref sig .tc := ⟨.hbm, 196, rfl⟩
abbrev main_v176 : Ref sig .tc := ⟨.hbm, 197, rfl⟩
abbrev main_v177 : Ref sig .tc := ⟨.hbm, 198, rfl⟩
abbrev main_v178 : Ref sig .tc := ⟨.hbm, 199, rfl⟩
abbrev main_v179 : Ref sig .tc := ⟨.hbm, 200, rfl⟩
abbrev main_v180 : Ref sig .tc := ⟨.hbm, 201, rfl⟩
abbrev main_v181 : Ref sig .tc := ⟨.hbm, 202, rfl⟩
abbrev main_v182 : Ref sig .tc := ⟨.hbm, 203, rfl⟩
abbrev main_v183 : Ref sig .tc := ⟨.hbm, 204, rfl⟩
abbrev main_v184 : Ref sig .tc := ⟨.hbm, 205, rfl⟩
abbrev main_v185 : Ref sig .tc := ⟨.hbm, 206, rfl⟩
abbrev main_v186 : Ref sig .tc := ⟨.hbm, 207, rfl⟩
abbrev main_v187 : Ref sig .tc := ⟨.hbm, 208, rfl⟩
abbrev main_cst_15 : Ref sig .tc := ⟨.hbm, 209, rfl⟩
abbrev main_v188 : Ref sig .tc := ⟨.hbm, 210, rfl⟩
abbrev main_v189 : Ref sig .tc := ⟨.hbm, 211, rfl⟩
abbrev main_v190 : Ref sig .tc := ⟨.hbm, 212, rfl⟩
abbrev main_v191 : Ref sig .tc := ⟨.hbm, 213, rfl⟩
abbrev main_v192 : Ref sig .tc := ⟨.hbm, 214, rfl⟩
abbrev main_v193 : Ref sig .tc := ⟨.hbm, 215, rfl⟩
abbrev main_v194 : Ref sig .tc := ⟨.hbm, 216, rfl⟩
abbrev main_v195 : Ref sig .tc := ⟨.hbm, 217, rfl⟩
abbrev main_v196 : Ref sig .tc := ⟨.hbm, 218, rfl⟩
abbrev main_v197 : Ref sig .tc := ⟨.hbm, 219, rfl⟩
abbrev main_v198 : Ref sig .tc := ⟨.hbm, 220, rfl⟩
abbrev main_v199 : Ref sig .tc := ⟨.hbm, 221, rfl⟩
abbrev main_v200 : Ref sig .tc := ⟨.hbm, 222, rfl⟩
abbrev main_v201 : Ref sig .tc := ⟨.hbm, 223, rfl⟩
abbrev main_v202 : Ref sig .tc := ⟨.hbm, 224, rfl⟩
abbrev main_cst_16 : Ref sig .tc := ⟨.hbm, 225, rfl⟩
abbrev main_v203 : Ref sig .tc := ⟨.hbm, 226, rfl⟩
abbrev main_v204 : Ref sig .tc := ⟨.hbm, 227, rfl⟩
abbrev main_cst_17 : Ref sig .tc := ⟨.hbm, 228, rfl⟩
abbrev main_v205 : Ref sig .tc := ⟨.hbm, 229, rfl⟩
abbrev main_v206 : Ref sig .tc := ⟨.hbm, 230, rfl⟩
abbrev main_v207 : Ref sig .tc := ⟨.hbm, 231, rfl⟩
abbrev main_v208 : Ref sig .tc := ⟨.hbm, 232, rfl⟩
abbrev main_v209 : Ref sig .tc := ⟨.hbm, 233, rfl⟩
abbrev main_v210 : Ref sig .tc := ⟨.hbm, 234, rfl⟩
abbrev main_v211 : Ref sig .tc := ⟨.hbm, 235, rfl⟩
abbrev main_v212 : Ref sig .tc := ⟨.hbm, 236, rfl⟩
abbrev main_v213 : Ref sig .tc := ⟨.hbm, 237, rfl⟩
abbrev main_v214 : Ref sig .tc := ⟨.hbm, 238, rfl⟩
abbrev main_v215 : Ref sig .tc := ⟨.hbm, 239, rfl⟩
abbrev main_v216 : Ref sig .tc := ⟨.hbm, 240, rfl⟩

abbrev nD : Nat := 1
abbrev τ : Topo := Topo.v7x

variable {F : FTy → Type} [FloatOps F]
-- ==== Proof.Same.lean ====
/- The two printed programs have the same text: their kernel functions, and with them their tables of bodies, are equal. -/
module

public import proofs.«01_k».proof.Defs
public import proofs.«01_k».proof.Proof.Gen.Kernel
public import proofs.«01_k».proof.Proof.Gen.KernelIdeal

@[expose] public section

set_option maxRecDepth 100000
set_option maxHeartbeats 4000000

namespace Cert.Same

open Idealize.ShloMosaic Idealize.ShloMosaic.TcCoe

/-- The kernel functions are equal. -/
theorem ffn_eq : @Cert.Kernel.cc0_ffn Bits _ _ = @Cert.KernelIdeal.cc0_ffn Bits _ _ := rfl

/-- The tables of the kernels' bodies are equal. -/
theorem bodies_eq : Cert.Kernel.defs₀ (F := Bits) = Cert.KernelIdeal.defs₀ (F := Bits) := by
  refine congrArg (Defs.onTc (nD := Cert.Kernel.nD) (τ := Cert.Kernel.τ) (sig := Cert.Kernel.sig) (Λ := Cert.Kernel.Λ₀))
    (funext fun l => funext fun a => ?_)
  match l, a with
  | 0, (t, s) =>
    dsimp only
    rw [ffn_eq]
    rfl
  | ⟨_ + 1, h⟩, _ => exact absurd h (Nat.not_lt.2 (Nat.le_add_left _ _))

/-- The tables of all bodies are equal. -/
theorem defs_eq : Cert.Kernel.defs (F := Bits) = Cert.KernelIdeal.defs (F := Bits) :=
  congrArg (Pipeline.defs (Cert.Kernel.pcfgs (F := Bits))) bodies_eq

end Cert.Same

end
-- ==== Proof.Load.lean ====
/- The weight loads of the first grid point, as a program of its own, and the body split at its one condition. -/
module

public import proofs.«01_k».proof.Proof.Gen.KernelIdeal.Frame
public import proofs.«01_k».proof.Proof.Gen.KernelIdeal.Skeleton

@[expose] public section

set_option maxRecDepth 16384

noncomputable section

namespace Cert.KernelIdeal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

/-- Whether the body loads the weights at coordinates `i`: it does at the first point only. -/
abbrev first (i : grid0.Coords) : Prop :=
  Scalar.cmpi .ne (Scalar.extui (Scalar.cmpi .eq (BitVec.ofNat 32 (i 0).val) 0#32)) 0#32 = 1#1

theorem first_iff (t : Fin cfg0.N) : first (grid0.coords t) ↔ t.val = 0 := by
  have ht : t.val < 32 := Nat.lt_of_lt_of_eq t.isLt N_0
  have e0 : (grid0.coords t 0).val = t.val / 1 % 32 := Pipeline.Grid.coords_val t 0 (by decide) rfl
  have h : (first (grid0.coords t)) ↔ t.val % 32 = 0 := by
    simp only [first, e0]
    word_cmp
  rw [h]; omega

variable (i : grid0.Coords)
  (arg1 : Memref sig .tc .vmem S1024x1024 .f32) (harg1 : arg1.IsWhole) (arg2 : Memref sig .tc .vmem S128x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg12 : Memref sig .tc .vmem S1024x1024 .f32) (harg12 : arg12.IsWhole) (arg13 : Memref sig .tc .vmem S128x1024 .f32) (harg13 : arg13.IsWhole) (arg14 : Memref sig .tc .vmem S1024x5632 .bf16) (harg14 : arg14.IsWhole) (arg15 : Memref sig .tc .vmem S2816x1024 .bf16) (harg15 : arg15.IsWhole)
  (alloca_r0 : Memref sig .tc .vmem S2x128x5632 .f32) (halloca_r0 : alloca_r0.IsWhole) (alloca_r1 : Memref sig .tc .vmem S2x256x1024 .f32) (halloca_r1 : alloca_r1.IsWhole)

/-- What the body runs under its condition: the gate-and-up weights' eight bands, then the down weights' eleven, each
    copied into one of two staging slots while the slot before is rounded and stored. -/
def load : Prog (TpuEff nD τ sig (Elt F) Λ₀ .tc) PUnit := do
  let a ← k0_part1 i arg1 harg1 arg2 harg2 arg3 harg3 arg4 harg4 arg5 harg5 arg6 harg6 arg7 harg7 arg8 harg8 arg9 harg9 (Memref.whole main_arg4) (Memref.isWhole_whole _) (Memref.whole main_arg5) (Memref.isWhole_whole _) arg12 harg12 arg13 harg13 arg14 harg14 arg15 harg15 alloca_r0 halloca_r0 cc0_scoped1 alloca_r1 halloca_r1 cc0_scoped3
  k0_part2 i arg1 harg1 arg2 harg2 arg3 harg3 arg4 harg4 arg5 harg5 arg6 harg6 arg7 harg7 arg8 harg8 arg9 harg9 (Memref.whole main_arg4) (Memref.isWhole_whole _) (Memref.whole main_arg5) (Memref.isWhole_whole _) arg12 harg12 arg13 harg13 arg14 harg14 arg15 harg15 alloca_r0 halloca_r0 cc0_scoped1 alloca_r1 halloca_r1 cc0_scoped3 a
  k0_part3 i arg1 harg1 arg2 harg2 arg3 harg3 arg4 harg4 arg5 harg5 arg6 harg6 arg7 harg7 arg8 harg8 arg9 harg9 (Memref.whole main_arg4) (Memref.isWhole_whole _) (Memref.whole main_arg5) (Memref.isWhole_whole _) arg12 harg12 arg13 harg13 arg14 harg14 arg15 harg15 alloca_r0 halloca_r0 cc0_scoped1 alloca_r1 halloca_r1 cc0_scoped3
  k0_part4 i arg1 harg1 arg2 harg2 arg3 harg3 arg4 harg4 arg5 harg5 arg6 harg6 arg7 harg7 arg8 harg8 arg9 harg9 (Memref.whole main_arg4) (Memref.isWhole_whole _) (Memref.whole main_arg5) (Memref.isWhole_whole _) arg12 harg12 arg13 harg13 arg14 harg14 arg15 harg15 alloca_r0 halloca_r0 cc0_scoped1 alloca_r1 halloca_r1 cc0_scoped3
  k0_part5 i arg1 harg1 arg2 harg2 arg3 harg3 arg4 harg4 arg5 harg5 arg6 harg6 arg7 harg7 arg8 harg8 arg9 harg9 (Memref.whole main_arg4) (Memref.isWhole_whole _) (Memref.whole main_arg5) (Memref.isWhole_whole _) arg12 harg12 arg13 harg13 arg14 harg14 arg15 harg15 alloca_r0 halloca_r0 cc0_scoped1 alloca_r1 halloca_r1 cc0_scoped3
  k0_part6 i arg1 harg1 arg2 harg2 arg3 harg3 arg4 harg4 arg5 harg5 arg6 harg6 arg7 harg7 arg8 harg8 arg9 harg9 (Memref.whole main_arg4) (Memref.isWhole_whole _) (Memref.whole main_arg5) (Memref.isWhole_whole _) arg12 harg12 arg13 harg13 arg14 harg14 arg15 harg15 alloca_r0 halloca_r0 cc0_scoped1 alloca_r1 halloca_r1 cc0_scoped3
  k0_part7 i arg1 harg1 arg2 harg2 arg3 harg3 arg4 harg4 arg5 harg5 arg6 harg6 arg7 harg7 arg8 harg8 arg9 harg9 (Memref.whole main_arg4) (Memref.isWhole_whole _) (Memref.whole main_arg5) (Memref.isWhole_whole _) arg12 harg12 arg13 harg13 arg14 harg14 arg15 harg15 alloca_r0 halloca_r0 cc0_scoped1 alloca_r1 halloca_r1 cc0_scoped3
  k0_part8 i arg1 harg1 arg2 harg2 arg3 harg3 arg4 harg4 arg5 harg5 arg6 harg6 arg7 harg7 arg8 harg8 arg9 harg9 (Memref.whole main_arg4) (Memref.isWhole_whole _) (Memref.whole main_arg5) (Memref.isWhole_whole _) arg12 harg12 arg13 harg13 arg14 harg14 arg15 harg15 alloca_r0 halloca_r0 cc0_scoped1 alloca_r1 halloca_r1 cc0_scoped3
  let b ← k0_part9 i arg1 harg1 arg2 harg2 arg3 harg3 arg4 harg4 arg5 harg5 arg6 harg6 arg7 harg7 arg8 harg8 arg9 harg9 (Memref.whole main_arg4) (Memref.isWhole_whole _) (Memref.whole main_arg5) (Memref.isWhole_whole _) arg12 harg12 arg13 harg13 arg14 harg14 arg15 harg15 alloca_r0 halloca_r0 cc0_scoped1 alloca_r1 halloca_r1 cc0_scoped3
  k0_part10 i arg1 harg1 arg2 harg2 arg3 harg3 arg4 harg4 arg5 harg5 arg6 harg6 arg7 harg7 arg8 harg8 arg9 harg9 (Memref.whole main_arg4) (Memref.isWhole_whole _) (Memref.whole main_arg5) (Memref.isWhole_whole _) arg12 harg12 arg13 harg13 arg14 harg14 arg15 harg15 alloca_r0 halloca_r0 cc0_scoped1 alloca_r1 halloca_r1 cc0_scoped3 b
  k0_part11 i arg1 harg1 arg2 harg2 arg3 harg3 arg4 harg4 arg5 harg5 arg6 harg6 arg7 harg7 arg8 harg8 arg9 harg9 (Memref.whole main_arg4) (Memref.isWhole_whole _) (Memref.whole main_arg5) (Memref.isWhole_whole _) arg12 harg12 arg13 harg13 arg14 harg14 arg15 harg15 alloca_r0 halloca_r0 cc0_scoped1 alloca_r1 halloca_r1 cc0_scoped3
  let d ← k0_part12 i arg1 harg1 arg2 harg2 arg3 harg3 arg4 harg4 arg5 harg5 arg6 harg6 arg7 harg7 arg8 harg8 arg9 harg9 (Memref.whole main_arg4) (Memref.isWhole_whole _) (Memref.whole main_arg5) (Memref.isWhole_whole _) arg12 harg12 arg13 harg13 arg14 harg14 arg15 harg15 alloca_r0 halloca_r0 cc0_scoped1 alloca_r1 halloca_r1 cc0_scoped3
  k0_part13 i arg1 harg1 arg2 harg2 arg3 harg3 arg4 harg4 arg5 harg5 arg6 harg6 arg7 harg7 arg8 harg8 arg9 harg9 (Memref.whole main_arg4) (Memref.isWhole_whole _) (Memref.whole main_arg5) (Memref.isWhole_whole _) arg12 harg12 arg13 harg13 arg14 harg14 arg15 harg15 alloca_r0 halloca_r0 cc0_scoped1 alloca_r1 halloca_r1 cc0_scoped3 d
  k0_part14 i arg1 harg1 arg2 harg2 arg3 harg3 arg4 harg4 arg5 harg5 arg6 harg6 arg7 harg7 arg8 harg8 arg9 harg9 (Memref.whole main_arg4) (Memref.isWhole_whole _) (Memref.whole main_arg5) (Memref.isWhole_whole _) arg12 harg12 arg13 harg13 arg14 harg14 arg15 harg15 alloca_r0 halloca_r0 cc0_scoped1 alloca_r1 halloca_r1 cc0_scoped3
  pure ⟨⟩

set_option maxRecDepth 65536 in
/-- At the first point the body is the loads, then what it is at any later point. -/
theorem ffn_first (j : grid0.Coords) (hi : first i) (hj : ¬ first j) :
    cc0_ffn (F := F) i arg1 harg1 arg2 harg2 arg3 harg3 arg4 harg4 arg5 harg5 arg6 harg6 arg7 harg7 arg8 harg8 arg9 harg9 (Memref.whole main_arg4) (Memref.isWhole_whole _) (Memref.whole main_arg5) (Memref.isWhole_whole _) arg12 harg12 arg13 harg13 arg14 harg14 arg15 harg15 alloca_r0 halloca_r0 cc0_scoped1 alloca_r1 halloca_r1 cc0_scoped3
      = load i arg1 harg1 arg2 harg2 arg3 harg3 arg4 harg4 arg5 harg5 arg6 harg6 arg7 harg7 arg8 harg8 arg9 harg9 arg12 harg12 arg13 harg13 arg14 harg14 arg15 harg15 alloca_r0 halloca_r0 alloca_r1 halloca_r1 >>= fun _ => cc0_ffn j arg1 harg1 arg2 harg2 arg3 harg3 arg4 harg4 arg5 harg5 arg6 harg6 arg7 harg7 arg8 harg8 arg9 harg9 (Memref.whole main_arg4) (Memref.isWhole_whole _) (Memref.whole main_arg5) (Memref.isWhole_whole _) arg12 harg12 arg13 harg13 arg14 harg14 arg15 harg15 alloca_r0 halloca_r0 cc0_scoped1 alloca_r1 halloca_r1 cc0_scoped3 := by
  rw [cc0_ffn_eq_skeleton]
  unfold cc0_ffn_skel load
  rw [k0_part15_eq_skeleton]
  unfold k0_part15_skel
  dsimp only
  rw [dif_pos hi, dif_neg hj]
  rfl

end Cert.KernelIdeal.Ffn
-- ==== Proof.Slot.lean ====
/- Reading one slot of a two-slot stage after copies into its slots. -/
module

public import Idealize.ShloMosaic.Lib.ViewIndex
public import Idealize.ShloMosaic.Lib.Pipeline.Value

@[expose] public section

noncomputable section

namespace Cert.Slot

open Idealize.ShloMosaic

variable {sig : RefSig} {Val : EltTy → Type} {sp : Space} {s s2 : Shape} {e : EltTy}

/-- A slot read right after a copy into it is the copied block. -/
theorem slot_hit (m : Memref sig .tc sp s e) (r : Rect s) (hr : ∀ a, r.stride a = 1) (hq : r.shape.Squeezes s2)
    (f : m.view.ty.Contents Val) (w : s2.Idx → Val e) (hc : r.shape.ShapeCasts s2) :
    shapeCast s2 (m.view.readAt Val r.toLoadRect (((m.slice r hr).squeeze s2 hq).view.write Val f w Finset.univ)) hc = w :=
  View.read_write_univ (v := ((m.slice r hr).squeeze s2 hq).view) f w

/-- A copy into the other slot is not seen. -/
theorem slot_miss (m : Memref sig .tc sp s e) (r r' : Rect s) (hr : ∀ a, r'.stride a = 1) (hq : r'.shape.Squeezes s2)
    (f : m.view.ty.Contents Val) (w : s2.Idx → Val e) (hd : Disjoint r.set r'.set) :
    m.view.readAt Val r.toLoadRect (((m.slice r' hr).squeeze s2 hq).view.write Val f w Finset.univ)
      = m.view.readAt Val r.toLoadRect f := by
  refine View.readAt_congr fun i hi => View.write_of_not_mem _ _ _ fun hm => ?_
  have h1 : i ∈ (m.view.slice r).set := by rw [View.set_slice]; exact hi
  have h2 : i ∈ (m.view.slice r').set := by
    have := View.set_reshape (v := m.view.slice r') hq.numel_eq
    rw [← this]; exact hm
  exact Finset.disjoint_left.mp (View.disjoint_slice (v := m.view) (r := r) (r' := r') hd) h1 h2

/-- A band of whole rows holds an index whose row is in it. -/
theorem rows_mem {n m k o : ℕ} (y : (⟨2, ![n, m]⟩ : Shape).Idx) (inb : ∀ a, (![o, 0] : Fin 2 → ℕ) a + (![k, m] : Fin 2 → ℕ) a ≤ (![n, m] : Fin 2 → ℕ) a)
    (h : o ≤ (y 0).val ∧ (y 0).val < o + k) : y ∈ (Rect.unit (s := (⟨2, ![n, m]⟩ : Shape)) ![o, 0] ![k, m] inb).set := by
  rw [Rect.mem_set_unit]
  intro a
  match a with
  | ⟨0, _⟩ => exact h
  | ⟨1, _⟩ =>
    have h1 : (y 1).val < m := (y 1).isLt
    show 0 ≤ (y 1).val ∧ (y 1).val < 0 + m
    omega

end Cert.Slot
-- ==== Proof.Stage.lean ====
/- The weight arrays as the loads read them, and a stored band. -/
module

public import proofs.«01_k».proof.Proof.Load
public import proofs.«01_k».proof.Proof.Slot

@[expose] public section

set_option maxRecDepth 16384

noncomputable section

namespace Cert.KernelIdeal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

/-- The first matrix of the stack of gate-up weights, rounded: what the first scratch buffer holds. -/
abbrev guV : Memref sig .tc .hbm S1024x5632 .f32 :=
  ((Memref.whole main_arg4).slice (Rect.unit ![0, 0, 0, 0] S1x1x1024x5632.size inb_S1x2x1024x5632_S1x1x1024x5632_0_0_0_0) (fun _ => rfl)).squeeze
    S1024x5632 squeezes_S1x1x1024x5632_S1024x5632

/-- The first matrix of the stack of down weights. -/
abbrev dnV : Memref sig .tc .hbm S2816x1024 .f32 :=
  ((Memref.whole main_arg5).slice (Rect.unit ![0, 0, 0, 0] S1x1x2816x1024.size inb_S1x2x2816x1024_S1x1x2816x1024_0_0_0_0) (fun _ => rfl)).squeeze
    S2816x1024 squeezes_S1x1x2816x1024_S2816x1024

def wgu (fh0 : guV.view.ty.Contents (Elt F)) : FVec F S1024x5632 .bf16 := truncf .bf16 (guV.view.read (Elt F) fh0) bitsLt_bf16_f32

def wdn (fh1 : dnV.view.ty.Contents (Elt F)) : FVec F S2816x1024 .bf16 := truncf .bf16 (dnV.view.read (Elt F) fh1) bitsLt_bf16_f32

/-- A stored band is the copied block, rounded. -/
theorem band_gu (v : Vec F S1x128x5632 .f32) (w : FVec F S128x5632 .f32) (h : shapeCast S128x5632 v shapeCasts_S1x128x5632_S128x5632 = w) :
    k0_pay6 v = truncf .bf16 w bitsLt_bf16_f32 := by
  subst h; exact shapeCast_self _ _

theorem band_dn (v : Vec F S1x256x1024 .f32) (w : FVec F S256x1024 .f32) (h : shapeCast S256x1024 v shapeCasts_S1x256x1024_S256x1024 = w) :
    k0_pay13 v = truncf .bf16 w bitsLt_bf16_f32 := by
  subst h; exact shapeCast_self _ _

end Cert.KernelIdeal.Ffn
-- ==== Proof.LoadRun.lean ====
/- What the weight loads leave. -/
module

public import proofs.«01_k».proof.Proof.Stage

@[expose] public section

set_option maxRecDepth 16384

noncomputable section

namespace Cert.KernelIdeal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen Cert.Slot

variable {F : FTy → Type} [FloatOps F]

local notation "𝕄" => MT nD τ sig Unit (Elt F) ℕ (Pipeline.UD sig nD τ) ℕ

abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f
abbrev hbM0 : Memref sig .tc .hbm S1x2x1024x5632 .f32 := Memref.whole main_arg4
abbrev hbM1 : Memref sig .tc .hbm S1x2x2816x1024 .f32 := Memref.whole main_arg5

set_option maxHeartbeats 2304000 in set_option sl_exec.dmaWindow true in set_option sl_exec.dmaWindowSet true in
theorem load_run (c : Dev nD) (i : grid0.Coords) (arg1 : Memref sig .tc .vmem S1024x1024 .f32) (harg1 : arg1.IsWhole) (arg2 : Memref sig .tc .vmem S128x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg12 : Memref sig .tc .vmem S1024x1024 .f32) (harg12 : arg12.IsWhole) (arg13 : Memref sig .tc .vmem S128x1024 .f32) (harg13 : arg13.IsWhole) (arg14 : Memref sig .tc .vmem S1024x5632 .bf16) (harg14 : arg14.IsWhole) (arg15 : Memref sig .tc .vmem S2816x1024 .bf16) (harg15 : arg15.IsWhole)
    (alloca_r0 : Memref sig .tc .vmem S2x128x5632 .f32) (halloca_r0 : alloca_r0.IsWhole) (alloca_r1 : Memref sig .tc .vmem S2x256x1024 .f32) (halloca_r1 : alloca_r1.IsWhole)
    (fh0 : HbBuf (F := F) c hbM0) (fh1 : HbBuf (F := F) c hbM1) (W : Waits sig Unit) (K : PUnit → sProp 𝕄) :
    iprop((∃ d, owns (c : Thread nD τ) arg14 fullShare d) ∗ (∃ d, owns (c : Thread nD τ) arg15 fullShare d)
        ∗ (∃ d, owns (c : Thread nD τ) alloca_r0 fullShare d) ∗ (∃ d, owns (c : Thread nD τ) alloca_r1 fullShare d)
        ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0
        ∗ hbPt c hbM0 fh0 ∗ hbPt c hbM1 fh1 ∗ owes (c : Thread nD τ) 0 W
        ∗ (iprop(owns (c : Thread nD τ) arg14 fullShare (wgu fh0) ∗ owns (c : Thread nD τ) arg15 fullShare (wdn fh1)
        ∗ (∃ d, owns (c : Thread nD τ) alloca_r0 fullShare d) ∗ (∃ d, owns (c : Thread nD τ) alloca_r1 fullShare d)
        ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0
        ∗ hbPt c hbM0 fh0 ∗ hbPt c hbM1 fh1 ∗ ∃ W', owes (c : Thread nD τ) 0 W') -∗ K ⟨⟩))
      ⊢ wp frame (wpE (defs₀ (F := F)) Variants.none c none) Set.univ (load i arg1 harg1 arg2 harg2 arg3 harg3 arg4 harg4 arg5 harg5 arg6 harg6 arg7 harg7 arg8 harg8 arg9 harg9 arg12 harg12 arg13 harg13 arg14 harg14 arg15 harg15 alloca_r0 halloca_r0 alloca_r1 halloca_r1) K := by
  unfold load
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
  unfold owns
  iintro ⟨⟨%ds0, %fs0, -, HS0⟩, ⟨%ds1, %fs1, -, HS1⟩, ⟨%ds2, %fs2, -, HS2⟩, ⟨%ds3, %fs3, -, HS3⟩, Hq0, Hq1, Hq2, Hq3, Hh0, Hh1, HW, Hk⟩
  sl_exec
  sl_step
  iapply Hk
  isplitl [HS0]
  · iexists _; isplitr; swap; · iexact HS0
    ipureintro
    funext y
    refine View.read_writes_apply_of_pieces (Val := Elt F) arg14.view fs0 (e := .bf16) (wgu fh0) _ ?_ y ?_
    · simp only [List.forall_mem_cons, List.not_mem_nil, false_imp_iff, implies_true, and_true]
      refine ⟨fun x => congrFun (band_gu (load_run.sl.v641_r0 c alloca_r0 fh0 fs2) (load_run.sl.dma18 c fh0) ?_) x, fun x => congrFun (band_gu (load_run.sl.v628_r0 c alloca_r0 fh0 fs2) (load_run.sl.dma15 c fh0) ?_) x, fun x => congrFun (band_gu (load_run.sl.v608_r0 c alloca_r0 fh0 fs2) (load_run.sl.dma12 c fh0) ?_) x, fun x => congrFun (band_gu (load_run.sl.v588_r0 c alloca_r0 fh0 fs2) (load_run.sl.dma9 c fh0) ?_) x, fun x => congrFun (band_gu (load_run.sl.v568_r0 c alloca_r0 fh0 fs2) (load_run.sl.dma6 c fh0) ?_) x, fun x => congrFun (band_gu (load_run.sl.v548_r0 c alloca_r0 fh0 fs2) (load_run.sl.dma3 c fh0) ?_) x, fun x => congrFun (band_gu (load_run.sl.v528_r0 c alloca_r0 fh0 fs2) (load_run.sl.dma0_1 c fh0) ?_) x, fun x => congrFun (band_gu (load_run.sl.v508_r0 c alloca_r0 fh0 fs2) (load_run.sl.dma0 c fh0) ?_) x⟩
      · unfold load_run.sl.v641_r0; exact slot_hit _ _ _ _ _ _ _
      · unfold load_run.sl.v628_r0; rw [slot_miss (hd := Rect.unit_disjoint 0 (by decide))]; exact slot_hit _ _ _ _ _ _ _
      · unfold load_run.sl.v608_r0; rw [slot_miss (hd := Rect.unit_disjoint 0 (by decide))]; exact slot_hit _ _ _ _ _ _ _
      · unfold load_run.sl.v588_r0; rw [slot_miss (hd := Rect.unit_disjoint 0 (by decide))]; exact slot_hit _ _ _ _ _ _ _
      · unfold load_run.sl.v568_r0; rw [slot_miss (hd := Rect.unit_disjoint 0 (by decide))]; exact slot_hit _ _ _ _ _ _ _
      · unfold load_run.sl.v548_r0; rw [slot_miss (hd := Rect.unit_disjoint 0 (by decide))]; exact slot_hit _ _ _ _ _ _ _
      · unfold load_run.sl.v528_r0; rw [slot_miss (hd := Rect.unit_disjoint 0 (by decide))]; exact slot_hit _ _ _ _ _ _ _
      · unfold load_run.sl.v508_r0; rw [slot_miss (hd := Rect.unit_disjoint 0 (by decide))]; exact slot_hit _ _ _ _ _ _ _
    · have hy : (y 0).val < 1024 := (y 0).isLt
      obtain h | h | h | h | h | h | h | h : (0 ≤ (y 0).val ∧ (y 0).val < 0 + 128) ∨ (128 ≤ (y 0).val ∧ (y 0).val < 128 + 128) ∨ (256 ≤ (y 0).val ∧ (y 0).val < 256 + 128) ∨ (384 ≤ (y 0).val ∧ (y 0).val < 384 + 128) ∨ (512 ≤ (y 0).val ∧ (y 0).val < 512 + 128) ∨ (640 ≤ (y 0).val ∧ (y 0).val < 640 + 128) ∨ (768 ≤ (y 0).val ∧ (y 0).val < 768 + 128) ∨ (896 ≤ (y 0).val ∧ (y 0).val < 896 + 128) := by omega
      · exact ⟨_, List.Mem.tail _ (List.Mem.tail _ (List.Mem.tail _ (List.Mem.tail _ (List.Mem.tail _ (List.Mem.tail _ (List.Mem.tail _ (List.Mem.head _))))))), rows_mem (n := 1024) (m := 5632) (k := 128) (o := 0) y (by decide) h⟩
      · exact ⟨_, List.Mem.tail _ (List.Mem.tail _ (List.Mem.tail _ (List.Mem.tail _ (List.Mem.tail _ (List.Mem.tail _ (List.Mem.head _)))))), rows_mem (n := 1024) (m := 5632) (k := 128) (o := 128) y (by decide) h⟩
      · exact ⟨_, List.Mem.tail _ (List.Mem.tail _ (List.Mem.tail _ (List.Mem.tail _ (List.Mem.tail _ (List.Mem.head _))))), rows_mem (n := 1024) (m := 5632) (k := 128) (o := 256) y (by decide) h⟩
      · exact ⟨_, List.Mem.tail _ (List.Mem.tail _ (List.Mem.tail _ (List.Mem.tail _ (List.Mem.head _)))), rows_mem (n := 1024) (m := 5632) (k := 128) (o := 384) y (by decide) h⟩
      · exact ⟨_, List.Mem.tail _ (List.Mem.tail _ (List.Mem.tail _ (List.Mem.head _))), rows_mem (n := 1024) (m := 5632) (k := 128) (o := 512) y (by decide) h⟩
      · exact ⟨_, List.Mem.tail _ (List.Mem.tail _ (List.Mem.head _)), rows_mem (n := 1024) (m := 5632) (k := 128) (o := 640) y (by decide) h⟩
      · exact ⟨_, List.Mem.tail _ (List.Mem.head _), rows_mem (n := 1024) (m := 5632) (k := 128) (o := 768) y (by decide) h⟩
      · exact ⟨_, List.Mem.head _, rows_mem (n := 1024) (m := 5632) (k := 128) (o := 896) y (by decide) h⟩
  isplitl [HS1]
  · iexists _; isplitr; swap; · iexact HS1
    ipureintro
    funext y
    refine View.read_writes_apply_of_pieces (Val := Elt F) arg15.view fs1 (e := .bf16) (wdn fh1) _ ?_ y ?_
    · simp only [List.forall_mem_cons, List.not_mem_nil, false_imp_iff, implies_true, and_true]
      refine ⟨fun x => congrFun (band_dn (load_run.sl.v701_r1 c alloca_r1 fh1 fs3) (load_run.sl.dma51 c fh1) ?_) x, fun x => congrFun (band_dn (load_run.sl.v688_r1 c alloca_r1 fh1 fs3) (load_run.sl.dma48 c fh1) ?_) x, fun x => congrFun (band_dn (load_run.sl.v668_r1 c alloca_r1 fh1 fs3) (load_run.sl.dma45 c fh1) ?_) x, fun x => congrFun (band_dn (load_run.sl.v648_r1 c alloca_r1 fh1 fs3) (load_run.sl.dma42 c fh1) ?_) x, fun x => congrFun (band_dn (load_run.sl.v628_r1 c alloca_r1 fh1 fs3) (load_run.sl.dma39 c fh1) ?_) x, fun x => congrFun (band_dn (load_run.sl.v608_r1 c alloca_r1 fh1 fs3) (load_run.sl.dma36 c fh1) ?_) x, fun x => congrFun (band_dn (load_run.sl.v588_r1 c alloca_r1 fh1 fs3) (load_run.sl.dma33 c fh1) ?_) x, fun x => congrFun (band_dn (load_run.sl.v c alloca_r1 fh1 fs3) (load_run.sl.dma30 c fh1) ?_) x, fun x => congrFun (band_dn (load_run.sl.v548_r1 c alloca_r1 fh1 fs3) (load_run.sl.dma27 c fh1) ?_) x, fun x => congrFun (band_dn (load_run.sl.v528_r1 c alloca_r1 fh1 fs3) (load_run.sl.dma24_1 c fh1) ?_) x, fun x => congrFun (band_dn (load_run.sl.v508_r1 c alloca_r1 fh1 fs3) (load_run.sl.dma24 c fh1) ?_) x⟩
      · unfold load_run.sl.v701_r1; exact slot_hit _ _ _ _ _ _ _
      · unfold load_run.sl.v688_r1; rw [slot_miss (hd := Rect.unit_disjoint 0 (by decide))]; exact slot_hit _ _ _ _ _ _ _
      · unfold load_run.sl.v668_r1; rw [slot_miss (hd := Rect.unit_disjoint 0 (by decide))]; exact slot_hit _ _ _ _ _ _ _
      · unfold load_run.sl.v648_r1; rw [slot_miss (hd := Rect.unit_disjoint 0 (by decide))]; exact slot_hit _ _ _ _ _ _ _
      · unfold load_run.sl.v628_r1; rw [slot_miss (hd := Rect.unit_disjoint 0 (by decide))]; exact slot_hit _ _ _ _ _ _ _
      · unfold load_run.sl.v608_r1; rw [slot_miss (hd := Rect.unit_disjoint 0 (by decide))]; exact slot_hit _ _ _ _ _ _ _
      · unfold load_run.sl.v588_r1; rw [slot_miss (hd := Rect.unit_disjoint 0 (by decide))]; exact slot_hit _ _ _ _ _ _ _
      · unfold load_run.sl.v; rw [slot_miss (hd := Rect.unit_disjoint 0 (by decide))]; exact slot_hit _ _ _ _ _ _ _
      · unfold load_run.sl.v548_r1; rw [slot_miss (hd := Rect.unit_disjoint 0 (by decide))]; exact slot_hit _ _ _ _ _ _ _
      · unfold load_run.sl.v528_r1; rw [slot_miss (hd := Rect.unit_disjoint 0 (by decide))]; exact slot_hit _ _ _ _ _ _ _
      · unfold load_run.sl.v508_r1; rw [slot_miss (hd := Rect.unit_disjoint 0 (by decide))]; exact slot_hit _ _ _ _ _ _ _
    · have hy : (y 0).val < 2816 := (y 0).isLt
      obtain h | h | h | h | h | h | h | h | h | h | h : (0 ≤ (y 0).val ∧ (y 0).val < 0 + 256) ∨ (256 ≤ (y 0).val ∧ (y 0).val < 256 + 256) ∨ (512 ≤ (y 0).val ∧ (y 0).val < 512 + 256) ∨ (768 ≤ (y 0).val ∧ (y 0).val < 768 + 256) ∨ (1024 ≤ (y 0).val ∧ (y 0).val < 1024 + 256) ∨ (1280 ≤ (y 0).val ∧ (y 0).val < 1280 + 256) ∨ (1536 ≤ (y 0).val ∧ (y 0).val < 1536 + 256) ∨ (1792 ≤ (y 0).val ∧ (y 0).val < 1792 + 256) ∨ (2048 ≤ (y 0).val ∧ (y 0).val < 2048 + 256) ∨ (2304 ≤ (y 0).val ∧ (y 0).val < 2304 + 256) ∨ (2560 ≤ (y 0).val ∧ (y 0).val < 2560 + 256) := by omega
      · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.head _)))))))))), rows_mem (n := 2816) (m := 1024) (k := 256) (o := 0) y (by decide) h⟩
      · exact ⟨_, List.Mem.tail _ (List.Mem.tail _ (List.Mem.tail _ (List.Mem.tail _ (List.Mem.tail _ (List.Mem.tail _ (List.Mem.tail _ (List.Mem.tail _ (List.Mem.tail _ (List.Mem.head _))))))))), rows_mem (n := 2816) (m := 1024) (k := 256) (o := 256) y (by decide) h⟩
      · exact ⟨_, List.Mem.tail _ (List.Mem.tail _ (List.Mem.tail _ (List.Mem.tail _ (List.Mem.tail _ (List.Mem.tail _ (List.Mem.tail _ (List.Mem.tail _ (List.Mem.head _)))))))), rows_mem (n := 2816) (m := 1024) (k := 256) (o := 512) y (by decide) h⟩
      · exact ⟨_, List.Mem.tail _ (List.Mem.tail _ (List.Mem.tail _ (List.Mem.tail _ (List.Mem.tail _ (List.Mem.tail _ (List.Mem.tail _ (List.Mem.head _))))))), rows_mem (n := 2816) (m := 1024) (k := 256) (o := 768) y (by decide) h⟩
      · exact ⟨_, List.Mem.tail _ (List.Mem.tail _ (List.Mem.tail _ (List.Mem.tail _ (List.Mem.tail _ (List.Mem.tail _ (List.Mem.head _)))))), rows_mem (n := 2816) (m := 1024) (k := 256) (o := 1024) y (by decide) h⟩
      · exact ⟨_, List.Mem.tail _ (List.Mem.tail _ (List.Mem.tail _ (List.Mem.tail _ (List.Mem.tail _ (List.Mem.head _))))), rows_mem (n := 2816) (m := 1024) (k := 256) (o := 1280) y (by decide) h⟩
      · exact ⟨_, List.Mem.tail _ (List.Mem.tail _ (List.Mem.tail _ (List.Mem.tail _ (List.Mem.head _)))), rows_mem (n := 2816) (m := 1024) (k := 256) (o := 1536) y (by decide) h⟩
      · exact ⟨_, List.Mem.tail _ (List.Mem.tail _ (List.Mem.tail _ (List.Mem.head _))), rows_mem (n := 2816) (m := 1024) (k := 256) (o := 1792) y (by decide) h⟩
      · exact ⟨_, List.Mem.tail _ (List.Mem.tail _ (List.Mem.head _)), rows_mem (n := 2816) (m := 1024) (k := 256) (o := 2048) y (by decide) h⟩
      · exact ⟨_, List.Mem.tail _ (List.Mem.head _), rows_mem (n := 2816) (m := 1024) (k := 256) (o := 2304) y (by decide) h⟩
      · exact ⟨_, List.Mem.head _, rows_mem (n := 2816) (m := 1024) (k := 256) (o := 2560) y (by decide) h⟩
  isplitl [HS2]
  · iexists _, _; isplitr; swap; · iexact HS2
    ipureintro; rfl
  isplitl [HS3]
  · iexists _, _; isplitr; swap; · iexact HS3
    ipureintro; rfl
  isplitl [Hq0]
  · iexact Hq0
  isplitl [Hq1]
  · iexact Hq1
  isplitl [Hq2]
  · iexact Hq2
  isplitl [Hq3]
  · iexact Hq3
  isplitl [Hh0]
  · iexact Hh0
  isplitl [Hh1]
  · iexact Hh1
  iexists _; iexact HW
end Cert.KernelIdeal.Ffn
-- ==== Proof.CompRun.lean ====
/- The half-step at a point where the weights are already loaded: what it computes, and the run. -/
module

public import proofs.«01_k».proof.Proof.LoadRun

@[expose] public section

set_option maxRecDepth 16384

noncomputable section

namespace Cert.KernelIdeal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen Cert.Slot

variable {F : FTy → Type} [FloatOps F]

local notation "𝕄" => MT nD τ sig Unit (Elt F) ℕ (Pipeline.UD sig nD τ) ℕ

/-- One chunk of 256 hidden units on 512 rows: columns from `o` (gate) and `o'` (up), rows from `r` of the down weights. -/
def chA (h : FVec F S512x1024 .bf16) (wg : Vec F S1024x5632 .bf16) (wd : Vec F S2816x1024 .bf16) (o o' r : ℕ)
    (h1 : ∀ a, (![0, o] : Fin 2 → ℕ) a + S1024x256.size a ≤ S1024x5632.size a) (h2 : ∀ a, (![0, o'] : Fin 2 → ℕ) a + S1024x256.size a ≤ S1024x5632.size a)
    (h3 : ∀ a, (![r, 0] : Fin 2 → ℕ) a + S256x1024.size a ≤ S2816x1024.size a) : FVec F S512x1024 .f32 :=
  k0_pay32 h (View.ld wg (Rect.unit ![0, o] S1024x256.size h1)) (View.ld wg (Rect.unit ![0, o'] S1024x256.size h2)) (View.ld wd (Rect.unit ![r, 0] S256x1024.size h3))

/-- One chunk on 640 rows. -/
def chB (h : FVec F S640x1024 .bf16) (wg : Vec F S1024x5632 .bf16) (wd : Vec F S2816x1024 .bf16) (o o' r : ℕ)
    (h1 : ∀ a, (![0, o] : Fin 2 → ℕ) a + S1024x256.size a ≤ S1024x5632.size a) (h2 : ∀ a, (![0, o'] : Fin 2 → ℕ) a + S1024x256.size a ≤ S1024x5632.size a)
    (h3 : ∀ a, (![r, 0] : Fin 2 → ℕ) a + S256x1024.size a ≤ S2816x1024.size a) : FVec F S640x1024 .f32 :=
  k0_pay36 h (View.ld wg (Rect.unit ![0, o] S1024x256.size h1)) (View.ld wg (Rect.unit ![0, o'] S1024x256.size h2)) (View.ld wd (Rect.unit ![r, 0] S256x1024.size h3))

/-- The eleven chunks added, on 512 rows. -/
def ffA (h : FVec F S512x1024 .bf16) (wg : Vec F S1024x5632 .bf16) (wd : Vec F S2816x1024 .bf16) : FVec F S512x1024 .f32 :=
  (addf (addf (addf (addf (addf (addf (addf (addf (addf (addf (chA h wg wd 0 2816 0 inb_S1024x5632_S1024x256_0_0 inb_S1024x5632_S1024x256_0_2816 inb_S2816x1024_S256x1024_0_0)
    (chA h wg wd 256 3072 256 inb_S1024x5632_S1024x256_0_256 inb_S1024x5632_S1024x256_0_3072 inb_S2816x1024_S256x1024_256_0))
    (chA h wg wd 512 3328 512 inb_S1024x5632_S1024x256_0_512 inb_S1024x5632_S1024x256_0_3328 inb_S2816x1024_S256x1024_512_0))
    (chA h wg wd 768 3584 768 inb_S1024x5632_S1024x256_0_768 inb_S1024x5632_S1024x256_0_3584 inb_S2816x1024_S256x1024_768_0))
    (chA h wg wd 1024 3840 1024 inb_S1024x5632_S1024x256_0_1024 inb_S1024x5632_S1024x256_0_3840 inb_S2816x1024_S256x1024_1024_0))
    (chA h wg wd 1280 4096 1280 inb_S1024x5632_S1024x256_0_1280 inb_S1024x5632_S1024x256_0_4096 inb_S2816x1024_S256x1024_1280_0))
    (chA h wg wd 1536 4352 1536 inb_S1024x5632_S1024x256_0_1536 inb_S1024x5632_S1024x256_0_4352 inb_S2816x1024_S256x1024_1536_0))
    (chA h wg wd 1792 4608 1792 inb_S1024x5632_S1024x256_0_1792 inb_S1024x5632_S1024x256_0_4608 inb_S2816x1024_S256x1024_1792_0))
    (chA h wg wd 2048 4864 2048 inb_S1024x5632_S1024x256_0_2048 inb_S1024x5632_S1024x256_0_4864 inb_S2816x1024_S256x1024_2048_0))
    (chA h wg wd 2304 5120 2304 inb_S1024x5632_S1024x256_0_2304 inb_S1024x5632_S1024x256_0_5120 inb_S2816x1024_S256x1024_2304_0))
    (chA h wg wd 2560 5376 2560 inb_S1024x5632_S1024x256_0_2560 inb_S1024x5632_S1024x256_0_5376 inb_S2816x1024_S256x1024_2560_0))

/-- The eleven chunks added, on 640 rows. -/
def ffB (h : FVec F S640x1024 .bf16) (wg : Vec F S1024x5632 .bf16) (wd : Vec F S2816x1024 .bf16) : FVec F S640x1024 .f32 :=
  (addf (addf (addf (addf (addf (addf (addf (addf (addf (addf (chB h wg wd 0 2816 0 inb_S1024x5632_S1024x256_0_0 inb_S1024x5632_S1024x256_0_2816 inb_S2816x1024_S256x1024_0_0)
    (chB h wg wd 256 3072 256 inb_S1024x5632_S1024x256_0_256 inb_S1024x5632_S1024x256_0_3072 inb_S2816x1024_S256x1024_256_0))
    (chB h wg wd 512 3328 512 inb_S1024x5632_S1024x256_0_512 inb_S1024x5632_S1024x256_0_3328 inb_S2816x1024_S256x1024_512_0))
    (chB h wg wd 768 3584 768 inb_S1024x5632_S1024x256_0_768 inb_S1024x5632_S1024x256_0_3584 inb_S2816x1024_S256x1024_768_0))
    (chB h wg wd 1024 3840 1024 inb_S1024x5632_S1024x256_0_1024 inb_S1024x5632_S1024x256_0_3840 inb_S2816x1024_S256x1024_1024_0))
    (chB h wg wd 1280 4096 1280 inb_S1024x5632_S1024x256_0_1280 inb_S1024x5632_S1024x256_0_4096 inb_S2816x1024_S256x1024_1280_0))
    (chB h wg wd 1536 4352 1536 inb_S1024x5632_S1024x256_0_1536 inb_S1024x5632_S1024x256_0_4352 inb_S2816x1024_S256x1024_1536_0))
    (chB h wg wd 1792 4608 1792 inb_S1024x5632_S1024x256_0_1792 inb_S1024x5632_S1024x256_0_4608 inb_S2816x1024_S256x1024_1792_0))
    (chB h wg wd 2048 4864 2048 inb_S1024x5632_S1024x256_0_2048 inb_S1024x5632_S1024x256_0_4864 inb_S2816x1024_S256x1024_2048_0))
    (chB h wg wd 2304 5120 2304 inb_S1024x5632_S1024x256_0_2304 inb_S1024x5632_S1024x256_0_5120 inb_S2816x1024_S256x1024_2304_0))
    (chB h wg wd 2560 5376 2560 inb_S1024x5632_S1024x256_0_2560 inb_S1024x5632_S1024x256_0_5376 inb_S2816x1024_S256x1024_2560_0))

/-- The modulated rows 0..511. -/
def hA (x0 : Vec F S1024x1024 .f32) (x2 x3 x8 : Vec F S1x1x1024 .f32) : FVec F S512x1024 .bf16 :=
  k0_pay25 (View.ld x0 (Rect.unit ![0, 0] S512x1024.size inb_S1024x1024_S512x1024_0_0)) (View.ld x8 (Rect.unit ![0, 0, 0] S1x1x1024.size inb_S1x1x1024_S1x1x1024_0_0_0)) (View.ld x3 (Rect.unit ![0, 0, 0] S1x1x1024.size inb_S1x1x1024_S1x1x1024_0_0_0)) (View.ld x2 (Rect.unit ![0, 0, 0] S1x1x1024.size inb_S1x1x1024_S1x1x1024_0_0_0))

/-- The modulated rows 512..1023, and under them the modulated context rows. -/
def hB (x0 : Vec F S1024x1024 .f32) (x1 : Vec F S128x1024 .f32) (x2 x3 x5 x6 x8 : Vec F S1x1x1024 .f32) : FVec F S640x1024 .bf16 :=
  k0_pay31 (k0_pay28 (k0_pay26 (View.ld x0 (Rect.unit ![512, 0] S512x1024.size inb_S1024x1024_S512x1024_512_0))) (k0_pay27 (View.ld x8 (Rect.unit ![0, 0, 0] S1x1x1024.size inb_S1x1x1024_S1x1x1024_0_0_0))) (View.ld x3 (Rect.unit ![0, 0, 0] S1x1x1024.size inb_S1x1x1024_S1x1x1024_0_0_0)) (View.ld x2 (Rect.unit ![0, 0, 0] S1x1x1024.size inb_S1x1x1024_S1x1x1024_0_0_0)))
    (k0_pay29 (View.ld x8 (Rect.unit ![0, 0, 0] S1x1x1024.size inb_S1x1x1024_S1x1x1024_0_0_0)) (View.ld x6 (Rect.unit ![0, 0, 0] S1x1x1024.size inb_S1x1x1024_S1x1x1024_0_0_0))) (k0_pay30 (View.ld x1 (Rect.unit ![0, 0] S128x1024.size inb_S128x1024_S128x1024_0_0))) (View.ld x5 (Rect.unit ![0, 0, 0] S1x1x1024.size inb_S1x1x1024_S1x1x1024_0_0_0))

/-- What is stored in rows 0..511 of the latent block. -/
def outT (x0 : Vec F S1024x1024 .f32) (x1 : Vec F S128x1024 .f32) (x2 x3 x4 x5 x6 x7 x8 : Vec F S1x1x1024 .f32) (wg : Vec F S1024x5632 .bf16) (wd : Vec F S2816x1024 .bf16) : FVec F S512x1024 .f32 :=
  k0_pay1 (ffA (hA x0 x2 x3 x8) wg wd) (shapeCast S512x1024 (View.ld x0 (Rect.unit ![0, 0] S512x1024.size inb_S1024x1024_S512x1024_0_0)) shapeCasts_S512x1024_S512x1024)
    (broadcastTo S512x1024 (mulf (broadcast S1x1024 (Scalar.ofBits .f32 0x3F000000#32)) (shapeCast S1x1024 (View.ld x4 (Rect.unit ![0, 0, 0] S1x1x1024.size inb_S1x1x1024_S1x1x1024_0_0_0)) shapeCasts_S1x1x1024_S1x1024)) broadcasts_S1x1024_S512x1024)

/-- What is stored in rows 512..1023. -/
def outB (x0 : Vec F S1024x1024 .f32) (x1 : Vec F S128x1024 .f32) (x2 x3 x4 x5 x6 x7 x8 : Vec F S1x1x1024 .f32) (wg : Vec F S1024x5632 .bf16) (wd : Vec F S2816x1024 .bf16) : FVec F S512x1024 .f32 :=
  k0_pay2 (ffB (hB x0 x1 x2 x3 x5 x6 x8) wg wd) (View.ld x0 (Rect.unit ![512, 0] S512x1024.size inb_S1024x1024_S512x1024_512_0)) (View.ld x4 (Rect.unit ![0, 0, 0] S1x1x1024.size inb_S1x1x1024_S1x1x1024_0_0_0))

/-- The latent block stored. -/
def out9 (x0 : Vec F S1024x1024 .f32) (x1 : Vec F S128x1024 .f32) (x2 x3 x4 x5 x6 x7 x8 : Vec F S1x1x1024 .f32) (wg : Vec F S1024x5632 .bf16) (wd : Vec F S2816x1024 .bf16) : Vec F S1024x1024 .f32 :=
  View.canon (Val := Elt F) [⟨Rect.unit ![512, 0] S512x1024.size inb_S1024x1024_S512x1024_512_0, outB x0 x1 x2 x3 x4 x5 x6 x7 x8 wg wd⟩,
    ⟨Rect.unit ![0, 0] S512x1024.size inb_S1024x1024_S512x1024_0_0, outT x0 x1 x2 x3 x4 x5 x6 x7 x8 wg wd⟩]

/-- The context block stored. -/
def out10 (x0 : Vec F S1024x1024 .f32) (x1 : Vec F S128x1024 .f32) (x2 x3 x4 x5 x6 x7 x8 : Vec F S1x1x1024 .f32) (wg : Vec F S1024x5632 .bf16) (wd : Vec F S2816x1024 .bf16) : Vec F S128x1024 .f32 :=
  k0_pay3 (ffB (hB x0 x1 x2 x3 x5 x6 x8) wg wd) (View.ld x1 (Rect.unit ![0, 0] S128x1024.size inb_S128x1024_S128x1024_0_0)) (View.ld x7 (Rect.unit ![0, 0, 0] S1x1x1024.size inb_S1x1x1024_S1x1x1024_0_0_0))

set_option maxHeartbeats 2304000 in
theorem comp_run (c : Dev nD) (i : grid0.Coords) (arg1 : Memref sig .tc .vmem S1024x1024 .f32) (harg1 : arg1.IsWhole) (arg2 : Memref sig .tc .vmem S128x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg12 : Memref sig .tc .vmem S1024x1024 .f32) (harg12 : arg12.IsWhole) (arg13 : Memref sig .tc .vmem S128x1024 .f32) (harg13 : arg13.IsWhole) (arg14 : Memref sig .tc .vmem S1024x5632 .bf16) (harg14 : arg14.IsWhole) (arg15 : Memref sig .tc .vmem S2816x1024 .bf16) (harg15 : arg15.IsWhole)
    (alloca_r0 : Memref sig .tc .vmem S2x128x5632 .f32) (halloca_r0 : alloca_r0.IsWhole) (alloca_r1 : Memref sig .tc .vmem S2x256x1024 .f32) (halloca_r1 : alloca_r1.IsWhole)
    (hc0 : ¬ first i) (x0 : Vec F S1024x1024 .f32) (x1 : Vec F S128x1024 .f32) (x2 x3 x4 x5 x6 x7 x8 : Vec F S1x1x1024 .f32) (wg : Vec F S1024x5632 .bf16) (wd : Vec F S2816x1024 .bf16) (W : Waits sig Unit) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg12 fullShare d) ∗ (∃ d, owns (c : Thread nD τ) arg13 fullShare d) ∗ owns (c : Thread nD τ) arg14 fullShare wg ∗ owns (c : Thread nD τ) arg15 fullShare wd
        ∗ owes (c : Thread nD τ) 0 W
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg12 fullShare (out9 x0 x1 x2 x3 x4 x5 x6 x7 x8 wg wd) ∗ owns (c : Thread nD τ) arg13 fullShare (out10 x0 x1 x2 x3 x4 x5 x6 x7 x8 wg wd) ∗ owns (c : Thread nD τ) arg14 fullShare wg ∗ owns (c : Thread nD τ) arg15 fullShare wd ∗ ∃ W', owes (c : Thread nD τ) 0 W') -∗ K ⟨⟩))
      ⊢ wp frame (wpE (defs₀ (F := F)) Variants.none c none) Set.univ (cc0_ffn i arg1 harg1 arg2 harg2 arg3 harg3 arg4 harg4 arg5 harg5 arg6 harg6 arg7 harg7 arg8 harg8 arg9 harg9 (Memref.whole main_arg4) (Memref.isWhole_whole _) (Memref.whole main_arg5) (Memref.isWhole_whole _) arg12 harg12 arg13 harg13 arg14 harg14 arg15 harg15 alloca_r0 halloca_r0 cc0_scoped1 alloca_r1 halloca_r1 cc0_scoped3) K := by
  simp only [cc0_ffn_eq_skeleton]; unfold cc0_ffn_skel
  simp only [k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%fs0, %hfs0, HS0⟩, ⟨%fs1, %hfs1, HS1⟩, HW, Hk⟩
  subst hf0; subst hf1; subst hf2; subst hf3; subst hf4; subst hf5; subst hf6; subst hf7; subst hf8; subst hfs0; subst hfs1
  sl_exec (disch := first | sl_exact hc0)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]
  · iexists _; isplitr; swap; · iexact H9
    ipureintro
    refine Eq.trans (View.read_writes_eq_canon (Val := Elt F) arg12.view f9 (e := .f32)
      [⟨Rect.unit ![512, 0] S512x1024.size inb_S1024x1024_S512x1024_512_0, outB (arg1.view.read (Elt F) f0) (arg2.view.read (Elt F) f1) (arg3.view.read (Elt F) f2) (arg4.view.read (Elt F) f3) (arg5.view.read (Elt F) f4) (arg6.view.read (Elt F) f5) (arg7.view.read (Elt F) f6) (arg8.view.read (Elt F) f7) (arg9.view.read (Elt F) f8) (arg14.view.read (Elt F) fs0) (arg15.view.read (Elt F) fs1)⟩,
        ⟨Rect.unit ![0, 0] S512x1024.size inb_S1024x1024_S512x1024_0_0, outT (arg1.view.read (Elt F) f0) (arg2.view.read (Elt F) f1) (arg3.view.read (Elt F) f2) (arg4.view.read (Elt F) f3) (arg5.view.read (Elt F) f4) (arg6.view.read (Elt F) f5) (arg7.view.read (Elt F) f6) (arg8.view.read (Elt F) f7) (arg9.view.read (Elt F) f8) (arg14.view.read (Elt F) fs0) (arg15.view.read (Elt F) fs1)⟩] fun y => ?_) rfl
    have hy : (y 0).val < 1024 := (y 0).isLt
    obtain h | h : (0 ≤ (y 0).val ∧ (y 0).val < 0 + 512) ∨ (512 ≤ (y 0).val ∧ (y 0).val < 512 + 512) := by omega
    · exact ⟨_, List.Mem.tail _ (List.Mem.head _), rows_mem (n := 1024) (m := 1024) (k := 512) (o := 0) y (by decide) h⟩
    · exact ⟨_, List.Mem.head _, rows_mem (n := 1024) (m := 1024) (k := 512) (o := 512) y (by decide) h⟩
  isplitl [H10]
  · iexists _; isplitr; swap; · iexact H10
    ipureintro
    refine Eq.trans (View.read_writes_eq_canon (Val := Elt F) arg13.view f10 (e := .f32)
      [⟨Rect.unit ![0, 0] S128x1024.size inb_S128x1024_S128x1024_0_0, out10 (arg1.view.read (Elt F) f0) (arg2.view.read (Elt F) f1) (arg3.view.read (Elt F) f2) (arg4.view.read (Elt F) f3) (arg5.view.read (Elt F) f4) (arg6.view.read (Elt F) f5) (arg7.view.read (Elt F) f6) (arg8.view.read (Elt F) f7) (arg9.view.read (Elt F) f8) (arg14.view.read (Elt F) fs0) (arg15.view.read (Elt F) fs1)⟩] fun y => ?_) ?_
    · exact ⟨_, List.Mem.head _, rows_mem (n := 128) (m := 1024) (k := 128) (o := 0) y (by decide) ⟨Nat.zero_le _, by
        have hy : (y 0).val < 128 := (y 0).isLt
        omega⟩⟩
    · exact View.canon_unit_zero (Val := Elt F) (S := S128x1024) (by funext a; match a with | ⟨0, _⟩ => rfl | ⟨1, _⟩ => rfl) _ _
  isplitl [HS0]
  · iexists _; isplitr; swap; · iexact HS0
    ipureintro; rfl
  isplitl [HS1]
  · iexists _; isplitr; swap; · iexact HS1
    ipureintro; rfl
  iexists _; iexact HW
end Cert.KernelIdeal.Ffn
-- ==== Proof.Run.lean ====
/- The run of the whole call: what is carried from point to point, every point, the launch, and what it leaves. -/
module

public import proofs.«01_k».proof.Proof.CompRun
public import proofs.«01_k».proof.Proof.Gen.KernelIdeal.Frame

@[expose] public section

set_option maxRecDepth 16384

noncomputable section

namespace Cert.KernelIdeal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 800000 in
/-- The host operations before the call, then the call. -/
theorem hmain : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

/-- The four DMA semaphores the body waits on. -/
abbrev osem : Fin 4 → SemLoc sig := fun j => (![SemLoc.dma 18, SemLoc.dma 19, SemLoc.dma 20, SemLoc.dma 21] : Fin 4 → SemLoc sig) j
theorem osem_facts : Pipeline.OwnSemFacts spec0 osem := by decide

/-- The two weight arrays, which stay in HBM. -/
def Hb : Finset (Ref sig .tc) := {main_arg4, main_arg5}
theorem Hb_sub : Hb ⊆ Pipeline.restRefs sig spec0 := by decide

abbrev sc0 : Memref sig .tc .vmem S1024x5632 .bf16 := Memref.whole cc0_scratch0
abbrev sc1 : Memref sig .tc .vmem S2816x1024 .bf16 := Memref.whole cc0_scratch1
abbrev sc2 : Memref sig .tc .vmem S2x128x5632 .f32 := Memref.whole cc0_scoped0
abbrev sc3 : Memref sig .tc .vmem S2x256x1024 .f32 := Memref.whole cc0_scoped2

/-- The four semaphores at zero. -/
abbrev sems (c : Dev nD) : sProp 𝕄 :=
  iprop(semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0)

/-- What the launch gives besides the windows: the scratch buffers, the generator register, the semaphores and the weights in HBM. -/
theorem launch_eq (c : Dev nD) :
    (Pipeline.ΦD osem spec0 Hb (V m) c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d))
          ∗ (∃ r, prngReg c r) ∗ sems c ∗ iprop(hbPt c hbM0 (V m c main_arg4) ∗ hbPt c hbM1 (V m c main_arg5))) := by
  have hs : (Pipeline.ownSems0 (Ix := Unit) (Name := ℕ) (U := Pipeline.UD sig nD τ) (Lvl := ℕ) (Val := Elt F) (τ := τ) osem c : sProp 𝕄) = sems c := by
    rw [Pipeline.ownSems0_eq_of_list c osem [0, 1, 2, 3] (by decide) (by decide)]; rfl
  have hh : (bigSep Hb (fun b => ((c : Thread nD τ).loc b) ↦{fullShare} V m c b) : sProp 𝕄) = iprop(hbPt c hbM0 (V m c main_arg4) ∗ hbPt c hbM1 (V m c main_arg5)) := by
    rw [BI.bigSep_eq_bigSepL_of_eq [main_arg4, main_arg5] (by decide) (by decide)]; rfl
  rw [Pipeline.ΦD_eq, scopedRest0_eq, hs, hh]; simp only [sc0, sc1, sc2, sc3, owns_whole]; try rfl

/-- What holds after the first point: the two scratch buffers carry the weights in bf16. -/
def carried (c : Dev nD) : sProp 𝕄 :=
  iprop(iprop(owns (c : Thread nD τ) sc0 fullShare (wgu (V m c main_arg4)) ∗ owns (c : Thread nD τ) sc1 fullShare (wdn (V m c main_arg5)) ∗ (∃ d, owns (c : Thread nD τ) sc2 fullShare d) ∗ (∃ d, owns (c : Thread nD τ) sc3 fullShare d))
    ∗ (∃ r, prngReg c r) ∗ sems c ∗ iprop(hbPt c hbM0 (V m c main_arg4) ∗ hbPt c hbM1 (V m c main_arg5)))

/-- What holds besides the windows before point `n`. -/
def phi (c : Dev nD) (n : ℕ) : sProp 𝕄 := if n = 0 then Pipeline.ΦD osem spec0 Hb (V m) c else carried m c
theorem phi_zero (c : Dev nD) {n : ℕ} (h : n = 0) : phi m c n = Pipeline.ΦD osem spec0 Hb (V m) c := if_pos h
theorem phi_pos (c : Dev nD) {n : ℕ} (h : ¬ n = 0) : phi m c n = carried m c := if_neg h

/-- The block of the first result at point `t`. -/
def res9 (c : Dev nD) (t : Fin cfg0.N) : Vec F S1024x1024 .f32 :=
  out9 (iblk m c 0 t) (iblk m c 1 t) (iblk m c 2 t) (iblk m c 3 t) (iblk m c 4 t) (iblk m c 5 t) (iblk m c 6 t) (iblk m c 7 t) (iblk m c 8 t) (wgu (V m c main_arg4)) (wdn (V m c main_arg5))
/-- The block of the second result at point `t`. -/
def res10 (c : Dev nD) (t : Fin cfg0.N) : Vec F S128x1024 .f32 :=
  out10 (iblk m c 0 t) (iblk m c 1 t) (iblk m c 2 t) (iblk m c 3 t) (iblk m c 4 t) (iblk m c 5 t) (iblk m c 6 t) (iblk m c 7 t) (iblk m c 8 t) (wgu (V m c main_arg4)) (wdn (V m c main_arg5))

/-- The proof data: inputs left as found, the two results' blocks as computed, the weights carried from the first point on. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => res9 m c t
    | ⟨10, _⟩ => res10 m c t
  Φ t := phi m c t.val
  q w := Pipeline.shareOf spec0 w
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = res9 m c t := by dsimp only [dats]
theorem after_10 (c : Dev nD) (t : Fin cfg0.N) : (dats m 0 c).after 10 t = res10 m c t := by dsimp only [dats]
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin cfg0.N) (d) : (dats m 0 c).before 7 t d = iblk m c 7 t :=
  ((dats m 0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem before_8 (c : Dev nD) (t : Fin cfg0.N) (d) : (dats m 0 c).before 8 t d = iblk m c 8 t :=
  ((dats m 0 c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)

/-- What a point starts with, and what it ends with. -/
def pre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d)))
def post (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ owns (c : Thread nD τ) (win0_10.stage (cfg0.slots t 10)) fullShare ((dats m 0 c).after 10 t))

/-- A point other than the first, of the grid. -/
abbrev next : grid0.Coords := grid0.coords (⟨1, Nat.lt_of_lt_of_eq (by decide : 1 < 32) N_0.symm⟩ : Fin cfg0.N)
theorem next_not_first : ¬ first next := fun h => absurd ((first_iff (⟨1, Nat.lt_of_lt_of_eq (by decide : 1 < 32) N_0.symm⟩ : Fin cfg0.N)).mp h) (by decide)

set_option maxHeartbeats 2400000 in
/-- The body at any point: the first loads the weights and then computes, every other only computes. -/
theorem body_run (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3, before_4, before_5, before_6, before_7, before_8]
  rw [after_0, after_1, after_2, after_3, after_4, after_5, after_6, after_7, after_8, after_9, after_10]
  rw [show (dats m 0 c).Φ t.succ = phi m c (t.val + 1) from rfl, phi_pos m c (Nat.succ_ne_zero _)]
  unfold Dat.owesAt Pipeline.owesWithin
  rw [show (dats m 0 c).owed t.castSucc = 0 from rfl, show (dats m 0 c).owed t.succ = 0 from rfl]
  unfold res9 res10
  by_cases h0 : t.val = 0
  · rw [show (dats m 0 c).Φ t.castSucc = phi m c t.val from rfl, phi_zero m c h0, launch_eq]
    unfold carried
    rw [ffn_first (hi := (first_iff t).mpr h0) (hj := next_not_first)]
    rw [wp_bind]
    iintro ⟨⟨⟨HS0, HS1, HS2, HS3⟩, Hg, ⟨Hq0, Hq1, Hq2, Hq3⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (load_run c (grid0.coords t) _ _ _ _ _ _ _ _ _ _ _ _ _ _ _ _ _ _ _ _ _ _ _ _ _ _ _ _ _ _ (V m c main_arg4) (V m c main_arg5) W _)
    isplitl [HS0]; · iexact HS0
    isplitl [HS1]; · iexact HS1
    isplitl [HS2]; · iexact HS2
    isplitl [HS3]; · iexact HS3
    isplitl [Hq0]; · iexact Hq0
    isplitl [Hq1]; · iexact Hq1
    isplitl [Hq2]; · iexact Hq2
    isplitl [Hq3]; · iexact Hq3
    isplitl [Hh0]; · iexact Hh0
    isplitl [Hh1]; · iexact Hh1
    isplitl [HW]; · iexact HW
    iintro ⟨HS0, HS1, HS2, HS3, Hq0, Hq1, Hq2, Hq3, Hh0, Hh1, ⟨%W', HW⟩⟩
    iapply (comp_run c next _ _ _ _ _ _ _ _ _ _ _ _ _ _ _ _ _ _ _ _ _ _ _ _ _ _ _ _ _ _ next_not_first (iblk m c 0 t) (iblk m c 1 t) (iblk m c 2 t) (iblk m c 3 t) (iblk m c 4 t) (iblk m c 5 t) (iblk m c 6 t) (iblk m c 7 t) (iblk m c 8 t) (wgu (V m c main_arg4)) (wdn (V m c main_arg5)) _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [HS0]; · iexact HS0
    isplitl [HS1]; · iexact HS1
    isplitl [HW]; · iexact HW
    iintro ⟨H0, H1, H2, H3, H4, H5, H6, H7, H8, H9, H10, HS0, HS1, ⟨%W2, HW2⟩⟩
    isplitl [HS0 HS1 HS2 HS3 Hg Hq0 Hq1 Hq2 Hq3 Hh0 Hh1]
    · isplitl [HS0 HS1 HS2 HS3]
      · isplitl [HS0]; · iexact HS0
        isplitl [HS1]; · iexact HS1
        isplitl [HS2]; · iexact HS2
        iexact HS3
      isplitl [Hg]; · iexact Hg
      isplitl [Hq0 Hq1 Hq2 Hq3]
      · isplitl [Hq0]; · iexact Hq0
        isplitl [Hq1]; · iexact Hq1
        isplitl [Hq2]; · iexact Hq2
        iexact Hq3
      isplitl [Hh0]; · iexact Hh0
      iexact Hh1
    isplitl [HW2]
    · iexists W2; isplitr; · ipureintro; exact fun _ _ => Or.inl trivial
      iexact HW2
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · rw [show (dats m 0 c).Φ t.castSucc = phi m c t.val from rfl, phi_pos m c h0]
    unfold carried
    iintro ⟨⟨⟨HS0, HS1, HS2, HS3⟩, Hg, Hq, Hh⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (comp_run c (grid0.coords t) _ _ _ _ _ _ _ _ _ _ _ _ _ _ _ _ _ _ _ _ _ _ _ _ _ _ _ _ _ _ (fun h => h0 ((first_iff t).mp h)) (iblk m c 0 t) (iblk m c 1 t) (iblk m c 2 t) (iblk m c 3 t) (iblk m c 4 t) (iblk m c 5 t) (iblk m c 6 t) (iblk m c 7 t) (iblk m c 8 t) (wgu (V m c main_arg4)) (wdn (V m c main_arg5)) _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [HS0]; · iexact HS0
    isplitl [HS1]; · iexact HS1
    isplitl [HW]; · iexact HW
    iintro ⟨H0, H1, H2, H3, H4, H5, H6, H7, H8, H9, H10, HS0, HS1, ⟨%W2, HW2⟩⟩
    isplitl [HS0 HS1 HS2 HS3 Hg Hq Hh]
    · isplitl [HS0 HS1 HS2 HS3]
      · isplitl [HS0]; · iexact HS0
        isplitl [HS1]; · iexact HS1
        isplitl [HS2]; · iexact HS2
        iexact HS3
      isplitl [Hg]; · iexact Hg
      isplitl [Hq]; · iexact Hq
      iexact Hh
    isplitl [HW2]
    · iexists W2; isplitr; · ipureintro; exact fun _ _ => Or.inl trivial
      iexact HW2
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (body_run m c t) rfl .rfl fun _ => .rfl

theorem last_ne : ¬ (Fin.last cfg0.N).val = 0 := fun h => absurd ((show (Fin.last cfg0.N).val = 32 from N_0).symm.trans h) (by decide)

theorem carried_in (c : Dev nD) : Pipeline.ΦD osem spec0 Hb (V m) c ⊢ (dats m 0 c).Φ 0 := by
  rw [show (dats m 0 c).Φ 0 = phi m c 0 from rfl, phi_zero m c rfl]

/-- What is carried at the end is, contents forgotten, what the launch gave. -/
theorem carried_out (c : Dev nD) : (dats m 0 c).Φ (Fin.last cfg0.N) ⊢ Pipeline.ΦD osem spec0 Hb (V m) c := by
  rw [show (dats m 0 c).Φ (Fin.last cfg0.N) = phi m c (Fin.last cfg0.N).val from rfl, phi_pos m c last_ne, launch_eq]
  unfold carried
  iintro ⟨⟨HS0, HS1, HS2, HS3⟩, Hg, Hq, Hh⟩
  isplitl [HS0 HS1 HS2 HS3]
  · isplitl [HS0]; · iexists _; iexact HS0
    isplitl [HS1]; · iexists _; iexact HS1
    isplitl [HS2]; · iexact HS2
    iexact HS3
  isplitl [Hg]; · iexact Hg
  isplitl [Hq]; · iexact Hq
  iexact Hh

set_option backward.isDefEq.respectTransparency.types false in
/-- The run: every array a window stages ends as the points leave it, every other buffer as the call found it, the semaphores at zero. -/
theorem run_main : θ_run defs (onTc (τ := τ) (main (F := F))) (s₀ m ρ) (fun r => Pipeline.FramePost cfgs (dats m) 0 (V m) r ∧ r.2.sem = fun _ => 0) :=
  Pipeline.θ_run_frame_dma_shared (Q' := _) cfgs (dats m) (0 : Fin 1) launch₀0 osem defs₀ Variants.none osem_facts Hb Hb_sub m ρ main
    (hbody := fun c => (body_obligation m c).loose) (hq := fun _ _ _ => rfl)
    (howed := fun _ _ => rfl) (V := V m) (hmain := hmain m) (hA := A_eq m)
    (hin := carried_in m) (hout := carried_out m)

/-- The arguments end as they were. -/
theorem args_kept (r) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).1 7).trans (((dats m 0 c).arrAt_in 7 rfl _).trans ((A_eq m c 7).trans (V_main_arg2 m c))),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩

end Cert.KernelIdeal.Ffn
-- ==== Proof.Spec.lean ====
/- One row of the half-step, on extended reals: RMS normalisation with modulation, the gated feed-forward, the gated residual. -/
module

public import Idealize.ShloMosaic.PureOps.Ideal
public import Idealize.ShloMosaic.PureOps.Ideal.Laws
public import Idealize.ShloMosaic.Lib.IdealHost

@[expose] public section

noncomputable section

namespace Cert.Rows

open Idealize.ShloMosaic

/-- The constant `0.5`. -/
abbrev half : EReal := Ideal.ofBits .f32 0x3F000000#32

theorem half_eq : half = ((1 / 2 : ℝ) : EReal) := by
  simp [half, Ideal.ofBits, Ideal.ieee, -EReal.coe_mul]; norm_num

/-- The logistic function, written with `tanh`, at every extended real. -/
theorem sigmoid_tanh (x : EReal) : half * Ideal.tanh (half * x) + half = Ideal.logistic x := by
  rw [half_eq]
  induction x with
  | bot =>
    rw [EReal.coe_mul_bot_of_pos (by norm_num), Ideal.tanh_bot, Ideal.logistic_bot]
    rw [show (-1 : EReal) = ((-1 : ℝ) : EReal) by rw [EReal.coe_neg, EReal.coe_one], ← EReal.coe_mul, ← EReal.coe_add]; norm_num
  | top =>
    rw [EReal.coe_mul_top_of_pos (by norm_num), Ideal.tanh_top, Ideal.logistic_top, mul_one, ← EReal.coe_add]; norm_num
  | coe r =>
    rw [← EReal.coe_mul, Ideal.tanh_coe, Ideal.logistic_coe, ← EReal.coe_mul, ← EReal.coe_add, EReal.coe_eq_coe_iff]
    have hp := Real.exp_pos (1 / 2 * r)
    have hn := Real.exp_pos (-(1 / 2 * r))
    have e1 : Real.exp (-r) = Real.exp (-(1 / 2 * r)) * Real.exp (-(1 / 2 * r)) := by rw [← Real.exp_add]; congr 1; ring
    have e2 : Real.exp (1 / 2 * r) * Real.exp (-(1 / 2 * r)) = 1 := by rw [← Real.exp_add]; simp
    rw [Real.tanh_eq_sinh_div_cosh, Real.sinh_eq, Real.cosh_eq, e1]
    have h1 : Real.exp (1 / 2 * r) + Real.exp (-(1 / 2 * r)) ≠ 0 := by positivity
    have h2 : 1 + Real.exp (-(1 / 2 * r)) * Real.exp (-(1 / 2 * r)) ≠ 0 := by positivity
    generalize Real.exp (1 / 2 * r) = a at *
    generalize Real.exp (-(1 / 2 * r)) = b at *
    field_simp
    linear_combination 2 * b * e2

/-- RMS normalisation of a row, scaled and shifted. -/
def nrm (x g sh sc : Fin 1024 → EReal) (k : Fin 1024) : EReal :=
  x k * Ideal.rsqrt (Ideal.div (∑ q, x q * x q) (Ideal.ofBits .f32 0x44800000#32) + Ideal.ofBits .f32 0x358637BD#32) * (g k * (1 + sc k)) + sh k

/-- Hidden unit `j`'s product with the gate: `silu(h·w_gate) * (h·w_up)`. -/
def unit (h : Fin 1024 → EReal) (wg : Fin 1024 → Fin 5632 → EReal) (j : Fin 2816) : EReal :=
  (∑ q, h q * wg q ⟨j.val, by omega⟩) * Ideal.logistic (∑ q, h q * wg q ⟨j.val, by omega⟩) * ∑ q, h q * wg q ⟨2816 + j.val, by omega⟩

/-- The gated feed-forward at column `c`. -/
def ff (h : Fin 1024 → EReal) (wg : Fin 1024 → Fin 5632 → EReal) (wd : Fin 2816 → Fin 1024 → EReal) (c : Fin 1024) : EReal :=
  ∑ j, unit h wg j * wd j c

/-- The whole half-step on a row. -/
def step (x g sh sc gt : Fin 1024 → EReal) (wg : Fin 1024 → Fin 5632 → EReal) (wd : Fin 2816 → Fin 1024 → EReal) (c : Fin 1024) : EReal :=
  x c + half * gt c * ff (nrm x g sh sc) wg wd c

/-- One chunk of 256 hidden units, those from `o`. -/
def chunk (h : Fin 1024 → EReal) (wg : Fin 1024 → Fin 5632 → EReal) (wd : Fin 2816 → Fin 1024 → EReal) (c : Fin 1024) (o : ℕ) (ho : o + 256 ≤ 2816) : EReal :=
  ∑ k : Fin 256, unit h wg ⟨o + k.val, by omega⟩ * wd ⟨o + k.val, by omega⟩ c

/-- A sum of 2816 terms is the sum of its eleven runs of 256. -/
theorem sum_chunks (f : Fin 2816 → EReal) :
    ((((((((((∑ k : Fin 256, f ⟨0 + k.val, by omega⟩) + ∑ k : Fin 256, f ⟨256 + k.val, by omega⟩) + ∑ k : Fin 256, f ⟨512 + k.val, by omega⟩)
      + ∑ k : Fin 256, f ⟨768 + k.val, by omega⟩) + ∑ k : Fin 256, f ⟨1024 + k.val, by omega⟩) + ∑ k : Fin 256, f ⟨1280 + k.val, by omega⟩)
      + ∑ k : Fin 256, f ⟨1536 + k.val, by omega⟩) + ∑ k : Fin 256, f ⟨1792 + k.val, by omega⟩) + ∑ k : Fin 256, f ⟨2048 + k.val, by omega⟩)
      + ∑ k : Fin 256, f ⟨2304 + k.val, by omega⟩) + ∑ k : Fin 256, f ⟨2560 + k.val, by omega⟩ = ∑ j, f j := by
  let g : ℕ → EReal := fun n => if h : n < 2816 then f ⟨n, h⟩ else 0
  have hg : ∀ n (h : n < 2816), f ⟨n, h⟩ = g n := fun n h => by simp only [g, dif_pos h]
  have hs : ∀ o (ho : o + 256 ≤ 2816), (∑ k : Fin 256, f ⟨o + k.val, by omega⟩) = ∑ k ∈ Finset.range 256, g (o + k) := fun o ho => by
    rw [Finset.sum_range]; exact Finset.sum_congr rfl fun k _ => hg _ _
  rw [hs 0 (by norm_num), hs 256 (by norm_num), hs 512 (by norm_num), hs 768 (by norm_num), hs 1024 (by norm_num), hs 1280 (by norm_num),
    hs 1536 (by norm_num), hs 1792 (by norm_num), hs 2048 (by norm_num), hs 2304 (by norm_num), hs 2560 (by norm_num)]
  have hall : (∑ j, f j) = ∑ n ∈ Finset.range 2816, g n := by
    rw [Finset.sum_range]; exact Finset.sum_congr rfl fun k _ => hg _ _
  rw [hall, show (2816 : ℕ) = 2560 + 256 from rfl, Finset.sum_range_add, show (2560 : ℕ) = 2304 + 256 from rfl, Finset.sum_range_add,
    show (2304 : ℕ) = 2048 + 256 from rfl, Finset.sum_range_add, show (2048 : ℕ) = 1792 + 256 from rfl, Finset.sum_range_add,
    show (1792 : ℕ) = 1536 + 256 from rfl, Finset.sum_range_add, show (1536 : ℕ) = 1280 + 256 from rfl, Finset.sum_range_add,
    show (1280 : ℕ) = 1024 + 256 from rfl, Finset.sum_range_add, show (1024 : ℕ) = 768 + 256 from rfl, Finset.sum_range_add,
    show (768 : ℕ) = 512 + 256 from rfl, Finset.sum_range_add, show (512 : ℕ) = 256 + 256 from rfl, Finset.sum_range_add]
  simp only [Nat.zero_add]

/-- The feed-forward, chunk by chunk. -/
theorem ff_chunks (h : Fin 1024 → EReal) (wg : Fin 1024 → Fin 5632 → EReal) (wd : Fin 2816 → Fin 1024 → EReal) (c : Fin 1024) :
    ((((((((((chunk h wg wd c 0 (by norm_num) + chunk h wg wd c 256 (by norm_num)) + chunk h wg wd c 512 (by norm_num)) + chunk h wg wd c 768 (by norm_num))
      + chunk h wg wd c 1024 (by norm_num)) + chunk h wg wd c 1280 (by norm_num)) + chunk h wg wd c 1536 (by norm_num)) + chunk h wg wd c 1792 (by norm_num))
      + chunk h wg wd c 2048 (by norm_num)) + chunk h wg wd c 2304 (by norm_num)) + chunk h wg wd c 2560 (by norm_num)) = ff h wg wd c :=
  sum_chunks fun j => unit h wg j * wd j c

end Cert.Rows

end

end
-- ==== Proof.KernelValue.lean ====
/- What the body stores, read at an element: every stored row is the half-step of that row. -/
module

public import proofs.«01_k».proof.Proof.CompRun
public import proofs.«01_k».proof.Proof.Spec
public import Idealize.ShloMosaic.Lib.Pointwise

@[expose] public section

set_option maxRecDepth 16384

noncomputable section

namespace Cert.KernelIdeal.Ffn

open Idealize.ShloMosaic Cert.KernelIdeal.Gen Cert.Rows

/-- A chunk on 512 rows at an element. -/
theorem chA_apply (h : FVec Ideal S512x1024 .bf16) (wg : Vec Ideal S1024x5632 .bf16) (wd : Vec Ideal S2816x1024 .bf16) (o o' : ℕ)
    (ho : o + 256 ≤ 2816) (ho' : o' = 2816 + o) (h1) (h2) (h3) (r : Fin 512) (c : Fin 1024) :
    chA h wg wd o o' o h1 h2 h3 (ix2 r c) = chunk (fun k => h (ix2 r k)) (fun k j => wg (ix2 k j)) (fun j c => wd (ix2 j c)) c o ho := by
  subst ho'
  unfold chA k0_pay32
  pointwise []
  unfold chunk
  refine Finset.sum_congr rfl fun k _ => ?_
  unfold unit
  rw [← sigmoid_tanh]
  simp only [Nat.add_assoc]

/-- A chunk on 640 rows at an element. -/
theorem chB_apply (h : FVec Ideal S640x1024 .bf16) (wg : Vec Ideal S1024x5632 .bf16) (wd : Vec Ideal S2816x1024 .bf16) (o o' : ℕ)
    (ho : o + 256 ≤ 2816) (ho' : o' = 2816 + o) (h1) (h2) (h3) (r : Fin 640) (c : Fin 1024) :
    chB h wg wd o o' o h1 h2 h3 (ix2 r c) = chunk (fun k => h (ix2 r k)) (fun k j => wg (ix2 k j)) (fun j c => wd (ix2 j c)) c o ho := by
  subst ho'
  unfold chB k0_pay36
  pointwise []
  unfold chunk
  refine Finset.sum_congr rfl fun k _ => ?_
  unfold unit
  rw [← sigmoid_tanh]
  simp only [Nat.add_assoc]

/-- The feed-forward on 512 rows at an element. -/
theorem ffA_apply (h : FVec Ideal S512x1024 .bf16) (wg : Vec Ideal S1024x5632 .bf16) (wd : Vec Ideal S2816x1024 .bf16) (r : Fin 512) (c : Fin 1024) :
    ffA h wg wd (ix2 r c) = ff (fun k => h (ix2 r k)) (fun k j => wg (ix2 k j)) (fun j c => wd (ix2 j c)) c := by
  rw [← ff_chunks]
  unfold ffA
  simp only [addf_apply, Ideal.addf_def]
  rw [chA_apply h wg wd 0 2816 (by norm_num) rfl, chA_apply h wg wd 256 3072 (by norm_num) rfl, chA_apply h wg wd 512 3328 (by norm_num) rfl, chA_apply h wg wd 768 3584 (by norm_num) rfl, chA_apply h wg wd 1024 3840 (by norm_num) rfl, chA_apply h wg wd 1280 4096 (by norm_num) rfl, chA_apply h wg wd 1536 4352 (by norm_num) rfl, chA_apply h wg wd 1792 4608 (by norm_num) rfl, chA_apply h wg wd 2048 4864 (by norm_num) rfl, chA_apply h wg wd 2304 5120 (by norm_num) rfl, chA_apply h wg wd 2560 5376 (by norm_num) rfl]

/-- The feed-forward on 640 rows at an element. -/
theorem ffB_apply (h : FVec Ideal S640x1024 .bf16) (wg : Vec Ideal S1024x5632 .bf16) (wd : Vec Ideal S2816x1024 .bf16) (r : Fin 640) (c : Fin 1024) :
    ffB h wg wd (ix2 r c) = ff (fun k => h (ix2 r k)) (fun k j => wg (ix2 k j)) (fun j c => wd (ix2 j c)) c := by
  rw [← ff_chunks]
  unfold ffB
  simp only [addf_apply, Ideal.addf_def]
  rw [chB_apply h wg wd 0 2816 (by norm_num) rfl, chB_apply h wg wd 256 3072 (by norm_num) rfl, chB_apply h wg wd 512 3328 (by norm_num) rfl, chB_apply h wg wd 768 3584 (by norm_num) rfl, chB_apply h wg wd 1024 3840 (by norm_num) rfl, chB_apply h wg wd 1280 4096 (by norm_num) rfl, chB_apply h wg wd 1536 4352 (by norm_num) rfl, chB_apply h wg wd 1792 4608 (by norm_num) rfl, chB_apply h wg wd 2048 4864 (by norm_num) rfl, chB_apply h wg wd 2304 5120 (by norm_num) rfl, chB_apply h wg wd 2560 5376 (by norm_num) rfl]

/-- The only row of a 1×1×1024 block. -/
abbrev row1 (x : Vec Ideal S1x1x1024 .f32) : Fin 1024 → EReal := fun k => x (ix3 0 0 k)

/-- Rows 0..511 normalised and modulated. -/
theorem hA_apply (x0 : Vec Ideal S1024x1024 .f32) (x2 x3 x8 : Vec Ideal S1x1x1024 .f32) (r : Fin 512) (k : Fin 1024) :
    hA x0 x2 x3 x8 (ix2 r k) = nrm (fun q => x0 (ix2 ⟨r.val, by omega⟩ q)) (row1 x8) (row1 x2) (row1 x3) k := by
  unfold hA k0_pay25
  pointwise []
  unfold nrm
  simp only [Nat.zero_add]

/-- Rows 512..1023 and the context rows, normalised and modulated. -/
theorem hB_top (x0 : Vec Ideal S1024x1024 .f32) (x1 : Vec Ideal S128x1024 .f32) (x2 x3 x5 x6 x8 : Vec Ideal S1x1x1024 .f32) (r : Fin 640) (hr : r.val < 512) (k : Fin 1024) :
    hB x0 x1 x2 x3 x5 x6 x8 (ix2 r k) = nrm (fun q => x0 (ix2 ⟨512 + r.val, by omega⟩ q)) (row1 x8) (row1 x2) (row1 x3) k := by
  unfold hB k0_pay31 k0_pay28 k0_pay26 k0_pay27 k0_pay29 k0_pay30
  pointwise []
  rw [dif_pos hr]
  unfold nrm
  simp only [Nat.zero_add]

theorem hB_bot (x0 : Vec Ideal S1024x1024 .f32) (x1 : Vec Ideal S128x1024 .f32) (x2 x3 x5 x6 x8 : Vec Ideal S1x1x1024 .f32) (r : Fin 640) (hr : ¬ r.val < 512) (k : Fin 1024) :
    hB x0 x1 x2 x3 x5 x6 x8 (ix2 r k) = nrm (fun q => x1 (ix2 ⟨r.val - 512, by omega⟩ q)) (row1 x8) (row1 x5) (row1 x6) k := by
  unfold hB k0_pay31 k0_pay28 k0_pay26 k0_pay27 k0_pay29 k0_pay30
  pointwise []
  rw [dif_neg hr]
  unfold nrm
  simp only [Nat.zero_add]

variable (x0 : Vec Ideal S1024x1024 .f32) (x1 : Vec Ideal S128x1024 .f32) (x2 x3 x4 x5 x6 x7 x8 : Vec Ideal S1x1x1024 .f32)
  (wg : Vec Ideal S1024x5632 .bf16) (wd : Vec Ideal S2816x1024 .bf16)

/-- The half-step of a latent row of the block. -/
def latStep (r : Fin 1024) (c : Fin 1024) : EReal :=
  step (fun q => x0 (ix2 r q)) (row1 x8) (row1 x2) (row1 x3) (row1 x4) (fun k j => wg (ix2 k j)) (fun j c => wd (ix2 j c)) c

/-- The half-step of a context row of the block. -/
def ctxStep (r : Fin 128) (c : Fin 1024) : EReal :=
  step (fun q => x1 (ix2 r q)) (row1 x8) (row1 x5) (row1 x6) (row1 x7) (fun k j => wg (ix2 k j)) (fun j c => wd (ix2 j c)) c

theorem outT_apply (r : Fin 512) (c : Fin 1024) :
    outT x0 x1 x2 x3 x4 x5 x6 x7 x8 wg wd (ix2 r c) = latStep x0 x2 x3 x4 x8 wg wd ⟨r.val, by omega⟩ c := by
  unfold outT k0_pay1
  pointwise [ffA_apply, hA_apply]
  unfold latStep step
  simp only [Nat.zero_add]

theorem outB_apply (r : Fin 512) (c : Fin 1024) :
    outB x0 x1 x2 x3 x4 x5 x6 x7 x8 wg wd (ix2 r c) = latStep x0 x2 x3 x4 x8 wg wd ⟨512 + r.val, by omega⟩ c := by
  unfold outB k0_pay2
  pointwise [ffB_apply]
  simp only [hB_top x0 x1 x2 x3 x5 x6 x8 ⟨r.val, by omega⟩ r.isLt]
  unfold latStep step
  simp only [Nat.zero_add]

/-- The stored latent block at an element. -/
theorem out9_apply (y : S1024x1024.Idx) :
    out9 x0 x1 x2 x3 x4 x5 x6 x7 x8 wg wd y = latStep x0 x2 x3 x4 x8 wg wd (y 0) (y 1) := by
  unfold out9
  refine View.canon_apply_of_pieces (Val := Elt Ideal) (e := .f32) (S := S1024x1024) (fun y => latStep x0 x2 x3 x4 x8 wg wd (y 0) (y 1)) _ ?_ y ?_
  · intro p hp x
    simp only [List.mem_cons, List.mem_singleton, List.not_mem_nil, or_false] at hp
    rcases hp with rfl | rfl
    · rw [eq_ix2 x]
      refine (outB_apply x0 x1 x2 x3 x4 x5 x6 x7 x8 wg wd (x 0) (x 1)).trans ?_
      congr 1 <;> apply Fin.ext <;> simp [Rect.emb, Rect.unit]
    · rw [eq_ix2 x]
      refine (outT_apply x0 x1 x2 x3 x4 x5 x6 x7 x8 wg wd (x 0) (x 1)).trans ?_
      congr 1 <;> apply Fin.ext <;> simp [Rect.emb, Rect.unit]
  · by_cases hy : (y 0).val < 512
    · refine ⟨_, List.mem_cons_of_mem _ (List.mem_singleton_self _), ?_⟩
      rw [Rect.mem_set_unit]
      intro a; fin_cases a
      · exact ⟨Nat.zero_le _, by simpa using hy⟩
      · exact ⟨Nat.zero_le _, by have := (y 1).isLt; simpa using this⟩
    · refine ⟨_, List.mem_cons_self, ?_⟩
      rw [Rect.mem_set_unit]
      intro a; fin_cases a
      · exact ⟨by simpa using hy, by have := (y 0).isLt; simpa using this⟩
      · exact ⟨Nat.zero_le _, by have := (y 1).isLt; simpa using this⟩

/-- The stored context block at an element. -/
theorem out10_apply (r : Fin 128) (c : Fin 1024) :
    out10 x0 x1 x2 x3 x4 x5 x6 x7 x8 wg wd (ix2 r c) = ctxStep x1 x5 x6 x7 x8 wg wd r c := by
  unfold out10 k0_pay3
  pointwise [ffB_apply]
  simp only [hB_bot x0 x1 x2 x3 x5 x6 x8 ⟨512 + r.val, by omega⟩ (by show ¬ 512 + r.val < 512; omega)]
  unfold ctxStep step
  simp only [Nat.zero_add, Nat.add_sub_cancel_left]

end Cert.KernelIdeal.Ffn

end

end
-- ==== Proof.KernelFinal.lean ====
/- What the call's two result arrays hold at the end: every row is the half-step of the argument's row. -/
module

public import proofs.«01_k».proof.Proof.Run
public import proofs.«01_k».proof.Proof.KernelValue
public import Idealize.ShloMosaic.Lib.Pipeline.ValueKit

@[expose] public section

set_option maxRecDepth 16384

noncomputable section

namespace Cert.KernelIdeal.Ffn

open Idealize.ShloMosaic Idealize.ShloMosaic.TcCoe Idealize.SL.Sem Cert.KernelIdeal.Gen Cert.Rows

variable (m : (ℓ : Loc nD τ sig) → Buf (Elt Ideal) ℓ)

/-- Which block each window stages at a point. -/
theorem idx_facts : ∀ t : Fin grid0.N, win0_0.index t = ![t.val, 0] ∧ win0_1.index t = ![t.val, 0] ∧ win0_2.index t = ![t.val / 2, 0, 0] ∧ win0_3.index t = ![t.val / 2, 0, 1]
    ∧ win0_4.index t = ![t.val / 2, 0, 2] ∧ win0_5.index t = ![16, 0, 0] ∧ win0_6.index t = ![16, 0, 1] ∧ win0_7.index t = ![16, 0, 2] ∧ win0_8.index t = ![0, 0, 0]
    ∧ win0_9.index t = ![t.val, 0] ∧ win0_10.index t = ![t.val, 0] := by decide +kernel

theorem t_lt (t : Fin cfg0.N) : t.val < 32 := Nat.lt_of_lt_of_eq t.isLt N_0

/-- The sequence that point `t` works on. -/
abbrev sq (t : Fin cfg0.N) : Fin 16 := ⟨t.val / 2, by have := t_lt t; omega⟩

/-! The host's reshapes, read. -/

theorem V_v1 (c : Dev nD) : V m c main_v1 = shapeCast S3x1x1024 (shapeCast S3x1024 (m ((c.tc : Thread nD τ).loc main_arg3)) shapeCasts_S1x3x1024_S3x1024) shapeCasts_S3x1024_S3x1x1024 := by
  unfold V; after_results_simp; rfl
theorem V_v2 (c : Dev nD) : V m c main_v2 = shapeCast S32768x1024 (m ((c.tc : Thread nD τ).loc main_arg0)) shapeCasts_S16x2048x1024_S32768x1024 := by
  unfold V; after_results_simp; rfl
theorem V_v3 (c : Dev nD) : V m c main_v3 = shapeCast S4096x1024 (m ((c.tc : Thread nD τ).loc main_arg1)) shapeCasts_S16x256x1024_S4096x1024 := by
  unfold V; after_results_simp; rfl

/-- The latent rows, sequence after sequence. -/
theorem cast_lat (X : FVec Ideal S16x2048x1024 .f32) (R : Fin 32768) (q : Fin 1024) :
    shapeCast S32768x1024 X shapeCasts_S16x2048x1024_S32768x1024 (ix2 R q) = X (ix3 ⟨R.val / 2048, by omega⟩ ⟨R.val % 2048, by omega⟩ q) := by
  pointwise []
/-- The context rows, sequence after sequence. -/
theorem cast_ctx (X : FVec Ideal S16x256x1024 .f32) (R : Fin 4096) (q : Fin 1024) :
    shapeCast S4096x1024 X shapeCasts_S16x256x1024_S4096x1024 (ix2 R q) = X (ix3 ⟨R.val / 256, by omega⟩ ⟨R.val % 256, by omega⟩ q) := by
  pointwise []
/-- The three norm gains, one in a block of its own. -/
theorem cast_gain (X : FVec Ideal S1x3x1024 .f32) (q : Fin 1024) :
    shapeCast S3x1x1024 (shapeCast S3x1024 X shapeCasts_S1x3x1024_S3x1024) shapeCasts_S3x1024_S3x1x1024 (ix3 0 0 q) = X (ix3 0 0 q) := by
  pointwise []

/-! The blocks, read at an element of the arguments. -/

theorem blk0 (c : Dev nD) (t : Fin cfg0.N) (r q : Fin 1024) :
    iblk m c 0 t (ix2 r q) = m ((c.tc : Thread nD τ).loc main_arg0) (ix3 (sq t) ⟨t.val % 2 * 1024 + r.val, by omega⟩ q) := by
  have := t_lt t
  have h : iblk m c 0 t (ix2 r q) = V m c main_v2 (ix2 ⟨t.val * 1024 + r.val, by omega⟩ q) := by blk_ext [iblk, idx_facts t]
  refine h.trans ((congrFun (V_v2 m c) _).trans ((cast_lat _ _ _).trans (congrArg _ ?_)))
  congr 1 <;> apply Fin.ext <;> dsimp only <;> omega
theorem blk1 (c : Dev nD) (t : Fin cfg0.N) (r : Fin 128) (q : Fin 1024) :
    iblk m c 1 t (ix2 r q) = m ((c.tc : Thread nD τ).loc main_arg1) (ix3 (sq t) ⟨t.val % 2 * 128 + r.val, by omega⟩ q) := by
  have := t_lt t
  have h : iblk m c 1 t (ix2 r q) = V m c main_v3 (ix2 ⟨t.val * 128 + r.val, by omega⟩ q) := by blk_ext [iblk, idx_facts t]
  refine h.trans ((congrFun (V_v3 m c) _).trans ((cast_ctx _ _ _).trans (congrArg _ ?_)))
  congr 1 <;> apply Fin.ext <;> dsimp only <;> omega
theorem blk2 (c : Dev nD) (t : Fin cfg0.N) (q : Fin 1024) :
    iblk m c 2 t (ix3 0 0 q) = m ((c.tc : Thread nD τ).loc main_arg2) (ix3 ⟨(sq t).val, by omega⟩ 0 ⟨q.val, by omega⟩) := by
  have := t_lt t
  blk_ext [iblk, V, idx_facts t]
theorem blk3 (c : Dev nD) (t : Fin cfg0.N) (q : Fin 1024) :
    iblk m c 3 t (ix3 0 0 q) = m ((c.tc : Thread nD τ).loc main_arg2) (ix3 ⟨(sq t).val, by omega⟩ 0 ⟨1024 + q.val, by omega⟩) := by
  have := t_lt t
  blk_ext [iblk, V, idx_facts t]
theorem blk4 (c : Dev nD) (t : Fin cfg0.N) (q : Fin 1024) :
    iblk m c 4 t (ix3 0 0 q) = m ((c.tc : Thread nD τ).loc main_arg2) (ix3 ⟨(sq t).val, by omega⟩ 0 ⟨2048 + q.val, by omega⟩) := by
  have := t_lt t
  blk_ext [iblk, V, idx_facts t]
theorem blk5 (c : Dev nD) (t : Fin cfg0.N) (q : Fin 1024) :
    iblk m c 5 t (ix3 0 0 q) = m ((c.tc : Thread nD τ).loc main_arg2) (ix3 16 0 ⟨q.val, by omega⟩) := by
  blk_ext [iblk, V, idx_facts t]
theorem blk6 (c : Dev nD) (t : Fin cfg0.N) (q : Fin 1024) :
    iblk m c 6 t (ix3 0 0 q) = m ((c.tc : Thread nD τ).loc main_arg2) (ix3 16 0 ⟨1024 + q.val, by omega⟩) := by
  blk_ext [iblk, V, idx_facts t]
theorem blk7 (c : Dev nD) (t : Fin cfg0.N) (q : Fin 1024) :
    iblk m c 7 t (ix3 0 0 q) = m ((c.tc : Thread nD τ).loc main_arg2) (ix3 16 0 ⟨2048 + q.val, by omega⟩) := by
  blk_ext [iblk, V, idx_facts t]
theorem blk8 (c : Dev nD) (t : Fin cfg0.N) (q : Fin 1024) :
    iblk m c 8 t (ix3 0 0 q) = m ((c.tc : Thread nD τ).loc main_arg3) (ix3 0 0 q) := by
  have h : iblk m c 8 t (ix3 0 0 q) = V m c main_v1 (ix3 0 0 q) := by blk_ext [iblk, idx_facts t]
  exact h.trans ((congrFun (V_v1 m c) _).trans (cast_gain _ _))

/-- The gate-up weights at an element. -/
theorem wgu_apply (f) (k : Fin 1024) (j : Fin 5632) : wgu (F := Ideal) f (ix2 k j) = f (ix4 0 0 k j) := by
  have h : guV.view.read (Elt Ideal) f = shapeCast S1024x5632 (((View.whole main_arg4).slice (Rect.unit ![0, 0, 0, 0] S1x1x1024x5632.size inb_S1x2x1024x5632_S1x1x1024x5632_0_0_0_0)).read (Elt Ideal) f)
      (by decide) := rfl
  unfold wgu
  rw [h]
  pointwise []
  refine (View.read_apply _ _).trans (congrArg f ?_)
  funext a; apply Fin.ext
  match a with
  | ⟨0, _⟩ => rfl
  | ⟨1, _⟩ => rfl
  | ⟨2, _⟩ => show 0 + 1 * k.val = k.val; omega
  | ⟨3, _⟩ => show 0 + 1 * j.val = j.val; omega

/-- The down weights at an element. -/
theorem wdn_apply (f) (k : Fin 2816) (j : Fin 1024) : wdn (F := Ideal) f (ix2 k j) = f (ix4 0 0 k j) := by
  have h : dnV.view.read (Elt Ideal) f = shapeCast S2816x1024 (((View.whole main_arg5).slice (Rect.unit ![0, 0, 0, 0] S1x1x2816x1024.size inb_S1x2x2816x1024_S1x1x2816x1024_0_0_0_0)).read (Elt Ideal) f)
      (by decide) := rfl
  unfold wdn
  rw [h]
  pointwise []
  refine (View.read_apply _ _).trans (congrArg f ?_)
  funext a; apply Fin.ext
  match a with
  | ⟨0, _⟩ => rfl
  | ⟨1, _⟩ => rfl
  | ⟨2, _⟩ => show 0 + 1 * k.val = k.val; omega
  | ⟨3, _⟩ => show 0 + 1 * j.val = j.val; omega

/-- What row `s` of sequence `b` of the latent array becomes. -/
def latRow (a0 : S16x2048x1024.Idx → EReal) (a2 : S24x1x9216.Idx → EReal) (a3 : S1x3x1024.Idx → EReal) (a4 : S1x2x1024x5632.Idx → EReal) (a5 : S1x2x2816x1024.Idx → EReal)
    (b : Fin 16) (s : Fin 2048) (c : Fin 1024) : EReal :=
  step (fun q => a0 (ix3 b s q)) (fun q => a3 (ix3 0 0 q)) (fun q => a2 (ix3 ⟨b.val, by omega⟩ 0 ⟨q.val, by omega⟩))
    (fun q => a2 (ix3 ⟨b.val, by omega⟩ 0 ⟨1024 + q.val, by omega⟩)) (fun q => a2 (ix3 ⟨b.val, by omega⟩ 0 ⟨2048 + q.val, by omega⟩))
    (fun k j => a4 (ix4 0 0 k j)) (fun j c => a5 (ix4 0 0 j c)) c

/-- What row `s` of sequence `b` of the context array becomes. -/
def ctxRow (a1 : S16x256x1024.Idx → EReal) (a2 : S24x1x9216.Idx → EReal) (a3 : S1x3x1024.Idx → EReal) (a4 : S1x2x1024x5632.Idx → EReal) (a5 : S1x2x2816x1024.Idx → EReal)
    (b : Fin 16) (s : Fin 256) (c : Fin 1024) : EReal :=
  step (fun q => a1 (ix3 b s q)) (fun q => a3 (ix3 0 0 q)) (fun q => a2 (ix3 16 0 ⟨q.val, by omega⟩))
    (fun q => a2 (ix3 16 0 ⟨1024 + q.val, by omega⟩)) (fun q => a2 (ix3 16 0 ⟨2048 + q.val, by omega⟩))
    (fun k j => a4 (ix4 0 0 k j)) (fun j c => a5 (ix4 0 0 j c)) c

/-- The latent result array. -/
def lat (c : Dev nD) : S32768x1024.Idx → EReal := fun y =>
  latRow (m ((c.tc : Thread nD τ).loc main_arg0)) (m ((c.tc : Thread nD τ).loc main_arg2)) (m ((c.tc : Thread nD τ).loc main_arg3)) (m ((c.tc : Thread nD τ).loc main_arg4))
    (m ((c.tc : Thread nD τ).loc main_arg5)) ⟨(y 0).val / 2048, by have := (y 0).isLt; simp at this; omega⟩ ⟨(y 0).val % 2048, by omega⟩ (y 1)

/-- The context result array. -/
def ctx (c : Dev nD) : S4096x1024.Idx → EReal := fun y =>
  ctxRow (m ((c.tc : Thread nD τ).loc main_arg1)) (m ((c.tc : Thread nD τ).loc main_arg2)) (m ((c.tc : Thread nD τ).loc main_arg3)) (m ((c.tc : Thread nD τ).loc main_arg4))
    (m ((c.tc : Thread nD τ).loc main_arg5)) ⟨(y 0).val / 256, by have := (y 0).isLt; simp at this; omega⟩ ⟨(y 0).val % 256, by omega⟩ (y 1)

theorem res9_apply (c : Dev nD) (t : Fin cfg0.N) (r : Fin 1024) (q : Fin 1024) :
    res9 m c t (ix2 r q) = latRow (m ((c.tc : Thread nD τ).loc main_arg0)) (m ((c.tc : Thread nD τ).loc main_arg2)) (m ((c.tc : Thread nD τ).loc main_arg3))
      (m ((c.tc : Thread nD τ).loc main_arg4)) (m ((c.tc : Thread nD τ).loc main_arg5)) (sq t) ⟨t.val % 2 * 1024 + r.val, by omega⟩ q := by
  unfold res9
  rw [out9_apply, V_main_arg4, V_main_arg5]
  show latStep _ _ _ _ _ _ _ r q = _
  unfold latStep latRow row1
  simp only [blk0, blk2, blk3, blk4, blk8, wgu_apply, wdn_apply]

theorem res10_apply (c : Dev nD) (t : Fin cfg0.N) (r : Fin 128) (q : Fin 1024) :
    res10 m c t (ix2 r q) = ctxRow (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (sq t) ⟨t.val % 2 * 128 + r.val, by omega⟩ q := by
  unfold res10
  rw [out10_apply, V_main_arg4, V_main_arg5]
  unfold ctxStep ctxRow row1
  simp only [blk1, blk5, blk6, blk7, blk8, wgu_apply, wdn_apply]

theorem final_lat (c : Dev nD) : (dats m 0 c).arrAt 9 cfg0.N = lat m c := by
  refine (dats m 0 c).arrAt_eq_of_covers 9 _ (by decide +kernel) fun t hf y => ?_
  have e0 : ((((cfg0.win 9).blk t).view.emb y) 0).val = t.val * 1024 + (y 0).val := by blk_simp [idx_facts t]
  have e1 : ((((cfg0.win 9).blk t).view.emb y) 1).val = (y 1).val := by blk_simp [idx_facts t]
  have := t_lt t
  have h0 : (y 0).val < 1024 := (y 0).isLt
  blk_simp
  rw [after_9, eq_ix2 y]
  refine (res9_apply m c t _ _).trans ?_
  unfold lat
  congr 1 <;> apply Fin.ext <;> simp only [e0, e1, ← eq_ix2] <;> omega

theorem final_ctx (c : Dev nD) : (dats m 0 c).arrAt 10 cfg0.N = ctx m c := by
  refine (dats m 0 c).arrAt_eq_of_covers 10 _ (by decide +kernel) fun t hf y => ?_
  have e0 : ((((cfg0.win 10).blk t).view.emb y) 0).val = t.val * 128 + (y 0).val := by blk_simp [idx_facts t]
  have e1 : ((((cfg0.win 10).blk t).view.emb y) 1).val = (y 1).val := by blk_simp [idx_facts t]
  have := t_lt t
  have h0 : (y 0).val < 128 := (y 0).isLt
  blk_simp
  rw [after_10, eq_ix2 y]
  refine (res10_apply m c t _ _).trans ?_
  unfold ctx
  congr 1 <;> apply Fin.ext <;> simp only [e0, e1, ← eq_ix2] <;> omega

end Cert.KernelIdeal.Ffn

end

end
-- ==== Proof.RefValue.lean ====
/- What the reference writes, at an element: the same half-step of a row. -/
module

public import proofs.«01_k».proof.Proof.Spec
public import proofs.«01_k».proof.Proof.Gen.ReferenceIdeal.Read
public import Idealize.ShloMosaic.Lib.Pointwise

@[expose] public section

set_option maxRecDepth 16384

noncomputable section

namespace Cert.ReferenceIdeal.Rows

open Idealize.ShloMosaic Idealize.ShloMosaic.TcCoe Cert.ReferenceIdeal Cert.ReferenceIdeal.Read Cert.Rows

variable (x0 : FVec Ideal S16x2048x1024 .f32) (x1 : FVec Ideal S16x256x1024 .f32) (x2 : FVec Ideal S24x1x9216 .f32) (x3 : FVec Ideal S1x3x1024 .f32)
  (x4 : FVec Ideal S1x2x1024x5632 .f32) (x5 : FVec Ideal S1x2x2816x1024 .f32)

/-- An index of three axes, by its coordinates' values. -/
theorem ix3_of {n k l : ℕ} (i : Shape.Idx ⟨3, ![n, k, l]⟩) (a : Fin n) (b : Fin k) (c : Fin l) (h0 : (i 0).val = a.val) (h1 : (i 1).val = b.val) (h2 : (i 2).val = c.val) :
    i = ix3 a b c := by
  rw [eq_ix3 i]; congr 1 <;> exact Fin.ext (by assumption)

/-- An index of four axes, by its coordinates' values. -/
theorem ix4_of {n k l p : ℕ} (i : Shape.Idx ⟨4, ![n, k, l, p]⟩) (a : Fin n) (b : Fin k) (c : Fin l) (d : Fin p) (h0 : (i 0).val = a.val) (h1 : (i 1).val = b.val)
    (h2 : (i 2).val = c.val) (h3 : (i 3).val = d.val) : i = ix4 a b c d := by
  rw [eq_ix4 i]; congr 1 <;> exact Fin.ext (by assumption)

theorem gain (k : Fin 1024) : val_main_v1 (F := Ideal) x3 (ix1 k) = x3 (ix3 0 0 k) := by
  rw [val_main_v1_apply, val_main_v0_apply]
  exact congrArg x3 (ix3_of _ _ _ _ rfl rfl (Nat.mod_eq_of_lt k.isLt))

theorem gateUp (k : Fin 1024) (j : Fin 5632) : val_main_v3 (F := Ideal) x4 (ix2 k j) = x4 (ix4 0 0 k j) := by
  rw [val_main_v3_apply, val_main_v2_apply]
  refine congrArg x4 (ix4_of _ _ _ _ _ rfl rfl ?_ ?_)
  · show (k.val * 5632 + j.val) / 5632 % 1024 = k.val; omega
  · show (k.val * 5632 + j.val) % 5632 = j.val; omega

theorem down (k : Fin 2816) (j : Fin 1024) : val_main_v5 (F := Ideal) x5 (ix2 k j) = x5 (ix4 0 0 k j) := by
  rw [val_main_v5_apply, val_main_v4_apply]
  refine congrArg x5 (ix4_of _ _ _ _ _ rfl rfl ?_ ?_)
  · show (k.val * 1024 + j.val) / 1024 % 2816 = k.val; omega
  · show (k.val * 1024 + j.val) % 1024 = j.val; omega

/-! The lat half. -/

theorem lat_nrm (b : Fin 16) (s : Fin 2048) (k : Fin 1024) :
    val_main_v27 (F := Ideal) x0 x2 x3 (ix3 b s k) = nrm (fun q => x0 (ix3 b s q)) (fun q => x3 (ix3 0 0 q)) (fun q => x2 (ix3 ⟨b.val, by omega⟩ 0 ⟨q.val, by omega⟩)) (fun q => x2 (ix3 ⟨b.val, by omega⟩ 0 ⟨1024 + q.val, by omega⟩)) k := by
  have e1 : ∀ q, idx_main_v8 (idx_main_v9 (idx_main_v15 (ix3 b s k))) q = ix3 b s q := fun q => ix3_of _ _ _ _ rfl rfl rfl
  have e2 : idx_main_v17 (idx_main_v18 (ix3 b s k)) = ix1 k := by funext a; match a with | ⟨0, _⟩ => rfl
  have e3 : idx_main_v6 (idx_main_v21 (idx_main_v24 (ix3 b s k))) = ix3 ⟨b.val, by omega⟩ 0 ⟨1024 + k.val, by omega⟩ := ix3_of _ _ _ _ rfl rfl rfl
  have e4 : idx_main_v6 (idx_main_v20 (idx_main_v26 (ix3 b s k))) = ix3 ⟨b.val, by omega⟩ 0 ⟨k.val, by omega⟩ := ix3_of _ _ _ _ rfl rfl rfl
  pointwise [val_main_v27_apply, val_main_v26_apply, val_main_v25_apply, val_main_v24_apply, val_main_v23_apply, val_main_v22_apply, val_main_v21_apply, val_main_v20_apply, val_main_v19_apply, val_main_v18_apply, val_main_v17_apply, val_main_v16_apply, val_main_v15_apply, val_main_v14_apply, val_main_v13_apply, val_main_v12_apply, val_main_v11_apply, val_main_v10_apply, val_main_v9_apply, val_main_v8_apply, val_main_v7_apply, val_main_v6_apply, val_main_cst_apply, val_main_cst_0_apply, val_main_cst_1_apply, val_main_cst_2_apply, e1, e2, e3, e4, gain]
  unfold nrm
  rw [← mul_assoc]

theorem lat_unit (b : Fin 16) (s : Fin 2048) (j : Fin 2816) :
    val_main_v35 (F := Ideal) x0 x2 x3 x4 (ix3 b s j) = unit (nrm (fun q => x0 (ix3 b s q)) (fun q => x3 (ix3 0 0 q)) (fun q => x2 (ix3 ⟨b.val, by omega⟩ 0 ⟨q.val, by omega⟩)) (fun q => x2 (ix3 ⟨b.val, by omega⟩ 0 ⟨1024 + q.val, by omega⟩))) (fun k j => x4 (ix4 0 0 k j)) j := by
  have e1 : ∀ q, lidx_main_v31 (idx_main_v32 (ix3 b s j)) q = ix3 b s q := fun q => ix3_of _ _ _ _ rfl rfl rfl
  have e2 : ∀ q, ridx_main_v31 (idx_main_v32 (ix3 b s j)) q = ix2 q ⟨j.val, by omega⟩ := fun q => eq_ix2 _
  have e3 : ∀ q, lidx_main_v31 (idx_main_v33 (ix3 b s j)) q = ix3 b s q := fun q => ix3_of _ _ _ _ rfl rfl rfl
  have e4 : ∀ q, ridx_main_v31 (idx_main_v33 (ix3 b s j)) q = ix2 q ⟨2816 + j.val, by omega⟩ := fun q => eq_ix2 _
  pointwise [val_main_v35_apply, val_main_v34_apply, val_main_v33_apply, val_main_v32_apply, val_main_v31_apply, val_main_call0_v0_apply, val_main_call0_v1_apply, val_main_call0_v2_apply, val_main_call0_v3_apply, val_main_call0_v4_apply, val_main_call0_v5_apply, val_main_call0_cst_apply, val_main_call0_cst_0_apply, e1, e2, e3, e4, lat_nrm, gateUp]
  rfl

theorem lat_step (b : Fin 16) (s : Fin 2048) (c : Fin 1024) :
    val_main_v39 (F := Ideal) x0 x2 x3 x4 x5 (ix3 b s c) = step (fun q => x0 (ix3 b s q)) (fun q => x3 (ix3 0 0 q)) (fun q => x2 (ix3 ⟨b.val, by omega⟩ 0 ⟨q.val, by omega⟩))
      (fun q => x2 (ix3 ⟨b.val, by omega⟩ 0 ⟨1024 + q.val, by omega⟩)) (fun q => x2 (ix3 ⟨b.val, by omega⟩ 0 ⟨2048 + q.val, by omega⟩)) (fun k j => x4 (ix4 0 0 k j)) (fun j c => x5 (ix4 0 0 j c)) c := by
  have e1 : ∀ q, lidx_main_v36 (ix3 b s c) q = ix3 b s q := fun q => ix3_of _ _ _ _ rfl rfl rfl
  have e2 : ∀ q, ridx_main_v36 (ix3 b s c) q = ix2 q c := fun q => eq_ix2 _
  have e3 : idx_main_v6 (idx_main_v28 (idx_main_v37 (ix3 b s c))) = ix3 ⟨b.val, by omega⟩ 0 ⟨2048 + c.val, by omega⟩ := ix3_of _ _ _ _ rfl rfl rfl
  pointwise [val_main_v39_apply, val_main_v38_apply, val_main_v37_apply, val_main_v36_apply, val_main_v30_apply, val_main_v29_apply, val_main_v28_apply, val_main_v6_apply, val_main_cst_3_apply, e1, e2, e3, lat_unit, down]
  rfl

/-! The ctx half. -/

theorem ctx_nrm (b : Fin 16) (s : Fin 256) (k : Fin 1024) :
    val_main_v61 (F := Ideal) x1 x2 x3 (ix3 b s k) = nrm (fun q => x1 (ix3 b s q)) (fun q => x3 (ix3 0 0 q)) (fun q => x2 (ix3 16 0 ⟨q.val, by omega⟩)) (fun q => x2 (ix3 16 0 ⟨1024 + q.val, by omega⟩)) k := by
  have e1 : ∀ q, idx_main_v42 (idx_main_v43 (idx_main_v49 (ix3 b s k))) q = ix3 b s q := fun q => ix3_of _ _ _ _ rfl rfl rfl
  have e2 : idx_main_v51 (idx_main_v52 (ix3 b s k)) = ix1 k := by funext a; match a with | ⟨0, _⟩ => rfl
  have e3 : idx_main_v40 (idx_main_v55 (idx_main_v58 (ix3 b s k))) = ix3 16 0 ⟨1024 + k.val, by omega⟩ := ix3_of _ _ _ _ rfl rfl rfl
  have e4 : idx_main_v40 (idx_main_v54 (idx_main_v60 (ix3 b s k))) = ix3 16 0 ⟨k.val, by omega⟩ := ix3_of _ _ _ _ rfl rfl rfl
  pointwise [val_main_v61_apply, val_main_v60_apply, val_main_v59_apply, val_main_v58_apply, val_main_v57_apply, val_main_v56_apply, val_main_v55_apply, val_main_v54_apply, val_main_v53_apply, val_main_v52_apply, val_main_v51_apply, val_main_v50_apply, val_main_v49_apply, val_main_v48_apply, val_main_v47_apply, val_main_v46_apply, val_main_v45_apply, val_main_v44_apply, val_main_v43_apply, val_main_v42_apply, val_main_v41_apply, val_main_v40_apply, val_main_cst_4_apply, val_main_cst_5_apply, val_main_cst_6_apply, val_main_cst_7_apply, e1, e2, e3, e4, gain]
  unfold nrm
  rw [← mul_assoc]

theorem ctx_unit (b : Fin 16) (s : Fin 256) (j : Fin 2816) :
    val_main_v69 (F := Ideal) x1 x2 x3 x4 (ix3 b s j) = unit (nrm (fun q => x1 (ix3 b s q)) (fun q => x3 (ix3 0 0 q)) (fun q => x2 (ix3 16 0 ⟨q.val, by omega⟩)) (fun q => x2 (ix3 16 0 ⟨1024 + q.val, by omega⟩))) (fun k j => x4 (ix4 0 0 k j)) j := by
  have e1 : ∀ q, lidx_main_v65 (idx_main_v66 (ix3 b s j)) q = ix3 b s q := fun q => ix3_of _ _ _ _ rfl rfl rfl
  have e2 : ∀ q, ridx_main_v65 (idx_main_v66 (ix3 b s j)) q = ix2 q ⟨j.val, by omega⟩ := fun q => eq_ix2 _
  have e3 : ∀ q, lidx_main_v65 (idx_main_v67 (ix3 b s j)) q = ix3 b s q := fun q => ix3_of _ _ _ _ rfl rfl rfl
  have e4 : ∀ q, ridx_main_v65 (idx_main_v67 (ix3 b s j)) q = ix2 q ⟨2816 + j.val, by omega⟩ := fun q => eq_ix2 _
  pointwise [val_main_v69_apply, val_main_v68_apply, val_main_v67_apply, val_main_v66_apply, val_main_v65_apply, val_main_call1_v0_apply, val_main_call1_v1_apply, val_main_call1_v2_apply, val_main_call1_v3_apply, val_main_call1_v4_apply, val_main_call1_v5_apply, val_main_call1_cst_apply, val_main_call1_cst_0_apply, e1, e2, e3, e4, ctx_nrm, gateUp]
  rfl

theorem ctx_step (b : Fin 16) (s : Fin 256) (c : Fin 1024) :
    val_main_v73 (F := Ideal) x1 x2 x3 x4 x5 (ix3 b s c) = step (fun q => x1 (ix3 b s q)) (fun q => x3 (ix3 0 0 q)) (fun q => x2 (ix3 16 0 ⟨q.val, by omega⟩))
      (fun q => x2 (ix3 16 0 ⟨1024 + q.val, by omega⟩)) (fun q => x2 (ix3 16 0 ⟨2048 + q.val, by omega⟩)) (fun k j => x4 (ix4 0 0 k j)) (fun j c => x5 (ix4 0 0 j c)) c := by
  have e1 : ∀ q, lidx_main_v70 (ix3 b s c) q = ix3 b s q := fun q => ix3_of _ _ _ _ rfl rfl rfl
  have e2 : ∀ q, ridx_main_v70 (ix3 b s c) q = ix2 q c := fun q => eq_ix2 _
  have e3 : idx_main_v40 (idx_main_v62 (idx_main_v71 (ix3 b s c))) = ix3 16 0 ⟨2048 + c.val, by omega⟩ := ix3_of _ _ _ _ rfl rfl rfl
  pointwise [val_main_v73_apply, val_main_v72_apply, val_main_v71_apply, val_main_v70_apply, val_main_v64_apply, val_main_v63_apply, val_main_v62_apply, val_main_v40_apply, val_main_cst_8_apply, e1, e2, e3, ctx_unit, down]
  rfl

/-- The first result at an element. -/
theorem latOut (y : S32768x1024.Idx) : val_main_v74 (F := Ideal) x0 x2 x3 x4 x5 y
    = val_main_v39 (F := Ideal) x0 x2 x3 x4 x5 (ix3 ⟨(y 0).val / 2048, by have : (y 0).val < 32768 := (y 0).isLt; omega⟩ ⟨(y 0).val % 2048, by omega⟩ (y 1)) := by
  rw [val_main_v74_apply]
  have h1 : (y 1).val < 1024 := (y 1).isLt
  refine congrArg _ (ix3_of _ _ _ _ ?_ ?_ ?_)
  · show ((y 0).val * 1024 + (y 1).val) / 2097152 = (y 0).val / 2048; omega
  · show ((y 0).val * 1024 + (y 1).val) / 1024 % 2048 = (y 0).val % 2048; omega
  · show ((y 0).val * 1024 + (y 1).val) % 1024 = (y 1).val; omega

/-- The second result at an element. -/
theorem ctxOut (y : S4096x1024.Idx) : val_main_v75 (F := Ideal) x1 x2 x3 x4 x5 y
    = val_main_v73 (F := Ideal) x1 x2 x3 x4 x5 (ix3 ⟨(y 0).val / 256, by have : (y 0).val < 4096 := (y 0).isLt; omega⟩ ⟨(y 0).val % 256, by omega⟩ (y 1)) := by
  rw [val_main_v75_apply]
  have h1 : (y 1).val < 1024 := (y 1).isLt
  refine congrArg _ (ix3_of _ _ _ _ ?_ ?_ ?_)
  · show ((y 0).val * 1024 + (y 1).val) / 262144 = (y 0).val / 256; omega
  · show ((y 0).val * 1024 + (y 1).val) / 1024 % 256 = (y 0).val % 256; omega
  · show ((y 0).val * 1024 + (y 1).val) % 1024 = (y 1).val; omega

end Cert.ReferenceIdeal.Rows

end

end
-- ==== Proof.MixLoad.lean ====
/- The first-point work of the projections before the mixer (weights and rotary tables), and the rest, as programs of their own. -/
module

public import proofs.«01_k».proof.Proof.Gen.Kernel3Ideal.Frame
public import proofs.«01_k».proof.Proof.Gen.Kernel3Ideal.Skeleton

@[expose] public section

set_option maxRecDepth 16384

noncomputable section

namespace Cert.Kernel3Ideal.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel3Ideal.Gen

variable {F : FTy → Type} [FloatOps F]

local notation "𝕄" => MT nD τ sig Unit (Elt F) ℕ (Pipeline.UD sig nD τ) ℕ

/-- Whether the body loads the weights and makes the tables at coordinates `i`: it does at the first point only. -/
abbrev first (i : grid0.Coords) : Prop :=
  Scalar.cmpi .ne (Scalar.extui (Scalar.cmpi .eq (BitVec.ofNat 32 (i 0).val) 0#32)) 0#32 = 1#1

theorem first_iff (t : Fin cfg0.N) : first (grid0.coords t) ↔ t.val = 0 := by
  have ht : t.val < 32 := Nat.lt_of_lt_of_eq t.isLt N_0
  have e0 : (grid0.coords t 0).val = t.val / 1 % 32 := Pipeline.Grid.coords_val t 0 (by decide) rfl
  have h : (first (grid0.coords t)) ↔ t.val % 32 = 0 := by
    simp only [first, e0]
    word_cmp
  rw [h]; omega

variable (i : grid0.Coords)
  (arg1 : Memref sig .tc .vmem S1024x1024 .f32) (harg1 : arg1.IsWhole) (arg2 : Memref sig .tc .vmem S128x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024 .f32) (harg7 : arg7.IsWhole) (arg9 : Memref sig .tc .vmem S1x128 .f32) (harg9 : arg9.IsWhole) (arg10 : Memref sig .tc .vmem S1x8x1024x128 .bf16) (harg10 : arg10.IsWhole) (arg11 : Memref sig .tc .vmem S1x8x1024x128 .bf16) (harg11 : arg11.IsWhole) (arg12 : Memref sig .tc .vmem S1x8x1024x128 .bf16) (harg12 : arg12.IsWhole) (arg13 : Memref sig .tc .vmem S1024x512 .f32) (harg13 : arg13.IsWhole) (arg14 : Memref sig .tc .vmem S1024x2048 .bf16) (harg14 : arg14.IsWhole) (arg15 : Memref sig .tc .vmem S1x8x128x128 .bf16) (harg15 : arg15.IsWhole) (arg16 : Memref sig .tc .vmem S1x8x128x128 .bf16) (harg16 : arg16.IsWhole) (arg17 : Memref sig .tc .vmem S1024x5632 .bf16) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole)
  (alloca_r0 : Memref sig .tc .vmem S2x128x5632 .f32) (halloca_r0 : alloca_r0.IsWhole)

/-- What the body runs under its condition: the bands of the weights, each copied into one of two staging slots while the slot
    before is rounded and stored, and the three rotary tables in bands of 64 rows. -/
def load : Prog (TpuEff nD τ sig (Elt F) Λ₀ .tc) PUnit := do
  let ⟨v720, v735, v1390, v1397⟩ : Σ' (v720 : IVec S64x128 1) (v735 : FVec F S64x128 .f32) (v1390 : FVec F S64x128 .f32), FVec F S64x128 .f32 ← k0_part23 i arg1 harg1 arg2 harg2 arg3 harg3 arg4 harg4 arg5 harg5 arg6 harg6 arg7 harg7 (Memref.whole main_arg4) (Memref.isWhole_whole _) arg9 harg9 arg10 harg10 arg11 harg11 arg12 harg12 arg13 harg13 arg14 harg14 arg15 harg15 arg16 harg16 arg17 harg17 arg18 harg18 arg19 harg19 arg20 harg20 alloca_r0 halloca_r0 cc0_scoped1
  Prog.lift (.store arg18 (Rect.unit (s := S2048x128) ![1984, 0] S64x128.size inb_S2048x128_S64x128_1984_0) v1397 Finset.univ (View.stores_vmem_bits_univ h_S64x128 rfl) (.inl rfl))
  let v1401 : Vec F S64x128 .f32 ← Prog.lift (.load arg19 (Rect.unit (s := S2048x128) ![1984, 0] S64x128.size inb_S2048x128_S64x128_1984_0).toLoadRect (View.loadsAt_vmem h_S64x128))
  Prog.lift (.store arg19 (Rect.unit (s := S2048x128) ![1984, 0] S64x128.size inb_S2048x128_S64x128_1984_0) (k0_pay160 v720 v735 v1390) Finset.univ (View.stores_vmem_bits_univ h_S64x128 rfl) (.inl rfl))
  let v1405 : Vec F S64x128 .f32 ← Prog.lift (.load arg20 (Rect.unit (s := S2048x128) ![1984, 0] S64x128.size inb_S2048x128_S64x128_1984_0).toLoadRect (View.loadsAt_vmem h_S64x128))
  Prog.lift (.store arg20 (Rect.unit (s := S2048x128) ![1984, 0] S64x128.size inb_S2048x128_S64x128_1984_0) (k0_pay161 v720 v735 v1390) Finset.univ (View.stores_vmem_bits_univ h_S64x128 rfl) (.inl rfl))
  pure ⟨⟩

/-- What the body runs at every point, after that. -/
def comp : Prog (TpuEff nD τ sig (Elt F) Λ₀ .tc) PUnit := do
  let arg0 : BitVec 32 := BitVec.ofNat 32 (i 0).val
  let v3 : Vec F S512x1024 .f32 ← Prog.lift (.load arg1 (Rect.unit (s := S1024x1024) ![0, 0] S512x1024.size inb_S1024x1024_S512x1024_0_0).toLoadRect (View.loadsAt_vmem h_S512x1024))
  let v4 : Vec F S1x1x1024 .f32 ← Prog.lift (.load arg7 (Rect.unit (s := S1x1x1024) ![0, 0, 0] S1x1x1024.size inb_S1x1x1024_S1x1x1024_0_0_0).toLoadRect (View.loadsAt_vmem h_S1x1x1024))
  let v6 : Vec F S1x1x1024 .f32 ← Prog.lift (.load arg4 (Rect.unit (s := S1x1x1024) ![0, 0, 0] S1x1x1024.size inb_S1x1x1024_S1x1x1024_0_0_0).toLoadRect (View.loadsAt_vmem h_S1x1x1024))
  let v23 : Vec F S1x1x1024 .f32 ← Prog.lift (.load arg3 (Rect.unit (s := S1x1x1024) ![0, 0, 0] S1x1x1024.size inb_S1x1x1024_S1x1x1024_0_0_0).toLoadRect (View.loadsAt_vmem h_S1x1x1024))
  let v28 : Vec F S512x1024 .f32 ← Prog.lift (.load arg1 (Rect.unit (s := S1024x1024) ![512, 0] S512x1024.size inb_S1024x1024_S512x1024_512_0).toLoadRect (View.loadsAt_vmem h_S512x1024))
  let v29 : Vec F S1x1x1024 .f32 ← Prog.lift (.load arg7 (Rect.unit (s := S1x1x1024) ![0, 0, 0] S1x1x1024.size inb_S1x1x1024_S1x1x1024_0_0_0).toLoadRect (View.loadsAt_vmem h_S1x1x1024))
  let v31 : Vec F S1x1x1024 .f32 ← Prog.lift (.load arg4 (Rect.unit (s := S1x1x1024) ![0, 0, 0] S1x1x1024.size inb_S1x1x1024_S1x1x1024_0_0_0).toLoadRect (View.loadsAt_vmem h_S1x1x1024))
  let v27 : FVec F S512x1024 .bf16 := k0_pay162 v3 v4 v6 v23
  let v30 : FVec F S1x1024 .f32 := k0_pay163 v29
  let v32 : FVec F S1x1024 .f32 := k0_pay164 v31
  let ⟨v52, v72⟩ : Σ' (v52 : FVec F S512x1024 .bf16), FVec F S128x1024 .f32 ← k0_part25 i arg1 harg1 arg2 harg2 arg3 harg3 arg4 harg4 arg5 harg5 arg6 harg6 arg7 harg7 (Memref.whole main_arg4) (Memref.isWhole_whole _) arg9 harg9 arg10 harg10 arg11 harg11 arg12 harg12 arg13 harg13 arg14 harg14 arg15 harg15 arg16 harg16 arg17 harg17 arg18 harg18 arg19 harg19 arg20 harg20 alloca_r0 halloca_r0 cc0_scoped1 v28 v30 v32
  let ⟨v78, v89, v91, v95, v97, v99, v110⟩ : Σ' (v78 : FVec F S640x1024 .bf16) (v89 : BitVec 32) (v91 : FVec F S512x1024 .f32) (v95 : Vec F S512x128 .f32) (v97 : Vec F S512x128 .f32) (v99 : Vec F S512x128 .f32), FVec F S512x128 .bf16 ← k0_part26 i arg1 harg1 arg2 harg2 arg3 harg3 arg4 harg4 arg5 harg5 arg6 harg6 arg7 harg7 (Memref.whole main_arg4) (Memref.isWhole_whole _) arg9 harg9 arg10 harg10 arg11 harg11 arg12 harg12 arg13 harg13 arg14 harg14 arg15 harg15 arg16 harg16 arg17 harg17 arg18 harg18 arg19 harg19 arg20 harg20 alloca_r0 halloca_r0 cc0_scoped1 arg0 v27 v52 v72
  let ⟨v149, cst_73⟩ : Σ' (v149 : FVec F S512x128 .f32), F .f32 ← k0_part27 i arg1 harg1 arg2 harg2 arg3 harg3 arg4 harg4 arg5 harg5 arg6 harg6 arg7 harg7 (Memref.whole main_arg4) (Memref.isWhole_whole _) arg9 harg9 arg10 harg10 arg11 harg11 arg12 harg12 arg13 harg13 arg14 harg14 arg15 harg15 arg16 harg16 arg17 harg17 arg18 harg18 arg19 harg19 arg20 harg20 alloca_r0 halloca_r0 cc0_scoped1 v91 v95 v97 v99 v110
  let ⟨v184, v185, v187⟩ : Σ' (v184 : FVec F S512x128 .f32) (v185 : FVec F S512x128 .f32), FVec F S512x128 .f32 ← k0_part28 i arg1 harg1 arg2 harg2 arg3 harg3 arg4 harg4 arg5 harg5 arg6 harg6 arg7 harg7 (Memref.whole main_arg4) (Memref.isWhole_whole _) arg9 harg9 arg10 harg10 arg11 harg11 arg12 harg12 arg13 harg13 arg14 harg14 arg15 harg15 arg16 harg16 arg17 harg17 arg18 harg18 arg19 harg19 arg20 harg20 alloca_r0 halloca_r0 cc0_scoped1 v91 v95 v97 v99 v149 cst_73
  let ⟨v213, v217, v219, v221, v222, v223, v224⟩ : Σ' (v213 : FVec F S512x1024 .f32) (v217 : Vec F S512x128 .f32) (v219 : Vec F S512x128 .f32) (v221 : Vec F S512x128 .f32) (v222 : FVec F S512x128 .f32) (v223 : FVec F S512x128 .f32), FVec F S512x128 .f32 ← k0_part29 i arg1 harg1 arg2 harg2 arg3 harg3 arg4 harg4 arg5 harg5 arg6 harg6 arg7 harg7 (Memref.whole main_arg4) (Memref.isWhole_whole _) arg9 harg9 arg10 harg10 arg11 harg11 arg12 harg12 arg13 harg13 arg14 harg14 arg15 harg15 arg16 harg16 arg17 harg17 arg18 harg18 arg19 harg19 arg20 harg20 alloca_r0 halloca_r0 cc0_scoped1 v52 v89 v91 v95 v97 v99 v184 v185 v187
  let v260 : FVec F S512x128 .bf16 ← k0_part30 i arg1 harg1 arg2 harg2 arg3 harg3 arg4 harg4 arg5 harg5 arg6 harg6 arg7 harg7 (Memref.whole main_arg4) (Memref.isWhole_whole _) arg9 harg9 arg10 harg10 arg11 harg11 arg12 harg12 arg13 harg13 arg14 harg14 arg15 harg15 arg16 harg16 arg17 harg17 arg18 harg18 arg19 harg19 arg20 harg20 alloca_r0 halloca_r0 cc0_scoped1 v213 v217 v219 v221 v222 v223 v224
  let v302 : FVec F S512x128 .bf16 ← k0_part31 i arg1 harg1 arg2 harg2 arg3 harg3 arg4 harg4 arg5 harg5 arg6 harg6 arg7 harg7 (Memref.whole main_arg4) (Memref.isWhole_whole _) arg9 harg9 arg10 harg10 arg11 harg11 arg12 harg12 arg13 harg13 arg14 harg14 arg15 harg15 arg16 harg16 arg17 harg17 arg18 harg18 arg19 harg19 arg20 harg20 alloca_r0 halloca_r0 cc0_scoped1 v213 v217 v219 v221 v260
  let ⟨v335, v337⟩ : Σ' (v335 : FVec F S512x1024 .f32), BitVec 32 ← k0_part32 i arg1 harg1 arg2 harg2 arg3 harg3 arg4 harg4 arg5 harg5 arg6 harg6 arg7 harg7 (Memref.whole main_arg4) (Memref.isWhole_whole _) arg9 harg9 arg10 harg10 arg11 harg11 arg12 harg12 arg13 harg13 arg14 harg14 arg15 harg15 arg16 harg16 arg17 harg17 arg18 harg18 arg19 harg19 arg20 harg20 alloca_r0 halloca_r0 cc0_scoped1 v27 v89 v213 v217 v219 v221 v302
  let ⟨v339, v341, v343, v376⟩ : Σ' (v339 : Vec F S512x128 .f32) (v341 : Vec F S512x128 .f32) (v343 : Vec F S512x128 .f32), FVec F S512x128 .bf16 ← k0_part33 i arg1 harg1 arg2 harg2 arg3 harg3 arg4 harg4 arg5 harg5 arg6 harg6 arg7 harg7 (Memref.whole main_arg4) (Memref.isWhole_whole _) arg9 harg9 arg10 harg10 arg11 harg11 arg12 harg12 arg13 harg13 arg14 harg14 arg15 harg15 arg16 harg16 arg17 harg17 arg18 harg18 arg19 harg19 arg20 harg20 alloca_r0 halloca_r0 cc0_scoped1 v335 v337
  let ⟨v412, v413⟩ : Σ' (v412 : FVec F S512x128 .bf16), Vec F S1x1x512x128 .bf16 ← k0_part34 i arg1 harg1 arg2 harg2 arg3 harg3 arg4 harg4 arg5 harg5 arg6 harg6 arg7 harg7 (Memref.whole main_arg4) (Memref.isWhole_whole _) arg9 harg9 arg10 harg10 arg11 harg11 arg12 harg12 arg13 harg13 arg14 harg14 arg15 harg15 arg16 harg16 arg17 harg17 arg18 harg18 arg19 harg19 arg20 harg20 alloca_r0 halloca_r0 cc0_scoped1 v335 v339 v341 v343 v376
  let ⟨v441, v445, v447, v449, v450, v451⟩ : Σ' (v441 : FVec F S640x1024 .f32) (v445 : Vec F S512x128 .f32) (v447 : Vec F S512x128 .f32) (v449 : Vec F S512x128 .f32) (v450 : FVec F S512x128 .f32), FVec F S512x128 .f32 ← k0_part35 i arg1 harg1 arg2 harg2 arg3 harg3 arg4 harg4 arg5 harg5 arg6 harg6 arg7 harg7 (Memref.whole main_arg4) (Memref.isWhole_whole _) arg9 harg9 arg10 harg10 arg11 harg11 arg12 harg12 arg13 harg13 arg14 harg14 arg15 harg15 arg16 harg16 arg17 harg17 arg18 harg18 arg19 harg19 arg20 harg20 alloca_r0 halloca_r0 cc0_scoped1 v78 v89 v335 v339 v341 v343 v412 v413
  let ⟨v486, v487, v489⟩ : Σ' (v486 : FVec F S512x128 .f32) (v487 : FVec F S512x128 .f32), FVec F S512x128 .f32 ← k0_part36 i arg1 harg1 arg2 harg2 arg3 harg3 arg4 harg4 arg5 harg5 arg6 harg6 arg7 harg7 (Memref.whole main_arg4) (Memref.isWhole_whole _) arg9 harg9 arg10 harg10 arg11 harg11 arg12 harg12 arg13 harg13 arg14 harg14 arg15 harg15 arg16 harg16 arg17 harg17 arg18 harg18 arg19 harg19 arg20 harg20 alloca_r0 halloca_r0 cc0_scoped1 v441 v445 v447 v449 v450 v451
  let ⟨v526, v527⟩ : Σ' (v526 : FVec F S512x128 .f32), FVec F S512x128 .f32 ← k0_part37 i arg1 harg1 arg2 harg2 arg3 harg3 arg4 harg4 arg5 harg5 arg6 harg6 arg7 harg7 (Memref.whole main_arg4) (Memref.isWhole_whole _) arg9 harg9 arg10 harg10 arg11 harg11 arg12 harg12 arg13 harg13 arg14 harg14 arg15 harg15 arg16 harg16 arg17 harg17 arg18 harg18 arg19 harg19 arg20 harg20 alloca_r0 halloca_r0 cc0_scoped1 v441 v445 v447 v449 v486 v487 v489
  let ⟨v547, v560⟩ : Σ' (v547 : FVec F S128x1024 .bf16), FVec F S128x128 .bf16 ← k0_part38 i arg1 harg1 arg2 harg2 arg3 harg3 arg4 harg4 arg5 harg5 arg6 harg6 arg7 harg7 (Memref.whole main_arg4) (Memref.isWhole_whole _) arg9 harg9 arg10 harg10 arg11 harg11 arg12 harg12 arg13 harg13 arg14 harg14 arg15 harg15 arg16 harg16 arg17 harg17 arg18 harg18 arg19 harg19 arg20 harg20 alloca_r0 halloca_r0 cc0_scoped1 v441 v445 v447 v449 v526 v527
  let ⟨v582, v587⟩ : Σ' (v582 : FVec F S512x1024 .bf16), FVec F S512x128 .bf16 ← k0_part39 i arg1 harg1 arg2 harg2 arg3 harg3 arg4 harg4 arg5 harg5 arg6 harg6 arg7 harg7 (Memref.whole main_arg4) (Memref.isWhole_whole _) arg9 harg9 arg10 harg10 arg11 harg11 arg12 harg12 arg13 harg13 arg14 harg14 arg15 harg15 arg16 harg16 arg17 harg17 arg18 harg18 arg19 harg19 arg20 harg20 alloca_r0 halloca_r0 cc0_scoped1 v27 v547 v560
  let v611 : FVec F S512x128 .bf16 ← k0_part40 i arg1 harg1 arg2 harg2 arg3 harg3 arg4 harg4 arg5 harg5 arg6 harg6 arg7 harg7 (Memref.whole main_arg4) (Memref.isWhole_whole _) arg9 harg9 arg10 harg10 arg11 harg11 arg12 harg12 arg13 harg13 arg14 harg14 arg15 harg15 arg16 harg16 arg17 harg17 arg18 harg18 arg19 harg19 arg20 harg20 alloca_r0 halloca_r0 cc0_scoped1 v582 v587
  let ⟨v617, v618, v639, v640⟩ : Σ' (v617 : FVec F S640x1024 .bf16) (v618 : FVec F S512x1024 .bf16) (v639 : FVec F S512x128 .bf16), Vec F S1x1x512x128 .bf16 ← k0_part41 i arg1 harg1 arg2 harg2 arg3 harg3 arg4 harg4 arg5 harg5 arg6 harg6 arg7 harg7 (Memref.whole main_arg4) (Memref.isWhole_whole _) arg9 harg9 arg10 harg10 arg11 harg11 arg12 harg12 arg13 harg13 arg14 harg14 arg15 harg15 arg16 harg16 arg17 harg17 arg18 harg18 arg19 harg19 arg20 harg20 alloca_r0 halloca_r0 cc0_scoped1 v78 v611
  let ⟨v651, v668⟩ : Σ' (v651 : FVec F S128x1024 .bf16), FVec F S128x128 .bf16 ← k0_part42 i arg1 harg1 arg2 harg2 arg3 harg3 arg4 harg4 arg5 harg5 arg6 harg6 arg7 harg7 (Memref.whole main_arg4) (Memref.isWhole_whole _) arg9 harg9 arg10 harg10 arg11 harg11 arg12 harg12 arg13 harg13 arg14 harg14 arg15 harg15 arg16 harg16 arg17 harg17 arg18 harg18 arg19 harg19 arg20 harg20 alloca_r0 halloca_r0 cc0_scoped1 v617 v618 v639 v640
  let v693 : FVec F S512x2048 .f32 ← k0_part43 i arg1 harg1 arg2 harg2 arg3 harg3 arg4 harg4 arg5 harg5 arg6 harg6 arg7 harg7 (Memref.whole main_arg4) (Memref.isWhole_whole _) arg9 harg9 arg10 harg10 arg11 harg11 arg12 harg12 arg13 harg13 arg14 harg14 arg15 harg15 arg16 harg16 arg17 harg17 arg18 harg18 arg19 harg19 arg20 harg20 alloca_r0 halloca_r0 cc0_scoped1 v27 v52 v651 v668
  let v700 : Vec F S512x2048 .bf16 ← Prog.lift (.load arg14 (Rect.unit (s := S1024x2048) ![0, 0] S512x2048.size inb_S1024x2048_S512x2048_0_0).toLoadRect (View.loadsAt_vmem h_S512x2048))
  Prog.lift (.store arg14 (Rect.unit (s := S1024x2048) ![0, 0] S512x2048.size inb_S1024x2048_S512x2048_0_0) (k0_pay1 v693) Finset.univ (View.stores_vmem h_S512x2048 (harg14.storeExact_slice rfl _ packedbf16_S1024x2048_S512x2048_0_0) (fun _ => rfl)) (.inl rfl))
  let v701 : Vec F S1024x2048 .bf16 ← Prog.lift (.load arg17 (Rect.unit (s := S1024x5632) ![0, 3584] S1024x2048.size inb_S1024x5632_S1024x2048_0_3584).toLoadRect (View.loadsAt_vmem h_S1024x2048))
  let v711 : Vec F S512x2048 .bf16 ← Prog.lift (.load arg14 (Rect.unit (s := S1024x2048) ![512, 0] S512x2048.size inb_S1024x2048_S512x2048_512_0).toLoadRect (View.loadsAt_vmem h_S512x2048))
  Prog.lift (.store arg14 (Rect.unit (s := S1024x2048) ![512, 0] S512x2048.size inb_S1024x2048_S512x2048_512_0) (k0_pay2 v52 v701) Finset.univ (View.stores_vmem h_S512x2048 (harg14.storeExact_slice rfl _ packedbf16_S1024x2048_S512x2048_512_0) (fun _ => rfl)) (.inl rfl))
  pure ⟨⟩

set_option maxRecDepth 65536 in
set_option maxHeartbeats 4000000 in
theorem mix_first (hi : first i) :
    cc0_mix_in (F := F) i arg1 harg1 arg2 harg2 arg3 harg3 arg4 harg4 arg5 harg5 arg6 harg6 arg7 harg7 (Memref.whole main_arg4) (Memref.isWhole_whole _) arg9 harg9 arg10 harg10 arg11 harg11 arg12 harg12 arg13 harg13 arg14 harg14 arg15 harg15 arg16 harg16 arg17 harg17 arg18 harg18 arg19 harg19 arg20 harg20 alloca_r0 halloca_r0 cc0_scoped1
      = load i arg1 harg1 arg2 harg2 arg3 harg3 arg4 harg4 arg5 harg5 arg6 harg6 arg7 harg7 arg9 harg9 arg10 harg10 arg11 harg11 arg12 harg12 arg13 harg13 arg14 harg14 arg15 harg15 arg16 harg16 arg17 harg17 arg18 harg18 arg19 harg19 arg20 harg20 alloca_r0 halloca_r0 >>= fun _ => comp i arg1 harg1 arg2 harg2 arg3 harg3 arg4 harg4 arg5 harg5 arg6 harg6 arg7 harg7 arg9 harg9 arg10 harg10 arg11 harg11 arg12 harg12 arg13 harg13 arg14 harg14 arg15 harg15 arg16 harg16 arg17 harg17 arg18 harg18 arg19 harg19 arg20 harg20 alloca_r0 halloca_r0 := by
  rw [cc0_mix_in_eq_skeleton]
  unfold cc0_mix_in_skel load comp
  rw [k0_part24_eq_skeleton]
  unfold k0_part24_skel
  dsimp only
  rw [dif_pos hi]
  rfl

set_option maxRecDepth 65536 in
set_option maxHeartbeats 4000000 in
theorem mix_later (hi : ¬ first i) :
    cc0_mix_in (F := F) i arg1 harg1 arg2 harg2 arg3 harg3 arg4 harg4 arg5 harg5 arg6 harg6 arg7 harg7 (Memref.whole main_arg4) (Memref.isWhole_whole _) arg9 harg9 arg10 harg10 arg11 harg11 arg12 harg12 arg13 harg13 arg14 harg14 arg15 harg15 arg16 harg16 arg17 harg17 arg18 harg18 arg19 harg19 arg20 harg20 alloca_r0 halloca_r0 cc0_scoped1
      = comp i arg1 harg1 arg2 harg2 arg3 harg3 arg4 harg4 arg5 harg5 arg6 harg6 arg7 harg7 arg9 harg9 arg10 harg10 arg11 harg11 arg12 harg12 arg13 harg13 arg14 harg14 arg15 harg15 arg16 harg16 arg17 harg17 arg18 harg18 arg19 harg19 arg20 harg20 alloca_r0 halloca_r0 := by
  rw [cc0_mix_in_eq_skeleton]
  unfold cc0_mix_in_skel comp
  rw [k0_part24_eq_skeleton]
  unfold k0_part24_skel
  dsimp only
  rw [dif_neg hi]
  rfl

end Cert.Kernel3Ideal.Mix
-- ==== Proof.MixStage.lean ====
/- The weights as the loads read them, the rotary tables, and a stored band of each. -/
module

public import proofs.«01_k».proof.Proof.MixLoad
public import proofs.«01_k».proof.Proof.Slot
public import Idealize.ShloMosaic.Lib.Pointwise

@[expose] public section

set_option maxRecDepth 16384

noncomputable section

namespace Cert.Kernel3Ideal.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel3Ideal.Gen Cert.Slot

variable {F : FTy → Type} [FloatOps F]

local notation "𝕄" => MT nD τ sig Unit (Elt F) ℕ (Pipeline.UD sig nD τ) ℕ

/-- Of HBM: the projection weights, as one matrix. -/
abbrev winV : Memref sig .tc .hbm S1024x5632 .f32 :=
  ((Memref.whole main_arg4).slice (Rect.unit ![0, 0, 0] S1x1024x5632.size inb_S1x1024x5632_S1x1024x5632_0_0_0) (fun _ => rfl)).squeeze
    S1024x5632 squeezes_S1x1024x5632_S1024x5632

/-- The same rounded: what the weight scratch holds. -/
def win (f : winV.view.ty.Contents (Elt F)) : FVec F S1024x5632 .bf16 := truncf .bf16 (winV.view.read (Elt F) f) bitsLt_bf16_f32

/-- A stored band is the copied block, rounded. -/
theorem band_5632 (v : Vec F S1x128x5632 .f32) (w : FVec F S128x5632 .f32) (h : shapeCast S128x5632 v shapeCasts_S1x128x5632_S128x5632 = w) :
    k0_pay3 v = truncf .bf16 w bitsLt_bf16_f32 := by
  subst h; exact shapeCast_self _ _

/-- An index of a block, placed: the block's offset is added. -/
theorem at_unit {s : Shape} (off size : Fin s.rank → Nat) (inb) (j : (Rect.unit (s := s) off size inb).shape.Idx) (a : Fin s.rank) :
    ((Rect.unit off size inb).emb j a : Nat) = off a + j a := by
  rw [Rect.emb_apply]; show off a + 1 * (j a : Nat) = _; omega

/-- Where a lane holds an angle of the row, not of the column. -/
abbrev onRow : IVec S64x128 1 := k0_pay11

/-- Where a lane holds the first of its pair. -/
abbrev lowHalf : IVec S64x128 1 := k0_pay12 (iota .tc S64x128 32 [1] iota_S64x128_d1_w32)

theorem tok_col (y : S2048x128.Idx) : (y 0).val % 64 < 64 := Nat.mod_lt _ (by decide)
theorem tok_row (y : S2048x128.Idx) : (y 0).val / 64 < 32 := by have : (y 0).val < 2048 := (y 0).isLt; omega
theorem tok_lane (y : S2048x128.Idx) : (y 1).val < 128 := (y 1).isLt

/-- A token's column and row in its image of 32 rows of 64, with its lane. -/
def colIx (y : S2048x128.Idx) : S64x128.Idx := ix2 (⟨(y 0).val % 64, tok_col y⟩ : Fin 64) (⟨(y 1).val, tok_lane y⟩ : Fin 128)
def rowIx (y : S2048x128.Idx) : S32x128.Idx := ix2 (⟨(y 0).val / 64, tok_row y⟩ : Fin 32) (⟨(y 1).val, tok_lane y⟩ : Fin 128)

/-- Row by row and column by column angles, spread over the tokens. -/
def tab (A : FVec F S32x128 .f32) (B : FVec F S64x128 .f32) (y : S2048x128.Idx) : F .f32 :=
  Scalar.select (onRow (colIx y)) (A (rowIx y)) (B (colIx y))

/-- The three tables. -/
def cosT (v : Vec F S1x128 .f32) : Vec F S2048x128 .f32 := fun y => tab (k0_pay18 v) (k0_pay16 v) y
def sloT (v : Vec F S1x128 .f32) : Vec F S2048x128 .f32 := fun y =>
  Scalar.select (lowHalf (colIx y)) (FloatOps.subf (Scalar.ofBits .f32 0x00000000#32) (tab (k0_pay19 v) (k0_pay17 v) y)) (Scalar.ofBits .f32 0x00000000#32)
def shiT (v : Vec F S1x128 .f32) : Vec F S2048x128 .f32 := fun y =>
  Scalar.select (lowHalf (colIx y)) (Scalar.ofBits .f32 0x00000000#32) (tab (k0_pay19 v) (k0_pay17 v) y)

/-- A band of 64 tokens of one image row, as the body makes it. -/
def band (A : FVec F S32x128 .f32) (B : FVec F S64x128 .f32) (r : ℕ) (hs : S32x128.Slices ![r, 0] S1x128) : FVec F S64x128 .f32 :=
  select onRow (broadcastTo S64x128 (shapeCast S1x128 (extractStridedSlice S1x128 ![r, 0] A hs) shapeCasts_S1x128_S1x128) broadcasts_S1x128_S64x128) B
def cosB (v : Vec F S1x128 .f32) (r : ℕ) (hs : S32x128.Slices ![r, 0] S1x128) : FVec F S64x128 .f32 :=
  shapeCast S64x128 (band (k0_pay18 v) (k0_pay16 v) r hs) shapeCasts_S64x128_S64x128
def sloB (v : Vec F S1x128 .f32) (r : ℕ) (hs : S32x128.Slices ![r, 0] S1x128) : FVec F S64x128 .f32 :=
  shapeCast S64x128 (select lowHalf (subf (broadcast S64x128 (Scalar.ofBits .f32 0x00000000#32)) (band (k0_pay19 v) (k0_pay17 v) r hs)) k0_pay20) shapeCasts_S64x128_S64x128
def shiB (v : Vec F S1x128 .f32) (r : ℕ) (hs : S32x128.Slices ![r, 0] S1x128) : FVec F S64x128 .f32 :=
  shapeCast S64x128 (select lowHalf k0_pay20 (band (k0_pay19 v) (k0_pay17 v) r hs)) shapeCasts_S64x128_S64x128

section at_index

variable (r : ℕ) (hs : S32x128.Slices ![r, 0] S1x128) (x : S64x128.Idx) (y : S2048x128.Idx)
  (h0 : (y 0).val = 64 * r + (x 0).val) (h1 : (y 1).val = (x 1).val)

include h0 h1

theorem colIx_eq : colIx y = x := by
  have hx : (x 0).val < 64 := (x 0).isLt
  funext a
  match a with
  | ⟨0, _⟩ => exact Fin.ext (a := colIx y 0) (by show (y 0).val % 64 = (x 0).val; omega)
  | ⟨1, _⟩ => exact Fin.ext (a := colIx y 1) h1

theorem band_at (A : FVec F S32x128 .f32) (B : FVec F S64x128 .f32) : band A B r hs x = tab A B y := by
  unfold band tab
  rw [colIx_eq r x y h0 h1, shapeCast_self]
  show Scalar.select (onRow x) (A _) (B x) = _
  refine congrArg (fun i => Scalar.select (onRow x) (A i) (B x)) (funext fun a => ?_)
  have hx : (x 0).val < 64 := (x 0).isLt
  match a with
  | ⟨0, _⟩ => exact Fin.ext (by show r + 0 = (y 0).val / 64; omega)
  | ⟨1, _⟩ => exact Fin.ext (by show 0 + (x 1).val = (y 1).val; omega)

theorem cosB_at (v : Vec F S1x128 .f32) : cosB v r hs x = cosT v y := by
  unfold cosB cosT
  rw [shapeCast_self]; exact band_at r hs x y h0 h1 _ _

theorem sloB_at (v : Vec F S1x128 .f32) : sloB v r hs x = sloT v y := by
  unfold sloB sloT
  rw [shapeCast_self, ← band_at r hs x y h0 h1, colIx_eq r x y h0 h1]; rfl

theorem shiB_at (v : Vec F S1x128 .f32) : shiB v r hs x = shiT v y := by
  unfold shiB shiT
  rw [shapeCast_self, ← band_at r hs x y h0 h1, colIx_eq r x y h0 h1]; rfl

end at_index

end Cert.Kernel3Ideal.Mix
-- ==== Proof.MixLoadRun.lean ====
/- What the first point leaves: the weights and the three rotary tables. -/
module

public import proofs.«01_k».proof.Proof.MixStage

@[expose] public section

set_option maxRecDepth 16384

noncomputable section

namespace Cert.Kernel3Ideal.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel3Ideal.Gen Cert.Slot

variable {F : FTy → Type} [FloatOps F]

local notation "𝕄" => MT nD τ sig Unit (Elt F) ℕ (Pipeline.UD sig nD τ) ℕ

abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f
abbrev hbM : Memref sig .tc .hbm S1x1024x5632 .f32 := Memref.whole main_arg4

/-- Every row of the tables lies in one of 32 bands of 64. -/
theorem bands_cover (n : ℕ) (h : n < 2048) : 64 * (n / 64) ≤ n ∧ n < 64 * (n / 64) + 64 := by omega

set_option maxHeartbeats 16000000 in set_option sl_exec.dmaWindow true in set_option sl_exec.dmaWindowSet true in
theorem load_run (c : Dev nD) (i : grid0.Coords) (arg1 : Memref sig .tc .vmem S1024x1024 .f32) (harg1 : arg1.IsWhole) (arg2 : Memref sig .tc .vmem S128x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024 .f32) (harg7 : arg7.IsWhole) (arg9 : Memref sig .tc .vmem S1x128 .f32) (harg9 : arg9.IsWhole) (arg10 : Memref sig .tc .vmem S1x8x1024x128 .bf16) (harg10 : arg10.IsWhole) (arg11 : Memref sig .tc .vmem S1x8x1024x128 .bf16) (harg11 : arg11.IsWhole) (arg12 : Memref sig .tc .vmem S1x8x1024x128 .bf16) (harg12 : arg12.IsWhole) (arg13 : Memref sig .tc .vmem S1024x512 .f32) (harg13 : arg13.IsWhole) (arg14 : Memref sig .tc .vmem S1024x2048 .bf16) (harg14 : arg14.IsWhole) (arg15 : Memref sig .tc .vmem S1x8x128x128 .bf16) (harg15 : arg15.IsWhole) (arg16 : Memref sig .tc .vmem S1x8x128x128 .bf16) (harg16 : arg16.IsWhole) (arg17 : Memref sig .tc .vmem S1024x5632 .bf16) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole)
    (alloca_r0 : Memref sig .tc .vmem S2x128x5632 .f32) (halloca_r0 : alloca_r0.IsWhole)
    (x7 : Vec F S1x128 .f32) (fh : HbBuf (F := F) c hbM) (W : Waits sig Unit) (K : PUnit → sProp 𝕄) :
    iprop(owns (c : Thread nD τ) arg9 fullShare x7
        ∗ (∃ d, owns (c : Thread nD τ) arg17 fullShare d)
        ∗ (∃ d, owns (c : Thread nD τ) arg18 fullShare d)
        ∗ (∃ d, owns (c : Thread nD τ) arg19 fullShare d)
        ∗ (∃ d, owns (c : Thread nD τ) arg20 fullShare d)
        ∗ (∃ d, owns (c : Thread nD τ) alloca_r0 fullShare d)
        ∗ semVal ((c : Thread nD τ), SemLoc.dma 26) 0
        ∗ semVal ((c : Thread nD τ), SemLoc.dma 27) 0
        ∗ hbPt c hbM fh
        ∗ owes (c : Thread nD τ) 0 W
        ∗ (iprop(owns (c : Thread nD τ) arg9 fullShare x7
        ∗ owns (c : Thread nD τ) arg17 fullShare (win fh)
        ∗ owns (c : Thread nD τ) arg18 fullShare (cosT (View.ld x7 (Rect.unit ![0, 0] S1x128.size inb_S1x128_S1x128_0_0)))
        ∗ owns (c : Thread nD τ) arg19 fullShare (sloT (View.ld x7 (Rect.unit ![0, 0] S1x128.size inb_S1x128_S1x128_0_0)))
        ∗ owns (c : Thread nD τ) arg20 fullShare (shiT (View.ld x7 (Rect.unit ![0, 0] S1x128.size inb_S1x128_S1x128_0_0)))
        ∗ (∃ d, owns (c : Thread nD τ) alloca_r0 fullShare d)
        ∗ semVal ((c : Thread nD τ), SemLoc.dma 26) 0
        ∗ semVal ((c : Thread nD τ), SemLoc.dma 27) 0
        ∗ hbPt c hbM fh
        ∗ ∃ W', owes (c : Thread nD τ) 0 W') -∗ K ⟨⟩))
      ⊢ wp frame (wpE (defs₀ (F := F)) Variants.none c none) Set.univ (load i arg1 harg1 arg2 harg2 arg3 harg3 arg4 harg4 arg5 harg5 arg6 harg6 arg7 harg7 arg9 harg9 arg10 harg10 arg11 harg11 arg12 harg12 arg13 harg13 arg14 harg14 arg15 harg15 arg16 harg16 arg17 harg17 arg18 harg18 arg19 harg19 arg20 harg20 alloca_r0 halloca_r0) K := by
  unfold load
  rw [k0_part23_eq_skeleton]; unfold k0_part23_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
  unfold owns
  iintro ⟨⟨%f7, %hf7, H7⟩, ⟨%ds0, %fs0, -, HS0⟩, ⟨%ds1, %fs1, -, HS1⟩, ⟨%ds2, %fs2, -, HS2⟩, ⟨%ds3, %fs3, -, HS3⟩, ⟨%ds4, %fs4, -, HS4⟩, Hq0, Hq1, Hh, HW, Hk⟩
  subst hf7
  sl_exec
  sl_step
  iapply Hk
  isplitl [H7]
  · iexists _; isplitr; · ipureintro; rfl
    iexact H7
  isplitl [HS0]
  · iexists _; isplitr; swap; · iexact HS0
    ipureintro
    funext y
    refine View.read_writes_apply_of_pieces (Val := Elt F) arg17.view fs0 (e := .bf16) (win fh) _ ?_ y ?_
    · simp only [List.forall_mem_cons, List.not_mem_nil, false_imp_iff, implies_true, _root_.and_true]
      refine ⟨fun x => congrFun (band_5632 (load_run.sl.v1563_r0 c alloca_r0 fh fs4) (load_run.sl.dma18 c fh) ?_) x, fun x => congrFun (band_5632 (load_run.sl.v1550_r0 c alloca_r0 fh fs4) (load_run.sl.dma15 c fh) ?_) x, fun x => congrFun (band_5632 (load_run.sl.v1530_r0 c alloca_r0 fh fs4) (load_run.sl.dma12 c fh) ?_) x, fun x => congrFun (band_5632 (load_run.sl.v1510_r0 c alloca_r0 fh fs4) (load_run.sl.dma9 c fh) ?_) x, fun x => congrFun (band_5632 (load_run.sl.v1490_r0 c alloca_r0 fh fs4) (load_run.sl.dma6 c fh) ?_) x, fun x => congrFun (band_5632 (load_run.sl.v1470_r0 c alloca_r0 fh fs4) (load_run.sl.dma3 c fh) ?_) x, fun x => congrFun (band_5632 (load_run.sl.v1450_r0 c alloca_r0 fh fs4) (load_run.sl.dma0_1 c fh) ?_) x, fun x => congrFun (band_5632 (load_run.sl.v1430_r0 c alloca_r0 fh fs4) (load_run.sl.dma0 c fh) ?_) x⟩
      · unfold load_run.sl.v1563_r0; exact slot_hit _ _ _ _ _ _ _
      · unfold load_run.sl.v1550_r0; rw [slot_miss (hd := Rect.unit_disjoint 0 (by decide))]; exact slot_hit _ _ _ _ _ _ _
      · unfold load_run.sl.v1530_r0; rw [slot_miss (hd := Rect.unit_disjoint 0 (by decide))]; exact slot_hit _ _ _ _ _ _ _
      · unfold load_run.sl.v1510_r0; rw [slot_miss (hd := Rect.unit_disjoint 0 (by decide))]; exact slot_hit _ _ _ _ _ _ _
      · unfold load_run.sl.v1490_r0; rw [slot_miss (hd := Rect.unit_disjoint 0 (by decide))]; exact slot_hit _ _ _ _ _ _ _
      · unfold load_run.sl.v1470_r0; rw [slot_miss (hd := Rect.unit_disjoint 0 (by decide))]; exact slot_hit _ _ _ _ _ _ _
      · unfold load_run.sl.v1450_r0; rw [slot_miss (hd := Rect.unit_disjoint 0 (by decide))]; exact slot_hit _ _ _ _ _ _ _
      · unfold load_run.sl.v1430_r0; rw [slot_miss (hd := Rect.unit_disjoint 0 (by decide))]; exact slot_hit _ _ _ _ _ _ _
    · have hy : (y 0).val < 1024 := (y 0).isLt
      obtain h | h | h | h | h | h | h | h : (0 ≤ (y 0).val ∧ (y 0).val < 0 + 128) ∨ (128 ≤ (y 0).val ∧ (y 0).val < 128 + 128) ∨ (256 ≤ (y 0).val ∧ (y 0).val < 256 + 128) ∨ (384 ≤ (y 0).val ∧ (y 0).val < 384 + 128) ∨ (512 ≤ (y 0).val ∧ (y 0).val < 512 + 128) ∨ (640 ≤ (y 0).val ∧ (y 0).val < 640 + 128) ∨ (768 ≤ (y 0).val ∧ (y 0).val < 768 + 128) ∨ (896 ≤ (y 0).val ∧ (y 0).val < 896 + 128) := by omega
      · exact ⟨_, (List.Mem.tail _ (List.Mem.tail _ (List.Mem.tail _ (List.Mem.tail _ (List.Mem.tail _ (List.Mem.tail _ (List.Mem.tail _ (List.Mem.head _)))))))), rows_mem (n := 1024) (m := 5632) (k := 128) (o := 0) y (by decide) h⟩
      · exact ⟨_, (List.Mem.tail _ (List.Mem.tail _ (List.Mem.tail _ (List.Mem.tail _ (List.Mem.tail _ (List.Mem.tail _ (List.Mem.head _))))))), rows_mem (n := 1024) (m := 5632) (k := 128) (o := 128) y (by decide) h⟩
      · exact ⟨_, (List.Mem.tail _ (List.Mem.tail _ (List.Mem.tail _ (List.Mem.tail _ (List.Mem.tail _ (List.Mem.head _)))))), rows_mem (n := 1024) (m := 5632) (k := 128) (o := 256) y (by decide) h⟩
      · exact ⟨_, (List.Mem.tail _ (List.Mem.tail _ (List.Mem.tail _ (List.Mem.tail _ (List.Mem.head _))))), rows_mem (n := 1024) (m := 5632) (k := 128) (o := 384) y (by decide) h⟩
      · exact ⟨_, (List.Mem.tail _ (List.Mem.tail _ (List.Mem.tail _ (List.Mem.head _)))), rows_mem (n := 1024) (m := 5632) (k := 128) (o := 512) y (by decide) h⟩
      · exact ⟨_, (List.Mem.tail _ (List.Mem.tail _ (List.Mem.head _))), rows_mem (n := 1024) (m := 5632) (k := 128) (o := 640) y (by decide) h⟩
      · exact ⟨_, (List.Mem.tail _ (List.Mem.head _)), rows_mem (n := 1024) (m := 5632) (k := 128) (o := 768) y (by decide) h⟩
      · exact ⟨_, (List.Mem.head _), rows_mem (n := 1024) (m := 5632) (k := 128) (o := 896) y (by decide) h⟩
  isplitl [HS1]
  · iexists _; isplitr; swap; · iexact HS1
    ipureintro
    funext y
    refine View.read_writes_apply_of_pieces (Val := Elt F) arg18.view fs1 (e := .f32) (cosT (View.ld (arg9.view.read (Elt F) f7) (Rect.unit ![0, 0] S1x128.size inb_S1x128_S1x128_0_0))) _ ?_ y ?_
    · simp only [List.forall_mem_cons, List.not_mem_nil, false_imp_iff, implies_true, _root_.and_true]
      refine ⟨fun x => cosB_at 31 slices_S32x128_o31_0_S1x128 x _ (at_unit _ _ _ x 0) ((at_unit _ _ _ x 1).trans (Nat.zero_add _)) _,
        fun x => cosB_at 30 slices_S32x128_o30_0_S1x128 x _ (at_unit _ _ _ x 0) ((at_unit _ _ _ x 1).trans (Nat.zero_add _)) _,
        fun x => cosB_at 29 slices_S32x128_o29_0_S1x128 x _ (at_unit _ _ _ x 0) ((at_unit _ _ _ x 1).trans (Nat.zero_add _)) _,
        fun x => cosB_at 28 slices_S32x128_o28_0_S1x128 x _ (at_unit _ _ _ x 0) ((at_unit _ _ _ x 1).trans (Nat.zero_add _)) _,
        fun x => cosB_at 27 slices_S32x128_o27_0_S1x128 x _ (at_unit _ _ _ x 0) ((at_unit _ _ _ x 1).trans (Nat.zero_add _)) _,
        fun x => cosB_at 26 slices_S32x128_o26_0_S1x128 x _ (at_unit _ _ _ x 0) ((at_unit _ _ _ x 1).trans (Nat.zero_add _)) _,
        fun x => cosB_at 25 slices_S32x128_o25_0_S1x128 x _ (at_unit _ _ _ x 0) ((at_unit _ _ _ x 1).trans (Nat.zero_add _)) _,
        fun x => cosB_at 24 slices_S32x128_o24_0_S1x128 x _ (at_unit _ _ _ x 0) ((at_unit _ _ _ x 1).trans (Nat.zero_add _)) _,
        fun x => cosB_at 23 slices_S32x128_o23_0_S1x128 x _ (at_unit _ _ _ x 0) ((at_unit _ _ _ x 1).trans (Nat.zero_add _)) _,
        fun x => cosB_at 22 slices_S32x128_o22_0_S1x128 x _ (at_unit _ _ _ x 0) ((at_unit _ _ _ x 1).trans (Nat.zero_add _)) _,
        fun x => cosB_at 21 slices_S32x128_o21_0_S1x128 x _ (at_unit _ _ _ x 0) ((at_unit _ _ _ x 1).trans (Nat.zero_add _)) _,
        fun x => cosB_at 20 slices_S32x128_o20_0_S1x128 x _ (at_unit _ _ _ x 0) ((at_unit _ _ _ x 1).trans (Nat.zero_add _)) _,
        fun x => cosB_at 19 slices_S32x128_o19_0_S1x128 x _ (at_unit _ _ _ x 0) ((at_unit _ _ _ x 1).trans (Nat.zero_add _)) _,
        fun x => cosB_at 18 slices_S32x128_o18_0_S1x128 x _ (at_unit _ _ _ x 0) ((at_unit _ _ _ x 1).trans (Nat.zero_add _)) _,
        fun x => cosB_at 17 slices_S32x128_o17_0_S1x128 x _ (at_unit _ _ _ x 0) ((at_unit _ _ _ x 1).trans (Nat.zero_add _)) _,
        fun x => cosB_at 16 slices_S32x128_o16_0_S1x128 x _ (at_unit _ _ _ x 0) ((at_unit _ _ _ x 1).trans (Nat.zero_add _)) _,
        fun x => cosB_at 15 slices_S32x128_o15_0_S1x128 x _ (at_unit _ _ _ x 0) ((at_unit _ _ _ x 1).trans (Nat.zero_add _)) _,
        fun x => cosB_at 14 slices_S32x128_o14_0_S1x128 x _ (at_unit _ _ _ x 0) ((at_unit _ _ _ x 1).trans (Nat.zero_add _)) _,
        fun x => cosB_at 13 slices_S32x128_o13_0_S1x128 x _ (at_unit _ _ _ x 0) ((at_unit _ _ _ x 1).trans (Nat.zero_add _)) _,
        fun x => cosB_at 12 slices_S32x128_o12_0_S1x128 x _ (at_unit _ _ _ x 0) ((at_unit _ _ _ x 1).trans (Nat.zero_add _)) _,
        fun x => cosB_at 11 slices_S32x128_o11_0_S1x128 x _ (at_unit _ _ _ x 0) ((at_unit _ _ _ x 1).trans (Nat.zero_add _)) _,
        fun x => cosB_at 10 slices_S32x128_o10_0_S1x128 x _ (at_unit _ _ _ x 0) ((at_unit _ _ _ x 1).trans (Nat.zero_add _)) _,
        fun x => cosB_at 9 slices_S32x128_o9_0_S1x128 x _ (at_unit _ _ _ x 0) ((at_unit _ _ _ x 1).trans (Nat.zero_add _)) _,
        fun x => cosB_at 8 slices_S32x128_o8_0_S1x128 x _ (at_unit _ _ _ x 0) ((at_unit _ _ _ x 1).trans (Nat.zero_add _)) _,
        fun x => cosB_at 7 slices_S32x128_o7_0_S1x128 x _ (at_unit _ _ _ x 0) ((at_unit _ _ _ x 1).trans (Nat.zero_add _)) _,
        fun x => cosB_at 6 slices_S32x128_o6_0_S1x128 x _ (at_unit _ _ _ x 0) ((at_unit _ _ _ x 1).trans (Nat.zero_add _)) _,
        fun x => cosB_at 5 slices_S32x128_o5_0_S1x128 x _ (at_unit _ _ _ x 0) ((at_unit _ _ _ x 1).trans (Nat.zero_add _)) _,
        fun x => cosB_at 4 slices_S32x128_o4_0_S1x128 x _ (at_unit _ _ _ x 0) ((at_unit _ _ _ x 1).trans (Nat.zero_add _)) _,
        fun x => cosB_at 3 slices_S32x128_o3_0_S1x128 x _ (at_unit _ _ _ x 0) ((at_unit _ _ _ x 1).trans (Nat.zero_add _)) _,
        fun x => cosB_at 2 slices_S32x128_o2_0_S1x128 x _ (at_unit _ _ _ x 0) ((at_unit _ _ _ x 1).trans (Nat.zero_add _)) _,
        fun x => cosB_at 1 slices_S32x128_o1_0_S1x128 x _ (at_unit _ _ _ x 0) ((at_unit _ _ _ x 1).trans (Nat.zero_add _)) _,
        fun x => cosB_at 0 slices_S32x128_o0_0_S1x128 x _ (at_unit _ _ _ x 0) ((at_unit _ _ _ x 1).trans (Nat.zero_add _)) _⟩
    · have hy : (y 0).val < 2048 := (y 0).isLt
      obtain h | h | h | h | h | h | h | h | h | h | h | h | h | h | h | h | h | h | h | h | h | h | h | h | h | h | h | h | h | h | h | h : (0 ≤ (y 0).val ∧ (y 0).val < 0 + 64) ∨ (64 ≤ (y 0).val ∧ (y 0).val < 64 + 64) ∨ (128 ≤ (y 0).val ∧ (y 0).val < 128 + 64) ∨ (192 ≤ (y 0).val ∧ (y 0).val < 192 + 64) ∨ (256 ≤ (y 0).val ∧ (y 0).val < 256 + 64) ∨ (320 ≤ (y 0).val ∧ (y 0).val < 320 + 64) ∨ (384 ≤ (y 0).val ∧ (y 0).val < 384 + 64) ∨ (448 ≤ (y 0).val ∧ (y 0).val < 448 + 64) ∨ (512 ≤ (y 0).val ∧ (y 0).val < 512 + 64) ∨ (576 ≤ (y 0).val ∧ (y 0).val < 576 + 64) ∨ (640 ≤ (y 0).val ∧ (y 0).val < 640 + 64) ∨ (704 ≤ (y 0).val ∧ (y 0).val < 704 + 64) ∨ (768 ≤ (y 0).val ∧ (y 0).val < 768 + 64) ∨ (832 ≤ (y 0).val ∧ (y 0).val < 832 + 64) ∨ (896 ≤ (y 0).val ∧ (y 0).val < 896 + 64) ∨ (960 ≤ (y 0).val ∧ (y 0).val < 960 + 64) ∨ (1024 ≤ (y 0).val ∧ (y 0).val < 1024 + 64) ∨ (1088 ≤ (y 0).val ∧ (y 0).val < 1088 + 64) ∨ (1152 ≤ (y 0).val ∧ (y 0).val < 1152 + 64) ∨ (1216 ≤ (y 0).val ∧ (y 0).val < 1216 + 64) ∨ (1280 ≤ (y 0).val ∧ (y 0).val < 1280 + 64) ∨ (1344 ≤ (y 0).val ∧ (y 0).val < 1344 + 64) ∨ (1408 ≤ (y 0).val ∧ (y 0).val < 1408 + 64) ∨ (1472 ≤ (y 0).val ∧ (y 0).val < 1472 + 64) ∨ (1536 ≤ (y 0).val ∧ (y 0).val < 1536 + 64) ∨ (1600 ≤ (y 0).val ∧ (y 0).val < 1600 + 64) ∨ (1664 ≤ (y 0).val ∧ (y 0).val < 1664 + 64) ∨ (1728 ≤ (y 0).val ∧ (y 0).val < 1728 + 64) ∨ (1792 ≤ (y 0).val ∧ (y 0).val < 1792 + 64) ∨ (1856 ≤ (y 0).val ∧ (y 0).val < 1856 + 64) ∨ (1920 ≤ (y 0).val ∧ (y 0).val < 1920 + 64) ∨ (1984 ≤ (y 0).val ∧ (y 0).val < 1984 + 64) := by omega
      · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))), rows_mem (n := 2048) (m := 128) (k := 64) (o := 0) y (by decide) h⟩
      · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))), rows_mem (n := 2048) (m := 128) (k := 64) (o := 64) y (by decide) h⟩
      · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))), rows_mem (n := 2048) (m := 128) (k := 64) (o := 128) y (by decide) h⟩
      · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))), rows_mem (n := 2048) (m := 128) (k := 64) (o := 192) y (by decide) h⟩
      · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))), rows_mem (n := 2048) (m := 128) (k := 64) (o := 256) y (by decide) h⟩
      · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))), rows_mem (n := 2048) (m := 128) (k := 64) (o := 320) y (by decide) h⟩
      · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))), rows_mem (n := 2048) (m := 128) (k := 64) (o := 384) y (by decide) h⟩
      · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))), rows_mem (n := 2048) (m := 128) (k := 64) (o := 448) y (by decide) h⟩
      · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))), rows_mem (n := 2048) (m := 128) (k := 64) (o := 512) y (by decide) h⟩
      · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))), rows_mem (n := 2048) (m := 128) (k := 64) (o := 576) y (by decide) h⟩
      · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))), rows_mem (n := 2048) (m := 128) (k := 64) (o := 640) y (by decide) h⟩
      · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))), rows_mem (n := 2048) (m := 128) (k := 64) (o := 704) y (by decide) h⟩
      · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))), rows_mem (n := 2048) (m := 128) (k := 64) (o := 768) y (by decide) h⟩
      · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))), rows_mem (n := 2048) (m := 128) (k := 64) (o := 832) y (by decide) h⟩
      · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))), rows_mem (n := 2048) (m := 128) (k := 64) (o := 896) y (by decide) h⟩
      · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))), rows_mem (n := 2048) (m := 128) (k := 64) (o := 960) y (by decide) h⟩
      · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))), rows_mem (n := 2048) (m := 128) (k := 64) (o := 1024) y (by decide) h⟩
      · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))), rows_mem (n := 2048) (m := 128) (k := 64) (o := 1088) y (by decide) h⟩
      · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))), rows_mem (n := 2048) (m := 128) (k := 64) (o := 1152) y (by decide) h⟩
      · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))), rows_mem (n := 2048) (m := 128) (k := 64) (o := 1216) y (by decide) h⟩
      · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))), rows_mem (n := 2048) (m := 128) (k := 64) (o := 1280) y (by decide) h⟩
      · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.head _))))))))))), rows_mem (n := 2048) (m := 128) (k := 64) (o := 1344) y (by decide) h⟩
      · exact ⟨_, (List.Mem.tail _ (List.Mem.tail _ (List.Mem.tail _ (List.Mem.tail _ (List.Mem.tail _ (List.Mem.tail _ (List.Mem.tail _ (List.Mem.tail _ (List.Mem.tail _ (List.Mem.head _)))))))))), rows_mem (n := 2048) (m := 128) (k := 64) (o := 1408) y (by decide) h⟩
      · exact ⟨_, (List.Mem.tail _ (List.Mem.tail _ (List.Mem.tail _ (List.Mem.tail _ (List.Mem.tail _ (List.Mem.tail _ (List.Mem.tail _ (List.Mem.tail _ (List.Mem.head _))))))))), rows_mem (n := 2048) (m := 128) (k := 64) (o := 1472) y (by decide) h⟩
      · exact ⟨_, (List.Mem.tail _ (List.Mem.tail _ (List.Mem.tail _ (List.Mem.tail _ (List.Mem.tail _ (List.Mem.tail _ (List.Mem.tail _ (List.Mem.head _)))))))), rows_mem (n := 2048) (m := 128) (k := 64) (o := 1536) y (by decide) h⟩
      · exact ⟨_, (List.Mem.tail _ (List.Mem.tail _ (List.Mem.tail _ (List.Mem.tail _ (List.Mem.tail _ (List.Mem.tail _ (List.Mem.head _))))))), rows_mem (n := 2048) (m := 128) (k := 64) (o := 1600) y (by decide) h⟩
      · exact ⟨_, (List.Mem.tail _ (List.Mem.tail _ (List.Mem.tail _ (List.Mem.tail _ (List.Mem.tail _ (List.Mem.head _)))))), rows_mem (n := 2048) (m := 128) (k := 64) (o := 1664) y (by decide) h⟩
      · exact ⟨_, (List.Mem.tail _ (List.Mem.tail _ (List.Mem.tail _ (List.Mem.tail _ (List.Mem.head _))))), rows_mem (n := 2048) (m := 128) (k := 64) (o := 1728) y (by decide) h⟩
      · exact ⟨_, (List.Mem.tail _ (List.Mem.tail _ (List.Mem.tail _ (List.Mem.head _)))), rows_mem (n := 2048) (m := 128) (k := 64) (o := 1792) y (by decide) h⟩
      · exact ⟨_, (List.Mem.tail _ (List.Mem.tail _ (List.Mem.head _))), rows_mem (n := 2048) (m := 128) (k := 64) (o := 1856) y (by decide) h⟩
      · exact ⟨_, (List.Mem.tail _ (List.Mem.head _)), rows_mem (n := 2048) (m := 128) (k := 64) (o := 1920) y (by decide) h⟩
      · exact ⟨_, (List.Mem.head _), rows_mem (n := 2048) (m := 128) (k := 64) (o := 1984) y (by decide) h⟩
  isplitl [HS2]
  · iexists _; isplitr; swap; · iexact HS2
    ipureintro
    funext y
    refine View.read_writes_apply_of_pieces (Val := Elt F) arg19.view fs2 (e := .f32) (sloT (View.ld (arg9.view.read (Elt F) f7) (Rect.unit ![0, 0] S1x128.size inb_S1x128_S1x128_0_0))) _ ?_ y ?_
    · simp only [List.forall_mem_cons, List.not_mem_nil, false_imp_iff, implies_true, _root_.and_true]
      refine ⟨fun x => sloB_at 31 slices_S32x128_o31_0_S1x128 x _ (at_unit _ _ _ x 0) ((at_unit _ _ _ x 1).trans (Nat.zero_add _)) _,
        fun x => sloB_at 30 slices_S32x128_o30_0_S1x128 x _ (at_unit _ _ _ x 0) ((at_unit _ _ _ x 1).trans (Nat.zero_add _)) _,
        fun x => sloB_at 29 slices_S32x128_o29_0_S1x128 x _ (at_unit _ _ _ x 0) ((at_unit _ _ _ x 1).trans (Nat.zero_add _)) _,
        fun x => sloB_at 28 slices_S32x128_o28_0_S1x128 x _ (at_unit _ _ _ x 0) ((at_unit _ _ _ x 1).trans (Nat.zero_add _)) _,
        fun x => sloB_at 27 slices_S32x128_o27_0_S1x128 x _ (at_unit _ _ _ x 0) ((at_unit _ _ _ x 1).trans (Nat.zero_add _)) _,
        fun x => sloB_at 26 slices_S32x128_o26_0_S1x128 x _ (at_unit _ _ _ x 0) ((at_unit _ _ _ x 1).trans (Nat.zero_add _)) _,
        fun x => sloB_at 25 slices_S32x128_o25_0_S1x128 x _ (at_unit _ _ _ x 0) ((at_unit _ _ _ x 1).trans (Nat.zero_add _)) _,
        fun x => sloB_at 24 slices_S32x128_o24_0_S1x128 x _ (at_unit _ _ _ x 0) ((at_unit _ _ _ x 1).trans (Nat.zero_add _)) _,
        fun x => sloB_at 23 slices_S32x128_o23_0_S1x128 x _ (at_unit _ _ _ x 0) ((at_unit _ _ _ x 1).trans (Nat.zero_add _)) _,
        fun x => sloB_at 22 slices_S32x128_o22_0_S1x128 x _ (at_unit _ _ _ x 0) ((at_unit _ _ _ x 1).trans (Nat.zero_add _)) _,
        fun x => sloB_at 21 slices_S32x128_o21_0_S1x128 x _ (at_unit _ _ _ x 0) ((at_unit _ _ _ x 1).trans (Nat.zero_add _)) _,
        fun x => sloB_at 20 slices_S32x128_o20_0_S1x128 x _ (at_unit _ _ _ x 0) ((at_unit _ _ _ x 1).trans (Nat.zero_add _)) _,
        fun x => sloB_at 19 slices_S32x128_o19_0_S1x128 x _ (at_unit _ _ _ x 0) ((at_unit _ _ _ x 1).trans (Nat.zero_add _)) _,
        fun x => sloB_at 18 slices_S32x128_o18_0_S1x128 x _ (at_unit _ _ _ x 0) ((at_unit _ _ _ x 1).trans (Nat.zero_add _)) _,
        fun x => sloB_at 17 slices_S32x128_o17_0_S1x128 x _ (at_unit _ _ _ x 0) ((at_unit _ _ _ x 1).trans (Nat.zero_add _)) _,
        fun x => sloB_at 16 slices_S32x128_o16_0_S1x128 x _ (at_unit _ _ _ x 0) ((at_unit _ _ _ x 1).trans (Nat.zero_add _)) _,
        fun x => sloB_at 15 slices_S32x128_o15_0_S1x128 x _ (at_unit _ _ _ x 0) ((at_unit _ _ _ x 1).trans (Nat.zero_add _)) _,
        fun x => sloB_at 14 slices_S32x128_o14_0_S1x128 x _ (at_unit _ _ _ x 0) ((at_unit _ _ _ x 1).trans (Nat.zero_add _)) _,
        fun x => sloB_at 13 slices_S32x128_o13_0_S1x128 x _ (at_unit _ _ _ x 0) ((at_unit _ _ _ x 1).trans (Nat.zero_add _)) _,
        fun x => sloB_at 12 slices_S32x128_o12_0_S1x128 x _ (at_unit _ _ _ x 0) ((at_unit _ _ _ x 1).trans (Nat.zero_add _)) _,
        fun x => sloB_at 11 slices_S32x128_o11_0_S1x128 x _ (at_unit _ _ _ x 0) ((at_unit _ _ _ x 1).trans (Nat.zero_add _)) _,
        fun x => sloB_at 10 slices_S32x128_o10_0_S1x128 x _ (at_unit _ _ _ x 0) ((at_unit _ _ _ x 1).trans (Nat.zero_add _)) _,
        fun x => sloB_at 9 slices_S32x128_o9_0_S1x128 x _ (at_unit _ _ _ x 0) ((at_unit _ _ _ x 1).trans (Nat.zero_add _)) _,
        fun x => sloB_at 8 slices_S32x128_o8_0_S1x128 x _ (at_unit _ _ _ x 0) ((at_unit _ _ _ x 1).trans (Nat.zero_add _)) _,
        fun x => sloB_at 7 slices_S32x128_o7_0_S1x128 x _ (at_unit _ _ _ x 0) ((at_unit _ _ _ x 1).trans (Nat.zero_add _)) _,
        fun x => sloB_at 6 slices_S32x128_o6_0_S1x128 x _ (at_unit _ _ _ x 0) ((at_unit _ _ _ x 1).trans (Nat.zero_add _)) _,
        fun x => sloB_at 5 slices_S32x128_o5_0_S1x128 x _ (at_unit _ _ _ x 0) ((at_unit _ _ _ x 1).trans (Nat.zero_add _)) _,
        fun x => sloB_at 4 slices_S32x128_o4_0_S1x128 x _ (at_unit _ _ _ x 0) ((at_unit _ _ _ x 1).trans (Nat.zero_add _)) _,
        fun x => sloB_at 3 slices_S32x128_o3_0_S1x128 x _ (at_unit _ _ _ x 0) ((at_unit _ _ _ x 1).trans (Nat.zero_add _)) _,
        fun x => sloB_at 2 slices_S32x128_o2_0_S1x128 x _ (at_unit _ _ _ x 0) ((at_unit _ _ _ x 1).trans (Nat.zero_add _)) _,
        fun x => sloB_at 1 slices_S32x128_o1_0_S1x128 x _ (at_unit _ _ _ x 0) ((at_unit _ _ _ x 1).trans (Nat.zero_add _)) _,
        fun x => sloB_at 0 slices_S32x128_o0_0_S1x128 x _ (at_unit _ _ _ x 0) ((at_unit _ _ _ x 1).trans (Nat.zero_add _)) _⟩
    · have hy : (y 0).val < 2048 := (y 0).isLt
      obtain h | h | h | h | h | h | h | h | h | h | h | h | h | h | h | h | h | h | h | h | h | h | h | h | h | h | h | h | h | h | h | h : (0 ≤ (y 0).val ∧ (y 0).val < 0 + 64) ∨ (64 ≤ (y 0).val ∧ (y 0).val < 64 + 64) ∨ (128 ≤ (y 0).val ∧ (y 0).val < 128 + 64) ∨ (192 ≤ (y 0).val ∧ (y 0).val < 192 + 64) ∨ (256 ≤ (y 0).val ∧ (y 0).val < 256 + 64) ∨ (320 ≤ (y 0).val ∧ (y 0).val < 320 + 64) ∨ (384 ≤ (y 0).val ∧ (y 0).val < 384 + 64) ∨ (448 ≤ (y 0).val ∧ (y 0).val < 448 + 64) ∨ (512 ≤ (y 0).val ∧ (y 0).val < 512 + 64) ∨ (576 ≤ (y 0).val ∧ (y 0).val < 576 + 64) ∨ (640 ≤ (y 0).val ∧ (y 0).val < 640 + 64) ∨ (704 ≤ (y 0).val ∧ (y 0).val < 704 + 64) ∨ (768 ≤ (y 0).val ∧ (y 0).val < 768 + 64) ∨ (832 ≤ (y 0).val ∧ (y 0).val < 832 + 64) ∨ (896 ≤ (y 0).val ∧ (y 0).val < 896 + 64) ∨ (960 ≤ (y 0).val ∧ (y 0).val < 960 + 64) ∨ (1024 ≤ (y 0).val ∧ (y 0).val < 1024 + 64) ∨ (1088 ≤ (y 0).val ∧ (y 0).val < 1088 + 64) ∨ (1152 ≤ (y 0).val ∧ (y 0).val < 1152 + 64) ∨ (1216 ≤ (y 0).val ∧ (y 0).val < 1216 + 64) ∨ (1280 ≤ (y 0).val ∧ (y 0).val < 1280 + 64) ∨ (1344 ≤ (y 0).val ∧ (y 0).val < 1344 + 64) ∨ (1408 ≤ (y 0).val ∧ (y 0).val < 1408 + 64) ∨ (1472 ≤ (y 0).val ∧ (y 0).val < 1472 + 64) ∨ (1536 ≤ (y 0).val ∧ (y 0).val < 1536 + 64) ∨ (1600 ≤ (y 0).val ∧ (y 0).val < 1600 + 64) ∨ (1664 ≤ (y 0).val ∧ (y 0).val < 1664 + 64) ∨ (1728 ≤ (y 0).val ∧ (y 0).val < 1728 + 64) ∨ (1792 ≤ (y 0).val ∧ (y 0).val < 1792 + 64) ∨ (1856 ≤ (y 0).val ∧ (y 0).val < 1856 + 64) ∨ (1920 ≤ (y 0).val ∧ (y 0).val < 1920 + 64) ∨ (1984 ≤ (y 0).val ∧ (y 0).val < 1984 + 64) := by omega
      · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))), rows_mem (n := 2048) (m := 128) (k := 64) (o := 0) y (by decide) h⟩
      · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))), rows_mem (n := 2048) (m := 128) (k := 64) (o := 64) y (by decide) h⟩
      · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))), rows_mem (n := 2048) (m := 128) (k := 64) (o := 128) y (by decide) h⟩
      · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))), rows_mem (n := 2048) (m := 128) (k := 64) (o := 192) y (by decide) h⟩
      · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))), rows_mem (n := 2048) (m := 128) (k := 64) (o := 256) y (by decide) h⟩
      · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))), rows_mem (n := 2048) (m := 128) (k := 64) (o := 320) y (by decide) h⟩
      · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))), rows_mem (n := 2048) (m := 128) (k := 64) (o := 384) y (by decide) h⟩
      · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))), rows_mem (n := 2048) (m := 128) (k := 64) (o := 448) y (by decide) h⟩
      · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))), rows_mem (n := 2048) (m := 128) (k := 64) (o := 512) y (by decide) h⟩
      · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))), rows_mem (n := 2048) (m := 128) (k := 64) (o := 576) y (by decide) h⟩
      · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))), rows_mem (n := 2048) (m := 128) (k := 64) (o := 640) y (by decide) h⟩
      · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))), rows_mem (n := 2048) (m := 128) (k := 64) (o := 704) y (by decide) h⟩
      · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))), rows_mem (n := 2048) (m := 128) (k := 64) (o := 768) y (by decide) h⟩
      · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))), rows_mem (n := 2048) (m := 128) (k := 64) (o := 832) y (by decide) h⟩
      · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))), rows_mem (n := 2048) (m := 128) (k := 64) (o := 896) y (by decide) h⟩
      · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))), rows_mem (n := 2048) (m := 128) (k := 64) (o := 960) y (by decide) h⟩
      · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))), rows_mem (n := 2048) (m := 128) (k := 64) (o := 1024) y (by decide) h⟩
      · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))), rows_mem (n := 2048) (m := 128) (k := 64) (o := 1088) y (by decide) h⟩
      · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))), rows_mem (n := 2048) (m := 128) (k := 64) (o := 1152) y (by decide) h⟩
      · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))), rows_mem (n := 2048) (m := 128) (k := 64) (o := 1216) y (by decide) h⟩
      · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))), rows_mem (n := 2048) (m := 128) (k := 64) (o := 1280) y (by decide) h⟩
      · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.head _))))))))))), rows_mem (n := 2048) (m := 128) (k := 64) (o := 1344) y (by decide) h⟩
      · exact ⟨_, (List.Mem.tail _ (List.Mem.tail _ (List.Mem.tail _ (List.Mem.tail _ (List.Mem.tail _ (List.Mem.tail _ (List.Mem.tail _ (List.Mem.tail _ (List.Mem.tail _ (List.Mem.head _)))))))))), rows_mem (n := 2048) (m := 128) (k := 64) (o := 1408) y (by decide) h⟩
      · exact ⟨_, (List.Mem.tail _ (List.Mem.tail _ (List.Mem.tail _ (List.Mem.tail _ (List.Mem.tail _ (List.Mem.tail _ (List.Mem.tail _ (List.Mem.tail _ (List.Mem.head _))))))))), rows_mem (n := 2048) (m := 128) (k := 64) (o := 1472) y (by decide) h⟩
      · exact ⟨_, (List.Mem.tail _ (List.Mem.tail _ (List.Mem.tail _ (List.Mem.tail _ (List.Mem.tail _ (List.Mem.tail _ (List.Mem.tail _ (List.Mem.head _)))))))), rows_mem (n := 2048) (m := 128) (k := 64) (o := 1536) y (by decide) h⟩
      · exact ⟨_, (List.Mem.tail _ (List.Mem.tail _ (List.Mem.tail _ (List.Mem.tail _ (List.Mem.tail _ (List.Mem.tail _ (List.Mem.head _))))))), rows_mem (n := 2048) (m := 128) (k := 64) (o := 1600) y (by decide) h⟩
      · exact ⟨_, (List.Mem.tail _ (List.Mem.tail _ (List.Mem.tail _ (List.Mem.tail _ (List.Mem.tail _ (List.Mem.head _)))))), rows_mem (n := 2048) (m := 128) (k := 64) (o := 1664) y (by decide) h⟩
      · exact ⟨_, (List.Mem.tail _ (List.Mem.tail _ (List.Mem.tail _ (List.Mem.tail _ (List.Mem.head _))))), rows_mem (n := 2048) (m := 128) (k := 64) (o := 1728) y (by decide) h⟩
      · exact ⟨_, (List.Mem.tail _ (List.Mem.tail _ (List.Mem.tail _ (List.Mem.head _)))), rows_mem (n := 2048) (m := 128) (k := 64) (o := 1792) y (by decide) h⟩
      · exact ⟨_, (List.Mem.tail _ (List.Mem.tail _ (List.Mem.head _))), rows_mem (n := 2048) (m := 128) (k := 64) (o := 1856) y (by decide) h⟩
      · exact ⟨_, (List.Mem.tail _ (List.Mem.head _)), rows_mem (n := 2048) (m := 128) (k := 64) (o := 1920) y (by decide) h⟩
      · exact ⟨_, (List.Mem.head _), rows_mem (n := 2048) (m := 128) (k := 64) (o := 1984) y (by decide) h⟩
  isplitl [HS3]
  · iexists _; isplitr; swap; · iexact HS3
    ipureintro
    funext y
    refine View.read_writes_apply_of_pieces (Val := Elt F) arg20.view fs3 (e := .f32) (shiT (View.ld (arg9.view.read (Elt F) f7) (Rect.unit ![0, 0] S1x128.size inb_S1x128_S1x128_0_0))) _ ?_ y ?_
    · simp only [List.forall_mem_cons, List.not_mem_nil, false_imp_iff, implies_true, _root_.and_true]
      refine ⟨fun x => shiB_at 31 slices_S32x128_o31_0_S1x128 x _ (at_unit _ _ _ x 0) ((at_unit _ _ _ x 1).trans (Nat.zero_add _)) _,
        fun x => shiB_at 30 slices_S32x128_o30_0_S1x128 x _ (at_unit _ _ _ x 0) ((at_unit _ _ _ x 1).trans (Nat.zero_add _)) _,
        fun x => shiB_at 29 slices_S32x128_o29_0_S1x128 x _ (at_unit _ _ _ x 0) ((at_unit _ _ _ x 1).trans (Nat.zero_add _)) _,
        fun x => shiB_at 28 slices_S32x128_o28_0_S1x128 x _ (at_unit _ _ _ x 0) ((at_unit _ _ _ x 1).trans (Nat.zero_add _)) _,
        fun x => shiB_at 27 slices_S32x128_o27_0_S1x128 x _ (at_unit _ _ _ x 0) ((at_unit _ _ _ x 1).trans (Nat.zero_add _)) _,
        fun x => shiB_at 26 slices_S32x128_o26_0_S1x128 x _ (at_unit _ _ _ x 0) ((at_unit _ _ _ x 1).trans (Nat.zero_add _)) _,
        fun x => shiB_at 25 slices_S32x128_o25_0_S1x128 x _ (at_unit _ _ _ x 0) ((at_unit _ _ _ x 1).trans (Nat.zero_add _)) _,
        fun x => shiB_at 24 slices_S32x128_o24_0_S1x128 x _ (at_unit _ _ _ x 0) ((at_unit _ _ _ x 1).trans (Nat.zero_add _)) _,
        fun x => shiB_at 23 slices_S32x128_o23_0_S1x128 x _ (at_unit _ _ _ x 0) ((at_unit _ _ _ x 1).trans (Nat.zero_add _)) _,
        fun x => shiB_at 22 slices_S32x128_o22_0_S1x128 x _ (at_unit _ _ _ x 0) ((at_unit _ _ _ x 1).trans (Nat.zero_add _)) _,
        fun x => shiB_at 21 slices_S32x128_o21_0_S1x128 x _ (at_unit _ _ _ x 0) ((at_unit _ _ _ x 1).trans (Nat.zero_add _)) _,
        fun x => shiB_at 20 slices_S32x128_o20_0_S1x128 x _ (at_unit _ _ _ x 0) ((at_unit _ _ _ x 1).trans (Nat.zero_add _)) _,
        fun x => shiB_at 19 slices_S32x128_o19_0_S1x128 x _ (at_unit _ _ _ x 0) ((at_unit _ _ _ x 1).trans (Nat.zero_add _)) _,
        fun x => shiB_at 18 slices_S32x128_o18_0_S1x128 x _ (at_unit _ _ _ x 0) ((at_unit _ _ _ x 1).trans (Nat.zero_add _)) _,
        fun x => shiB_at 17 slices_S32x128_o17_0_S1x128 x _ (at_unit _ _ _ x 0) ((at_unit _ _ _ x 1).trans (Nat.zero_add _)) _,
        fun x => shiB_at 16 slices_S32x128_o16_0_S1x128 x _ (at_unit _ _ _ x 0) ((at_unit _ _ _ x 1).trans (Nat.zero_add _)) _,
        fun x => shiB_at 15 slices_S32x128_o15_0_S1x128 x _ (at_unit _ _ _ x 0) ((at_unit _ _ _ x 1).trans (Nat.zero_add _)) _,
        fun x => shiB_at 14 slices_S32x128_o14_0_S1x128 x _ (at_unit _ _ _ x 0) ((at_unit _ _ _ x 1).trans (Nat.zero_add _)) _,
        fun x => shiB_at 13 slices_S32x128_o13_0_S1x128 x _ (at_unit _ _ _ x 0) ((at_unit _ _ _ x 1).trans (Nat.zero_add _)) _,
        fun x => shiB_at 12 slices_S32x128_o12_0_S1x128 x _ (at_unit _ _ _ x 0) ((at_unit _ _ _ x 1).trans (Nat.zero_add _)) _,
        fun x => shiB_at 11 slices_S32x128_o11_0_S1x128 x _ (at_unit _ _ _ x 0) ((at_unit _ _ _ x 1).trans (Nat.zero_add _)) _,
        fun x => shiB_at 10 slices_S32x128_o10_0_S1x128 x _ (at_unit _ _ _ x 0) ((at_unit _ _ _ x 1).trans (Nat.zero_add _)) _,
        fun x => shiB_at 9 slices_S32x128_o9_0_S1x128 x _ (at_unit _ _ _ x 0) ((at_unit _ _ _ x 1).trans (Nat.zero_add _)) _,
        fun x => shiB_at 8 slices_S32x128_o8_0_S1x128 x _ (at_unit _ _ _ x 0) ((at_unit _ _ _ x 1).trans (Nat.zero_add _)) _,
        fun x => shiB_at 7 slices_S32x128_o7_0_S1x128 x _ (at_unit _ _ _ x 0) ((at_unit _ _ _ x 1).trans (Nat.zero_add _)) _,
        fun x => shiB_at 6 slices_S32x128_o6_0_S1x128 x _ (at_unit _ _ _ x 0) ((at_unit _ _ _ x 1).trans (Nat.zero_add _)) _,
        fun x => shiB_at 5 slices_S32x128_o5_0_S1x128 x _ (at_unit _ _ _ x 0) ((at_unit _ _ _ x 1).trans (Nat.zero_add _)) _,
        fun x => shiB_at 4 slices_S32x128_o4_0_S1x128 x _ (at_unit _ _ _ x 0) ((at_unit _ _ _ x 1).trans (Nat.zero_add _)) _,
        fun x => shiB_at 3 slices_S32x128_o3_0_S1x128 x _ (at_unit _ _ _ x 0) ((at_unit _ _ _ x 1).trans (Nat.zero_add _)) _,
        fun x => shiB_at 2 slices_S32x128_o2_0_S1x128 x _ (at_unit _ _ _ x 0) ((at_unit _ _ _ x 1).trans (Nat.zero_add _)) _,
        fun x => shiB_at 1 slices_S32x128_o1_0_S1x128 x _ (at_unit _ _ _ x 0) ((at_unit _ _ _ x 1).trans (Nat.zero_add _)) _,
        fun x => shiB_at 0 slices_S32x128_o0_0_S1x128 x _ (at_unit _ _ _ x 0) ((at_unit _ _ _ x 1).trans (Nat.zero_add _)) _⟩
    · have hy : (y 0).val < 2048 := (y 0).isLt
      obtain h | h | h | h | h | h | h | h | h | h | h | h | h | h | h | h | h | h | h | h | h | h | h | h | h | h | h | h | h | h | h | h : (0 ≤ (y 0).val ∧ (y 0).val < 0 + 64) ∨ (64 ≤ (y 0).val ∧ (y 0).val < 64 + 64) ∨ (128 ≤ (y 0).val ∧ (y 0).val < 128 + 64) ∨ (192 ≤ (y 0).val ∧ (y 0).val < 192 + 64) ∨ (256 ≤ (y 0).val ∧ (y 0).val < 256 + 64) ∨ (320 ≤ (y 0).val ∧ (y 0).val < 320 + 64) ∨ (384 ≤ (y 0).val ∧ (y 0).val < 384 + 64) ∨ (448 ≤ (y 0).val ∧ (y 0).val < 448 + 64) ∨ (512 ≤ (y 0).val ∧ (y 0).val < 512 + 64) ∨ (576 ≤ (y 0).val ∧ (y 0).val < 576 + 64) ∨ (640 ≤ (y 0).val ∧ (y 0).val < 640 + 64) ∨ (704 ≤ (y 0).val ∧ (y 0).val < 704 + 64) ∨ (768 ≤ (y 0).val ∧ (y 0).val < 768 + 64) ∨ (832 ≤ (y 0).val ∧ (y 0).val < 832 + 64) ∨ (896 ≤ (y 0).val ∧ (y 0).val < 896 + 64) ∨ (960 ≤ (y 0).val ∧ (y 0).val < 960 + 64) ∨ (1024 ≤ (y 0).val ∧ (y 0).val < 1024 + 64) ∨ (1088 ≤ (y 0).val ∧ (y 0).val < 1088 + 64) ∨ (1152 ≤ (y 0).val ∧ (y 0).val < 1152 + 64) ∨ (1216 ≤ (y 0).val ∧ (y 0).val < 1216 + 64) ∨ (1280 ≤ (y 0).val ∧ (y 0).val < 1280 + 64) ∨ (1344 ≤ (y 0).val ∧ (y 0).val < 1344 + 64) ∨ (1408 ≤ (y 0).val ∧ (y 0).val < 1408 + 64) ∨ (1472 ≤ (y 0).val ∧ (y 0).val < 1472 + 64) ∨ (1536 ≤ (y 0).val ∧ (y 0).val < 1536 + 64) ∨ (1600 ≤ (y 0).val ∧ (y 0).val < 1600 + 64) ∨ (1664 ≤ (y 0).val ∧ (y 0).val < 1664 + 64) ∨ (1728 ≤ (y 0).val ∧ (y 0).val < 1728 + 64) ∨ (1792 ≤ (y 0).val ∧ (y 0).val < 1792 + 64) ∨ (1856 ≤ (y 0).val ∧ (y 0).val < 1856 + 64) ∨ (1920 ≤ (y 0).val ∧ (y 0).val < 1920 + 64) ∨ (1984 ≤ (y 0).val ∧ (y 0).val < 1984 + 64) := by omega
      · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))))), rows_mem (n := 2048) (m := 128) (k := 64) (o := 0) y (by decide) h⟩
      · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))))), rows_mem (n := 2048) (m := 128) (k := 64) (o := 64) y (by decide) h⟩
      · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))))), rows_mem (n := 2048) (m := 128) (k := 64) (o := 128) y (by decide) h⟩
      · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))))), rows_mem (n := 2048) (m := 128) (k := 64) (o := 192) y (by decide) h⟩
      · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))))), rows_mem (n := 2048) (m := 128) (k := 64) (o := 256) y (by decide) h⟩
      · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))))), rows_mem (n := 2048) (m := 128) (k := 64) (o := 320) y (by decide) h⟩
      · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))))), rows_mem (n := 2048) (m := 128) (k := 64) (o := 384) y (by decide) h⟩
      · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))))), rows_mem (n := 2048) (m := 128) (k := 64) (o := 448) y (by decide) h⟩
      · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))))), rows_mem (n := 2048) (m := 128) (k := 64) (o := 512) y (by decide) h⟩
      · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))))), rows_mem (n := 2048) (m := 128) (k := 64) (o := 576) y (by decide) h⟩
      · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))))), rows_mem (n := 2048) (m := 128) (k := 64) (o := 640) y (by decide) h⟩
      · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))))), rows_mem (n := 2048) (m := 128) (k := 64) (o := 704) y (by decide) h⟩
      · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))))), rows_mem (n := 2048) (m := 128) (k := 64) (o := 768) y (by decide) h⟩
      · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))))), rows_mem (n := 2048) (m := 128) (k := 64) (o := 832) y (by decide) h⟩
      · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))))), rows_mem (n := 2048) (m := 128) (k := 64) (o := 896) y (by decide) h⟩
      · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))), rows_mem (n := 2048) (m := 128) (k := 64) (o := 960) y (by decide) h⟩
      · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))), rows_mem (n := 2048) (m := 128) (k := 64) (o := 1024) y (by decide) h⟩
      · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))), rows_mem (n := 2048) (m := 128) (k := 64) (o := 1088) y (by decide) h⟩
      · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))), rows_mem (n := 2048) (m := 128) (k := 64) (o := 1152) y (by decide) h⟩
      · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))), rows_mem (n := 2048) (m := 128) (k := 64) (o := 1216) y (by decide) h⟩
      · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))), rows_mem (n := 2048) (m := 128) (k := 64) (o := 1280) y (by decide) h⟩
      · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.head _))))))))))), rows_mem (n := 2048) (m := 128) (k := 64) (o := 1344) y (by decide) h⟩
      · exact ⟨_, (List.Mem.tail _ (List.Mem.tail _ (List.Mem.tail _ (List.Mem.tail _ (List.Mem.tail _ (List.Mem.tail _ (List.Mem.tail _ (List.Mem.tail _ (List.Mem.tail _ (List.Mem.head _)))))))))), rows_mem (n := 2048) (m := 128) (k := 64) (o := 1408) y (by decide) h⟩
      · exact ⟨_, (List.Mem.tail _ (List.Mem.tail _ (List.Mem.tail _ (List.Mem.tail _ (List.Mem.tail _ (List.Mem.tail _ (List.Mem.tail _ (List.Mem.tail _ (List.Mem.head _))))))))), rows_mem (n := 2048) (m := 128) (k := 64) (o := 1472) y (by decide) h⟩
      · exact ⟨_, (List.Mem.tail _ (List.Mem.tail _ (List.Mem.tail _ (List.Mem.tail _ (List.Mem.tail _ (List.Mem.tail _ (List.Mem.tail _ (List.Mem.head _)))))))), rows_mem (n := 2048) (m := 128) (k := 64) (o := 1536) y (by decide) h⟩
      · exact ⟨_, (List.Mem.tail _ (List.Mem.tail _ (List.Mem.tail _ (List.Mem.tail _ (List.Mem.tail _ (List.Mem.tail _ (List.Mem.head _))))))), rows_mem (n := 2048) (m := 128) (k := 64) (o := 1600) y (by decide) h⟩
      · exact ⟨_, (List.Mem.tail _ (List.Mem.tail _ (List.Mem.tail _ (List.Mem.tail _ (List.Mem.tail _ (List.Mem.head _)))))), rows_mem (n := 2048) (m := 128) (k := 64) (o := 1664) y (by decide) h⟩
      · exact ⟨_, (List.Mem.tail _ (List.Mem.tail _ (List.Mem.tail _ (List.Mem.tail _ (List.Mem.head _))))), rows_mem (n := 2048) (m := 128) (k := 64) (o := 1728) y (by decide) h⟩
      · exact ⟨_, (List.Mem.tail _ (List.Mem.tail _ (List.Mem.tail _ (List.Mem.head _)))), rows_mem (n := 2048) (m := 128) (k := 64) (o := 1792) y (by decide) h⟩
      · exact ⟨_, (List.Mem.tail _ (List.Mem.tail _ (List.Mem.head _))), rows_mem (n := 2048) (m := 128) (k := 64) (o := 1856) y (by decide) h⟩
      · exact ⟨_, (List.Mem.tail _ (List.Mem.head _)), rows_mem (n := 2048) (m := 128) (k := 64) (o := 1920) y (by decide) h⟩
      · exact ⟨_, (List.Mem.head _), rows_mem (n := 2048) (m := 128) (k := 64) (o := 1984) y (by decide) h⟩
  isplitl [HS4]
  · iexists _; iexists _; isplitr; swap; · iexact HS4
    ipureintro; rfl
  isplitl [Hq0]; · iexact Hq0
  isplitl [Hq1]; · iexact Hq1
  isplitl [Hh]; · iexact Hh
  iexists _; iexact HW

end Cert.Kernel3Ideal.Mix
-- ==== Proof.MixPiece.lean ====
/- What the body stores at a point, entry by entry. -/
module

public import proofs.«01_k».proof.Proof.MixStage

@[expose] public section

set_option maxRecDepth 16384

noncomputable section

namespace Cert.Kernel3Ideal.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel3Ideal.Gen Cert.Slot

variable {F : FTy → Type} [FloatOps F]

local notation "𝕄" => MT nD τ sig Unit (Elt F) ℕ (Pipeline.UD sig nD τ) ℕ

/-- One of two families of 512, by the row of a block of 1024. -/
def pick {α : Type} (T B : Fin 512 → α) (r : Fin 1024) : α := if h : r.val < 512 then T ⟨r.val, h⟩ else B ⟨r.val - 512, by have := r.isLt; omega⟩

theorem pick_top {α : Type} (T B : Fin 512 → α) (r : Fin 1024) (x : Fin 512) (h : r.val = 0 + x.val) : pick T B r = T x := by
  unfold pick
  have hx := x.isLt
  rw [dif_pos (show r.val < 512 by omega)]
  exact congrArg T (Fin.ext (by show r.val = x.val; omega))
theorem pick_bot {α : Type} (T B : Fin 512 → α) (r : Fin 1024) (x : Fin 512) (h : r.val = 512 + x.val) : pick T B r = B x := by
  unfold pick
  rw [dif_neg (show ¬ r.val < 512 by omega)]
  exact congrArg B (Fin.ext (by show r.val - 512 = x.val; omega))

/-- The column of a lane of a head. -/
def col (h : Fin 8) (l : Fin 128) : Fin 1024 := ⟨128 * h.val + l.val, by omega⟩
/-- The lanes 16 on and 16 back, around the head. -/
def up (l : Fin 128) : Fin 128 := ⟨(l.val + 16) % 128, Nat.mod_lt _ (by decide)⟩
def dn (l : Fin 128) : Fin 128 := ⟨(l.val + 112) % 128, Nat.mod_lt _ (by decide)⟩

/-- A head of one token rotated: `c`, `s` and `t` are the token's rows of the three tables. -/
def rope1 (z c s t : Fin 128 → F .f32) (l : Fin 128) : F .f32 :=
  FloatOps.addf (FloatOps.addf (FloatOps.mulf (z l) (c l)) (FloatOps.mulf (z (up l)) (s l))) (FloatOps.mulf (z (dn l)) (t l))
def qOne (z c s t : Fin 128 → F .f32) (l : Fin 128) : F .bf16 := FloatOps.truncf .bf16 bitsLt_bf16_f32 (FloatOps.mulf (rope1 z c s t l) (Scalar.ofBits .f32 0x3E38AA3B#32))
def kOne (z c s t : Fin 128 → F .f32) (l : Fin 128) : F .bf16 := FloatOps.truncf .bf16 bitsLt_bf16_f32 (rope1 z c s t l)

/-- The same over 512 tokens, as the body computes it. -/
def ropeV (z C S T : FVec F S512x128 .f32) : FVec F S512x128 .f32 :=
  addf (addf (mulf z C) (mulf (dynamicRotate 1 112#32 none z rotates_S512x128_d1) S)) (mulf (dynamicRotate 1 16#32 none z rotates_S512x128_d1) T)
def qPc (z C S T : FVec F S512x128 .f32) : FVec F S1x1x512x128 .bf16 :=
  shapeCast S1x1x512x128 (truncf .bf16 (mulf (ropeV z C S T) (broadcast S512x128 (Scalar.ofBits .f32 0x3E38AA3B#32))) bitsLt_bf16_f32) shapeCasts_S512x128_S1x1x512x128
def kPc (z C S T : FVec F S512x128 .f32) : FVec F S1x1x512x128 .bf16 :=
  shapeCast S1x1x512x128 (truncf .bf16 (ropeV z C S T) bitsLt_bf16_f32) shapeCasts_S512x128_S1x1x512x128

theorem rot_up (z : FVec F S512x128 .f32) (r : Fin 512) (l : Fin 128) : dynamicRotate 1 112#32 none z rotates_S512x128_d1 (ix2 r l) = z (ix2 r (up l)) := by
  unfold dynamicRotate
  refine congrArg z (funext fun b => Fin.ext ?_)
  match b with
  | ⟨0, _⟩ => rfl
  | ⟨1, _⟩ => show (l.val + 128 - 112) % 128 = (l.val + 16) % 128; omega
theorem rot_dn (z : FVec F S512x128 .f32) (r : Fin 512) (l : Fin 128) : dynamicRotate 1 16#32 none z rotates_S512x128_d1 (ix2 r l) = z (ix2 r (dn l)) := by
  unfold dynamicRotate
  refine congrArg z (funext fun b => Fin.ext ?_)
  match b with
  | ⟨0, _⟩ => rfl
  | ⟨1, _⟩ => show (l.val + 128 - 16) % 128 = (l.val + 112) % 128; omega

theorem ropeV_at (z C S T : FVec F S512x128 .f32) (r : Fin 512) (l : Fin 128) :
    ropeV z C S T (ix2 r l) = rope1 (fun l => z (ix2 r l)) (fun l => C (ix2 r l)) (fun l => S (ix2 r l)) (fun l => T (ix2 r l)) l := by
  unfold ropeV rope1
  dsimp only
  rw [← rot_up z r l, ← rot_dn z r l]; rfl

theorem qOne_at (z C S T : FVec F S512x128 .f32) (r : Fin 512) (l : Fin 128) :
    truncf .bf16 (mulf (ropeV z C S T) (broadcast S512x128 (Scalar.ofBits .f32 0x3E38AA3B#32))) bitsLt_bf16_f32 (ix2 r l)
      = qOne (fun l => z (ix2 r l)) (fun l => C (ix2 r l)) (fun l => S (ix2 r l)) (fun l => T (ix2 r l)) l := by
  unfold qOne; rw [← ropeV_at]; rfl
theorem kOne_at (z C S T : FVec F S512x128 .f32) (r : Fin 512) (l : Fin 128) :
    truncf .bf16 (ropeV z C S T) bitsLt_bf16_f32 (ix2 r l)
      = kOne (fun l => z (ix2 r l)) (fun l => C (ix2 r l)) (fun l => S (ix2 r l)) (fun l => T (ix2 r l)) l := by
  unfold kOne; rw [← ropeV_at]; rfl

/-- A block of one head, entry by entry. -/
theorem cast_512 {α : Type} (v : S512x128.Idx → α) (x : S1x1x512x128.Idx) (r : Fin 512) (l : Fin 128) (hr : r.val = (x 2).val) (hl : l.val = (x 3).val) :
    shapeCast S1x1x512x128 v shapeCasts_S512x128_S1x1x512x128 x = v (ix2 r l) := by
  obtain rfl : r = x 2 := Fin.ext hr
  obtain rfl : l = x 3 := Fin.ext hl
  refine shapeCast_apply v _ x _ ?_
  have h0 : (x 0).val < 1 := (x 0).isLt
  have h1 : (x 1).val < 1 := (x 1).isLt
  refine (Shape.rowMajor_val_two (ix2 (x 2) (x 3))).trans (Eq.trans ?_ (Shape.rowMajor_val_four x).symm)
  show (x 2).val * 128 + (x 3).val = (((x 0).val * 1 + (x 1).val) * 512 + (x 2).val) * 128 + (x 3).val
  omega
theorem cast_128 {α : Type} (v : S128x128.Idx → α) (x : S1x1x128x128.Idx) (r : Fin 128) (l : Fin 128) (hr : r.val = (x 2).val) (hl : l.val = (x 3).val) :
    shapeCast S1x1x128x128 v shapeCasts_S128x128_S1x1x128x128 x = v (ix2 r l) := by
  obtain rfl : r = x 2 := Fin.ext hr
  obtain rfl : l = x 3 := Fin.ext hl
  refine shapeCast_apply v _ x _ ?_
  have h0 : (x 0).val < 1 := (x 0).isLt
  have h1 : (x 1).val < 1 := (x 1).isLt
  refine (Shape.rowMajor_val_two (ix2 (x 2) (x 3))).trans (Eq.trans ?_ (Shape.rowMajor_val_four x).symm)
  show (x 2).val * 128 + (x 3).val = (((x 0).val * 1 + (x 1).val) * 128 + (x 2).val) * 128 + (x 3).val
  omega

/-- A head's columns of a product. -/
theorem cols_512 {α : Type} (Z : S512x1024.Idx → α) (o : ℕ) (hs : S512x1024.Slices ![0, o] S512x128) (h : Fin 8) (ho : o = 128 * h.val) (r : Fin 512) (l : Fin 128) :
    extractStridedSlice S512x128 ![0, o] Z hs (ix2 r l) = Z (ix2 r (col h l)) := by
  subst ho
  refine extractStridedSlice_apply _ Z hs _ _ fun a => ?_
  match a with
  | ⟨0, _⟩ => exact (Nat.zero_add _).symm
  | ⟨1, _⟩ => rfl
theorem cols_640 {α : Type} (Z : S640x1024.Idx → α) (o : ℕ) (hs : S640x1024.Slices ![0, o] S512x128) (h : Fin 8) (ho : o = 128 * h.val) (r : Fin 512) (l : Fin 128) :
    extractStridedSlice S512x128 ![0, o] Z hs (ix2 r l) = Z (ix2 (⟨r.val, by omega⟩ : Fin 640) (col h l)) := by
  subst ho
  refine extractStridedSlice_apply _ Z hs _ _ fun a => ?_
  match a with
  | ⟨0, _⟩ => exact (Nat.zero_add _).symm
  | ⟨1, _⟩ => rfl
theorem cols_128 {α : Type} (Z : S128x1024.Idx → α) (o : ℕ) (hs : S128x1024.Slices ![0, o] S128x128) (h : Fin 8) (ho : o = 128 * h.val) (r : Fin 128) (l : Fin 128) :
    extractStridedSlice S128x128 ![0, o] Z hs (ix2 r l) = Z (ix2 r (col h l)) := by
  subst ho
  refine extractStridedSlice_apply _ Z hs _ _ fun a => ?_
  match a with
  | ⟨0, _⟩ => exact (Nat.zero_add _).symm
  | ⟨1, _⟩ => rfl

/-- The stored blocks of the rotated queries and keys: `zt` and `zb` are the products of the two row chains, the rest their rows of the tables. -/
def qS (zt zb : Fin 512 → Fin 1024 → F .f32) (Ct St Tt Cb Sb Tb : FVec F S512x128 .f32) : Vec F S1x8x1024x128 .bf16 := fun y =>
  pick (fun r => qOne (fun l => zt r (col (y 1) l)) (fun l => Ct (ix2 r l)) (fun l => St (ix2 r l)) (fun l => Tt (ix2 r l)) (y 3))
    (fun r => qOne (fun l => zb r (col (y 1) l)) (fun l => Cb (ix2 r l)) (fun l => Sb (ix2 r l)) (fun l => Tb (ix2 r l)) (y 3)) (y 2)
def kS (zt zb : Fin 512 → Fin 1024 → F .f32) (Ct St Tt Cb Sb Tb : FVec F S512x128 .f32) : Vec F S1x8x1024x128 .bf16 := fun y =>
  pick (fun r => kOne (fun l => zt r (col (y 1) l)) (fun l => Ct (ix2 r l)) (fun l => St (ix2 r l)) (fun l => Tt (ix2 r l)) (y 3))
    (fun r => kOne (fun l => zb r (col (y 1) l)) (fun l => Cb (ix2 r l)) (fun l => Sb (ix2 r l)) (fun l => Tb (ix2 r l)) (y 3)) (y 2)
/-- Of the values, by heads; and of the context's keys and values. -/
def vS (zt zb : FVec F S512x1024 .bf16) : Vec F S1x8x1024x128 .bf16 := fun y => pick (fun r => zt (ix2 r (col (y 1) (y 3)))) (fun r => zb (ix2 r (col (y 1) (y 3)))) (y 2)
def cS (z : FVec F S128x1024 .bf16) : Vec F S1x8x128x128 .bf16 := fun y => z (ix2 (y 2) (col (y 1) (y 3)))
/-- Of the pooling columns and of the gates. -/
def uS (zt zb : FVec F S512x512 .f32) : Vec F S1024x512 .f32 := fun y => pick (fun r => zt (ix2 r (y 1))) (fun r => zb (ix2 r (y 1))) (y 0)
def sgS (zt zb : FVec F S512x2048 .bf16) : Vec F S1024x2048 .bf16 := fun y => pick (fun r => zt (ix2 r (y 1))) (fun r => zb (ix2 r (y 1))) (y 0)

section pieces

variable (zt zb : Fin 512 → Fin 1024 → F .f32) (Ct St Tt Cb Sb Tb : FVec F S512x128 .f32) (h : Fin 8) (x : S1x1x512x128.Idx) (y : S1x8x1024x128.Idx)
  (h1 : (y 1).val = h.val + (x 1).val) (h3 : (y 3).val = 0 + (x 3).val)

include h1 h3

theorem q_top (z : FVec F S512x128 .f32) (hz : ∀ r l, z (ix2 r l) = zt r (col h l)) (h2 : (y 2).val = 0 + (x 2).val) :
    qPc z Ct St Tt x = qS zt zb Ct St Tt Cb Sb Tb y := by
  have hx1 : (x 1).val < 1 := (x 1).isLt
  have e1 : (y 1 : Fin 8) = h := Fin.ext (a := (y 1 : Fin 8)) (by omega)
  have e3 : (y 3 : Fin 128) = x 3 := Fin.ext (a := (y 3 : Fin 128)) (by omega)
  unfold qPc qS
  rw [pick_top _ _ _ (x 2) h2, cast_512 _ x (x 2) (x 3) rfl rfl]
  refine Eq.trans (b := qOne (fun l => z (ix2 (x 2) l)) (fun l => Ct (ix2 (x 2) l)) (fun l => St (ix2 (x 2) l)) (fun l => Tt (ix2 (x 2) l)) (x 3)) ?_ ?_
  · exact qOne_at z Ct St Tt (x 2) (x 3)
  · rw [e1, e3]; exact congrArg (fun f => qOne f _ _ _ _) (funext fun l => hz _ l)
theorem k_top (z : FVec F S512x128 .f32) (hz : ∀ r l, z (ix2 r l) = zt r (col h l)) (h2 : (y 2).val = 0 + (x 2).val) :
    kPc z Ct St Tt x = kS zt zb Ct St Tt Cb Sb Tb y := by
  have hx1 : (x 1).val < 1 := (x 1).isLt
  have e1 : (y 1 : Fin 8) = h := Fin.ext (a := (y 1 : Fin 8)) (by omega)
  have e3 : (y 3 : Fin 128) = x 3 := Fin.ext (a := (y 3 : Fin 128)) (by omega)
  unfold kPc kS
  rw [pick_top _ _ _ (x 2) h2, cast_512 _ x (x 2) (x 3) rfl rfl]
  refine Eq.trans (b := kOne (fun l => z (ix2 (x 2) l)) (fun l => Ct (ix2 (x 2) l)) (fun l => St (ix2 (x 2) l)) (fun l => Tt (ix2 (x 2) l)) (x 3)) ?_ ?_
  · exact kOne_at z Ct St Tt (x 2) (x 3)
  · rw [e1, e3]; exact congrArg (fun f => kOne f _ _ _ _) (funext fun l => hz _ l)
theorem v_top (vt vb : FVec F S512x1024 .bf16) (z : FVec F S512x128 .bf16) (hz : ∀ r l, z (ix2 r l) = vt (ix2 r (col h l))) (h2 : (y 2).val = 0 + (x 2).val) :
    shapeCast S1x1x512x128 z shapeCasts_S512x128_S1x1x512x128 x = vS vt vb y := by
  have hx1 : (x 1).val < 1 := (x 1).isLt
  have e1 : (y 1 : Fin 8) = h := Fin.ext (a := (y 1 : Fin 8)) (by omega)
  have e3 : (y 3 : Fin 128) = x 3 := Fin.ext (a := (y 3 : Fin 128)) (by omega)
  unfold vS
  rw [pick_top _ _ _ (x 2) h2, cast_512 _ x (x 2) (x 3) rfl rfl, e1, e3]
  exact hz _ _
theorem q_bot (z : FVec F S512x128 .f32) (hz : ∀ r l, z (ix2 r l) = zb r (col h l)) (h2 : (y 2).val = 512 + (x 2).val) :
    qPc z Cb Sb Tb x = qS zt zb Ct St Tt Cb Sb Tb y := by
  have hx1 : (x 1).val < 1 := (x 1).isLt
  have e1 : (y 1 : Fin 8) = h := Fin.ext (a := (y 1 : Fin 8)) (by omega)
  have e3 : (y 3 : Fin 128) = x 3 := Fin.ext (a := (y 3 : Fin 128)) (by omega)
  unfold qPc qS
  rw [pick_bot _ _ _ (x 2) h2, cast_512 _ x (x 2) (x 3) rfl rfl]
  refine Eq.trans (b := qOne (fun l => z (ix2 (x 2) l)) (fun l => Cb (ix2 (x 2) l)) (fun l => Sb (ix2 (x 2) l)) (fun l => Tb (ix2 (x 2) l)) (x 3)) ?_ ?_
  · exact qOne_at z Cb Sb Tb (x 2) (x 3)
  · rw [e1, e3]; exact congrArg (fun f => qOne f _ _ _ _) (funext fun l => hz _ l)
theorem k_bot (z : FVec F S512x128 .f32) (hz : ∀ r l, z (ix2 r l) = zb r (col h l)) (h2 : (y 2).val = 512 + (x 2).val) :
    kPc z Cb Sb Tb x = kS zt zb Ct St Tt Cb Sb Tb y := by
  have hx1 : (x 1).val < 1 := (x 1).isLt
  have e1 : (y 1 : Fin 8) = h := Fin.ext (a := (y 1 : Fin 8)) (by omega)
  have e3 : (y 3 : Fin 128) = x 3 := Fin.ext (a := (y 3 : Fin 128)) (by omega)
  unfold kPc kS
  rw [pick_bot _ _ _ (x 2) h2, cast_512 _ x (x 2) (x 3) rfl rfl]
  refine Eq.trans (b := kOne (fun l => z (ix2 (x 2) l)) (fun l => Cb (ix2 (x 2) l)) (fun l => Sb (ix2 (x 2) l)) (fun l => Tb (ix2 (x 2) l)) (x 3)) ?_ ?_
  · exact kOne_at z Cb Sb Tb (x 2) (x 3)
  · rw [e1, e3]; exact congrArg (fun f => kOne f _ _ _ _) (funext fun l => hz _ l)
theorem v_bot (vt vb : FVec F S512x1024 .bf16) (z : FVec F S512x128 .bf16) (hz : ∀ r l, z (ix2 r l) = vb (ix2 r (col h l))) (h2 : (y 2).val = 512 + (x 2).val) :
    shapeCast S1x1x512x128 z shapeCasts_S512x128_S1x1x512x128 x = vS vt vb y := by
  have hx1 : (x 1).val < 1 := (x 1).isLt
  have e1 : (y 1 : Fin 8) = h := Fin.ext (a := (y 1 : Fin 8)) (by omega)
  have e3 : (y 3 : Fin 128) = x 3 := Fin.ext (a := (y 3 : Fin 128)) (by omega)
  unfold vS
  rw [pick_bot _ _ _ (x 2) h2, cast_512 _ x (x 2) (x 3) rfl rfl, e1, e3]
  exact hz _ _

end pieces

theorem c_all (v : FVec F S128x1024 .bf16) (z : FVec F S128x128 .bf16) (h : Fin 8) (hz : ∀ r l, z (ix2 r l) = v (ix2 r (col h l))) (x : S1x1x128x128.Idx) (y : S1x8x128x128.Idx)
    (h1 : (y 1).val = h.val + (x 1).val) (h3 : (y 3).val = 0 + (x 3).val) (h2 : (y 2).val = 0 + (x 2).val) :
    shapeCast S1x1x128x128 z shapeCasts_S128x128_S1x1x128x128 x = cS v y := by
  have hx1 : (x 1).val < 1 := (x 1).isLt
  have e1 : (y 1 : Fin 8) = h := Fin.ext (a := (y 1 : Fin 8)) (by omega)
  have e3 : (y 3 : Fin 128) = x 3 := Fin.ext (a := (y 3 : Fin 128)) (by omega)
  have e2 : (y 2 : Fin 128) = x 2 := Fin.ext (a := (y 2 : Fin 128)) (by omega)
  unfold cS
  rw [cast_128 _ x (x 2) (x 3) rfl rfl, e1, e2, e3]
  exact hz _ _

theorem u_top (zt zb : FVec F S512x512 .f32) (x : S512x512.Idx) (y : S1024x512.Idx) (h0 : (y 0).val = 0 + (x 0).val) (h1 : (y 1).val = 0 + (x 1).val) : zt x = uS zt zb y := by
  unfold uS
  rw [pick_top _ _ _ (x 0) h0]
  exact congrArg zt (funext fun a => match a with
    | ⟨0, _⟩ => rfl
    | ⟨1, _⟩ => Fin.ext (by show (x 1).val = (y 1).val; omega))
theorem u_bot (zt zb : FVec F S512x512 .f32) (x : S512x512.Idx) (y : S1024x512.Idx) (h0 : (y 0).val = 512 + (x 0).val) (h1 : (y 1).val = 0 + (x 1).val) : zb x = uS zt zb y := by
  unfold uS
  rw [pick_bot _ _ _ (x 0) h0]
  exact congrArg zb (funext fun a => match a with
    | ⟨0, _⟩ => rfl
    | ⟨1, _⟩ => Fin.ext (by show (x 1).val = (y 1).val; omega))
theorem sg_top (zt zb : FVec F S512x2048 .bf16) (x : S512x2048.Idx) (y : S1024x2048.Idx) (h0 : (y 0).val = 0 + (x 0).val) (h1 : (y 1).val = 0 + (x 1).val) : zt x = sgS zt zb y := by
  unfold sgS
  rw [pick_top _ _ _ (x 0) h0]
  exact congrArg zt (funext fun a => match a with
    | ⟨0, _⟩ => rfl
    | ⟨1, _⟩ => Fin.ext (by show (x 1).val = (y 1).val; omega))
theorem sg_bot (zt zb : FVec F S512x2048 .bf16) (x : S512x2048.Idx) (y : S1024x2048.Idx) (h0 : (y 0).val = 512 + (x 0).val) (h1 : (y 1).val = 0 + (x 1).val) : zb x = sgS zt zb y := by
  unfold sgS
  rw [pick_bot _ _ _ (x 0) h0]
  exact congrArg zb (funext fun a => match a with
    | ⟨0, _⟩ => rfl
    | ⟨1, _⟩ => Fin.ext (by show (x 1).val = (y 1).val; omega))

end Cert.Kernel3Ideal.Mix
-- ==== Proof.MixCompRun.lean ====
/- The projections at a point where the weights and the tables are already there: what they compute, and the run. -/
module

public import proofs.«01_k».proof.Proof.MixLoadRun
public import proofs.«01_k».proof.Proof.MixPiece

@[expose] public section

set_option maxRecDepth 16384

noncomputable section

namespace Cert.Kernel3Ideal.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel3Ideal.Gen Cert.Slot

variable {F : FTy → Type} [FloatOps F]

local notation "𝕄" => MT nD τ sig Unit (Elt F) ℕ (Pipeline.UD sig nD τ) ℕ

/-- The modulated rows of the two chains, rounded, and the second chain with the context's rows below. -/
def hT (x0 : Vec F S1024x1024 .f32) (x2 x3 x6 : Vec F S1x1x1024 .f32) : FVec F S512x1024 .bf16 :=
  k0_pay162 (View.ld x0 (Rect.unit ![0, 0] S512x1024.size inb_S1024x1024_S512x1024_0_0)) (View.ld x6 (Rect.unit ![0, 0, 0] S1x1x1024.size inb_S1x1x1024_S1x1x1024_0_0_0)) (View.ld x3 (Rect.unit ![0, 0, 0] S1x1x1024.size inb_S1x1x1024_S1x1x1024_0_0_0)) (View.ld x2 (Rect.unit ![0, 0, 0] S1x1x1024.size inb_S1x1x1024_S1x1x1024_0_0_0))
def hB (x0 : Vec F S1024x1024 .f32) (x2 x3 x6 : Vec F S1x1x1024 .f32) : FVec F S512x1024 .bf16 :=
  k0_pay162 (View.ld x0 (Rect.unit ![512, 0] S512x1024.size inb_S1024x1024_S512x1024_512_0)) (View.ld x6 (Rect.unit ![0, 0, 0] S1x1x1024.size inb_S1x1x1024_S1x1x1024_0_0_0)) (View.ld x3 (Rect.unit ![0, 0, 0] S1x1x1024.size inb_S1x1x1024_S1x1x1024_0_0_0)) (View.ld x2 (Rect.unit ![0, 0, 0] S1x1x1024.size inb_S1x1x1024_S1x1x1024_0_0_0))
def hC (x0 : Vec F S1024x1024 .f32) (x1 : Vec F S128x1024 .f32) (x2 x3 x4 x5 x6 : Vec F S1x1x1024 .f32) : FVec F S640x1024 .bf16 :=
  k0_pay167 (hB x0 x2 x3 x6) (k0_pay166 (View.ld x1 (Rect.unit ![0, 0] S128x1024.size inb_S128x1024_S128x1024_0_0)) (View.ld x6 (Rect.unit ![0, 0, 0] S1x1x1024.size inb_S1x1x1024_S1x1x1024_0_0_0)) (View.ld x5 (Rect.unit ![0, 0, 0] S1x1x1024.size inb_S1x1x1024_S1x1x1024_0_0_0))) (View.ld x4 (Rect.unit ![0, 0, 0] S1x1x1024.size inb_S1x1x1024_S1x1x1024_0_0_0))

/-- Of 640 rows the first 512. -/
def top512 (z : FVec F S640x1024 .f32) (r : Fin 512) (q : Fin 1024) : F .f32 := z (ix2 (⟨r.val, by omega⟩ : Fin 640) q)

section out

variable (i : grid0.Coords) (tc tl th : Vec F S2048x128 .f32) (x0 : Vec F S1024x1024 .f32) (x1 : Vec F S128x1024 .f32) (x2 : Vec F S1x1x1024 .f32) (x3 : Vec F S1x1x1024 .f32) (x4 : Vec F S1x1x1024 .f32) (x5 : Vec F S1x1x1024 .f32) (x6 : Vec F S1x1x1024 .f32) (w : Vec F S1024x5632 .bf16)

/-- The seven blocks stored: queries, keys and values by heads, the pooling columns, the sigmoid of the gates, and the context's keys and values. -/
def qOut : Vec F S1x8x1024x128 .bf16 :=
  qS (fun r q => k0_pay168 (hT x0 x2 x3 x6) (View.ld w (Rect.unit ![0, 0] S1024x1024.size inb_S1024x5632_S1024x1024_0_0)) (ix2 r q)) (fun r q => k0_pay168 (hB x0 x2 x3 x6) (View.ld w (Rect.unit ![0, 0] S1024x1024.size inb_S1024x5632_S1024x1024_0_0)) (ix2 r q))
    (View.ld tc (Rect.unit (k0_off1 i 0#32) S512x128.size (k0_off1_inb i 0))) (View.ld tl (Rect.unit (k0_off1 i 0#32) S512x128.size (k0_off1_inb i 0))) (View.ld th (Rect.unit (k0_off1 i 0#32) S512x128.size (k0_off1_inb i 0))) (View.ld tc (Rect.unit (k0_off1 i 512#32) S512x128.size (k0_off1_inb i 1))) (View.ld tl (Rect.unit (k0_off1 i 512#32) S512x128.size (k0_off1_inb i 1))) (View.ld th (Rect.unit (k0_off1 i 512#32) S512x128.size (k0_off1_inb i 1)))
def kOut : Vec F S1x8x1024x128 .bf16 :=
  kS (fun r q => k0_pay168 (hT x0 x2 x3 x6) (View.ld w (Rect.unit ![0, 1024] S1024x1024.size inb_S1024x5632_S1024x1024_0_1024)) (ix2 r q)) (top512 (k0_pay207 (hC x0 x1 x2 x3 x4 x5 x6) (View.ld w (Rect.unit ![0, 1024] S1024x1024.size inb_S1024x5632_S1024x1024_0_1024))))
    (View.ld tc (Rect.unit (k0_off1 i 0#32) S512x128.size (k0_off1_inb i 0))) (View.ld tl (Rect.unit (k0_off1 i 0#32) S512x128.size (k0_off1_inb i 0))) (View.ld th (Rect.unit (k0_off1 i 0#32) S512x128.size (k0_off1_inb i 0))) (View.ld tc (Rect.unit (k0_off1 i 512#32) S512x128.size (k0_off1_inb i 1))) (View.ld tl (Rect.unit (k0_off1 i 512#32) S512x128.size (k0_off1_inb i 1))) (View.ld th (Rect.unit (k0_off1 i 512#32) S512x128.size (k0_off1_inb i 1)))
def vOut : Vec F S1x8x1024x128 .bf16 := vS (k0_pay234 (hT x0 x2 x3 x6) (View.ld w (Rect.unit ![0, 2048] S1024x1024.size inb_S1024x5632_S1024x1024_0_2048))) (k0_pay246 (hC x0 x1 x2 x3 x4 x5 x6) (View.ld w (Rect.unit ![0, 2048] S1024x1024.size inb_S1024x5632_S1024x1024_0_2048)))
def uOut : Vec F S1024x512 .f32 := uS (k0_pay266 (hT x0 x2 x3 x6) (View.ld w (Rect.unit ![0, 3072] S1024x512.size inb_S1024x5632_S1024x512_0_3072))) (k0_pay266 (hB x0 x2 x3 x6) (View.ld w (Rect.unit ![0, 3072] S1024x512.size inb_S1024x5632_S1024x512_0_3072)))
def sgOut : Vec F S1024x2048 .bf16 := sgS (k0_pay1 (k0_pay268 (hT x0 x2 x3 x6) (View.ld w (Rect.unit ![0, 3584] S1024x2048.size inb_S1024x5632_S1024x2048_0_3584)))) (k0_pay1 (k0_pay268 (hB x0 x2 x3 x6) (View.ld w (Rect.unit ![0, 3584] S1024x2048.size inb_S1024x5632_S1024x2048_0_3584))))
def kcOut : Vec F S1x8x128x128 .bf16 := cS (k0_pay224 (k0_pay207 (hC x0 x1 x2 x3 x4 x5 x6) (View.ld w (Rect.unit ![0, 1024] S1024x1024.size inb_S1024x5632_S1024x1024_0_1024))))
def vcOut : Vec F S1x8x128x128 .bf16 := cS (k0_pay256 (k0_pay245 (hC x0 x1 x2 x3 x4 x5 x6) (View.ld w (Rect.unit ![0, 2048] S1024x1024.size inb_S1024x5632_S1024x1024_0_2048))))

end out

/-- A block of one head and some rows holds the indices of that head and those rows. -/
theorem head_mem {m k h o : ℕ} (y : (⟨4, ![1, 8, m, 128]⟩ : Shape).Idx)
    (inb : ∀ a, (![0, h, o, 0] : Fin 4 → ℕ) a + (![1, 1, k, 128] : Fin 4 → ℕ) a ≤ (![1, 8, m, 128] : Fin 4 → ℕ) a)
    (h1 : (y 1).val = h) (h2 : o ≤ (y 2).val ∧ (y 2).val < o + k) : y ∈ (Rect.unit (s := (⟨4, ![1, 8, m, 128]⟩ : Shape)) ![0, h, o, 0] ![1, 1, k, 128] inb).set := by
  rw [Rect.mem_set_unit]
  intro a
  match a with
  | ⟨0, _⟩ =>
    have h0 : (y 0).val < 1 := (y 0).isLt
    show 0 ≤ (y 0).val ∧ (y 0).val < 0 + 1
    omega
  | ⟨1, _⟩ => show h ≤ (y 1).val ∧ (y 1).val < h + 1; omega
  | ⟨2, _⟩ => exact h2
  | ⟨3, _⟩ =>
    have h3 : (y 3).val < 128 := (y 3).isLt
    show 0 ≤ (y 3).val ∧ (y 3).val < 0 + 128
    omega

set_option maxHeartbeats 16000000 in
theorem comp_run (c : Dev nD) (i : grid0.Coords) (arg1 : Memref sig .tc .vmem S1024x1024 .f32) (harg1 : arg1.IsWhole) (arg2 : Memref sig .tc .vmem S128x1024 .f32) (harg2 : arg2.IsWhole) (arg3 : Memref sig .tc .vmem S1x1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1x1x1024 .f32) (harg6 : arg6.IsWhole) (arg7 : Memref sig .tc .vmem S1x1x1024 .f32) (harg7 : arg7.IsWhole) (arg9 : Memref sig .tc .vmem S1x128 .f32) (harg9 : arg9.IsWhole) (arg10 : Memref sig .tc .vmem S1x8x1024x128 .bf16) (harg10 : arg10.IsWhole) (arg11 : Memref sig .tc .vmem S1x8x1024x128 .bf16) (harg11 : arg11.IsWhole) (arg12 : Memref sig .tc .vmem S1x8x1024x128 .bf16) (harg12 : arg12.IsWhole) (arg13 : Memref sig .tc .vmem S1024x512 .f32) (harg13 : arg13.IsWhole) (arg14 : Memref sig .tc .vmem S1024x2048 .bf16) (harg14 : arg14.IsWhole) (arg15 : Memref sig .tc .vmem S1x8x128x128 .bf16) (harg15 : arg15.IsWhole) (arg16 : Memref sig .tc .vmem S1x8x128x128 .bf16) (harg16 : arg16.IsWhole) (arg17 : Memref sig .tc .vmem S1024x5632 .bf16) (harg17 : arg17.IsWhole) (arg18 : Memref sig .tc .vmem S2048x128 .f32) (harg18 : arg18.IsWhole) (arg19 : Memref sig .tc .vmem S2048x128 .f32) (harg19 : arg19.IsWhole) (arg20 : Memref sig .tc .vmem S2048x128 .f32) (harg20 : arg20.IsWhole)
    (alloca_r0 : Memref sig .tc .vmem S2x128x5632 .f32) (halloca_r0 : alloca_r0.IsWhole)
    (x0 : Vec F S1024x1024 .f32) (x1 : Vec F S128x1024 .f32) (x2 : Vec F S1x1x1024 .f32) (x3 : Vec F S1x1x1024 .f32) (x4 : Vec F S1x1x1024 .f32) (x5 : Vec F S1x1x1024 .f32) (x6 : Vec F S1x1x1024 .f32) (w : Vec F S1024x5632 .bf16) (tc tl th : Vec F S2048x128 .f32) (W : Waits sig Unit) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ (∃ d, owns (c : Thread nD τ) arg10 fullShare d)
        ∗ (∃ d, owns (c : Thread nD τ) arg11 fullShare d)
        ∗ (∃ d, owns (c : Thread nD τ) arg12 fullShare d)
        ∗ (∃ d, owns (c : Thread nD τ) arg13 fullShare d)
        ∗ (∃ d, owns (c : Thread nD τ) arg14 fullShare d)
        ∗ (∃ d, owns (c : Thread nD τ) arg15 fullShare d)
        ∗ (∃ d, owns (c : Thread nD τ) arg16 fullShare d)
        ∗ owns (c : Thread nD τ) arg17 fullShare w
        ∗ owns (c : Thread nD τ) arg18 fullShare tc
        ∗ owns (c : Thread nD τ) arg19 fullShare tl
        ∗ owns (c : Thread nD τ) arg20 fullShare th
        ∗ owes (c : Thread nD τ) 0 W
        ∗ (iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg10 fullShare (qOut i tc tl th x0 x2 x3 x6 w)
        ∗ owns (c : Thread nD τ) arg11 fullShare (kOut i tc tl th x0 x1 x2 x3 x4 x5 x6 w)
        ∗ owns (c : Thread nD τ) arg12 fullShare (vOut x0 x1 x2 x3 x4 x5 x6 w)
        ∗ owns (c : Thread nD τ) arg13 fullShare (uOut x0 x2 x3 x6 w)
        ∗ owns (c : Thread nD τ) arg14 fullShare (sgOut x0 x2 x3 x6 w)
        ∗ owns (c : Thread nD τ) arg15 fullShare (kcOut x0 x1 x2 x3 x4 x5 x6 w)
        ∗ owns (c : Thread nD τ) arg16 fullShare (vcOut x0 x1 x2 x3 x4 x5 x6 w)
        ∗ owns (c : Thread nD τ) arg17 fullShare w
        ∗ owns (c : Thread nD τ) arg18 fullShare tc
        ∗ owns (c : Thread nD τ) arg19 fullShare tl
        ∗ owns (c : Thread nD τ) arg20 fullShare th
        ∗ owes (c : Thread nD τ) 0 W) -∗ K ⟨⟩))
      ⊢ wp frame (wpE (defs₀ (F := F)) Variants.none c none) Set.univ (comp i arg1 harg1 arg2 harg2 arg3 harg3 arg4 harg4 arg5 harg5 arg6 harg6 arg7 harg7 arg9 harg9 arg10 harg10 arg11 harg11 arg12 harg12 arg13 harg13 arg14 harg14 arg15 harg15 arg16 harg16 arg17 harg17 arg18 harg18 arg19 harg19 arg20 harg20 alloca_r0 halloca_r0) K := by
  unfold comp
  simp only [k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%f17, %hf17, H17⟩, ⟨%f18, %hf18, H18⟩, ⟨%f19, %hf19, H19⟩, ⟨%f20, %hf20, H20⟩, HW, Hk⟩
  subst hf1; subst hf2; subst hf3; subst hf4; subst hf5; subst hf6; subst hf7; subst hf17; subst hf18; subst hf19; subst hf20
  sl_exec
  sl_step
  iapply Hk
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H10]
  · iexists _; isplitr; swap; · iexact H10
    ipureintro
    funext y
    refine View.read_writes_apply_of_pieces (Val := Elt F) arg10.view f10 (e := .bf16) (qOut i (arg18.view.read (Elt F) f18) (arg19.view.read (Elt F) f19) (arg20.view.read (Elt F) f20) (arg1.view.read (Elt F) f1) (arg3.view.read (Elt F) f3) (arg4.view.read (Elt F) f4) (arg7.view.read (Elt F) f7) (arg17.view.read (Elt F) f17)) _ ?_ y ?_
    · simp only [List.forall_mem_cons, List.not_mem_nil, false_imp_iff, implies_true, _root_.and_true]
      refine ⟨fun x => q_bot _ _ _ _ _ _ _ _ 7 x _ (at_unit _ _ _ x 1) (at_unit _ _ _ x 3) _ (cols_512 _ 896 slices_S512x1024_o0_896_S512x128 7 rfl) (at_unit _ _ _ x 2),
        fun x => q_bot _ _ _ _ _ _ _ _ 6 x _ (at_unit _ _ _ x 1) (at_unit _ _ _ x 3) _ (cols_512 _ 768 slices_S512x1024_o0_768_S512x128 6 rfl) (at_unit _ _ _ x 2),
        fun x => q_bot _ _ _ _ _ _ _ _ 5 x _ (at_unit _ _ _ x 1) (at_unit _ _ _ x 3) _ (cols_512 _ 640 slices_S512x1024_o0_640_S512x128 5 rfl) (at_unit _ _ _ x 2),
        fun x => q_bot _ _ _ _ _ _ _ _ 4 x _ (at_unit _ _ _ x 1) (at_unit _ _ _ x 3) _ (cols_512 _ 512 slices_S512x1024_o0_512_S512x128 4 rfl) (at_unit _ _ _ x 2),
        fun x => q_bot _ _ _ _ _ _ _ _ 3 x _ (at_unit _ _ _ x 1) (at_unit _ _ _ x 3) _ (cols_512 _ 384 slices_S512x1024_o0_384_S512x128 3 rfl) (at_unit _ _ _ x 2),
        fun x => q_bot _ _ _ _ _ _ _ _ 2 x _ (at_unit _ _ _ x 1) (at_unit _ _ _ x 3) _ (cols_512 _ 256 slices_S512x1024_o0_256_S512x128 2 rfl) (at_unit _ _ _ x 2),
        fun x => q_bot _ _ _ _ _ _ _ _ 1 x _ (at_unit _ _ _ x 1) (at_unit _ _ _ x 3) _ (cols_512 _ 128 slices_S512x1024_o0_128_S512x128 1 rfl) (at_unit _ _ _ x 2),
        fun x => q_bot _ _ _ _ _ _ _ _ 0 x _ (at_unit _ _ _ x 1) (at_unit _ _ _ x 3) _ (cols_512 _ 0 slices_S512x1024_o0_0_S512x128 0 rfl) (at_unit _ _ _ x 2),
        fun x => q_top _ _ _ _ _ _ _ _ 7 x _ (at_unit _ _ _ x 1) (at_unit _ _ _ x 3) _ (cols_512 _ 896 slices_S512x1024_o0_896_S512x128 7 rfl) (at_unit _ _ _ x 2),
        fun x => q_top _ _ _ _ _ _ _ _ 6 x _ (at_unit _ _ _ x 1) (at_unit _ _ _ x 3) _ (cols_512 _ 768 slices_S512x1024_o0_768_S512x128 6 rfl) (at_unit _ _ _ x 2),
        fun x => q_top _ _ _ _ _ _ _ _ 5 x _ (at_unit _ _ _ x 1) (at_unit _ _ _ x 3) _ (cols_512 _ 640 slices_S512x1024_o0_640_S512x128 5 rfl) (at_unit _ _ _ x 2),
        fun x => q_top _ _ _ _ _ _ _ _ 4 x _ (at_unit _ _ _ x 1) (at_unit _ _ _ x 3) _ (cols_512 _ 512 slices_S512x1024_o0_512_S512x128 4 rfl) (at_unit _ _ _ x 2),
        fun x => q_top _ _ _ _ _ _ _ _ 3 x _ (at_unit _ _ _ x 1) (at_unit _ _ _ x 3) _ (cols_512 _ 384 slices_S512x1024_o0_384_S512x128 3 rfl) (at_unit _ _ _ x 2),
        fun x => q_top _ _ _ _ _ _ _ _ 2 x _ (at_unit _ _ _ x 1) (at_unit _ _ _ x 3) _ (cols_512 _ 256 slices_S512x1024_o0_256_S512x128 2 rfl) (at_unit _ _ _ x 2),
        fun x => q_top _ _ _ _ _ _ _ _ 1 x _ (at_unit _ _ _ x 1) (at_unit _ _ _ x 3) _ (cols_512 _ 128 slices_S512x1024_o0_128_S512x128 1 rfl) (at_unit _ _ _ x 2),
        fun x => q_top _ _ _ _ _ _ _ _ 0 x _ (at_unit _ _ _ x 1) (at_unit _ _ _ x 3) _ (cols_512 _ 0 slices_S512x1024_o0_0_S512x128 0 rfl) (at_unit _ _ _ x 2)⟩
    · have hy : (y 1).val < 8 := (y 1).isLt
      have hy2 : (y 2).val < 1024 := (y 2).isLt
      obtain ⟨h, h2⟩ | ⟨h, h2⟩ | ⟨h, h2⟩ | ⟨h, h2⟩ | ⟨h, h2⟩ | ⟨h, h2⟩ | ⟨h, h2⟩ | ⟨h, h2⟩ | ⟨h, h2⟩ | ⟨h, h2⟩ | ⟨h, h2⟩ | ⟨h, h2⟩ | ⟨h, h2⟩ | ⟨h, h2⟩ | ⟨h, h2⟩ | ⟨h, h2⟩ : ((y 1).val = 0 ∧ 0 ≤ (y 2).val ∧ (y 2).val < 0 + 512) ∨ ((y 1).val = 1 ∧ 0 ≤ (y 2).val ∧ (y 2).val < 0 + 512) ∨ ((y 1).val = 2 ∧ 0 ≤ (y 2).val ∧ (y 2).val < 0 + 512) ∨ ((y 1).val = 3 ∧ 0 ≤ (y 2).val ∧ (y 2).val < 0 + 512) ∨ ((y 1).val = 4 ∧ 0 ≤ (y 2).val ∧ (y 2).val < 0 + 512) ∨ ((y 1).val = 5 ∧ 0 ≤ (y 2).val ∧ (y 2).val < 0 + 512) ∨ ((y 1).val = 6 ∧ 0 ≤ (y 2).val ∧ (y 2).val < 0 + 512) ∨ ((y 1).val = 7 ∧ 0 ≤ (y 2).val ∧ (y 2).val < 0 + 512) ∨ ((y 1).val = 0 ∧ 512 ≤ (y 2).val ∧ (y 2).val < 512 + 512) ∨ ((y 1).val = 1 ∧ 512 ≤ (y 2).val ∧ (y 2).val < 512 + 512) ∨ ((y 1).val = 2 ∧ 512 ≤ (y 2).val ∧ (y 2).val < 512 + 512) ∨ ((y 1).val = 3 ∧ 512 ≤ (y 2).val ∧ (y 2).val < 512 + 512) ∨ ((y 1).val = 4 ∧ 512 ≤ (y 2).val ∧ (y 2).val < 512 + 512) ∨ ((y 1).val = 5 ∧ 512 ≤ (y 2).val ∧ (y 2).val < 512 + 512) ∨ ((y 1).val = 6 ∧ 512 ≤ (y 2).val ∧ (y 2).val < 512 + 512) ∨ ((y 1).val = 7 ∧ 512 ≤ (y 2).val ∧ (y 2).val < 512 + 512) := by omega
      · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))), head_mem (m := 1024) (k := 512) (h := 0) (o := 0) y (by decide) h h2⟩
      · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))), head_mem (m := 1024) (k := 512) (h := 1) (o := 0) y (by decide) h h2⟩
      · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))), head_mem (m := 1024) (k := 512) (h := 2) (o := 0) y (by decide) h h2⟩
      · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))), head_mem (m := 1024) (k := 512) (h := 3) (o := 0) y (by decide) h h2⟩
      · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))), head_mem (m := 1024) (k := 512) (h := 4) (o := 0) y (by decide) h h2⟩
      · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.head _))))))))))), head_mem (m := 1024) (k := 512) (h := 5) (o := 0) y (by decide) h h2⟩
      · exact ⟨_, (List.Mem.tail _ (List.Mem.tail _ (List.Mem.tail _ (List.Mem.tail _ (List.Mem.tail _ (List.Mem.tail _ (List.Mem.tail _ (List.Mem.tail _ (List.Mem.tail _ (List.Mem.head _)))))))))), head_mem (m := 1024) (k := 512) (h := 6) (o := 0) y (by decide) h h2⟩
      · exact ⟨_, (List.Mem.tail _ (List.Mem.tail _ (List.Mem.tail _ (List.Mem.tail _ (List.Mem.tail _ (List.Mem.tail _ (List.Mem.tail _ (List.Mem.tail _ (List.Mem.head _))))))))), head_mem (m := 1024) (k := 512) (h := 7) (o := 0) y (by decide) h h2⟩
      · exact ⟨_, (List.Mem.tail _ (List.Mem.tail _ (List.Mem.tail _ (List.Mem.tail _ (List.Mem.tail _ (List.Mem.tail _ (List.Mem.tail _ (List.Mem.head _)))))))), head_mem (m := 1024) (k := 512) (h := 0) (o := 512) y (by decide) h h2⟩
      · exact ⟨_, (List.Mem.tail _ (List.Mem.tail _ (List.Mem.tail _ (List.Mem.tail _ (List.Mem.tail _ (List.Mem.tail _ (List.Mem.head _))))))), head_mem (m := 1024) (k := 512) (h := 1) (o := 512) y (by decide) h h2⟩
      · exact ⟨_, (List.Mem.tail _ (List.Mem.tail _ (List.Mem.tail _ (List.Mem.tail _ (List.Mem.tail _ (List.Mem.head _)))))), head_mem (m := 1024) (k := 512) (h := 2) (o := 512) y (by decide) h h2⟩
      · exact ⟨_, (List.Mem.tail _ (List.Mem.tail _ (List.Mem.tail _ (List.Mem.tail _ (List.Mem.head _))))), head_mem (m := 1024) (k := 512) (h := 3) (o := 512) y (by decide) h h2⟩
      · exact ⟨_, (List.Mem.tail _ (List.Mem.tail _ (List.Mem.tail _ (List.Mem.head _)))), head_mem (m := 1024) (k := 512) (h := 4) (o := 512) y (by decide) h h2⟩
      · exact ⟨_, (List.Mem.tail _ (List.Mem.tail _ (List.Mem.head _))), head_mem (m := 1024) (k := 512) (h := 5) (o := 512) y (by decide) h h2⟩
      · exact ⟨_, (List.Mem.tail _ (List.Mem.head _)), head_mem (m := 1024) (k := 512) (h := 6) (o := 512) y (by decide) h h2⟩
      · exact ⟨_, (List.Mem.head _), head_mem (m := 1024) (k := 512) (h := 7) (o := 512) y (by decide) h h2⟩
  isplitl [H11]
  · iexists _; isplitr; swap; · iexact H11
    ipureintro
    funext y
    refine View.read_writes_apply_of_pieces (Val := Elt F) arg11.view f11 (e := .bf16) (kOut i (arg18.view.read (Elt F) f18) (arg19.view.read (Elt F) f19) (arg20.view.read (Elt F) f20) (arg1.view.read (Elt F) f1) (arg2.view.read (Elt F) f2) (arg3.view.read (Elt F) f3) (arg4.view.read (Elt F) f4) (arg5.view.read (Elt F) f5) (arg6.view.read (Elt F) f6) (arg7.view.read (Elt F) f7) (arg17.view.read (Elt F) f17)) _ ?_ y ?_
    · simp only [List.forall_mem_cons, List.not_mem_nil, false_imp_iff, implies_true, _root_.and_true]
      refine ⟨fun x => k_bot _ _ _ _ _ _ _ _ 7 x _ (at_unit _ _ _ x 1) (at_unit _ _ _ x 3) _ (cols_640 _ 896 slices_S640x1024_o0_896_S512x128 7 rfl) (at_unit _ _ _ x 2),
        fun x => k_bot _ _ _ _ _ _ _ _ 6 x _ (at_unit _ _ _ x 1) (at_unit _ _ _ x 3) _ (cols_640 _ 768 slices_S640x1024_o0_768_S512x128 6 rfl) (at_unit _ _ _ x 2),
        fun x => k_bot _ _ _ _ _ _ _ _ 5 x _ (at_unit _ _ _ x 1) (at_unit _ _ _ x 3) _ (cols_640 _ 640 slices_S640x1024_o0_640_S512x128 5 rfl) (at_unit _ _ _ x 2),
        fun x => k_bot _ _ _ _ _ _ _ _ 4 x _ (at_unit _ _ _ x 1) (at_unit _ _ _ x 3) _ (cols_640 _ 512 slices_S640x1024_o0_512_S512x128 4 rfl) (at_unit _ _ _ x 2),
        fun x => k_bot _ _ _ _ _ _ _ _ 3 x _ (at_unit _ _ _ x 1) (at_unit _ _ _ x 3) _ (cols_640 _ 384 slices_S640x1024_o0_384_S512x128 3 rfl) (at_unit _ _ _ x 2),
        fun x => k_bot _ _ _ _ _ _ _ _ 2 x _ (at_unit _ _ _ x 1) (at_unit _ _ _ x 3) _ (cols_640 _ 256 slices_S640x1024_o0_256_S512x128 2 rfl) (at_unit _ _ _ x 2),
        fun x => k_bot _ _ _ _ _ _ _ _ 1 x _ (at_unit _ _ _ x 1) (at_unit _ _ _ x 3) _ (cols_640 _ 128 slices_S640x1024_o0_128_S512x128 1 rfl) (at_unit _ _ _ x 2),
        fun x => k_bot _ _ _ _ _ _ _ _ 0 x _ (at_unit _ _ _ x 1) (at_unit _ _ _ x 3) _ (cols_640 _ 0 slices_S640x1024_o0_0_S512x128 0 rfl) (at_unit _ _ _ x 2),
        fun x => k_top _ _ _ _ _ _ _ _ 7 x _ (at_unit _ _ _ x 1) (at_unit _ _ _ x 3) _ (cols_512 _ 896 slices_S512x1024_o0_896_S512x128 7 rfl) (at_unit _ _ _ x 2),
        fun x => k_top _ _ _ _ _ _ _ _ 6 x _ (at_unit _ _ _ x 1) (at_unit _ _ _ x 3) _ (cols_512 _ 768 slices_S512x1024_o0_768_S512x128 6 rfl) (at_unit _ _ _ x 2),
        fun x => k_top _ _ _ _ _ _ _ _ 5 x _ (at_unit _ _ _ x 1) (at_unit _ _ _ x 3) _ (cols_512 _ 640 slices_S512x1024_o0_640_S512x128 5 rfl) (at_unit _ _ _ x 2),
        fun x => k_top _ _ _ _ _ _ _ _ 4 x _ (at_unit _ _ _ x 1) (at_unit _ _ _ x 3) _ (cols_512 _ 512 slices_S512x1024_o0_512_S512x128 4 rfl) (at_unit _ _ _ x 2),
        fun x => k_top _ _ _ _ _ _ _ _ 3 x _ (at_unit _ _ _ x 1) (at_unit _ _ _ x 3) _ (cols_512 _ 384 slices_S512x1024_o0_384_S512x128 3 rfl) (at_unit _ _ _ x 2),
        fun x => k_top _ _ _ _ _ _ _ _ 2 x _ (at_unit _ _ _ x 1) (at_unit _ _ _ x 3) _ (cols_512 _ 256 slices_S512x1024_o0_256_S512x128 2 rfl) (at_unit _ _ _ x 2),
        fun x => k_top _ _ _ _ _ _ _ _ 1 x _ (at_unit _ _ _ x 1) (at_unit _ _ _ x 3) _ (cols_512 _ 128 slices_S512x1024_o0_128_S512x128 1 rfl) (at_unit _ _ _ x 2),
        fun x => k_top _ _ _ _ _ _ _ _ 0 x _ (at_unit _ _ _ x 1) (at_unit _ _ _ x 3) _ (cols_512 _ 0 slices_S512x1024_o0_0_S512x128 0 rfl) (at_unit _ _ _ x 2)⟩
    · have hy : (y 1).val < 8 := (y 1).isLt
      have hy2 : (y 2).val < 1024 := (y 2).isLt
      obtain ⟨h, h2⟩ | ⟨h, h2⟩ | ⟨h, h2⟩ | ⟨h, h2⟩ | ⟨h, h2⟩ | ⟨h, h2⟩ | ⟨h, h2⟩ | ⟨h, h2⟩ | ⟨h, h2⟩ | ⟨h, h2⟩ | ⟨h, h2⟩ | ⟨h, h2⟩ | ⟨h, h2⟩ | ⟨h, h2⟩ | ⟨h, h2⟩ | ⟨h, h2⟩ : ((y 1).val = 0 ∧ 0 ≤ (y 2).val ∧ (y 2).val < 0 + 512) ∨ ((y 1).val = 1 ∧ 0 ≤ (y 2).val ∧ (y 2).val < 0 + 512) ∨ ((y 1).val = 2 ∧ 0 ≤ (y 2).val ∧ (y 2).val < 0 + 512) ∨ ((y 1).val = 3 ∧ 0 ≤ (y 2).val ∧ (y 2).val < 0 + 512) ∨ ((y 1).val = 4 ∧ 0 ≤ (y 2).val ∧ (y 2).val < 0 + 512) ∨ ((y 1).val = 5 ∧ 0 ≤ (y 2).val ∧ (y 2).val < 0 + 512) ∨ ((y 1).val = 6 ∧ 0 ≤ (y 2).val ∧ (y 2).val < 0 + 512) ∨ ((y 1).val = 7 ∧ 0 ≤ (y 2).val ∧ (y 2).val < 0 + 512) ∨ ((y 1).val = 0 ∧ 512 ≤ (y 2).val ∧ (y 2).val < 512 + 512) ∨ ((y 1).val = 1 ∧ 512 ≤ (y 2).val ∧ (y 2).val < 512 + 512) ∨ ((y 1).val = 2 ∧ 512 ≤ (y 2).val ∧ (y 2).val < 512 + 512) ∨ ((y 1).val = 3 ∧ 512 ≤ (y 2).val ∧ (y 2).val < 512 + 512) ∨ ((y 1).val = 4 ∧ 512 ≤ (y 2).val ∧ (y 2).val < 512 + 512) ∨ ((y 1).val = 5 ∧ 512 ≤ (y 2).val ∧ (y 2).val < 512 + 512) ∨ ((y 1).val = 6 ∧ 512 ≤ (y 2).val ∧ (y 2).val < 512 + 512) ∨ ((y 1).val = 7 ∧ 512 ≤ (y 2).val ∧ (y 2).val < 512 + 512) := by omega
      · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))), head_mem (m := 1024) (k := 512) (h := 0) (o := 0) y (by decide) h h2⟩
      · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))), head_mem (m := 1024) (k := 512) (h := 1) (o := 0) y (by decide) h h2⟩
      · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))), head_mem (m := 1024) (k := 512) (h := 2) (o := 0) y (by decide) h h2⟩
      · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))), head_mem (m := 1024) (k := 512) (h := 3) (o := 0) y (by decide) h h2⟩
      · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))), head_mem (m := 1024) (k := 512) (h := 4) (o := 0) y (by decide) h h2⟩
      · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.head _))))))))))), head_mem (m := 1024) (k := 512) (h := 5) (o := 0) y (by decide) h h2⟩
      · exact ⟨_, (List.Mem.tail _ (List.Mem.tail _ (List.Mem.tail _ (List.Mem.tail _ (List.Mem.tail _ (List.Mem.tail _ (List.Mem.tail _ (List.Mem.tail _ (List.Mem.tail _ (List.Mem.head _)))))))))), head_mem (m := 1024) (k := 512) (h := 6) (o := 0) y (by decide) h h2⟩
      · exact ⟨_, (List.Mem.tail _ (List.Mem.tail _ (List.Mem.tail _ (List.Mem.tail _ (List.Mem.tail _ (List.Mem.tail _ (List.Mem.tail _ (List.Mem.tail _ (List.Mem.head _))))))))), head_mem (m := 1024) (k := 512) (h := 7) (o := 0) y (by decide) h h2⟩
      · exact ⟨_, (List.Mem.tail _ (List.Mem.tail _ (List.Mem.tail _ (List.Mem.tail _ (List.Mem.tail _ (List.Mem.tail _ (List.Mem.tail _ (List.Mem.head _)))))))), head_mem (m := 1024) (k := 512) (h := 0) (o := 512) y (by decide) h h2⟩
      · exact ⟨_, (List.Mem.tail _ (List.Mem.tail _ (List.Mem.tail _ (List.Mem.tail _ (List.Mem.tail _ (List.Mem.tail _ (List.Mem.head _))))))), head_mem (m := 1024) (k := 512) (h := 1) (o := 512) y (by decide) h h2⟩
      · exact ⟨_, (List.Mem.tail _ (List.Mem.tail _ (List.Mem.tail _ (List.Mem.tail _ (List.Mem.tail _ (List.Mem.head _)))))), head_mem (m := 1024) (k := 512) (h := 2) (o := 512) y (by decide) h h2⟩
      · exact ⟨_, (List.Mem.tail _ (List.Mem.tail _ (List.Mem.tail _ (List.Mem.tail _ (List.Mem.head _))))), head_mem (m := 1024) (k := 512) (h := 3) (o := 512) y (by decide) h h2⟩
      · exact ⟨_, (List.Mem.tail _ (List.Mem.tail _ (List.Mem.tail _ (List.Mem.head _)))), head_mem (m := 1024) (k := 512) (h := 4) (o := 512) y (by decide) h h2⟩
      · exact ⟨_, (List.Mem.tail _ (List.Mem.tail _ (List.Mem.head _))), head_mem (m := 1024) (k := 512) (h := 5) (o := 512) y (by decide) h h2⟩
      · exact ⟨_, (List.Mem.tail _ (List.Mem.head _)), head_mem (m := 1024) (k := 512) (h := 6) (o := 512) y (by decide) h h2⟩
      · exact ⟨_, (List.Mem.head _), head_mem (m := 1024) (k := 512) (h := 7) (o := 512) y (by decide) h h2⟩
  isplitl [H12]
  · iexists _; isplitr; swap; · iexact H12
    ipureintro
    funext y
    refine View.read_writes_apply_of_pieces (Val := Elt F) arg12.view f12 (e := .bf16) (vOut (arg1.view.read (Elt F) f1) (arg2.view.read (Elt F) f2) (arg3.view.read (Elt F) f3) (arg4.view.read (Elt F) f4) (arg5.view.read (Elt F) f5) (arg6.view.read (Elt F) f6) (arg7.view.read (Elt F) f7) (arg17.view.read (Elt F) f17)) _ ?_ y ?_
    · simp only [List.forall_mem_cons, List.not_mem_nil, false_imp_iff, implies_true, _root_.and_true]
      refine ⟨fun x => v_bot 7 x _ (at_unit _ _ _ x 1) (at_unit _ _ _ x 3) (k0_pay234 (hT (arg1.view.read (Elt F) f1) (arg3.view.read (Elt F) f3) (arg4.view.read (Elt F) f4) (arg7.view.read (Elt F) f7)) (View.ld (arg17.view.read (Elt F) f17) (Rect.unit ![0, 2048] S1024x1024.size inb_S1024x5632_S1024x1024_0_2048))) (k0_pay246 (hC (arg1.view.read (Elt F) f1) (arg2.view.read (Elt F) f2) (arg3.view.read (Elt F) f3) (arg4.view.read (Elt F) f4) (arg5.view.read (Elt F) f5) (arg6.view.read (Elt F) f6) (arg7.view.read (Elt F) f7)) (View.ld (arg17.view.read (Elt F) f17) (Rect.unit ![0, 2048] S1024x1024.size inb_S1024x5632_S1024x1024_0_2048))) _ (cols_512 _ 896 slices_S512x1024_o0_896_S512x128 7 rfl) (at_unit _ _ _ x 2),
        fun x => v_bot 6 x _ (at_unit _ _ _ x 1) (at_unit _ _ _ x 3) (k0_pay234 (hT (arg1.view.read (Elt F) f1) (arg3.view.read (Elt F) f3) (arg4.view.read (Elt F) f4) (arg7.view.read (Elt F) f7)) (View.ld (arg17.view.read (Elt F) f17) (Rect.unit ![0, 2048] S1024x1024.size inb_S1024x5632_S1024x1024_0_2048))) (k0_pay246 (hC (arg1.view.read (Elt F) f1) (arg2.view.read (Elt F) f2) (arg3.view.read (Elt F) f3) (arg4.view.read (Elt F) f4) (arg5.view.read (Elt F) f5) (arg6.view.read (Elt F) f6) (arg7.view.read (Elt F) f7)) (View.ld (arg17.view.read (Elt F) f17) (Rect.unit ![0, 2048] S1024x1024.size inb_S1024x5632_S1024x1024_0_2048))) _ (cols_512 _ 768 slices_S512x1024_o0_768_S512x128 6 rfl) (at_unit _ _ _ x 2),
        fun x => v_bot 5 x _ (at_unit _ _ _ x 1) (at_unit _ _ _ x 3) (k0_pay234 (hT (arg1.view.read (Elt F) f1) (arg3.view.read (Elt F) f3) (arg4.view.read (Elt F) f4) (arg7.view.read (Elt F) f7)) (View.ld (arg17.view.read (Elt F) f17) (Rect.unit ![0, 2048] S1024x1024.size inb_S1024x5632_S1024x1024_0_2048))) (k0_pay246 (hC (arg1.view.read (Elt F) f1) (arg2.view.read (Elt F) f2) (arg3.view.read (Elt F) f3) (arg4.view.read (Elt F) f4) (arg5.view.read (Elt F) f5) (arg6.view.read (Elt F) f6) (arg7.view.read (Elt F) f7)) (View.ld (arg17.view.read (Elt F) f17) (Rect.unit ![0, 2048] S1024x1024.size inb_S1024x5632_S1024x1024_0_2048))) _ (cols_512 _ 640 slices_S512x1024_o0_640_S512x128 5 rfl) (at_unit _ _ _ x 2),
        fun x => v_bot 4 x _ (at_unit _ _ _ x 1) (at_unit _ _ _ x 3) (k0_pay234 (hT (arg1.view.read (Elt F) f1) (arg3.view.read (Elt F) f3) (arg4.view.read (Elt F) f4) (arg7.view.read (Elt F) f7)) (View.ld (arg17.view.read (Elt F) f17) (Rect.unit ![0, 2048] S1024x1024.size inb_S1024x5632_S1024x1024_0_2048))) (k0_pay246 (hC (arg1.view.read (Elt F) f1) (arg2.view.read (Elt F) f2) (arg3.view.read (Elt F) f3) (arg4.view.read (Elt F) f4) (arg5.view.read (Elt F) f5) (arg6.view.read (Elt F) f6) (arg7.view.read (Elt F) f7)) (View.ld (arg17.view.read (Elt F) f17) (Rect.unit ![0, 2048] S1024x1024.size inb_S1024x5632_S1024x1024_0_2048))) _ (cols_512 _ 512 slices_S512x1024_o0_512_S512x128 4 rfl) (at_unit _ _ _ x 2),
        fun x => v_bot 3 x _ (at_unit _ _ _ x 1) (at_unit _ _ _ x 3) (k0_pay234 (hT (arg1.view.read (Elt F) f1) (arg3.view.read (Elt F) f3) (arg4.view.read (Elt F) f4) (arg7.view.read (Elt F) f7)) (View.ld (arg17.view.read (Elt F) f17) (Rect.unit ![0, 2048] S1024x1024.size inb_S1024x5632_S1024x1024_0_2048))) (k0_pay246 (hC (arg1.view.read (Elt F) f1) (arg2.view.read (Elt F) f2) (arg3.view.read (Elt F) f3) (arg4.view.read (Elt F) f4) (arg5.view.read (Elt F) f5) (arg6.view.read (Elt F) f6) (arg7.view.read (Elt F) f7)) (View.ld (arg17.view.read (Elt F) f17) (Rect.unit ![0, 2048] S1024x1024.size inb_S1024x5632_S1024x1024_0_2048))) _ (cols_512 _ 384 slices_S512x1024_o0_384_S512x128 3 rfl) (at_unit _ _ _ x 2),
        fun x => v_bot 2 x _ (at_unit _ _ _ x 1) (at_unit _ _ _ x 3) (k0_pay234 (hT (arg1.view.read (Elt F) f1) (arg3.view.read (Elt F) f3) (arg4.view.read (Elt F) f4) (arg7.view.read (Elt F) f7)) (View.ld (arg17.view.read (Elt F) f17) (Rect.unit ![0, 2048] S1024x1024.size inb_S1024x5632_S1024x1024_0_2048))) (k0_pay246 (hC (arg1.view.read (Elt F) f1) (arg2.view.read (Elt F) f2) (arg3.view.read (Elt F) f3) (arg4.view.read (Elt F) f4) (arg5.view.read (Elt F) f5) (arg6.view.read (Elt F) f6) (arg7.view.read (Elt F) f7)) (View.ld (arg17.view.read (Elt F) f17) (Rect.unit ![0, 2048] S1024x1024.size inb_S1024x5632_S1024x1024_0_2048))) _ (cols_512 _ 256 slices_S512x1024_o0_256_S512x128 2 rfl) (at_unit _ _ _ x 2),
        fun x => v_bot 1 x _ (at_unit _ _ _ x 1) (at_unit _ _ _ x 3) (k0_pay234 (hT (arg1.view.read (Elt F) f1) (arg3.view.read (Elt F) f3) (arg4.view.read (Elt F) f4) (arg7.view.read (Elt F) f7)) (View.ld (arg17.view.read (Elt F) f17) (Rect.unit ![0, 2048] S1024x1024.size inb_S1024x5632_S1024x1024_0_2048))) (k0_pay246 (hC (arg1.view.read (Elt F) f1) (arg2.view.read (Elt F) f2) (arg3.view.read (Elt F) f3) (arg4.view.read (Elt F) f4) (arg5.view.read (Elt F) f5) (arg6.view.read (Elt F) f6) (arg7.view.read (Elt F) f7)) (View.ld (arg17.view.read (Elt F) f17) (Rect.unit ![0, 2048] S1024x1024.size inb_S1024x5632_S1024x1024_0_2048))) _ (cols_512 _ 128 slices_S512x1024_o0_128_S512x128 1 rfl) (at_unit _ _ _ x 2),
        fun x => v_bot 0 x _ (at_unit _ _ _ x 1) (at_unit _ _ _ x 3) (k0_pay234 (hT (arg1.view.read (Elt F) f1) (arg3.view.read (Elt F) f3) (arg4.view.read (Elt F) f4) (arg7.view.read (Elt F) f7)) (View.ld (arg17.view.read (Elt F) f17) (Rect.unit ![0, 2048] S1024x1024.size inb_S1024x5632_S1024x1024_0_2048))) (k0_pay246 (hC (arg1.view.read (Elt F) f1) (arg2.view.read (Elt F) f2) (arg3.view.read (Elt F) f3) (arg4.view.read (Elt F) f4) (arg5.view.read (Elt F) f5) (arg6.view.read (Elt F) f6) (arg7.view.read (Elt F) f7)) (View.ld (arg17.view.read (Elt F) f17) (Rect.unit ![0, 2048] S1024x1024.size inb_S1024x5632_S1024x1024_0_2048))) _ (cols_512 _ 0 slices_S512x1024_o0_0_S512x128 0 rfl) (at_unit _ _ _ x 2),
        fun x => v_top 7 x _ (at_unit _ _ _ x 1) (at_unit _ _ _ x 3) (k0_pay234 (hT (arg1.view.read (Elt F) f1) (arg3.view.read (Elt F) f3) (arg4.view.read (Elt F) f4) (arg7.view.read (Elt F) f7)) (View.ld (arg17.view.read (Elt F) f17) (Rect.unit ![0, 2048] S1024x1024.size inb_S1024x5632_S1024x1024_0_2048))) (k0_pay246 (hC (arg1.view.read (Elt F) f1) (arg2.view.read (Elt F) f2) (arg3.view.read (Elt F) f3) (arg4.view.read (Elt F) f4) (arg5.view.read (Elt F) f5) (arg6.view.read (Elt F) f6) (arg7.view.read (Elt F) f7)) (View.ld (arg17.view.read (Elt F) f17) (Rect.unit ![0, 2048] S1024x1024.size inb_S1024x5632_S1024x1024_0_2048))) _ (cols_512 _ 896 slices_S512x1024_o0_896_S512x128 7 rfl) (at_unit _ _ _ x 2),
        fun x => v_top 6 x _ (at_unit _ _ _ x 1) (at_unit _ _ _ x 3) (k0_pay234 (hT (arg1.view.read (Elt F) f1) (arg3.view.read (Elt F) f3) (arg4.view.read (Elt F) f4) (arg7.view.read (Elt F) f7)) (View.ld (arg17.view.read (Elt F) f17) (Rect.unit ![0, 2048] S1024x1024.size inb_S1024x5632_S1024x1024_0_2048))) (k0_pay246 (hC (arg1.view.read (Elt F) f1) (arg2.view.read (Elt F) f2) (arg3.view.read (Elt F) f3) (arg4.view.read (Elt F) f4) (arg5.view.read (Elt F) f5) (arg6.view.read (Elt F) f6) (arg7.view.read (Elt F) f7)) (View.ld (arg17.view.read (Elt F) f17) (Rect.unit ![0, 2048] S1024x1024.size inb_S1024x5632_S1024x1024_0_2048))) _ (cols_512 _ 768 slices_S512x1024_o0_768_S512x128 6 rfl) (at_unit _ _ _ x 2),
        fun x => v_top 5 x _ (at_unit _ _ _ x 1) (at_unit _ _ _ x 3) (k0_pay234 (hT (arg1.view.read (Elt F) f1) (arg3.view.read (Elt F) f3) (arg4.view.read (Elt F) f4) (arg7.view.read (Elt F) f7)) (View.ld (arg17.view.read (Elt F) f17) (Rect.unit ![0, 2048] S1024x1024.size inb_S1024x5632_S1024x1024_0_2048))) (k0_pay246 (hC (arg1.view.read (Elt F) f1) (arg2.view.read (Elt F) f2) (arg3.view.read (Elt F) f3) (arg4.view.read (Elt F) f4) (arg5.view.read (Elt F) f5) (arg6.view.read (Elt F) f6) (arg7.view.read (Elt F) f7)) (View.ld (arg17.view.read (Elt F) f17) (Rect.unit ![0, 2048] S1024x1024.size inb_S1024x5632_S1024x1024_0_2048))) _ (cols_512 _ 640 slices_S512x1024_o0_640_S512x128 5 rfl) (at_unit _ _ _ x 2),
        fun x => v_top 4 x _ (at_unit _ _ _ x 1) (at_unit _ _ _ x 3) (k0_pay234 (hT (arg1.view.read (Elt F) f1) (arg3.view.read (Elt F) f3) (arg4.view.read (Elt F) f4) (arg7.view.read (Elt F) f7)) (View.ld (arg17.view.read (Elt F) f17) (Rect.unit ![0, 2048] S1024x1024.size inb_S1024x5632_S1024x1024_0_2048))) (k0_pay246 (hC (arg1.view.read (Elt F) f1) (arg2.view.read (Elt F) f2) (arg3.view.read (Elt F) f3) (arg4.view.read (Elt F) f4) (arg5.view.read (Elt F) f5) (arg6.view.read (Elt F) f6) (arg7.view.read (Elt F) f7)) (View.ld (arg17.view.read (Elt F) f17) (Rect.unit ![0, 2048] S1024x1024.size inb_S1024x5632_S1024x1024_0_2048))) _ (cols_512 _ 512 slices_S512x1024_o0_512_S512x128 4 rfl) (at_unit _ _ _ x 2),
        fun x => v_top 3 x _ (at_unit _ _ _ x 1) (at_unit _ _ _ x 3) (k0_pay234 (hT (arg1.view.read (Elt F) f1) (arg3.view.read (Elt F) f3) (arg4.view.read (Elt F) f4) (arg7.view.read (Elt F) f7)) (View.ld (arg17.view.read (Elt F) f17) (Rect.unit ![0, 2048] S1024x1024.size inb_S1024x5632_S1024x1024_0_2048))) (k0_pay246 (hC (arg1.view.read (Elt F) f1) (arg2.view.read (Elt F) f2) (arg3.view.read (Elt F) f3) (arg4.view.read (Elt F) f4) (arg5.view.read (Elt F) f5) (arg6.view.read (Elt F) f6) (arg7.view.read (Elt F) f7)) (View.ld (arg17.view.read (Elt F) f17) (Rect.unit ![0, 2048] S1024x1024.size inb_S1024x5632_S1024x1024_0_2048))) _ (cols_512 _ 384 slices_S512x1024_o0_384_S512x128 3 rfl) (at_unit _ _ _ x 2),
        fun x => v_top 2 x _ (at_unit _ _ _ x 1) (at_unit _ _ _ x 3) (k0_pay234 (hT (arg1.view.read (Elt F) f1) (arg3.view.read (Elt F) f3) (arg4.view.read (Elt F) f4) (arg7.view.read (Elt F) f7)) (View.ld (arg17.view.read (Elt F) f17) (Rect.unit ![0, 2048] S1024x1024.size inb_S1024x5632_S1024x1024_0_2048))) (k0_pay246 (hC (arg1.view.read (Elt F) f1) (arg2.view.read (Elt F) f2) (arg3.view.read (Elt F) f3) (arg4.view.read (Elt F) f4) (arg5.view.read (Elt F) f5) (arg6.view.read (Elt F) f6) (arg7.view.read (Elt F) f7)) (View.ld (arg17.view.read (Elt F) f17) (Rect.unit ![0, 2048] S1024x1024.size inb_S1024x5632_S1024x1024_0_2048))) _ (cols_512 _ 256 slices_S512x1024_o0_256_S512x128 2 rfl) (at_unit _ _ _ x 2),
        fun x => v_top 1 x _ (at_unit _ _ _ x 1) (at_unit _ _ _ x 3) (k0_pay234 (hT (arg1.view.read (Elt F) f1) (arg3.view.read (Elt F) f3) (arg4.view.read (Elt F) f4) (arg7.view.read (Elt F) f7)) (View.ld (arg17.view.read (Elt F) f17) (Rect.unit ![0, 2048] S1024x1024.size inb_S1024x5632_S1024x1024_0_2048))) (k0_pay246 (hC (arg1.view.read (Elt F) f1) (arg2.view.read (Elt F) f2) (arg3.view.read (Elt F) f3) (arg4.view.read (Elt F) f4) (arg5.view.read (Elt F) f5) (arg6.view.read (Elt F) f6) (arg7.view.read (Elt F) f7)) (View.ld (arg17.view.read (Elt F) f17) (Rect.unit ![0, 2048] S1024x1024.size inb_S1024x5632_S1024x1024_0_2048))) _ (cols_512 _ 128 slices_S512x1024_o0_128_S512x128 1 rfl) (at_unit _ _ _ x 2),
        fun x => v_top 0 x _ (at_unit _ _ _ x 1) (at_unit _ _ _ x 3) (k0_pay234 (hT (arg1.view.read (Elt F) f1) (arg3.view.read (Elt F) f3) (arg4.view.read (Elt F) f4) (arg7.view.read (Elt F) f7)) (View.ld (arg17.view.read (Elt F) f17) (Rect.unit ![0, 2048] S1024x1024.size inb_S1024x5632_S1024x1024_0_2048))) (k0_pay246 (hC (arg1.view.read (Elt F) f1) (arg2.view.read (Elt F) f2) (arg3.view.read (Elt F) f3) (arg4.view.read (Elt F) f4) (arg5.view.read (Elt F) f5) (arg6.view.read (Elt F) f6) (arg7.view.read (Elt F) f7)) (View.ld (arg17.view.read (Elt F) f17) (Rect.unit ![0, 2048] S1024x1024.size inb_S1024x5632_S1024x1024_0_2048))) _ (cols_512 _ 0 slices_S512x1024_o0_0_S512x128 0 rfl) (at_unit _ _ _ x 2)⟩
    · have hy : (y 1).val < 8 := (y 1).isLt
      have hy2 : (y 2).val < 1024 := (y 2).isLt
      obtain ⟨h, h2⟩ | ⟨h, h2⟩ | ⟨h, h2⟩ | ⟨h, h2⟩ | ⟨h, h2⟩ | ⟨h, h2⟩ | ⟨h, h2⟩ | ⟨h, h2⟩ | ⟨h, h2⟩ | ⟨h, h2⟩ | ⟨h, h2⟩ | ⟨h, h2⟩ | ⟨h, h2⟩ | ⟨h, h2⟩ | ⟨h, h2⟩ | ⟨h, h2⟩ : ((y 1).val = 0 ∧ 0 ≤ (y 2).val ∧ (y 2).val < 0 + 512) ∨ ((y 1).val = 1 ∧ 0 ≤ (y 2).val ∧ (y 2).val < 0 + 512) ∨ ((y 1).val = 2 ∧ 0 ≤ (y 2).val ∧ (y 2).val < 0 + 512) ∨ ((y 1).val = 3 ∧ 0 ≤ (y 2).val ∧ (y 2).val < 0 + 512) ∨ ((y 1).val = 4 ∧ 0 ≤ (y 2).val ∧ (y 2).val < 0 + 512) ∨ ((y 1).val = 5 ∧ 0 ≤ (y 2).val ∧ (y 2).val < 0 + 512) ∨ ((y 1).val = 6 ∧ 0 ≤ (y 2).val ∧ (y 2).val < 0 + 512) ∨ ((y 1).val = 7 ∧ 0 ≤ (y 2).val ∧ (y 2).val < 0 + 512) ∨ ((y 1).val = 0 ∧ 512 ≤ (y 2).val ∧ (y 2).val < 512 + 512) ∨ ((y 1).val = 1 ∧ 512 ≤ (y 2).val ∧ (y 2).val < 512 + 512) ∨ ((y 1).val = 2 ∧ 512 ≤ (y 2).val ∧ (y 2).val < 512 + 512) ∨ ((y 1).val = 3 ∧ 512 ≤ (y 2).val ∧ (y 2).val < 512 + 512) ∨ ((y 1).val = 4 ∧ 512 ≤ (y 2).val ∧ (y 2).val < 512 + 512) ∨ ((y 1).val = 5 ∧ 512 ≤ (y 2).val ∧ (y 2).val < 512 + 512) ∨ ((y 1).val = 6 ∧ 512 ≤ (y 2).val ∧ (y 2).val < 512 + 512) ∨ ((y 1).val = 7 ∧ 512 ≤ (y 2).val ∧ (y 2).val < 512 + 512) := by omega
      · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))), head_mem (m := 1024) (k := 512) (h := 0) (o := 0) y (by decide) h h2⟩
      · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))), head_mem (m := 1024) (k := 512) (h := 1) (o := 0) y (by decide) h h2⟩
      · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))), head_mem (m := 1024) (k := 512) (h := 2) (o := 0) y (by decide) h h2⟩
      · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))), head_mem (m := 1024) (k := 512) (h := 3) (o := 0) y (by decide) h h2⟩
      · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))), head_mem (m := 1024) (k := 512) (h := 4) (o := 0) y (by decide) h h2⟩
      · exact ⟨_, (List.Mem.tail _ (List.Mem.tail _ (List.Mem.tail _ (List.Mem.tail _ (List.Mem.tail _ (List.Mem.tail _ (List.Mem.tail _ (List.Mem.tail _ (List.Mem.tail _ (List.Mem.tail _ (List.Mem.head _))))))))))), head_mem (m := 1024) (k := 512) (h := 5) (o := 0) y (by decide) h h2⟩
      · exact ⟨_, (List.Mem.tail _ (List.Mem.tail _ (List.Mem.tail _ (List.Mem.tail _ (List.Mem.tail _ (List.Mem.tail _ (List.Mem.tail _ (List.Mem.tail _ (List.Mem.tail _ (List.Mem.head _)))))))))), head_mem (m := 1024) (k := 512) (h := 6) (o := 0) y (by decide) h h2⟩
      · exact ⟨_, (List.Mem.tail _ (List.Mem.tail _ (List.Mem.tail _ (List.Mem.tail _ (List.Mem.tail _ (List.Mem.tail _ (List.Mem.tail _ (List.Mem.tail _ (List.Mem.head _))))))))), head_mem (m := 1024) (k := 512) (h := 7) (o := 0) y (by decide) h h2⟩
      · exact ⟨_, (List.Mem.tail _ (List.Mem.tail _ (List.Mem.tail _ (List.Mem.tail _ (List.Mem.tail _ (List.Mem.tail _ (List.Mem.tail _ (List.Mem.head _)))))))), head_mem (m := 1024) (k := 512) (h := 0) (o := 512) y (by decide) h h2⟩
      · exact ⟨_, (List.Mem.tail _ (List.Mem.tail _ (List.Mem.tail _ (List.Mem.tail _ (List.Mem.tail _ (List.Mem.tail _ (List.Mem.head _))))))), head_mem (m := 1024) (k := 512) (h := 1) (o := 512) y (by decide) h h2⟩
      · exact ⟨_, (List.Mem.tail _ (List.Mem.tail _ (List.Mem.tail _ (List.Mem.tail _ (List.Mem.tail _ (List.Mem.head _)))))), head_mem (m := 1024) (k := 512) (h := 2) (o := 512) y (by decide) h h2⟩
      · exact ⟨_, (List.Mem.tail _ (List.Mem.tail _ (List.Mem.tail _ (List.Mem.tail _ (List.Mem.head _))))), head_mem (m := 1024) (k := 512) (h := 3) (o := 512) y (by decide) h h2⟩
      · exact ⟨_, (List.Mem.tail _ (List.Mem.tail _ (List.Mem.tail _ (List.Mem.head _)))), head_mem (m := 1024) (k := 512) (h := 4) (o := 512) y (by decide) h h2⟩
      · exact ⟨_, (List.Mem.tail _ (List.Mem.tail _ (List.Mem.head _))), head_mem (m := 1024) (k := 512) (h := 5) (o := 512) y (by decide) h h2⟩
      · exact ⟨_, (List.Mem.tail _ (List.Mem.head _)), head_mem (m := 1024) (k := 512) (h := 6) (o := 512) y (by decide) h h2⟩
      · exact ⟨_, (List.Mem.head _), head_mem (m := 1024) (k := 512) (h := 7) (o := 512) y (by decide) h h2⟩
  isplitl [H13]
  · iexists _; isplitr; swap; · iexact H13
    ipureintro
    funext y
    refine View.read_writes_apply_of_pieces (Val := Elt F) arg13.view f13 (e := .f32) (uOut (arg1.view.read (Elt F) f1) (arg3.view.read (Elt F) f3) (arg4.view.read (Elt F) f4) (arg7.view.read (Elt F) f7) (arg17.view.read (Elt F) f17)) _ ?_ y ?_
    · simp only [List.forall_mem_cons, List.not_mem_nil, false_imp_iff, implies_true, _root_.and_true]
      refine ⟨fun x => u_bot _ _ x _ (at_unit _ _ _ x 0) (at_unit _ _ _ x 1),
        fun x => u_top _ _ x _ (at_unit _ _ _ x 0) (at_unit _ _ _ x 1)⟩
    · have hy : (y 0).val < 1024 := (y 0).isLt
      obtain h | h : (0 ≤ (y 0).val ∧ (y 0).val < 0 + 512) ∨ (512 ≤ (y 0).val ∧ (y 0).val < 512 + 512) := by omega
      · exact ⟨_, (List.Mem.tail _ (List.Mem.head _)), rows_mem (n := 1024) (m := 512) (k := 512) (o := 0) y (by decide) h⟩
      · exact ⟨_, (List.Mem.head _), rows_mem (n := 1024) (m := 512) (k := 512) (o := 512) y (by decide) h⟩
  isplitl [H14]
  · iexists _; isplitr; swap; · iexact H14
    ipureintro
    funext y
    refine View.read_writes_apply_of_pieces (Val := Elt F) arg14.view f14 (e := .bf16) (sgOut (arg1.view.read (Elt F) f1) (arg3.view.read (Elt F) f3) (arg4.view.read (Elt F) f4) (arg7.view.read (Elt F) f7) (arg17.view.read (Elt F) f17)) _ ?_ y ?_
    · simp only [List.forall_mem_cons, List.not_mem_nil, false_imp_iff, implies_true, _root_.and_true]
      refine ⟨fun x => sg_bot _ _ x _ (at_unit _ _ _ x 0) (at_unit _ _ _ x 1),
        fun x => sg_top _ _ x _ (at_unit _ _ _ x 0) (at_unit _ _ _ x 1)⟩
    · have hy : (y 0).val < 1024 := (y 0).isLt
      obtain h | h : (0 ≤ (y 0).val ∧ (y 0).val < 0 + 512) ∨ (512 ≤ (y 0).val ∧ (y 0).val < 512 + 512) := by omega
      · exact ⟨_, (List.Mem.tail _ (List.Mem.head _)), rows_mem (n := 1024) (m := 2048) (k := 512) (o := 0) y (by decide) h⟩
      · exact ⟨_, (List.Mem.head _), rows_mem (n := 1024) (m := 2048) (k := 512) (o := 512) y (by decide) h⟩
  isplitl [H15]
  · iexists _; isplitr; swap; · iexact H15
    ipureintro
    funext y
    refine View.read_writes_apply_of_pieces (Val := Elt F) arg15.view f15 (e := .bf16) (kcOut (arg1.view.read (Elt F) f1) (arg2.view.read (Elt F) f2) (arg3.view.read (Elt F) f3) (arg4.view.read (Elt F) f4) (arg5.view.read (Elt F) f5) (arg6.view.read (Elt F) f6) (arg7.view.read (Elt F) f7) (arg17.view.read (Elt F) f17)) _ ?_ y ?_
    · simp only [List.forall_mem_cons, List.not_mem_nil, false_imp_iff, implies_true, _root_.and_true]
      refine ⟨fun x => c_all (k0_pay224 (k0_pay207 (hC (arg1.view.read (Elt F) f1) (arg2.view.read (Elt F) f2) (arg3.view.read (Elt F) f3) (arg4.view.read (Elt F) f4) (arg5.view.read (Elt F) f5) (arg6.view.read (Elt F) f6) (arg7.view.read (Elt F) f7)) (View.ld (arg17.view.read (Elt F) f17) (Rect.unit ![0, 1024] S1024x1024.size inb_S1024x5632_S1024x1024_0_1024)))) _ 7 (cols_128 _ 896 slices_S128x1024_o0_896_S128x128 7 rfl) x _ (at_unit _ _ _ x 1) (at_unit _ _ _ x 3) (at_unit _ _ _ x 2),
        fun x => c_all (k0_pay224 (k0_pay207 (hC (arg1.view.read (Elt F) f1) (arg2.view.read (Elt F) f2) (arg3.view.read (Elt F) f3) (arg4.view.read (Elt F) f4) (arg5.view.read (Elt F) f5) (arg6.view.read (Elt F) f6) (arg7.view.read (Elt F) f7)) (View.ld (arg17.view.read (Elt F) f17) (Rect.unit ![0, 1024] S1024x1024.size inb_S1024x5632_S1024x1024_0_1024)))) _ 6 (cols_128 _ 768 slices_S128x1024_o0_768_S128x128 6 rfl) x _ (at_unit _ _ _ x 1) (at_unit _ _ _ x 3) (at_unit _ _ _ x 2),
        fun x => c_all (k0_pay224 (k0_pay207 (hC (arg1.view.read (Elt F) f1) (arg2.view.read (Elt F) f2) (arg3.view.read (Elt F) f3) (arg4.view.read (Elt F) f4) (arg5.view.read (Elt F) f5) (arg6.view.read (Elt F) f6) (arg7.view.read (Elt F) f7)) (View.ld (arg17.view.read (Elt F) f17) (Rect.unit ![0, 1024] S1024x1024.size inb_S1024x5632_S1024x1024_0_1024)))) _ 5 (cols_128 _ 640 slices_S128x1024_o0_640_S128x128 5 rfl) x _ (at_unit _ _ _ x 1) (at_unit _ _ _ x 3) (at_unit _ _ _ x 2),
        fun x => c_all (k0_pay224 (k0_pay207 (hC (arg1.view.read (Elt F) f1) (arg2.view.read (Elt F) f2) (arg3.view.read (Elt F) f3) (arg4.view.read (Elt F) f4) (arg5.view.read (Elt F) f5) (arg6.view.read (Elt F) f6) (arg7.view.read (Elt F) f7)) (View.ld (arg17.view.read (Elt F) f17) (Rect.unit ![0, 1024] S1024x1024.size inb_S1024x5632_S1024x1024_0_1024)))) _ 4 (cols_128 _ 512 slices_S128x1024_o0_512_S128x128 4 rfl) x _ (at_unit _ _ _ x 1) (at_unit _ _ _ x 3) (at_unit _ _ _ x 2),
        fun x => c_all (k0_pay224 (k0_pay207 (hC (arg1.view.read (Elt F) f1) (arg2.view.read (Elt F) f2) (arg3.view.read (Elt F) f3) (arg4.view.read (Elt F) f4) (arg5.view.read (Elt F) f5) (arg6.view.read (Elt F) f6) (arg7.view.read (Elt F) f7)) (View.ld (arg17.view.read (Elt F) f17) (Rect.unit ![0, 1024] S1024x1024.size inb_S1024x5632_S1024x1024_0_1024)))) _ 3 (cols_128 _ 384 slices_S128x1024_o0_384_S128x128 3 rfl) x _ (at_unit _ _ _ x 1) (at_unit _ _ _ x 3) (at_unit _ _ _ x 2),
        fun x => c_all (k0_pay224 (k0_pay207 (hC (arg1.view.read (Elt F) f1) (arg2.view.read (Elt F) f2) (arg3.view.read (Elt F) f3) (arg4.view.read (Elt F) f4) (arg5.view.read (Elt F) f5) (arg6.view.read (Elt F) f6) (arg7.view.read (Elt F) f7)) (View.ld (arg17.view.read (Elt F) f17) (Rect.unit ![0, 1024] S1024x1024.size inb_S1024x5632_S1024x1024_0_1024)))) _ 2 (cols_128 _ 256 slices_S128x1024_o0_256_S128x128 2 rfl) x _ (at_unit _ _ _ x 1) (at_unit _ _ _ x 3) (at_unit _ _ _ x 2),
        fun x => c_all (k0_pay224 (k0_pay207 (hC (arg1.view.read (Elt F) f1) (arg2.view.read (Elt F) f2) (arg3.view.read (Elt F) f3) (arg4.view.read (Elt F) f4) (arg5.view.read (Elt F) f5) (arg6.view.read (Elt F) f6) (arg7.view.read (Elt F) f7)) (View.ld (arg17.view.read (Elt F) f17) (Rect.unit ![0, 1024] S1024x1024.size inb_S1024x5632_S1024x1024_0_1024)))) _ 1 (cols_128 _ 128 slices_S128x1024_o0_128_S128x128 1 rfl) x _ (at_unit _ _ _ x 1) (at_unit _ _ _ x 3) (at_unit _ _ _ x 2),
        fun x => c_all (k0_pay224 (k0_pay207 (hC (arg1.view.read (Elt F) f1) (arg2.view.read (Elt F) f2) (arg3.view.read (Elt F) f3) (arg4.view.read (Elt F) f4) (arg5.view.read (Elt F) f5) (arg6.view.read (Elt F) f6) (arg7.view.read (Elt F) f7)) (View.ld (arg17.view.read (Elt F) f17) (Rect.unit ![0, 1024] S1024x1024.size inb_S1024x5632_S1024x1024_0_1024)))) _ 0 (cols_128 _ 0 slices_S128x1024_o0_0_S128x128 0 rfl) x _ (at_unit _ _ _ x 1) (at_unit _ _ _ x 3) (at_unit _ _ _ x 2)⟩
    · have hy : (y 1).val < 8 := (y 1).isLt
      have h2 : (y 2).val < 128 := (y 2).isLt
      obtain h | h | h | h | h | h | h | h : ((y 1).val = 0) ∨ ((y 1).val = 1) ∨ ((y 1).val = 2) ∨ ((y 1).val = 3) ∨ ((y 1).val = 4) ∨ ((y 1).val = 5) ∨ ((y 1).val = 6) ∨ ((y 1).val = 7) := by omega
      · exact ⟨_, (List.Mem.tail _ (List.Mem.tail _ (List.Mem.tail _ (List.Mem.tail _ (List.Mem.tail _ (List.Mem.tail _ (List.Mem.tail _ (List.Mem.head _)))))))), head_mem (m := 128) (k := 128) (h := 0) (o := 0) y (by decide) h ⟨Nat.zero_le _, by omega⟩⟩
      · exact ⟨_, (List.Mem.tail _ (List.Mem.tail _ (List.Mem.tail _ (List.Mem.tail _ (List.Mem.tail _ (List.Mem.tail _ (List.Mem.head _))))))), head_mem (m := 128) (k := 128) (h := 1) (o := 0) y (by decide) h ⟨Nat.zero_le _, by omega⟩⟩
      · exact ⟨_, (List.Mem.tail _ (List.Mem.tail _ (List.Mem.tail _ (List.Mem.tail _ (List.Mem.tail _ (List.Mem.head _)))))), head_mem (m := 128) (k := 128) (h := 2) (o := 0) y (by decide) h ⟨Nat.zero_le _, by omega⟩⟩
      · exact ⟨_, (List.Mem.tail _ (List.Mem.tail _ (List.Mem.tail _ (List.Mem.tail _ (List.Mem.head _))))), head_mem (m := 128) (k := 128) (h := 3) (o := 0) y (by decide) h ⟨Nat.zero_le _, by omega⟩⟩
      · exact ⟨_, (List.Mem.tail _ (List.Mem.tail _ (List.Mem.tail _ (List.Mem.head _)))), head_mem (m := 128) (k := 128) (h := 4) (o := 0) y (by decide) h ⟨Nat.zero_le _, by omega⟩⟩
      · exact ⟨_, (List.Mem.tail _ (List.Mem.tail _ (List.Mem.head _))), head_mem (m := 128) (k := 128) (h := 5) (o := 0) y (by decide) h ⟨Nat.zero_le _, by omega⟩⟩
      · exact ⟨_, (List.Mem.tail _ (List.Mem.head _)), head_mem (m := 128) (k := 128) (h := 6) (o := 0) y (by decide) h ⟨Nat.zero_le _, by omega⟩⟩
      · exact ⟨_, (List.Mem.head _), head_mem (m := 128) (k := 128) (h := 7) (o := 0) y (by decide) h ⟨Nat.zero_le _, by omega⟩⟩
  isplitl [H16]
  · iexists _; isplitr; swap; · iexact H16
    ipureintro
    funext y
    refine View.read_writes_apply_of_pieces (Val := Elt F) arg16.view f16 (e := .bf16) (vcOut (arg1.view.read (Elt F) f1) (arg2.view.read (Elt F) f2) (arg3.view.read (Elt F) f3) (arg4.view.read (Elt F) f4) (arg5.view.read (Elt F) f5) (arg6.view.read (Elt F) f6) (arg7.view.read (Elt F) f7) (arg17.view.read (Elt F) f17)) _ ?_ y ?_
    · simp only [List.forall_mem_cons, List.not_mem_nil, false_imp_iff, implies_true, _root_.and_true]
      refine ⟨fun x => c_all (k0_pay256 (k0_pay245 (hC (arg1.view.read (Elt F) f1) (arg2.view.read (Elt F) f2) (arg3.view.read (Elt F) f3) (arg4.view.read (Elt F) f4) (arg5.view.read (Elt F) f5) (arg6.view.read (Elt F) f6) (arg7.view.read (Elt F) f7)) (View.ld (arg17.view.read (Elt F) f17) (Rect.unit ![0, 2048] S1024x1024.size inb_S1024x5632_S1024x1024_0_2048)))) _ 7 (cols_128 _ 896 slices_S128x1024_o0_896_S128x128 7 rfl) x _ (at_unit _ _ _ x 1) (at_unit _ _ _ x 3) (at_unit _ _ _ x 2),
        fun x => c_all (k0_pay256 (k0_pay245 (hC (arg1.view.read (Elt F) f1) (arg2.view.read (Elt F) f2) (arg3.view.read (Elt F) f3) (arg4.view.read (Elt F) f4) (arg5.view.read (Elt F) f5) (arg6.view.read (Elt F) f6) (arg7.view.read (Elt F) f7)) (View.ld (arg17.view.read (Elt F) f17) (Rect.unit ![0, 2048] S1024x1024.size inb_S1024x5632_S1024x1024_0_2048)))) _ 6 (cols_128 _ 768 slices_S128x1024_o0_768_S128x128 6 rfl) x _ (at_unit _ _ _ x 1) (at_unit _ _ _ x 3) (at_unit _ _ _ x 2),
        fun x => c_all (k0_pay256 (k0_pay245 (hC (arg1.view.read (Elt F) f1) (arg2.view.read (Elt F) f2) (arg3.view.read (Elt F) f3) (arg4.view.read (Elt F) f4) (arg5.view.read (Elt F) f5) (arg6.view.read (Elt F) f6) (arg7.view.read (Elt F) f7)) (View.ld (arg17.view.read (Elt F) f17) (Rect.unit ![0, 2048] S1024x1024.size inb_S1024x5632_S1024x1024_0_2048)))) _ 5 (cols_128 _ 640 slices_S128x1024_o0_640_S128x128 5 rfl) x _ (at_unit _ _ _ x 1) (at_unit _ _ _ x 3) (at_unit _ _ _ x 2),
        fun x => c_all (k0_pay256 (k0_pay245 (hC (arg1.view.read (Elt F) f1) (arg2.view.read (Elt F) f2) (arg3.view.read (Elt F) f3) (arg4.view.read (Elt F) f4) (arg5.view.read (Elt F) f5) (arg6.view.read (Elt F) f6) (arg7.view.read (Elt F) f7)) (View.ld (arg17.view.read (Elt F) f17) (Rect.unit ![0, 2048] S1024x1024.size inb_S1024x5632_S1024x1024_0_2048)))) _ 4 (cols_128 _ 512 slices_S128x1024_o0_512_S128x128 4 rfl) x _ (at_unit _ _ _ x 1) (at_unit _ _ _ x 3) (at_unit _ _ _ x 2),
        fun x => c_all (k0_pay256 (k0_pay245 (hC (arg1.view.read (Elt F) f1) (arg2.view.read (Elt F) f2) (arg3.view.read (Elt F) f3) (arg4.view.read (Elt F) f4) (arg5.view.read (Elt F) f5) (arg6.view.read (Elt F) f6) (arg7.view.read (Elt F) f7)) (View.ld (arg17.view.read (Elt F) f17) (Rect.unit ![0, 2048] S1024x1024.size inb_S1024x5632_S1024x1024_0_2048)))) _ 3 (cols_128 _ 384 slices_S128x1024_o0_384_S128x128 3 rfl) x _ (at_unit _ _ _ x 1) (at_unit _ _ _ x 3) (at_unit _ _ _ x 2),
        fun x => c_all (k0_pay256 (k0_pay245 (hC (arg1.view.read (Elt F) f1) (arg2.view.read (Elt F) f2) (arg3.view.read (Elt F) f3) (arg4.view.read (Elt F) f4) (arg5.view.read (Elt F) f5) (arg6.view.read (Elt F) f6) (arg7.view.read (Elt F) f7)) (View.ld (arg17.view.read (Elt F) f17) (Rect.unit ![0, 2048] S1024x1024.size inb_S1024x5632_S1024x1024_0_2048)))) _ 2 (cols_128 _ 256 slices_S128x1024_o0_256_S128x128 2 rfl) x _ (at_unit _ _ _ x 1) (at_unit _ _ _ x 3) (at_unit _ _ _ x 2),
        fun x => c_all (k0_pay256 (k0_pay245 (hC (arg1.view.read (Elt F) f1) (arg2.view.read (Elt F) f2) (arg3.view.read (Elt F) f3) (arg4.view.read (Elt F) f4) (arg5.view.read (Elt F) f5) (arg6.view.read (Elt F) f6) (arg7.view.read (Elt F) f7)) (View.ld (arg17.view.read (Elt F) f17) (Rect.unit ![0, 2048] S1024x1024.size inb_S1024x5632_S1024x1024_0_2048)))) _ 1 (cols_128 _ 128 slices_S128x1024_o0_128_S128x128 1 rfl) x _ (at_unit _ _ _ x 1) (at_unit _ _ _ x 3) (at_unit _ _ _ x 2),
        fun x => c_all (k0_pay256 (k0_pay245 (hC (arg1.view.read (Elt F) f1) (arg2.view.read (Elt F) f2) (arg3.view.read (Elt F) f3) (arg4.view.read (Elt F) f4) (arg5.view.read (Elt F) f5) (arg6.view.read (Elt F) f6) (arg7.view.read (Elt F) f7)) (View.ld (arg17.view.read (Elt F) f17) (Rect.unit ![0, 2048] S1024x1024.size inb_S1024x5632_S1024x1024_0_2048)))) _ 0 (cols_128 _ 0 slices_S128x1024_o0_0_S128x128 0 rfl) x _ (at_unit _ _ _ x 1) (at_unit _ _ _ x 3) (at_unit _ _ _ x 2)⟩
    · have hy : (y 1).val < 8 := (y 1).isLt
      have h2 : (y 2).val < 128 := (y 2).isLt
      obtain h | h | h | h | h | h | h | h : ((y 1).val = 0) ∨ ((y 1).val = 1) ∨ ((y 1).val = 2) ∨ ((y 1).val = 3) ∨ ((y 1).val = 4) ∨ ((y 1).val = 5) ∨ ((y 1).val = 6) ∨ ((y 1).val = 7) := by omega
      · exact ⟨_, (List.Mem.tail _ (List.Mem.tail _ (List.Mem.tail _ (List.Mem.tail _ (List.Mem.tail _ (List.Mem.tail _ (List.Mem.tail _ (List.Mem.head _)))))))), head_mem (m := 128) (k := 128) (h := 0) (o := 0) y (by decide) h ⟨Nat.zero_le _, by omega⟩⟩
      · exact ⟨_, (List.Mem.tail _ (List.Mem.tail _ (List.Mem.tail _ (List.Mem.tail _ (List.Mem.tail _ (List.Mem.tail _ (List.Mem.head _))))))), head_mem (m := 128) (k := 128) (h := 1) (o := 0) y (by decide) h ⟨Nat.zero_le _, by omega⟩⟩
      · exact ⟨_, (List.Mem.tail _ (List.Mem.tail _ (List.Mem.tail _ (List.Mem.tail _ (List.Mem.tail _ (List.Mem.head _)))))), head_mem (m := 128) (k := 128) (h := 2) (o := 0) y (by decide) h ⟨Nat.zero_le _, by omega⟩⟩
      · exact ⟨_, (List.Mem.tail _ (List.Mem.tail _ (List.Mem.tail _ (List.Mem.tail _ (List.Mem.head _))))), head_mem (m := 128) (k := 128) (h := 3) (o := 0) y (by decide) h ⟨Nat.zero_le _, by omega⟩⟩
      · exact ⟨_, (List.Mem.tail _ (List.Mem.tail _ (List.Mem.tail _ (List.Mem.head _)))), head_mem (m := 128) (k := 128) (h := 4) (o := 0) y (by decide) h ⟨Nat.zero_le _, by omega⟩⟩
      · exact ⟨_, (List.Mem.tail _ (List.Mem.tail _ (List.Mem.head _))), head_mem (m := 128) (k := 128) (h := 5) (o := 0) y (by decide) h ⟨Nat.zero_le _, by omega⟩⟩
      · exact ⟨_, (List.Mem.tail _ (List.Mem.head _)), head_mem (m := 128) (k := 128) (h := 6) (o := 0) y (by decide) h ⟨Nat.zero_le _, by omega⟩⟩
      · exact ⟨_, (List.Mem.head _), head_mem (m := 128) (k := 128) (h := 7) (o := 0) y (by decide) h ⟨Nat.zero_le _, by omega⟩⟩
  isplitl [H17]
  · iexists _; isplitr; · ipureintro; rfl
    iexact H17
  isplitl [H18]
  · iexists _; isplitr; · ipureintro; rfl
    iexact H18
  isplitl [H19]
  · iexists _; isplitr; · ipureintro; rfl
    iexact H19
  isplitl [H20]
  · iexists _; isplitr; · ipureintro; rfl
    iexact H20
  iexact HW

end Cert.Kernel3Ideal.Mix
-- ==== Proof.MixRun.lean ====
/- The run of the projections before the mixer: what is carried from point to point, every point, the launch, and what it leaves. -/
module

public import proofs.«01_k».proof.Proof.MixCompRun
public import proofs.«01_k».proof.Proof.Gen.Kernel3Ideal.Frame

@[expose] public section

set_option maxRecDepth 16384

noncomputable section

namespace Cert.Kernel3Ideal.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel3Ideal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 800000 in
/-- The host operations before the call, then the call. -/
theorem hmain : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

/-- The two DMA semaphores the body waits on. -/
abbrev osem : Fin 2 → SemLoc sig := fun j => (![SemLoc.dma 26, SemLoc.dma 27] : Fin 2 → SemLoc sig) j
theorem osem_facts : Pipeline.OwnSemFacts spec0 osem := by decide

/-- The weight array, which stays in HBM. -/
def Hb : Finset (Ref sig .tc) := {main_arg4}
theorem Hb_sub : Hb ⊆ Pipeline.restRefs sig spec0 := by decide

abbrev sc0 : Memref sig .tc .vmem S1024x5632 .bf16 := Memref.whole cc0_scratch0
abbrev sc1 : Memref sig .tc .vmem S2048x128 .f32 := Memref.whole cc0_scratch1
abbrev sc2 : Memref sig .tc .vmem S2048x128 .f32 := Memref.whole cc0_scratch2
abbrev sc3 : Memref sig .tc .vmem S2048x128 .f32 := Memref.whole cc0_scratch3
abbrev sc4 : Memref sig .tc .vmem S2x128x5632 .f32 := Memref.whole cc0_scoped0

/-- The two semaphores at zero. -/
abbrev sems (c : Dev nD) : sProp 𝕄 := iprop(semVal ((c : Thread nD τ), SemLoc.dma 26) 0 ∗ semVal ((c : Thread nD τ), SemLoc.dma 27) 0)

/-- What the launch gives besides the windows: the scratch buffers, the generator register, the semaphores and the weights in HBM. -/
theorem launch_eq (c : Dev nD) :
    (Pipeline.ΦD osem spec0 Hb (V m) c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d))
          ∗ (∃ r, prngReg c r) ∗ sems c ∗ hbPt c hbM (V m c main_arg4)) := by
  have hs : (Pipeline.ownSems0 (Ix := Unit) (Name := ℕ) (U := Pipeline.UD sig nD τ) (Lvl := ℕ) (Val := Elt F) (τ := τ) osem c : sProp 𝕄) = sems c := by
    rw [Pipeline.ownSems0_eq_of_list c osem [0, 1] (by decide) (by decide)]; rfl
  have hh : (bigSep Hb (fun b => ((c : Thread nD τ).loc b) ↦{fullShare} V m c b) : sProp 𝕄) = hbPt c hbM (V m c main_arg4) := by
    rw [BI.bigSep_eq_bigSepL_of_eq [main_arg4] (by decide) (by decide)]; rfl
  rw [Pipeline.ΦD_eq, scopedRest0_eq, hs, hh]; simp only [sc0, sc1, sc2, sc3, sc4, owns_whole]; try rfl

/-- The first point. -/
abbrev t0 : Fin cfg0.N := ⟨0, Nat.lt_of_lt_of_eq (by decide : 0 < 32) N_0.symm⟩

/-- The row of rotary frequencies, as the first point reads it. -/
def frq (c : Dev nD) : Vec F S1x128 .f32 := View.ld (iblk m c 7 t0) (Rect.unit ![0, 0] S1x128.size inb_S1x128_S1x128_0_0)

/-- What holds after the first point: the scratch buffers carry the weights in bf16 and the three tables. -/
def carried (c : Dev nD) : sProp 𝕄 :=
  iprop(iprop(owns (c : Thread nD τ) sc0 fullShare (win (V m c main_arg4)) ∗ owns (c : Thread nD τ) sc1 fullShare (cosT (frq m c)) ∗ owns (c : Thread nD τ) sc2 fullShare (sloT (frq m c)) ∗ owns (c : Thread nD τ) sc3 fullShare (shiT (frq m c)) ∗ (∃ d, owns (c : Thread nD τ) sc4 fullShare d))
    ∗ (∃ r, prngReg c r) ∗ sems c ∗ hbPt c hbM (V m c main_arg4))

/-- What holds besides the windows before point `n`. -/
def phi (c : Dev nD) (n : ℕ) : sProp 𝕄 := if n = 0 then Pipeline.ΦD osem spec0 Hb (V m) c else carried m c
theorem phi_zero (c : Dev nD) {n : ℕ} (h : n = 0) : phi m c n = Pipeline.ΦD osem spec0 Hb (V m) c := if_pos h
theorem phi_pos (c : Dev nD) {n : ℕ} (h : ¬ n = 0) : phi m c n = carried m c := if_neg h

/-- The blocks of the seven results at point `t`. -/
def resQ (c : Dev nD) (t : Fin cfg0.N) : Vec F S1x8x1024x128 .bf16 :=
  qOut (grid0.coords t) (cosT (frq m c)) (sloT (frq m c)) (shiT (frq m c)) (iblk m c 0 t) (iblk m c 2 t) (iblk m c 3 t) (iblk m c 6 t) (win (V m c main_arg4))
def resK (c : Dev nD) (t : Fin cfg0.N) : Vec F S1x8x1024x128 .bf16 :=
  kOut (grid0.coords t) (cosT (frq m c)) (sloT (frq m c)) (shiT (frq m c)) (iblk m c 0 t) (iblk m c 1 t) (iblk m c 2 t) (iblk m c 3 t) (iblk m c 4 t) (iblk m c 5 t) (iblk m c 6 t) (win (V m c main_arg4))
def resV (c : Dev nD) (t : Fin cfg0.N) : Vec F S1x8x1024x128 .bf16 :=
  vOut (iblk m c 0 t) (iblk m c 1 t) (iblk m c 2 t) (iblk m c 3 t) (iblk m c 4 t) (iblk m c 5 t) (iblk m c 6 t) (win (V m c main_arg4))
def resU (c : Dev nD) (t : Fin cfg0.N) : Vec F S1024x512 .f32 :=
  uOut (iblk m c 0 t) (iblk m c 2 t) (iblk m c 3 t) (iblk m c 6 t) (win (V m c main_arg4))
def resSg (c : Dev nD) (t : Fin cfg0.N) : Vec F S1024x2048 .bf16 :=
  sgOut (iblk m c 0 t) (iblk m c 2 t) (iblk m c 3 t) (iblk m c 6 t) (win (V m c main_arg4))
def resKc (c : Dev nD) (t : Fin cfg0.N) : Vec F S1x8x128x128 .bf16 :=
  kcOut (iblk m c 0 t) (iblk m c 1 t) (iblk m c 2 t) (iblk m c 3 t) (iblk m c 4 t) (iblk m c 5 t) (iblk m c 6 t) (win (V m c main_arg4))
def resVc (c : Dev nD) (t : Fin cfg0.N) : Vec F S1x8x128x128 .bf16 :=
  vcOut (iblk m c 0 t) (iblk m c 1 t) (iblk m c 2 t) (iblk m c 3 t) (iblk m c 4 t) (iblk m c 5 t) (iblk m c 6 t) (win (V m c main_arg4))

/-- The proof data: inputs left as found, the results' blocks as computed, the weights and tables carried from the first point on. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => resQ m c t
    | ⟨9, _⟩ => resK m c t
    | ⟨10, _⟩ => resV m c t
    | ⟨11, _⟩ => resU m c t
    | ⟨12, _⟩ => resSg m c t
    | ⟨13, _⟩ => resKc m c t
    | ⟨14, _⟩ => resVc m c t
  Φ t := phi m c t.val
  q w := Pipeline.shareOf spec0 w
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = resQ m c t := by dsimp only [dats]
theorem after_9 (c : Dev nD) (t : Fin cfg0.N) : (dats m 0 c).after 9 t = resK m c t := by dsimp only [dats]
theorem after_10 (c : Dev nD) (t : Fin cfg0.N) : (dats m 0 c).after 10 t = resV m c t := by dsimp only [dats]
theorem after_11 (c : Dev nD) (t : Fin cfg0.N) : (dats m 0 c).after 11 t = resU m c t := by dsimp only [dats]
theorem after_12 (c : Dev nD) (t : Fin cfg0.N) : (dats m 0 c).after 12 t = resSg m c t := by dsimp only [dats]
theorem after_13 (c : Dev nD) (t : Fin cfg0.N) : (dats m 0 c).after 13 t = resKc m c t := by dsimp only [dats]
theorem after_14 (c : Dev nD) (t : Fin cfg0.N) : (dats m 0 c).after 14 t = resVc m c t := by dsimp only [dats]
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin cfg0.N) (d) : (dats m 0 c).before 7 t d = iblk m c 7 t :=
  ((dats m 0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)

/-- What a point starts with, and what it ends with. -/
def pre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d))
    ∗ (∃ d, owns (c : Thread nD τ) (win0_13.stage (cfg0.slots t 13)) fullShare ((dats m 0 c).before 13 t d))
    ∗ (∃ d, owns (c : Thread nD τ) (win0_14.stage (cfg0.slots t 14)) fullShare ((dats m 0 c).before 14 t d)))
def post (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ owns (c : Thread nD τ) (win0_10.stage (cfg0.slots t 10)) fullShare ((dats m 0 c).after 10 t)
    ∗ owns (c : Thread nD τ) (win0_11.stage (cfg0.slots t 11)) fullShare ((dats m 0 c).after 11 t)
    ∗ owns (c : Thread nD τ) (win0_12.stage (cfg0.slots t 12)) fullShare ((dats m 0 c).after 12 t)
    ∗ owns (c : Thread nD τ) (win0_13.stage (cfg0.slots t 13)) fullShare ((dats m 0 c).after 13 t)
    ∗ owns (c : Thread nD τ) (win0_14.stage (cfg0.slots t 14)) fullShare ((dats m 0 c).after 14 t))

set_option maxHeartbeats 4000000 in
/-- The body at any point: the first loads the weights, makes the tables and then computes, every other only computes. -/
theorem body_run (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3, before_4, before_5, before_6, before_7]
  rw [after_0, after_1, after_2, after_3, after_4, after_5, after_6, after_7, after_8, after_9, after_10, after_11, after_12, after_13, after_14]
  rw [show (dats m 0 c).Φ t.succ = phi m c (t.val + 1) from rfl, phi_pos m c (Nat.succ_ne_zero _)]
  unfold Dat.owesAt Pipeline.owesWithin
  rw [show (dats m 0 c).owed t.castSucc = 0 from rfl, show (dats m 0 c).owed t.succ = 0 from rfl]
  unfold resQ resK resV resU resSg resKc resVc
  by_cases h0 : t.val = 0
  · rw [show (dats m 0 c).Φ t.castSucc = phi m c t.val from rfl, phi_zero m c h0, launch_eq]
    obtain rfl : t = t0 := Fin.ext h0
    unfold carried
    rw [mix_first (hi := (first_iff t0).mpr h0)]
    rw [wp_bind]
    iintro ⟨⟨⟨HS0, HS1, HS2, HS3, HS4⟩, Hg, ⟨Hq0, Hq1⟩, Hh⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply (load_run c (grid0.coords t0) _ _ _ _ _ _ _ _ _ _ _ _ _ _ _ _ _ _ _ _ _ _ _ _ _ _ _ _ _ _ _ _ _ _ _ _ _ _ _ _ (iblk m c 7 t0) (V m c main_arg4) W _)
    isplitl [H7]; · iexact H7
    isplitl [HS0]; · iexact HS0
    isplitl [HS1]; · iexact HS1
    isplitl [HS2]; · iexact HS2
    isplitl [HS3]; · iexact HS3
    isplitl [HS4]; · iexact HS4
    isplitl [Hq0]; · iexact Hq0
    isplitl [Hq1]; · iexact Hq1
    isplitl [Hh]; · iexact Hh
    isplitl [HW]; · iexact HW
    iintro ⟨H7, HS0, HS1, HS2, HS3, HS4, Hq0, Hq1, Hh, ⟨%W', HW⟩⟩
    iapply (comp_run c (grid0.coords t0) _ _ _ _ _ _ _ _ _ _ _ _ _ _ _ _ _ _ _ _ _ _ _ _ _ _ _ _ _ _ _ _ _ _ _ _ _ _ _ _ (iblk m c 0 t0) (iblk m c 1 t0) (iblk m c 2 t0) (iblk m c 3 t0) (iblk m c 4 t0) (iblk m c 5 t0) (iblk m c 6 t0) (win (V m c main_arg4)) (cosT (frq m c)) (sloT (frq m c)) (shiT (frq m c)) _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [HS0]; · iexact HS0
    isplitl [HS1]; · iexact HS1
    isplitl [HS2]; · iexact HS2
    isplitl [HS3]; · iexact HS3
    isplitl [HW]; · iexact HW
    iintro ⟨H0, H1, H2, H3, H4, H5, H6, H8, H9, H10, H11, H12, H13, H14, HS0, HS1, HS2, HS3, HW⟩
    isplitl [HS0 HS1 HS2 HS3 HS4 Hg Hq0 Hq1 Hh]
    · isplitl [HS0 HS1 HS2 HS3 HS4]
      · isplitl [HS0]; · iexact HS0
        isplitl [HS1]; · iexact HS1
        isplitl [HS2]; · iexact HS2
        isplitl [HS3]; · iexact HS3
        iexact HS4
      isplitl [Hg]; · iexact Hg
      isplitl [Hq0 Hq1]
      · isplitl [Hq0]; · iexact Hq0
        iexact Hq1
      iexact Hh
    isplitl [HW]
    · iexists _; isplitr; swap; · iexact HW
      ipureintro; exact fun _ _ => Or.inl trivial
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  · rw [show (dats m 0 c).Φ t.castSucc = phi m c t.val from rfl, phi_pos m c h0]
    unfold carried
    rw [mix_later (hi := fun h => h0 ((first_iff t).mp h))]
    iintro ⟨⟨⟨HS0, HS1, HS2, HS3, HS4⟩, Hg, Hq, Hh⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply (comp_run c (grid0.coords t) _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (win (V m c main_arg4)) (cosT (frq m c)) (sloT (frq m c)) (shiT (frq m c)) _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [HS0]; · iexact HS0
    isplitl [HS1]; · iexact HS1
    isplitl [HS2]; · iexact HS2
    isplitl [HS3]; · iexact HS3
    isplitl [HW]; · iexact HW
    iintro ⟨H0, H1, H2, H3, H4, H5, H6, H8, H9, H10, H11, H12, H13, H14, HS0, HS1, HS2, HS3, HW⟩
    isplitl [HS0 HS1 HS2 HS3 HS4 Hg Hq Hh]
    · isplitl [HS0 HS1 HS2 HS3 HS4]
      · isplitl [HS0]; · iexact HS0
        isplitl [HS1]; · iexact HS1
        isplitl [HS2]; · iexact HS2
        isplitl [HS3]; · iexact HS3
        iexact HS4
      isplitl [Hg]; · iexact Hg
      isplitl [Hq]; · iexact Hq
      iexact Hh
    isplitl [HW]
    · iexists _; isplitr; swap; · iexact HW
      ipureintro; exact fun _ _ => Or.inl trivial
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (body_run m c t) rfl .rfl fun _ => .rfl

theorem last_ne : ¬ (Fin.last cfg0.N).val = 0 := fun h => absurd ((show (Fin.last cfg0.N).val = 32 from N_0).symm.trans h) (by decide)

theorem carried_in (c : Dev nD) : Pipeline.ΦD osem spec0 Hb (V m) c ⊢ (dats m 0 c).Φ 0 := by
  rw [show (dats m 0 c).Φ 0 = phi m c 0 from rfl, phi_zero m c rfl]

/-- What is carried at the end is, contents forgotten, what the launch gave. -/
theorem carried_out (c : Dev nD) : (dats m 0 c).Φ (Fin.last cfg0.N) ⊢ Pipeline.ΦD osem spec0 Hb (V m) c := by
  rw [show (dats m 0 c).Φ (Fin.last cfg0.N) = phi m c (Fin.last cfg0.N).val from rfl, phi_pos m c last_ne, launch_eq]
  unfold carried
  iintro ⟨⟨HS0, HS1, HS2, HS3, HS4⟩, Hg, Hq, Hh⟩
  isplitl [HS0 HS1 HS2 HS3 HS4]
  · isplitl [HS0]; · iexists _; iexact HS0
    isplitl [HS1]; · iexists _; iexact HS1
    isplitl [HS2]; · iexists _; iexact HS2
    isplitl [HS3]; · iexists _; iexact HS3
    iexact HS4
  isplitl [Hg]; · iexact Hg
  isplitl [Hq]; · iexact Hq
  iexact Hh

set_option backward.isDefEq.respectTransparency.types false in
/-- The run: every array a window stages ends as the points leave it, every other buffer as the call found it, the semaphores at zero. -/
theorem run_main : θ_run defs (onTc (τ := τ) (main (F := F))) (s₀ m ρ) (fun r => Pipeline.FramePost cfgs (dats m) 0 (V m) r ∧ r.2.sem = fun _ => 0) :=
  Pipeline.θ_run_frame_dma_shared (Q' := _) cfgs (dats m) (0 : Fin 1) launch₀0 osem defs₀ Variants.none osem_facts Hb Hb_sub m ρ main
    (hbody := fun c => (body_obligation m c).loose) (hq := fun _ _ _ => rfl)
    (howed := fun _ _ => rfl) (V := V m) (hmain := hmain m) (hA := A_eq m)
    (hin := carried_in m) (hout := carried_out m)

/-- The arguments end as they were. -/
theorem args_kept (r) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩

end Cert.Kernel3Ideal.Mix
-- ==== Proof.MixFrame.lean ====
/- The frames of the programs of the projections before the mixer: the printed program and the idealized one have the same text, so one run serves both. -/
module

public import proofs.«01_k».proof.Defs
public import proofs.«01_k».proof.Proof.Gen.Kernel3
public import proofs.«01_k».proof.Proof.Gen.Reference3Ideal
public import proofs.«01_k».proof.Proof.Gen.Reference3Ideal.Run
public import proofs.«01_k».proof.Proof.MixRun
public import Idealize.ShloMosaic.Adequacy
public import Idealize.ShloMosaic.Init

@[expose] public section

set_option maxRecDepth 100000
set_option maxHeartbeats 4000000

noncomputable section

namespace Cert.Kernel3Ideal.Mix

open Idealize.ShloMosaic Idealize.ShloMosaic.TcCoe Idealize.SL.Sem

/-- The kernel functions are equal. -/
theorem mix_eq : @Cert.Kernel3.cc0_mix_in Bits _ _ = @Cert.Kernel3Ideal.cc0_mix_in Bits _ _ := rfl

/-- The tables of the kernels' bodies are equal. -/
theorem bodies_eq : Cert.Kernel3.defs₀ (F := Bits) = Cert.Kernel3Ideal.defs₀ (F := Bits) := by
  refine congrArg (Defs.onTc (nD := Cert.Kernel3.nD) (τ := Cert.Kernel3.τ) (sig := Cert.Kernel3.sig) (Λ := Cert.Kernel3.Λ₀))
    (funext fun l => funext fun a => ?_)
  match l, a with
  | 0, (t, s) =>
    dsimp only
    rw [mix_eq]
    rfl
  | ⟨_ + 1, h⟩, _ => exact absurd h (Nat.not_lt.2 (Nat.le_add_left _ _))

/-- The tables of all bodies are equal. -/
theorem defs_eq : Cert.Kernel3.defs (F := Bits) = Cert.Kernel3Ideal.defs (F := Bits) :=
  congrArg (Pipeline.defs (Cert.Kernel3.pcfgs (F := Bits))) bodies_eq

/-- The run, read at the arguments and at the counters, at any float values. -/
theorem frame_any {F : FTy → Type} [FloatOps F] (m : (ℓ : Loc Cert.Kernel3Ideal.nD Cert.Kernel3Ideal.τ Cert.Kernel3Ideal.sig) → Buf (Elt F) ℓ) (ρ : Dev Cert.Kernel3Ideal.nD → PrngReg) :
    θ_run (Cert.Kernel3Ideal.defs (F := F)) (onTc (τ := Cert.Kernel3Ideal.τ) (Cert.Kernel3Ideal.main (F := F))) ⟨m, fun _ => 0, ρ⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0) :=
  (θ_run Cert.Kernel3Ideal.defs _ _).mono (fun r h => ⟨args_kept m r h.1, h.2⟩) (run_main m ρ)

/-- The program's frame: the printed program is the idealized one. -/
theorem frame_kernel : Cert.quiescent_Kernel3 := by
  intro m ρ _
  refine (congrArg (fun d => θ_run d (onTc (τ := Cert.Kernel3.τ) (Cert.Kernel3.main (F := Bits))) ⟨m, fun _ => 0, ρ⟩ _) defs_eq).mpr ?_
  exact frame_any (F := Bits) m ρ

/-- The idealized program's frame. -/
theorem frame_ideal : Cert.quiescent_Kernel3Ideal := fun m ρ _ => frame_any (F := Ideal) m ρ

/-- The reference's frame: its run, read at the arguments; it declares no semaphore. -/
theorem frame_reference : Cert.quiescent_Reference3Ideal := fun m ρ _ =>
  (θ_run Cert.Reference3Ideal.defs _ _).mono (fun r h => ⟨fun c => (h c).2.2.2.2.2.2.2, sem_eq_zero_of_no_sems (by decide) r.2⟩) (Cert.Reference3Ideal.Value.run (F := Ideal) m ρ)

end Cert.Kernel3Ideal.Mix

end
-- ==== Proof.MixSpec.lean ====
/- The projections before the mixer, on extended reals: the normed rows, their products with the weights, the rotation of queries and keys. -/
module

public import proofs.«01_k».proof.Proof.Spec
public import Idealize.ShloMosaic.Lib.Pointwise

@[expose] public section

noncomputable section

namespace Cert.Rows

open Idealize.ShloMosaic

/-- The frequency of pair `k` of an axis: ten thousand to the power `-k/16`. -/
def freq (k : ℕ) : EReal :=
  Ideal.pow (Ideal.ofBits .f32 0x461C4000#32) (Ideal.div (-(FloatOps.sitofp (F := Ideal) .f32 (BitVec.ofNat 32 k))) (Ideal.ofBits .f32 0x41800000#32))

/-- The angle by which token `s` turns lane `l`: by the image row on the first 32 lanes of a component, by the column on the others. -/
def angle (s l : ℕ) : EReal := FloatOps.sitofp (F := Ideal) .f32 (BitVec.ofNat 32 (if l % 64 < 32 then s / 64 else s % 64)) * freq (l % 16)

/-- The lanes 16 on and 16 back, around the head. -/
def on16 (l : Fin 128) : Fin 128 := ⟨(l.val + 16) % 128, Nat.mod_lt _ (by decide)⟩
def back16 (l : Fin 128) : Fin 128 := ⟨(l.val + 112) % 128, Nat.mod_lt _ (by decide)⟩

/-- A head of token `s`, rotated. -/
def turn (z : Fin 128 → EReal) (s : ℕ) (l : Fin 128) : EReal :=
  if l.val % 32 < 16 then z l * Ideal.cos (angle s l.val) - z (on16 l) * Ideal.sin (angle s l.val)
  else z l * Ideal.cos (angle s l.val) + z (back16 l) * Ideal.sin (angle s l.val)

/-- The two forms of the rotation with a table that is zero on the other half. -/
theorem turn_low (a b d c s : EReal) : a * c + b * (0 - s) + d * 0 = a * c - b * s := by
  rw [mul_zero, add_zero, zero_sub, mul_neg, sub_eq_add_neg]
theorem turn_high (a b d c s : EReal) : a * c + b * 0 + d * s = a * c + d * s := by rw [mul_zero, add_zero]

section rows

variable (a0 : Shape.Idx ⟨2, ![32768, 1024]⟩ → EReal) (a1 : Shape.Idx ⟨2, ![4096, 1024]⟩ → EReal) (a2 : Shape.Idx ⟨3, ![24, 1, 9216]⟩ → EReal)
  (a3 : Shape.Idx ⟨3, ![1, 3, 1024]⟩ → EReal) (a4 : Shape.Idx ⟨3, ![1, 1024, 5632]⟩ → EReal)

/-- The normed row of latent token `s` of sequence `b`, and of a context token. -/
def latH (b : Fin 16) (s : Fin 2048) : Fin 1024 → EReal :=
  nrm (fun q => a0 (ix2 ⟨b.val * 2048 + s.val, by omega⟩ q)) (fun q => a3 (ix3 0 1 q)) (fun q => a2 (ix3 ⟨b.val, by omega⟩ 0 ⟨3072 + q.val, by omega⟩))
    (fun q => a2 (ix3 ⟨b.val, by omega⟩ 0 ⟨4096 + q.val, by omega⟩))
def ctxH (b : Fin 16) (s : Fin 256) : Fin 1024 → EReal :=
  nrm (fun q => a1 (ix2 ⟨b.val * 256 + s.val, by omega⟩ q)) (fun q => a3 (ix3 0 1 q)) (fun q => a2 (ix3 16 0 ⟨3072 + q.val, by omega⟩))
    (fun q => a2 (ix3 16 0 ⟨4096 + q.val, by omega⟩))

/-- A row's product with column `j` of the weights. -/
def prj (h : Fin 1024 → EReal) (j : Fin 5632) : EReal := ∑ k, h k * a4 (ix3 0 k j)

def latQ (b : Fin 16) (h : Fin 8) (s : Fin 2048) (l : Fin 128) : EReal :=
  turn (fun l => prj a4 (latH a0 a2 a3 b s) ⟨128 * h.val + l.val, by omega⟩) s.val l * Ideal.ofBits .f32 0x3E38AA3B#32
def latK (b : Fin 16) (h : Fin 8) (s : Fin 2048) (l : Fin 128) : EReal :=
  turn (fun l => prj a4 (latH a0 a2 a3 b s) ⟨1024 + (128 * h.val + l.val), by omega⟩) s.val l
def latV (b : Fin 16) (h : Fin 8) (s : Fin 2048) (l : Fin 128) : EReal := prj a4 (latH a0 a2 a3 b s) ⟨2048 + (128 * h.val + l.val), by omega⟩
def latU (b : Fin 16) (s : Fin 2048) (c : Fin 512) : EReal := prj a4 (latH a0 a2 a3 b s) ⟨3072 + c.val, by omega⟩
def latSg (b : Fin 16) (s : Fin 2048) (c : Fin 2048) : EReal := Ideal.logistic (prj a4 (latH a0 a2 a3 b s) ⟨3584 + c.val, by omega⟩)
def ctxK (b : Fin 16) (h : Fin 8) (s : Fin 256) (l : Fin 128) : EReal := prj a4 (ctxH a1 a2 a3 b s) ⟨1024 + (128 * h.val + l.val), by omega⟩
def ctxV (b : Fin 16) (h : Fin 8) (s : Fin 256) (l : Fin 128) : EReal := prj a4 (ctxH a1 a2 a3 b s) ⟨2048 + (128 * h.val + l.val), by omega⟩

end rows

end Cert.Rows

end

end
-- ==== Proof.MixValue.lean ====
/- What the projections' body stores at a point, read at an element. -/
module

public import proofs.«01_k».proof.Proof.MixCompRun
public import proofs.«01_k».proof.Proof.MixSpec

@[expose] public section

set_option maxRecDepth 16384

noncomputable section

namespace Cert.Kernel3Ideal.Mix

open Idealize.ShloMosaic Cert.Kernel3Ideal.Gen Cert.Rows

/-- The only row of a 1×1×1024 block. -/
abbrev row1 (x : Vec Ideal S1x1x1024 .f32) : Fin 1024 → EReal := fun k => x (ix3 0 0 k)

section rows

variable (x0 : Vec Ideal S1024x1024 .f32) (x1 : Vec Ideal S128x1024 .f32) (x2 x3 x4 x5 x6 : Vec Ideal S1x1x1024 .f32)

/-- The normed rows of the block. -/
def blkH (r : Fin 1024) : Fin 1024 → EReal := nrm (fun q => x0 (ix2 r q)) (row1 x6) (row1 x2) (row1 x3)
def blkC (r : Fin 128) : Fin 1024 → EReal := nrm (fun q => x1 (ix2 r q)) (row1 x6) (row1 x4) (row1 x5)

theorem hT_apply (r : Fin 512) (k : Fin 1024) : hT x0 x2 x3 x6 (ix2 r k) = blkH x0 x2 x3 x6 ⟨r.val, by omega⟩ k := by
  unfold hT k0_pay162
  pointwise []
  unfold blkH nrm
  simp only [Nat.zero_add]

theorem hB_apply (r : Fin 512) (k : Fin 1024) : hB x0 x2 x3 x6 (ix2 r k) = blkH x0 x2 x3 x6 ⟨512 + r.val, by omega⟩ k := by
  unfold hB k0_pay162
  pointwise []
  unfold blkH nrm
  simp only [Nat.zero_add]

theorem hC_apply (r : Fin 640) (k : Fin 1024) : hC x0 x1 x2 x3 x4 x5 x6 (ix2 r k)
    = if h : r.val < 512 then blkH x0 x2 x3 x6 ⟨512 + r.val, by omega⟩ k else blkC x1 x4 x5 x6 ⟨r.val - 512, by omega⟩ k := by
  unfold hC k0_pay167 k0_pay166
  pointwise [hB_apply]
  unfold blkC nrm
  simp only [Nat.zero_add]

end rows

variable (w : Vec Ideal S1024x5632 .bf16)

/-- A row's product with column `j` of the scratch weights. -/
def sprj (h : Fin 1024 → EReal) (j : Fin 5632) : EReal := ∑ k, h k * w (ix2 k j)

theorem z512 (h : FVec Ideal S512x1024 .bf16) (o : ℕ) (ho : o + 1024 ≤ 5632) (inb) (r : Fin 512) (q : Fin 1024) :
    k0_pay168 h (View.ld w (Rect.unit ![0, o] S1024x1024.size inb)) (ix2 r q) = sprj w (fun k => h (ix2 r k)) ⟨o + q.val, by omega⟩ := by
  unfold k0_pay168
  pointwise []
  rfl
theorem z640 (h : FVec Ideal S640x1024 .bf16) (o : ℕ) (ho : o + 1024 ≤ 5632) (inb) (r : Fin 640) (q : Fin 1024) :
    k0_pay207 h (View.ld w (Rect.unit ![0, o] S1024x1024.size inb)) (ix2 r q) = sprj w (fun k => h (ix2 r k)) ⟨o + q.val, by omega⟩ := by
  unfold k0_pay207
  pointwise []
  rfl
theorem zv512 (h : FVec Ideal S512x1024 .bf16) (o : ℕ) (ho : o + 1024 ≤ 5632) (inb) (r : Fin 512) (q : Fin 1024) :
    k0_pay234 h (View.ld w (Rect.unit ![0, o] S1024x1024.size inb)) (ix2 r q) = sprj w (fun k => h (ix2 r k)) ⟨o + q.val, by omega⟩ := by
  unfold k0_pay234
  pointwise []
  rfl
theorem zv640 (h : FVec Ideal S640x1024 .bf16) (o : ℕ) (ho : o + 1024 ≤ 5632) (inb) (r : Fin 640) (q : Fin 1024) :
    k0_pay245 h (View.ld w (Rect.unit ![0, o] S1024x1024.size inb)) (ix2 r q) = sprj w (fun k => h (ix2 r k)) ⟨o + q.val, by omega⟩ := by
  unfold k0_pay245
  pointwise []
  rfl
theorem zvTop (h : FVec Ideal S640x1024 .bf16) (o : ℕ) (ho : o + 1024 ≤ 5632) (inb) (r : Fin 512) (q : Fin 1024) :
    k0_pay246 h (View.ld w (Rect.unit ![0, o] S1024x1024.size inb)) (ix2 r q) = sprj w (fun k => h (ix2 ⟨r.val, by omega⟩ k)) ⟨o + q.val, by omega⟩ := by
  unfold k0_pay246
  pointwise []
  exact zv640 w h o ho inb _ _
theorem zkCtx (z : FVec Ideal S640x1024 .f32) (r : Fin 128) (q : Fin 1024) : k0_pay224 z (ix2 r q) = z (ix2 ⟨512 + r.val, by omega⟩ q) := by
  unfold k0_pay224
  pointwise []
theorem zvCtx (z : FVec Ideal S640x1024 .bf16) (r : Fin 128) (q : Fin 1024) : k0_pay256 z (ix2 r q) = z (ix2 ⟨512 + r.val, by omega⟩ q) := by
  unfold k0_pay256
  pointwise []
theorem zu (h : FVec Ideal S512x1024 .bf16) (r : Fin 512) (q : Fin 512) :
    k0_pay266 h (View.ld w (Rect.unit ![0, 3072] S1024x512.size inb_S1024x5632_S1024x512_0_3072)) (ix2 r q) = sprj w (fun k => h (ix2 r k)) ⟨3072 + q.val, by omega⟩ := by
  unfold k0_pay266
  pointwise []
  rfl
theorem zg (h : FVec Ideal S512x1024 .bf16) (r : Fin 512) (q : Fin 2048) :
    k0_pay1 (k0_pay268 h (View.ld w (Rect.unit ![0, 3584] S1024x2048.size inb_S1024x5632_S1024x2048_0_3584))) (ix2 r q)
      = Ideal.logistic (sprj w (fun k => h (ix2 r k)) ⟨3584 + q.val, by omega⟩) := by
  unfold k0_pay1 k0_pay268
  pointwise []
  rw [← sigmoid_tanh]
  rfl

/-! The three tables. -/

theorem onRow_at (a : Fin 64) (l : Fin 128) : onRow (ix2 a l) = if l.val % 64 < 32 then 1#1 else 0#1 := by
  unfold onRow k0_pay11
  pointwise []
  revert l; decide +kernel
theorem lowHalf_at (a : Fin 64) (l : Fin 128) : lowHalf (ix2 a l) = if l.val % 32 < 16 then 1#1 else 0#1 := by
  unfold lowHalf k0_pay12
  pointwise []
  revert l; decide +kernel

section tables

variable (v : Vec Ideal S1x128 .f32) (hv : ∀ l : Fin 128, v (ix2 0 l) = freq (l.val % 16))
include hv

theorem col_at (a : Fin 64) (l : Fin 128) : k0_pay14 v (ix2 a l) = FloatOps.sitofp (F := Ideal) .f32 (BitVec.ofNat 32 a.val) * freq (l.val % 16) := by
  unfold k0_pay14 k0_pay13
  pointwise [hv]
theorem row_at (a : Fin 32) (l : Fin 128) : k0_pay15 v (ix2 a l) = FloatOps.sitofp (F := Ideal) .f32 (BitVec.ofNat 32 a.val) * freq (l.val % 16) := by
  unfold k0_pay15 k0_pay13
  pointwise [hv]

theorem cosTab_at (s : Fin 2048) (l : Fin 128) : cosT v (ix2 s l) = Ideal.cos (angle s.val l.val) := by
  show Scalar.select (onRow (ix2 ⟨s.val % 64, by omega⟩ l)) (Ideal.cos (k0_pay15 v (ix2 ⟨s.val / 64, by omega⟩ l))) (Ideal.cos (k0_pay14 v (ix2 ⟨s.val % 64, by omega⟩ l))) = _
  rw [onRow_at, col_at v hv, row_at v hv]
  unfold angle
  by_cases h : l.val % 64 < 32
  · rw [if_pos h, if_pos h]; rfl
  · rw [if_neg h, if_neg h]; rfl
theorem sinTab_at (s : Fin 2048) (l : Fin 128) : tab (k0_pay19 v) (k0_pay17 v) (ix2 s l) = Ideal.sin (angle s.val l.val) := by
  show Scalar.select (onRow (ix2 ⟨s.val % 64, by omega⟩ l)) (Ideal.sin (k0_pay15 v (ix2 ⟨s.val / 64, by omega⟩ l))) (Ideal.sin (k0_pay14 v (ix2 ⟨s.val % 64, by omega⟩ l))) = _
  rw [onRow_at, col_at v hv, row_at v hv]
  unfold angle
  by_cases h : l.val % 64 < 32
  · rw [if_pos h, if_pos h]; rfl
  · rw [if_neg h, if_neg h]; rfl
theorem sloTab_at (s : Fin 2048) (l : Fin 128) : sloT v (ix2 s l) = if l.val % 32 < 16 then 0 - Ideal.sin (angle s.val l.val) else 0 := by
  show Scalar.select (lowHalf (ix2 ⟨s.val % 64, by omega⟩ l)) (Ideal.ofBits .f32 0x00000000#32 - tab (k0_pay19 v) (k0_pay17 v) (ix2 s l)) (Ideal.ofBits .f32 0x00000000#32) = _
  rw [lowHalf_at, sinTab_at v hv, show Ideal.ofBits .f32 0x00000000#32 = 0 from Ideal.ofBits_zero .f32]
  by_cases h : l.val % 32 < 16
  · rw [if_pos h, if_pos h]; rfl
  · rw [if_neg h, if_neg h]; rfl
theorem shiTab_at (s : Fin 2048) (l : Fin 128) : shiT v (ix2 s l) = if l.val % 32 < 16 then 0 else Ideal.sin (angle s.val l.val) := by
  show Scalar.select (lowHalf (ix2 ⟨s.val % 64, by omega⟩ l)) (Ideal.ofBits .f32 0x00000000#32) (tab (k0_pay19 v) (k0_pay17 v) (ix2 s l)) = _
  rw [lowHalf_at, sinTab_at v hv, show Ideal.ofBits .f32 0x00000000#32 = 0 from Ideal.ofBits_zero .f32]
  by_cases h : l.val % 32 < 16
  · rw [if_pos h, if_pos h]; rfl
  · rw [if_neg h, if_neg h]; rfl

/-- The body's rotation with the tables' rows of token `s` is the rotation of token `s`. -/
theorem rope1_turn (z : Fin 128 → EReal) (s : Fin 2048) (c t u : Fin 128 → EReal) (hc : ∀ l, c l = cosT v (ix2 s l)) (ht : ∀ l, t l = sloT v (ix2 s l)) (hu : ∀ l, u l = shiT v (ix2 s l))
    (l : Fin 128) : rope1 (F := Ideal) z c t u l = turn z s.val l := by
  show z l * c l + z (on16 l) * t l + z (back16 l) * u l = _
  rw [hc, ht, hu, cosTab_at v hv, sloTab_at v hv, shiTab_at v hv]
  unfold turn
  by_cases h : l.val % 32 < 16
  · rw [if_pos h, if_pos h, if_pos h]; exact turn_low _ _ _ _ _
  · rw [if_neg h, if_neg h, if_neg h]; exact turn_high _ _ _ _ _

theorem kOne_turn (z : Fin 128 → EReal) (s : Fin 2048) (c t u : Fin 128 → EReal) (hc : ∀ l, c l = cosT v (ix2 s l)) (ht : ∀ l, t l = sloT v (ix2 s l)) (hu : ∀ l, u l = shiT v (ix2 s l))
    (l : Fin 128) : kOne (F := Ideal) z c t u l = turn z s.val l := rope1_turn v hv z s c t u hc ht hu l
theorem qOne_turn (z : Fin 128 → EReal) (s : Fin 2048) (c t u : Fin 128 → EReal) (hc : ∀ l, c l = cosT v (ix2 s l)) (ht : ∀ l, t l = sloT v (ix2 s l)) (hu : ∀ l, u l = shiT v (ix2 s l))
    (l : Fin 128) : qOne (F := Ideal) z c t u l = turn z s.val l * Ideal.ofBits .f32 0x3E38AA3B#32 := congrArg (· * Ideal.ofBits .f32 0x3E38AA3B#32) (rope1_turn v hv z s c t u hc ht hu l)

end tables

/-- The rows of a table that a point reads. -/
theorem ld_tab (T : Vec Ideal S2048x128 .f32) (off : Fin 2 → ℕ) (inb) (o : ℕ) (ho : off = ![o, 0]) (r : Fin 512) (l : Fin 128) (s : Fin 2048) (hs : s.val = o + r.val) :
    View.ld T (Rect.unit off S512x128.size inb) (ix2 r l) = T (ix2 s l) := by
  subst ho
  refine congrArg T (funext fun a => Fin.ext ?_)
  match a with
  | ⟨0, _⟩ => show o + 1 * r.val = s.val; omega
  | ⟨1, _⟩ => show 0 + 1 * l.val = l.val; omega

/-! The seven blocks stored, at an element. -/

section out

variable (i : grid0.Coords) (x0 : Vec Ideal S1024x1024 .f32) (x1 : Vec Ideal S128x1024 .f32) (x2 x3 x4 x5 x6 : Vec Ideal S1x1x1024 .f32)

theorem zqT (o : ℕ) (ho : o + 1024 ≤ 5632) (inb) (r : Fin 512) (q : Fin 1024) :
    k0_pay168 (hT x0 x2 x3 x6) (View.ld w (Rect.unit ![0, o] S1024x1024.size inb)) (ix2 r q) = sprj w (blkH x0 x2 x3 x6 ⟨r.val, by omega⟩) ⟨o + q.val, by omega⟩ :=
  (z512 w _ o ho inb _ _).trans (congrArg (fun f => sprj w f _) (funext fun k => hT_apply x0 x2 x3 x6 r k))
theorem zqB (o : ℕ) (ho : o + 1024 ≤ 5632) (inb) (r : Fin 512) (q : Fin 1024) :
    k0_pay168 (hB x0 x2 x3 x6) (View.ld w (Rect.unit ![0, o] S1024x1024.size inb)) (ix2 r q) = sprj w (blkH x0 x2 x3 x6 ⟨512 + r.val, by omega⟩) ⟨o + q.val, by omega⟩ :=
  (z512 w _ o ho inb _ _).trans (congrArg (fun f => sprj w f _) (funext fun k => hB_apply x0 x2 x3 x6 r k))
theorem zvT (o : ℕ) (ho : o + 1024 ≤ 5632) (inb) (r : Fin 512) (q : Fin 1024) :
    k0_pay234 (hT x0 x2 x3 x6) (View.ld w (Rect.unit ![0, o] S1024x1024.size inb)) (ix2 r q) = sprj w (blkH x0 x2 x3 x6 ⟨r.val, by omega⟩) ⟨o + q.val, by omega⟩ :=
  (zv512 w _ o ho inb _ _).trans (congrArg (fun f => sprj w f _) (funext fun k => hT_apply x0 x2 x3 x6 r k))

/-- Of the second chain with the context below: its latent rows and its context rows. -/
theorem hC_lat (r : Fin 512) (k : Fin 1024) : hC x0 x1 x2 x3 x4 x5 x6 (ix2 ⟨r.val, by omega⟩ k) = blkH x0 x2 x3 x6 ⟨512 + r.val, by omega⟩ k := by
  rw [hC_apply]; exact dif_pos r.isLt
theorem hC_ctx (r : Fin 128) (k : Fin 1024) : hC x0 x1 x2 x3 x4 x5 x6 (ix2 ⟨512 + r.val, by omega⟩ k) = blkC x1 x4 x5 x6 r k := by
  rw [hC_apply, dif_neg (show ¬ 512 + r.val < 512 by omega)]
  exact congrArg (fun r => blkC x1 x4 x5 x6 r k) (Fin.ext (by show 512 + r.val - 512 = r.val; omega))

theorem zkB (o : ℕ) (ho : o + 1024 ≤ 5632) (inb) (r : Fin 512) (q : Fin 1024) :
    k0_pay207 (hC x0 x1 x2 x3 x4 x5 x6) (View.ld w (Rect.unit ![0, o] S1024x1024.size inb)) (ix2 ⟨r.val, by omega⟩ q) = sprj w (blkH x0 x2 x3 x6 ⟨512 + r.val, by omega⟩) ⟨o + q.val, by omega⟩ :=
  (z640 w _ o ho inb _ _).trans (congrArg (fun f => sprj w f _) (funext fun k => hC_lat x0 x1 x2 x3 x4 x5 x6 r k))
theorem zvB (o : ℕ) (ho : o + 1024 ≤ 5632) (inb) (r : Fin 512) (q : Fin 1024) :
    k0_pay246 (hC x0 x1 x2 x3 x4 x5 x6) (View.ld w (Rect.unit ![0, o] S1024x1024.size inb)) (ix2 r q) = sprj w (blkH x0 x2 x3 x6 ⟨512 + r.val, by omega⟩) ⟨o + q.val, by omega⟩ :=
  (zvTop w _ o ho inb _ _).trans (congrArg (fun f => sprj w f _) (funext fun k => hC_lat x0 x1 x2 x3 x4 x5 x6 r k))

theorem kcOut_apply (h : Fin 8) (r l : Fin 128) : kcOut x0 x1 x2 x3 x4 x5 x6 w (ix4 0 h r l) = sprj w (blkC x1 x4 x5 x6 r) ⟨1024 + (128 * h.val + l.val), by omega⟩ :=
  (zkCtx _ r (col h l)).trans ((z640 w _ 1024 (by norm_num) _ _ _).trans (congrArg (fun f => sprj w f _) (funext fun k => hC_ctx x0 x1 x2 x3 x4 x5 x6 r k)))
theorem vcOut_apply (h : Fin 8) (r l : Fin 128) : vcOut x0 x1 x2 x3 x4 x5 x6 w (ix4 0 h r l) = sprj w (blkC x1 x4 x5 x6 r) ⟨2048 + (128 * h.val + l.val), by omega⟩ :=
  (zvCtx _ r (col h l)).trans ((zv640 w _ 2048 (by norm_num) _ _ _).trans (congrArg (fun f => sprj w f _) (funext fun k => hC_ctx x0 x1 x2 x3 x4 x5 x6 r k)))

theorem below (r : Fin 1024) (h : ¬ r.val < 512) : (⟨512 + (r.val - 512), by omega⟩ : Fin 1024) = r := Fin.ext (by show 512 + (r.val - 512) = r.val; omega)

theorem vOut_apply (hd : Fin 8) (r : Fin 1024) (l : Fin 128) : vOut x0 x1 x2 x3 x4 x5 x6 w (ix4 0 hd r l) = sprj w (blkH x0 x2 x3 x6 r) ⟨2048 + (128 * hd.val + l.val), by omega⟩ := by
  unfold vOut vS
  by_cases h : r.val < 512
  · refine (pick_top (r := r) _ _ ⟨r.val, h⟩ (Nat.zero_add _).symm).trans ?_
    exact zvT w x0 x2 x3 x6 2048 (by norm_num) _ ⟨r.val, h⟩ (col hd l)
  · refine (pick_bot (r := r) _ _ ⟨r.val - 512, by omega⟩ (by show r.val = 512 + (r.val - 512); omega)).trans ?_
    refine Eq.trans (zvB w x0 x1 x2 x3 x4 x5 x6 2048 (by norm_num) _ ⟨r.val - 512, by omega⟩ (col hd l)) ?_
    rw [below r h]
    rfl
theorem uOut_apply (r : Fin 1024) (q : Fin 512) : uOut x0 x2 x3 x6 w (ix2 r q) = sprj w (blkH x0 x2 x3 x6 r) ⟨3072 + q.val, by omega⟩ := by
  unfold uOut uS
  by_cases h : r.val < 512
  · refine (pick_top (r := r) _ _ ⟨r.val, h⟩ (Nat.zero_add _).symm).trans ?_
    exact (zu w _ ⟨r.val, h⟩ q).trans (congrArg (fun f => sprj w f _) (funext fun k => hT_apply x0 x2 x3 x6 _ k))
  · refine (pick_bot (r := r) _ _ ⟨r.val - 512, by omega⟩ (by show r.val = 512 + (r.val - 512); omega)).trans ?_
    refine Eq.trans ((zu w _ ⟨r.val - 512, by omega⟩ q).trans (congrArg (fun f => sprj w f _) (funext fun k => hB_apply x0 x2 x3 x6 _ k))) ?_
    rw [below r h]
theorem sgOut_apply (r : Fin 1024) (q : Fin 2048) : sgOut x0 x2 x3 x6 w (ix2 r q) = Ideal.logistic (sprj w (blkH x0 x2 x3 x6 r) ⟨3584 + q.val, by omega⟩) := by
  unfold sgOut sgS
  by_cases h : r.val < 512
  · refine (pick_top (r := r) _ _ ⟨r.val, h⟩ (Nat.zero_add _).symm).trans ?_
    exact (zg w _ ⟨r.val, h⟩ q).trans (congrArg (fun f => Ideal.logistic (sprj w f _)) (funext fun k => hT_apply x0 x2 x3 x6 _ k))
  · refine (pick_bot (r := r) _ _ ⟨r.val - 512, by omega⟩ (by show r.val = 512 + (r.val - 512); omega)).trans ?_
    refine Eq.trans ((zg w _ ⟨r.val - 512, by omega⟩ q).trans (congrArg (fun f => Ideal.logistic (sprj w f _)) (funext fun k => hB_apply x0 x2 x3 x6 _ k))) ?_
    rw [below r h]

theorem sprj0 (f : Fin 1024 → EReal) (hd : Fin 8) (l : Fin 128) : sprj w f ⟨0 + (col hd l).val, by omega⟩ = sprj w f ⟨128 * hd.val + l.val, by omega⟩ :=
  congrArg (sprj w f) (Fin.ext (Nat.zero_add _))

variable (v : Vec Ideal S1x128 .f32) (hv : ∀ l : Fin 128, v (ix2 0 l) = freq (l.val % 16)) (o : ℕ) (h0 : k0_off1 i 0#32 = ![o, 0]) (h1 : k0_off1 i 512#32 = ![o + 512, 0])
include hv h0 h1

theorem qOut_apply (hd : Fin 8) (r : Fin 1024) (l : Fin 128) (s : Fin 2048) (hs : s.val = o + r.val) :
    qOut i (cosT v) (sloT v) (shiT v) x0 x2 x3 x6 w (ix4 0 hd r l) = turn (fun l => sprj w (blkH x0 x2 x3 x6 r) ⟨128 * hd.val + l.val, by omega⟩) s.val l * Ideal.ofBits .f32 0x3E38AA3B#32 := by
  unfold qOut qS
  by_cases h : r.val < 512
  · refine (pick_top (r := r) _ _ ⟨r.val, h⟩ (Nat.zero_add _).symm).trans ?_
    refine (qOne_turn v hv _ s _ _ _ (fun l => ld_tab (cosT v) _ _ o h0 ⟨r.val, h⟩ l s (hs)) (fun l => ld_tab (sloT v) _ _ o h0 ⟨r.val, h⟩ l s (hs)) (fun l => ld_tab (shiT v) _ _ o h0 ⟨r.val, h⟩ l s (hs)) l).trans ?_
    exact congrArg (fun z => turn z s.val l * Ideal.ofBits .f32 0x3E38AA3B#32) (funext fun l => (zqT w x0 x2 x3 x6 0 (by norm_num) _ ⟨r.val, h⟩ (col hd l)).trans (sprj0 w _ hd l))
  · refine (pick_bot (r := r) _ _ ⟨r.val - 512, by omega⟩ (by show r.val = 512 + (r.val - 512); omega)).trans ?_
    refine (qOne_turn v hv _ s _ _ _ (fun l => ld_tab (cosT v) _ _ (o + 512) h1 ⟨r.val - 512, by omega⟩ l s (by show s.val = o + 512 + (r.val - 512); omega)) (fun l => ld_tab (sloT v) _ _ (o + 512) h1 ⟨r.val - 512, by omega⟩ l s (by show s.val = o + 512 + (r.val - 512); omega)) (fun l => ld_tab (shiT v) _ _ (o + 512) h1 ⟨r.val - 512, by omega⟩ l s (by show s.val = o + 512 + (r.val - 512); omega)) l).trans ?_
    refine Eq.trans (congrArg (fun z => turn z s.val l * Ideal.ofBits .f32 0x3E38AA3B#32) (funext fun l => (zqB w x0 x2 x3 x6 0 (by norm_num) _ ⟨r.val - 512, by omega⟩ (col hd l)).trans (sprj0 w _ hd l))) ?_
    rw [below r h]
theorem kOut_apply (hd : Fin 8) (r : Fin 1024) (l : Fin 128) (s : Fin 2048) (hs : s.val = o + r.val) :
    kOut i (cosT v) (sloT v) (shiT v) x0 x1 x2 x3 x4 x5 x6 w (ix4 0 hd r l) = turn (fun l => sprj w (blkH x0 x2 x3 x6 r) ⟨1024 + (128 * hd.val + l.val), by omega⟩) s.val l := by
  unfold kOut kS
  by_cases h : r.val < 512
  · refine (pick_top (r := r) _ _ ⟨r.val, h⟩ (Nat.zero_add _).symm).trans ?_
    refine (kOne_turn v hv _ s _ _ _ (fun l => ld_tab (cosT v) _ _ o h0 ⟨r.val, h⟩ l s (hs)) (fun l => ld_tab (sloT v) _ _ o h0 ⟨r.val, h⟩ l s (hs)) (fun l => ld_tab (shiT v) _ _ o h0 ⟨r.val, h⟩ l s (hs)) l).trans ?_
    exact congrArg (fun z => turn z s.val l) (funext fun l => zqT w x0 x2 x3 x6 1024 (by norm_num) _ ⟨r.val, h⟩ (col hd l))
  · refine (pick_bot (r := r) _ _ ⟨r.val - 512, by omega⟩ (by show r.val = 512 + (r.val - 512); omega)).trans ?_
    refine (kOne_turn v hv _ s _ _ _ (fun l => ld_tab (cosT v) _ _ (o + 512) h1 ⟨r.val - 512, by omega⟩ l s (by show s.val = o + 512 + (r.val - 512); omega)) (fun l => ld_tab (sloT v) _ _ (o + 512) h1 ⟨r.val - 512, by omega⟩ l s (by show s.val = o + 512 + (r.val - 512); omega)) (fun l => ld_tab (shiT v) _ _ (o + 512) h1 ⟨r.val - 512, by omega⟩ l s (by show s.val = o + 512 + (r.val - 512); omega)) l).trans ?_
    refine Eq.trans (congrArg (fun z => turn z s.val l) (funext fun l => zkB w x0 x1 x2 x3 x4 x5 x6 1024 (by norm_num) _ ⟨r.val - 512, by omega⟩ (col hd l))) ?_
    rw [below r h]
    rfl

end out

end Cert.Kernel3Ideal.Mix

end
-- ==== Proof.MixFinal.lean ====
/- What the seven arrays of the call before the mixer hold at the end. -/
module

public import proofs.«01_k».proof.Proof.MixRun
public import proofs.«01_k».proof.Proof.MixValue
public import Idealize.ShloMosaic.Lib.Pipeline.ValueKit

@[expose] public section

set_option maxRecDepth 16384

noncomputable section

namespace Cert.Kernel3Ideal.Mix

open Idealize.ShloMosaic Idealize.ShloMosaic.TcCoe Idealize.SL.Sem Cert.Kernel3Ideal.Gen Cert.Rows

variable (m : (ℓ : Loc nD τ sig) → Buf (Elt Ideal) ℓ)

/-- Which block each window stages at a point. -/
theorem idx_facts : ∀ t : Fin grid0.N, win0_0.index t = ![t.val, 0] ∧ win0_1.index t = ![t.val, 0] ∧ win0_2.index t = ![t.val / 2, 0, 3] ∧ win0_3.index t = ![t.val / 2, 0, 4]
    ∧ win0_4.index t = ![16, 0, 3] ∧ win0_5.index t = ![16, 0, 4] ∧ win0_6.index t = ![1, 0, 0] ∧ win0_7.index t = ![0, 0] := by decide +kernel
theorem idx_out : ∀ t : Fin grid0.N, win0_8.index t = ![t.val / 2, 0, t.val % 2, 0] ∧ win0_9.index t = ![t.val / 2, 0, t.val % 2, 0] ∧ win0_10.index t = ![t.val / 2, 0, t.val % 2, 0]
    ∧ win0_11.index t = ![t.val, 0] ∧ win0_12.index t = ![t.val, 0] ∧ win0_13.index t = ![t.val / 2, 0, t.val % 2, 0] ∧ win0_14.index t = ![t.val / 2, 0, t.val % 2, 0] := by decide +kernel
/-- Where the rows of the tables start at a point. -/
theorem off_top : ∀ t : Fin grid0.N, k0_off1 (grid0.coords t) 0#32 = ![t.val % 2 * 1024, 0] := by decide +kernel
theorem off_bot : ∀ t : Fin grid0.N, k0_off1 (grid0.coords t) 512#32 = ![t.val % 2 * 1024 + 512, 0] := by decide +kernel

theorem t_lt (t : Fin cfg0.N) : t.val < 32 := Nat.lt_of_lt_of_eq t.isLt N_0

/-- The sequence that point `t` works on, and the tokens its rows are. -/
abbrev sq (t : Fin cfg0.N) : Fin 16 := ⟨t.val / 2, by have := t_lt t; omega⟩
abbrev row (t : Fin cfg0.N) (r : Fin 1024) : Fin 2048 := ⟨t.val % 2 * 1024 + r.val, by omega⟩
abbrev crow (t : Fin cfg0.N) (r : Fin 128) : Fin 256 := ⟨t.val % 2 * 128 + r.val, by omega⟩

/-! The host's arrays, read. -/

theorem V_v1 (c : Dev nD) : V m c main_v1 = shapeCast S3x1x1024 (shapeCast S3x1024 (m ((c.tc : Thread nD τ).loc main_arg3)) shapeCasts_S1x3x1024_S3x1024) shapeCasts_S3x1024_S3x1x1024 := by
  unfold V; after_results_simp; rfl

/-- The three norm gains, one in a block of its own. -/
theorem cast_gain (X : FVec Ideal S1x3x1024 .f32) (q : Fin 1024) :
    shapeCast S3x1x1024 (shapeCast S3x1024 X shapeCasts_S1x3x1024_S3x1024) shapeCasts_S3x1024_S3x1x1024 (ix3 1 0 q) = X (ix3 0 1 q) := by
  pointwise []

/-- The sixteen frequencies, and the row that repeats them eight times. -/
def f16 : FVec Ideal S16 .f32 :=
  Host.powf (broadcastInDim S16 ![] bcast_S_S16 (constant S_ .f32 0x461C4000#32 : FVec Ideal S_ .f32))
    (Host.divf (Host.negf (sitofp .f32 (iotaInDim S16 32 0))) (broadcastInDim S16 ![] bcast_S_S16 (constant S_ .f32 0x41800000#32 : FVec Ideal S_ .f32)))
def f128 : FVec Ideal S1x128 .f32 :=
  shapeCast S1x128 (shapeCast S128 (broadcastInDim S8x16 ![0, 1] bcast_S1x16_S8x16_0_1 (shapeCast S1x16 f16 shapeCasts_S16_S1x16)) shapeCasts_S8x16_S128) shapeCasts_S128_S1x128

theorem V_v11 (c : Dev nD) : V m c main_v11 = f128 := by
  unfold V; after_results_simp; rfl

theorem f16_apply (k : Fin 16) : f16 (ix1 k) = freq k.val := rfl

theorem f128_apply (l : Fin 128) : f128 (ix2 0 l) = freq (l.val % 16) := by
  unfold f128
  pointwise []
  refine Eq.trans ?_ (f16_apply ⟨l.val % 16, by omega⟩)
  congr 1

/-! The blocks, read at an element of the arguments. -/

theorem blk0 (c : Dev nD) (t : Fin cfg0.N) (r q : Fin 1024) :
    iblk m c 0 t (ix2 r q) = m ((c.tc : Thread nD τ).loc main_arg0) (ix2 ⟨(sq t).val * 2048 + (row t r).val, by have := t_lt t; show t.val / 2 * 2048 + (t.val % 2 * 1024 + r.val) < 32768; omega⟩ q) := by
  have := t_lt t
  blk_ext [iblk, V, idx_facts t]
theorem blk1 (c : Dev nD) (t : Fin cfg0.N) (r : Fin 128) (q : Fin 1024) :
    iblk m c 1 t (ix2 r q) = m ((c.tc : Thread nD τ).loc main_arg1) (ix2 ⟨(sq t).val * 256 + (crow t r).val, by have := t_lt t; show t.val / 2 * 256 + (t.val % 2 * 128 + r.val) < 4096; omega⟩ q) := by
  have := t_lt t
  blk_ext [iblk, V, idx_facts t]
theorem blk2 (c : Dev nD) (t : Fin cfg0.N) (q : Fin 1024) :
    iblk m c 2 t (ix3 0 0 q) = m ((c.tc : Thread nD τ).loc main_arg2) (ix3 ⟨(sq t).val, by omega⟩ 0 ⟨3072 + q.val, by omega⟩) := by
  have := t_lt t
  blk_ext [iblk, V, idx_facts t]
theorem blk3 (c : Dev nD) (t : Fin cfg0.N) (q : Fin 1024) :
    iblk m c 3 t (ix3 0 0 q) = m ((c.tc : Thread nD τ).loc main_arg2) (ix3 ⟨(sq t).val, by omega⟩ 0 ⟨4096 + q.val, by omega⟩) := by
  have := t_lt t
  blk_ext [iblk, V, idx_facts t]
theorem blk4 (c : Dev nD) (t : Fin cfg0.N) (q : Fin 1024) :
    iblk m c 4 t (ix3 0 0 q) = m ((c.tc : Thread nD τ).loc main_arg2) (ix3 16 0 ⟨3072 + q.val, by omega⟩) := by
  blk_ext [iblk, V, idx_facts t]
theorem blk5 (c : Dev nD) (t : Fin cfg0.N) (q : Fin 1024) :
    iblk m c 5 t (ix3 0 0 q) = m ((c.tc : Thread nD τ).loc main_arg2) (ix3 16 0 ⟨4096 + q.val, by omega⟩) := by
  blk_ext [iblk, V, idx_facts t]
theorem blk6 (c : Dev nD) (t : Fin cfg0.N) (q : Fin 1024) :
    iblk m c 6 t (ix3 0 0 q) = m ((c.tc : Thread nD τ).loc main_arg3) (ix3 0 1 q) := by
  have h : iblk m c 6 t (ix3 0 0 q) = V m c main_v1 (ix3 1 0 q) := by blk_ext [iblk, idx_facts t]
  exact h.trans ((congrFun (V_v1 m c) _).trans (cast_gain _ _))

/-- The row of frequencies at a lane. -/
theorem frq_apply (c : Dev nD) (l : Fin 128) : frq m c (ix2 0 l) = freq (l.val % 16) := by
  have h : iblk m c 7 t0 (ix2 0 l) = V m c main_v11 (ix2 0 l) := by blk_ext [iblk, idx_facts t0]
  have e : frq m c (ix2 0 l) = iblk m c 7 t0 (ix2 0 l) := by
    unfold frq
    refine congrArg (iblk m c 7 t0) ?_
    funext a; apply Fin.ext
    match a with
    | ⟨0, _⟩ => rfl
    | ⟨1, _⟩ => show 0 + 1 * l.val = l.val; omega
  exact e.trans (h.trans ((congrFun (V_v11 m c) _).trans (f128_apply l)))

/-- The projection weights at an element. -/
theorem win_apply (f) (k : Fin 1024) (j : Fin 5632) : win (F := Ideal) f (ix2 k j) = f (ix3 0 k j) := by
  have h : winV.view.read (Elt Ideal) f = shapeCast S1024x5632 (((View.whole main_arg4).slice (Rect.unit ![0, 0, 0] S1x1024x5632.size inb_S1x1024x5632_S1x1024x5632_0_0_0)).read (Elt Ideal) f)
      (by decide) := rfl
  unfold win
  rw [h]
  pointwise []
  refine (View.read_apply _ _).trans (congrArg f ?_)
  funext a; apply Fin.ext
  match a with
  | ⟨0, _⟩ => rfl
  | ⟨1, _⟩ => show 0 + 1 * k.val = k.val; omega
  | ⟨2, _⟩ => show 0 + 1 * j.val = j.val; omega

theorem sprj_win (f) (h : Fin 1024 → EReal) (j : Fin 5632) : sprj (win (F := Ideal) f) h j = prj f h j :=
  Finset.sum_congr rfl fun k _ => congrArg (h k * ·) (win_apply f k j)

/-- The normed rows of a point. -/
theorem rows_lat (c : Dev nD) (t : Fin cfg0.N) (r : Fin 1024) :
    blkH (iblk m c 0 t) (iblk m c 2 t) (iblk m c 3 t) (iblk m c 6 t) r = latH (m ((c.tc : Thread nD τ).loc main_arg0)) (m ((c.tc : Thread nD τ).loc main_arg2)) (m ((c.tc : Thread nD τ).loc main_arg3)) (sq t) (row t r) := by
  unfold blkH latH row1
  simp only [blk0, blk2, blk3, blk6]
theorem rows_ctx (c : Dev nD) (t : Fin cfg0.N) (r : Fin 128) :
    blkC (iblk m c 1 t) (iblk m c 4 t) (iblk m c 5 t) (iblk m c 6 t) r = ctxH (m ((c.tc : Thread nD τ).loc main_arg1)) (m ((c.tc : Thread nD τ).loc main_arg2)) (m ((c.tc : Thread nD τ).loc main_arg3)) (sq t) (crow t r) := by
  unfold blkC ctxH row1
  simp only [blk1, blk4, blk5, blk6]

/-! The blocks of the results. -/

theorem resQ_apply (c : Dev nD) (t : Fin cfg0.N) (h : Fin 8) (r : Fin 1024) (l : Fin 128) : resQ m c t (ix4 0 h r l) = latQ (m ((c.tc : Thread nD τ).loc main_arg0)) (m ((c.tc : Thread nD τ).loc main_arg2)) (m ((c.tc : Thread nD τ).loc main_arg3)) (m ((c.tc : Thread nD τ).loc main_arg4)) (sq t) h (row t r) l := by
  unfold resQ
  rw [V_main_arg4]
  refine (qOut_apply _ _ _ _ _ _ _ (frq_apply m c) _ (off_top t) (off_bot t) h r l (row t r) rfl).trans ?_
  unfold latQ
  simp only [rows_lat, sprj_win]
theorem resQ_at (c : Dev nD) (t : Fin cfg0.N) (y : S1x8x1024x128.Idx) : resQ m c t y = latQ (m ((c.tc : Thread nD τ).loc main_arg0)) (m ((c.tc : Thread nD τ).loc main_arg2)) (m ((c.tc : Thread nD τ).loc main_arg3)) (m ((c.tc : Thread nD τ).loc main_arg4)) (sq t) (y 1) (row t (y 2)) (y 3) :=
  (congrArg (resQ m c t) (show y = ix4 0 (y 1) (y 2) (y 3) from by
    funext a
    match a with
    | ⟨0, _⟩ => exact Subsingleton.elim (α := Fin 1) _ _
    | ⟨1, _⟩ => rfl
    | ⟨2, _⟩ => rfl
    | ⟨3, _⟩ => rfl)).trans (resQ_apply m c t _ _ _)

theorem resK_apply (c : Dev nD) (t : Fin cfg0.N) (h : Fin 8) (r : Fin 1024) (l : Fin 128) : resK m c t (ix4 0 h r l) = latK (m ((c.tc : Thread nD τ).loc main_arg0)) (m ((c.tc : Thread nD τ).loc main_arg2)) (m ((c.tc : Thread nD τ).loc main_arg3)) (m ((c.tc : Thread nD τ).loc main_arg4)) (sq t) h (row t r) l := by
  unfold resK
  rw [V_main_arg4]
  refine (kOut_apply _ _ _ _ _ _ _ _ _ _ (frq_apply m c) _ (off_top t) (off_bot t) h r l (row t r) rfl).trans ?_
  unfold latK
  simp only [rows_lat, sprj_win]
theorem resK_at (c : Dev nD) (t : Fin cfg0.N) (y : S1x8x1024x128.Idx) : resK m c t y = latK (m ((c.tc : Thread nD τ).loc main_arg0)) (m ((c.tc : Thread nD τ).loc main_arg2)) (m ((c.tc : Thread nD τ).loc main_arg3)) (m ((c.tc : Thread nD τ).loc main_arg4)) (sq t) (y 1) (row t (y 2)) (y 3) :=
  (congrArg (resK m c t) (show y = ix4 0 (y 1) (y 2) (y 3) from by
    funext a
    match a with
    | ⟨0, _⟩ => exact Subsingleton.elim (α := Fin 1) _ _
    | ⟨1, _⟩ => rfl
    | ⟨2, _⟩ => rfl
    | ⟨3, _⟩ => rfl)).trans (resK_apply m c t _ _ _)

theorem resV_apply (c : Dev nD) (t : Fin cfg0.N) (h : Fin 8) (r : Fin 1024) (l : Fin 128) : resV m c t (ix4 0 h r l) = latV (m ((c.tc : Thread nD τ).loc main_arg0)) (m ((c.tc : Thread nD τ).loc main_arg2)) (m ((c.tc : Thread nD τ).loc main_arg3)) (m ((c.tc : Thread nD τ).loc main_arg4)) (sq t) h (row t r) l := by
  unfold resV
  rw [V_main_arg4]
  rw [vOut_apply]
  unfold latV
  simp only [rows_lat, sprj_win]
theorem resV_at (c : Dev nD) (t : Fin cfg0.N) (y : S1x8x1024x128.Idx) : resV m c t y = latV (m ((c.tc : Thread nD τ).loc main_arg0)) (m ((c.tc : Thread nD τ).loc main_arg2)) (m ((c.tc : Thread nD τ).loc main_arg3)) (m ((c.tc : Thread nD τ).loc main_arg4)) (sq t) (y 1) (row t (y 2)) (y 3) :=
  (congrArg (resV m c t) (show y = ix4 0 (y 1) (y 2) (y 3) from by
    funext a
    match a with
    | ⟨0, _⟩ => exact Subsingleton.elim (α := Fin 1) _ _
    | ⟨1, _⟩ => rfl
    | ⟨2, _⟩ => rfl
    | ⟨3, _⟩ => rfl)).trans (resV_apply m c t _ _ _)

theorem resU_apply (c : Dev nD) (t : Fin cfg0.N) (r : Fin 1024) (q : Fin 512) : resU m c t (ix2 r q) = latU (m ((c.tc : Thread nD τ).loc main_arg0)) (m ((c.tc : Thread nD τ).loc main_arg2)) (m ((c.tc : Thread nD τ).loc main_arg3)) (m ((c.tc : Thread nD τ).loc main_arg4)) (sq t) (row t r) q := by
  unfold resU
  rw [V_main_arg4]
  rw [uOut_apply]
  unfold latU
  simp only [rows_lat, sprj_win]

theorem resSg_apply (c : Dev nD) (t : Fin cfg0.N) (r : Fin 1024) (q : Fin 2048) : resSg m c t (ix2 r q) = latSg (m ((c.tc : Thread nD τ).loc main_arg0)) (m ((c.tc : Thread nD τ).loc main_arg2)) (m ((c.tc : Thread nD τ).loc main_arg3)) (m ((c.tc : Thread nD τ).loc main_arg4)) (sq t) (row t r) q := by
  unfold resSg
  rw [V_main_arg4]
  rw [sgOut_apply]
  unfold latSg
  simp only [rows_lat, sprj_win]

theorem resKc_apply (c : Dev nD) (t : Fin cfg0.N) (h : Fin 8) (r : Fin 128) (l : Fin 128) : resKc m c t (ix4 0 h r l) = ctxK (m ((c.tc : Thread nD τ).loc main_arg1)) (m ((c.tc : Thread nD τ).loc main_arg2)) (m ((c.tc : Thread nD τ).loc main_arg3)) (m ((c.tc : Thread nD τ).loc main_arg4)) (sq t) h (crow t r) l := by
  unfold resKc
  rw [V_main_arg4]
  rw [kcOut_apply]
  unfold ctxK
  simp only [rows_ctx, sprj_win]
theorem resKc_at (c : Dev nD) (t : Fin cfg0.N) (y : S1x8x128x128.Idx) : resKc m c t y = ctxK (m ((c.tc : Thread nD τ).loc main_arg1)) (m ((c.tc : Thread nD τ).loc main_arg2)) (m ((c.tc : Thread nD τ).loc main_arg3)) (m ((c.tc : Thread nD τ).loc main_arg4)) (sq t) (y 1) (crow t (y 2)) (y 3) :=
  (congrArg (resKc m c t) (show y = ix4 0 (y 1) (y 2) (y 3) from by
    funext a
    match a with
    | ⟨0, _⟩ => exact Subsingleton.elim (α := Fin 1) _ _
    | ⟨1, _⟩ => rfl
    | ⟨2, _⟩ => rfl
    | ⟨3, _⟩ => rfl)).trans (resKc_apply m c t _ _ _)

theorem resVc_apply (c : Dev nD) (t : Fin cfg0.N) (h : Fin 8) (r : Fin 128) (l : Fin 128) : resVc m c t (ix4 0 h r l) = ctxV (m ((c.tc : Thread nD τ).loc main_arg1)) (m ((c.tc : Thread nD τ).loc main_arg2)) (m ((c.tc : Thread nD τ).loc main_arg3)) (m ((c.tc : Thread nD τ).loc main_arg4)) (sq t) h (crow t r) l := by
  unfold resVc
  rw [V_main_arg4]
  rw [vcOut_apply]
  unfold ctxV
  simp only [rows_ctx, sprj_win]
theorem resVc_at (c : Dev nD) (t : Fin cfg0.N) (y : S1x8x128x128.Idx) : resVc m c t y = ctxV (m ((c.tc : Thread nD τ).loc main_arg1)) (m ((c.tc : Thread nD τ).loc main_arg2)) (m ((c.tc : Thread nD τ).loc main_arg3)) (m ((c.tc : Thread nD τ).loc main_arg4)) (sq t) (y 1) (crow t (y 2)) (y 3) :=
  (congrArg (resVc m c t) (show y = ix4 0 (y 1) (y 2) (y 3) from by
    funext a
    match a with
    | ⟨0, _⟩ => exact Subsingleton.elim (α := Fin 1) _ _
    | ⟨1, _⟩ => rfl
    | ⟨2, _⟩ => rfl
    | ⟨3, _⟩ => rfl)).trans (resVc_apply m c t _ _ _)

/-! The whole arrays. -/

/-- Equal coordinates, equal values. -/
theorem same4 {α : Type} {n : ℕ} (f : Fin 16 → Fin 8 → Fin n → Fin 128 → α) {b b' : Fin 16} {h h' : Fin 8} {s s' : Fin n} {l l' : Fin 128} (e0 : b.val = b'.val) (e1 : h.val = h'.val)
    (e2 : s.val = s'.val) (e3 : l.val = l'.val) : f b h s l = f b' h' s' l' := by
  rw [Fin.ext e0, Fin.ext e1, Fin.ext e2, Fin.ext e3]

def arrQ (c : Dev nD) : S16x8x2048x128.Idx → EReal := fun y => latQ (m ((c.tc : Thread nD τ).loc main_arg0)) (m ((c.tc : Thread nD τ).loc main_arg2)) (m ((c.tc : Thread nD τ).loc main_arg3)) (m ((c.tc : Thread nD τ).loc main_arg4)) (y 0) (y 1) (y 2) (y 3)
theorem final_8 (c : Dev nD) : (dats m 0 c).arrAt 8 cfg0.N = arrQ m c := by
  refine (dats m 0 c).arrAt_eq_of_covers 8 _ (by decide +kernel) fun t hf y => ?_
  have e0 : ((((cfg0.win 8).blk t).view.emb y) 0).val = t.val / 2 := by have h : (y 0).val < 1 := (y 0).isLt; blk_simp [idx_out t]
  have e1 : ((((cfg0.win 8).blk t).view.emb y) 1).val = (y 1).val := by blk_simp [idx_out t]
  have e2 : ((((cfg0.win 8).blk t).view.emb y) 2).val = t.val % 2 * 1024 + (y 2).val := by blk_simp [idx_out t]
  have e3 : ((((cfg0.win 8).blk t).view.emb y) 3).val = (y 3).val := by blk_simp [idx_out t]
  blk_simp
  rw [after_8]
  refine (resQ_at m c t y).trans ?_
  unfold arrQ
  exact same4 (latQ _ _ _ _) e0.symm e1.symm e2.symm e3.symm

def arrK (c : Dev nD) : S16x8x2048x128.Idx → EReal := fun y => latK (m ((c.tc : Thread nD τ).loc main_arg0)) (m ((c.tc : Thread nD τ).loc main_arg2)) (m ((c.tc : Thread nD τ).loc main_arg3)) (m ((c.tc : Thread nD τ).loc main_arg4)) (y 0) (y 1) (y 2) (y 3)
theorem final_9 (c : Dev nD) : (dats m 0 c).arrAt 9 cfg0.N = arrK m c := by
  refine (dats m 0 c).arrAt_eq_of_covers 9 _ (by decide +kernel) fun t hf y => ?_
  have e0 : ((((cfg0.win 9).blk t).view.emb y) 0).val = t.val / 2 := by have h : (y 0).val < 1 := (y 0).isLt; blk_simp [idx_out t]
  have e1 : ((((cfg0.win 9).blk t).view.emb y) 1).val = (y 1).val := by blk_simp [idx_out t]
  have e2 : ((((cfg0.win 9).blk t).view.emb y) 2).val = t.val % 2 * 1024 + (y 2).val := by blk_simp [idx_out t]
  have e3 : ((((cfg0.win 9).blk t).view.emb y) 3).val = (y 3).val := by blk_simp [idx_out t]
  blk_simp
  rw [after_9]
  refine (resK_at m c t y).trans ?_
  unfold arrK
  exact same4 (latK _ _ _ _) e0.symm e1.symm e2.symm e3.symm

def arrV (c : Dev nD) : S16x8x2048x128.Idx → EReal := fun y => latV (m ((c.tc : Thread nD τ).loc main_arg0)) (m ((c.tc : Thread nD τ).loc main_arg2)) (m ((c.tc : Thread nD τ).loc main_arg3)) (m ((c.tc : Thread nD τ).loc main_arg4)) (y 0) (y 1) (y 2) (y 3)
theorem final_10 (c : Dev nD) : (dats m 0 c).arrAt 10 cfg0.N = arrV m c := by
  refine (dats m 0 c).arrAt_eq_of_covers 10 _ (by decide +kernel) fun t hf y => ?_
  have e0 : ((((cfg0.win 10).blk t).view.emb y) 0).val = t.val / 2 := by have h : (y 0).val < 1 := (y 0).isLt; blk_simp [idx_out t]
  have e1 : ((((cfg0.win 10).blk t).view.emb y) 1).val = (y 1).val := by blk_simp [idx_out t]
  have e2 : ((((cfg0.win 10).blk t).view.emb y) 2).val = t.val % 2 * 1024 + (y 2).val := by blk_simp [idx_out t]
  have e3 : ((((cfg0.win 10).blk t).view.emb y) 3).val = (y 3).val := by blk_simp [idx_out t]
  blk_simp
  rw [after_10]
  refine (resV_at m c t y).trans ?_
  unfold arrV
  exact same4 (latV _ _ _ _) e0.symm e1.symm e2.symm e3.symm

def arrU (c : Dev nD) : S32768x512.Idx → EReal := fun y => latU (m ((c.tc : Thread nD τ).loc main_arg0)) (m ((c.tc : Thread nD τ).loc main_arg2)) (m ((c.tc : Thread nD τ).loc main_arg3)) (m ((c.tc : Thread nD τ).loc main_arg4)) ⟨(y 0).val / 2048, by have := (y 0).isLt; simp at this; omega⟩ ⟨(y 0).val % 2048, by omega⟩ (y 1)
theorem final_11 (c : Dev nD) : (dats m 0 c).arrAt 11 cfg0.N = arrU m c := by
  refine (dats m 0 c).arrAt_eq_of_covers 11 _ (by decide +kernel) fun t hf y => ?_
  have e0 : ((((cfg0.win 11).blk t).view.emb y) 0).val = t.val * 1024 + (y 0).val := by blk_simp [idx_out t]
  have e1 : ((((cfg0.win 11).blk t).view.emb y) 1).val = (y 1).val := by blk_simp [idx_out t]
  have := t_lt t
  have h0 : (y 0).val < 1024 := (y 0).isLt
  blk_simp
  rw [after_11, eq_ix2 y]
  refine (resU_apply m c t _ _).trans ?_
  unfold arrU
  congr 1 <;> apply Fin.ext <;> simp only [e0, e1, ← eq_ix2] <;> omega

def arrSg (c : Dev nD) : S32768x2048.Idx → EReal := fun y => latSg (m ((c.tc : Thread nD τ).loc main_arg0)) (m ((c.tc : Thread nD τ).loc main_arg2)) (m ((c.tc : Thread nD τ).loc main_arg3)) (m ((c.tc : Thread nD τ).loc main_arg4)) ⟨(y 0).val / 2048, by have := (y 0).isLt; simp at this; omega⟩ ⟨(y 0).val % 2048, by omega⟩ (y 1)
theorem final_12 (c : Dev nD) : (dats m 0 c).arrAt 12 cfg0.N = arrSg m c := by
  refine (dats m 0 c).arrAt_eq_of_covers 12 _ (by decide +kernel) fun t hf y => ?_
  have e0 : ((((cfg0.win 12).blk t).view.emb y) 0).val = t.val * 1024 + (y 0).val := by blk_simp [idx_out t]
  have e1 : ((((cfg0.win 12).blk t).view.emb y) 1).val = (y 1).val := by blk_simp [idx_out t]
  have := t_lt t
  have h0 : (y 0).val < 1024 := (y 0).isLt
  blk_simp
  rw [after_12, eq_ix2 y]
  refine (resSg_apply m c t _ _).trans ?_
  unfold arrSg
  congr 1 <;> apply Fin.ext <;> simp only [e0, e1, ← eq_ix2] <;> omega

def arrKc (c : Dev nD) : S16x8x256x128.Idx → EReal := fun y => ctxK (m ((c.tc : Thread nD τ).loc main_arg1)) (m ((c.tc : Thread nD τ).loc main_arg2)) (m ((c.tc : Thread nD τ).loc main_arg3)) (m ((c.tc : Thread nD τ).loc main_arg4)) (y 0) (y 1) (y 2) (y 3)
theorem final_13 (c : Dev nD) : (dats m 0 c).arrAt 13 cfg0.N = arrKc m c := by
  refine (dats m 0 c).arrAt_eq_of_covers 13 _ (by decide +kernel) fun t hf y => ?_
  have e0 : ((((cfg0.win 13).blk t).view.emb y) 0).val = t.val / 2 := by have h : (y 0).val < 1 := (y 0).isLt; blk_simp [idx_out t]
  have e1 : ((((cfg0.win 13).blk t).view.emb y) 1).val = (y 1).val := by blk_simp [idx_out t]
  have e2 : ((((cfg0.win 13).blk t).view.emb y) 2).val = t.val % 2 * 128 + (y 2).val := by blk_simp [idx_out t]
  have e3 : ((((cfg0.win 13).blk t).view.emb y) 3).val = (y 3).val := by blk_simp [idx_out t]
  blk_simp
  rw [after_13]
  refine (resKc_at m c t y).trans ?_
  unfold arrKc
  exact same4 (ctxK _ _ _ _) e0.symm e1.symm e2.symm e3.symm

def arrVc (c : Dev nD) : S16x8x256x128.Idx → EReal := fun y => ctxV (m ((c.tc : Thread nD τ).loc main_arg1)) (m ((c.tc : Thread nD τ).loc main_arg2)) (m ((c.tc : Thread nD τ).loc main_arg3)) (m ((c.tc : Thread nD τ).loc main_arg4)) (y 0) (y 1) (y 2) (y 3)
theorem final_14 (c : Dev nD) : (dats m 0 c).arrAt 14 cfg0.N = arrVc m c := by
  refine (dats m 0 c).arrAt_eq_of_covers 14 _ (by decide +kernel) fun t hf y => ?_
  have e0 : ((((cfg0.win 14).blk t).view.emb y) 0).val = t.val / 2 := by have h : (y 0).val < 1 := (y 0).isLt; blk_simp [idx_out t]
  have e1 : ((((cfg0.win 14).blk t).view.emb y) 1).val = (y 1).val := by blk_simp [idx_out t]
  have e2 : ((((cfg0.win 14).blk t).view.emb y) 2).val = t.val % 2 * 128 + (y 2).val := by blk_simp [idx_out t]
  have e3 : ((((cfg0.win 14).blk t).view.emb y) 3).val = (y 3).val := by blk_simp [idx_out t]
  blk_simp
  rw [after_14]
  refine (resVc_at m c t y).trans ?_
  unfold arrVc
  exact same4 (ctxV _ _ _ _) e0.symm e1.symm e2.symm e3.symm

end Cert.Kernel3Ideal.Mix

end

end
-- ==== Proof.MixRef.lean ====
/- What the reference of the projections writes: the normed rows, their products with the weights, and the five results that are not rotated. -/
module

public import proofs.«01_k».proof.Proof.Gen.Reference3Ideal.Read
public import proofs.«01_k».proof.Proof.RefValue
public import proofs.«01_k».proof.Proof.MixSpec
public import Idealize.ShloMosaic.Lib.Pointwise

@[expose] public section

set_option maxRecDepth 16384

noncomputable section

namespace Cert.Reference3Ideal.Rows

open Idealize.ShloMosaic Idealize.ShloMosaic.TcCoe Cert.Reference3Ideal Cert.Reference3Ideal.Read Cert.Rows
open Cert.ReferenceIdeal.Rows (ix3_of ix4_of)

variable (x0 : FVec Ideal S32768x1024 .f32) (x1 : FVec Ideal S4096x1024 .f32) (x2 : FVec Ideal S24x1x9216 .f32) (x3 : FVec Ideal S1x3x1024 .f32) (x4 : FVec Ideal S1x1024x5632 .f32)

theorem lat_in (b : Fin 16) (s : Fin 2048) (c : Fin 1024) : val_main_v0 (F := Ideal) x0 (ix3 b s c) = x0 (ix2 ⟨b.val * 2048 + s.val, by omega⟩ c) := by
  rw [val_main_v0_apply]
  refine congrArg x0 (funext fun a => Fin.ext ?_)
  match a with
  | ⟨0, _⟩ => show ((b.val * 2048 + s.val) * 1024 + c.val) / 1024 = b.val * 2048 + s.val; omega
  | ⟨1, _⟩ => show ((b.val * 2048 + s.val) * 1024 + c.val) % 1024 = c.val; omega
theorem ctx_in (b : Fin 16) (s : Fin 256) (c : Fin 1024) : val_main_v1 (F := Ideal) x1 (ix3 b s c) = x1 (ix2 ⟨b.val * 256 + s.val, by omega⟩ c) := by
  rw [val_main_v1_apply]
  refine congrArg x1 (funext fun a => Fin.ext ?_)
  match a with
  | ⟨0, _⟩ => show ((b.val * 256 + s.val) * 1024 + c.val) / 1024 = b.val * 256 + s.val; omega
  | ⟨1, _⟩ => show ((b.val * 256 + s.val) * 1024 + c.val) % 1024 = c.val; omega

theorem gain_apply (k : Fin 1024) : val_main_v10 (F := Ideal) x3 (ix1 k) = x3 (ix3 0 1 k) := by
  rw [val_main_v10_apply, val_main_v9_apply]
  exact congrArg x3 (ix3_of _ _ _ _ rfl rfl (Nat.mod_eq_of_lt k.isLt))

theorem latH_apply (b : Fin 16) (s : Fin 2048) (c : Fin 1024) : val_main_v33 (F := Ideal) x0 x2 x3 (ix3 b s c) = latH x0 x2 x3 b s c := by
  have e1 : ∀ q, idx_main_v14 (idx_main_v15 (idx_main_v21 (ix3 b s c))) q = ix3 b s q := fun q => ix3_of _ _ _ _ rfl rfl rfl
  have e2 : idx_main_v23 (idx_main_v24 (ix3 b s c)) = ix1 c := by funext a; match a with | ⟨0, _⟩ => rfl
  have e3 : idx_main_v11 (idx_main_v27 (idx_main_v30 (ix3 b s c))) = ix3 ⟨b.val, by omega⟩ 0 ⟨4096 + c.val, by omega⟩ := ix3_of _ _ _ _ rfl rfl rfl
  have e4 : idx_main_v11 (idx_main_v26 (idx_main_v32 (ix3 b s c))) = ix3 ⟨b.val, by omega⟩ 0 ⟨3072 + c.val, by omega⟩ := ix3_of _ _ _ _ rfl rfl rfl
  pointwise [val_main_v33_apply, val_main_v32_apply, val_main_v31_apply, val_main_v30_apply, val_main_v29_apply, val_main_v28_apply, val_main_v27_apply, val_main_v26_apply, val_main_v25_apply, val_main_v24_apply, val_main_v23_apply, val_main_v22_apply, val_main_v21_apply, val_main_v20_apply, val_main_v19_apply, val_main_v18_apply, val_main_v17_apply, val_main_v16_apply, val_main_v15_apply, val_main_v14_apply, val_main_v13_apply, val_main_v11_apply, val_main_cst_apply, val_main_cst_0_apply, val_main_cst_1_apply, val_main_cst_2_apply, e1, e2, e3, e4, lat_in, gain_apply]
  unfold latH nrm
  rw [← mul_assoc]

theorem ctxH_apply (b : Fin 16) (s : Fin 256) (c : Fin 1024) : val_main_v54 (F := Ideal) x1 x2 x3 (ix3 b s c) = ctxH x1 x2 x3 b s c := by
  have e1 : ∀ q, idx_main_v35 (idx_main_v36 (idx_main_v42 (ix3 b s c))) q = ix3 b s q := fun q => ix3_of _ _ _ _ rfl rfl rfl
  have e2 : idx_main_v44 (idx_main_v45 (ix3 b s c)) = ix1 c := by funext a; match a with | ⟨0, _⟩ => rfl
  have e3 : idx_main_v12 (idx_main_v48 (idx_main_v51 (ix3 b s c))) = ix3 16 0 ⟨4096 + c.val, by omega⟩ := ix3_of _ _ _ _ rfl rfl rfl
  have e4 : idx_main_v12 (idx_main_v47 (idx_main_v53 (ix3 b s c))) = ix3 16 0 ⟨3072 + c.val, by omega⟩ := ix3_of _ _ _ _ rfl rfl rfl
  pointwise [val_main_v54_apply, val_main_v53_apply, val_main_v52_apply, val_main_v51_apply, val_main_v50_apply, val_main_v49_apply, val_main_v48_apply, val_main_v47_apply, val_main_v46_apply, val_main_v45_apply, val_main_v44_apply, val_main_v43_apply, val_main_v42_apply, val_main_v41_apply, val_main_v40_apply, val_main_v39_apply, val_main_v38_apply, val_main_v37_apply, val_main_v36_apply, val_main_v35_apply, val_main_v34_apply, val_main_v12_apply, val_main_cst_3_apply, val_main_cst_4_apply, val_main_cst_5_apply, val_main_cst_6_apply, e1, e2, e3, e4, ctx_in, gain_apply]
  unfold ctxH nrm
  rw [← mul_assoc]

theorem w_apply (k : Fin 1024) (j : Fin 5632) : val_main_v55 (F := Ideal) x4 (ix2 k j) = x4 (ix3 0 k j) := by
  rw [val_main_v55_apply]
  refine congrArg x4 (ix3_of _ _ _ _ rfl ?_ ?_)
  · show (k.val * 5632 + j.val) / 5632 % 1024 = k.val; omega
  · show (k.val * 5632 + j.val) % 5632 = j.val; omega
theorem w2_apply (k : Fin 1024) (j : Fin 2048) : val_main_v58 (F := Ideal) x4 (ix2 k j) = x4 (ix3 0 k ⟨1024 + j.val, by omega⟩) := by
  rw [val_main_v58_apply, val_main_v57_apply]
  refine congrArg x4 (ix3_of _ _ _ _ rfl ?_ ?_)
  · show (k.val * 5632 + (1024 + j.val)) / 5632 % 1024 = k.val; omega
  · show (k.val * 5632 + (1024 + j.val)) % 5632 = 1024 + j.val; omega

/-- The projections of a row. -/
theorem proj_lat (b : Fin 16) (s : Fin 2048) (j : Fin 5632) : val_main_v56 (F := Ideal) x0 x2 x3 x4 (ix3 b s j) = prj x4 (latH x0 x2 x3 b s) j := by
  have e1 : ∀ q, lidx_main_v56 (ix3 b s j) q = ix3 b s q := fun q => ix3_of _ _ _ _ rfl rfl rfl
  have e2 : ∀ q, ridx_main_v56 (ix3 b s j) q = ix2 q j := fun q => eq_ix2 _
  rw [val_main_v56_apply]
  unfold prj
  refine Finset.sum_congr rfl fun q _ => ?_
  rw [e1, e2, latH_apply, w_apply]
theorem proj_ctx (b : Fin 16) (s : Fin 256) (j : Fin 2048) : val_main_v59 (F := Ideal) x1 x2 x3 x4 (ix3 b s j) = prj x4 (ctxH x1 x2 x3 b s) ⟨1024 + j.val, by omega⟩ := by
  have e1 : ∀ q, lidx_main_v59 (ix3 b s j) q = ix3 b s q := fun q => ix3_of _ _ _ _ rfl rfl rfl
  have e2 : ∀ q, ridx_main_v59 (ix3 b s j) q = ix2 q j := fun q => eq_ix2 _
  rw [val_main_v59_apply]
  unfold prj
  refine Finset.sum_congr rfl fun q _ => ?_
  rw [e1, e2, ctxH_apply, w2_apply]

/-- Values, by heads. -/
theorem v_out (b : Fin 16) (h : Fin 8) (s : Fin 2048) (l : Fin 128) : val_main_v199 (F := Ideal) x0 x2 x3 x4 (ix4 b h s l) = latV x0 x2 x3 x4 b h s l := by
  have e : idx_main_v196 (idx_main_v197 (idx_main_v198 (ix4 b h s l))) = ix3 b s ⟨2048 + (128 * h.val + l.val), by omega⟩ := by
    refine ix3_of _ _ _ _ ?_ ?_ ?_
    · show (((b.val * 2048 + s.val) * 8 + h.val) * 128 + l.val) / 2097152 = b.val; omega
    · show (((b.val * 2048 + s.val) * 8 + h.val) * 128 + l.val) / 1024 % 2048 = s.val; omega
    · show 2048 + (((b.val * 2048 + s.val) * 8 + h.val) * 128 + l.val) % 1024 = 2048 + (128 * h.val + l.val); omega
  refine (show val_main_v199 (F := Ideal) x0 x2 x3 x4 (ix4 b h s l) = val_main_v198 (F := Ideal) x0 x2 x3 x4 (ix4 b h s l) from rfl).trans ?_
  rw [val_main_v198_apply, val_main_v197_apply, val_main_v196_apply, e, proj_lat]
  rfl
theorem kc_out (b : Fin 16) (h : Fin 8) (s : Fin 256) (l : Fin 128) : val_main_v212 (F := Ideal) x1 x2 x3 x4 (ix4 b h s l) = ctxK x1 x2 x3 x4 b h s l := by
  have e : idx_main_v209 (idx_main_v210 (idx_main_v211 (ix4 b h s l))) = ix3 b s ⟨0 + (128 * h.val + l.val), by omega⟩ := by
    refine ix3_of _ _ _ _ ?_ ?_ ?_
    · show (((b.val * 256 + s.val) * 8 + h.val) * 128 + l.val) / 262144 = b.val; omega
    · show (((b.val * 256 + s.val) * 8 + h.val) * 128 + l.val) / 1024 % 256 = s.val; omega
    · show (((b.val * 256 + s.val) * 8 + h.val) * 128 + l.val) % 1024 = 0 + (128 * h.val + l.val); omega
  refine (show val_main_v212 (F := Ideal) x1 x2 x3 x4 (ix4 b h s l) = val_main_v211 (F := Ideal) x1 x2 x3 x4 (ix4 b h s l) from rfl).trans ?_
  rw [val_main_v211_apply, val_main_v210_apply, val_main_v209_apply, e, proj_ctx]
  exact congrArg (prj x4 _) (Fin.ext (by show 1024 + (0 + (128 * h.val + l.val)) = 1024 + (128 * h.val + l.val); omega))
theorem vc_out (b : Fin 16) (h : Fin 8) (s : Fin 256) (l : Fin 128) : val_main_v216 (F := Ideal) x1 x2 x3 x4 (ix4 b h s l) = ctxV x1 x2 x3 x4 b h s l := by
  have e : idx_main_v213 (idx_main_v214 (idx_main_v215 (ix4 b h s l))) = ix3 b s ⟨1024 + (128 * h.val + l.val), by omega⟩ := by
    refine ix3_of _ _ _ _ ?_ ?_ ?_
    · show (((b.val * 256 + s.val) * 8 + h.val) * 128 + l.val) / 262144 = b.val; omega
    · show (((b.val * 256 + s.val) * 8 + h.val) * 128 + l.val) / 1024 % 256 = s.val; omega
    · show 1024 + (((b.val * 256 + s.val) * 8 + h.val) * 128 + l.val) % 1024 = 1024 + (128 * h.val + l.val); omega
  refine (show val_main_v216 (F := Ideal) x1 x2 x3 x4 (ix4 b h s l) = val_main_v215 (F := Ideal) x1 x2 x3 x4 (ix4 b h s l) from rfl).trans ?_
  rw [val_main_v215_apply, val_main_v214_apply, val_main_v213_apply, e, proj_ctx]
  exact congrArg (prj x4 _) (Fin.ext (by show 1024 + (1024 + (128 * h.val + l.val)) = 2048 + (128 * h.val + l.val); omega))

/-- The pooling columns, and the gates' sigmoid. -/
theorem u_out (R : Fin 32768) (c : Fin 512) : val_main_v200 (F := Ideal) x0 x2 x3 x4 (ix2 R c) = latU x0 x2 x3 x4 ⟨R.val / 2048, by omega⟩ ⟨R.val % 2048, by omega⟩ c := by
  have e : idx_main_v186 (idx_main_v200 (ix2 R c)) = ix3 ⟨R.val / 2048, by omega⟩ ⟨R.val % 2048, by omega⟩ ⟨3072 + c.val, by omega⟩ := by
    refine ix3_of _ _ _ _ ?_ ?_ ?_
    · show (R.val * 512 + c.val) / 1048576 = R.val / 2048; omega
    · show (R.val * 512 + c.val) / 512 % 2048 = R.val % 2048; omega
    · show 3072 + (R.val * 512 + c.val) % 512 = 3072 + c.val; omega
  rw [val_main_v200_apply, val_main_v186_apply, e, proj_lat]
  rfl
theorem sg_out (R : Fin 32768) (c : Fin 2048) : val_main_v208 (F := Ideal) x0 x2 x3 x4 (ix2 R c) = latSg x0 x2 x3 x4 ⟨R.val / 2048, by omega⟩ ⟨R.val % 2048, by omega⟩ c := by
  have e : idx_main_v208 (ix2 R c) = ix3 ⟨R.val / 2048, by omega⟩ ⟨R.val % 2048, by omega⟩ c := by
    refine ix3_of _ _ _ _ ?_ ?_ ?_
    · show (R.val * 2048 + c.val) / 4194304 = R.val / 2048; omega
    · show (R.val * 2048 + c.val) / 2048 % 2048 = R.val % 2048; omega
    · show (R.val * 2048 + c.val) % 2048 = c.val; omega
  have e2 : idx_main_v187 (ix3 ⟨R.val / 2048, by omega⟩ ⟨R.val % 2048, by omega⟩ c) = ix3 ⟨R.val / 2048, by omega⟩ ⟨R.val % 2048, by omega⟩ ⟨3584 + c.val, by omega⟩ := ix3_of _ _ _ _ rfl rfl rfl
  rw [val_main_v208_apply, e]
  pointwise [val_main_v207_apply, val_main_v206_apply, val_main_v205_apply, val_main_v204_apply, val_main_v203_apply, val_main_v202_apply, val_main_v201_apply, val_main_v187_apply, val_main_cst_16_apply, val_main_cst_17_apply, e2, proj_lat]
  rfl

end Cert.Reference3Ideal.Rows

end

end
-- ==== Proof.MixRope.lean ====
/- What the reference of the projections writes: the rotated queries and keys. -/
module

public import proofs.«01_k».proof.Proof.MixRef
public import Idealize.ShloMosaic.Lib.Pointwise

@[expose] public section

set_option maxRecDepth 16384

noncomputable section

namespace Cert.Reference3Ideal.Rows

open Idealize.ShloMosaic Idealize.ShloMosaic.TcCoe Cert.Reference3Ideal Cert.Reference3Ideal.Read Cert.Rows
open Cert.ReferenceIdeal.Rows (ix3_of ix4_of)

variable (x0 : FVec Ideal S32768x1024 .f32) (x1 : FVec Ideal S4096x1024 .f32) (x2 : FVec Ideal S24x1x9216 .f32) (x3 : FVec Ideal S1x3x1024 .f32) (x4 : FVec Ideal S1x1024x5632 .f32)

/-- An index of five axes, by its coordinates' values. -/
theorem ix5_of {n k l p r : ℕ} (i : Shape.Idx ⟨5, ![n, k, l, p, r]⟩) (a : Fin n) (b : Fin k) (c : Fin l) (d : Fin p) (e : Fin r) (h0 : (i 0).val = a.val) (h1 : (i 1).val = b.val)
    (h2 : (i 2).val = c.val) (h3 : (i 3).val = d.val) (h4 : (i 4).val = e.val) : i = ix5 a b c d e := by
  rw [eq_ix5 i]; congr 1 <;> exact Fin.ext (by assumption)

/-- Two halves of a lane axis side by side. -/
theorem side16 (hc : Shape.Concatenates [S16x2048x8x2x16, S16x2048x8x2x16] S16x2048x8x2x32 4) (X Y : S16x2048x8x2x16.Idx → EReal) (b : Fin 16) (s : Fin 2048) (h : Fin 8) (c : Fin 2) (k : Fin 32) :
    concatenate S16x2048x8x2x32 4 [⟨S16x2048x8x2x16, X⟩, ⟨S16x2048x8x2x16, Y⟩] hc (ix5 b s h c k)
      = if hk : k.val < 16 then X (ix5 b s h c ⟨k.val, hk⟩) else Y (ix5 b s h c ⟨k.val - 16, by omega⟩) := by
  refine (concatenate_pair_apply _ X Y _ _).trans ?_
  by_cases hk : k.val < 16
  · rw [dif_pos hk]
    exact (dif_pos hk).trans (congrArg X (ix5_of _ _ _ _ _ _ rfl rfl rfl rfl rfl))
  · rw [dif_neg hk]
    exact (dif_neg hk).trans (congrArg Y (ix5_of _ _ _ _ _ _ rfl rfl rfl rfl rfl))
theorem side32 (hc : Shape.Concatenates [S16x2048x8x2x32, S16x2048x8x2x32] S16x2048x8x2x64 4) (X Y : S16x2048x8x2x32.Idx → EReal) (b : Fin 16) (s : Fin 2048) (h : Fin 8) (c : Fin 2) (k : Fin 64) :
    concatenate S16x2048x8x2x64 4 [⟨S16x2048x8x2x32, X⟩, ⟨S16x2048x8x2x32, Y⟩] hc (ix5 b s h c k)
      = if hk : k.val < 32 then X (ix5 b s h c ⟨k.val, hk⟩) else Y (ix5 b s h c ⟨k.val - 32, by omega⟩) := by
  refine (concatenate_pair_apply _ X Y _ _).trans ?_
  by_cases hk : k.val < 32
  · rw [dif_pos hk]
    exact (dif_pos hk).trans (congrArg X (ix5_of _ _ _ _ _ _ rfl rfl rfl rfl rfl))
  · rw [dif_neg hk]
    exact (dif_neg hk).trans (congrArg Y (ix5_of _ _ _ _ _ _ rfl rfl rfl rfl rfl))

/-- The image row and column of a token. -/
theorem row_id (s : Fin 2048) : val_main_v4 (F := Ideal) (ix1 s) = BitVec.ofNat 32 (s.val / 64) := by
  rw [val_main_v4_apply, val_main_v3_apply]; rfl
theorem col_id (s : Fin 2048) : val_main_v8 (F := Ideal) (ix1 s) = BitVec.ofNat 32 (s.val % 64) := by
  rw [val_main_v8_apply, val_main_v7_apply, val_main_v6_apply]
  refine (show ∀ i : S64.Idx, val_main_v5 (F := Ideal) i = BitVec.ofNat 32 (i 0).val from fun _ => rfl) _ |>.trans (congrArg (BitVec.ofNat 32) ?_)
  show 0 * 64 + s.val % 64 = s.val % 64
  omega

theorem q_row_freq (k : Fin 16) : val_main_v68 (F := Ideal) (ix1 k) = freq k.val := rfl
theorem q_row_angle (s : Fin 2048) (k : Fin 16) : val_main_v74 (F := Ideal) (ix2 s k) = FloatOps.sitofp (F := Ideal) .f32 (BitVec.ofNat 32 (s.val / 64)) * freq k.val := by
  have e1 : idx_main_v70 (idx_main_v72 (ix2 s k)) = ix1 s := by funext a; match a with | ⟨0, _⟩ => rfl
  have e2 : idx_main_v71 (idx_main_v73 (ix2 s k)) = ix1 k := by funext a; match a with | ⟨0, _⟩ => rfl
  rw [val_main_v74_apply, val_main_v73_apply, val_main_v72_apply, val_main_v71_apply, val_main_v70_apply, e1, e2, q_row_freq, val_main_v69_apply, row_id]
  rfl

theorem q_col_freq (k : Fin 16) : val_main_v98 (F := Ideal) (ix1 k) = freq k.val := rfl
theorem q_col_angle (s : Fin 2048) (k : Fin 16) : val_main_v104 (F := Ideal) (ix2 s k) = FloatOps.sitofp (F := Ideal) .f32 (BitVec.ofNat 32 (s.val % 64)) * freq k.val := by
  have e1 : idx_main_v100 (idx_main_v102 (ix2 s k)) = ix1 s := by funext a; match a with | ⟨0, _⟩ => rfl
  have e2 : idx_main_v101 (idx_main_v103 (ix2 s k)) = ix1 k := by funext a; match a with | ⟨0, _⟩ => rfl
  rw [val_main_v104_apply, val_main_v103_apply, val_main_v102_apply, val_main_v101_apply, val_main_v100_apply, e1, e2, q_col_freq, val_main_v99_apply, col_id]
  rfl

theorem k_row_freq (k : Fin 16) : val_main_v131 (F := Ideal) (ix1 k) = freq k.val := rfl
theorem k_row_angle (s : Fin 2048) (k : Fin 16) : val_main_v137 (F := Ideal) (ix2 s k) = FloatOps.sitofp (F := Ideal) .f32 (BitVec.ofNat 32 (s.val / 64)) * freq k.val := by
  have e1 : idx_main_v133 (idx_main_v135 (ix2 s k)) = ix1 s := by funext a; match a with | ⟨0, _⟩ => rfl
  have e2 : idx_main_v134 (idx_main_v136 (ix2 s k)) = ix1 k := by funext a; match a with | ⟨0, _⟩ => rfl
  rw [val_main_v137_apply, val_main_v136_apply, val_main_v135_apply, val_main_v134_apply, val_main_v133_apply, e1, e2, k_row_freq, val_main_v132_apply, row_id]
  rfl

theorem k_col_freq (k : Fin 16) : val_main_v161 (F := Ideal) (ix1 k) = freq k.val := rfl
theorem k_col_angle (s : Fin 2048) (k : Fin 16) : val_main_v167 (F := Ideal) (ix2 s k) = FloatOps.sitofp (F := Ideal) .f32 (BitVec.ofNat 32 (s.val % 64)) * freq k.val := by
  have e1 : idx_main_v163 (idx_main_v165 (ix2 s k)) = ix1 s := by funext a; match a with | ⟨0, _⟩ => rfl
  have e2 : idx_main_v164 (idx_main_v166 (ix2 s k)) = ix1 k := by funext a; match a with | ⟨0, _⟩ => rfl
  rw [val_main_v167_apply, val_main_v166_apply, val_main_v165_apply, val_main_v164_apply, val_main_v163_apply, e1, e2, k_col_freq, val_main_v162_apply, col_id]
  rfl

theorem q_in (b : Fin 16) (s : Fin 2048) (j : Fin 1024) : val_main_v60 (F := Ideal) x0 x2 x3 x4 (ix3 b s j) = prj x4 (latH x0 x2 x3 b s) ⟨j.val, by omega⟩ := by
  have e : idx_main_v60 (ix3 b s j) = ix3 b s ⟨j.val, by omega⟩ := ix3_of _ _ _ _ rfl rfl rfl
  rw [val_main_v60_apply, e, proj_lat]
theorem q_head (b : Fin 16) (s : Fin 2048) (h : Fin 8) (c : Fin 2) (k : Fin 64) :
    val_main_v61 (F := Ideal) x0 x2 x3 x4 (ix5 b s h c k) = prj x4 (latH x0 x2 x3 b s) ⟨128 * h.val + (64 * c.val + k.val), by omega⟩ := by
  have e : idx_main_v61 (ix5 b s h c k) = ix3 b s ⟨128 * h.val + (64 * c.val + k.val), by omega⟩ := by
    refine ix3_of _ _ _ _ ?_ ?_ ?_
    · show ((((b.val * 2048 + s.val) * 8 + h.val) * 2 + c.val) * 64 + k.val) / 2097152 = b.val; omega
    · show ((((b.val * 2048 + s.val) * 8 + h.val) * 2 + c.val) * 64 + k.val) / 1024 % 2048 = s.val; omega
    · show ((((b.val * 2048 + s.val) * 8 + h.val) * 2 + c.val) * 64 + k.val) % 1024 = 128 * h.val + (64 * c.val + k.val); omega
  rw [val_main_v61_apply, e, q_in]

theorem q_row_x1 (b : Fin 16) (s : Fin 2048) (h : Fin 8) (c : Fin 2) (k : Fin 16) :
    val_main_v79 (F := Ideal) x0 x2 x3 x4 (ix5 b s h c k) = prj x4 (latH x0 x2 x3 b s) ⟨128 * h.val + (64 * c.val + (0 + k.val)), by omega⟩ := by
  have e : idx_main_v62 (idx_main_v79 (ix5 b s h c k)) = ix5 b s h c ⟨0 + k.val, by omega⟩ := ix5_of _ _ _ _ _ _ rfl rfl rfl rfl (Nat.zero_add _).symm
  rw [val_main_v79_apply, val_main_v62_apply, e, q_head]
theorem q_row_x2 (b : Fin 16) (s : Fin 2048) (h : Fin 8) (c : Fin 2) (k : Fin 16) :
    val_main_v80 (F := Ideal) x0 x2 x3 x4 (ix5 b s h c k) = prj x4 (latH x0 x2 x3 b s) ⟨128 * h.val + (64 * c.val + (16 + k.val)), by omega⟩ := by
  have e : idx_main_v62 (idx_main_v80 (ix5 b s h c k)) = ix5 b s h c ⟨16 + k.val, by omega⟩ := ix5_of _ _ _ _ _ _ rfl rfl rfl rfl rfl
  rw [val_main_v80_apply, val_main_v62_apply, e, q_head]
theorem q_row_cos1 (b : Fin 16) (s : Fin 2048) (h : Fin 8) (c : Fin 2) (k : Fin 16) :
    val_main_v81 (F := Ideal) (ix5 b s h c k) = Ideal.cos (FloatOps.sitofp (F := Ideal) .f32 (BitVec.ofNat 32 (s.val / 64)) * freq k.val) := by
  have e : idx_main_v76 (idx_main_v81 (ix5 b s h c k)) = ix2 s k := eq_ix2 _
  rw [val_main_v81_apply, val_main_v76_apply, e, val_main_v75_apply, q_row_angle]
  rfl
theorem q_row_sin1 (b : Fin 16) (s : Fin 2048) (h : Fin 8) (c : Fin 2) (k : Fin 16) :
    val_main_v83 (F := Ideal) (ix5 b s h c k) = Ideal.sin (FloatOps.sitofp (F := Ideal) .f32 (BitVec.ofNat 32 (s.val / 64)) * freq k.val) := by
  have e : idx_main_v78 (idx_main_v83 (ix5 b s h c k)) = ix2 s k := eq_ix2 _
  rw [val_main_v83_apply, val_main_v78_apply, e, val_main_v77_apply, q_row_angle]
  rfl
theorem q_row_cos2 (b : Fin 16) (s : Fin 2048) (h : Fin 8) (c : Fin 2) (k : Fin 16) :
    val_main_v86 (F := Ideal) (ix5 b s h c k) = Ideal.cos (FloatOps.sitofp (F := Ideal) .f32 (BitVec.ofNat 32 (s.val / 64)) * freq k.val) := by
  have e : idx_main_v76 (idx_main_v86 (ix5 b s h c k)) = ix2 s k := eq_ix2 _
  rw [val_main_v86_apply, val_main_v76_apply, e, val_main_v75_apply, q_row_angle]
  rfl
theorem q_row_sin2 (b : Fin 16) (s : Fin 2048) (h : Fin 8) (c : Fin 2) (k : Fin 16) :
    val_main_v88 (F := Ideal) (ix5 b s h c k) = Ideal.sin (FloatOps.sitofp (F := Ideal) .f32 (BitVec.ofNat 32 (s.val / 64)) * freq k.val) := by
  have e : idx_main_v78 (idx_main_v88 (ix5 b s h c k)) = ix2 s k := eq_ix2 _
  rw [val_main_v88_apply, val_main_v78_apply, e, val_main_v77_apply, q_row_angle]
  rfl

theorem q_row_low (b : Fin 16) (s : Fin 2048) (h : Fin 8) (c : Fin 2) (k : Fin 16) :
    val_main_v85 (F := Ideal) x0 x2 x3 x4 (ix5 b s h c k) = prj x4 (latH x0 x2 x3 b s) ⟨128 * h.val + (64 * c.val + (0 + k.val)), by omega⟩ * Ideal.cos (FloatOps.sitofp (F := Ideal) .f32 (BitVec.ofNat 32 (s.val / 64)) * freq k.val) - prj x4 (latH x0 x2 x3 b s) ⟨128 * h.val + (64 * c.val + (16 + k.val)), by omega⟩ * Ideal.sin (FloatOps.sitofp (F := Ideal) .f32 (BitVec.ofNat 32 (s.val / 64)) * freq k.val) := by
  rw [val_main_v85_apply, val_main_v84_apply, val_main_v82_apply, q_row_x1, q_row_x2, q_row_cos1, q_row_sin1]
  rfl
theorem q_row_high (b : Fin 16) (s : Fin 2048) (h : Fin 8) (c : Fin 2) (k : Fin 16) :
    val_main_v90 (F := Ideal) x0 x2 x3 x4 (ix5 b s h c k) = prj x4 (latH x0 x2 x3 b s) ⟨128 * h.val + (64 * c.val + (16 + k.val)), by omega⟩ * Ideal.cos (FloatOps.sitofp (F := Ideal) .f32 (BitVec.ofNat 32 (s.val / 64)) * freq k.val) + prj x4 (latH x0 x2 x3 b s) ⟨128 * h.val + (64 * c.val + (0 + k.val)), by omega⟩ * Ideal.sin (FloatOps.sitofp (F := Ideal) .f32 (BitVec.ofNat 32 (s.val / 64)) * freq k.val) := by
  rw [val_main_v90_apply, val_main_v89_apply, val_main_v87_apply, q_row_x1, q_row_x2, q_row_cos2, q_row_sin2]
  rfl

theorem q_col_x1 (b : Fin 16) (s : Fin 2048) (h : Fin 8) (c : Fin 2) (k : Fin 16) :
    val_main_v109 (F := Ideal) x0 x2 x3 x4 (ix5 b s h c k) = prj x4 (latH x0 x2 x3 b s) ⟨128 * h.val + (64 * c.val + (32 + k.val)), by omega⟩ := by
  have e : idx_main_v92 (idx_main_v109 (ix5 b s h c k)) = ix5 b s h c ⟨32 + k.val, by omega⟩ := ix5_of _ _ _ _ _ _ rfl rfl rfl rfl rfl
  rw [val_main_v109_apply, val_main_v92_apply, e, q_head]
theorem q_col_x2 (b : Fin 16) (s : Fin 2048) (h : Fin 8) (c : Fin 2) (k : Fin 16) :
    val_main_v110 (F := Ideal) x0 x2 x3 x4 (ix5 b s h c k) = prj x4 (latH x0 x2 x3 b s) ⟨128 * h.val + (64 * c.val + (48 + k.val)), by omega⟩ := by
  have e : idx_main_v92 (idx_main_v110 (ix5 b s h c k)) = ix5 b s h c ⟨48 + k.val, by omega⟩ := ix5_of _ _ _ _ _ _ rfl rfl rfl rfl (by show 32 + (16 + k.val) = 48 + k.val; omega)
  rw [val_main_v110_apply, val_main_v92_apply, e, q_head]
theorem q_col_cos1 (b : Fin 16) (s : Fin 2048) (h : Fin 8) (c : Fin 2) (k : Fin 16) :
    val_main_v111 (F := Ideal) (ix5 b s h c k) = Ideal.cos (FloatOps.sitofp (F := Ideal) .f32 (BitVec.ofNat 32 (s.val % 64)) * freq k.val) := by
  have e : idx_main_v106 (idx_main_v111 (ix5 b s h c k)) = ix2 s k := eq_ix2 _
  rw [val_main_v111_apply, val_main_v106_apply, e, val_main_v105_apply, q_col_angle]
  rfl
theorem q_col_sin1 (b : Fin 16) (s : Fin 2048) (h : Fin 8) (c : Fin 2) (k : Fin 16) :
    val_main_v113 (F := Ideal) (ix5 b s h c k) = Ideal.sin (FloatOps.sitofp (F := Ideal) .f32 (BitVec.ofNat 32 (s.val % 64)) * freq k.val) := by
  have e : idx_main_v108 (idx_main_v113 (ix5 b s h c k)) = ix2 s k := eq_ix2 _
  rw [val_main_v113_apply, val_main_v108_apply, e, val_main_v107_apply, q_col_angle]
  rfl
theorem q_col_cos2 (b : Fin 16) (s : Fin 2048) (h : Fin 8) (c : Fin 2) (k : Fin 16) :
    val_main_v116 (F := Ideal) (ix5 b s h c k) = Ideal.cos (FloatOps.sitofp (F := Ideal) .f32 (BitVec.ofNat 32 (s.val % 64)) * freq k.val) := by
  have e : idx_main_v106 (idx_main_v116 (ix5 b s h c k)) = ix2 s k := eq_ix2 _
  rw [val_main_v116_apply, val_main_v106_apply, e, val_main_v105_apply, q_col_angle]
  rfl
theorem q_col_sin2 (b : Fin 16) (s : Fin 2048) (h : Fin 8) (c : Fin 2) (k : Fin 16) :
    val_main_v118 (F := Ideal) (ix5 b s h c k) = Ideal.sin (FloatOps.sitofp (F := Ideal) .f32 (BitVec.ofNat 32 (s.val % 64)) * freq k.val) := by
  have e : idx_main_v108 (idx_main_v118 (ix5 b s h c k)) = ix2 s k := eq_ix2 _
  rw [val_main_v118_apply, val_main_v108_apply, e, val_main_v107_apply, q_col_angle]
  rfl

theorem q_col_low (b : Fin 16) (s : Fin 2048) (h : Fin 8) (c : Fin 2) (k : Fin 16) :
    val_main_v115 (F := Ideal) x0 x2 x3 x4 (ix5 b s h c k) = prj x4 (latH x0 x2 x3 b s) ⟨128 * h.val + (64 * c.val + (32 + k.val)), by omega⟩ * Ideal.cos (FloatOps.sitofp (F := Ideal) .f32 (BitVec.ofNat 32 (s.val % 64)) * freq k.val) - prj x4 (latH x0 x2 x3 b s) ⟨128 * h.val + (64 * c.val + (48 + k.val)), by omega⟩ * Ideal.sin (FloatOps.sitofp (F := Ideal) .f32 (BitVec.ofNat 32 (s.val % 64)) * freq k.val) := by
  rw [val_main_v115_apply, val_main_v114_apply, val_main_v112_apply, q_col_x1, q_col_x2, q_col_cos1, q_col_sin1]
  rfl
theorem q_col_high (b : Fin 16) (s : Fin 2048) (h : Fin 8) (c : Fin 2) (k : Fin 16) :
    val_main_v120 (F := Ideal) x0 x2 x3 x4 (ix5 b s h c k) = prj x4 (latH x0 x2 x3 b s) ⟨128 * h.val + (64 * c.val + (48 + k.val)), by omega⟩ * Ideal.cos (FloatOps.sitofp (F := Ideal) .f32 (BitVec.ofNat 32 (s.val % 64)) * freq k.val) + prj x4 (latH x0 x2 x3 b s) ⟨128 * h.val + (64 * c.val + (32 + k.val)), by omega⟩ * Ideal.sin (FloatOps.sitofp (F := Ideal) .f32 (BitVec.ofNat 32 (s.val % 64)) * freq k.val) := by
  rw [val_main_v120_apply, val_main_v119_apply, val_main_v117_apply, q_col_x1, q_col_x2, q_col_cos2, q_col_sin2]
  rfl

theorem k_in (b : Fin 16) (s : Fin 2048) (j : Fin 1024) : val_main_v123 (F := Ideal) x0 x2 x3 x4 (ix3 b s j) = prj x4 (latH x0 x2 x3 b s) ⟨1024 + j.val, by omega⟩ := by
  have e : idx_main_v123 (ix3 b s j) = ix3 b s ⟨1024 + j.val, by omega⟩ := ix3_of _ _ _ _ rfl rfl rfl
  rw [val_main_v123_apply, e, proj_lat]
theorem k_head (b : Fin 16) (s : Fin 2048) (h : Fin 8) (c : Fin 2) (k : Fin 64) :
    val_main_v124 (F := Ideal) x0 x2 x3 x4 (ix5 b s h c k) = prj x4 (latH x0 x2 x3 b s) ⟨1024 + (128 * h.val + (64 * c.val + k.val)), by omega⟩ := by
  have e : idx_main_v124 (ix5 b s h c k) = ix3 b s ⟨128 * h.val + (64 * c.val + k.val), by omega⟩ := by
    refine ix3_of _ _ _ _ ?_ ?_ ?_
    · show ((((b.val * 2048 + s.val) * 8 + h.val) * 2 + c.val) * 64 + k.val) / 2097152 = b.val; omega
    · show ((((b.val * 2048 + s.val) * 8 + h.val) * 2 + c.val) * 64 + k.val) / 1024 % 2048 = s.val; omega
    · show ((((b.val * 2048 + s.val) * 8 + h.val) * 2 + c.val) * 64 + k.val) % 1024 = 128 * h.val + (64 * c.val + k.val); omega
  rw [val_main_v124_apply, e, k_in]

theorem k_row_x1 (b : Fin 16) (s : Fin 2048) (h : Fin 8) (c : Fin 2) (k : Fin 16) :
    val_main_v142 (F := Ideal) x0 x2 x3 x4 (ix5 b s h c k) = prj x4 (latH x0 x2 x3 b s) ⟨1024 + (128 * h.val + (64 * c.val + (0 + k.val))), by omega⟩ := by
  have e : idx_main_v125 (idx_main_v142 (ix5 b s h c k)) = ix5 b s h c ⟨0 + k.val, by omega⟩ := ix5_of _ _ _ _ _ _ rfl rfl rfl rfl (Nat.zero_add _).symm
  rw [val_main_v142_apply, val_main_v125_apply, e, k_head]
theorem k_row_x2 (b : Fin 16) (s : Fin 2048) (h : Fin 8) (c : Fin 2) (k : Fin 16) :
    val_main_v143 (F := Ideal) x0 x2 x3 x4 (ix5 b s h c k) = prj x4 (latH x0 x2 x3 b s) ⟨1024 + (128 * h.val + (64 * c.val + (16 + k.val))), by omega⟩ := by
  have e : idx_main_v125 (idx_main_v143 (ix5 b s h c k)) = ix5 b s h c ⟨16 + k.val, by omega⟩ := ix5_of _ _ _ _ _ _ rfl rfl rfl rfl rfl
  rw [val_main_v143_apply, val_main_v125_apply, e, k_head]
theorem k_row_cos1 (b : Fin 16) (s : Fin 2048) (h : Fin 8) (c : Fin 2) (k : Fin 16) :
    val_main_v144 (F := Ideal) (ix5 b s h c k) = Ideal.cos (FloatOps.sitofp (F := Ideal) .f32 (BitVec.ofNat 32 (s.val / 64)) * freq k.val) := by
  have e : idx_main_v139 (idx_main_v144 (ix5 b s h c k)) = ix2 s k := eq_ix2 _
  rw [val_main_v144_apply, val_main_v139_apply, e, val_main_v138_apply, k_row_angle]
  rfl
theorem k_row_sin1 (b : Fin 16) (s : Fin 2048) (h : Fin 8) (c : Fin 2) (k : Fin 16) :
    val_main_v146 (F := Ideal) (ix5 b s h c k) = Ideal.sin (FloatOps.sitofp (F := Ideal) .f32 (BitVec.ofNat 32 (s.val / 64)) * freq k.val) := by
  have e : idx_main_v141 (idx_main_v146 (ix5 b s h c k)) = ix2 s k := eq_ix2 _
  rw [val_main_v146_apply, val_main_v141_apply, e, val_main_v140_apply, k_row_angle]
  rfl
theorem k_row_cos2 (b : Fin 16) (s : Fin 2048) (h : Fin 8) (c : Fin 2) (k : Fin 16) :
    val_main_v149 (F := Ideal) (ix5 b s h c k) = Ideal.cos (FloatOps.sitofp (F := Ideal) .f32 (BitVec.ofNat 32 (s.val / 64)) * freq k.val) := by
  have e : idx_main_v139 (idx_main_v149 (ix5 b s h c k)) = ix2 s k := eq_ix2 _
  rw [val_main_v149_apply, val_main_v139_apply, e, val_main_v138_apply, k_row_angle]
  rfl
theorem k_row_sin2 (b : Fin 16) (s : Fin 2048) (h : Fin 8) (c : Fin 2) (k : Fin 16) :
    val_main_v151 (F := Ideal) (ix5 b s h c k) = Ideal.sin (FloatOps.sitofp (F := Ideal) .f32 (BitVec.ofNat 32 (s.val / 64)) * freq k.val) := by
  have e : idx_main_v141 (idx_main_v151 (ix5 b s h c k)) = ix2 s k := eq_ix2 _
  rw [val_main_v151_apply, val_main_v141_apply, e, val_main_v140_apply, k_row_angle]
  rfl

theorem k_row_low (b : Fin 16) (s : Fin 2048) (h : Fin 8) (c : Fin 2) (k : Fin 16) :
    val_main_v148 (F := Ideal) x0 x2 x3 x4 (ix5 b s h c k) = prj x4 (latH x0 x2 x3 b s) ⟨1024 + (128 * h.val + (64 * c.val + (0 + k.val))), by omega⟩ * Ideal.cos (FloatOps.sitofp (F := Ideal) .f32 (BitVec.ofNat 32 (s.val / 64)) * freq k.val) - prj x4 (latH x0 x2 x3 b s) ⟨1024 + (128 * h.val + (64 * c.val + (16 + k.val))), by omega⟩ * Ideal.sin (FloatOps.sitofp (F := Ideal) .f32 (BitVec.ofNat 32 (s.val / 64)) * freq k.val) := by
  rw [val_main_v148_apply, val_main_v147_apply, val_main_v145_apply, k_row_x1, k_row_x2, k_row_cos1, k_row_sin1]
  rfl
theorem k_row_high (b : Fin 16) (s : Fin 2048) (h : Fin 8) (c : Fin 2) (k : Fin 16) :
    val_main_v153 (F := Ideal) x0 x2 x3 x4 (ix5 b s h c k) = prj x4 (latH x0 x2 x3 b s) ⟨1024 + (128 * h.val + (64 * c.val + (16 + k.val))), by omega⟩ * Ideal.cos (FloatOps.sitofp (F := Ideal) .f32 (BitVec.ofNat 32 (s.val / 64)) * freq k.val) + prj x4 (latH x0 x2 x3 b s) ⟨1024 + (128 * h.val + (64 * c.val + (0 + k.val))), by omega⟩ * Ideal.sin (FloatOps.sitofp (F := Ideal) .f32 (BitVec.ofNat 32 (s.val / 64)) * freq k.val) := by
  rw [val_main_v153_apply, val_main_v152_apply, val_main_v150_apply, k_row_x1, k_row_x2, k_row_cos2, k_row_sin2]
  rfl

theorem k_col_x1 (b : Fin 16) (s : Fin 2048) (h : Fin 8) (c : Fin 2) (k : Fin 16) :
    val_main_v172 (F := Ideal) x0 x2 x3 x4 (ix5 b s h c k) = prj x4 (latH x0 x2 x3 b s) ⟨1024 + (128 * h.val + (64 * c.val + (32 + k.val))), by omega⟩ := by
  have e : idx_main_v155 (idx_main_v172 (ix5 b s h c k)) = ix5 b s h c ⟨32 + k.val, by omega⟩ := ix5_of _ _ _ _ _ _ rfl rfl rfl rfl rfl
  rw [val_main_v172_apply, val_main_v155_apply, e, k_head]
theorem k_col_x2 (b : Fin 16) (s : Fin 2048) (h : Fin 8) (c : Fin 2) (k : Fin 16) :
    val_main_v173 (F := Ideal) x0 x2 x3 x4 (ix5 b s h c k) = prj x4 (latH x0 x2 x3 b s) ⟨1024 + (128 * h.val + (64 * c.val + (48 + k.val))), by omega⟩ := by
  have e : idx_main_v155 (idx_main_v173 (ix5 b s h c k)) = ix5 b s h c ⟨48 + k.val, by omega⟩ := ix5_of _ _ _ _ _ _ rfl rfl rfl rfl (by show 32 + (16 + k.val) = 48 + k.val; omega)
  rw [val_main_v173_apply, val_main_v155_apply, e, k_head]
theorem k_col_cos1 (b : Fin 16) (s : Fin 2048) (h : Fin 8) (c : Fin 2) (k : Fin 16) :
    val_main_v174 (F := Ideal) (ix5 b s h c k) = Ideal.cos (FloatOps.sitofp (F := Ideal) .f32 (BitVec.ofNat 32 (s.val % 64)) * freq k.val) := by
  have e : idx_main_v169 (idx_main_v174 (ix5 b s h c k)) = ix2 s k := eq_ix2 _
  rw [val_main_v174_apply, val_main_v169_apply, e, val_main_v168_apply, k_col_angle]
  rfl
theorem k_col_sin1 (b : Fin 16) (s : Fin 2048) (h : Fin 8) (c : Fin 2) (k : Fin 16) :
    val_main_v176 (F := Ideal) (ix5 b s h c k) = Ideal.sin (FloatOps.sitofp (F := Ideal) .f32 (BitVec.ofNat 32 (s.val % 64)) * freq k.val) := by
  have e : idx_main_v171 (idx_main_v176 (ix5 b s h c k)) = ix2 s k := eq_ix2 _
  rw [val_main_v176_apply, val_main_v171_apply, e, val_main_v170_apply, k_col_angle]
  rfl
theorem k_col_cos2 (b : Fin 16) (s : Fin 2048) (h : Fin 8) (c : Fin 2) (k : Fin 16) :
    val_main_v179 (F := Ideal) (ix5 b s h c k) = Ideal.cos (FloatOps.sitofp (F := Ideal) .f32 (BitVec.ofNat 32 (s.val % 64)) * freq k.val) := by
  have e : idx_main_v169 (idx_main_v179 (ix5 b s h c k)) = ix2 s k := eq_ix2 _
  rw [val_main_v179_apply, val_main_v169_apply, e, val_main_v168_apply, k_col_angle]
  rfl
theorem k_col_sin2 (b : Fin 16) (s : Fin 2048) (h : Fin 8) (c : Fin 2) (k : Fin 16) :
    val_main_v181 (F := Ideal) (ix5 b s h c k) = Ideal.sin (FloatOps.sitofp (F := Ideal) .f32 (BitVec.ofNat 32 (s.val % 64)) * freq k.val) := by
  have e : idx_main_v171 (idx_main_v181 (ix5 b s h c k)) = ix2 s k := eq_ix2 _
  rw [val_main_v181_apply, val_main_v171_apply, e, val_main_v170_apply, k_col_angle]
  rfl

theorem k_col_low (b : Fin 16) (s : Fin 2048) (h : Fin 8) (c : Fin 2) (k : Fin 16) :
    val_main_v178 (F := Ideal) x0 x2 x3 x4 (ix5 b s h c k) = prj x4 (latH x0 x2 x3 b s) ⟨1024 + (128 * h.val + (64 * c.val + (32 + k.val))), by omega⟩ * Ideal.cos (FloatOps.sitofp (F := Ideal) .f32 (BitVec.ofNat 32 (s.val % 64)) * freq k.val) - prj x4 (latH x0 x2 x3 b s) ⟨1024 + (128 * h.val + (64 * c.val + (48 + k.val))), by omega⟩ * Ideal.sin (FloatOps.sitofp (F := Ideal) .f32 (BitVec.ofNat 32 (s.val % 64)) * freq k.val) := by
  rw [val_main_v178_apply, val_main_v177_apply, val_main_v175_apply, k_col_x1, k_col_x2, k_col_cos1, k_col_sin1]
  rfl
theorem k_col_high (b : Fin 16) (s : Fin 2048) (h : Fin 8) (c : Fin 2) (k : Fin 16) :
    val_main_v183 (F := Ideal) x0 x2 x3 x4 (ix5 b s h c k) = prj x4 (latH x0 x2 x3 b s) ⟨1024 + (128 * h.val + (64 * c.val + (48 + k.val))), by omega⟩ * Ideal.cos (FloatOps.sitofp (F := Ideal) .f32 (BitVec.ofNat 32 (s.val % 64)) * freq k.val) + prj x4 (latH x0 x2 x3 b s) ⟨1024 + (128 * h.val + (64 * c.val + (32 + k.val))), by omega⟩ * Ideal.sin (FloatOps.sitofp (F := Ideal) .f32 (BitVec.ofNat 32 (s.val % 64)) * freq k.val) := by
  rw [val_main_v183_apply, val_main_v182_apply, val_main_v180_apply, k_col_x1, k_col_x2, k_col_cos2, k_col_sin2]
  rfl

/-! A lane of a rotated head, in the four cases. -/

theorem low_eq (f : Fin 5632 → EReal) {i i' j j' : Fin 5632} {C C' : EReal} (hi : i.val = i'.val) (hj : j.val = j'.val) (hC : C = C') :
    f i * Ideal.cos C - f j * Ideal.sin C = f i' * Ideal.cos C' - f j' * Ideal.sin C' := by rw [Fin.ext hi, Fin.ext hj, hC]
theorem high_eq (f : Fin 5632 → EReal) {i i' j j' : Fin 5632} {C C' : EReal} (hi : i.val = i'.val) (hj : j.val = j'.val) (hC : C = C') :
    f i * Ideal.cos C + f j * Ideal.sin C = f i' * Ideal.cos C' + f j' * Ideal.sin C' := by rw [Fin.ext hi, Fin.ext hj, hC]
theorem angle_row (s l k : ℕ) (h : l % 64 < 32) (hk : l % 16 = k) : FloatOps.sitofp (F := Ideal) .f32 (BitVec.ofNat 32 (s / 64)) * freq k = angle s l := by
  unfold angle; rw [if_pos h, hk]
theorem angle_col (s l k : ℕ) (h : ¬ l % 64 < 32) (hk : l % 16 = k) : FloatOps.sitofp (F := Ideal) .f32 (BitVec.ofNat 32 (s % 64)) * freq k = angle s l := by
  unfold angle; rw [if_neg h, hk]

theorem q_turn (b : Fin 16) (s : Fin 2048) (h : Fin 8) (l : Fin 128) :
    val_main_v122 (F := Ideal) x0 x2 x3 x4 (ix5 b s h ⟨l.val / 64, by omega⟩ ⟨l.val % 64, by omega⟩)
      = turn (fun l => prj x4 (latH x0 x2 x3 b s) ⟨128 * h.val + l.val, by omega⟩) s.val l := by
  unfold turn
  refine (side32 _ _ _ b s h _ _).trans ?_
  by_cases h1 : l.val % 64 < 32
  · refine (dif_pos h1).trans ?_
    refine (side16 _ _ _ b s h _ _).trans ?_
    by_cases h2 : l.val % 64 < 16
    · refine (dif_pos h2).trans ?_
      rw [if_pos (by omega)]
      refine (q_row_low x0 x2 x3 x4 b s h _ _).trans ?_
      refine low_eq _ ?_ ?_ (angle_row s.val l.val _ h1 ?_)
      · show 128 * h.val + (64 * (l.val / 64) + (0 + l.val % 64)) = 128 * h.val + (l.val); omega
      · show 128 * h.val + (64 * (l.val / 64) + (16 + l.val % 64)) = 128 * h.val + ((l.val + 16) % 128); omega
      · show l.val % 16 = l.val % 64; omega
    · refine (dif_neg h2).trans ?_
      rw [if_neg (by omega)]
      refine (q_row_high x0 x2 x3 x4 b s h _ _).trans ?_
      refine high_eq _ ?_ ?_ (angle_row s.val l.val _ h1 ?_)
      · show 128 * h.val + (64 * (l.val / 64) + (16 + (l.val % 64 - 16))) = 128 * h.val + (l.val); omega
      · show 128 * h.val + (64 * (l.val / 64) + (0 + (l.val % 64 - 16))) = 128 * h.val + ((l.val + 112) % 128); omega
      · show l.val % 16 = l.val % 64 - 16; omega
  · refine (dif_neg h1).trans ?_
    refine (side16 _ _ _ b s h _ _).trans ?_
    by_cases h2 : l.val % 64 - 32 < 16
    · refine (dif_pos h2).trans ?_
      rw [if_pos (by omega)]
      refine (q_col_low x0 x2 x3 x4 b s h _ _).trans ?_
      refine low_eq _ ?_ ?_ (angle_col s.val l.val _ h1 ?_)
      · show 128 * h.val + (64 * (l.val / 64) + (32 + (l.val % 64 - 32))) = 128 * h.val + (l.val); omega
      · show 128 * h.val + (64 * (l.val / 64) + (48 + (l.val % 64 - 32))) = 128 * h.val + ((l.val + 16) % 128); omega
      · show l.val % 16 = l.val % 64 - 32; omega
    · refine (dif_neg h2).trans ?_
      rw [if_neg (by omega)]
      refine (q_col_high x0 x2 x3 x4 b s h _ _).trans ?_
      refine high_eq _ ?_ ?_ (angle_col s.val l.val _ h1 ?_)
      · show 128 * h.val + (64 * (l.val / 64) + (48 + (l.val % 64 - 32 - 16))) = 128 * h.val + (l.val); omega
      · show 128 * h.val + (64 * (l.val / 64) + (32 + (l.val % 64 - 32 - 16))) = 128 * h.val + ((l.val + 112) % 128); omega
      · show l.val % 16 = l.val % 64 - 32 - 16; omega

theorem k_turn (b : Fin 16) (s : Fin 2048) (h : Fin 8) (l : Fin 128) :
    val_main_v185 (F := Ideal) x0 x2 x3 x4 (ix5 b s h ⟨l.val / 64, by omega⟩ ⟨l.val % 64, by omega⟩)
      = turn (fun l => prj x4 (latH x0 x2 x3 b s) ⟨1024 + (128 * h.val + l.val), by omega⟩) s.val l := by
  unfold turn
  refine (side32 _ _ _ b s h _ _).trans ?_
  by_cases h1 : l.val % 64 < 32
  · refine (dif_pos h1).trans ?_
    refine (side16 _ _ _ b s h _ _).trans ?_
    by_cases h2 : l.val % 64 < 16
    · refine (dif_pos h2).trans ?_
      rw [if_pos (by omega)]
      refine (k_row_low x0 x2 x3 x4 b s h _ _).trans ?_
      refine low_eq _ ?_ ?_ (angle_row s.val l.val _ h1 ?_)
      · show 1024 + (128 * h.val + (64 * (l.val / 64) + (0 + l.val % 64))) = 1024 + (128 * h.val + (l.val)); omega
      · show 1024 + (128 * h.val + (64 * (l.val / 64) + (16 + l.val % 64))) = 1024 + (128 * h.val + ((l.val + 16) % 128)); omega
      · show l.val % 16 = l.val % 64; omega
    · refine (dif_neg h2).trans ?_
      rw [if_neg (by omega)]
      refine (k_row_high x0 x2 x3 x4 b s h _ _).trans ?_
      refine high_eq _ ?_ ?_ (angle_row s.val l.val _ h1 ?_)
      · show 1024 + (128 * h.val + (64 * (l.val / 64) + (16 + (l.val % 64 - 16)))) = 1024 + (128 * h.val + (l.val)); omega
      · show 1024 + (128 * h.val + (64 * (l.val / 64) + (0 + (l.val % 64 - 16)))) = 1024 + (128 * h.val + ((l.val + 112) % 128)); omega
      · show l.val % 16 = l.val % 64 - 16; omega
  · refine (dif_neg h1).trans ?_
    refine (side16 _ _ _ b s h _ _).trans ?_
    by_cases h2 : l.val % 64 - 32 < 16
    · refine (dif_pos h2).trans ?_
      rw [if_pos (by omega)]
      refine (k_col_low x0 x2 x3 x4 b s h _ _).trans ?_
      refine low_eq _ ?_ ?_ (angle_col s.val l.val _ h1 ?_)
      · show 1024 + (128 * h.val + (64 * (l.val / 64) + (32 + (l.val % 64 - 32)))) = 1024 + (128 * h.val + (l.val)); omega
      · show 1024 + (128 * h.val + (64 * (l.val / 64) + (48 + (l.val % 64 - 32)))) = 1024 + (128 * h.val + ((l.val + 16) % 128)); omega
      · show l.val % 16 = l.val % 64 - 32; omega
    · refine (dif_neg h2).trans ?_
      rw [if_neg (by omega)]
      refine (k_col_high x0 x2 x3 x4 b s h _ _).trans ?_
      refine high_eq _ ?_ ?_ (angle_col s.val l.val _ h1 ?_)
      · show 1024 + (128 * h.val + (64 * (l.val / 64) + (48 + (l.val % 64 - 32 - 16)))) = 1024 + (128 * h.val + (l.val)); omega
      · show 1024 + (128 * h.val + (64 * (l.val / 64) + (32 + (l.val % 64 - 32 - 16)))) = 1024 + (128 * h.val + ((l.val + 112) % 128)); omega
      · show l.val % 16 = l.val % 64 - 32 - 16; omega

theorem q_out (b : Fin 16) (h : Fin 8) (s : Fin 2048) (l : Fin 128) : val_main_v192 (F := Ideal) x0 x2 x3 x4 (ix4 b h s l) = latQ x0 x2 x3 x4 b h s l := by
  have e : idx_main_v190 (idx_main_v191 (ix4 b h s l)) = ix5 b s h ⟨l.val / 64, by omega⟩ ⟨l.val % 64, by omega⟩ := by
    refine ix5_of _ _ _ _ _ _ ?_ ?_ ?_ ?_ ?_
    · show (((b.val * 2048 + s.val) * 8 + h.val) * 128 + l.val) / 2097152 = b.val; omega
    · show (((b.val * 2048 + s.val) * 8 + h.val) * 128 + l.val) / 1024 % 2048 = s.val; omega
    · show (((b.val * 2048 + s.val) * 8 + h.val) * 128 + l.val) / 128 % 8 = h.val; omega
    · show (((b.val * 2048 + s.val) * 8 + h.val) * 128 + l.val) / 64 % 2 = l.val / 64; omega
    · show (((b.val * 2048 + s.val) * 8 + h.val) * 128 + l.val) % 64 = l.val % 64; omega
  refine (show val_main_v192 (F := Ideal) x0 x2 x3 x4 (ix4 b h s l) = val_main_v191 (F := Ideal) x0 x2 x3 x4 (ix4 b h s l) from rfl).trans ?_
  rw [val_main_v191_apply, val_main_v190_apply, e, val_main_v189_apply, q_turn]
  rfl

theorem k_out (b : Fin 16) (h : Fin 8) (s : Fin 2048) (l : Fin 128) : val_main_v195 (F := Ideal) x0 x2 x3 x4 (ix4 b h s l) = latK x0 x2 x3 x4 b h s l := by
  have e : idx_main_v193 (idx_main_v194 (ix4 b h s l)) = ix5 b s h ⟨l.val / 64, by omega⟩ ⟨l.val % 64, by omega⟩ := by
    refine ix5_of _ _ _ _ _ _ ?_ ?_ ?_ ?_ ?_
    · show (((b.val * 2048 + s.val) * 8 + h.val) * 128 + l.val) / 2097152 = b.val; omega
    · show (((b.val * 2048 + s.val) * 8 + h.val) * 128 + l.val) / 1024 % 2048 = s.val; omega
    · show (((b.val * 2048 + s.val) * 8 + h.val) * 128 + l.val) / 128 % 8 = h.val; omega
    · show (((b.val * 2048 + s.val) * 8 + h.val) * 128 + l.val) / 64 % 2 = l.val / 64; omega
    · show (((b.val * 2048 + s.val) * 8 + h.val) * 128 + l.val) % 64 = l.val % 64; omega
  refine (show val_main_v195 (F := Ideal) x0 x2 x3 x4 (ix4 b h s l) = val_main_v194 (F := Ideal) x0 x2 x3 x4 (ix4 b h s l) from rfl).trans ?_
  rw [val_main_v194_apply, val_main_v193_apply, e, k_turn]
  rfl

end Cert.Reference3Ideal.Rows

end

end
-- ==== Proof.MergeLoad.lean ====
/- The weight loads of the first grid point of the merge, as a program of its own, and its body split at its one condition. -/
module

public import proofs.«01_k».proof.Proof.Gen.Kernel2Ideal.Frame
public import proofs.«01_k».proof.Proof.Gen.Kernel2Ideal.Skeleton

@[expose] public section

set_option maxRecDepth 16384

noncomputable section

namespace Cert.Kernel2Ideal.Merge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel2Ideal.Gen

variable {F : FTy → Type} [FloatOps F]

local notation "𝕄" => MT nD τ sig Unit (Elt F) ℕ (Pipeline.UD sig nD τ) ℕ

/-- Whether the body loads the weights at coordinates `i`: it does at the first point only. -/
abbrev first (i : grid0.Coords) : Prop :=
  Scalar.cmpi .ne (Scalar.extui (Scalar.cmpi .eq (BitVec.ofNat 32 (i 0).val) 0#32)) 0#32 = 1#1

theorem first_iff (t : Fin cfg0.N) : first (grid0.coords t) ↔ t.val = 0 := by
  have ht : t.val < 64 := Nat.lt_of_lt_of_eq t.isLt N_0
  have e0 : (grid0.coords t 0).val = t.val / 1 % 64 := Pipeline.Grid.coords_val t 0 (by decide) rfl
  have h : (first (grid0.coords t)) ↔ t.val % 64 = 0 := by
    simp only [first, e0]
    word_cmp
  rw [h]; omega

/-- The position in its sequence of a tile's first token, as the body computes it from the tile's number. -/
def posOf (arg0 : BitVec 32) : BitVec 32 :=
  have v4 : BitVec 32 := Scalar.select (Scalar.cmpi .eq 4#32 0#32) 1#32 4#32
  have v5 : BitVec 32 := Scalar.remsi arg0 v4
  Scalar.muli (Scalar.select (Scalar.andi (Scalar.xori (Scalar.cmpi .slt v5 0#32) (Scalar.cmpi .slt v4 0#32)) (Scalar.cmpi .ne v5 0#32)) (Scalar.addi v5 v4) v5) 512#32

/-- The same at grid coordinates. -/
def pos0 (i : grid0.Coords) : BitVec 32 := posOf (BitVec.ofNat 32 (i 0).val)

theorem posOf_eq : ∀ n : Fin 64, posOf (BitVec.ofNat 32 n.val) = BitVec.ofNat 32 (n.val % 4 * 512) := by decide +kernel

theorem pos0_eq (t : Fin cfg0.N) : pos0 (grid0.coords t) = BitVec.ofNat 32 (t.val % 4 * 512) := by
  have ht : t.val < 64 := Nat.lt_of_lt_of_eq t.isLt N_0
  have e0 : (grid0.coords t 0).val = t.val / 1 % 64 := Pipeline.Grid.coords_val t 0 (by decide) rfl
  unfold pos0
  rw [e0, Nat.div_one, Nat.mod_eq_of_lt ht]
  exact posOf_eq ⟨t.val, ht⟩

variable (i : grid0.Coords)
  (arg1 : Memref sig .tc .vmem S512x1024 .f32) (harg1 : arg1.IsWhole) (arg2 : Memref sig .tc .vmem S1x8x512x128 .bf16) (harg2 : arg2.IsWhole) (arg3 : Memref sig .tc .vmem S512x512 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S512x2048 .bf16) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x512 .f32) (harg13 : arg13.IsWhole) (arg20 : Memref sig .tc .vmem S512x1024 .f32) (harg20 : arg20.IsWhole) (arg21 : Memref sig .tc .vmem S512x128 .bf16) (harg21 : arg21.IsWhole) (arg22 : Memref sig .tc .vmem S1024x1024 .bf16) (harg22 : arg22.IsWhole) (arg23 : Memref sig .tc .vmem S512x1024 .bf16) (harg23 : arg23.IsWhole) (arg24 : Memref sig .tc .vmem S1024x1024 .bf16) (harg24 : arg24.IsWhole) (arg25 : Memref sig .tc .vmem S1024x5632 .bf16) (harg25 : arg25.IsWhole) (arg26 : Memref sig .tc .vmem S2816x1024 .bf16) (harg26 : arg26.IsWhole)
  (alloca_r0 : Memref sig .tc .vmem S2x256x128 .f32) (halloca_r0 : alloca_r0.IsWhole) (alloca_r1 : Memref sig .tc .vmem S2x256x1024 .f32) (halloca_r1 : alloca_r1.IsWhole) (alloca_r2 : Memref sig .tc .vmem S2x256x1024 .f32) (halloca_r2 : alloca_r2.IsWhole) (alloca_r3 : Memref sig .tc .vmem S2x256x1024 .f32) (halloca_r3 : alloca_r3.IsWhole) (alloca_r4 : Memref sig .tc .vmem S2x128x5632 .f32) (halloca_r4 : alloca_r4.IsWhole) (alloca_r5 : Memref sig .tc .vmem S2x256x1024 .f32) (halloca_r5 : alloca_r5.IsWhole)

/-- What the body runs under its condition: the bands of the six weight arrays in turn, each copied into one of two
    staging slots while the slot before is rounded and stored. -/
def load : Prog (TpuEff nD τ sig (Elt F) Λ₀ .tc) PUnit := do
  k0_part23 i arg1 harg1 arg2 harg2 arg3 harg3 arg4 harg4 arg5 harg5 arg6 harg6 arg7 harg7 arg8 harg8 arg9 harg9 arg10 harg10 arg11 harg11 arg12 harg12 arg13 harg13 (Memref.whole main_v3) (Memref.isWhole_whole _) (Memref.whole main_arg9) (Memref.isWhole_whole _) (Memref.whole main_arg10) (Memref.isWhole_whole _) (Memref.whole main_arg11) (Memref.isWhole_whole _) (Memref.whole main_arg12) (Memref.isWhole_whole _) (Memref.whole main_arg13) (Memref.isWhole_whole _) arg20 harg20 arg21 harg21 arg22 harg22 arg23 harg23 arg24 harg24 arg25 harg25 arg26 harg26 alloca_r0 halloca_r0 cc0_scoped1 alloca_r1 halloca_r1 cc0_scoped3 alloca_r2 halloca_r2 cc0_scoped5 alloca_r3 halloca_r3 cc0_scoped7 alloca_r4 halloca_r4 cc0_scoped9 alloca_r5 halloca_r5 cc0_scoped11
  let v743_r5 : Memref sig .tc .hbm S1x1x2816x1024 .f32 := (Memref.whole main_arg13).slice (Rect.unit (s := S1x2x2816x1024) ![0, 1, 0, 0] S1x1x2816x1024.size inb_S1x2x2816x1024_S1x1x2816x1024_0_1_0_0) (fun _ => rfl)
  let v744_r5 : Memref sig .tc .hbm S2816x1024 .f32 := v743_r5.squeeze S2816x1024 squeezes_S1x1x2816x1024_S2816x1024
  let v745_r5 : Memref sig .tc .hbm S256x1024 .f32 := v744_r5.slice (Rect.unit (s := S2816x1024) ![2560, 0] S256x1024.size inb_S2816x1024_S256x1024_2560_0) (fun _ => rfl)
  let v739_r5 : DmaSems sig S1 := cc0_scoped11.slice (Rect.unit (s := S2) ![0] S1.size inb_S2_S1_0)
  let v740_r5 : DmaSems sig S_ := v739_r5.squeeze S_ squeezes_S1_S_
  let v741_r5 : Memref sig .tc .vmem S1x256x1024 .f32 := alloca_r5.slice (Rect.unit (s := S2x256x1024) ![0, 0, 0] S1x256x1024.size inb_S2x256x1024_S1x256x1024_0_0_0) (fun _ => rfl)
  let v742_r5 : Memref sig .tc .vmem S256x1024 .f32 := v741_r5.squeeze S256x1024 squeezes_S1x256x1024_S256x1024
  Prog.lift (.waitDma2 v740_r5.sem v745_r5 v742_r5 (View.wordExact_bits rfl) ((View.wordExact_bits rfl).reshape _ _))
  let v746_r5 : Vec F S1x256x1024 .f32 ← Prog.lift (.load alloca_r5 (Rect.unit (s := S2x256x1024) ![0, 0, 0] S1x256x1024.size inb_S2x256x1024_S1x256x1024_0_0_0).toLoadRect (View.loadsAt_vmem h_S1x256x1024))
  let v749_r5 : Vec F S256x1024 .bf16 ← Prog.lift (.load arg26 (Rect.unit (s := S2816x1024) ![2560, 0] S256x1024.size inb_S2816x1024_S256x1024_2560_0).toLoadRect (View.loadsAt_vmem h_S256x1024))
  Prog.lift (.store arg26 (Rect.unit (s := S2816x1024) ![2560, 0] S256x1024.size inb_S2816x1024_S256x1024_2560_0) (k0_pay33 v746_r5) Finset.univ (View.stores_vmem h_S256x1024 (harg26.storeExact_slice rfl _ packedbf16_S2816x1024_S256x1024_2560_0) (fun _ => rfl)) (.inl rfl))
  pure ⟨⟩
theorem part25_any (i j : grid0.Coords) : k0_part25 (F := F) i = k0_part25 j := rfl
theorem part26_any (i j : grid0.Coords) : k0_part26 (F := F) i = k0_part26 j := rfl
theorem part27_any (i j : grid0.Coords) : k0_part27 (F := F) i = k0_part27 j := rfl
theorem part28_any (i j : grid0.Coords) : k0_part28 (F := F) i = k0_part28 j := rfl
theorem part29_any (i j : grid0.Coords) : k0_part29 (F := F) i = k0_part29 j := rfl
theorem part30_any (i j : grid0.Coords) : k0_part30 (F := F) i = k0_part30 j := rfl
theorem part31_any (i j : grid0.Coords) : k0_part31 (F := F) i = k0_part31 j := rfl
theorem part32_any (i j : grid0.Coords) : k0_part32 (F := F) i = k0_part32 j := rfl
theorem part33_any (i j : grid0.Coords) : k0_part33 (F := F) i = k0_part33 j := rfl
theorem part34_any (i j : grid0.Coords) : k0_part34 (F := F) i = k0_part34 j := rfl
theorem part35_any (i j : grid0.Coords) : k0_part35 (F := F) i = k0_part35 j := rfl
theorem part36_any (i j : grid0.Coords) : k0_part36 (F := F) i = k0_part36 j := rfl
theorem part37_any (i j : grid0.Coords) : k0_part37 (F := F) i = k0_part37 j := rfl

set_option maxRecDepth 65536 in
set_option maxHeartbeats 4000000 in
/-- At the first point the body is the loads, then what it is at any later point of the same position. -/
theorem merge_first (j : grid0.Coords) (hi : first i) (hj : ¬ first j) (hp : pos0 j = pos0 i) :
    cc0_merge (F := F) i arg1 harg1 arg2 harg2 arg3 harg3 arg4 harg4 arg5 harg5 arg6 harg6 arg7 harg7 arg8 harg8 arg9 harg9 arg10 harg10 arg11 harg11 arg12 harg12 arg13 harg13 (Memref.whole main_v3) (Memref.isWhole_whole _) (Memref.whole main_arg9) (Memref.isWhole_whole _) (Memref.whole main_arg10) (Memref.isWhole_whole _) (Memref.whole main_arg11) (Memref.isWhole_whole _) (Memref.whole main_arg12) (Memref.isWhole_whole _) (Memref.whole main_arg13) (Memref.isWhole_whole _) arg20 harg20 arg21 harg21 arg22 harg22 arg23 harg23 arg24 harg24 arg25 harg25 arg26 harg26 alloca_r0 halloca_r0 cc0_scoped1 alloca_r1 halloca_r1 cc0_scoped3 alloca_r2 halloca_r2 cc0_scoped5 alloca_r3 halloca_r3 cc0_scoped7 alloca_r4 halloca_r4 cc0_scoped9 alloca_r5 halloca_r5 cc0_scoped11
      = load i arg1 harg1 arg2 harg2 arg3 harg3 arg4 harg4 arg5 harg5 arg6 harg6 arg7 harg7 arg8 harg8 arg9 harg9 arg10 harg10 arg11 harg11 arg12 harg12 arg13 harg13 arg20 harg20 arg21 harg21 arg22 harg22 arg23 harg23 arg24 harg24 arg25 harg25 arg26 harg26 alloca_r0 halloca_r0 alloca_r1 halloca_r1 alloca_r2 halloca_r2 alloca_r3 halloca_r3 alloca_r4 halloca_r4 alloca_r5 halloca_r5 >>= fun _ => cc0_merge j arg1 harg1 arg2 harg2 arg3 harg3 arg4 harg4 arg5 harg5 arg6 harg6 arg7 harg7 arg8 harg8 arg9 harg9 arg10 harg10 arg11 harg11 arg12 harg12 arg13 harg13 (Memref.whole main_v3) (Memref.isWhole_whole _) (Memref.whole main_arg9) (Memref.isWhole_whole _) (Memref.whole main_arg10) (Memref.isWhole_whole _) (Memref.whole main_arg11) (Memref.isWhole_whole _) (Memref.whole main_arg12) (Memref.isWhole_whole _) (Memref.whole main_arg13) (Memref.isWhole_whole _) arg20 harg20 arg21 harg21 arg22 harg22 arg23 harg23 arg24 harg24 arg25 harg25 arg26 harg26 alloca_r0 halloca_r0 cc0_scoped1 alloca_r1 halloca_r1 cc0_scoped3 alloca_r2 halloca_r2 cc0_scoped5 alloca_r3 halloca_r3 cc0_scoped7 alloca_r4 halloca_r4 cc0_scoped9 alloca_r5 halloca_r5 cc0_scoped11 := by
  rw [cc0_merge_eq_skeleton]
  unfold cc0_merge_skel load
  rw [k0_part24_eq_skeleton]
  unfold k0_part24_skel
  dsimp only
  rw [dif_pos hi, dif_neg hj]
  unfold pos0 posOf at hp
  dsimp only at hp
  rw [hp, part25_any i j, part26_any i j, part27_any i j, part28_any i j, part29_any i j, part30_any i j, part31_any i j, part32_any i j, part33_any i j, part34_any i j, part35_any i j, part36_any i j, part37_any i j]
  rfl

end Cert.Kernel2Ideal.Merge
-- ==== Proof.MergeStage.lean ====
/- The weight arrays of the merge as the loads read them, and a stored band. -/
module

public import proofs.«01_k».proof.Proof.MergeLoad
public import proofs.«01_k».proof.Proof.Slot

@[expose] public section

set_option maxRecDepth 16384

noncomputable section

namespace Cert.Kernel2Ideal.Merge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel2Ideal.Gen Cert.Slot

variable {F : FTy → Type} [FloatOps F]

local notation "𝕄" => MT nD τ sig Unit (Elt F) ℕ (Pipeline.UD sig nD τ) ℕ

/-- Of HBM: the stack of pooling weights, as one matrix. -/
abbrev wplV : Memref sig .tc .hbm S512x128 .f32 :=
  ((Memref.whole main_v3).slice (Rect.unit ![0, 0, 0] S1x512x128.size inb_S1x512x128_S1x512x128_0_0_0) (fun _ => rfl)).squeeze
    S512x128 squeezes_S1x512x128_S512x128

/-- The same rounded: what scratch buffer 0 holds. -/
def wpl (f : wplV.view.ty.Contents (Elt F)) : FVec F S512x128 .bf16 := truncf .bf16 (wplV.view.read (Elt F) f) bitsLt_bf16_f32

/-- Of HBM: the weights of the attention branch. -/
abbrev wbaV : Memref sig .tc .hbm S1024x1024 .f32 :=
  ((Memref.whole main_arg9).slice (Rect.unit ![0, 0, 0] S1x1024x1024.size inb_S1x1024x1024_S1x1024x1024_0_0_0) (fun _ => rfl)).squeeze
    S1024x1024 squeezes_S1x1024x1024_S1024x1024

/-- The same rounded: what scratch buffer 1 holds. -/
def wba (f : wbaV.view.ty.Contents (Elt F)) : FVec F S1024x1024 .bf16 := truncf .bf16 (wbaV.view.read (Elt F) f) bitsLt_bf16_f32

/-- Of HBM: the weights of the pooling branch. -/
abbrev wbpV : Memref sig .tc .hbm S512x1024 .f32 :=
  ((Memref.whole main_arg10).slice (Rect.unit ![0, 0, 0] S1x512x1024.size inb_S1x512x1024_S1x512x1024_0_0_0) (fun _ => rfl)).squeeze
    S512x1024 squeezes_S1x512x1024_S512x1024

/-- The same rounded: what scratch buffer 2 holds. -/
def wbp (f : wbpV.view.ty.Contents (Elt F)) : FVec F S512x1024 .bf16 := truncf .bf16 (wbpV.view.read (Elt F) f) bitsLt_bf16_f32

/-- Of HBM: the output weights. -/
abbrev woV : Memref sig .tc .hbm S1024x1024 .f32 :=
  ((Memref.whole main_arg11).slice (Rect.unit ![0, 0, 0] S1x1024x1024.size inb_S1x1024x1024_S1x1024x1024_0_0_0) (fun _ => rfl)).squeeze
    S1024x1024 squeezes_S1x1024x1024_S1024x1024

/-- The same rounded: what scratch buffer 3 holds. -/
def wo (f : woV.view.ty.Contents (Elt F)) : FVec F S1024x1024 .bf16 := truncf .bf16 (woV.view.read (Elt F) f) bitsLt_bf16_f32

/-- Of HBM: the second matrix of the stack of gate-up weights. -/
abbrev wguV : Memref sig .tc .hbm S1024x5632 .f32 :=
  ((Memref.whole main_arg12).slice (Rect.unit ![0, 1, 0, 0] S1x1x1024x5632.size inb_S1x2x1024x5632_S1x1x1024x5632_0_1_0_0) (fun _ => rfl)).squeeze
    S1024x5632 squeezes_S1x1x1024x5632_S1024x5632

/-- The same rounded: what scratch buffer 4 holds. -/
def wgu (f : wguV.view.ty.Contents (Elt F)) : FVec F S1024x5632 .bf16 := truncf .bf16 (wguV.view.read (Elt F) f) bitsLt_bf16_f32

/-- Of HBM: the second matrix of the stack of down weights. -/
abbrev wdnV : Memref sig .tc .hbm S2816x1024 .f32 :=
  ((Memref.whole main_arg13).slice (Rect.unit ![0, 1, 0, 0] S1x1x2816x1024.size inb_S1x2x2816x1024_S1x1x2816x1024_0_1_0_0) (fun _ => rfl)).squeeze
    S2816x1024 squeezes_S1x1x2816x1024_S2816x1024

/-- The same rounded: what scratch buffer 5 holds. -/
def wdn (f : wdnV.view.ty.Contents (Elt F)) : FVec F S2816x1024 .bf16 := truncf .bf16 (wdnV.view.read (Elt F) f) bitsLt_bf16_f32

/-- A stored band is the copied block, rounded. -/
theorem band_128 (v : Vec F S1x256x128 .f32) (w : FVec F S256x128 .f32) (h : shapeCast S256x128 v shapeCasts_S1x256x128_S256x128 = w) :
    k0_pay2 v = truncf .bf16 w bitsLt_bf16_f32 := by
  subst h; exact shapeCast_self _ _

/-- A stored band is the copied block, rounded. -/
theorem band_1024 (v : Vec F S1x256x1024 .f32) (w : FVec F S256x1024 .f32) (h : shapeCast S256x1024 v shapeCasts_S1x256x1024_S256x1024 = w) :
    k0_pay4 v = truncf .bf16 w bitsLt_bf16_f32 := by
  subst h; exact shapeCast_self _ _

/-- A stored band is the copied block, rounded. -/
theorem band_5632 (v : Vec F S1x128x5632 .f32) (w : FVec F S128x5632 .f32) (h : shapeCast S128x5632 v shapeCasts_S1x128x5632_S128x5632 = w) :
    k0_pay14 v = truncf .bf16 w bitsLt_bf16_f32 := by
  subst h; exact shapeCast_self _ _

end Cert.Kernel2Ideal.Merge
-- ==== Proof.MergeLoadRun.lean ====
/- What the weight loads of the merge leave. -/
module

public import proofs.«01_k».proof.Proof.MergeStage

@[expose] public section

set_option maxRecDepth 16384

noncomputable section

namespace Cert.Kernel2Ideal.Merge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel2Ideal.Gen Cert.Slot

variable {F : FTy → Type} [FloatOps F]

local notation "𝕄" => MT nD τ sig Unit (Elt F) ℕ (Pipeline.UD sig nD τ) ℕ

abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f
abbrev hbM0 : Memref sig .tc .hbm S1x512x128 .f32 := Memref.whole main_v3
abbrev hbM1 : Memref sig .tc .hbm S1x1024x1024 .f32 := Memref.whole main_arg9
abbrev hbM2 : Memref sig .tc .hbm S1x512x1024 .f32 := Memref.whole main_arg10
abbrev hbM3 : Memref sig .tc .hbm S1x1024x1024 .f32 := Memref.whole main_arg11
abbrev hbM4 : Memref sig .tc .hbm S1x2x1024x5632 .f32 := Memref.whole main_arg12
abbrev hbM5 : Memref sig .tc .hbm S1x2x2816x1024 .f32 := Memref.whole main_arg13

set_option maxHeartbeats 8000000 in set_option sl_exec.dmaWindow true in set_option sl_exec.dmaWindowSet true in
theorem load_run (c : Dev nD) (i : grid0.Coords) (arg1 : Memref sig .tc .vmem S512x1024 .f32) (harg1 : arg1.IsWhole) (arg2 : Memref sig .tc .vmem S1x8x512x128 .bf16) (harg2 : arg2.IsWhole) (arg3 : Memref sig .tc .vmem S512x512 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S512x2048 .bf16) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x512 .f32) (harg13 : arg13.IsWhole) (arg20 : Memref sig .tc .vmem S512x1024 .f32) (harg20 : arg20.IsWhole) (arg21 : Memref sig .tc .vmem S512x128 .bf16) (harg21 : arg21.IsWhole) (arg22 : Memref sig .tc .vmem S1024x1024 .bf16) (harg22 : arg22.IsWhole) (arg23 : Memref sig .tc .vmem S512x1024 .bf16) (harg23 : arg23.IsWhole) (arg24 : Memref sig .tc .vmem S1024x1024 .bf16) (harg24 : arg24.IsWhole) (arg25 : Memref sig .tc .vmem S1024x5632 .bf16) (harg25 : arg25.IsWhole) (arg26 : Memref sig .tc .vmem S2816x1024 .bf16) (harg26 : arg26.IsWhole)
    (alloca_r0 : Memref sig .tc .vmem S2x256x128 .f32) (halloca_r0 : alloca_r0.IsWhole) (alloca_r1 : Memref sig .tc .vmem S2x256x1024 .f32) (halloca_r1 : alloca_r1.IsWhole) (alloca_r2 : Memref sig .tc .vmem S2x256x1024 .f32) (halloca_r2 : alloca_r2.IsWhole) (alloca_r3 : Memref sig .tc .vmem S2x256x1024 .f32) (halloca_r3 : alloca_r3.IsWhole) (alloca_r4 : Memref sig .tc .vmem S2x128x5632 .f32) (halloca_r4 : alloca_r4.IsWhole) (alloca_r5 : Memref sig .tc .vmem S2x256x1024 .f32) (halloca_r5 : alloca_r5.IsWhole)
    (fh0 : HbBuf (F := F) c hbM0) (fh1 : HbBuf (F := F) c hbM1) (fh2 : HbBuf (F := F) c hbM2) (fh3 : HbBuf (F := F) c hbM3) (fh4 : HbBuf (F := F) c hbM4) (fh5 : HbBuf (F := F) c hbM5) (W : Waits sig Unit) (K : PUnit → sProp 𝕄) :
    iprop((∃ d, owns (c : Thread nD τ) arg21 fullShare d)
        ∗ (∃ d, owns (c : Thread nD τ) arg22 fullShare d)
        ∗ (∃ d, owns (c : Thread nD τ) arg23 fullShare d)
        ∗ (∃ d, owns (c : Thread nD τ) arg24 fullShare d)
        ∗ (∃ d, owns (c : Thread nD τ) arg25 fullShare d)
        ∗ (∃ d, owns (c : Thread nD τ) arg26 fullShare d)
        ∗ (∃ d, owns (c : Thread nD τ) alloca_r0 fullShare d)
        ∗ (∃ d, owns (c : Thread nD τ) alloca_r1 fullShare d)
        ∗ (∃ d, owns (c : Thread nD τ) alloca_r2 fullShare d)
        ∗ (∃ d, owns (c : Thread nD τ) alloca_r3 fullShare d)
        ∗ (∃ d, owns (c : Thread nD τ) alloca_r4 fullShare d)
        ∗ (∃ d, owns (c : Thread nD τ) alloca_r5 fullShare d)
        ∗ semVal ((c : Thread nD τ), SemLoc.dma 25) 0
        ∗ semVal ((c : Thread nD τ), SemLoc.dma 26) 0
        ∗ semVal ((c : Thread nD τ), SemLoc.dma 27) 0
        ∗ semVal ((c : Thread nD τ), SemLoc.dma 28) 0
        ∗ semVal ((c : Thread nD τ), SemLoc.dma 29) 0
        ∗ semVal ((c : Thread nD τ), SemLoc.dma 30) 0
        ∗ semVal ((c : Thread nD τ), SemLoc.dma 31) 0
        ∗ semVal ((c : Thread nD τ), SemLoc.dma 32) 0
        ∗ semVal ((c : Thread nD τ), SemLoc.dma 33) 0
        ∗ semVal ((c : Thread nD τ), SemLoc.dma 34) 0
        ∗ semVal ((c : Thread nD τ), SemLoc.dma 35) 0
        ∗ semVal ((c : Thread nD τ), SemLoc.dma 36) 0
        ∗ hbPt c hbM0 fh0
        ∗ hbPt c hbM1 fh1
        ∗ hbPt c hbM2 fh2
        ∗ hbPt c hbM3 fh3
        ∗ hbPt c hbM4 fh4
        ∗ hbPt c hbM5 fh5 ∗ owes (c : Thread nD τ) 0 W
        ∗ (iprop(owns (c : Thread nD τ) arg21 fullShare (wpl fh0)
        ∗ owns (c : Thread nD τ) arg22 fullShare (wba fh1)
        ∗ owns (c : Thread nD τ) arg23 fullShare (wbp fh2)
        ∗ owns (c : Thread nD τ) arg24 fullShare (wo fh3)
        ∗ owns (c : Thread nD τ) arg25 fullShare (wgu fh4)
        ∗ owns (c : Thread nD τ) arg26 fullShare (wdn fh5)
        ∗ (∃ d, owns (c : Thread nD τ) alloca_r0 fullShare d)
        ∗ (∃ d, owns (c : Thread nD τ) alloca_r1 fullShare d)
        ∗ (∃ d, owns (c : Thread nD τ) alloca_r2 fullShare d)
        ∗ (∃ d, owns (c : Thread nD τ) alloca_r3 fullShare d)
        ∗ (∃ d, owns (c : Thread nD τ) alloca_r4 fullShare d)
        ∗ (∃ d, owns (c : Thread nD τ) alloca_r5 fullShare d)
        ∗ semVal ((c : Thread nD τ), SemLoc.dma 25) 0
        ∗ semVal ((c : Thread nD τ), SemLoc.dma 26) 0
        ∗ semVal ((c : Thread nD τ), SemLoc.dma 27) 0
        ∗ semVal ((c : Thread nD τ), SemLoc.dma 28) 0
        ∗ semVal ((c : Thread nD τ), SemLoc.dma 29) 0
        ∗ semVal ((c : Thread nD τ), SemLoc.dma 30) 0
        ∗ semVal ((c : Thread nD τ), SemLoc.dma 31) 0
        ∗ semVal ((c : Thread nD τ), SemLoc.dma 32) 0
        ∗ semVal ((c : Thread nD τ), SemLoc.dma 33) 0
        ∗ semVal ((c : Thread nD τ), SemLoc.dma 34) 0
        ∗ semVal ((c : Thread nD τ), SemLoc.dma 35) 0
        ∗ semVal ((c : Thread nD τ), SemLoc.dma 36) 0
        ∗ hbPt c hbM0 fh0
        ∗ hbPt c hbM1 fh1
        ∗ hbPt c hbM2 fh2
        ∗ hbPt c hbM3 fh3
        ∗ hbPt c hbM4 fh4
        ∗ hbPt c hbM5 fh5 ∗ ∃ W', owes (c : Thread nD τ) 0 W') -∗ K ⟨⟩))
      ⊢ wp frame (wpE (defs₀ (F := F)) Variants.none c none) Set.univ (load i arg1 harg1 arg2 harg2 arg3 harg3 arg4 harg4 arg5 harg5 arg6 harg6 arg7 harg7 arg8 harg8 arg9 harg9 arg10 harg10 arg11 harg11 arg12 harg12 arg13 harg13 arg20 harg20 arg21 harg21 arg22 harg22 arg23 harg23 arg24 harg24 arg25 harg25 arg26 harg26 alloca_r0 halloca_r0 alloca_r1 halloca_r1 alloca_r2 halloca_r2 alloca_r3 halloca_r3 alloca_r4 halloca_r4 alloca_r5 halloca_r5) K := by
  unfold load
  rw [k0_part23_eq_skeleton]; unfold k0_part23_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
  unfold owns
  iintro ⟨⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, ⟨%ds10, %fs10, -, HS10⟩, ⟨%ds11, %fs11, -, HS11⟩, Hq0, Hq1, Hq2, Hq3, Hq4, Hq5, Hq6, Hq7, Hq8, Hq9, Hq10, Hq11, Hh0, Hh1, Hh2, Hh3, Hh4, Hh5, HW, Hk⟩
  sl_exec
  sl_step
  iapply Hk
  isplitl [HS0]
  · iexists _; isplitr; swap; · iexact HS0
    ipureintro
    funext y
    refine View.read_writes_apply_of_pieces (Val := Elt F) arg21.view fs0 (e := .bf16) (wpl fh0) _ ?_ y ?_
    · simp only [List.forall_mem_cons, List.not_mem_nil, false_imp_iff, implies_true, and_true]
      refine ⟨fun x => congrFun (band_128 (load_run.sl.v566_r0 c alloca_r0 fh0 fs6) (load_run.sl.dma0_1 c fh0) ?_) x, fun x => congrFun (band_128 (load_run.sl.v553_r0 c alloca_r0 fh0 fs6) (load_run.sl.dma0 c fh0) ?_) x⟩
      · unfold load_run.sl.v566_r0; exact slot_hit _ _ _ _ _ _ _
      · unfold load_run.sl.v553_r0; rw [slot_miss (hd := Rect.unit_disjoint 0 (by decide))]; exact slot_hit _ _ _ _ _ _ _
    · have hy : (y 0).val < 512 := (y 0).isLt
      obtain h | h : (0 ≤ (y 0).val ∧ (y 0).val < 0 + 256) ∨ (256 ≤ (y 0).val ∧ (y 0).val < 256 + 256) := by omega
      · exact ⟨_, List.Mem.tail _ (List.Mem.head _), rows_mem (n := 512) (m := 128) (k := 256) (o := 0) y (by decide) h⟩
      · exact ⟨_, List.Mem.head _, rows_mem (n := 512) (m := 128) (k := 256) (o := 256) y (by decide) h⟩
  isplitl [HS1]
  · iexists _; isplitr; swap; · iexact HS1
    ipureintro
    funext y
    refine View.read_writes_apply_of_pieces (Val := Elt F) arg22.view fs1 (e := .bf16) (wba fh1) _ ?_ y ?_
    · simp only [List.forall_mem_cons, List.not_mem_nil, false_imp_iff, implies_true, and_true]
      refine ⟨fun x => congrFun (band_1024 (load_run.sl.v606_r1 c alloca_r1 fh1 fs7) (load_run.sl.dma12 c fh1) ?_) x, fun x => congrFun (band_1024 (load_run.sl.v593_r1 c alloca_r1 fh1 fs7) (load_run.sl.dma9 c fh1) ?_) x, fun x => congrFun (band_1024 (load_run.sl.v573_r1 c alloca_r1 fh1 fs7) (load_run.sl.dma6_1 c fh1) ?_) x, fun x => congrFun (band_1024 (load_run.sl.v553_r1 c alloca_r1 fh1 fs7) (load_run.sl.dma6 c fh1) ?_) x⟩
      · unfold load_run.sl.v606_r1; exact slot_hit _ _ _ _ _ _ _
      · unfold load_run.sl.v593_r1; rw [slot_miss (hd := Rect.unit_disjoint 0 (by decide))]; exact slot_hit _ _ _ _ _ _ _
      · unfold load_run.sl.v573_r1; rw [slot_miss (hd := Rect.unit_disjoint 0 (by decide))]; exact slot_hit _ _ _ _ _ _ _
      · unfold load_run.sl.v553_r1; rw [slot_miss (hd := Rect.unit_disjoint 0 (by decide))]; exact slot_hit _ _ _ _ _ _ _
    · have hy : (y 0).val < 1024 := (y 0).isLt
      obtain h | h | h | h : (0 ≤ (y 0).val ∧ (y 0).val < 0 + 256) ∨ (256 ≤ (y 0).val ∧ (y 0).val < 256 + 256) ∨ (512 ≤ (y 0).val ∧ (y 0).val < 512 + 256) ∨ (768 ≤ (y 0).val ∧ (y 0).val < 768 + 256) := by omega
      · exact ⟨_, List.Mem.tail _ (List.Mem.tail _ (List.Mem.tail _ (List.Mem.head _))), rows_mem (n := 1024) (m := 1024) (k := 256) (o := 0) y (by decide) h⟩
      · exact ⟨_, List.Mem.tail _ (List.Mem.tail _ (List.Mem.head _)), rows_mem (n := 1024) (m := 1024) (k := 256) (o := 256) y (by decide) h⟩
      · exact ⟨_, List.Mem.tail _ (List.Mem.head _), rows_mem (n := 1024) (m := 1024) (k := 256) (o := 512) y (by decide) h⟩
      · exact ⟨_, List.Mem.head _, rows_mem (n := 1024) (m := 1024) (k := 256) (o := 768) y (by decide) h⟩
  isplitl [HS2]
  · iexists _; isplitr; swap; · iexact HS2
    ipureintro
    funext y
    refine View.read_writes_apply_of_pieces (Val := Elt F) arg23.view fs2 (e := .bf16) (wbp fh2) _ ?_ y ?_
    · simp only [List.forall_mem_cons, List.not_mem_nil, false_imp_iff, implies_true, and_true]
      refine ⟨fun x => congrFun (band_1024 (load_run.sl.v566_r2 c alloca_r2 fh2 fs8) (load_run.sl.dma18_1 c fh2) ?_) x, fun x => congrFun (band_1024 (load_run.sl.v553_r2 c alloca_r2 fh2 fs8) (load_run.sl.dma18 c fh2) ?_) x⟩
      · unfold load_run.sl.v566_r2; exact slot_hit _ _ _ _ _ _ _
      · unfold load_run.sl.v553_r2; rw [slot_miss (hd := Rect.unit_disjoint 0 (by decide))]; exact slot_hit _ _ _ _ _ _ _
    · have hy : (y 0).val < 512 := (y 0).isLt
      obtain h | h : (0 ≤ (y 0).val ∧ (y 0).val < 0 + 256) ∨ (256 ≤ (y 0).val ∧ (y 0).val < 256 + 256) := by omega
      · exact ⟨_, List.Mem.tail _ (List.Mem.head _), rows_mem (n := 512) (m := 1024) (k := 256) (o := 0) y (by decide) h⟩
      · exact ⟨_, List.Mem.head _, rows_mem (n := 512) (m := 1024) (k := 256) (o := 256) y (by decide) h⟩
  isplitl [HS3]
  · iexists _; isplitr; swap; · iexact HS3
    ipureintro
    funext y
    refine View.read_writes_apply_of_pieces (Val := Elt F) arg24.view fs3 (e := .bf16) (wo fh3) _ ?_ y ?_
    · simp only [List.forall_mem_cons, List.not_mem_nil, false_imp_iff, implies_true, and_true]
      refine ⟨fun x => congrFun (band_1024 (load_run.sl.v606_r3 c alloca_r3 fh3 fs9) (load_run.sl.dma30 c fh3) ?_) x, fun x => congrFun (band_1024 (load_run.sl.v593_r3 c alloca_r3 fh3 fs9) (load_run.sl.dma27 c fh3) ?_) x, fun x => congrFun (band_1024 (load_run.sl.v573_r3 c alloca_r3 fh3 fs9) (load_run.sl.dma24_1 c fh3) ?_) x, fun x => congrFun (band_1024 (load_run.sl.v553_r3 c alloca_r3 fh3 fs9) (load_run.sl.dma24 c fh3) ?_) x⟩
      · unfold load_run.sl.v606_r3; exact slot_hit _ _ _ _ _ _ _
      · unfold load_run.sl.v593_r3; rw [slot_miss (hd := Rect.unit_disjoint 0 (by decide))]; exact slot_hit _ _ _ _ _ _ _
      · unfold load_run.sl.v573_r3; rw [slot_miss (hd := Rect.unit_disjoint 0 (by decide))]; exact slot_hit _ _ _ _ _ _ _
      · unfold load_run.sl.v553_r3; rw [slot_miss (hd := Rect.unit_disjoint 0 (by decide))]; exact slot_hit _ _ _ _ _ _ _
    · have hy : (y 0).val < 1024 := (y 0).isLt
      obtain h | h | h | h : (0 ≤ (y 0).val ∧ (y 0).val < 0 + 256) ∨ (256 ≤ (y 0).val ∧ (y 0).val < 256 + 256) ∨ (512 ≤ (y 0).val ∧ (y 0).val < 512 + 256) ∨ (768 ≤ (y 0).val ∧ (y 0).val < 768 + 256) := by omega
      · exact ⟨_, List.Mem.tail _ (List.Mem.tail _ (List.Mem.tail _ (List.Mem.head _))), rows_mem (n := 1024) (m := 1024) (k := 256) (o := 0) y (by decide) h⟩
      · exact ⟨_, List.Mem.tail _ (List.Mem.tail _ (List.Mem.head _)), rows_mem (n := 1024) (m := 1024) (k := 256) (o := 256) y (by decide) h⟩
      · exact ⟨_, List.Mem.tail _ (List.Mem.head _), rows_mem (n := 1024) (m := 1024) (k := 256) (o := 512) y (by decide) h⟩
      · exact ⟨_, List.Mem.head _, rows_mem (n := 1024) (m := 1024) (k := 256) (o := 768) y (by decide) h⟩
  isplitl [HS4]
  · iexists _; isplitr; swap; · iexact HS4
    ipureintro
    funext y
    refine View.read_writes_apply_of_pieces (Val := Elt F) arg25.view fs4 (e := .bf16) (wgu fh4) _ ?_ y ?_
    · simp only [List.forall_mem_cons, List.not_mem_nil, false_imp_iff, implies_true, and_true]
      refine ⟨fun x => congrFun (band_5632 (load_run.sl.v686_r4 c alloca_r4 fh4 fs10) (load_run.sl.dma54 c fh4) ?_) x, fun x => congrFun (band_5632 (load_run.sl.v673_r4 c alloca_r4 fh4 fs10) (load_run.sl.dma51 c fh4) ?_) x, fun x => congrFun (band_5632 (load_run.sl.v653_r4 c alloca_r4 fh4 fs10) (load_run.sl.dma48 c fh4) ?_) x, fun x => congrFun (band_5632 (load_run.sl.v633_r4 c alloca_r4 fh4 fs10) (load_run.sl.dma45 c fh4) ?_) x, fun x => congrFun (band_5632 (load_run.sl.v613_r4 c alloca_r4 fh4 fs10) (load_run.sl.dma42 c fh4) ?_) x, fun x => congrFun (band_5632 (load_run.sl.v593_r4 c alloca_r4 fh4 fs10) (load_run.sl.dma39 c fh4) ?_) x, fun x => congrFun (band_5632 (load_run.sl.v573_r4 c alloca_r4 fh4 fs10) (load_run.sl.dma36_1 c fh4) ?_) x, fun x => congrFun (band_5632 (load_run.sl.v553_r4 c alloca_r4 fh4 fs10) (load_run.sl.dma36 c fh4) ?_) x⟩
      · unfold load_run.sl.v686_r4; exact slot_hit _ _ _ _ _ _ _
      · unfold load_run.sl.v673_r4; rw [slot_miss (hd := Rect.unit_disjoint 0 (by decide))]; exact slot_hit _ _ _ _ _ _ _
      · unfold load_run.sl.v653_r4; rw [slot_miss (hd := Rect.unit_disjoint 0 (by decide))]; exact slot_hit _ _ _ _ _ _ _
      · unfold load_run.sl.v633_r4; rw [slot_miss (hd := Rect.unit_disjoint 0 (by decide))]; exact slot_hit _ _ _ _ _ _ _
      · unfold load_run.sl.v613_r4; rw [slot_miss (hd := Rect.unit_disjoint 0 (by decide))]; exact slot_hit _ _ _ _ _ _ _
      · unfold load_run.sl.v593_r4; rw [slot_miss (hd := Rect.unit_disjoint 0 (by decide))]; exact slot_hit _ _ _ _ _ _ _
      · unfold load_run.sl.v573_r4; rw [slot_miss (hd := Rect.unit_disjoint 0 (by decide))]; exact slot_hit _ _ _ _ _ _ _
      · unfold load_run.sl.v553_r4; rw [slot_miss (hd := Rect.unit_disjoint 0 (by decide))]; exact slot_hit _ _ _ _ _ _ _
    · have hy : (y 0).val < 1024 := (y 0).isLt
      obtain h | h | h | h | h | h | h | h : (0 ≤ (y 0).val ∧ (y 0).val < 0 + 128) ∨ (128 ≤ (y 0).val ∧ (y 0).val < 128 + 128) ∨ (256 ≤ (y 0).val ∧ (y 0).val < 256 + 128) ∨ (384 ≤ (y 0).val ∧ (y 0).val < 384 + 128) ∨ (512 ≤ (y 0).val ∧ (y 0).val < 512 + 128) ∨ (640 ≤ (y 0).val ∧ (y 0).val < 640 + 128) ∨ (768 ≤ (y 0).val ∧ (y 0).val < 768 + 128) ∨ (896 ≤ (y 0).val ∧ (y 0).val < 896 + 128) := by omega
      · exact ⟨_, List.Mem.tail _ (List.Mem.tail _ (List.Mem.tail _ (List.Mem.tail _ (List.Mem.tail _ (List.Mem.tail _ (List.Mem.tail _ (List.Mem.head _))))))), rows_mem (n := 1024) (m := 5632) (k := 128) (o := 0) y (by decide) h⟩
      · exact ⟨_, List.Mem.tail _ (List.Mem.tail _ (List.Mem.tail _ (List.Mem.tail _ (List.Mem.tail _ (List.Mem.tail _ (List.Mem.head _)))))), rows_mem (n := 1024) (m := 5632) (k := 128) (o := 128) y (by decide) h⟩
      · exact ⟨_, List.Mem.tail _ (List.Mem.tail _ (List.Mem.tail _ (List.Mem.tail _ (List.Mem.tail _ (List.Mem.head _))))), rows_mem (n := 1024) (m := 5632) (k := 128) (o := 256) y (by decide) h⟩
      · exact ⟨_, List.Mem.tail _ (List.Mem.tail _ (List.Mem.tail _ (List.Mem.tail _ (List.Mem.head _)))), rows_mem (n := 1024) (m := 5632) (k := 128) (o := 384) y (by decide) h⟩
      · exact ⟨_, List.Mem.tail _ (List.Mem.tail _ (List.Mem.tail _ (List.Mem.head _))), rows_mem (n := 1024) (m := 5632) (k := 128) (o := 512) y (by decide) h⟩
      · exact ⟨_, List.Mem.tail _ (List.Mem.tail _ (List.Mem.head _)), rows_mem (n := 1024) (m := 5632) (k := 128) (o := 640) y (by decide) h⟩
      · exact ⟨_, List.Mem.tail _ (List.Mem.head _), rows_mem (n := 1024) (m := 5632) (k := 128) (o := 768) y (by decide) h⟩
      · exact ⟨_, List.Mem.head _, rows_mem (n := 1024) (m := 5632) (k := 128) (o := 896) y (by decide) h⟩
  isplitl [HS5]
  · iexists _; isplitr; swap; · iexact HS5
    ipureintro
    funext y
    refine View.read_writes_apply_of_pieces (Val := Elt F) arg26.view fs5 (e := .bf16) (wdn fh5) _ ?_ y ?_
    · simp only [List.forall_mem_cons, List.not_mem_nil, false_imp_iff, implies_true, and_true]
      refine ⟨fun x => congrFun (band_1024 (load_run.sl.v746_r5 c alloca_r5 fh5 fs11) (load_run.sl.dma87 c fh5) ?_) x, fun x => congrFun (band_1024 (load_run.sl.v733_r5 c alloca_r5 fh5 fs11) (load_run.sl.dma84 c fh5) ?_) x, fun x => congrFun (band_1024 (load_run.sl.v713_r5 c alloca_r5 fh5 fs11) (load_run.sl.dma81 c fh5) ?_) x, fun x => congrFun (band_1024 (load_run.sl.v693_r5 c alloca_r5 fh5 fs11) (load_run.sl.dma78 c fh5) ?_) x, fun x => congrFun (band_1024 (load_run.sl.v673_r5 c alloca_r5 fh5 fs11) (load_run.sl.dma75 c fh5) ?_) x, fun x => congrFun (band_1024 (load_run.sl.v653_r5 c alloca_r5 fh5 fs11) (load_run.sl.dma72 c fh5) ?_) x, fun x => congrFun (band_1024 (load_run.sl.v633_r5 c alloca_r5 fh5 fs11) (load_run.sl.dma69 c fh5) ?_) x, fun x => congrFun (band_1024 (load_run.sl.v613_r5 c alloca_r5 fh5 fs11) (load_run.sl.dma66 c fh5) ?_) x, fun x => congrFun (band_1024 (load_run.sl.v593_r5 c alloca_r5 fh5 fs11) (load_run.sl.dma63 c fh5) ?_) x, fun x => congrFun (band_1024 (load_run.sl.v573_r5 c alloca_r5 fh5 fs11) (load_run.sl.dma60_1 c fh5) ?_) x, fun x => congrFun (band_1024 (load_run.sl.v553_r5 c alloca_r5 fh5 fs11) (load_run.sl.dma60 c fh5) ?_) x⟩
      · unfold load_run.sl.v746_r5; exact slot_hit _ _ _ _ _ _ _
      · unfold load_run.sl.v733_r5; rw [slot_miss (hd := Rect.unit_disjoint 0 (by decide))]; exact slot_hit _ _ _ _ _ _ _
      · unfold load_run.sl.v713_r5; rw [slot_miss (hd := Rect.unit_disjoint 0 (by decide))]; exact slot_hit _ _ _ _ _ _ _
      · unfold load_run.sl.v693_r5; rw [slot_miss (hd := Rect.unit_disjoint 0 (by decide))]; exact slot_hit _ _ _ _ _ _ _
      · unfold load_run.sl.v673_r5; rw [slot_miss (hd := Rect.unit_disjoint 0 (by decide))]; exact slot_hit _ _ _ _ _ _ _
      · unfold load_run.sl.v653_r5; rw [slot_miss (hd := Rect.unit_disjoint 0 (by decide))]; exact slot_hit _ _ _ _ _ _ _
      · unfold load_run.sl.v633_r5; rw [slot_miss (hd := Rect.unit_disjoint 0 (by decide))]; exact slot_hit _ _ _ _ _ _ _
      · unfold load_run.sl.v613_r5; rw [slot_miss (hd := Rect.unit_disjoint 0 (by decide))]; exact slot_hit _ _ _ _ _ _ _
      · unfold load_run.sl.v593_r5; rw [slot_miss (hd := Rect.unit_disjoint 0 (by decide))]; exact slot_hit _ _ _ _ _ _ _
      · unfold load_run.sl.v573_r5; rw [slot_miss (hd := Rect.unit_disjoint 0 (by decide))]; exact slot_hit _ _ _ _ _ _ _
      · unfold load_run.sl.v553_r5; rw [slot_miss (hd := Rect.unit_disjoint 0 (by decide))]; exact slot_hit _ _ _ _ _ _ _
    · have hy : (y 0).val < 2816 := (y 0).isLt
      obtain h | h | h | h | h | h | h | h | h | h | h : (0 ≤ (y 0).val ∧ (y 0).val < 0 + 256) ∨ (256 ≤ (y 0).val ∧ (y 0).val < 256 + 256) ∨ (512 ≤ (y 0).val ∧ (y 0).val < 512 + 256) ∨ (768 ≤ (y 0).val ∧ (y 0).val < 768 + 256) ∨ (1024 ≤ (y 0).val ∧ (y 0).val < 1024 + 256) ∨ (1280 ≤ (y 0).val ∧ (y 0).val < 1280 + 256) ∨ (1536 ≤ (y 0).val ∧ (y 0).val < 1536 + 256) ∨ (1792 ≤ (y 0).val ∧ (y 0).val < 1792 + 256) ∨ (2048 ≤ (y 0).val ∧ (y 0).val < 2048 + 256) ∨ (2304 ≤ (y 0).val ∧ (y 0).val < 2304 + 256) ∨ (2560 ≤ (y 0).val ∧ (y 0).val < 2560 + 256) := by omega
      · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.head _)))))))))), rows_mem (n := 2816) (m := 1024) (k := 256) (o := 0) y (by decide) h⟩
      · exact ⟨_, List.Mem.tail _ (List.Mem.tail _ (List.Mem.tail _ (List.Mem.tail _ (List.Mem.tail _ (List.Mem.tail _ (List.Mem.tail _ (List.Mem.tail _ (List.Mem.tail _ (List.Mem.head _))))))))), rows_mem (n := 2816) (m := 1024) (k := 256) (o := 256) y (by decide) h⟩
      · exact ⟨_, List.Mem.tail _ (List.Mem.tail _ (List.Mem.tail _ (List.Mem.tail _ (List.Mem.tail _ (List.Mem.tail _ (List.Mem.tail _ (List.Mem.tail _ (List.Mem.head _)))))))), rows_mem (n := 2816) (m := 1024) (k := 256) (o := 512) y (by decide) h⟩
      · exact ⟨_, List.Mem.tail _ (List.Mem.tail _ (List.Mem.tail _ (List.Mem.tail _ (List.Mem.tail _ (List.Mem.tail _ (List.Mem.tail _ (List.Mem.head _))))))), rows_mem (n := 2816) (m := 1024) (k := 256) (o := 768) y (by decide) h⟩
      · exact ⟨_, List.Mem.tail _ (List.Mem.tail _ (List.Mem.tail _ (List.Mem.tail _ (List.Mem.tail _ (List.Mem.tail _ (List.Mem.head _)))))), rows_mem (n := 2816) (m := 1024) (k := 256) (o := 1024) y (by decide) h⟩
      · exact ⟨_, List.Mem.tail _ (List.Mem.tail _ (List.Mem.tail _ (List.Mem.tail _ (List.Mem.tail _ (List.Mem.head _))))), rows_mem (n := 2816) (m := 1024) (k := 256) (o := 1280) y (by decide) h⟩
      · exact ⟨_, List.Mem.tail _ (List.Mem.tail _ (List.Mem.tail _ (List.Mem.tail _ (List.Mem.head _)))), rows_mem (n := 2816) (m := 1024) (k := 256) (o := 1536) y (by decide) h⟩
      · exact ⟨_, List.Mem.tail _ (List.Mem.tail _ (List.Mem.tail _ (List.Mem.head _))), rows_mem (n := 2816) (m := 1024) (k := 256) (o := 1792) y (by decide) h⟩
      · exact ⟨_, List.Mem.tail _ (List.Mem.tail _ (List.Mem.head _)), rows_mem (n := 2816) (m := 1024) (k := 256) (o := 2048) y (by decide) h⟩
      · exact ⟨_, List.Mem.tail _ (List.Mem.head _), rows_mem (n := 2816) (m := 1024) (k := 256) (o := 2304) y (by decide) h⟩
      · exact ⟨_, List.Mem.head _, rows_mem (n := 2816) (m := 1024) (k := 256) (o := 2560) y (by decide) h⟩
  isplitl [HS6]
  · iexists _, _; isplitr; swap; · iexact HS6
    ipureintro; rfl
  isplitl [HS7]
  · iexists _, _; isplitr; swap; · iexact HS7
    ipureintro; rfl
  isplitl [HS8]
  · iexists _, _; isplitr; swap; · iexact HS8
    ipureintro; rfl
  isplitl [HS9]
  · iexists _, _; isplitr; swap; · iexact HS9
    ipureintro; rfl
  isplitl [HS10]
  · iexists _, _; isplitr; swap; · iexact HS10
    ipureintro; rfl
  isplitl [HS11]
  · iexists _, _; isplitr; swap; · iexact HS11
    ipureintro; rfl
  isplitl [Hq0]
  · iexact Hq0
  isplitl [Hq1]
  · iexact Hq1
  isplitl [Hq2]
  · iexact Hq2
  isplitl [Hq3]
  · iexact Hq3
  isplitl [Hq4]
  · iexact Hq4
  isplitl [Hq5]
  · iexact Hq5
  isplitl [Hq6]
  · iexact Hq6
  isplitl [Hq7]
  · iexact Hq7
  isplitl [Hq8]
  · iexact Hq8
  isplitl [Hq9]
  · iexact Hq9
  isplitl [Hq10]
  · iexact Hq10
  isplitl [Hq11]
  · iexact Hq11
  isplitl [Hh0]
  · iexact Hh0
  isplitl [Hh1]
  · iexact Hh1
  isplitl [Hh2]
  · iexact Hh2
  isplitl [Hh3]
  · iexact Hh3
  isplitl [Hh4]
  · iexact Hh4
  isplitl [Hh5]
  · iexact Hh5
  iexists _; iexact HW
end Cert.Kernel2Ideal.Merge
-- ==== Proof.MergeCompRun.lean ====
/- The merge at a point where the weights are already loaded: what it computes, and the run. -/
module

public import proofs.«01_k».proof.Proof.MergeLoadRun

@[expose] public section

set_option maxRecDepth 16384

noncomputable section

namespace Cert.Kernel2Ideal.Merge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel2Ideal.Gen Cert.Slot

variable {F : FTy → Type} [FloatOps F]

local notation "𝕄" => MT nD τ sig Unit (Elt F) ℕ (Pipeline.UD sig nD τ) ℕ

/-- The attention branch on rows 0..255: its gate times the eight heads, side by side, through its weights. -/
def attT (x1 : Vec F S1x8x512x128 .bf16) (x5 : Vec F S512x2048 .bf16) (wba : Vec F S1024x1024 .bf16) : FVec F S256x1024 .f32 :=
  k0_pay40 (k0_pay34 (View.ld x5 (Rect.unit ![0, 0] S256x1024.size inb_S512x2048_S256x1024_0_0)))
    (k0_pay35 (View.ld x1 (Rect.unit ![0, 0, 0, 0] S1x1x256x128.size inb_S1x8x512x128_S1x1x256x128_0_0_0_0))) (k0_pay36 (View.ld x1 (Rect.unit ![0, 1, 0, 0] S1x1x256x128.size inb_S1x8x512x128_S1x1x256x128_0_1_0_0))) (k0_pay37 (View.ld x1 (Rect.unit ![0, 2, 0, 0] S1x1x256x128.size inb_S1x8x512x128_S1x1x256x128_0_2_0_0))) (k0_pay38 (View.ld x1 (Rect.unit ![0, 3, 0, 0] S1x1x256x128.size inb_S1x8x512x128_S1x1x256x128_0_3_0_0))) (k0_pay39 (View.ld x1 (Rect.unit ![0, 4, 0, 0] S1x1x256x128.size inb_S1x8x512x128_S1x1x256x128_0_4_0_0)))
    (View.ld x1 (Rect.unit ![0, 5, 0, 0] S1x1x256x128.size inb_S1x8x512x128_S1x1x256x128_0_5_0_0)) (View.ld x1 (Rect.unit ![0, 6, 0, 0] S1x1x256x128.size inb_S1x8x512x128_S1x1x256x128_0_6_0_0)) (View.ld x1 (Rect.unit ![0, 7, 0, 0] S1x1x256x128.size inb_S1x8x512x128_S1x1x256x128_0_7_0_0)) (View.ld wba (Rect.unit ![0, 0] S1024x1024.size inb_S1024x1024_S1024x1024_0_0))

/-- The attention branch on rows 256..511. -/
def attB (x1 : Vec F S1x8x512x128 .bf16) (x5 : Vec F S512x2048 .bf16) (wba : Vec F S1024x1024 .bf16) : FVec F S256x1024 .f32 :=
  k0_pay47 (k0_pay41 (View.ld x5 (Rect.unit ![256, 0] S256x1024.size inb_S512x2048_S256x1024_256_0)))
    (k0_pay42 (View.ld x1 (Rect.unit ![0, 0, 256, 0] S1x1x256x128.size inb_S1x8x512x128_S1x1x256x128_0_0_256_0))) (k0_pay43 (View.ld x1 (Rect.unit ![0, 1, 256, 0] S1x1x256x128.size inb_S1x8x512x128_S1x1x256x128_0_1_256_0))) (k0_pay44 (View.ld x1 (Rect.unit ![0, 2, 256, 0] S1x1x256x128.size inb_S1x8x512x128_S1x1x256x128_0_2_256_0))) (k0_pay45 (View.ld x1 (Rect.unit ![0, 3, 256, 0] S1x1x256x128.size inb_S1x8x512x128_S1x1x256x128_0_3_256_0))) (k0_pay46 (View.ld x1 (Rect.unit ![0, 4, 256, 0] S1x1x256x128.size inb_S1x8x512x128_S1x1x256x128_0_4_256_0)))
    (View.ld x1 (Rect.unit ![0, 5, 256, 0] S1x1x256x128.size inb_S1x8x512x128_S1x1x256x128_0_5_256_0)) (View.ld x1 (Rect.unit ![0, 6, 256, 0] S1x1x256x128.size inb_S1x8x512x128_S1x1x256x128_0_6_256_0)) (View.ld x1 (Rect.unit ![0, 7, 256, 0] S1x1x256x128.size inb_S1x8x512x128_S1x1x256x128_0_7_256_0)) (View.ld wba (Rect.unit ![0, 0] S1024x1024.size inb_S1024x1024_S1024x1024_0_0))

/-- The tile with the eight rows before it and the eight after it, at the ends of the sequence zero. -/
def stk (p : BitVec 32) (x2 : Vec F S512x512 .f32) (x3 x4 : Vec F S8x512 .f32) : FVec F S528x512 .f32 := k0_pay48 p (View.ld x2 (Rect.unit ![0, 0] S512x512.size inb_S512x512_S512x512_0_0)) (View.ld x3 (Rect.unit ![0, 0] S8x512.size inb_S8x512_S8x512_0_0)) (View.ld x4 (Rect.unit ![0, 0] S8x512.size inb_S8x512_S8x512_0_0))

/-- The first head's pooled difference through its weights. -/
def pool1 (p : BitVec 32) (x2 : Vec F S512x512 .f32) (x3 x4 : Vec F S8x512 .f32) (wq : Vec F S512x128 .bf16) : FVec F S512x128 .f32 :=
  k0_pay54 (View.ld x2 (Rect.unit ![0, 0] S512x512.size inb_S512x512_S512x512_0_0)) (k0_pay49 p) (k0_pay50 p) (k0_pay51 p (View.ld x2 (Rect.unit ![0, 0] S512x512.size inb_S512x512_S512x512_0_0)) (View.ld x3 (Rect.unit ![0, 0] S8x512.size inb_S8x512_S8x512_0_0)) (View.ld x4 (Rect.unit ![0, 0] S8x512.size inb_S8x512_S8x512_0_0)))
    (k0_pay52 p (View.ld x2 (Rect.unit ![0, 0] S512x512.size inb_S512x512_S512x512_0_0)) (View.ld x3 (Rect.unit ![0, 0] S8x512.size inb_S8x512_S8x512_0_0)) (View.ld x4 (Rect.unit ![0, 0] S8x512.size inb_S8x512_S8x512_0_0))) k0_pay53 (View.ld wq (Rect.unit ![0, 0] S128x128.size inb_S512x128_S128x128_0_0))

/-- The second head's. -/
def pool2 (p : BitVec 32) (x2 : Vec F S512x512 .f32) (x3 x4 : Vec F S8x512 .f32) (wq : Vec F S512x128 .bf16) : FVec F S512x128 .f32 :=
  k0_pay59 (View.ld x2 (Rect.unit ![0, 0] S512x512.size inb_S512x512_S512x512_0_0)) (k0_pay50 p) (k0_pay55 (stk p x2 x3 x4)) (k0_pay56 (stk p x2 x3 x4)) (k0_pay57 (k0_pay49 p)) (k0_pay58 (k0_pay49 p)) (View.ld wq (Rect.unit ![128, 0] S128x128.size inb_S512x128_S128x128_128_0))

/-- The third head's. -/
def pool3 (p : BitVec 32) (x2 : Vec F S512x512 .f32) (x3 x4 : Vec F S8x512 .f32) (wq : Vec F S512x128 .bf16) : FVec F S512x128 .f32 :=
  k0_pay63 (View.ld x2 (Rect.unit ![0, 0] S512x512.size inb_S512x512_S512x512_0_0)) (k0_pay50 p) (k0_pay60 (stk p x2 x3 x4)) (k0_pay61 (stk p x2 x3 x4)) (k0_pay62 (k0_pay49 p)) (View.ld wq (Rect.unit ![256, 0] S128x128.size inb_S512x128_S128x128_256_0))

/-- The two branches added, on rows 0..255; `att` is the attention branch. -/
def mixT (att : FVec F S256x1024 .f32) (p : BitVec 32) (x2 : Vec F S512x512 .f32) (x3 x4 : Vec F S8x512 .f32) (x5 : Vec F S512x2048 .bf16) (x12 : Vec F S1x512 .f32) (wq : Vec F S512x128 .bf16) (wbp : Vec F S512x1024 .bf16) : FVec F S256x1024 .f32 :=
  k0_pay68 att (View.ld x2 (Rect.unit ![0, 0] S512x512.size inb_S512x512_S512x512_0_0)) (k0_pay50 p) (pool1 p x2 x3 x4 wq) (pool2 p x2 x3 x4 wq) (pool3 p x2 x3 x4 wq)
    (k0_pay64 (stk p x2 x3 x4)) (k0_pay65 (stk p x2 x3 x4)) (k0_pay66 (F := F) (k0_pay49 p)) (View.ld wq (Rect.unit ![384, 0] S128x128.size inb_S512x128_S128x128_384_0)) (View.ld x12 (Rect.unit ![0, 0] S1x512.size inb_S1x512_S1x512_0_0))
    (View.ld x5 (Rect.unit ![0, 1024] S256x1024.size inb_S512x2048_S256x1024_0_1024)) (View.ld wbp (Rect.unit ![0, 0] S512x1024.size inb_S512x1024_S512x1024_0_0))

/-- The pooling branch before its gate, on rows 256..511. -/
def plB (p : BitVec 32) (x2 : Vec F S512x512 .f32) (x3 x4 : Vec F S8x512 .f32) (x12 : Vec F S1x512 .f32) (wq : Vec F S512x128 .bf16) (wbp : Vec F S512x1024 .bf16) : FVec F S256x1024 .f32 :=
  k0_pay70 (View.ld x2 (Rect.unit ![0, 0] S512x512.size inb_S512x512_S512x512_0_0)) (k0_pay50 p) (pool1 p x2 x3 x4 wq) (pool2 p x2 x3 x4 wq) (pool3 p x2 x3 x4 wq)
    (k0_pay64 (stk p x2 x3 x4)) (k0_pay65 (stk p x2 x3 x4)) (k0_pay66 (F := F) (k0_pay49 p)) (View.ld wq (Rect.unit ![384, 0] S128x128.size inb_S512x128_S128x128_384_0)) (View.ld x12 (Rect.unit ![0, 0] S1x512.size inb_S1x512_S1x512_0_0)) (View.ld wbp (Rect.unit ![0, 0] S512x1024.size inb_S512x1024_S512x1024_0_0))

/-- The rows after the two branches are merged into them: rows 0..255, rows 256..511, and both. -/
def midT (p : BitVec 32) (x0 : Vec F S512x1024 .f32) (x1 : Vec F S1x8x512x128 .bf16) (x2 : Vec F S512x512 .f32) (x3 x4 : Vec F S8x512 .f32) (x5 : Vec F S512x2048 .bf16) (x6 : Vec F S1x1x1024 .f32) (x12 : Vec F S1x512 .f32)
    (wq : Vec F S512x128 .bf16) (wba : Vec F S1024x1024 .bf16) (wbp : Vec F S512x1024 .bf16) (wo : Vec F S1024x1024 .bf16) : FVec F S256x1024 .f32 :=
  k0_pay71 (mixT (attT x1 x5 wba) p x2 x3 x4 x5 x12 wq wbp) (View.ld x0 (Rect.unit ![0, 0] S256x1024.size inb_S512x1024_S256x1024_0_0)) (View.ld x6 (Rect.unit ![0, 0, 0] S1x1x1024.size inb_S1x1x1024_S1x1x1024_0_0_0)) (View.ld wo (Rect.unit ![0, 0] S1024x1024.size inb_S1024x1024_S1024x1024_0_0))

def midB (p : BitVec 32) (x0 : Vec F S512x1024 .f32) (x1 : Vec F S1x8x512x128 .bf16) (x2 : Vec F S512x512 .f32) (x3 x4 : Vec F S8x512 .f32) (x5 : Vec F S512x2048 .bf16) (x6 : Vec F S1x1x1024 .f32) (x12 : Vec F S1x512 .f32)
    (wq : Vec F S512x128 .bf16) (wba : Vec F S1024x1024 .bf16) (wbp : Vec F S512x1024 .bf16) (wo : Vec F S1024x1024 .bf16) : FVec F S256x1024 .f32 :=
  k0_pay72 (attB x1 x5 wba) (k0_pay69 (View.ld x5 (Rect.unit ![256, 1024] S256x1024.size inb_S512x2048_S256x1024_256_1024))) (plB p x2 x3 x4 x12 wq wbp) (View.ld x0 (Rect.unit ![256, 0] S256x1024.size inb_S512x1024_S256x1024_256_0)) (View.ld x6 (Rect.unit ![0, 0, 0] S1x1x1024.size inb_S1x1x1024_S1x1x1024_0_0_0)) (View.ld wo (Rect.unit ![0, 0] S1024x1024.size inb_S1024x1024_S1024x1024_0_0))

def mid (p : BitVec 32) (x0 : Vec F S512x1024 .f32) (x1 : Vec F S1x8x512x128 .bf16) (x2 : Vec F S512x512 .f32) (x3 x4 : Vec F S8x512 .f32) (x5 : Vec F S512x2048 .bf16) (x6 : Vec F S1x1x1024 .f32) (x12 : Vec F S1x512 .f32)
    (wq : Vec F S512x128 .bf16) (wba : Vec F S1024x1024 .bf16) (wbp : Vec F S512x1024 .bf16) (wo : Vec F S1024x1024 .bf16) : FVec F S512x1024 .f32 :=
  k0_pay73 (attB x1 x5 wba) (mixT (attT x1 x5 wba) p x2 x3 x4 x5 x12 wq wbp) (k0_pay69 (View.ld x5 (Rect.unit ![256, 1024] S256x1024.size inb_S512x2048_S256x1024_256_1024))) (plB p x2 x3 x4 x12 wq wbp)
    (View.ld x0 (Rect.unit ![0, 0] S256x1024.size inb_S512x1024_S256x1024_0_0)) (View.ld x6 (Rect.unit ![0, 0, 0] S1x1x1024.size inb_S1x1x1024_S1x1x1024_0_0_0)) (View.ld wo (Rect.unit ![0, 0] S1024x1024.size inb_S1024x1024_S1024x1024_0_0)) (View.ld x0 (Rect.unit ![256, 0] S256x1024.size inb_S512x1024_S256x1024_256_0)) (View.ld x6 (Rect.unit ![0, 0, 0] S1x1x1024.size inb_S1x1x1024_S1x1x1024_0_0_0)) (View.ld wo (Rect.unit ![0, 0] S1024x1024.size inb_S1024x1024_S1024x1024_0_0))

/-- The modulated rows. -/
def hM (p : BitVec 32) (x0 : Vec F S512x1024 .f32) (x1 : Vec F S1x8x512x128 .bf16) (x2 : Vec F S512x512 .f32) (x3 x4 : Vec F S8x512 .f32) (x5 : Vec F S512x2048 .bf16) (x6 : Vec F S1x1x1024 .f32) (x12 : Vec F S1x512 .f32)
    (wq : Vec F S512x128 .bf16) (wba : Vec F S1024x1024 .bf16) (wbp : Vec F S512x1024 .bf16) (wo : Vec F S1024x1024 .bf16) (x7 x8 x10 : Vec F S1x1x1024 .f32) : FVec F S512x1024 .bf16 :=
  k0_pay77 (midT p x0 x1 x2 x3 x4 x5 x6 x12 wq wba wbp wo) (midB p x0 x1 x2 x3 x4 x5 x6 x12 wq wba wbp wo) (k0_pay74 (View.ld x10 (Rect.unit ![0, 0, 0] S1x1x1024.size inb_S1x1x1024_S1x1x1024_0_0_0)) (View.ld x8 (Rect.unit ![0, 0, 0] S1x1x1024.size inb_S1x1x1024_S1x1x1024_0_0_0)))
    (k0_pay75 (mixT (attT x1 x5 wba) p x2 x3 x4 x5 x12 wq wbp) (View.ld x0 (Rect.unit ![0, 0] S256x1024.size inb_S512x1024_S256x1024_0_0)) (View.ld x6 (Rect.unit ![0, 0, 0] S1x1x1024.size inb_S1x1x1024_S1x1x1024_0_0_0)) (View.ld wo (Rect.unit ![0, 0] S1024x1024.size inb_S1024x1024_S1024x1024_0_0))) (k0_pay76 (F := F)) (View.ld x7 (Rect.unit ![0, 0, 0] S1x1x1024.size inb_S1x1x1024_S1x1x1024_0_0_0)) (View.ld x10 (Rect.unit ![0, 0, 0] S1x1x1024.size inb_S1x1x1024_S1x1x1024_0_0_0)) (View.ld x8 (Rect.unit ![0, 0, 0] S1x1x1024.size inb_S1x1x1024_S1x1x1024_0_0_0)) (View.ld x7 (Rect.unit ![0, 0, 0] S1x1x1024.size inb_S1x1x1024_S1x1x1024_0_0_0))

/-- One chunk of 256 hidden units from the products with the gate and up columns: `G` and `L`, and the down rows `d`. -/
def glu (G L : FVec F S512x256 .f32) (d : Vec F S256x1024 .bf16) : FVec F S512x1024 .f32 :=
  matmul dot_S512x256_S256x1024_S512x1024_1_0_0_1_n_n none
    (truncf .bf16 (mulf (mulf G (addf (mulf (broadcast S512x256 (Scalar.ofBits .f32 0x3F000000#32)) (tanh (mulf (broadcast S512x256 (Scalar.ofBits .f32 0x3F000000#32)) G)))
      (broadcast S512x256 (Scalar.ofBits .f32 0x3F000000#32)))) L) bitsLt_bf16_f32) d (constant S512x1024 .f32 0x00000000#32)

/-- The same at the chunk whose gate columns start at `o`, up columns at `o'` and down rows at `r`. -/
def chM (h : FVec F S512x1024 .bf16) (wg : Vec F S1024x5632 .bf16) (wd : Vec F S2816x1024 .bf16) (o o' r : ℕ)
    (h1 : ∀ a, (![0, o] : Fin 2 → ℕ) a + S1024x256.size a ≤ S1024x5632.size a) (h2 : ∀ a, (![0, o'] : Fin 2 → ℕ) a + S1024x256.size a ≤ S1024x5632.size a)
    (h3 : ∀ a, (![r, 0] : Fin 2 → ℕ) a + S256x1024.size a ≤ S2816x1024.size a) : FVec F S512x1024 .f32 :=
  glu (k0_pay87 h (View.ld wg (Rect.unit ![0, o] S1024x256.size h1))) (k0_pay87 h (View.ld wg (Rect.unit ![0, o'] S1024x256.size h2))) (View.ld wd (Rect.unit ![r, 0] S256x1024.size h3))

/-- The first ten chunks added. -/
def ffM (h : FVec F S512x1024 .bf16) (wg : Vec F S1024x5632 .bf16) (wd : Vec F S2816x1024 .bf16) : FVec F S512x1024 .f32 :=
  (addf (addf (addf (addf (addf (addf (addf (addf (addf (chM h wg wd 0 2816 0 inb_S1024x5632_S1024x256_0_0 inb_S1024x5632_S1024x256_0_2816 inb_S2816x1024_S256x1024_0_0)
    (chM h wg wd 256 3072 256 inb_S1024x5632_S1024x256_0_256 inb_S1024x5632_S1024x256_0_3072 inb_S2816x1024_S256x1024_256_0))
    (chM h wg wd 512 3328 512 inb_S1024x5632_S1024x256_0_512 inb_S1024x5632_S1024x256_0_3328 inb_S2816x1024_S256x1024_512_0))
    (chM h wg wd 768 3584 768 inb_S1024x5632_S1024x256_0_768 inb_S1024x5632_S1024x256_0_3584 inb_S2816x1024_S256x1024_768_0))
    (chM h wg wd 1024 3840 1024 inb_S1024x5632_S1024x256_0_1024 inb_S1024x5632_S1024x256_0_3840 inb_S2816x1024_S256x1024_1024_0))
    (chM h wg wd 1280 4096 1280 inb_S1024x5632_S1024x256_0_1280 inb_S1024x5632_S1024x256_0_4096 inb_S2816x1024_S256x1024_1280_0))
    (chM h wg wd 1536 4352 1536 inb_S1024x5632_S1024x256_0_1536 inb_S1024x5632_S1024x256_0_4352 inb_S2816x1024_S256x1024_1536_0))
    (chM h wg wd 1792 4608 1792 inb_S1024x5632_S1024x256_0_1792 inb_S1024x5632_S1024x256_0_4608 inb_S2816x1024_S256x1024_1792_0))
    (chM h wg wd 2048 4864 2048 inb_S1024x5632_S1024x256_0_2048 inb_S1024x5632_S1024x256_0_4864 inb_S2816x1024_S256x1024_2048_0))
    (chM h wg wd 2304 5120 2304 inb_S1024x5632_S1024x256_0_2304 inb_S1024x5632_S1024x256_0_5120 inb_S2816x1024_S256x1024_2304_0))

/-- The block stored. -/
def out (p : BitVec 32) (x0 : Vec F S512x1024 .f32) (x1 : Vec F S1x8x512x128 .bf16) (x2 : Vec F S512x512 .f32) (x3 x4 : Vec F S8x512 .f32) (x5 : Vec F S512x2048 .bf16) (x6 : Vec F S1x1x1024 .f32) (x7 x8 x9 x10 : Vec F S1x1x1024 .f32) (x11 : Vec F S1x1024 .f32) (x12 : Vec F S1x512 .f32)
    (wq : Vec F S512x128 .bf16) (wba : Vec F S1024x1024 .bf16) (wbp : Vec F S512x1024 .bf16) (wo : Vec F S1024x1024 .bf16) (wg : Vec F S1024x5632 .bf16) (wd : Vec F S2816x1024 .bf16) : Vec F S512x1024 .f32 :=
  k0_pay1 (mid p x0 x1 x2 x3 x4 x5 x6 x12 wq wba wbp wo) (k0_pay78 (View.ld x9 (Rect.unit ![0, 0, 0] S1x1x1024.size inb_S1x1x1024_S1x1x1024_0_0_0)))
    (ffM (hM p x0 x1 x2 x3 x4 x5 x6 x12 wq wba wbp wo x7 x8 x10) wg wd)
    (k0_pay87 (hM p x0 x1 x2 x3 x4 x5 x6 x12 wq wba wbp wo x7 x8 x10) (View.ld wg (Rect.unit ![0, 2560] S1024x256.size inb_S1024x5632_S1024x256_0_2560)))
    (k0_pay88 (hM p x0 x1 x2 x3 x4 x5 x6 x12 wq wba wbp wo x7 x8 x10) (View.ld wg (Rect.unit ![0, 5376] S1024x256.size inb_S1024x5632_S1024x256_0_5376)))
    (Scalar.ofBits .f32 0x3F000000#32) (View.ld wd (Rect.unit ![2560, 0] S256x1024.size inb_S2816x1024_S256x1024_2560_0)) (View.ld x11 (Rect.unit ![0, 0] S1x1024.size inb_S1x1024_S1x1024_0_0))

set_option maxHeartbeats 8000000 in
theorem comp_run (c : Dev nD) (i : grid0.Coords) (arg1 : Memref sig .tc .vmem S512x1024 .f32) (harg1 : arg1.IsWhole) (arg2 : Memref sig .tc .vmem S1x8x512x128 .bf16) (harg2 : arg2.IsWhole) (arg3 : Memref sig .tc .vmem S512x512 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S512x2048 .bf16) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .f32) (harg9 : arg9.IsWhole) (arg10 : Memref sig .tc .vmem S1x1x1024 .f32) (harg10 : arg10.IsWhole) (arg11 : Memref sig .tc .vmem S1x1x1024 .f32) (harg11 : arg11.IsWhole) (arg12 : Memref sig .tc .vmem S1x1024 .f32) (harg12 : arg12.IsWhole) (arg13 : Memref sig .tc .vmem S1x512 .f32) (harg13 : arg13.IsWhole) (arg20 : Memref sig .tc .vmem S512x1024 .f32) (harg20 : arg20.IsWhole) (arg21 : Memref sig .tc .vmem S512x128 .bf16) (harg21 : arg21.IsWhole) (arg22 : Memref sig .tc .vmem S1024x1024 .bf16) (harg22 : arg22.IsWhole) (arg23 : Memref sig .tc .vmem S512x1024 .bf16) (harg23 : arg23.IsWhole) (arg24 : Memref sig .tc .vmem S1024x1024 .bf16) (harg24 : arg24.IsWhole) (arg25 : Memref sig .tc .vmem S1024x5632 .bf16) (harg25 : arg25.IsWhole) (arg26 : Memref sig .tc .vmem S2816x1024 .bf16) (harg26 : arg26.IsWhole)
    (alloca_r0 : Memref sig .tc .vmem S2x256x128 .f32) (halloca_r0 : alloca_r0.IsWhole) (alloca_r1 : Memref sig .tc .vmem S2x256x1024 .f32) (halloca_r1 : alloca_r1.IsWhole) (alloca_r2 : Memref sig .tc .vmem S2x256x1024 .f32) (halloca_r2 : alloca_r2.IsWhole) (alloca_r3 : Memref sig .tc .vmem S2x256x1024 .f32) (halloca_r3 : alloca_r3.IsWhole) (alloca_r4 : Memref sig .tc .vmem S2x128x5632 .f32) (halloca_r4 : alloca_r4.IsWhole) (alloca_r5 : Memref sig .tc .vmem S2x256x1024 .f32) (halloca_r5 : alloca_r5.IsWhole)
    (hc0 : ¬ first i) (x0 : Vec F S512x1024 .f32) (x1 : Vec F S1x8x512x128 .bf16) (x2 : Vec F S512x512 .f32) (x3 x4 : Vec F S8x512 .f32) (x5 : Vec F S512x2048 .bf16) (x6 : Vec F S1x1x1024 .f32) (x7 x8 x9 x10 : Vec F S1x1x1024 .f32) (x11 : Vec F S1x1024 .f32) (x12 : Vec F S1x512 .f32)
    (wq : Vec F S512x128 .bf16) (wba : Vec F S1024x1024 .bf16) (wbp : Vec F S512x1024 .bf16) (wo : Vec F S1024x1024 .bf16) (wg : Vec F S1024x5632 .bf16) (wd : Vec F S2816x1024 .bf16) (W : Waits sig Unit) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg20 fullShare d) ∗ owns (c : Thread nD τ) arg21 fullShare wq ∗ owns (c : Thread nD τ) arg22 fullShare wba ∗ owns (c : Thread nD τ) arg23 fullShare wbp ∗ owns (c : Thread nD τ) arg24 fullShare wo ∗ owns (c : Thread nD τ) arg25 fullShare wg ∗ owns (c : Thread nD τ) arg26 fullShare wd
        ∗ owes (c : Thread nD τ) 0 W
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg20 fullShare (out (pos0 i) x0 x1 x2 x3 x4 x5 x6 x7 x8 x9 x10 x11 x12 wq wba wbp wo wg wd) ∗ owns (c : Thread nD τ) arg21 fullShare wq ∗ owns (c : Thread nD τ) arg22 fullShare wba ∗ owns (c : Thread nD τ) arg23 fullShare wbp ∗ owns (c : Thread nD τ) arg24 fullShare wo ∗ owns (c : Thread nD τ) arg25 fullShare wg ∗ owns (c : Thread nD τ) arg26 fullShare wd ∗ ∃ W', owes (c : Thread nD τ) 0 W') -∗ K ⟨⟩))
      ⊢ wp frame (wpE (defs₀ (F := F)) Variants.none c none) Set.univ (cc0_merge i arg1 harg1 arg2 harg2 arg3 harg3 arg4 harg4 arg5 harg5 arg6 harg6 arg7 harg7 arg8 harg8 arg9 harg9 arg10 harg10 arg11 harg11 arg12 harg12 arg13 harg13 (Memref.whole main_v3) (Memref.isWhole_whole _) (Memref.whole main_arg9) (Memref.isWhole_whole _) (Memref.whole main_arg10) (Memref.isWhole_whole _) (Memref.whole main_arg11) (Memref.isWhole_whole _) (Memref.whole main_arg12) (Memref.isWhole_whole _) (Memref.whole main_arg13) (Memref.isWhole_whole _) arg20 harg20 arg21 harg21 arg22 harg22 arg23 harg23 arg24 harg24 arg25 harg25 arg26 harg26 alloca_r0 halloca_r0 cc0_scoped1 alloca_r1 halloca_r1 cc0_scoped3 alloca_r2 halloca_r2 cc0_scoped5 alloca_r3 halloca_r3 cc0_scoped7 alloca_r4 halloca_r4 cc0_scoped9 alloca_r5 halloca_r5 cc0_scoped11) K := by
  simp only [cc0_merge_eq_skeleton]; unfold cc0_merge_skel
  simp only [k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, HW, Hk⟩
  subst hf0; subst hf1; subst hf2; subst hf3; subst hf4; subst hf5; subst hf6; subst hf7; subst hf8; subst hf9; subst hf10; subst hf11; subst hf12; subst hfs0; subst hfs1; subst hfs2; subst hfs3; subst hfs4; subst hfs5
  sl_exec (disch := first | sl_exact hc0)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]
  · iexists _; isplitr; · ipureintro; rfl
    iexact H9
  isplitl [H10]
  · iexists _; isplitr; · ipureintro; rfl
    iexact H10
  isplitl [H11]
  · iexists _; isplitr; · ipureintro; rfl
    iexact H11
  isplitl [H12]
  · iexists _; isplitr; · ipureintro; rfl
    iexact H12
  isplitl [H13]
  · iexists _; isplitr; swap; · iexact H13
    ipureintro
    refine Eq.trans (View.read_writes_eq_canon (Val := Elt F) arg20.view f13 (e := .f32)
      [⟨Rect.unit ![0, 0] S512x1024.size inb_S512x1024_S512x1024_0_0, out (pos0 i) (arg1.view.read (Elt F) f0) (arg2.view.read (Elt F) f1) (arg3.view.read (Elt F) f2) (arg4.view.read (Elt F) f3) (arg5.view.read (Elt F) f4) (arg6.view.read (Elt F) f5) (arg7.view.read (Elt F) f6) (arg8.view.read (Elt F) f7) (arg9.view.read (Elt F) f8) (arg10.view.read (Elt F) f9) (arg11.view.read (Elt F) f10) (arg12.view.read (Elt F) f11) (arg13.view.read (Elt F) f12) (arg21.view.read (Elt F) fs0) (arg22.view.read (Elt F) fs1) (arg23.view.read (Elt F) fs2) (arg24.view.read (Elt F) fs3) (arg25.view.read (Elt F) fs4) (arg26.view.read (Elt F) fs5)⟩] fun y => ?_) ?_
    · exact ⟨_, List.Mem.head _, rows_mem (n := 512) (m := 1024) (k := 512) (o := 0) y (by decide) ⟨Nat.zero_le _, by
        have hy : (y 0).val < 512 := (y 0).isLt
        omega⟩⟩
    · exact View.canon_unit_zero (Val := Elt F) (S := S512x1024) (by funext a; match a with | ⟨0, _⟩ => rfl | ⟨1, _⟩ => rfl) _ _
  isplitl [HS0]
  · iexists _; isplitr; swap; · iexact HS0
    ipureintro; rfl
  isplitl [HS1]
  · iexists _; isplitr; swap; · iexact HS1
    ipureintro; rfl
  isplitl [HS2]
  · iexists _; isplitr; swap; · iexact HS2
    ipureintro; rfl
  isplitl [HS3]
  · iexists _; isplitr; swap; · iexact HS3
    ipureintro; rfl
  isplitl [HS4]
  · iexists _; isplitr; swap; · iexact HS4
    ipureintro; rfl
  isplitl [HS5]
  · iexists _; isplitr; swap; · iexact HS5
    ipureintro; rfl
  iexists _; iexact HW
end Cert.Kernel2Ideal.Merge
-- ==== Proof.MergeRun.lean ====
/- The run of the merge: what is carried from point to point, every point, the launch, and what it leaves. -/
module

public import proofs.«01_k».proof.Proof.MergeCompRun
public import proofs.«01_k».proof.Proof.Gen.Kernel2Ideal.Frame

@[expose] public section

set_option maxRecDepth 16384

noncomputable section

namespace Cert.Kernel2Ideal.Merge

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel2Ideal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 800000 in
/-- The host operations before the call, the call, and the one after it. -/
theorem hmain : Pipeline.HMainK (Ix := Unit) (Name := ℕ) (U := Pipeline.UD sig nD τ) (Lvl := ℕ) cfgs 0 defs₀ Variants.none m (main (F := F)) (V m)
    (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain

/-- The twelve DMA semaphores the body waits on. -/
abbrev osem : Fin 12 → SemLoc sig := fun j => (![SemLoc.dma 25, SemLoc.dma 26, SemLoc.dma 27, SemLoc.dma 28, SemLoc.dma 29, SemLoc.dma 30, SemLoc.dma 31, SemLoc.dma 32, SemLoc.dma 33, SemLoc.dma 34, SemLoc.dma 35, SemLoc.dma 36] : Fin 12 → SemLoc sig) j
theorem osem_facts : Pipeline.OwnSemFacts spec0 osem := by decide

/-- The six weight arrays, which stay in HBM. -/
def Hb : Finset (Ref sig .tc) := {main_v3, main_arg9, main_arg10, main_arg11, main_arg12, main_arg13}
theorem Hb_sub : Hb ⊆ Pipeline.restRefs sig spec0 := by decide

abbrev sc0 : Memref sig .tc .vmem S512x128 .bf16 := Memref.whole cc0_scratch0
abbrev sc1 : Memref sig .tc .vmem S1024x1024 .bf16 := Memref.whole cc0_scratch1
abbrev sc2 : Memref sig .tc .vmem S512x1024 .bf16 := Memref.whole cc0_scratch2
abbrev sc3 : Memref sig .tc .vmem S1024x1024 .bf16 := Memref.whole cc0_scratch3
abbrev sc4 : Memref sig .tc .vmem S1024x5632 .bf16 := Memref.whole cc0_scratch4
abbrev sc5 : Memref sig .tc .vmem S2816x1024 .bf16 := Memref.whole cc0_scratch5
abbrev sc6 : Memref sig .tc .vmem S2x256x128 .f32 := Memref.whole cc0_scoped0
abbrev sc7 : Memref sig .tc .vmem S2x256x1024 .f32 := Memref.whole cc0_scoped2
abbrev sc8 : Memref sig .tc .vmem S2x256x1024 .f32 := Memref.whole cc0_scoped4
abbrev sc9 : Memref sig .tc .vmem S2x256x1024 .f32 := Memref.whole cc0_scoped6
abbrev sc10 : Memref sig .tc .vmem S2x128x5632 .f32 := Memref.whole cc0_scoped8
abbrev sc11 : Memref sig .tc .vmem S2x256x1024 .f32 := Memref.whole cc0_scoped10

/-- The twelve semaphores at zero. -/
abbrev sems (c : Dev nD) : sProp 𝕄 :=
  iprop(semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0)

/-- The weights in HBM. -/
abbrev hbs (c : Dev nD) : sProp 𝕄 :=
  iprop(hbPt c hbM0 (V m c main_v3) ∗ hbPt c hbM1 (V m c main_arg9) ∗ hbPt c hbM2 (V m c main_arg10) ∗ hbPt c hbM3 (V m c main_arg11) ∗ hbPt c hbM4 (V m c main_arg12) ∗ hbPt c hbM5 (V m c main_arg13))

/-- What the launch gives besides the windows: the scratch buffers, the generator register, the semaphores and the weights in HBM. -/
theorem launch_eq (c : Dev nD) :
    (Pipeline.ΦD osem spec0 Hb (V m) c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d) ∗ (∃ d, owns (c : Thread nD τ) sc7 fullShare d) ∗ (∃ d, owns (c : Thread nD τ) sc8 fullShare d) ∗ (∃ d, owns (c : Thread nD τ) sc9 fullShare d) ∗ (∃ d, owns (c : Thread nD τ) sc10 fullShare d) ∗ (∃ d, owns (c : Thread nD τ) sc11 fullShare d))
          ∗ (∃ r, prngReg c r) ∗ sems c ∗ hbs m c) := by
  have hs : (Pipeline.ownSems0 (Ix := Unit) (Name := ℕ) (U := Pipeline.UD sig nD τ) (Lvl := ℕ) (Val := Elt F) (τ := τ) osem c : sProp 𝕄) = sems c := by
    rw [Pipeline.ownSems0_eq_of_list c osem [0, 1, 2, 3, 4, 5, 6, 7, 8, 9, 10, 11] (by decide) (by decide)]; rfl
  have hh : (bigSep Hb (fun b => ((c : Thread nD τ).loc b) ↦{fullShare} V m c b) : sProp 𝕄) = hbs m c := by
    rw [BI.bigSep_eq_bigSepL_of_eq [main_v3, main_arg9, main_arg10, main_arg11, main_arg12, main_arg13] (by decide) (by decide)]; rfl
  rw [Pipeline.ΦD_eq, scopedRest0_eq, hs, hh]; simp only [sc0, sc1, sc2, sc3, sc4, sc5, sc6, sc7, sc8, sc9, sc10, sc11, owns_whole]; try rfl

/-- What holds after the first point: the scratch buffers carry the weights in bf16. -/
def carried (c : Dev nD) : sProp 𝕄 :=
  iprop(iprop(owns (c : Thread nD τ) sc0 fullShare (wpl (V m c main_v3)) ∗ owns (c : Thread nD τ) sc1 fullShare (wba (V m c main_arg9)) ∗ owns (c : Thread nD τ) sc2 fullShare (wbp (V m c main_arg10)) ∗ owns (c : Thread nD τ) sc3 fullShare (wo (V m c main_arg11)) ∗ owns (c : Thread nD τ) sc4 fullShare (wgu (V m c main_arg12)) ∗ owns (c : Thread nD τ) sc5 fullShare (wdn (V m c main_arg13)) ∗ (∃ d, owns (c : Thread nD τ) sc6 fullShare d) ∗ (∃ d, owns (c : Thread nD τ) sc7 fullShare d) ∗ (∃ d, owns (c : Thread nD τ) sc8 fullShare d) ∗ (∃ d, owns (c : Thread nD τ) sc9 fullShare d) ∗ (∃ d, owns (c : Thread nD τ) sc10 fullShare d) ∗ (∃ d, owns (c : Thread nD τ) sc11 fullShare d))
    ∗ (∃ r, prngReg c r) ∗ sems c ∗ hbs m c)

/-- What holds besides the windows before point `n`. -/
def phi (c : Dev nD) (n : ℕ) : sProp 𝕄 := if n = 0 then Pipeline.ΦD osem spec0 Hb (V m) c else carried m c
theorem phi_zero (c : Dev nD) {n : ℕ} (h : n = 0) : phi m c n = Pipeline.ΦD osem spec0 Hb (V m) c := if_pos h
theorem phi_pos (c : Dev nD) {n : ℕ} (h : ¬ n = 0) : phi m c n = carried m c := if_neg h

/-- The block of the result at point `t`. -/
def res (c : Dev nD) (t : Fin cfg0.N) : Vec F S512x1024 .f32 :=
  out (pos0 (grid0.coords t)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    (wpl (V m c main_v3)) (wba (V m c main_arg9)) (wbp (V m c main_arg10)) (wo (V m c main_arg11)) (wgu (V m c main_arg12)) (wdn (V m c main_arg13))

/-- The proof data: inputs left as found, the result's blocks as computed, the weights carried from the first point on. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => res m c t
  Φ t := phi m c t.val
  q w := Pipeline.shareOf spec0 w
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = res m c t := by dsimp only [dats]
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin cfg0.N) (d) : (dats m 0 c).before 7 t d = iblk m c 7 t :=
  ((dats m 0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem before_8 (c : Dev nD) (t : Fin cfg0.N) (d) : (dats m 0 c).before 8 t d = iblk m c 8 t :=
  ((dats m 0 c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)
theorem before_9 (c : Dev nD) (t : Fin cfg0.N) (d) : (dats m 0 c).before 9 t d = iblk m c 9 t :=
  ((dats m 0 c).before_in_eq_fetched 9 rfl (fun _ => rfl) (fun _ _ _ => rfl) (fun t => by rw [after_9]; unfold Dat.blockOf iblk; rw [A_eq]; try rfl) t d).trans
    (by unfold Dat.fetched Dat.blockOf iblk; rw [A_eq]; try rfl)
theorem before_10 (c : Dev nD) (t : Fin cfg0.N) (d) : (dats m 0 c).before 10 t d = iblk m c 10 t :=
  ((dats m 0 c).before_in_eq_fetched 10 rfl (fun _ => rfl) (fun _ _ _ => rfl) (fun t => by rw [after_10]; unfold Dat.blockOf iblk; rw [A_eq]; try rfl) t d).trans
    (by unfold Dat.fetched Dat.blockOf iblk; rw [A_eq]; try rfl)
theorem before_11 (c : Dev nD) (t : Fin cfg0.N) (d) : (dats m 0 c).before 11 t d = iblk m c 11 t :=
  ((dats m 0 c).before_in_eq_fetched 11 rfl (fun _ => rfl) (fun _ _ _ => rfl) (fun t => by rw [after_11]; unfold Dat.blockOf iblk; rw [A_eq]; try rfl) t d).trans
    (by unfold Dat.fetched Dat.blockOf iblk; rw [A_eq]; try rfl)
theorem before_12 (c : Dev nD) (t : Fin cfg0.N) (d) : (dats m 0 c).before 12 t d = iblk m c 12 t :=
  ((dats m 0 c).before_in_eq_fetched 12 rfl (fun _ => rfl) (fun _ _ _ => rfl) (fun t => by rw [after_12]; unfold Dat.blockOf iblk; rw [A_eq]; try rfl) t d).trans
    (by unfold Dat.fetched Dat.blockOf iblk; rw [A_eq]; try rfl)

/-- What a point starts with, and what it ends with. -/
def pre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d))
    ∗ (∃ d, owns (c : Thread nD τ) (win0_13.stage (cfg0.slots t 13)) fullShare ((dats m 0 c).before 13 t d)))
def post (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ owns (c : Thread nD τ) (win0_10.stage (cfg0.slots t 10)) fullShare ((dats m 0 c).after 10 t)
    ∗ owns (c : Thread nD τ) (win0_11.stage (cfg0.slots t 11)) fullShare ((dats m 0 c).after 11 t)
    ∗ owns (c : Thread nD τ) (win0_12.stage (cfg0.slots t 12)) fullShare ((dats m 0 c).after 12 t)
    ∗ owns (c : Thread nD τ) (win0_13.stage (cfg0.slots t 13)) fullShare ((dats m 0 c).after 13 t))

/-- A point other than the first, at the same position of its sequence. -/
abbrev next : grid0.Coords := grid0.coords (⟨4, Nat.lt_of_lt_of_eq (by decide : 4 < 64) N_0.symm⟩ : Fin cfg0.N)
theorem next_not_first : ¬ first next := fun h => absurd ((first_iff (⟨4, Nat.lt_of_lt_of_eq (by decide : 4 < 64) N_0.symm⟩ : Fin cfg0.N)).mp h) (by decide)
theorem next_pos (t : Fin cfg0.N) (h : t.val = 0) : pos0 next = pos0 (grid0.coords t) := by
  rw [pos0_eq, pos0_eq, h]; rfl

set_option maxHeartbeats 8000000 in
/-- The body at any point: the first loads the weights and then computes, every other only computes. -/
theorem body_run (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3, before_4, before_5, before_6, before_7, before_8, before_9, before_10, before_11, before_12]
  rw [after_0, after_1, after_2, after_3, after_4, after_5, after_6, after_7, after_8, after_9, after_10, after_11, after_12, after_13]
  rw [show (dats m 0 c).Φ t.succ = phi m c (t.val + 1) from rfl, phi_pos m c (Nat.succ_ne_zero _)]
  unfold Dat.owesAt Pipeline.owesWithin
  rw [show (dats m 0 c).owed t.castSucc = 0 from rfl, show (dats m 0 c).owed t.succ = 0 from rfl]
  unfold res
  by_cases h0 : t.val = 0
  · rw [show (dats m 0 c).Φ t.castSucc = phi m c t.val from rfl, phi_zero m c h0, launch_eq]
    unfold carried
    rw [merge_first (hi := (first_iff t).mpr h0) (hj := next_not_first) (hp := next_pos t h0), ← next_pos t h0]
    rw [wp_bind]
    iintro ⟨⟨⟨HS0, HS1, HS2, HS3, HS4, HS5, HS6, HS7, HS8, HS9, HS10, HS11⟩, Hg, ⟨Hq0, Hq1, Hq2, Hq3, Hq4, Hq5, Hq6, Hq7, Hq8, Hq9, Hq10, Hq11⟩, ⟨Hh0, Hh1, Hh2, Hh3, Hh4, Hh5⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (load_run c (grid0.coords t) _ _ _ _ _ _ _ _ _ _ _ _ _ _ _ _ _ _ _ _ _ _ _ _ _ _ _ _ _ _ _ _ _ _ _ _ _ _ _ _ _ _ _ _ _ _ _ _ _ _ _ _ (V m c main_v3) (V m c main_arg9) (V m c main_arg10) (V m c main_arg11) (V m c main_arg12) (V m c main_arg13) W _)
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    isplitl [HS11]; · iexact HS11
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    isplitl [HW]; · iexact HW
    iintro ⟨HS0, HS1, HS2, HS3, HS4, HS5, HS6, HS7, HS8, HS9, HS10, HS11, Hq0, Hq1, Hq2, Hq3, Hq4, Hq5, Hq6, Hq7, Hq8, Hq9, Hq10, Hq11, Hh0, Hh1, Hh2, Hh3, Hh4, Hh5, ⟨%W', HW⟩⟩
    iapply (comp_run c next _ _ _ _ _ _ _ _ _ _ _ _ _ _ _ _ _ _ _ _ _ _ _ _ _ _ _ _ _ _ _ _ _ _ _ _ _ _ _ _ _ _ _ _ _ _ _ _ _ _ _ _ next_not_first (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (wpl (V m c main_v3)) (wba (V m c main_arg9)) (wbp (V m c main_arg10)) (wo (V m c main_arg11)) (wgu (V m c main_arg12)) (wdn (V m c main_arg13)) _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [HS0]; · iexact HS0
    isplitl [HS1]; · iexact HS1
    isplitl [HS2]; · iexact HS2
    isplitl [HS3]; · iexact HS3
    isplitl [HS4]; · iexact HS4
    isplitl [HS5]; · iexact HS5
    isplitl [HW]; · iexact HW
    iintro ⟨H0, H1, H2, H3, H4, H5, H6, H7, H8, H9, H10, H11, H12, H13, HS0, HS1, HS2, HS3, HS4, HS5, ⟨%W2, HW2⟩⟩
    isplitl [HS0 HS1 HS2 HS3 HS4 HS5 HS6 HS7 HS8 HS9 HS10 HS11 Hg Hq0 Hq1 Hq2 Hq3 Hq4 Hq5 Hq6 Hq7 Hq8 Hq9 Hq10 Hq11 Hh0 Hh1 Hh2 Hh3 Hh4 Hh5]
    · isplitl [HS0 HS1 HS2 HS3 HS4 HS5 HS6 HS7 HS8 HS9 HS10 HS11]
      · isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [HS8]; · iexact HS8
        isplitl [HS9]; · iexact HS9
        isplitl [HS10]; · iexact HS10
        iexact HS11
      isplitl [Hg]; · iexact Hg
      isplitl [Hq0 Hq1 Hq2 Hq3 Hq4 Hq5 Hq6 Hq7 Hq8 Hq9 Hq10 Hq11]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        isplitl [Hq7]; · iexact Hq7
        isplitl [Hq8]; · iexact Hq8
        isplitl [Hq9]; · iexact Hq9
        isplitl [Hq10]; · iexact Hq10
        iexact Hq11
      isplitl [Hh0]; · iexact Hh0
      isplitl [Hh1]; · iexact Hh1
      isplitl [Hh2]; · iexact Hh2
      isplitl [Hh3]; · iexact Hh3
      isplitl [Hh4]; · iexact Hh4
      iexact Hh5
    isplitl [HW2]
    · iexists W2; isplitr; · ipureintro; exact fun _ _ => Or.inl trivial
      iexact HW2
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  · rw [show (dats m 0 c).Φ t.castSucc = phi m c t.val from rfl, phi_pos m c h0]
    unfold carried
    iintro ⟨⟨⟨HS0, HS1, HS2, HS3, HS4, HS5, HS6, HS7, HS8, HS9, HS10, HS11⟩, Hg, Hq, Hh⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (comp_run c (grid0.coords t) _ _ _ _ _ _ _ _ _ _ _ _ _ _ _ _ _ _ _ _ _ _ _ _ _ _ _ _ _ _ _ _ _ _ _ _ _ _ _ _ _ _ _ _ _ _ _ _ _ _ _ _ (fun h => h0 ((first_iff t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (wpl (V m c main_v3)) (wba (V m c main_arg9)) (wbp (V m c main_arg10)) (wo (V m c main_arg11)) (wgu (V m c main_arg12)) (wdn (V m c main_arg13)) _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [HS0]; · iexact HS0
    isplitl [HS1]; · iexact HS1
    isplitl [HS2]; · iexact HS2
    isplitl [HS3]; · iexact HS3
    isplitl [HS4]; · iexact HS4
    isplitl [HS5]; · iexact HS5
    isplitl [HW]; · iexact HW
    iintro ⟨H0, H1, H2, H3, H4, H5, H6, H7, H8, H9, H10, H11, H12, H13, HS0, HS1, HS2, HS3, HS4, HS5, ⟨%W2, HW2⟩⟩
    isplitl [HS0 HS1 HS2 HS3 HS4 HS5 HS6 HS7 HS8 HS9 HS10 HS11 Hg Hq Hh]
    · isplitl [HS0 HS1 HS2 HS3 HS4 HS5 HS6 HS7 HS8 HS9 HS10 HS11]
      · isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [HS8]; · iexact HS8
        isplitl [HS9]; · iexact HS9
        isplitl [HS10]; · iexact HS10
        iexact HS11
      isplitl [Hg]; · iexact Hg
      isplitl [Hq]; · iexact Hq
      iexact Hh
    isplitl [HW2]
    · iexists W2; isplitr; · ipureintro; exact fun _ _ => Or.inl trivial
      iexact HW2
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (body_run m c t) rfl .rfl fun _ => .rfl

theorem last_ne : ¬ (Fin.last cfg0.N).val = 0 := fun h => absurd ((show (Fin.last cfg0.N).val = 64 from N_0).symm.trans h) (by decide)

theorem carried_in (c : Dev nD) : Pipeline.ΦD osem spec0 Hb (V m) c ⊢ (dats m 0 c).Φ 0 := by
  rw [show (dats m 0 c).Φ 0 = phi m c 0 from rfl, phi_zero m c rfl]

/-- What is carried at the end is, contents forgotten, what the launch gave. -/
theorem carried_out (c : Dev nD) : (dats m 0 c).Φ (Fin.last cfg0.N) ⊢ Pipeline.ΦD osem spec0 Hb (V m) c := by
  rw [show (dats m 0 c).Φ (Fin.last cfg0.N) = phi m c (Fin.last cfg0.N).val from rfl, phi_pos m c last_ne, launch_eq]
  unfold carried
  iintro ⟨⟨HS0, HS1, HS2, HS3, HS4, HS5, HS6, HS7, HS8, HS9, HS10, HS11⟩, Hg, Hq, Hh⟩
  isplitl [HS0 HS1 HS2 HS3 HS4 HS5 HS6 HS7 HS8 HS9 HS10 HS11]
  · isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexact HS6
    isplitl [HS7]; · iexact HS7
    isplitl [HS8]; · iexact HS8
    isplitl [HS9]; · iexact HS9
    isplitl [HS10]; · iexact HS10
    iexact HS11
  isplitl [Hg]; · iexact Hg
  isplitl [Hq]; · iexact Hq
  iexact Hh

/-- The operation after the call uses none of the weight arrays. -/
theorem tail_sub : ∀ ops ∈ ([hostOps1] : List (List (HloOp τ sig (Elt F)))), ∀ op ∈ ops,
    op.bufs ⊆ Pipeline.tailRefsBut sig Pipeline.Prefetch.none spec0 Hb := by
  intro ops hops op hop
  simp only [List.mem_cons, List.mem_nil_iff, or_false] at hops
  subst hops
  simp only [List.mem_cons, List.mem_nil_iff, or_false] at hop
  subst hop
  rw [StableHlo.reshape_bufs]
  decide

set_option backward.isDefEq.respectTransparency.types false in
/-- The run: every array a window stages ends as the points leave it, every other buffer as the operation after the call
    leaves it, the semaphores at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around_shared (Q' := _) cfgs (dats m) (0 : Fin 1) launch₀0 osem defs₀ Variants.none osem_facts Hb Hb_sub m ρ main
    (hbody := fun c => (body_obligation m c).loose) (hq := fun _ _ _ => rfl)
    (howed := fun _ _ => rfl) (V₀ := V0 m) (opss := [hostOps1]) (hsub := tail_sub) (hfresh := sfx_fresh) (hkeep := sfx_keeps)
    (hmain := hmain m) (hA := A_eq m) (hin := carried_in m) (hout := carried_out m) (hQ' := fun _ h => h)

/-- A buffer that is neither a window's array nor the result is left as the call found it. -/
theorem tail_keeps (c : Dev nD) (b : Ref sig .tc) (hb : b ≠ main_v5) (hw : ∀ w, Pipeline.arrRef spec0 w ≠ b) :
    Pipeline.afterTail₀ cfgs (dats m) 0 (V0 m) [hostOps1] c b = V m c b := by
  unfold Pipeline.afterTail₀
  rw [StableHlo.after_of_forall_not_mem (b := Proc.devRef .tc b) _ _ (List.forall_iff_forall_mem.mp (by
      simp only [List.flatten_cons, List.flatten_nil, List.append_nil, List.Forall, StableHlo.reshape_writes, Finset.mem_singleton]
      exact StableHlo.devRef_ne_of_ne hb)), Pipeline.withArrays_of_ne _ c (V0 m c) _ b hw]

/-- The arguments end as they were. -/
theorem args_kept (r) (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  ⟨((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 4).trans (((dats m 0 c).arrAt_in 4 rfl _).trans ((A_eq m c 4).trans (V_main_arg2 m c))),
    ((h c).1 5).trans (((dats m 0 c).arrAt_in 5 rfl _).trans ((A_eq m c 5).trans (V_main_arg3 m c))),
    ((h c).1 9).trans (((dats m 0 c).arrAt_in 9 rfl _).trans ((A_eq m c 9).trans (V_main_arg4 m c))),
    ((h c).2 main_arg5 (Pipeline.mem_restRefs_of main_arg5 (by decide) (by decide))).trans ((tail_keeps m c main_arg5 (by decide) (by decide)).trans (V_main_arg5 m c)),
    ((h c).2 main_arg6 (Pipeline.mem_restRefs_of main_arg6 (by decide) (by decide))).trans ((tail_keeps m c main_arg6 (by decide) (by decide)).trans (V_main_arg6 m c)),
    ((h c).1 12).trans (((dats m 0 c).arrAt_in 12 rfl _).trans ((A_eq m c 12).trans (V_main_arg7 m c))),
    ((h c).2 main_arg8 (Pipeline.mem_restRefs_of main_arg8 (by decide) (by decide))).trans ((tail_keeps m c main_arg8 (by decide) (by decide)).trans (V_main_arg8 m c)),
    ((h c).2 main_arg9 (Pipeline.mem_restRefs_of main_arg9 (by decide) (by decide))).trans ((tail_keeps m c main_arg9 (by decide) (by decide)).trans (V_main_arg9 m c)),
    ((h c).2 main_arg10 (Pipeline.mem_restRefs_of main_arg10 (by decide) (by decide))).trans ((tail_keeps m c main_arg10 (by decide) (by decide)).trans (V_main_arg10 m c)),
    ((h c).2 main_arg11 (Pipeline.mem_restRefs_of main_arg11 (by decide) (by decide))).trans ((tail_keeps m c main_arg11 (by decide) (by decide)).trans (V_main_arg11 m c)),
    ((h c).2 main_arg12 (Pipeline.mem_restRefs_of main_arg12 (by decide) (by decide))).trans ((tail_keeps m c main_arg12 (by decide) (by decide)).trans (V_main_arg12 m c)),
    ((h c).2 main_arg13 (Pipeline.mem_restRefs_of main_arg13 (by decide) (by decide))).trans ((tail_keeps m c main_arg13 (by decide) (by decide)).trans (V_main_arg13 m c))⟩

end Cert.Kernel2Ideal.Merge
-- ==== Proof.MergeFrame.lean ====
/- The frames of the merge's programs: the printed program and the idealized one have the same text, so one run serves both. -/
module

public import proofs.«01_k».proof.Defs
public import proofs.«01_k».proof.Proof.Gen.Kernel2
public import proofs.«01_k».proof.Proof.Gen.Reference2Ideal
public import proofs.«01_k».proof.Proof.Gen.Reference2Ideal.Run
public import proofs.«01_k».proof.Proof.MergeRun
public import Idealize.ShloMosaic.Adequacy
public import Idealize.ShloMosaic.Init

@[expose] public section

set_option maxRecDepth 100000
set_option maxHeartbeats 4000000

noncomputable section

namespace Cert.Kernel2Ideal.Merge

open Idealize.ShloMosaic Idealize.ShloMosaic.TcCoe Idealize.SL.Sem

/-- The kernel functions are equal. -/
theorem merge_eq : @Cert.Kernel2.cc0_merge Bits _ _ = @Cert.Kernel2Ideal.cc0_merge Bits _ _ := rfl

/-- The tables of the kernels' bodies are equal. -/
theorem bodies_eq : Cert.Kernel2.defs₀ (F := Bits) = Cert.Kernel2Ideal.defs₀ (F := Bits) := by
  refine congrArg (Defs.onTc (nD := Cert.Kernel2.nD) (τ := Cert.Kernel2.τ) (sig := Cert.Kernel2.sig) (Λ := Cert.Kernel2.Λ₀))
    (funext fun l => funext fun a => ?_)
  match l, a with
  | 0, (t, s) =>
    dsimp only
    rw [merge_eq]
    rfl
  | ⟨_ + 1, h⟩, _ => exact absurd h (Nat.not_lt.2 (Nat.le_add_left _ _))

/-- The tables of all bodies are equal. -/
theorem defs_eq : Cert.Kernel2.defs (F := Bits) = Cert.Kernel2Ideal.defs (F := Bits) :=
  congrArg (Pipeline.defs (Cert.Kernel2.pcfgs (F := Bits))) bodies_eq

/-- The run, read at the arguments and at the counters, at any float values. -/
theorem frame_any {F : FTy → Type} [FloatOps F] (m : (ℓ : Loc Cert.Kernel2Ideal.nD Cert.Kernel2Ideal.τ Cert.Kernel2Ideal.sig) → Buf (Elt F) ℓ) (ρ : Dev Cert.Kernel2Ideal.nD → PrngReg) :
    θ_run (Cert.Kernel2Ideal.defs (F := F)) (onTc (τ := Cert.Kernel2Ideal.τ) (Cert.Kernel2Ideal.main (F := F))) ⟨m, fun _ => 0, ρ⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ r.2.sem = fun _ => 0) :=
  (θ_run Cert.Kernel2Ideal.defs _ _).mono (fun r h => ⟨args_kept m r h.1, h.2⟩) (run_main m ρ)

/-- The program's frame: the printed program is the idealized one. -/
theorem frame_kernel : Cert.quiescent_Kernel2 := by
  intro m ρ _
  refine (congrArg (fun d => θ_run d (onTc (τ := Cert.Kernel2.τ) (Cert.Kernel2.main (F := Bits))) ⟨m, fun _ => 0, ρ⟩ _) defs_eq).mpr ?_
  exact frame_any (F := Bits) m ρ

/-- The idealized program's frame. -/
theorem frame_ideal : Cert.quiescent_Kernel2Ideal := fun m ρ _ => frame_any (F := Ideal) m ρ

/-- The reference's frame: its run, read at the arguments; it declares no semaphore. -/
theorem frame_reference : Cert.quiescent_Reference2Ideal := fun m ρ _ =>
  (θ_run Cert.Reference2Ideal.defs _ _).mono (fun r h => ⟨fun c => (h c).2, sem_eq_zero_of_no_sems (by decide) r.2⟩) (Cert.Reference2Ideal.Value.run (F := Ideal) m ρ)

end Cert.Kernel2Ideal.Merge

end
-- ==== Proof.MergeSpec.lean ====
/- One row of what follows the attention, on extended reals: the pooled mixer, the merge of the two branches, the second
   half-step and the last normalisation. -/
module

public import proofs.«01_k».proof.Proof.Spec
public import Idealize.ShloMosaic.Lib.Pointwise

@[expose] public section

noncomputable section

namespace Cert.Rows

open Idealize.ShloMosaic

/-- A column of a sequence with eight zeros before it and zeros after it: position `n` is token `n - 8`. -/
def padded (U : Fin 2048 → EReal) (n : ℕ) : EReal := if h : 8 ≤ n ∧ n < 2056 then U ⟨n - 8, by omega⟩ else 0

theorem padded_in (U : Fin 2048 → EReal) (n : ℕ) (s : Fin 2048) (h : n = s.val + 8) : padded U n = U s := by
  subst h
  unfold padded
  rw [dif_pos ⟨by omega, by omega⟩]
  exact congrArg U (Fin.ext (Nat.add_sub_cancel _ _))

theorem padded_out (U : Fin 2048 → EReal) (n : ℕ) (h : n < 8 ∨ 2056 ≤ n) : padded U n = 0 := by
  unfold padded
  rw [dif_neg (by omega)]

/-- The sum of the tokens `s - a ... s + a - 1` that there are. -/
def window (a : ℕ) (U : Fin 2048 → EReal) (s : ℕ) : EReal := ∑ d ∈ Finset.range (2 * a), padded U (s + d + (8 - a))

/-- How many they are, as a float. -/
def count (a s : ℕ) : EReal := FloatOps.sitofp (F := Ideal) .f32 (BitVec.ofNat 32 (min (s + a) 2048 - (s - a)))

/-- The mean of the window, less the token itself. -/
def pooled (a : ℕ) (U : Fin 2048 → EReal) (s : Fin 2048) : EReal := Ideal.div (window a U s.val) (count a s.val) - U s

/-- One head of the pooled mixer: its 128 columns through its weights. -/
def head (a : ℕ) (U : Fin 2048 → Fin 128 → EReal) (w : Fin 128 → Fin 128 → EReal) (s : Fin 2048) (c : Fin 128) : EReal :=
  ∑ q, pooled a (fun s => U s q) s * w q c

/-- The columns of head `g`. -/
def cols (U : Fin 2048 → Fin 512 → EReal) (o : ℕ) (ho : o + 128 ≤ 512) (s : Fin 2048) (q : Fin 128) : EReal := U s ⟨o + q.val, by omega⟩

/-- The four heads side by side. -/
def heads (U : Fin 2048 → Fin 512 → EReal) (w : Fin 4 → Fin 128 → Fin 128 → EReal) (s : Fin 2048) (k : Fin 512) : EReal :=
  if h0 : k.val < 128 then head 1 (cols U 0 (by norm_num)) (w 0) s ⟨k.val, h0⟩
  else if h1 : k.val - 128 < 128 then head 2 (cols U 128 (by norm_num)) (w 1) s ⟨k.val - 128, by omega⟩
  else if h2 : k.val - 128 - 128 < 128 then head 4 (cols U 256 (by norm_num)) (w 2) s ⟨k.val - 128 - 128, by omega⟩
  else head 8 (cols U 384 (by norm_num)) (w 3) s ⟨k.val - 128 - 128 - 128, by omega⟩

/-- The two branches, gated and added. -/
def mix (sg : Fin 2048 → EReal) (att : Fin 1024 → EReal) (pl : Fin 512 → EReal) (wba : Fin 1024 → Fin 1024 → EReal)
    (wbp : Fin 512 → Fin 1024 → EReal) (c : Fin 1024) : EReal :=
  sg ⟨c.val, by omega⟩ * (∑ q, att q * wba q c) + sg ⟨1024 + c.val, by omega⟩ * ∑ q, pl q * wbp q c

/-- The row after the gated merge. -/
def merged (x gm y : Fin 1024 → EReal) (wo : Fin 1024 → Fin 1024 → EReal) (c : Fin 1024) : EReal := x c + gm c * ∑ q, y q * wo q c

/-- RMS normalisation with a gain. -/
def fin (x g : Fin 1024 → EReal) (c : Fin 1024) : EReal :=
  x c * Ideal.rsqrt (Ideal.div (∑ q, x q * x q) (Ideal.ofBits .f32 0x44800000#32) + Ideal.ofBits .f32 0x358637BD#32) * g c

/-- The rows of sequence `b`. -/
def seq {n : ℕ} (X : Shape.Idx ⟨2, ![32768, n]⟩ → EReal) (b : Fin 16) (s : Fin 2048) (k : Fin n) : EReal := X (ix2 ⟨b.val * 2048 + s.val, by omega⟩ k)

/-- The eight attention heads of a row, side by side. -/
def attRow (X : Shape.Idx ⟨4, ![16, 8, 2048, 128]⟩ → EReal) (b : Fin 16) (s : Fin 2048) (q : Fin 1024) : EReal :=
  X (ix4 b ⟨q.val / 128, by omega⟩ s ⟨q.val % 128, by omega⟩)

/-- The part of sequence `b`'s modulation from column `o`. -/
def modRow (X : Shape.Idx ⟨3, ![24, 1, 9216]⟩ → EReal) (b : Fin 16) (o : ℕ) (ho : o + 1024 ≤ 9216) (q : Fin 1024) : EReal :=
  X (ix3 ⟨b.val, by omega⟩ 0 ⟨o + q.val, by omega⟩)

section rows

variable (x0 : Shape.Idx ⟨2, ![32768, 1024]⟩ → EReal) (x1 : Shape.Idx ⟨4, ![16, 8, 2048, 128]⟩ → EReal) (x2 : Shape.Idx ⟨2, ![32768, 512]⟩ → EReal)
  (x3 : Shape.Idx ⟨2, ![32768, 2048]⟩ → EReal) (x4 : Shape.Idx ⟨3, ![24, 1, 9216]⟩ → EReal) (x5 : Shape.Idx ⟨3, ![1, 3, 1024]⟩ → EReal)
  (x6 : Shape.Idx ⟨1, ![1024]⟩ → EReal) (x7 : Shape.Idx ⟨2, ![1, 512]⟩ → EReal) (x8 : Shape.Idx ⟨4, ![1, 4, 128, 128]⟩ → EReal)
  (x9 : Shape.Idx ⟨3, ![1, 1024, 1024]⟩ → EReal) (x10 : Shape.Idx ⟨3, ![1, 512, 1024]⟩ → EReal) (x11 : Shape.Idx ⟨3, ![1, 1024, 1024]⟩ → EReal)
  (x12 : Shape.Idx ⟨4, ![1, 2, 1024, 5632]⟩ → EReal) (x13 : Shape.Idx ⟨4, ![1, 2, 2816, 1024]⟩ → EReal) (b : Fin 16) (s : Fin 2048)

/-- The pooled mixer's row. -/
def poolRow (k : Fin 512) : EReal := heads (seq x2 b) (fun g q c => x8 (ix4 0 g q c)) s k * x7 (ix2 0 k)

/-- The row of the two gated branches. -/
def mixRow (c : Fin 1024) : EReal :=
  mix (seq x3 b s) (attRow x1 b s) (poolRow x2 x7 x8 b s) (fun q c => x9 (ix3 0 q c)) (fun q c => x10 (ix3 0 q c)) c

/-- The row with the branches added. -/
def mergedRow (c : Fin 1024) : EReal :=
  merged (seq x0 b s) (modRow x4 b 5120 (by norm_num)) (mixRow x1 x2 x3 x7 x8 x9 x10 b s) (fun q c => x11 (ix3 0 q c)) c

/-- The row after the second feed-forward. -/
def stepRow (c : Fin 1024) : EReal :=
  step (mergedRow x0 x1 x2 x3 x4 x7 x8 x9 x10 x11 b s) (fun q => x5 (ix3 0 2 q)) (modRow x4 b 6144 (by norm_num)) (modRow x4 b 7168 (by norm_num))
    (modRow x4 b 8192 (by norm_num)) (fun k j => x12 (ix4 0 1 k j)) (fun j c => x13 (ix4 0 1 j c)) c

/-- The result's row. -/
def outRow (c : Fin 1024) : EReal := fin (stepRow x0 x1 x2 x3 x4 x5 x7 x8 x9 x10 x11 x12 x13 b s) (fun q => x6 (ix1 q)) c

end rows

end Cert.Rows

end

end
-- ==== Proof.MergePool.lean ====
/- The pooled mixer of the body, at an element. -/
module

public import proofs.«01_k».proof.Proof.MergeCompRun
public import proofs.«01_k».proof.Proof.MergeSpec
public import Idealize.ShloMosaic.Lib.Pointwise

@[expose] public section

set_option maxRecDepth 16384

noncomputable section

namespace Cert.Kernel2Ideal.Merge

open Idealize.ShloMosaic Cert.Kernel2Ideal.Gen Cert.Rows

/-! The tile with its neighbours. -/

theorem before_word : ∀ j : Fin 4, Scalar.cmpi .sgt (BitVec.ofNat 32 (j.val * 512)) 0#32 = if 0 < j.val then 1#1 else 0#1 := by decide +kernel

theorem after_word : ∀ j : Fin 4, Scalar.cmpi .slt (Scalar.addi (BitVec.ofNat 32 (j.val * 512)) 512#32) 2048#32 = if j.val < 3 then 1#1 else 0#1 := by
  decide +kernel

theorem select_one {α : Type} (x y : α) : Scalar.select (1#1 : BitVec 1) x y = x := rfl

theorem select_zero {α : Type} (x y : α) : Scalar.select (0#1 : BitVec 1) x y = y := rfl

section tile

/-- Rows of the sequence: in tile `j`, before it, after it; and a row of the stacked weights. -/
theorem tile_in (j : Fin 4) (r : Fin 512) : j.val * 512 + r.val < 2048 := by omega
theorem tile_before (j : Fin 4) (e : Fin 8) : j.val * 512 + e.val - 8 < 2048 := by omega
theorem tile_after (j : Fin 4) (h : j.val < 3) (e : Fin 8) : j.val * 512 + 512 + e.val < 2048 := by omega
theorem head_row (g : Fin 4) (q : Fin 128) : g.val * 128 + q.val < 512 := by omega

variable (U : Fin 2048 → Fin 512 → EReal) (j : Fin 4) (x2 : Vec Ideal S512x512 .f32) (x3 x4 : Vec Ideal S8x512 .f32)
  (hx2 : ∀ (r : Fin 512) (k : Fin 512), x2 (ix2 r k) = U ⟨j.val * 512 + r.val, tile_in j r⟩ k)
  (hx3 : ∀ (h : 0 < j.val) (e : Fin 8) (k : Fin 512), x3 (ix2 e k) = U ⟨j.val * 512 + e.val - 8, tile_before j e⟩ k)
  (hx4 : ∀ (h : j.val < 3) (e : Fin 8) (k : Fin 512), x4 (ix2 e k) = U ⟨j.val * 512 + 512 + e.val, tile_after j h e⟩ k)

include hx2 hx3 hx4

theorem stk_apply (e : Fin 528) (k : Fin 512) :
    stk (BitVec.ofNat 32 (j.val * 512)) x2 x3 x4 (ix2 e k) = padded (fun s => U s k) (j.val * 512 + e.val) := by
  unfold stk k0_pay48
  pointwise []
  rw [before_word, after_word]
  by_cases h1 : e.val < 8
  · rw [dif_pos h1]
    by_cases hj : 0 < j.val
    · rw [if_pos hj, select_one, hx3 hj]
      exact (padded_in (fun s => U s k) (j.val * 512 + e.val) ⟨j.val * 512 + e.val - 8, by omega⟩ (by dsimp only; omega)).symm
    · rw [if_neg hj, select_zero]
      exact (padded_out _ _ (by omega)).symm
  · rw [dif_neg h1]
    by_cases h2 : e.val - 8 < 512
    · rw [dif_pos h2, hx2]
      exact (padded_in (fun s => U s k) (j.val * 512 + e.val) ⟨j.val * 512 + (e.val - 8), by omega⟩ (by dsimp only; omega)).symm
    · rw [dif_neg h2]
      by_cases hj : j.val < 3
      · rw [if_pos hj, select_one, hx4 hj]
        exact (padded_in (fun s => U s k) (j.val * 512 + e.val) ⟨j.val * 512 + 512 + (e.val - 8 - 512), by omega⟩ (by dsimp only; omega)).symm
      · rw [if_neg hj, select_zero]
        exact (padded_out _ _ (by omega)).symm

end tile

/-! The window sums: each addition of a rotated copy doubles the rows added. -/

theorem rot_at (n : BitVec 32) (x : FVec Ideal S528x128 .f32) (h : S528x128.Rotates 0 none) (e e' : Fin 528) (c : Fin 128)
    (he : e'.val = (e.val + 528 - n.toNat % 528) % 528) : dynamicRotate 0 n none x h (ix2 e c) = x (ix2 e' c) := by
  unfold dynamicRotate
  refine congrArg x (funext fun b => Fin.ext ?_)
  match b with
  | ⟨0, _⟩ => exact he.symm
  | ⟨1, _⟩ => rfl

theorem add_up (G : ℕ → EReal) (m k : ℕ) (n : BitVec 32) (hn : n.toNat + k = 528) (hk : 0 < k) (x : FVec Ideal S528x128 .f32) (h : S528x128.Rotates 0 none) (c : Fin 128)
    (hx : ∀ e : Fin 528, e.val + m < 528 → x (ix2 e c) = G e.val) (e : Fin 528) (he : e.val + (m + k) < 528) :
    addf x (dynamicRotate 0 n none x h) (ix2 e c) = G e.val + G (e.val + k) := by
  rw [addf_apply, Ideal.addf_def, rot_at n x h e ⟨e.val + k, by omega⟩ c ?_, hx e (by omega), hx ⟨e.val + k, by omega⟩ (by dsimp only; omega)]
  dsimp only
  omega

theorem add_down (G : ℕ → EReal) (m k : ℕ) (n : BitVec 32) (hn : n.toNat = k) (hk : k < 528) (x : FVec Ideal S528x128 .f32) (h : S528x128.Rotates 0 none) (c : Fin 128)
    (hx : ∀ e : Fin 528, e.val + m < 528 → x (ix2 e c) = G e.val) (e : Fin 528) (he : e.val + m < 528) (hke : k ≤ e.val) :
    addf x (dynamicRotate 0 n none x h) (ix2 e c) = G e.val + G (e.val - k) := by
  rw [addf_apply, Ideal.addf_def, rot_at n x h e ⟨e.val - k, by omega⟩ c ?_, hx e (by omega), hx ⟨e.val - k, by omega⟩ (by dsimp only; omega)]
  dsimp only
  omega

theorem cut (x : FVec Ideal S528x128 .f32) (h) (r : Fin 512) (c : Fin 128) : extractStridedSlice S512x128 ![8, 0] x h (ix2 r c) = x (ix2 ⟨8 + r.val, by omega⟩ c) := by
  pointwise []

theorem sum0 (v13 : BitVec 32) (x2 : Vec Ideal S512x512 .f32) (x3 x4 : Vec Ideal S8x512 .f32) (G : ℕ → EReal) (c : Fin 128) (hv : ∀ e : Fin 528, (k0_pay48 v13 x2 x3 x4) (ix2 e ⟨c.val, by omega⟩) = G e.val) (r : Fin 512) :
    k0_pay51 v13 x2 x3 x4 (ix2 r c) = ∑ d ∈ Finset.range 2, G (r.val + d + 7) := by
  unfold k0_pay51
  have h0 : ∀ e : Fin 528, e.val + 0 < 528 → extractStridedSlice S528x128 ![0, 0] (k0_pay48 v13 x2 x3 x4) slices_S528x512_o0_0_S528x128 (ix2 e c) = G e.val := fun e _ => by
    refine Eq.trans ?_ (hv e)
    pointwise []
  rw [cut]
  refine (add_down G 0 1 1#32 rfl (by norm_num) _ rotates_S528x128_d0 c h0 ⟨8 + r.val, by omega⟩ (by dsimp only; omega) (by dsimp only; omega)).trans ?_
  simp only [Finset.sum_range_succ, Finset.sum_range_zero, zero_add]
  rw [show 8 + r.val - 1 = r.val + 7 by omega]
  simp only [Nat.add_assoc, Nat.reduceAdd, Nat.add_comm 8 r.val]
  ac_rfl

theorem sum1 (v : FVec Ideal S528x512 .f32) (G : ℕ → EReal) (c : Fin 128) (hv : ∀ e : Fin 528, v (ix2 e ⟨128 + c.val, by omega⟩) = G e.val) (r : Fin 512) :
    k0_pay55 v (ix2 r c) = ∑ d ∈ Finset.range 4, G (r.val + d + 6) := by
  unfold k0_pay55
  have h0 : ∀ e : Fin 528, e.val + 0 < 528 → extractStridedSlice S528x128 ![0, 128] v slices_S528x512_o0_128_S528x128 (ix2 e c) = G e.val := fun e _ => by
    refine Eq.trans ?_ (hv e)
    pointwise []
  rw [cut]
  have h1 := add_up G 0 1 527#32 rfl (by norm_num) _ rotates_S528x128_d0 c h0
  refine (add_down (fun e => G e + G (e + 1)) 1 2 2#32 rfl (by norm_num) _ rotates_S528x128_d0 c h1 ⟨8 + r.val, by omega⟩ (by dsimp only; omega) (by dsimp only; omega)).trans ?_
  simp only [Finset.sum_range_succ, Finset.sum_range_zero, zero_add]
  rw [show 8 + r.val - 2 = r.val + 6 by omega]
  simp only [Nat.add_assoc, Nat.reduceAdd, Nat.add_comm 8 r.val]
  ac_rfl

theorem sum2 (v : FVec Ideal S528x512 .f32) (G : ℕ → EReal) (c : Fin 128) (hv : ∀ e : Fin 528, v (ix2 e ⟨256 + c.val, by omega⟩) = G e.val) (r : Fin 512) :
    k0_pay60 v (ix2 r c) = ∑ d ∈ Finset.range 8, G (r.val + d + 4) := by
  unfold k0_pay60
  have h0 : ∀ e : Fin 528, e.val + 0 < 528 → extractStridedSlice S528x128 ![0, 256] v slices_S528x512_o0_256_S528x128 (ix2 e c) = G e.val := fun e _ => by
    refine Eq.trans ?_ (hv e)
    pointwise []
  rw [cut]
  have h1 := add_up G 0 1 527#32 rfl (by norm_num) _ rotates_S528x128_d0 c h0
  have h2 := add_up (fun e => G e + G (e + 1)) 1 2 526#32 rfl (by norm_num) _ rotates_S528x128_d0 c h1
  refine (add_down (fun e => (fun e => G e + G (e + 1)) e + (fun e => G e + G (e + 1)) (e + 2)) 3 4 4#32 rfl (by norm_num) _ rotates_S528x128_d0 c h2 ⟨8 + r.val, by omega⟩ (by dsimp only; omega) (by dsimp only; omega)).trans ?_
  simp only [Finset.sum_range_succ, Finset.sum_range_zero, zero_add]
  rw [show 8 + r.val - 4 = r.val + 4 by omega]
  simp only [Nat.add_assoc, Nat.reduceAdd, Nat.add_comm 8 r.val]
  ac_rfl

theorem sum3 (v : FVec Ideal S528x512 .f32) (G : ℕ → EReal) (c : Fin 128) (hv : ∀ e : Fin 528, v (ix2 e ⟨384 + c.val, by omega⟩) = G e.val) (r : Fin 512) :
    k0_pay64 v (ix2 r c) = ∑ d ∈ Finset.range 16, G (r.val + d + 0) := by
  unfold k0_pay64
  have h0 : ∀ e : Fin 528, e.val + 0 < 528 → extractStridedSlice S528x128 ![0, 384] v slices_S528x512_o0_384_S528x128 (ix2 e c) = G e.val := fun e _ => by
    refine Eq.trans ?_ (hv e)
    pointwise []
  rw [cut]
  have h1 := add_up G 0 1 527#32 rfl (by norm_num) _ rotates_S528x128_d0 c h0
  have h2 := add_up (fun e => G e + G (e + 1)) 1 2 526#32 rfl (by norm_num) _ rotates_S528x128_d0 c h1
  have h3 := add_up (fun e => (fun e => G e + G (e + 1)) e + (fun e => G e + G (e + 1)) (e + 2)) 3 4 524#32 rfl (by norm_num) _ rotates_S528x128_d0 c h2
  refine (add_down (fun e => (fun e => (fun e => G e + G (e + 1)) e + (fun e => G e + G (e + 1)) (e + 2)) e + (fun e => (fun e => G e + G (e + 1)) e + (fun e => G e + G (e + 1)) (e + 2)) (e + 4)) 7 8 8#32 rfl (by norm_num) _ rotates_S528x128_d0 c h3 ⟨8 + r.val, by omega⟩ (by dsimp only; omega) (by dsimp only; omega)).trans ?_
  simp only [Finset.sum_range_succ, Finset.sum_range_zero, zero_add]
  rw [show 8 + r.val - 8 = r.val + 0 by omega]
  simp only [Nat.add_assoc, Nat.reduceAdd, Nat.add_comm 8 r.val]
  ac_rfl

/-! The averages. -/

theorem bitsT1 : ∀ (j : Fin 4) (e : Fin 8), IntOp.subi (IntOp.minsi (IntOp.addi (IntOp.addi (BitVec.ofNat 32 (j.val * 512)) (BitVec.ofNat 32 e.val)) 1#32) 2048#32)
    (IntOp.maxsi (IntOp.subi (IntOp.addi (BitVec.ofNat 32 (j.val * 512)) (BitVec.ofNat 32 e.val)) 1#32) 0#32)
    = BitVec.ofNat 32 (min (j.val * 512 + e.val + 1) 2048 - (j.val * 512 + e.val - 1)) := by
  decide +kernel

theorem bitsB1 : ∀ (j : Fin 4) (e : Fin 8), IntOp.subi (IntOp.minsi (IntOp.addi (IntOp.addi (Scalar.addi (BitVec.ofNat 32 (j.val * 512)) 504#32) (BitVec.ofNat 32 e.val)) 1#32) 2048#32)
    (IntOp.maxsi (IntOp.subi (IntOp.addi (Scalar.addi (BitVec.ofNat 32 (j.val * 512)) 504#32) (BitVec.ofNat 32 e.val)) 1#32) 0#32)
    = BitVec.ofNat 32 (min (j.val * 512 + (504 + e.val) + 1) 2048 - (j.val * 512 + (504 + e.val) - 1)) := by
  decide +kernel

theorem bitsT2 : ∀ (j : Fin 4) (e : Fin 8), IntOp.subi (IntOp.minsi (IntOp.addi (IntOp.addi (BitVec.ofNat 32 (j.val * 512)) (BitVec.ofNat 32 e.val)) 2#32) 2048#32)
    (IntOp.maxsi (IntOp.subi (IntOp.addi (BitVec.ofNat 32 (j.val * 512)) (BitVec.ofNat 32 e.val)) 2#32) 0#32)
    = BitVec.ofNat 32 (min (j.val * 512 + e.val + 2) 2048 - (j.val * 512 + e.val - 2)) := by
  decide +kernel

theorem bitsB2 : ∀ (j : Fin 4) (e : Fin 8), IntOp.subi (IntOp.minsi (IntOp.addi (IntOp.addi (Scalar.addi (BitVec.ofNat 32 (j.val * 512)) 504#32) (BitVec.ofNat 32 e.val)) 2#32) 2048#32)
    (IntOp.maxsi (IntOp.subi (IntOp.addi (Scalar.addi (BitVec.ofNat 32 (j.val * 512)) 504#32) (BitVec.ofNat 32 e.val)) 2#32) 0#32)
    = BitVec.ofNat 32 (min (j.val * 512 + (504 + e.val) + 2) 2048 - (j.val * 512 + (504 + e.val) - 2)) := by
  decide +kernel

theorem bitsT4 : ∀ (j : Fin 4) (e : Fin 8), IntOp.subi (IntOp.minsi (IntOp.addi (IntOp.addi (BitVec.ofNat 32 (j.val * 512)) (BitVec.ofNat 32 e.val)) 4#32) 2048#32)
    (IntOp.maxsi (IntOp.subi (IntOp.addi (BitVec.ofNat 32 (j.val * 512)) (BitVec.ofNat 32 e.val)) 4#32) 0#32)
    = BitVec.ofNat 32 (min (j.val * 512 + e.val + 4) 2048 - (j.val * 512 + e.val - 4)) := by
  decide +kernel

theorem bitsB4 : ∀ (j : Fin 4) (e : Fin 8), IntOp.subi (IntOp.minsi (IntOp.addi (IntOp.addi (Scalar.addi (BitVec.ofNat 32 (j.val * 512)) 504#32) (BitVec.ofNat 32 e.val)) 4#32) 2048#32)
    (IntOp.maxsi (IntOp.subi (IntOp.addi (Scalar.addi (BitVec.ofNat 32 (j.val * 512)) 504#32) (BitVec.ofNat 32 e.val)) 4#32) 0#32)
    = BitVec.ofNat 32 (min (j.val * 512 + (504 + e.val) + 4) 2048 - (j.val * 512 + (504 + e.val) - 4)) := by
  decide +kernel

theorem bitsT8 : ∀ (j : Fin 4) (e : Fin 8), IntOp.subi (IntOp.minsi (IntOp.addi (IntOp.addi (BitVec.ofNat 32 (j.val * 512)) (BitVec.ofNat 32 e.val)) 8#32) 2048#32)
    (IntOp.maxsi (IntOp.subi (IntOp.addi (BitVec.ofNat 32 (j.val * 512)) (BitVec.ofNat 32 e.val)) 8#32) 0#32)
    = BitVec.ofNat 32 (min (j.val * 512 + e.val + 8) 2048 - (j.val * 512 + e.val - 8)) := by
  decide +kernel

theorem bitsB8 : ∀ (j : Fin 4) (e : Fin 8), IntOp.subi (IntOp.minsi (IntOp.addi (IntOp.addi (Scalar.addi (BitVec.ofNat 32 (j.val * 512)) 504#32) (BitVec.ofNat 32 e.val)) 8#32) 2048#32)
    (IntOp.maxsi (IntOp.subi (IntOp.addi (Scalar.addi (BitVec.ofNat 32 (j.val * 512)) 504#32) (BitVec.ofNat 32 e.val)) 8#32) 0#32)
    = BitVec.ofNat 32 (min (j.val * 512 + (504 + e.val) + 8) 2048 - (j.val * 512 + (504 + e.val) - 8)) := by
  decide +kernel

/-- Away from the ends a window is whole. -/
theorem count_mid (a s : ℕ) (h1 : a ≤ s) (h2 : s + a ≤ 2048) : Rows.count a s = (((2 * a : ℕ) : ℝ) : EReal) := by
  unfold Rows.count
  rw [show min (s + a) 2048 - (s - a) = 2 * a by omega]
  show (((BitVec.ofNat 32 (2 * a)).toInt : ℝ) : EReal) = _
  rw [BitVec.toInt_eq_toNat_of_lt (by rw [BitVec.toNat_ofNat]; omega), BitVec.toNat_ofNat, Nat.mod_eq_of_lt (by omega)]
  rfl

/-- Dividing by `n` is multiplying by its reciprocal. -/
theorem div_recip (x : EReal) (n : ℕ) (hn : 0 < n) (w : EReal) (hw : w = (((1 / n : ℝ)) : EReal)) : Ideal.div x (((n : ℕ) : ℝ) : EReal) = x * w := by
  have h : ((n : ℝ) : EReal) ≠ 0 := by
    rw [Ne, EReal.coe_eq_zero]; exact_mod_cast hn.ne'
  unfold Ideal.div
  rw [if_neg h, hw, ← EReal.coe_inv, one_div]

theorem recip1 : Ideal.ofBits .f32 0x3F000000#32 = (((1 / (2 : ℕ) : ℝ)) : EReal) := by
  simp [Ideal.ofBits, Ideal.ieee, -EReal.coe_mul]; norm_num

/-- The three ways the body averages a window of 2 are one division. -/
theorem avg1 (j : Fin 4) (r : Fin 512) (W : ℕ → EReal) :
    (if h : r.val < 8 then Ideal.div (W (j.val * 512 + r.val)) (FloatOps.sitofp (F := Ideal) .f32 (IntOp.subi (IntOp.minsi (IntOp.addi (IntOp.addi (BitVec.ofNat 32 (j.val * 512)) (BitVec.ofNat 32 r.val)) 1#32) 2048#32)
        (IntOp.maxsi (IntOp.subi (IntOp.addi (BitVec.ofNat 32 (j.val * 512)) (BitVec.ofNat 32 r.val)) 1#32) 0#32)))
      else if h : r.val - 8 < 496 then W (j.val * 512 + (8 + (r.val - 8))) * Ideal.ofBits .f32 0x3F000000#32
      else Ideal.div (W (j.val * 512 + (504 + (r.val - 8 - 496)))) (FloatOps.sitofp (F := Ideal) .f32 (IntOp.subi (IntOp.minsi (IntOp.addi (IntOp.addi (Scalar.addi (BitVec.ofNat 32 (j.val * 512)) 504#32) (BitVec.ofNat 32 (r.val - 8 - 496))) 1#32) 2048#32)
        (IntOp.maxsi (IntOp.subi (IntOp.addi (Scalar.addi (BitVec.ofNat 32 (j.val * 512)) 504#32) (BitVec.ofNat 32 (r.val - 8 - 496))) 1#32) 0#32))))
      = Ideal.div (W (j.val * 512 + r.val)) (Rows.count 1 (j.val * 512 + r.val)) := by
  by_cases h1 : r.val < 8
  · rw [dif_pos h1, bitsT1 j ⟨r.val, h1⟩]; rfl
  · rw [dif_neg h1]
    by_cases h2 : r.val - 8 < 496
    · rw [dif_pos h2, count_mid 1 _ (by omega) (by omega), show 8 + (r.val - 8) = r.val by omega]
      exact (div_recip _ 2 (by norm_num) _ recip1).symm
    · rw [dif_neg h2, bitsB1 j ⟨r.val - 8 - 496, by omega⟩]
      simp only [show 504 + (r.val - 8 - 496) = r.val by omega]; rfl

theorem recip2 : Ideal.ofBits .f32 0x3E800000#32 = (((1 / (4 : ℕ) : ℝ)) : EReal) := by
  simp [Ideal.ofBits, Ideal.ieee, -EReal.coe_mul]; norm_num

/-- The three ways the body averages a window of 4 are one division. -/
theorem avg2 (j : Fin 4) (r : Fin 512) (W : ℕ → EReal) :
    (if h : r.val < 8 then Ideal.div (W (j.val * 512 + r.val)) (FloatOps.sitofp (F := Ideal) .f32 (IntOp.subi (IntOp.minsi (IntOp.addi (IntOp.addi (BitVec.ofNat 32 (j.val * 512)) (BitVec.ofNat 32 r.val)) 2#32) 2048#32)
        (IntOp.maxsi (IntOp.subi (IntOp.addi (BitVec.ofNat 32 (j.val * 512)) (BitVec.ofNat 32 r.val)) 2#32) 0#32)))
      else if h : r.val - 8 < 496 then W (j.val * 512 + (8 + (r.val - 8))) * Ideal.ofBits .f32 0x3E800000#32
      else Ideal.div (W (j.val * 512 + (504 + (r.val - 8 - 496)))) (FloatOps.sitofp (F := Ideal) .f32 (IntOp.subi (IntOp.minsi (IntOp.addi (IntOp.addi (Scalar.addi (BitVec.ofNat 32 (j.val * 512)) 504#32) (BitVec.ofNat 32 (r.val - 8 - 496))) 2#32) 2048#32)
        (IntOp.maxsi (IntOp.subi (IntOp.addi (Scalar.addi (BitVec.ofNat 32 (j.val * 512)) 504#32) (BitVec.ofNat 32 (r.val - 8 - 496))) 2#32) 0#32))))
      = Ideal.div (W (j.val * 512 + r.val)) (Rows.count 2 (j.val * 512 + r.val)) := by
  by_cases h1 : r.val < 8
  · rw [dif_pos h1, bitsT2 j ⟨r.val, h1⟩]; rfl
  · rw [dif_neg h1]
    by_cases h2 : r.val - 8 < 496
    · rw [dif_pos h2, count_mid 2 _ (by omega) (by omega), show 8 + (r.val - 8) = r.val by omega]
      exact (div_recip _ 4 (by norm_num) _ recip2).symm
    · rw [dif_neg h2, bitsB2 j ⟨r.val - 8 - 496, by omega⟩]
      simp only [show 504 + (r.val - 8 - 496) = r.val by omega]; rfl

theorem recip4 : Ideal.ofBits .f32 0x3E000000#32 = (((1 / (8 : ℕ) : ℝ)) : EReal) := by
  simp [Ideal.ofBits, Ideal.ieee, -EReal.coe_mul]; norm_num

/-- The three ways the body averages a window of 8 are one division. -/
theorem avg4 (j : Fin 4) (r : Fin 512) (W : ℕ → EReal) :
    (if h : r.val < 8 then Ideal.div (W (j.val * 512 + r.val)) (FloatOps.sitofp (F := Ideal) .f32 (IntOp.subi (IntOp.minsi (IntOp.addi (IntOp.addi (BitVec.ofNat 32 (j.val * 512)) (BitVec.ofNat 32 r.val)) 4#32) 2048#32)
        (IntOp.maxsi (IntOp.subi (IntOp.addi (BitVec.ofNat 32 (j.val * 512)) (BitVec.ofNat 32 r.val)) 4#32) 0#32)))
      else if h : r.val - 8 < 496 then W (j.val * 512 + (8 + (r.val - 8))) * Ideal.ofBits .f32 0x3E000000#32
      else Ideal.div (W (j.val * 512 + (504 + (r.val - 8 - 496)))) (FloatOps.sitofp (F := Ideal) .f32 (IntOp.subi (IntOp.minsi (IntOp.addi (IntOp.addi (Scalar.addi (BitVec.ofNat 32 (j.val * 512)) 504#32) (BitVec.ofNat 32 (r.val - 8 - 496))) 4#32) 2048#32)
        (IntOp.maxsi (IntOp.subi (IntOp.addi (Scalar.addi (BitVec.ofNat 32 (j.val * 512)) 504#32) (BitVec.ofNat 32 (r.val - 8 - 496))) 4#32) 0#32))))
      = Ideal.div (W (j.val * 512 + r.val)) (Rows.count 4 (j.val * 512 + r.val)) := by
  by_cases h1 : r.val < 8
  · rw [dif_pos h1, bitsT4 j ⟨r.val, h1⟩]; rfl
  · rw [dif_neg h1]
    by_cases h2 : r.val - 8 < 496
    · rw [dif_pos h2, count_mid 4 _ (by omega) (by omega), show 8 + (r.val - 8) = r.val by omega]
      exact (div_recip _ 8 (by norm_num) _ recip4).symm
    · rw [dif_neg h2, bitsB4 j ⟨r.val - 8 - 496, by omega⟩]
      simp only [show 504 + (r.val - 8 - 496) = r.val by omega]; rfl

theorem recip8 : Ideal.ofBits .f32 0x3D800000#32 = (((1 / (16 : ℕ) : ℝ)) : EReal) := by
  simp [Ideal.ofBits, Ideal.ieee, -EReal.coe_mul]; norm_num

/-- The three ways the body averages a window of 16 are one division. -/
theorem avg8 (j : Fin 4) (r : Fin 512) (W : ℕ → EReal) :
    (if h : r.val < 8 then Ideal.div (W (j.val * 512 + r.val)) (FloatOps.sitofp (F := Ideal) .f32 (IntOp.subi (IntOp.minsi (IntOp.addi (IntOp.addi (BitVec.ofNat 32 (j.val * 512)) (BitVec.ofNat 32 r.val)) 8#32) 2048#32)
        (IntOp.maxsi (IntOp.subi (IntOp.addi (BitVec.ofNat 32 (j.val * 512)) (BitVec.ofNat 32 r.val)) 8#32) 0#32)))
      else if h : r.val - 8 < 496 then W (j.val * 512 + (8 + (r.val - 8))) * Ideal.ofBits .f32 0x3D800000#32
      else Ideal.div (W (j.val * 512 + (504 + (r.val - 8 - 496)))) (FloatOps.sitofp (F := Ideal) .f32 (IntOp.subi (IntOp.minsi (IntOp.addi (IntOp.addi (Scalar.addi (BitVec.ofNat 32 (j.val * 512)) 504#32) (BitVec.ofNat 32 (r.val - 8 - 496))) 8#32) 2048#32)
        (IntOp.maxsi (IntOp.subi (IntOp.addi (Scalar.addi (BitVec.ofNat 32 (j.val * 512)) 504#32) (BitVec.ofNat 32 (r.val - 8 - 496))) 8#32) 0#32))))
      = Ideal.div (W (j.val * 512 + r.val)) (Rows.count 8 (j.val * 512 + r.val)) := by
  by_cases h1 : r.val < 8
  · rw [dif_pos h1, bitsT8 j ⟨r.val, h1⟩]; rfl
  · rw [dif_neg h1]
    by_cases h2 : r.val - 8 < 496
    · rw [dif_pos h2, count_mid 8 _ (by omega) (by omega), show 8 + (r.val - 8) = r.val by omega]
      exact (div_recip _ 16 (by norm_num) _ recip8).symm
    · rw [dif_neg h2, bitsB8 j ⟨r.val - 8 - 496, by omega⟩]
      simp only [show 504 + (r.val - 8 - 496) = r.val by omega]; rfl

/-! The heads. -/

section heads

variable (U : Fin 2048 → Fin 512 → EReal) (j : Fin 4) (x2 : Vec Ideal S512x512 .f32) (x3 x4 : Vec Ideal S8x512 .f32) (x12 : Vec Ideal S1x512 .f32) (wq : Vec Ideal S512x128 .bf16)
  (w : Fin 4 → Fin 128 → Fin 128 → EReal)
  (hx2 : ∀ (r : Fin 512) (k : Fin 512), x2 (ix2 r k) = U ⟨j.val * 512 + r.val, tile_in j r⟩ k)
  (hx3 : ∀ (h : 0 < j.val) (e : Fin 8) (k : Fin 512), x3 (ix2 e k) = U ⟨j.val * 512 + e.val - 8, tile_before j e⟩ k)
  (hx4 : ∀ (h : j.val < 3) (e : Fin 8) (k : Fin 512), x4 (ix2 e k) = U ⟨j.val * 512 + 512 + e.val, tile_after j h e⟩ k)
  (hw : ∀ (g : Fin 4) (q c : Fin 128), wq (ix2 ⟨g.val * 128 + q.val, head_row g q⟩ c) = w g q c)

include hx2 hx3 hx4 in
theorem window0 (r : Fin 512) (c : Fin 128) : k0_pay51 (BitVec.ofNat 32 (j.val * 512)) (View.ld x2 (Rect.unit ![0, 0] S512x512.size inb_S512x512_S512x512_0_0)) (View.ld x3 (Rect.unit ![0, 0] S8x512.size inb_S8x512_S8x512_0_0)) (View.ld x4 (Rect.unit ![0, 0] S8x512.size inb_S8x512_S8x512_0_0)) (ix2 r c) = window 1 (fun s => cols U 0 (by norm_num) s c) (j.val * 512 + r.val) := by
  refine (sum0 _ _ _ _ (fun n => padded (fun s => cols U 0 (by norm_num) s c) (j.val * 512 + n)) c (fun e => (stk_apply U j x2 x3 x4 hx2 hx3 hx4 e _).trans ?_) r).trans ?_
  · unfold cols
    simp only [Nat.zero_add]
  · unfold window
    exact Finset.sum_congr rfl fun d _ => by simp only [Nat.add_assoc]

include hx2 hx3 hx4 hw in
theorem pool1_apply (r : Fin 512) (c : Fin 128) :
    pool1 (BitVec.ofNat 32 (j.val * 512)) x2 x3 x4 wq (ix2 r c) = head 1 (cols U 0 (by norm_num)) (w 0) ⟨j.val * 512 + r.val, tile_in j r⟩ c := by
  have hW := window0 U j x2 x3 x4 hx2 hx3 hx4
  unfold pool1 k0_pay54 k0_pay52 k0_pay53 k0_pay49 k0_pay50
  pointwise [hW, hx2]
  unfold head
  refine Finset.sum_congr rfl fun q _ => ?_
  rw [avg1 j r (window 1 (fun s => cols U 0 (by norm_num) s q)), ← hw 0 q c]
  unfold pooled cols
  simp only [Nat.zero_add, Fin.val_zero, Nat.zero_mul]

include hx2 hx3 hx4 in
theorem window1 (r : Fin 512) (c : Fin 128) : k0_pay55 (stk (BitVec.ofNat 32 (j.val * 512)) x2 x3 x4) (ix2 r c) = window 2 (fun s => cols U 128 (by norm_num) s c) (j.val * 512 + r.val) := by
  refine (sum1 _ (fun n => padded (fun s => cols U 128 (by norm_num) s c) (j.val * 512 + n)) c (fun e => (stk_apply U j x2 x3 x4 hx2 hx3 hx4 e _).trans ?_) r).trans ?_
  · unfold cols
    rfl
  · unfold window
    exact Finset.sum_congr rfl fun d _ => by simp only [Nat.add_assoc]

include hx2 hx3 hx4 hw in
theorem pool2_apply (r : Fin 512) (c : Fin 128) :
    pool2 (BitVec.ofNat 32 (j.val * 512)) x2 x3 x4 wq (ix2 r c) = head 2 (cols U 128 (by norm_num)) (w 1) ⟨j.val * 512 + r.val, tile_in j r⟩ c := by
  have hW := window1 U j x2 x3 x4 hx2 hx3 hx4
  unfold pool2 k0_pay59 k0_pay56 k0_pay57 k0_pay58 k0_pay49 k0_pay50
  pointwise [hW, hx2]
  unfold head
  refine Finset.sum_congr rfl fun q _ => ?_
  rw [avg2 j r (window 2 (fun s => cols U 128 (by norm_num) s q)), ← hw 1 q c]
  unfold pooled cols
  rfl

include hx2 hx3 hx4 in
theorem window2 (r : Fin 512) (c : Fin 128) : k0_pay60 (stk (BitVec.ofNat 32 (j.val * 512)) x2 x3 x4) (ix2 r c) = window 4 (fun s => cols U 256 (by norm_num) s c) (j.val * 512 + r.val) := by
  refine (sum2 _ (fun n => padded (fun s => cols U 256 (by norm_num) s c) (j.val * 512 + n)) c (fun e => (stk_apply U j x2 x3 x4 hx2 hx3 hx4 e _).trans ?_) r).trans ?_
  · unfold cols
    rfl
  · unfold window
    exact Finset.sum_congr rfl fun d _ => by simp only [Nat.add_assoc]

include hx2 hx3 hx4 hw in
theorem pool3_apply (r : Fin 512) (c : Fin 128) :
    pool3 (BitVec.ofNat 32 (j.val * 512)) x2 x3 x4 wq (ix2 r c) = head 4 (cols U 256 (by norm_num)) (w 2) ⟨j.val * 512 + r.val, tile_in j r⟩ c := by
  have hW := window2 U j x2 x3 x4 hx2 hx3 hx4
  unfold pool3 k0_pay63 k0_pay61 k0_pay62 k0_pay49 k0_pay50
  pointwise [hW, hx2]
  unfold head
  refine Finset.sum_congr rfl fun q _ => ?_
  rw [avg4 j r (window 4 (fun s => cols U 256 (by norm_num) s q)), ← hw 2 q c]
  unfold pooled cols
  rfl

include hx2 hx3 hx4 in
theorem window3 (r : Fin 512) (c : Fin 128) : k0_pay64 (stk (BitVec.ofNat 32 (j.val * 512)) x2 x3 x4) (ix2 r c) = window 8 (fun s => cols U 384 (by norm_num) s c) (j.val * 512 + r.val) := by
  refine (sum3 _ (fun n => padded (fun s => cols U 384 (by norm_num) s c) (j.val * 512 + n)) c (fun e => (stk_apply U j x2 x3 x4 hx2 hx3 hx4 e _).trans ?_) r).trans ?_
  · unfold cols
    rfl
  · unfold window
    exact Finset.sum_congr rfl fun d _ => by simp only [Nat.add_assoc]

/-- The four heads, scaled, on the tile. -/
def pooledTile (p : BitVec 32) (x2 : Vec Ideal S512x512 .f32) (x3 x4 : Vec Ideal S8x512 .f32) (x12 : Vec Ideal S1x512 .f32) (wq : Vec Ideal S512x128 .bf16) : FVec Ideal S512x512 .f32 :=
  k0_pay67 (View.ld x2 (Rect.unit ![0, 0] S512x512.size inb_S512x512_S512x512_0_0)) (k0_pay50 p) (pool1 p x2 x3 x4 wq) (pool2 p x2 x3 x4 wq) (pool3 p x2 x3 x4 wq)
    (k0_pay64 (stk p x2 x3 x4)) (k0_pay65 (stk p x2 x3 x4)) (k0_pay66 (F := Ideal) (k0_pay49 p)) (View.ld wq (Rect.unit ![384, 0] S128x128.size inb_S512x128_S128x128_384_0)) (View.ld x12 (Rect.unit ![0, 0] S1x512.size inb_S1x512_S1x512_0_0))

include hx2 hx3 hx4 hw in
theorem pooledTile_apply (r : Fin 512) (k : Fin 512) :
    pooledTile (BitVec.ofNat 32 (j.val * 512)) x2 x3 x4 x12 wq (ix2 r k) = heads U w ⟨j.val * 512 + r.val, tile_in j r⟩ k * x12 (ix2 0 k) := by
  have hW := window3 U j x2 x3 x4 hx2 hx3 hx4
  have h1 := pool1_apply U j x2 x3 x4 wq w hx2 hx3 hx4 hw
  have h2 := pool2_apply U j x2 x3 x4 wq w hx2 hx3 hx4 hw
  have h3 := pool3_apply U j x2 x3 x4 wq w hx2 hx3 hx4 hw
  unfold pooledTile k0_pay67 k0_pay65 k0_pay66 k0_pay49 k0_pay50
  pointwise [hW, hx2, h1, h2, h3]
  refine congrArg₂ (· * ·) ?_ rfl
  unfold heads
  by_cases c1 : k.val < 128
  · rw [dif_pos c1, dif_pos c1]
  · rw [dif_neg c1, dif_neg c1]
    by_cases c2 : k.val - 128 < 128
    · rw [dif_pos c2, dif_pos c2]
    · rw [dif_neg c2, dif_neg c2]
      by_cases c3 : k.val - 128 - 128 < 128
      · rw [dif_pos c3, dif_pos c3]
      · rw [dif_neg c3, dif_neg c3]
        unfold head
        refine Finset.sum_congr rfl fun q _ => ?_
        rw [avg8 j r (window 8 (fun s => cols U 384 (by norm_num) s q)), ← hw 3 q _]
        rfl

end heads

end Cert.Kernel2Ideal.Merge

end
-- ==== Proof.MergeValue.lean ====
/- What the body stores, read at an element: the row after the merge, the second half-step and the last normalisation. -/
module

public import proofs.«01_k».proof.Proof.MergePool

@[expose] public section

set_option maxRecDepth 16384

noncomputable section

namespace Cert.Kernel2Ideal.Merge

open Idealize.ShloMosaic Cert.Kernel2Ideal.Gen Cert.Rows

/-- The only row of a 1×1×1024 block. -/
abbrev row1 (x : Vec Ideal S1x1x1024 .f32) : Fin 1024 → EReal := fun k => x (ix3 0 0 k)

/-- The eight heads of a row of the block, side by side. -/
abbrev attBlk (x1 : Vec Ideal S1x8x512x128 .bf16) (r : Fin 512) : Fin 1024 → EReal := fun q => x1 (ix4 0 ⟨q.val / 128, by omega⟩ r ⟨q.val % 128, by omega⟩)

/-- Eight pieces of 128 columns, read at a column. -/
theorem pick8 (f : Fin 8 → Fin 128 → EReal) (q : Fin 1024) :
    (if h : q.val < 128 then f 0 ⟨q.val, h⟩ else if h : q.val - 128 < 128 then f 1 ⟨q.val - 128, h⟩ else if h : q.val - 128 - 128 < 128 then f 2 ⟨q.val - 128 - 128, h⟩
      else if h : q.val - 128 - 128 - 128 < 128 then f 3 ⟨q.val - 128 - 128 - 128, h⟩ else if h : q.val - 128 - 128 - 128 - 128 < 128 then f 4 ⟨q.val - 128 - 128 - 128 - 128, h⟩
      else if h : q.val - 128 - 128 - 128 - 128 - 128 < 128 then f 5 ⟨q.val - 128 - 128 - 128 - 128 - 128, h⟩
      else if h : q.val - 128 - 128 - 128 - 128 - 128 - 128 < 128 then f 6 ⟨q.val - 128 - 128 - 128 - 128 - 128 - 128, h⟩
      else f 7 ⟨q.val - 128 - 128 - 128 - 128 - 128 - 128 - 128, by omega⟩) = f ⟨q.val / 128, by omega⟩ ⟨q.val % 128, by omega⟩ := by
  split_ifs <;> (congr 1 <;> apply Fin.ext <;> simp <;> omega)

theorem attT_apply (x1 : Vec Ideal S1x8x512x128 .bf16) (x5 : Vec Ideal S512x2048 .bf16) (wba : Vec Ideal S1024x1024 .bf16) (r : Fin 256) (c : Fin 1024) :
    attT x1 x5 wba (ix2 r c) = x5 (ix2 ⟨r.val, by omega⟩ ⟨c.val, by omega⟩) * ∑ q, attBlk x1 ⟨r.val, by omega⟩ q * wba (ix2 q c) := by
  unfold attT k0_pay40 k0_pay34 k0_pay35 k0_pay36 k0_pay37 k0_pay38 k0_pay39
  pointwise []
  refine congrArg _ (Finset.sum_congr rfl fun q _ => congrArg (· * _) ?_)
  exact pick8 (fun g d => x1 (ix4 0 g ⟨r.val, by omega⟩ d)) q

theorem attB_apply (x1 : Vec Ideal S1x8x512x128 .bf16) (x5 : Vec Ideal S512x2048 .bf16) (wba : Vec Ideal S1024x1024 .bf16) (r : Fin 256) (c : Fin 1024) :
    attB x1 x5 wba (ix2 r c) = x5 (ix2 ⟨256 + r.val, by omega⟩ ⟨c.val, by omega⟩) * ∑ q, attBlk x1 ⟨256 + r.val, by omega⟩ q * wba (ix2 q c) := by
  unfold attB k0_pay47 k0_pay41 k0_pay42 k0_pay43 k0_pay44 k0_pay45 k0_pay46
  pointwise []
  refine congrArg _ (Finset.sum_congr rfl fun q _ => congrArg (· * _) ?_)
  exact pick8 (fun g d => x1 (ix4 0 g ⟨256 + r.val, by omega⟩ d)) q

variable (p : BitVec 32) (x0 : Vec Ideal S512x1024 .f32) (x1 : Vec Ideal S1x8x512x128 .bf16) (x2 : Vec Ideal S512x512 .f32) (x3 x4 : Vec Ideal S8x512 .f32)
  (x5 : Vec Ideal S512x2048 .bf16) (x6 x7 x8 x9 x10 : Vec Ideal S1x1x1024 .f32) (x11 : Vec Ideal S1x1024 .f32) (x12 : Vec Ideal S1x512 .f32)
  (wq : Vec Ideal S512x128 .bf16) (wba : Vec Ideal S1024x1024 .bf16) (wbp : Vec Ideal S512x1024 .bf16) (wo : Vec Ideal S1024x1024 .bf16)
  (wg : Vec Ideal S1024x5632 .bf16) (wd : Vec Ideal S2816x1024 .bf16)

/-- The two gated branches of a row of the block. -/
def mixTile (r : Fin 512) (c : Fin 1024) : EReal :=
  mix (fun q => x5 (ix2 r q)) (attBlk x1 r) (fun k => pooledTile p x2 x3 x4 x12 wq (ix2 r k)) (fun q c => wba (ix2 q c)) (fun q c => wbp (ix2 q c)) c

/-- The row of the block with the branches added. -/
def midTile (r : Fin 512) (c : Fin 1024) : EReal :=
  merged (fun q => x0 (ix2 r q)) (row1 x6) (mixTile p x1 x2 x3 x4 x5 x12 wq wba wbp r) (fun q c => wo (ix2 q c)) c

theorem mixT_apply (r : Fin 256) (c : Fin 1024) :
    mixT (attT x1 x5 wba) p x2 x3 x4 x5 x12 wq wbp (ix2 r c) = mixTile p x1 x2 x3 x4 x5 x12 wq wba wbp ⟨r.val, by omega⟩ c := by
  unfold mixT k0_pay68
  pointwise [attT_apply]
  rfl

theorem plB_apply (r : Fin 256) (c : Fin 1024) :
    plB p x2 x3 x4 x12 wq wbp (ix2 r c) = ∑ k, pooledTile p x2 x3 x4 x12 wq (ix2 ⟨256 + r.val, by omega⟩ k) * wbp (ix2 k c) := by
  unfold plB k0_pay70
  pointwise []
  rfl

theorem midT_apply (r : Fin 256) (c : Fin 1024) :
    midT p x0 x1 x2 x3 x4 x5 x6 x12 wq wba wbp wo (ix2 r c) = midTile p x0 x1 x2 x3 x4 x5 x6 x12 wq wba wbp wo ⟨r.val, by omega⟩ c := by
  unfold midT k0_pay71
  pointwise [mixT_apply]
  rfl

theorem midB_apply (r : Fin 256) (c : Fin 1024) :
    midB p x0 x1 x2 x3 x4 x5 x6 x12 wq wba wbp wo (ix2 r c) = midTile p x0 x1 x2 x3 x4 x5 x6 x12 wq wba wbp wo ⟨256 + r.val, by omega⟩ c := by
  unfold midB k0_pay72 k0_pay69
  pointwise [attB_apply, plB_apply]
  rfl

theorem mid_eq : mid p x0 x1 x2 x3 x4 x5 x6 x12 wq wba wbp wo
    = concatenate S512x1024 0 [⟨S256x1024, midT p x0 x1 x2 x3 x4 x5 x6 x12 wq wba wbp wo⟩, ⟨S256x1024, midB p x0 x1 x2 x3 x4 x5 x6 x12 wq wba wbp wo⟩] concatenates_S256x1024_S256x1024_S512x1024_d0 := rfl

theorem mid_apply (r : Fin 512) (c : Fin 1024) : mid p x0 x1 x2 x3 x4 x5 x6 x12 wq wba wbp wo (ix2 r c) = midTile p x0 x1 x2 x3 x4 x5 x6 x12 wq wba wbp wo r c := by
  rw [mid_eq]
  pointwise [midT_apply, midB_apply]
  by_cases h : r.val < 256
  · rw [dif_pos h]
  · rw [dif_neg h]
    exact congrArg (fun r => midTile p x0 x1 x2 x3 x4 x5 x6 x12 wq wba wbp wo r c) (Fin.ext (show 256 + (r.val - 256) = r.val by omega))

theorem meanT : k0_pay75 (mixT (attT x1 x5 wba) p x2 x3 x4 x5 x12 wq wbp) (View.ld x0 (Rect.unit ![0, 0] S256x1024.size inb_S512x1024_S256x1024_0_0)) (View.ld x6 (Rect.unit ![0, 0, 0] S1x1x1024.size inb_S1x1x1024_S1x1x1024_0_0_0)) (View.ld wo (Rect.unit ![0, 0] S1024x1024.size inb_S1024x1024_S1024x1024_0_0))
    = divf (shapeCast S256x1 (multiReduction .add [1] S256 (mulf (midT p x0 x1 x2 x3 x4 x5 x6 x12 wq wba wbp wo) (midT p x0 x1 x2 x3 x4 x5 x6 x12 wq wba wbp wo)) 0x00000000#32 reduces_S256x1024_S256 (.inl rfl) rfl) shapeCasts_S256_S256x1) (broadcast S256x1 (Scalar.ofBits .f32 0x44800000#32)) := rfl

/-- The normed and modulated rows. -/
theorem hM_apply (r : Fin 512) (k : Fin 1024) :
    hM p x0 x1 x2 x3 x4 x5 x6 x12 wq wba wbp wo x7 x8 x10 (ix2 r k) = nrm (midTile p x0 x1 x2 x3 x4 x5 x6 x12 wq wba wbp wo r) (row1 x10) (row1 x7) (row1 x8) k := by
  unfold hM
  rw [meanT]
  unfold k0_pay77 k0_pay74 k0_pay76
  pointwise [midT_apply, midB_apply]
  by_cases h : r.val < 256
  · rw [dif_pos h]
    unfold nrm
    simp only [Nat.zero_add]
  · rw [dif_neg h]
    have e : (⟨256 + (r.val - 256), by omega⟩ : Fin 512) = r := Fin.ext (show 256 + (r.val - 256) = r.val by omega)
    unfold nrm
    simp only [Nat.zero_add, e]

/-- A chunk of the feed-forward at an element. -/
theorem chM_apply (h : FVec Ideal S512x1024 .bf16) (o o' : ℕ)
    (ho : o + 256 ≤ 2816) (ho' : o' = 2816 + o) (h1) (h2) (h3) (r : Fin 512) (c : Fin 1024) :
    chM h wg wd o o' o h1 h2 h3 (ix2 r c) = chunk (fun k => h (ix2 r k)) (fun k j => wg (ix2 k j)) (fun j c => wd (ix2 j c)) c o ho := by
  subst ho'
  unfold chM glu k0_pay87
  pointwise []
  unfold chunk
  refine Finset.sum_congr rfl fun k _ => ?_
  unfold unit
  rw [← sigmoid_tanh]
  simp only [Nat.add_assoc]

/-- The whole feed-forward at an element. -/
theorem ffM_apply (h : FVec Ideal S512x1024 .bf16) (r : Fin 512) (c : Fin 1024) :
    ffM h wg wd (ix2 r c) + chM h wg wd 2560 5376 2560 inb_S1024x5632_S1024x256_0_2560 inb_S1024x5632_S1024x256_0_5376 inb_S2816x1024_S256x1024_2560_0 (ix2 r c)
      = ff (fun k => h (ix2 r k)) (fun k j => wg (ix2 k j)) (fun j c => wd (ix2 j c)) c := by
  rw [← ff_chunks]
  unfold ffM
  simp only [addf_apply, Ideal.addf_def]
  rw [chM_apply wg wd h 0 2816 (by norm_num) rfl, chM_apply wg wd h 256 3072 (by norm_num) rfl, chM_apply wg wd h 512 3328 (by norm_num) rfl, chM_apply wg wd h 768 3584 (by norm_num) rfl, chM_apply wg wd h 1024 3840 (by norm_num) rfl, chM_apply wg wd h 1280 4096 (by norm_num) rfl, chM_apply wg wd h 1536 4352 (by norm_num) rfl, chM_apply wg wd h 1792 4608 (by norm_num) rfl, chM_apply wg wd h 2048 4864 (by norm_num) rfl, chM_apply wg wd h 2304 5120 (by norm_num) rfl, chM_apply wg wd h 2560 5376 (by norm_num) rfl]

/-- The row of the block after the second half-step. -/
def stepTile (r : Fin 512) (c : Fin 1024) : EReal :=
  step (midTile p x0 x1 x2 x3 x4 x5 x6 x12 wq wba wbp wo r) (row1 x10) (row1 x7) (row1 x8) (row1 x9) (fun k j => wg (ix2 k j)) (fun j c => wd (ix2 j c)) c

/-- The rows before the last normalisation. -/
def preNorm (p : BitVec 32) (x0 : Vec Ideal S512x1024 .f32) (x1 : Vec Ideal S1x8x512x128 .bf16) (x2 : Vec Ideal S512x512 .f32) (x3 x4 : Vec Ideal S8x512 .f32)
    (x5 : Vec Ideal S512x2048 .bf16) (x6 x7 x8 x9 x10 : Vec Ideal S1x1x1024 .f32) (x12 : Vec Ideal S1x512 .f32)
    (wq : Vec Ideal S512x128 .bf16) (wba : Vec Ideal S1024x1024 .bf16) (wbp : Vec Ideal S512x1024 .bf16) (wo : Vec Ideal S1024x1024 .bf16)
    (wg : Vec Ideal S1024x5632 .bf16) (wd : Vec Ideal S2816x1024 .bf16) : FVec Ideal S512x1024 .f32 :=
  addf (mid p x0 x1 x2 x3 x4 x5 x6 x12 wq wba wbp wo) (mulf (broadcastTo S512x1024 (k0_pay78 (View.ld x9 (Rect.unit ![0, 0, 0] S1x1x1024.size inb_S1x1x1024_S1x1x1024_0_0_0))) broadcasts_S1x1024_S512x1024)
    (addf (ffM (hM p x0 x1 x2 x3 x4 x5 x6 x12 wq wba wbp wo x7 x8 x10) wg wd) (chM (hM p x0 x1 x2 x3 x4 x5 x6 x12 wq wba wbp wo x7 x8 x10) wg wd 2560 5376 2560 inb_S1024x5632_S1024x256_0_2560 inb_S1024x5632_S1024x256_0_5376 inb_S2816x1024_S256x1024_2560_0)))

theorem preNorm_apply (r : Fin 512) (c : Fin 1024) :
    preNorm p x0 x1 x2 x3 x4 x5 x6 x7 x8 x9 x10 x12 wq wba wbp wo wg wd (ix2 r c) = stepTile p x0 x1 x2 x3 x4 x5 x6 x7 x8 x9 x10 x12 wq wba wbp wo wg wd r c := by
  unfold preNorm k0_pay78
  pointwise [mid_apply, ffM_apply, hM_apply]
  rfl

theorem out_eq : out p x0 x1 x2 x3 x4 x5 x6 x7 x8 x9 x10 x11 x12 wq wba wbp wo wg wd
    = mulf (mulf (preNorm p x0 x1 x2 x3 x4 x5 x6 x7 x8 x9 x10 x12 wq wba wbp wo wg wd) (broadcastTo S512x1024 (rsqrt (addf (divf (shapeCast S512x1 (multiReduction .add [1] S512
        (mulf (preNorm p x0 x1 x2 x3 x4 x5 x6 x7 x8 x9 x10 x12 wq wba wbp wo wg wd) (preNorm p x0 x1 x2 x3 x4 x5 x6 x7 x8 x9 x10 x12 wq wba wbp wo wg wd)) 0x00000000#32 reduces_S512x1024_S512 (.inl rfl) rfl) shapeCasts_S512_S512x1)
        (broadcast S512x1 (Scalar.ofBits .f32 0x44800000#32))) (broadcast S512x1 (Scalar.ofBits .f32 0x358637BD#32)))) broadcasts_S512x1_S512x1024))
      (broadcastTo S512x1024 (shapeCast S1x1024 (View.ld x11 (Rect.unit ![0, 0] S1x1024.size inb_S1x1024_S1x1024_0_0)) shapeCasts_S1x1024_S1x1024) broadcasts_S1x1024_S512x1024) := rfl

/-- The stored block at an element. -/
theorem out_apply (r : Fin 512) (c : Fin 1024) :
    out p x0 x1 x2 x3 x4 x5 x6 x7 x8 x9 x10 x11 x12 wq wba wbp wo wg wd (ix2 r c)
      = fin (stepTile p x0 x1 x2 x3 x4 x5 x6 x7 x8 x9 x10 x12 wq wba wbp wo wg wd r) (fun q => x11 (ix2 0 q)) c := by
  rw [out_eq]
  pointwise [preNorm_apply]
  rfl

end Cert.Kernel2Ideal.Merge

end
-- ==== Proof.MergeFinal.lean ====
/- What the merge's result array holds at the end: every row is the reference row of the arguments. -/
module

public import proofs.«01_k».proof.Proof.MergeRun
public import proofs.«01_k».proof.Proof.MergeValue
public import Idealize.ShloMosaic.Lib.Pipeline.ValueKit

@[expose] public section

set_option maxRecDepth 16384

noncomputable section

namespace Cert.Kernel2Ideal.Merge

open Idealize.ShloMosaic Idealize.ShloMosaic.TcCoe Idealize.SL.Sem Cert.Kernel2Ideal.Gen Cert.Rows

variable (m : (ℓ : Loc nD τ sig) → Buf (Elt Ideal) ℓ)

/-- Which block each window stages at a point. -/
theorem idx_facts : ∀ t : Fin grid0.N, win0_0.index t = ![t.val, 0] ∧ win0_1.index t = ![t.val / 4, 0, t.val % 4, 0] ∧ win0_2.index t = ![t.val, 0] ∧ win0_3.index t = ![64 * t.val - 1, 0]
    ∧ win0_4.index t = ![min (64 * (t.val + 1)) 4095, 0] ∧ win0_5.index t = ![t.val, 0] ∧ win0_6.index t = ![t.val / 4, 0, 5] ∧ win0_7.index t = ![t.val / 4, 0, 6]
    ∧ win0_8.index t = ![t.val / 4, 0, 7] ∧ win0_9.index t = ![t.val / 4, 0, 8] ∧ win0_10.index t = ![2, 0, 0] ∧ win0_11.index t = ![0, 0] ∧ win0_12.index t = ![0, 0]
    ∧ win0_13.index t = ![t.val, 0] := by decide +kernel

theorem t_lt (t : Fin cfg0.N) : t.val < 64 := Nat.lt_of_lt_of_eq t.isLt N_0

/-- The sequence that point `t` works on, its tile of the sequence, and the tile's rows. -/
abbrev sq (t : Fin cfg0.N) : Fin 16 := ⟨t.val / 4, by have := t_lt t; omega⟩
abbrev tile (t : Fin cfg0.N) : Fin 4 := ⟨t.val % 4, by omega⟩
abbrev row (t : Fin cfg0.N) (r : Fin 512) : Fin 2048 := ⟨t.val % 4 * 512 + r.val, by omega⟩

/-! The host's reshapes, read. -/

theorem V_v1 (c : Dev nD) : V m c main_v1 = shapeCast S3x1x1024 (shapeCast S3x1024 (m ((c.tc : Thread nD τ).loc main_arg5)) shapeCasts_S1x3x1024_S3x1024) shapeCasts_S3x1024_S3x1x1024 := by
  show StableHlo.after hostOps0 (fun b => m (c, b)) _ = _
  after_results_simp; rfl
theorem V_v2 (c : Dev nD) : V m c main_v2 = shapeCast S1x1024 (m ((c.tc : Thread nD τ).loc main_arg6)) shapeCasts_S1024_S1x1024 := by
  show StableHlo.after hostOps0 (fun b => m (c, b)) _ = _
  after_results_simp; rfl
theorem V_v3 (c : Dev nD) : V m c main_v3 = shapeCast S1x512x128 (m ((c.tc : Thread nD τ).loc main_arg8)) shapeCasts_S1x4x128x128_S1x512x128 := by
  show StableHlo.after hostOps0 (fun b => m (c, b)) _ = _
  after_results_simp; rfl

theorem cast_gain (X : FVec Ideal S1x3x1024 .f32) (q : Fin 1024) :
    shapeCast S3x1x1024 (shapeCast S3x1024 X shapeCasts_S1x3x1024_S3x1024) shapeCasts_S3x1024_S3x1x1024 (ix3 2 0 q) = X (ix3 0 2 q) := by
  pointwise []
theorem cast_last (X : FVec Ideal S1024 .f32) (q : Fin 1024) : shapeCast S1x1024 X shapeCasts_S1024_S1x1024 (ix2 0 q) = X (ix1 q) := by
  pointwise []
theorem cast_pool (X : FVec Ideal S1x4x128x128 .f32) (g : Fin 4) (q c : Fin 128) :
    shapeCast S1x512x128 X shapeCasts_S1x4x128x128_S1x512x128 (ix3 0 ⟨g.val * 128 + q.val, by omega⟩ c) = X (ix4 0 g q c) := by
  pointwise []
theorem cast_out (X : FVec Ideal S32768x1024 .f32) (b : Fin 16) (s : Fin 2048) (q : Fin 1024) :
    shapeCast S16x2048x1024 X shapeCasts_S32768x1024_S16x2048x1024 (ix3 b s q) = X (ix2 ⟨b.val * 2048 + s.val, by omega⟩ q) := by
  pointwise []

/-! The blocks, read at an element of the arguments. -/

theorem blk0 (c : Dev nD) (t : Fin cfg0.N) (r : Fin 512) (q : Fin 1024) :
    iblk m c 0 t (ix2 r q) = seq (m ((c.tc : Thread nD τ).loc main_arg0)) (sq t) (row t r) q := by
  have := t_lt t
  have h : iblk m c 0 t (ix2 r q) = m ((c.tc : Thread nD τ).loc main_arg0) (ix2 ⟨t.val * 512 + r.val, by omega⟩ q) := by blk_ext [iblk, V, idx_facts t]
  refine h.trans (congrArg _ ?_)
  congr 1; apply Fin.ext; dsimp only; omega
theorem blk1 (c : Dev nD) (t : Fin cfg0.N) (r : Fin 512) : attBlk (iblk m c 1 t) r = attRow (m ((c.tc : Thread nD τ).loc main_arg1)) (sq t) (row t r) := by
  have := t_lt t
  funext q
  have h : iblk m c 1 t (ix4 0 ⟨q.val / 128, by omega⟩ r ⟨q.val % 128, by omega⟩) = m ((c.tc : Thread nD τ).loc main_arg1) (ix4 (sq t) ⟨q.val / 128, by omega⟩ (row t r) ⟨q.val % 128, by omega⟩) := by
    blk_ext [iblk, V, idx_facts t]
  exact h
theorem blk2 (c : Dev nD) (t : Fin cfg0.N) (r : Fin 512) (q : Fin 512) :
    iblk m c 2 t (ix2 r q) = seq (m ((c.tc : Thread nD τ).loc main_arg2)) (sq t) (row t r) q := by
  have := t_lt t
  have h : iblk m c 2 t (ix2 r q) = m ((c.tc : Thread nD τ).loc main_arg2) (ix2 ⟨t.val * 512 + r.val, by omega⟩ q) := by blk_ext [iblk, V, idx_facts t]
  refine h.trans (congrArg _ ?_)
  congr 1; apply Fin.ext; dsimp only; omega
theorem blk3 (c : Dev nD) (t : Fin cfg0.N) (h0 : 0 < t.val % 4) (e : Fin 8) (q : Fin 512) :
    iblk m c 3 t (ix2 e q) = seq (m ((c.tc : Thread nD τ).loc main_arg2)) (sq t) ⟨t.val % 4 * 512 + e.val - 8, by omega⟩ q := by
  have := t_lt t
  have h : iblk m c 3 t (ix2 e q) = m ((c.tc : Thread nD τ).loc main_arg2) (ix2 ⟨(64 * t.val - 1) * 8 + e.val, by omega⟩ q) := by blk_ext [iblk, V, idx_facts t]
  refine h.trans (congrArg _ ?_)
  congr 1; apply Fin.ext; dsimp only; omega
theorem blk4 (c : Dev nD) (t : Fin cfg0.N) (h0 : t.val % 4 < 3) (e : Fin 8) (q : Fin 512) :
    iblk m c 4 t (ix2 e q) = seq (m ((c.tc : Thread nD τ).loc main_arg2)) (sq t) ⟨t.val % 4 * 512 + 512 + e.val, by omega⟩ q := by
  have := t_lt t
  have h : iblk m c 4 t (ix2 e q) = m ((c.tc : Thread nD τ).loc main_arg2) (ix2 ⟨min (64 * (t.val + 1)) 4095 * 8 + e.val, by omega⟩ q) := by blk_ext [iblk, V, idx_facts t]
  refine h.trans (congrArg _ ?_)
  congr 1; apply Fin.ext; dsimp only; omega
theorem blk5 (c : Dev nD) (t : Fin cfg0.N) (r : Fin 512) (q : Fin 2048) :
    iblk m c 5 t (ix2 r q) = seq (m ((c.tc : Thread nD τ).loc main_arg3)) (sq t) (row t r) q := by
  have := t_lt t
  have h : iblk m c 5 t (ix2 r q) = m ((c.tc : Thread nD τ).loc main_arg3) (ix2 ⟨t.val * 512 + r.val, by omega⟩ q) := by blk_ext [iblk, V, idx_facts t]
  refine h.trans (congrArg _ ?_)
  congr 1; apply Fin.ext; dsimp only; omega
theorem blk6 (c : Dev nD) (t : Fin cfg0.N) : row1 (iblk m c 6 t) = modRow (m ((c.tc : Thread nD τ).loc main_arg4)) (sq t) 5120 (by norm_num) := by
  have := t_lt t
  funext q
  have h : iblk m c 6 t (ix3 0 0 q) = m ((c.tc : Thread nD τ).loc main_arg4) (ix3 ⟨(sq t).val, by omega⟩ 0 ⟨5120 + q.val, by omega⟩) := by blk_ext [iblk, V, idx_facts t]
  exact h
theorem blk7 (c : Dev nD) (t : Fin cfg0.N) : row1 (iblk m c 7 t) = modRow (m ((c.tc : Thread nD τ).loc main_arg4)) (sq t) 6144 (by norm_num) := by
  have := t_lt t
  funext q
  have h : iblk m c 7 t (ix3 0 0 q) = m ((c.tc : Thread nD τ).loc main_arg4) (ix3 ⟨(sq t).val, by omega⟩ 0 ⟨6144 + q.val, by omega⟩) := by blk_ext [iblk, V, idx_facts t]
  exact h
theorem blk8 (c : Dev nD) (t : Fin cfg0.N) : row1 (iblk m c 8 t) = modRow (m ((c.tc : Thread nD τ).loc main_arg4)) (sq t) 7168 (by norm_num) := by
  have := t_lt t
  funext q
  have h : iblk m c 8 t (ix3 0 0 q) = m ((c.tc : Thread nD τ).loc main_arg4) (ix3 ⟨(sq t).val, by omega⟩ 0 ⟨7168 + q.val, by omega⟩) := by blk_ext [iblk, V, idx_facts t]
  exact h
theorem blk9 (c : Dev nD) (t : Fin cfg0.N) : row1 (iblk m c 9 t) = modRow (m ((c.tc : Thread nD τ).loc main_arg4)) (sq t) 8192 (by norm_num) := by
  have := t_lt t
  funext q
  have h : iblk m c 9 t (ix3 0 0 q) = m ((c.tc : Thread nD τ).loc main_arg4) (ix3 ⟨(sq t).val, by omega⟩ 0 ⟨8192 + q.val, by omega⟩) := by blk_ext [iblk, V, idx_facts t]
  exact h
theorem blk10 (c : Dev nD) (t : Fin cfg0.N) : row1 (iblk m c 10 t) = fun q => m ((c.tc : Thread nD τ).loc main_arg5) (ix3 0 2 q) := by
  funext q
  have h : iblk m c 10 t (ix3 0 0 q) = V m c main_v1 (ix3 2 0 q) := by blk_ext [iblk, idx_facts t]
  exact h.trans ((congrFun (V_v1 m c) _).trans (cast_gain _ _))
theorem blk11 (c : Dev nD) (t : Fin cfg0.N) (q : Fin 1024) : iblk m c 11 t (ix2 0 q) = m ((c.tc : Thread nD τ).loc main_arg6) (ix1 q) := by
  have h : iblk m c 11 t (ix2 0 q) = V m c main_v2 (ix2 0 q) := by blk_ext [iblk, idx_facts t]
  exact h.trans ((congrFun (V_v2 m c) _).trans (cast_last _ _))
theorem blk12 (c : Dev nD) (t : Fin cfg0.N) (q : Fin 512) : iblk m c 12 t (ix2 0 q) = m ((c.tc : Thread nD τ).loc main_arg7) (ix2 0 q) := by
  blk_ext [iblk, V, idx_facts t]

/-! The weights in the scratch buffers, read at an element of the arrays in HBM. -/

/-- The pooling weights. -/
theorem wpl_apply (f) (k : Fin 512) (j : Fin 128) : wpl (F := Ideal) f (ix2 k j) = f (ix3 0 k j) := by
  have h : wplV.view.read (Elt Ideal) f = shapeCast S512x128 (((View.whole main_v3).slice (Rect.unit ![0, 0, 0] S1x512x128.size inb_S1x512x128_S1x512x128_0_0_0)).read (Elt Ideal) f)
      (by decide) := rfl
  unfold wpl
  rw [h]
  pointwise []
  refine (View.read_apply _ _).trans (congrArg f ?_)
  funext a; apply Fin.ext
  match a with
  | ⟨0, _⟩ => rfl
  | ⟨1, _⟩ => show 0 + 1 * k.val = k.val; omega
  | ⟨2, _⟩ => show 0 + 1 * j.val = j.val; omega

/-- The weights of the attention branch. -/
theorem wba_apply (f) (k : Fin 1024) (j : Fin 1024) : wba (F := Ideal) f (ix2 k j) = f (ix3 0 k j) := by
  have h : wbaV.view.read (Elt Ideal) f = shapeCast S1024x1024 (((View.whole main_arg9).slice (Rect.unit ![0, 0, 0] S1x1024x1024.size inb_S1x1024x1024_S1x1024x1024_0_0_0)).read (Elt Ideal) f)
      (by decide) := rfl
  unfold wba
  rw [h]
  pointwise []
  refine (View.read_apply _ _).trans (congrArg f ?_)
  funext a; apply Fin.ext
  match a with
  | ⟨0, _⟩ => rfl
  | ⟨1, _⟩ => show 0 + 1 * k.val = k.val; omega
  | ⟨2, _⟩ => show 0 + 1 * j.val = j.val; omega

/-- The weights of the pooling branch. -/
theorem wbp_apply (f) (k : Fin 512) (j : Fin 1024) : wbp (F := Ideal) f (ix2 k j) = f (ix3 0 k j) := by
  have h : wbpV.view.read (Elt Ideal) f = shapeCast S512x1024 (((View.whole main_arg10).slice (Rect.unit ![0, 0, 0] S1x512x1024.size inb_S1x512x1024_S1x512x1024_0_0_0)).read (Elt Ideal) f)
      (by decide) := rfl
  unfold wbp
  rw [h]
  pointwise []
  refine (View.read_apply _ _).trans (congrArg f ?_)
  funext a; apply Fin.ext
  match a with
  | ⟨0, _⟩ => rfl
  | ⟨1, _⟩ => show 0 + 1 * k.val = k.val; omega
  | ⟨2, _⟩ => show 0 + 1 * j.val = j.val; omega

/-- The output weights. -/
theorem wo_apply (f) (k : Fin 1024) (j : Fin 1024) : wo (F := Ideal) f (ix2 k j) = f (ix3 0 k j) := by
  have h : woV.view.read (Elt Ideal) f = shapeCast S1024x1024 (((View.whole main_arg11).slice (Rect.unit ![0, 0, 0] S1x1024x1024.size inb_S1x1024x1024_S1x1024x1024_0_0_0)).read (Elt Ideal) f)
      (by decide) := rfl
  unfold wo
  rw [h]
  pointwise []
  refine (View.read_apply _ _).trans (congrArg f ?_)
  funext a; apply Fin.ext
  match a with
  | ⟨0, _⟩ => rfl
  | ⟨1, _⟩ => show 0 + 1 * k.val = k.val; omega
  | ⟨2, _⟩ => show 0 + 1 * j.val = j.val; omega

/-- The gate-up weights. -/
theorem wgu_apply (f) (k : Fin 1024) (j : Fin 5632) : wgu (F := Ideal) f (ix2 k j) = f (ix4 0 1 k j) := by
  have h : wguV.view.read (Elt Ideal) f = shapeCast S1024x5632 (((View.whole main_arg12).slice (Rect.unit ![0, 1, 0, 0] S1x1x1024x5632.size inb_S1x2x1024x5632_S1x1x1024x5632_0_1_0_0)).read (Elt Ideal) f)
      (by decide) := rfl
  unfold wgu
  rw [h]
  pointwise []
  refine (View.read_apply _ _).trans (congrArg f ?_)
  funext a; apply Fin.ext
  match a with
  | ⟨0, _⟩ => rfl
  | ⟨1, _⟩ => rfl
  | ⟨2, _⟩ => show 0 + 1 * k.val = k.val; omega
  | ⟨3, _⟩ => show 0 + 1 * j.val = j.val; omega

/-- The down weights. -/
theorem wdn_apply (f) (k : Fin 2816) (j : Fin 1024) : wdn (F := Ideal) f (ix2 k j) = f (ix4 0 1 k j) := by
  have h : wdnV.view.read (Elt Ideal) f = shapeCast S2816x1024 (((View.whole main_arg13).slice (Rect.unit ![0, 1, 0, 0] S1x1x2816x1024.size inb_S1x2x2816x1024_S1x1x2816x1024_0_1_0_0)).read (Elt Ideal) f)
      (by decide) := rfl
  unfold wdn
  rw [h]
  pointwise []
  refine (View.read_apply _ _).trans (congrArg f ?_)
  funext a; apply Fin.ext
  match a with
  | ⟨0, _⟩ => rfl
  | ⟨1, _⟩ => rfl
  | ⟨2, _⟩ => show 0 + 1 * k.val = k.val; omega
  | ⟨3, _⟩ => show 0 + 1 * j.val = j.val; omega

/-- The pooling weights at an element of the argument. -/
theorem wplV_apply (c : Dev nD) (g : Fin 4) (q d : Fin 128) : wpl (F := Ideal) (V m c main_v3) (ix2 ⟨g.val * 128 + q.val, by omega⟩ d) = m ((c.tc : Thread nD τ).loc main_arg8) (ix4 0 g q d) :=
  (wpl_apply _ _ _).trans ((congrFun (V_v3 m c) _).trans (cast_pool _ _ _ _))

/-- The result at an element: a row of the reference. -/
def rowOf (c : Dev nD) (b : Fin 16) (s : Fin 2048) (q : Fin 1024) : EReal :=
  outRow (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) b s q

theorem pool_tile (c : Dev nD) (t : Fin cfg0.N) (r : Fin 512) (k : Fin 512) :
    pooledTile (BitVec.ofNat 32 (t.val % 4 * 512)) (iblk m c 2 t) (iblk m c 3 t) (iblk m c 4 t) (iblk m c 12 t) (wpl (V m c main_v3)) (ix2 r k)
      = poolRow (m ((c.tc : Thread nD τ).loc main_arg2)) (m ((c.tc : Thread nD τ).loc main_arg7)) (m ((c.tc : Thread nD τ).loc main_arg8)) (sq t) (row t r) k := by
  refine (pooledTile_apply (seq (m ((c.tc : Thread nD τ).loc main_arg2)) (sq t)) (tile t) _ _ _ _ _ (fun g q d => m ((c.tc : Thread nD τ).loc main_arg8) (ix4 0 g q d))
    (fun r k => blk2 m c t r k) (fun h e k => blk3 m c t h e k) (fun h e k => blk4 m c t h e k) (fun g q d => wplV_apply m c g q d) r k).trans ?_
  exact congrArg₂ (· * ·) rfl (blk12 m c t k)

theorem mix_tile (c : Dev nD) (t : Fin cfg0.N) (r : Fin 512) :
    mixTile (BitVec.ofNat 32 (t.val % 4 * 512)) (iblk m c 1 t) (iblk m c 2 t) (iblk m c 3 t) (iblk m c 4 t) (iblk m c 5 t) (iblk m c 12 t)
        (wpl (V m c main_v3)) (wba (m ((c.tc : Thread nD τ).loc main_arg9))) (wbp (m ((c.tc : Thread nD τ).loc main_arg10))) r
      = mixRow (m ((c.tc : Thread nD τ).loc main_arg1)) (m ((c.tc : Thread nD τ).loc main_arg2)) (m ((c.tc : Thread nD τ).loc main_arg3)) (m ((c.tc : Thread nD τ).loc main_arg7)) (m ((c.tc : Thread nD τ).loc main_arg8)) (m ((c.tc : Thread nD τ).loc main_arg9)) (m ((c.tc : Thread nD τ).loc main_arg10)) (sq t) (row t r) := by
  funext q
  unfold mixTile mixRow
  simp only [blk1, blk5, wba_apply, wbp_apply]
  exact congrArg (fun P => mix _ _ P _ _ q) (funext fun k => pool_tile m c t r k)

theorem mid_tile (c : Dev nD) (t : Fin cfg0.N) (r : Fin 512) :
    midTile (BitVec.ofNat 32 (t.val % 4 * 512)) (iblk m c 0 t) (iblk m c 1 t) (iblk m c 2 t) (iblk m c 3 t) (iblk m c 4 t) (iblk m c 5 t) (iblk m c 6 t) (iblk m c 12 t)
        (wpl (V m c main_v3)) (wba (m ((c.tc : Thread nD τ).loc main_arg9))) (wbp (m ((c.tc : Thread nD τ).loc main_arg10))) (wo (m ((c.tc : Thread nD τ).loc main_arg11))) r
      = mergedRow (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (sq t) (row t r) := by
  funext q
  unfold midTile mergedRow
  simp only [blk0, blk6, wo_apply]
  exact congrArg (fun P => merged _ _ P _ q) (mix_tile m c t r)

theorem step_tile (c : Dev nD) (t : Fin cfg0.N) (r : Fin 512) :
    stepTile (BitVec.ofNat 32 (t.val % 4 * 512)) (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 12 t)
        (wpl (V m c main_v3)) (wba (m ((c.tc : Thread nD τ).loc main_arg9))) (wbp (m ((c.tc : Thread nD τ).loc main_arg10))) (wo (m ((c.tc : Thread nD τ).loc main_arg11))) (wgu (m ((c.tc : Thread nD τ).loc main_arg12))) (wdn (m ((c.tc : Thread nD τ).loc main_arg13))) r
      = stepRow (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (sq t) (row t r) := by
  funext q
  unfold stepTile stepRow
  simp only [blk7, blk8, blk9, blk10, wgu_apply, wdn_apply]
  exact congrArg (fun P => step P _ _ _ _ _ _ q) (mid_tile m c t r)

theorem res_apply (c : Dev nD) (t : Fin cfg0.N) (r : Fin 512) (q : Fin 1024) : res m c t (ix2 r q) = rowOf m c (sq t) (row t r) q := by
  unfold res
  rw [out_apply, pos0_eq, V_main_arg9, V_main_arg10, V_main_arg11, V_main_arg12, V_main_arg13, step_tile]
  unfold rowOf outRow
  simp only [blk11]

/-- The array that the call leaves. -/
def whole (c : Dev nD) : S32768x1024.Idx → EReal := fun y =>
  rowOf m c ⟨(y 0).val / 2048, by have := (y 0).isLt; simp at this; omega⟩ ⟨(y 0).val % 2048, by omega⟩ (y 1)

theorem final_whole (c : Dev nD) : (dats m 0 c).arrAt 13 cfg0.N = whole m c := by
  refine (dats m 0 c).arrAt_eq_of_covers 13 _ (by decide +kernel) fun t hf y => ?_
  have e0 : ((((cfg0.win 13).blk t).view.emb y) 0).val = t.val * 512 + (y 0).val := by blk_simp [idx_facts t]
  have e1 : ((((cfg0.win 13).blk t).view.emb y) 1).val = (y 1).val := by blk_simp [idx_facts t]
  have := t_lt t
  have h0 : (y 0).val < 512 := (y 0).isLt
  blk_simp
  rw [after_13, eq_ix2 y]
  refine (res_apply m c t _ _).trans ?_
  unfold whole
  congr 1 <;> apply Fin.ext <;> simp only [e0, e1, ← eq_ix2] <;> omega

/-- The result: sequence after sequence. -/
def result (c : Dev nD) : S16x2048x1024.Idx → EReal := fun y => rowOf m c (y 0) (y 1) (y 2)

/-- What the host's last operation leaves. -/
theorem tail_result (c : Dev nD) : Pipeline.afterTail₀ cfgs (dats m) 0 (V0 m) [hostOps1] c main_v5 = result m c := by
  have h : Pipeline.afterTail₀ cfgs (dats m) 0 (V0 m) [hostOps1] c main_v5
      = shapeCast S16x2048x1024 (Pipeline.withArrays spec0 c (V0 m c) (fun w => (dats m 0 c).arrAt w cfg0.N) (Proc.devRef .tc main_v4)) shapeCasts_S32768x1024_S16x2048x1024 := by
    unfold Pipeline.afterTail₀
    simp only [List.flatten_cons, List.flatten_nil, List.append_nil]
    after_results_simp
    rfl
  have e : Pipeline.withArrays spec0 c (V0 m c) (fun w => (dats m 0 c).arrAt w cfg0.N) (Proc.devRef .tc main_v4) = whole m c :=
    ((dats m 0 c).withArrays_arrAt sharedIn0 (V0 m c) (A_eq m c) 13).trans (final_whole m c)
  rw [h, e]
  funext y
  rw [eq_ix3 y]
  refine (cast_out _ _ _ _).trans ?_
  have e1 : (⟨((y 0).val * 2048 + (y 1).val) / 2048, by have := (y 0).isLt; have := (y 1).isLt; simp at *; omega⟩ : Fin 16) = y 0 := Fin.ext (by have := (y 1).isLt; simp at *; omega)
  have e2 : (⟨((y 0).val * 2048 + (y 1).val) % 2048, by omega⟩ : Fin 2048) = y 1 := Fin.ext (by have := (y 1).isLt; simp at *; omega)
  exact congrArg₂ (fun b s => rowOf m c b s (y 2)) e1 e2

/-- The result at the end. -/
theorem result_at (r) (h : Pipeline.FramePost cfgs (dats m) 0 (Pipeline.afterTail₀ cfgs (dats m) 0 (V0 m) [hostOps1]) r) (c : Dev nD) :
    r.2.mem ((c.tc : Thread nD τ).loc main_v5) = result m c :=
  ((h c).2 main_v5 (Pipeline.mem_restRefs_of main_v5 (by decide) (by decide))).trans (tail_result m c)

end Cert.Kernel2Ideal.Merge

end

end
-- ==== Proof.MergeRefPool.lean ====
/- The reference's pooled mixer, at an element. -/
module

public import proofs.«01_k».proof.Proof.MergeSpec
public import proofs.«01_k».proof.Proof.RefValue
public import proofs.«01_k».proof.Proof.Gen.Reference2Ideal.Read
public import Idealize.ShloMosaic.Lib.Pointwise
public import Idealize.ShloMosaic.Lib.KernelVsHost

@[expose] public section

set_option maxRecDepth 16384

noncomputable section

namespace Cert.Reference2Ideal.Rows

open Idealize.ShloMosaic Idealize.ShloMosaic.TcCoe Cert.Reference2Ideal Cert.Reference2Ideal.Read Cert.Rows
open Cert.ReferenceIdeal.Rows (ix3_of ix4_of)

variable (x2 : FVec Ideal S32768x512 .f32) (x7 : FVec Ideal S1x512 .f32) (x8 : FVec Ideal S1x4x128x128 .f32)

theorem u_apply (b : Fin 16) (s : Fin 2048) (k : Fin 512) : val_main_v1 (F := Ideal) x2 (ix3 b s k) = seq x2 b s k := by
  rw [val_main_v1_apply]
  refine congrArg x2 (funext fun a => Fin.ext ?_)
  match a with
  | ⟨0, _⟩ => show ((b.val * 2048 + s.val) * 512 + k.val) / 512 = b.val * 2048 + s.val; omega
  | ⟨1, _⟩ => show ((b.val * 2048 + s.val) * 512 + k.val) % 512 = k.val; omega

theorem zero_word : (FloatOps.sitofp (F := Ideal) .f32 (0#32 : BitVec 32) : EReal) = 0 := by
  show (((0#32 : BitVec 32).toInt : ℝ) : EReal) = 0
  simp

theorem pscale (k : Fin 512) : val_main_v9 (F := Ideal) x7 (ix1 k) = x7 (ix2 0 k) := by
  rw [val_main_v9_apply]
  refine congrArg x7 (funext fun a => Fin.ext ?_)
  match a with
  | ⟨0, _⟩ => rfl
  | ⟨1, _⟩ => show k.val % 512 = k.val; omega

/-! Head 0: windows of 2. -/

theorem slice0 (b : Fin 16) (s : Fin 2048) (c : Fin 128) : val_main_v11 (F := Ideal) x2 (ix3 b s c) = cols (seq x2 b) 0 (by norm_num) s c := by
  rw [val_main_v11_apply]
  exact (congrArg _ (ix3_of _ b s ⟨0 + c.val, by omega⟩ rfl rfl (Nat.zero_add _).symm)).trans (u_apply x2 b s _)

theorem pad0 (b : Fin 16) (n : Fin 2050) (c : Fin 128) : val_main_v20 (F := Ideal) x2 (ix3 b n c) = padded (fun s => cols (seq x2 b) 0 (by norm_num) s c) (n.val + 7) := by
  by_cases h : 1 ≤ n.val ∧ n.val < 2049
  · rw [padded_in _ _ ⟨n.val - 1, by omega⟩ (by dsimp only; omega)]
    unfold val_main_v20
    refine (pad_apply_of_inside _ _ _ _ _ _ _ _ (ix3 b ⟨n.val - 1, by omega⟩ c) ?_).trans (slice0 x2 b _ c)
    intro d
    match d with
    | ⟨0, _⟩ => show b.val = 0 + b.val * 1; omega
    | ⟨1, _⟩ => show n.val = 1 + (n.val - 1) * 1; omega
    | ⟨2, _⟩ => show c.val = 0 + c.val * 1; omega
  · rw [padded_out _ _ (by have := n.isLt; omega)]
    unfold val_main_v20
    refine (pad_apply_of_not_inside _ _ _ _ _ _ _ _ (1 : Fin 3) ?_).trans zero_word
    rintro ⟨h1, -, h2⟩
    refine h ⟨h1, ?_⟩
    have h3 : (n.val - 1) / 1 < 2048 := h2
    omega

theorem win0 (b : Fin 16) (s : Fin 2048) (c : Fin 128) : val_main_v23 (F := Ideal) x2 (ix3 b s c) = window 1 (fun s => cols (seq x2 b) 0 (by norm_num) s c) s.val := by
  have e0 : idx_main_v21 (ix3 b s c) = ix3 b ⟨s.val + 0, by omega⟩ c := ix3_of _ _ _ _ rfl rfl rfl
  have e1 : idx_main_v22 (ix3 b s c) = ix3 b ⟨s.val + 1, by omega⟩ c := ix3_of _ _ _ _ rfl (Nat.add_comm _ _) rfl
  simp only [val_main_v23_apply, val_main_v21_apply, val_main_v22_apply, e0, e1, pad0, Ideal.addf_def]
  show _ = ∑ d ∈ Finset.range 2, _
  simp only [Finset.sum_range_succ, Finset.sum_range_zero, zero_add]

theorem bits0 : ∀ s : Fin 2048, IntOp.subi (IntOp.minsi 2048#32 (IntOp.maxsi 0#32 (IntOp.subi (IntOp.addi (BitVec.ofNat 32 s.val) 2#32) 1#32)))
    (IntOp.minsi 2048#32 (IntOp.maxsi 0#32 (IntOp.subi (BitVec.ofNat 32 s.val) 1#32))) = BitVec.ofNat 32 (min (s.val + 1) 2048 - (s.val - 1)) := by
  decide +kernel

theorem cnt0 (s : Fin 2048) : val_main_v25 (F := Ideal) (ix1 s) = count 1 s.val := by
  refine Eq.trans ?_ (congrArg (FloatOps.sitofp (F := Ideal) .f32) (bits0 s))
  simp only [val_main_v25_apply, val_main_v24_apply, val_main_v19_apply, val_main_v14_apply, val_main_call0_v4_apply, val_main_call0_v3_apply, val_main_call0_v2_apply, val_main_call0_v1_apply, val_main_call0_v0_apply, val_main_call1_v4_apply, val_main_call1_v3_apply, val_main_call1_v2_apply, val_main_call1_v1_apply, val_main_call1_v0_apply, val_main_v12_apply, val_main_v13_apply, val_main_v15_apply, val_main_v16_apply, val_main_v17_apply, val_main_v18_apply, val_main_v10_apply, val_main_c_apply, val_main_c_0_apply, val_main_c_1_apply, val_main_c_2_apply, val_main_c_3_apply, val_main_c_4_apply, val_main_c_5_apply]
  rfl

theorem pooled0 (b : Fin 16) (s : Fin 2048) (c : Fin 128) : val_main_v29 (F := Ideal) x2 (ix3 b s c) = pooled 1 (fun s => cols (seq x2 b) 0 (by norm_num) s c) s := by
  have e : idx_main_v26 (idx_main_v27 (ix3 b s c)) = ix1 s := by funext a; match a with | ⟨0, _⟩ => rfl
  rw [val_main_v29_apply, val_main_v28_apply, val_main_v27_apply, val_main_v26_apply, e, cnt0, win0, slice0]
  rfl

theorem weight0 (q c : Fin 128) : val_main_v31 (F := Ideal) x8 (ix2 q c) = x8 (ix4 0 0 q c) := by
  rw [val_main_v31_apply, val_main_v30_apply, val_main_v8_apply]
  refine congrArg x8 (ix4_of _ _ _ _ _ rfl ?_ ?_ ?_)
  · have : ((0 * 128 + q.val) * 128 + c.val) / 16384 % 4 = 0 := by omega
    simp [idx_main_v8, idx_main_v30, idx_main_v31] <;> omega
  · simp [idx_main_v8, idx_main_v30, idx_main_v31] <;> omega
  · simp [idx_main_v8, idx_main_v30, idx_main_v31] <;> omega

theorem head0 (b : Fin 16) (s : Fin 2048) (c : Fin 128) :
    val_main_v32 (F := Ideal) x2 x8 (ix3 b s c) = head 1 (cols (seq x2 b) 0 (by norm_num)) (fun q c => x8 (ix4 0 0 q c)) s c := by
  rw [val_main_v32_apply]
  unfold head
  refine Finset.sum_congr rfl fun q _ => ?_
  rw [show lidx_main_v32 (ix3 b s c) q = ix3 b s q from ix3_of _ _ _ _ rfl rfl rfl, show ridx_main_v32 (ix3 b s c) q = ix2 q c from eq_ix2 _, pooled0, weight0]

/-! Head 1: windows of 4. -/

theorem slice1 (b : Fin 16) (s : Fin 2048) (c : Fin 128) : val_main_v33 (F := Ideal) x2 (ix3 b s c) = cols (seq x2 b) 128 (by norm_num) s c := by
  rw [val_main_v33_apply]
  exact (congrArg _ (ix3_of _ b s ⟨128 + c.val, by omega⟩ rfl rfl rfl)).trans (u_apply x2 b s _)

theorem pad1 (b : Fin 16) (n : Fin 2052) (c : Fin 128) : val_main_v42 (F := Ideal) x2 (ix3 b n c) = padded (fun s => cols (seq x2 b) 128 (by norm_num) s c) (n.val + 6) := by
  by_cases h : 2 ≤ n.val ∧ n.val < 2050
  · rw [padded_in _ _ ⟨n.val - 2, by omega⟩ (by dsimp only; omega)]
    unfold val_main_v42
    refine (pad_apply_of_inside _ _ _ _ _ _ _ _ (ix3 b ⟨n.val - 2, by omega⟩ c) ?_).trans (slice1 x2 b _ c)
    intro d
    match d with
    | ⟨0, _⟩ => show b.val = 0 + b.val * 1; omega
    | ⟨1, _⟩ => show n.val = 2 + (n.val - 2) * 1; omega
    | ⟨2, _⟩ => show c.val = 0 + c.val * 1; omega
  · rw [padded_out _ _ (by have := n.isLt; omega)]
    unfold val_main_v42
    refine (pad_apply_of_not_inside _ _ _ _ _ _ _ _ (1 : Fin 3) ?_).trans zero_word
    rintro ⟨h1, -, h2⟩
    refine h ⟨h1, ?_⟩
    have h3 : (n.val - 2) / 1 < 2048 := h2
    omega

theorem win1 (b : Fin 16) (s : Fin 2048) (c : Fin 128) : val_main_v49 (F := Ideal) x2 (ix3 b s c) = window 2 (fun s => cols (seq x2 b) 128 (by norm_num) s c) s.val := by
  have e0 : idx_main_v43 (ix3 b s c) = ix3 b ⟨s.val + 0, by omega⟩ c := ix3_of _ _ _ _ rfl rfl rfl
  have e1 : idx_main_v44 (ix3 b s c) = ix3 b ⟨s.val + 1, by omega⟩ c := ix3_of _ _ _ _ rfl (Nat.add_comm _ _) rfl
  have e2 : idx_main_v46 (ix3 b s c) = ix3 b ⟨s.val + 2, by omega⟩ c := ix3_of _ _ _ _ rfl (Nat.add_comm _ _) rfl
  have e3 : idx_main_v48 (ix3 b s c) = ix3 b ⟨s.val + 3, by omega⟩ c := ix3_of _ _ _ _ rfl (Nat.add_comm _ _) rfl
  simp only [val_main_v45_apply, val_main_v47_apply, val_main_v49_apply, val_main_v43_apply, val_main_v44_apply, val_main_v46_apply, val_main_v48_apply, e0, e1, e2, e3, pad1, Ideal.addf_def]
  show _ = ∑ d ∈ Finset.range 4, _
  simp only [Finset.sum_range_succ, Finset.sum_range_zero, zero_add]

theorem bits1 : ∀ s : Fin 2048, IntOp.subi (IntOp.minsi 2048#32 (IntOp.maxsi 0#32 (IntOp.subi (IntOp.addi (BitVec.ofNat 32 s.val) 4#32) 2#32)))
    (IntOp.minsi 2048#32 (IntOp.maxsi 0#32 (IntOp.subi (BitVec.ofNat 32 s.val) 2#32))) = BitVec.ofNat 32 (min (s.val + 2) 2048 - (s.val - 2)) := by
  decide +kernel

theorem cnt1 (s : Fin 2048) : val_main_v51 (F := Ideal) (ix1 s) = count 2 s.val := by
  refine Eq.trans ?_ (congrArg (FloatOps.sitofp (F := Ideal) .f32) (bits1 s))
  simp only [val_main_v51_apply, val_main_v50_apply, val_main_v41_apply, val_main_v36_apply, val_main_call3_v4_apply, val_main_call3_v3_apply, val_main_call3_v2_apply, val_main_call3_v1_apply, val_main_call3_v0_apply, val_main_call4_v4_apply, val_main_call4_v3_apply, val_main_call4_v2_apply, val_main_call4_v1_apply, val_main_call4_v0_apply, val_main_v34_apply, val_main_v35_apply, val_main_v37_apply, val_main_v38_apply, val_main_v39_apply, val_main_v40_apply, val_main_v10_apply, val_main_c_7_apply, val_main_c_8_apply, val_main_c_9_apply, val_main_c_10_apply, val_main_c_11_apply, val_main_c_12_apply, val_main_c_13_apply]
  rfl

theorem pooled1 (b : Fin 16) (s : Fin 2048) (c : Fin 128) : val_main_v55 (F := Ideal) x2 (ix3 b s c) = pooled 2 (fun s => cols (seq x2 b) 128 (by norm_num) s c) s := by
  have e : idx_main_v52 (idx_main_v53 (ix3 b s c)) = ix1 s := by funext a; match a with | ⟨0, _⟩ => rfl
  rw [val_main_v55_apply, val_main_v54_apply, val_main_v53_apply, val_main_v52_apply, e, cnt1, win1, slice1]
  rfl

theorem weight1 (q c : Fin 128) : val_main_v57 (F := Ideal) x8 (ix2 q c) = x8 (ix4 0 1 q c) := by
  rw [val_main_v57_apply, val_main_v56_apply, val_main_v8_apply]
  refine congrArg x8 (ix4_of _ _ _ _ _ rfl ?_ ?_ ?_)
  · have : ((1 * 128 + q.val) * 128 + c.val) / 16384 % 4 = 1 := by omega
    simp [idx_main_v8, idx_main_v56, idx_main_v57] <;> omega
  · simp [idx_main_v8, idx_main_v56, idx_main_v57] <;> omega
  · simp [idx_main_v8, idx_main_v56, idx_main_v57] <;> omega

theorem head1 (b : Fin 16) (s : Fin 2048) (c : Fin 128) :
    val_main_v58 (F := Ideal) x2 x8 (ix3 b s c) = head 2 (cols (seq x2 b) 128 (by norm_num)) (fun q c => x8 (ix4 0 1 q c)) s c := by
  rw [val_main_v58_apply]
  unfold head
  refine Finset.sum_congr rfl fun q _ => ?_
  rw [show lidx_main_v58 (ix3 b s c) q = ix3 b s q from ix3_of _ _ _ _ rfl rfl rfl, show ridx_main_v58 (ix3 b s c) q = ix2 q c from eq_ix2 _, pooled1, weight1]

/-! Head 2: windows of 8. -/

theorem slice2 (b : Fin 16) (s : Fin 2048) (c : Fin 128) : val_main_v59 (F := Ideal) x2 (ix3 b s c) = cols (seq x2 b) 256 (by norm_num) s c := by
  rw [val_main_v59_apply]
  exact (congrArg _ (ix3_of _ b s ⟨256 + c.val, by omega⟩ rfl rfl rfl)).trans (u_apply x2 b s _)

theorem pad2 (b : Fin 16) (n : Fin 2056) (c : Fin 128) : val_main_v68 (F := Ideal) x2 (ix3 b n c) = padded (fun s => cols (seq x2 b) 256 (by norm_num) s c) (n.val + 4) := by
  by_cases h : 4 ≤ n.val ∧ n.val < 2052
  · rw [padded_in _ _ ⟨n.val - 4, by omega⟩ (by dsimp only; omega)]
    unfold val_main_v68
    refine (pad_apply_of_inside _ _ _ _ _ _ _ _ (ix3 b ⟨n.val - 4, by omega⟩ c) ?_).trans (slice2 x2 b _ c)
    intro d
    match d with
    | ⟨0, _⟩ => show b.val = 0 + b.val * 1; omega
    | ⟨1, _⟩ => show n.val = 4 + (n.val - 4) * 1; omega
    | ⟨2, _⟩ => show c.val = 0 + c.val * 1; omega
  · rw [padded_out _ _ (by have := n.isLt; omega)]
    unfold val_main_v68
    refine (pad_apply_of_not_inside _ _ _ _ _ _ _ _ (1 : Fin 3) ?_).trans zero_word
    rintro ⟨h1, -, h2⟩
    refine h ⟨h1, ?_⟩
    have h3 : (n.val - 4) / 1 < 2048 := h2
    omega

theorem win2 (b : Fin 16) (s : Fin 2048) (c : Fin 128) : val_main_v83 (F := Ideal) x2 (ix3 b s c) = window 4 (fun s => cols (seq x2 b) 256 (by norm_num) s c) s.val := by
  have e0 : idx_main_v69 (ix3 b s c) = ix3 b ⟨s.val + 0, by omega⟩ c := ix3_of _ _ _ _ rfl rfl rfl
  have e1 : idx_main_v70 (ix3 b s c) = ix3 b ⟨s.val + 1, by omega⟩ c := ix3_of _ _ _ _ rfl (Nat.add_comm _ _) rfl
  have e2 : idx_main_v72 (ix3 b s c) = ix3 b ⟨s.val + 2, by omega⟩ c := ix3_of _ _ _ _ rfl (Nat.add_comm _ _) rfl
  have e3 : idx_main_v74 (ix3 b s c) = ix3 b ⟨s.val + 3, by omega⟩ c := ix3_of _ _ _ _ rfl (Nat.add_comm _ _) rfl
  have e4 : idx_main_v76 (ix3 b s c) = ix3 b ⟨s.val + 4, by omega⟩ c := ix3_of _ _ _ _ rfl (Nat.add_comm _ _) rfl
  have e5 : idx_main_v78 (ix3 b s c) = ix3 b ⟨s.val + 5, by omega⟩ c := ix3_of _ _ _ _ rfl (Nat.add_comm _ _) rfl
  have e6 : idx_main_v80 (ix3 b s c) = ix3 b ⟨s.val + 6, by omega⟩ c := ix3_of _ _ _ _ rfl (Nat.add_comm _ _) rfl
  have e7 : idx_main_v82 (ix3 b s c) = ix3 b ⟨s.val + 7, by omega⟩ c := ix3_of _ _ _ _ rfl (Nat.add_comm _ _) rfl
  simp only [val_main_v71_apply, val_main_v73_apply, val_main_v75_apply, val_main_v77_apply, val_main_v79_apply, val_main_v81_apply, val_main_v83_apply, val_main_v69_apply, val_main_v70_apply, val_main_v72_apply, val_main_v74_apply, val_main_v76_apply, val_main_v78_apply, val_main_v80_apply, val_main_v82_apply, e0, e1, e2, e3, e4, e5, e6, e7, pad2, Ideal.addf_def]
  show _ = ∑ d ∈ Finset.range 8, _
  simp only [Finset.sum_range_succ, Finset.sum_range_zero, zero_add]

theorem bits2 : ∀ s : Fin 2048, IntOp.subi (IntOp.minsi 2048#32 (IntOp.maxsi 0#32 (IntOp.subi (IntOp.addi (BitVec.ofNat 32 s.val) 8#32) 4#32)))
    (IntOp.minsi 2048#32 (IntOp.maxsi 0#32 (IntOp.subi (BitVec.ofNat 32 s.val) 4#32))) = BitVec.ofNat 32 (min (s.val + 4) 2048 - (s.val - 4)) := by
  decide +kernel

theorem cnt2 (s : Fin 2048) : val_main_v85 (F := Ideal) (ix1 s) = count 4 s.val := by
  refine Eq.trans ?_ (congrArg (FloatOps.sitofp (F := Ideal) .f32) (bits2 s))
  simp only [val_main_v85_apply, val_main_v84_apply, val_main_v67_apply, val_main_v62_apply, val_main_call6_v4_apply, val_main_call6_v3_apply, val_main_call6_v2_apply, val_main_call6_v1_apply, val_main_call6_v0_apply, val_main_call7_v4_apply, val_main_call7_v3_apply, val_main_call7_v2_apply, val_main_call7_v1_apply, val_main_call7_v0_apply, val_main_v60_apply, val_main_v61_apply, val_main_v63_apply, val_main_v64_apply, val_main_v65_apply, val_main_v66_apply, val_main_v10_apply, val_main_c_15_apply, val_main_c_16_apply, val_main_c_17_apply, val_main_c_18_apply, val_main_c_19_apply, val_main_c_20_apply, val_main_c_21_apply]
  rfl

theorem pooled2 (b : Fin 16) (s : Fin 2048) (c : Fin 128) : val_main_v89 (F := Ideal) x2 (ix3 b s c) = pooled 4 (fun s => cols (seq x2 b) 256 (by norm_num) s c) s := by
  have e : idx_main_v86 (idx_main_v87 (ix3 b s c)) = ix1 s := by funext a; match a with | ⟨0, _⟩ => rfl
  rw [val_main_v89_apply, val_main_v88_apply, val_main_v87_apply, val_main_v86_apply, e, cnt2, win2, slice2]
  rfl

theorem weight2 (q c : Fin 128) : val_main_v91 (F := Ideal) x8 (ix2 q c) = x8 (ix4 0 2 q c) := by
  rw [val_main_v91_apply, val_main_v90_apply, val_main_v8_apply]
  refine congrArg x8 (ix4_of _ _ _ _ _ rfl ?_ ?_ ?_)
  · have : ((2 * 128 + q.val) * 128 + c.val) / 16384 % 4 = 2 := by omega
    simp [idx_main_v8, idx_main_v90, idx_main_v91] <;> omega
  · simp [idx_main_v8, idx_main_v90, idx_main_v91] <;> omega
  · simp [idx_main_v8, idx_main_v90, idx_main_v91] <;> omega

theorem head2 (b : Fin 16) (s : Fin 2048) (c : Fin 128) :
    val_main_v92 (F := Ideal) x2 x8 (ix3 b s c) = head 4 (cols (seq x2 b) 256 (by norm_num)) (fun q c => x8 (ix4 0 2 q c)) s c := by
  rw [val_main_v92_apply]
  unfold head
  refine Finset.sum_congr rfl fun q _ => ?_
  rw [show lidx_main_v92 (ix3 b s c) q = ix3 b s q from ix3_of _ _ _ _ rfl rfl rfl, show ridx_main_v92 (ix3 b s c) q = ix2 q c from eq_ix2 _, pooled2, weight2]

/-! Head 3: windows of 16. -/

theorem slice3 (b : Fin 16) (s : Fin 2048) (c : Fin 128) : val_main_v93 (F := Ideal) x2 (ix3 b s c) = cols (seq x2 b) 384 (by norm_num) s c := by
  rw [val_main_v93_apply]
  exact (congrArg _ (ix3_of _ b s ⟨384 + c.val, by omega⟩ rfl rfl rfl)).trans (u_apply x2 b s _)

theorem pad3 (b : Fin 16) (n : Fin 2064) (c : Fin 128) : val_main_v102 (F := Ideal) x2 (ix3 b n c) = padded (fun s => cols (seq x2 b) 384 (by norm_num) s c) (n.val + 0) := by
  by_cases h : 8 ≤ n.val ∧ n.val < 2056
  · rw [padded_in _ _ ⟨n.val - 8, by omega⟩ (by dsimp only; omega)]
    unfold val_main_v102
    refine (pad_apply_of_inside _ _ _ _ _ _ _ _ (ix3 b ⟨n.val - 8, by omega⟩ c) ?_).trans (slice3 x2 b _ c)
    intro d
    match d with
    | ⟨0, _⟩ => show b.val = 0 + b.val * 1; omega
    | ⟨1, _⟩ => show n.val = 8 + (n.val - 8) * 1; omega
    | ⟨2, _⟩ => show c.val = 0 + c.val * 1; omega
  · rw [padded_out _ _ (by have := n.isLt; omega)]
    unfold val_main_v102
    refine (pad_apply_of_not_inside _ _ _ _ _ _ _ _ (1 : Fin 3) ?_).trans zero_word
    rintro ⟨h1, -, h2⟩
    refine h ⟨h1, ?_⟩
    have h3 : (n.val - 8) / 1 < 2048 := h2
    omega

theorem win3 (b : Fin 16) (s : Fin 2048) (c : Fin 128) : val_main_v133 (F := Ideal) x2 (ix3 b s c) = window 8 (fun s => cols (seq x2 b) 384 (by norm_num) s c) s.val := by
  have e0 : idx_main_v103 (ix3 b s c) = ix3 b ⟨s.val + 0, by omega⟩ c := ix3_of _ _ _ _ rfl rfl rfl
  have e1 : idx_main_v104 (ix3 b s c) = ix3 b ⟨s.val + 1, by omega⟩ c := ix3_of _ _ _ _ rfl (Nat.add_comm _ _) rfl
  have e2 : idx_main_v106 (ix3 b s c) = ix3 b ⟨s.val + 2, by omega⟩ c := ix3_of _ _ _ _ rfl (Nat.add_comm _ _) rfl
  have e3 : idx_main_v108 (ix3 b s c) = ix3 b ⟨s.val + 3, by omega⟩ c := ix3_of _ _ _ _ rfl (Nat.add_comm _ _) rfl
  have e4 : idx_main_v110 (ix3 b s c) = ix3 b ⟨s.val + 4, by omega⟩ c := ix3_of _ _ _ _ rfl (Nat.add_comm _ _) rfl
  have e5 : idx_main_v112 (ix3 b s c) = ix3 b ⟨s.val + 5, by omega⟩ c := ix3_of _ _ _ _ rfl (Nat.add_comm _ _) rfl
  have e6 : idx_main_v114 (ix3 b s c) = ix3 b ⟨s.val + 6, by omega⟩ c := ix3_of _ _ _ _ rfl (Nat.add_comm _ _) rfl
  have e7 : idx_main_v116 (ix3 b s c) = ix3 b ⟨s.val + 7, by omega⟩ c := ix3_of _ _ _ _ rfl (Nat.add_comm _ _) rfl
  have e8 : idx_main_v118 (ix3 b s c) = ix3 b ⟨s.val + 8, by omega⟩ c := ix3_of _ _ _ _ rfl (Nat.add_comm _ _) rfl
  have e9 : idx_main_v120 (ix3 b s c) = ix3 b ⟨s.val + 9, by omega⟩ c := ix3_of _ _ _ _ rfl (Nat.add_comm _ _) rfl
  have e10 : idx_main_v122 (ix3 b s c) = ix3 b ⟨s.val + 10, by omega⟩ c := ix3_of _ _ _ _ rfl (Nat.add_comm _ _) rfl
  have e11 : idx_main_v124 (ix3 b s c) = ix3 b ⟨s.val + 11, by omega⟩ c := ix3_of _ _ _ _ rfl (Nat.add_comm _ _) rfl
  have e12 : idx_main_v126 (ix3 b s c) = ix3 b ⟨s.val + 12, by omega⟩ c := ix3_of _ _ _ _ rfl (Nat.add_comm _ _) rfl
  have e13 : idx_main_v128 (ix3 b s c) = ix3 b ⟨s.val + 13, by omega⟩ c := ix3_of _ _ _ _ rfl (Nat.add_comm _ _) rfl
  have e14 : idx_main_v130 (ix3 b s c) = ix3 b ⟨s.val + 14, by omega⟩ c := ix3_of _ _ _ _ rfl (Nat.add_comm _ _) rfl
  have e15 : idx_main_v132 (ix3 b s c) = ix3 b ⟨s.val + 15, by omega⟩ c := ix3_of _ _ _ _ rfl (Nat.add_comm _ _) rfl
  simp only [val_main_v105_apply, val_main_v107_apply, val_main_v109_apply, val_main_v111_apply, val_main_v113_apply, val_main_v115_apply, val_main_v117_apply, val_main_v119_apply, val_main_v121_apply, val_main_v123_apply, val_main_v125_apply, val_main_v127_apply, val_main_v129_apply, val_main_v131_apply, val_main_v133_apply, val_main_v103_apply, val_main_v104_apply, val_main_v106_apply, val_main_v108_apply, val_main_v110_apply, val_main_v112_apply, val_main_v114_apply, val_main_v116_apply, val_main_v118_apply, val_main_v120_apply, val_main_v122_apply, val_main_v124_apply, val_main_v126_apply, val_main_v128_apply, val_main_v130_apply, val_main_v132_apply, e0, e1, e2, e3, e4, e5, e6, e7, e8, e9, e10, e11, e12, e13, e14, e15, pad3, Ideal.addf_def]
  show _ = ∑ d ∈ Finset.range 16, _
  simp only [Finset.sum_range_succ, Finset.sum_range_zero, zero_add]

theorem bits3 : ∀ s : Fin 2048, IntOp.subi (IntOp.minsi 2048#32 (IntOp.maxsi 0#32 (IntOp.subi (IntOp.addi (BitVec.ofNat 32 s.val) 16#32) 8#32)))
    (IntOp.minsi 2048#32 (IntOp.maxsi 0#32 (IntOp.subi (BitVec.ofNat 32 s.val) 8#32))) = BitVec.ofNat 32 (min (s.val + 8) 2048 - (s.val - 8)) := by
  decide +kernel

theorem cnt3 (s : Fin 2048) : val_main_v135 (F := Ideal) (ix1 s) = count 8 s.val := by
  refine Eq.trans ?_ (congrArg (FloatOps.sitofp (F := Ideal) .f32) (bits3 s))
  simp only [val_main_v135_apply, val_main_v134_apply, val_main_v101_apply, val_main_v96_apply, val_main_call9_v4_apply, val_main_call9_v3_apply, val_main_call9_v2_apply, val_main_call9_v1_apply, val_main_call9_v0_apply, val_main_call10_v4_apply, val_main_call10_v3_apply, val_main_call10_v2_apply, val_main_call10_v1_apply, val_main_call10_v0_apply, val_main_v94_apply, val_main_v95_apply, val_main_v97_apply, val_main_v98_apply, val_main_v99_apply, val_main_v100_apply, val_main_v10_apply, val_main_c_23_apply, val_main_c_24_apply, val_main_c_25_apply, val_main_c_26_apply, val_main_c_27_apply, val_main_c_28_apply, val_main_c_29_apply]
  rfl

theorem pooled3 (b : Fin 16) (s : Fin 2048) (c : Fin 128) : val_main_v139 (F := Ideal) x2 (ix3 b s c) = pooled 8 (fun s => cols (seq x2 b) 384 (by norm_num) s c) s := by
  have e : idx_main_v136 (idx_main_v137 (ix3 b s c)) = ix1 s := by funext a; match a with | ⟨0, _⟩ => rfl
  rw [val_main_v139_apply, val_main_v138_apply, val_main_v137_apply, val_main_v136_apply, e, cnt3, win3, slice3]
  rfl

theorem weight3 (q c : Fin 128) : val_main_v141 (F := Ideal) x8 (ix2 q c) = x8 (ix4 0 3 q c) := by
  rw [val_main_v141_apply, val_main_v140_apply, val_main_v8_apply]
  refine congrArg x8 (ix4_of _ _ _ _ _ rfl ?_ ?_ ?_)
  · have : ((3 * 128 + q.val) * 128 + c.val) / 16384 % 4 = 3 := by omega
    simp [idx_main_v8, idx_main_v140, idx_main_v141] <;> omega
  · simp [idx_main_v8, idx_main_v140, idx_main_v141] <;> omega
  · simp [idx_main_v8, idx_main_v140, idx_main_v141] <;> omega

theorem head3 (b : Fin 16) (s : Fin 2048) (c : Fin 128) :
    val_main_v142 (F := Ideal) x2 x8 (ix3 b s c) = head 8 (cols (seq x2 b) 384 (by norm_num)) (fun q c => x8 (ix4 0 3 q c)) s c := by
  rw [val_main_v142_apply]
  unfold head
  refine Finset.sum_congr rfl fun q _ => ?_
  rw [show lidx_main_v142 (ix3 b s c) q = ix3 b s q from ix3_of _ _ _ _ rfl rfl rfl, show ridx_main_v142 (ix3 b s c) q = ix2 q c from eq_ix2 _, pooled3, weight3]

/-- The four heads side by side. -/
theorem heads_apply (b : Fin 16) (s : Fin 2048) (k : Fin 512) :
    val_main_v143 (F := Ideal) x2 x8 (ix3 b s k) = heads (seq x2 b) (fun g q c => x8 (ix4 0 g q c)) s k := by
  unfold val_main_v143 heads
  pointwise [head0, head1, head2, head3]

/-- The pooled mixer. -/
theorem pool_apply (b : Fin 16) (s : Fin 2048) (k : Fin 512) :
    val_main_v146 (F := Ideal) x2 x7 x8 (ix3 b s k) = poolRow x2 x7 x8 b s k := by
  have e : idx_main_v144 (idx_main_v145 (ix3 b s k)) = ix1 k := by funext a; match a with | ⟨0, _⟩ => rfl
  rw [val_main_v146_apply, val_main_v145_apply, val_main_v144_apply, e, heads_apply, pscale]
  rfl

end Cert.Reference2Ideal.Rows

end
-- ==== Proof.MergeRefRow.lean ====
/- What the reference writes, at an element: the row `outRow`. -/
module

public import proofs.«01_k».proof.Proof.MergeRefPool
public import Idealize.ShloMosaic.Lib.Pointwise

@[expose] public section

set_option maxRecDepth 16384

noncomputable section

namespace Cert.Reference2Ideal.Rows

open Idealize.ShloMosaic Idealize.ShloMosaic.TcCoe Cert.Reference2Ideal Cert.Reference2Ideal.Read Cert.Rows
open Cert.ReferenceIdeal.Rows (ix3_of ix4_of)

variable (x0 : FVec Ideal S32768x1024 .f32) (x1 : FVec Ideal S16x8x2048x128 .bf16) (x2 : FVec Ideal S32768x512 .f32) (x3 : FVec Ideal S32768x2048 .bf16) (x4 : FVec Ideal S24x1x9216 .f32) (x5 : FVec Ideal S1x3x1024 .f32) (x6 : FVec Ideal S1024 .f32) (x7 : FVec Ideal S1x512 .f32) (x8 : FVec Ideal S1x4x128x128 .f32) (x9 : FVec Ideal S1x1024x1024 .f32) (x10 : FVec Ideal S1x512x1024 .f32) (x11 : FVec Ideal S1x1024x1024 .f32) (x12 : FVec Ideal S1x2x1024x5632 .f32) (x13 : FVec Ideal S1x2x2816x1024 .f32)

theorem x_apply (b : Fin 16) (s : Fin 2048) (c : Fin 1024) : val_main_v0 (F := Ideal) x0 (ix3 b s c) = seq x0 b s c := by
  rw [val_main_v0_apply]
  refine congrArg x0 (funext fun a => Fin.ext ?_)
  match a with
  | ⟨0, _⟩ => show ((b.val * 2048 + s.val) * 1024 + c.val) / 1024 = b.val * 2048 + s.val; omega
  | ⟨1, _⟩ => show ((b.val * 2048 + s.val) * 1024 + c.val) % 1024 = c.val; omega

theorem sg_apply (b : Fin 16) (s : Fin 2048) (c : Fin 2048) : val_main_v3 (F := Ideal) x3 (ix3 b s c) = seq x3 b s c := by
  rw [val_main_v3_apply, val_main_v2_apply]
  refine congrArg x3 (funext fun a => Fin.ext ?_)
  match a with
  | ⟨0, _⟩ => show ((b.val * 2048 + s.val) * 2048 + c.val) / 2048 = b.val * 2048 + s.val; omega
  | ⟨1, _⟩ => show ((b.val * 2048 + s.val) * 2048 + c.val) % 2048 = c.val; omega

theorem att_apply (b : Fin 16) (s : Fin 2048) (c : Fin 1024) : val_main_v6 (F := Ideal) x1 (ix3 b s c) = attRow x1 b s c := by
  rw [val_main_v6_apply, val_main_v5_apply, val_main_v4_apply]
  refine congrArg x1 (ix4_of _ _ _ _ _ ?_ ?_ ?_ ?_)
  · show ((b.val * 2048 + s.val) * 1024 + c.val) / 2097152 = b.val; omega
  · show ((b.val * 2048 + s.val) * 1024 + c.val) / 128 % 8 = c.val / 128; omega
  · show ((b.val * 2048 + s.val) * 1024 + c.val) / 1024 % 2048 = s.val; omega
  · show ((b.val * 2048 + s.val) * 1024 + c.val) % 128 = c.val % 128; omega

theorem wba_apply (q : Fin 1024) (c : Fin 1024) : val_main_v148 (F := Ideal) x9 (ix2 q c) = x9 (ix3 0 q c) := by
  rw [val_main_v148_apply]
  refine congrArg x9 (ix3_of _ _ _ _ rfl ?_ ?_)
  · show (q.val * 1024 + c.val) / 1024 % 1024 = q.val; omega
  · show (q.val * 1024 + c.val) % 1024 = c.val; omega

theorem wbp_apply (q : Fin 512) (c : Fin 1024) : val_main_v149 (F := Ideal) x10 (ix2 q c) = x10 (ix3 0 q c) := by
  rw [val_main_v149_apply]
  refine congrArg x10 (ix3_of _ _ _ _ rfl ?_ ?_)
  · show (q.val * 1024 + c.val) / 1024 % 512 = q.val; omega
  · show (q.val * 1024 + c.val) % 1024 = c.val; omega

theorem wo_apply (q : Fin 1024) (c : Fin 1024) : val_main_v150 (F := Ideal) x11 (ix2 q c) = x11 (ix3 0 q c) := by
  rw [val_main_v150_apply]
  refine congrArg x11 (ix3_of _ _ _ _ rfl ?_ ?_)
  · show (q.val * 1024 + c.val) / 1024 % 1024 = q.val; omega
  · show (q.val * 1024 + c.val) % 1024 = c.val; omega

theorem gain_apply (k : Fin 1024) : val_main_v163 (F := Ideal) x5 (ix1 k) = x5 (ix3 0 2 k) := by
  rw [val_main_v163_apply, val_main_v162_apply]
  exact congrArg x5 (ix3_of _ _ _ _ rfl rfl (Nat.mod_eq_of_lt k.isLt))

theorem gateUp_apply (k : Fin 1024) (j : Fin 5632) : val_main_v165 (F := Ideal) x12 (ix2 k j) = x12 (ix4 0 1 k j) := by
  rw [val_main_v165_apply, val_main_v164_apply]
  refine congrArg x12 (ix4_of _ _ _ _ _ rfl rfl ?_ ?_)
  · show (k.val * 5632 + j.val) / 5632 % 1024 = k.val; omega
  · show (k.val * 5632 + j.val) % 5632 = j.val; omega

theorem down_apply (k : Fin 2816) (j : Fin 1024) : val_main_v167 (F := Ideal) x13 (ix2 k j) = x13 (ix4 0 1 k j) := by
  rw [val_main_v167_apply, val_main_v166_apply]
  refine congrArg x13 (ix4_of _ _ _ _ _ rfl rfl ?_ ?_)
  · show (k.val * 1024 + j.val) / 1024 % 2816 = k.val; omega
  · show (k.val * 1024 + j.val) % 1024 = j.val; omega

theorem mix_apply (b : Fin 16) (s : Fin 2048) (c : Fin 1024) : val_main_v157 (F := Ideal) x1 x2 x3 x7 x8 x9 x10 (ix3 b s c) = mixRow x1 x2 x3 x7 x8 x9 x10 b s c := by
  have e1 : ∀ q, lidx_main_v153 (ix3 b s c) q = ix3 b s q := fun q => ix3_of _ _ _ _ rfl rfl rfl
  have e2 : ∀ q, ridx_main_v153 (ix3 b s c) q = ix2 q c := fun q => eq_ix2 _
  have e3 : ∀ q, lidx_main_v155 (ix3 b s c) q = ix3 b s q := fun q => ix3_of _ _ _ _ rfl rfl rfl
  have e4 : ∀ q, ridx_main_v155 (ix3 b s c) q = ix2 q c := fun q => eq_ix2 _
  have e5 : idx_main_v151 (ix3 b s c) = ix3 b s ⟨c.val, by omega⟩ := ix3_of _ _ _ _ rfl rfl rfl
  have e6 : idx_main_v152 (ix3 b s c) = ix3 b s ⟨1024 + c.val, by omega⟩ := ix3_of _ _ _ _ rfl rfl rfl
  pointwise [val_main_v157_apply, val_main_v156_apply, val_main_v155_apply, val_main_v154_apply, val_main_v153_apply, val_main_v152_apply, val_main_v151_apply, e1, e2, e3, e4, e5, e6, att_apply, sg_apply, pool_apply, wba_apply, wbp_apply]
  rfl

theorem merged_apply (b : Fin 16) (s : Fin 2048) (c : Fin 1024) : val_main_v161 (F := Ideal) x0 x1 x2 x3 x4 x7 x8 x9 x10 x11 (ix3 b s c) = mergedRow x0 x1 x2 x3 x4 x7 x8 x9 x10 x11 b s c := by
  have e1 : ∀ q, lidx_main_v158 (ix3 b s c) q = ix3 b s q := fun q => ix3_of _ _ _ _ rfl rfl rfl
  have e2 : ∀ q, ridx_main_v158 (ix3 b s c) q = ix2 q c := fun q => eq_ix2 _
  have e3 : idx_main_v7 (idx_main_v147 (idx_main_v159 (ix3 b s c))) = ix3 ⟨b.val, by omega⟩ 0 ⟨5120 + c.val, by omega⟩ := ix3_of _ _ _ _ rfl rfl rfl
  pointwise [val_main_v161_apply, val_main_v160_apply, val_main_v159_apply, val_main_v158_apply, val_main_v147_apply, val_main_v7_apply, e1, e2, e3, x_apply, mix_apply, wo_apply]
  rfl

/-- The second feed-forward's normed row. -/
abbrev normed (b : Fin 16) (s : Fin 2048) : Fin 1024 → EReal :=
  nrm (mergedRow x0 x1 x2 x3 x4 x7 x8 x9 x10 x11 b s) (fun q => x5 (ix3 0 2 q)) (modRow x4 b 6144 (by norm_num)) (modRow x4 b 7168 (by norm_num))

theorem nrm_apply (b : Fin 16) (s : Fin 2048) (c : Fin 1024) : val_main_v188 (F := Ideal) x0 x1 x2 x3 x4 x5 x7 x8 x9 x10 x11 (ix3 b s c) = normed x0 x1 x2 x3 x4 x5 x7 x8 x9 x10 x11 b s c := by
  have e1 : ∀ q, idx_main_v169 (idx_main_v170 (idx_main_v176 (ix3 b s c))) q = ix3 b s q := fun q => ix3_of _ _ _ _ rfl rfl rfl
  have e2 : idx_main_v178 (idx_main_v179 (ix3 b s c)) = ix1 c := by funext a; match a with | ⟨0, _⟩ => rfl
  have e3 : idx_main_v7 (idx_main_v182 (idx_main_v185 (ix3 b s c))) = ix3 ⟨b.val, by omega⟩ 0 ⟨7168 + c.val, by omega⟩ := ix3_of _ _ _ _ rfl rfl rfl
  have e4 : idx_main_v7 (idx_main_v181 (idx_main_v187 (ix3 b s c))) = ix3 ⟨b.val, by omega⟩ 0 ⟨6144 + c.val, by omega⟩ := ix3_of _ _ _ _ rfl rfl rfl
  pointwise [val_main_v188_apply, val_main_v187_apply, val_main_v186_apply, val_main_v185_apply, val_main_v184_apply, val_main_v183_apply, val_main_v182_apply, val_main_v181_apply, val_main_v180_apply, val_main_v179_apply, val_main_v178_apply, val_main_v177_apply, val_main_v176_apply, val_main_v175_apply, val_main_v174_apply, val_main_v173_apply, val_main_v172_apply, val_main_v171_apply, val_main_v170_apply, val_main_v169_apply, val_main_v168_apply, val_main_v7_apply, val_main_cst_apply, val_main_cst_31_apply, val_main_cst_32_apply, val_main_cst_33_apply, e1, e2, e3, e4, merged_apply, gain_apply]
  unfold normed nrm modRow
  rw [← mul_assoc]

theorem unit_apply (b : Fin 16) (s : Fin 2048) (j : Fin 2816) :
    val_main_v196 (F := Ideal) x0 x1 x2 x3 x4 x5 x7 x8 x9 x10 x11 x12 (ix3 b s j) = unit (normed x0 x1 x2 x3 x4 x5 x7 x8 x9 x10 x11 b s) (fun k j => x12 (ix4 0 1 k j)) j := by
  have e1 : ∀ q, lidx_main_v192 (idx_main_v193 (ix3 b s j)) q = ix3 b s q := fun q => ix3_of _ _ _ _ rfl rfl rfl
  have e2 : ∀ q, ridx_main_v192 (idx_main_v193 (ix3 b s j)) q = ix2 q ⟨j.val, by omega⟩ := fun q => eq_ix2 _
  have e3 : ∀ q, lidx_main_v192 (idx_main_v194 (ix3 b s j)) q = ix3 b s q := fun q => ix3_of _ _ _ _ rfl rfl rfl
  have e4 : ∀ q, ridx_main_v192 (idx_main_v194 (ix3 b s j)) q = ix2 q ⟨2816 + j.val, by omega⟩ := fun q => eq_ix2 _
  pointwise [val_main_v196_apply, val_main_v195_apply, val_main_v194_apply, val_main_v193_apply, val_main_v192_apply, val_main_call12_v0_apply, val_main_call12_v1_apply, val_main_call12_v2_apply, val_main_call12_v3_apply, val_main_call12_v4_apply, val_main_call12_v5_apply, val_main_call12_cst_apply, val_main_call12_cst_0_apply, e1, e2, e3, e4, nrm_apply, gateUp_apply]
  rfl

theorem step_apply (b : Fin 16) (s : Fin 2048) (c : Fin 1024) : val_main_v200 (F := Ideal) x0 x1 x2 x3 x4 x5 x7 x8 x9 x10 x11 x12 x13 (ix3 b s c) = stepRow x0 x1 x2 x3 x4 x5 x7 x8 x9 x10 x11 x12 x13 b s c := by
  have e1 : ∀ q, lidx_main_v197 (ix3 b s c) q = ix3 b s q := fun q => ix3_of _ _ _ _ rfl rfl rfl
  have e2 : ∀ q, ridx_main_v197 (ix3 b s c) q = ix2 q c := fun q => eq_ix2 _
  have e3 : idx_main_v7 (idx_main_v189 (idx_main_v198 (ix3 b s c))) = ix3 ⟨b.val, by omega⟩ 0 ⟨8192 + c.val, by omega⟩ := ix3_of _ _ _ _ rfl rfl rfl
  pointwise [val_main_v200_apply, val_main_v199_apply, val_main_v198_apply, val_main_v197_apply, val_main_v191_apply, val_main_v190_apply, val_main_v189_apply, val_main_v7_apply, val_main_cst_34_apply, e1, e2, e3, merged_apply, unit_apply, down_apply]
  rfl

/-- The result at an element. -/
theorem out_apply (b : Fin 16) (s : Fin 2048) (c : Fin 1024) : val_main_v213 (F := Ideal) x0 x1 x2 x3 x4 x5 x6 x7 x8 x9 x10 x11 x12 x13 (ix3 b s c) = outRow x0 x1 x2 x3 x4 x5 x6 x7 x8 x9 x10 x11 x12 x13 b s c := by
  have e1 : ∀ q, idx_main_v202 (idx_main_v203 (idx_main_v209 (ix3 b s c))) q = ix3 b s q := fun q => ix3_of _ _ _ _ rfl rfl rfl
  have e2 : idx_main_v211 (idx_main_v212 (ix3 b s c)) = ix1 c := by funext a; match a with | ⟨0, _⟩ => rfl
  pointwise [val_main_v213_apply, val_main_v212_apply, val_main_v211_apply, val_main_v210_apply, val_main_v209_apply, val_main_v208_apply, val_main_v207_apply, val_main_v206_apply, val_main_v205_apply, val_main_v204_apply, val_main_v203_apply, val_main_v202_apply, val_main_v201_apply, val_main_cst_35_apply, val_main_cst_36_apply, val_main_cst_37_apply, e1, e2, step_apply]
  rfl

end Cert.Reference2Ideal.Rows

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.ReferenceIdeal
public import proofs.«01_k».proof.Proof.Gen.ReferenceIdeal.Run
public import proofs.«01_k».proof.Proof.Gen.ReferenceIdeal.Read
public import proofs.«01_k».proof.Proof.Same
public import proofs.«01_k».proof.Proof.Run
public import proofs.«01_k».proof.Proof.KernelFinal
public import proofs.«01_k».proof.Proof.RefValue
public import proofs.«01_k».proof.Proof.MixFrame
public import proofs.«01_k».proof.Proof.MixFinal
public import proofs.«01_k».proof.Proof.MixRope
public import proofs.«01_k».proof.Proof.MergeFrame
public import proofs.«01_k».proof.Proof.MergeFinal
public import proofs.«01_k».proof.Proof.MergeRefRow
public import Idealize.ShloMosaic.Adequacy
public import Idealize.ShloMosaic.Init

@[expose] public section

noncomputable section

namespace Cert.Proof

open Idealize.ShloMosaic Idealize.SL.Sem Cert.KernelIdeal.Ffn

/-- The run, read at the arguments and at the counters, at any float values. -/
theorem frame_any {F : FTy → Type} [FloatOps F] (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0) :=
  (θ_run Cert.KernelIdeal.defs _ _).mono (fun r h => ⟨args_kept m r h.1, h.2⟩) (run_main m ρ)

/-- The program's frame: the printed program is the idealized one. -/
theorem frame_kernel : Cert.quiescent_Kernel := by
  intro m ρ _
  refine (congrArg (fun d => θ_run d (onTc (τ := Cert.Kernel.τ) (Cert.Kernel.main (F := Bits))) ⟨m, fun _ => 0, ρ⟩ _) Cert.Same.defs_eq).mpr ?_
  exact frame_any (F := Bits) m ρ

/-- The idealized program's frame. -/
theorem frame_ideal : Cert.quiescent_KernelIdeal := fun m ρ _ => frame_any (F := Ideal) m ρ

/-- The reference's frame: its run, read at the arguments; it declares no semaphore. -/
theorem frame_reference : Cert.quiescent_ReferenceIdeal := fun m ρ _ =>
  (θ_run Cert.ReferenceIdeal.defs _ _).mono (fun r h => ⟨fun c => (h c).2.2, sem_eq_zero_of_no_sems (by decide) r.2⟩) (Cert.ReferenceIdeal.Value.run (F := Ideal) m ρ)

/-- Both programs end with the half-step of every row. -/
theorem algebraic : Cert.algebraic_KernelIdeal_ReferenceIdeal := by
  intro m ρ m' ρ' _ hagree
  refine ⟨lat m, ctx m, ?_, ?_⟩
  · exact (θ_run Cert.KernelIdeal.defs _ _).mono
      (fun r h c => ⟨((h.1 c).1 9).trans (final_lat m c), ((h.1 c).1 10).trans (final_ctx m c), args_kept m r h.1 c⟩) (run_main (F := Ideal) m ρ)
  · refine (θ_run Cert.ReferenceIdeal.defs _ _).mono (fun r h c => ⟨(h c).1.trans ?_, (h c).2.1.trans ?_, (h c).2.2⟩) (Cert.ReferenceIdeal.Value.run (F := Ideal) m' ρ')
    · rw [Cert.ReferenceIdeal.Read.val_main_v74_eq, (hagree c).1, (hagree c).2.2.1, (hagree c).2.2.2.1, (hagree c).2.2.2.2.1, (hagree c).2.2.2.2.2]
      funext y
      exact (Cert.ReferenceIdeal.Rows.latOut _ _ _ _ _ y).trans (Cert.ReferenceIdeal.Rows.lat_step _ _ _ _ _ _ _ _)
    · rw [Cert.ReferenceIdeal.Read.val_main_v75_eq, (hagree c).2.1, (hagree c).2.2.1, (hagree c).2.2.2.1, (hagree c).2.2.2.2.1, (hagree c).2.2.2.2.2]
      funext y
      exact (Cert.ReferenceIdeal.Rows.ctxOut _ _ _ _ _ y).trans (Cert.ReferenceIdeal.Rows.ctx_step _ _ _ _ _ _ _ _)

/-- Both programs of the merge end with the same rows. -/
theorem algebraic2 : Cert.algebraic_Kernel2Ideal_Reference2Ideal := by
  intro m ρ m' ρ' _ hagree
  refine ⟨Cert.Kernel2Ideal.Merge.result m, ?_, ?_⟩
  · exact (θ_run Cert.Kernel2Ideal.defs _ _).mono
      (fun r h c => ⟨Cert.Kernel2Ideal.Merge.result_at m r h.1 c, Cert.Kernel2Ideal.Merge.args_kept m r h.1 c⟩) (Cert.Kernel2Ideal.Merge.run_main (F := Ideal) m ρ)
  · refine (θ_run Cert.Reference2Ideal.defs _ _).mono (fun r h c => ⟨(h c).1.trans ?_, (h c).2⟩) (Cert.Reference2Ideal.Value.run (F := Ideal) m' ρ')
    rw [Cert.Reference2Ideal.Read.val_main_v213_eq]
    dsimp only [StableHlo.launchContents]
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]
    funext y
    rw [eq_ix3 y]
    exact Cert.Reference2Ideal.Rows.out_apply _ _ _ _ _ _ _ _ _ _ _ _ _ _ _ _ _

/-- Both programs of the projections before the mixer end with the same seven arrays. -/
theorem algebraic3 : Cert.algebraic_Kernel3Ideal_Reference3Ideal := by
  intro m ρ m' ρ' _ hagree
  refine ⟨Cert.Kernel3Ideal.Mix.arrQ m, Cert.Kernel3Ideal.Mix.arrK m, Cert.Kernel3Ideal.Mix.arrV m, Cert.Kernel3Ideal.Mix.arrU m, Cert.Kernel3Ideal.Mix.arrSg m,
    Cert.Kernel3Ideal.Mix.arrKc m, Cert.Kernel3Ideal.Mix.arrVc m, ?_, ?_⟩
  · exact (θ_run Cert.Kernel3Ideal.defs _ _).mono
      (fun r h c => ⟨((h.1 c).1 8).trans (Cert.Kernel3Ideal.Mix.final_8 m c), ((h.1 c).1 9).trans (Cert.Kernel3Ideal.Mix.final_9 m c), ((h.1 c).1 10).trans (Cert.Kernel3Ideal.Mix.final_10 m c),
        ((h.1 c).1 11).trans (Cert.Kernel3Ideal.Mix.final_11 m c), ((h.1 c).1 12).trans (Cert.Kernel3Ideal.Mix.final_12 m c), ((h.1 c).1 13).trans (Cert.Kernel3Ideal.Mix.final_13 m c),
        ((h.1 c).1 14).trans (Cert.Kernel3Ideal.Mix.final_14 m c), Cert.Kernel3Ideal.Mix.args_kept m r h.1 c⟩) (Cert.Kernel3Ideal.Mix.run_main (F := Ideal) m ρ)
  · refine (θ_run Cert.Reference3Ideal.defs _ _).mono (fun r h c => ⟨(h c).1.trans ?_, (h c).2.1.trans ?_, (h c).2.2.1.trans ?_, (h c).2.2.2.1.trans ?_, (h c).2.2.2.2.1.trans ?_, (h c).2.2.2.2.2.1.trans ?_,
      (h c).2.2.2.2.2.2.1.trans ?_, (h c).2.2.2.2.2.2.2⟩) (Cert.Reference3Ideal.Value.run (F := Ideal) m' ρ')
    · rw [Cert.Reference3Ideal.Read.val_main_v192_eq]
      dsimp only [StableHlo.launchContents]
      rw [(hagree c).1, (hagree c).2.2.1, (hagree c).2.2.2.1, (hagree c).2.2.2.2]
      funext y
      rw [eq_ix4 y]
      exact Cert.Reference3Ideal.Rows.q_out _ _ _ _ _ _ _ _
    · rw [Cert.Reference3Ideal.Read.val_main_v195_eq]
      dsimp only [StableHlo.launchContents]
      rw [(hagree c).1, (hagree c).2.2.1, (hagree c).2.2.2.1, (hagree c).2.2.2.2]
      funext y
      rw [eq_ix4 y]
      exact Cert.Reference3Ideal.Rows.k_out _ _ _ _ _ _ _ _
    · rw [Cert.Reference3Ideal.Read.val_main_v199_eq]
      dsimp only [StableHlo.launchContents]
      rw [(hagree c).1, (hagree c).2.2.1, (hagree c).2.2.2.1, (hagree c).2.2.2.2]
      funext y
      rw [eq_ix4 y]
      exact Cert.Reference3Ideal.Rows.v_out _ _ _ _ _ _ _ _
    · rw [Cert.Reference3Ideal.Read.val_main_v200_eq]
      dsimp only [StableHlo.launchContents]
      rw [(hagree c).1, (hagree c).2.2.1, (hagree c).2.2.2.1, (hagree c).2.2.2.2]
      funext y
      rw [eq_ix2 y]
      exact Cert.Reference3Ideal.Rows.u_out _ _ _ _ _ _
    · rw [Cert.Reference3Ideal.Read.val_main_v208_eq]
      dsimp only [StableHlo.launchContents]
      rw [(hagree c).1, (hagree c).2.2.1, (hagree c).2.2.2.1, (hagree c).2.2.2.2]
      funext y
      rw [eq_ix2 y]
      exact Cert.Reference3Ideal.Rows.sg_out _ _ _ _ _ _
    · rw [Cert.Reference3Ideal.Read.val_main_v212_eq]
      dsimp only [StableHlo.launchContents]
      rw [(hagree c).2.1, (hagree c).2.2.1, (hagree c).2.2.2.1, (hagree c).2.2.2.2]
      funext y
      rw [eq_ix4 y]
      exact Cert.Reference3Ideal.Rows.kc_out _ _ _ _ _ _ _ _
    · rw [Cert.Reference3Ideal.Read.val_main_v216_eq]
      dsimp only [StableHlo.launchContents]
      rw [(hagree c).2.1, (hagree c).2.2.1, (hagree c).2.2.2.1, (hagree c).2.2.2.2]
      funext y
      rw [eq_ix4 y]
      exact Cert.Reference3Ideal.Rows.vc_out _ _ _ _ _ _ _ _

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts, Cert.Kernel3Ideal.Gen.facts, Cert.Reference3Ideal.Gen.facts,
  frame_kernel, frame_ideal, frame_reference, Cert.Kernel2Ideal.Merge.frame_kernel, Cert.Kernel2Ideal.Merge.frame_ideal, Cert.Kernel2Ideal.Merge.frame_reference,
  Cert.Kernel3Ideal.Mix.frame_kernel, Cert.Kernel3Ideal.Mix.frame_ideal, Cert.Kernel3Ideal.Mix.frame_reference, trivial, algebraic, trivial, algebraic2, trivial, algebraic3⟩

end Cert.Proof

end
